-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_sc [hPre_finite_sc : Cert.Pre_finite_sc.Facts] (m : (ℓ : Loc Cert.KernelIdeal.nD Cert.KernelIdeal.τ Cert.KernelIdeal.sig) → Buf (Elt Ideal) ℓ) : Prop :=
  ∀ c : Dev Cert.KernelIdeal.nD,
    (Cert.Pre_finite_sc.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_sc [hPre_finite_sc : Cert.Pre_finite_sc.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_sc.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def Pre_FKernel (m : (ℓ : Loc Cert.FKernel.nD Cert.FKernel.τ Cert.FKernel.sig) → Buf (Elt Bits) ℓ) : Prop :=
  True

def Pre_FKernelIdeal (m : (ℓ : Loc Cert.FKernelIdeal.nD Cert.FKernelIdeal.τ Cert.FKernelIdeal.sig) → Buf (Elt Ideal) ℓ) : Prop :=
  True

def Pre_FKernelIdeal_finite_ffn [hPre_finite_ffn : Cert.Pre_finite_ffn.Facts] (m : (ℓ : Loc Cert.FKernelIdeal.nD Cert.FKernelIdeal.τ Cert.FKernelIdeal.sig) → Buf (Elt Ideal) ℓ) : Prop :=
  ∀ c : Dev Cert.FKernelIdeal.nD,
    (Cert.Pre_finite_ffn.fn (F := Ideal) (m ((c.tc : Thread Cert.FKernelIdeal.nD Cert.FKernelIdeal.τ).loc Cert.FKernelIdeal.main_arg0)) (m ((c.tc : Thread Cert.FKernelIdeal.nD Cert.FKernelIdeal.τ).loc Cert.FKernelIdeal.main_arg1)) (m ((c.tc : Thread Cert.FKernelIdeal.nD Cert.FKernelIdeal.τ).loc Cert.FKernelIdeal.main_arg2)) (m ((c.tc : Thread Cert.FKernelIdeal.nD Cert.FKernelIdeal.τ).loc Cert.FKernelIdeal.main_arg3)) (m ((c.tc : Thread Cert.FKernelIdeal.nD Cert.FKernelIdeal.τ).loc Cert.FKernelIdeal.main_arg4)) (m ((c.tc : Thread Cert.FKernelIdeal.nD Cert.FKernelIdeal.τ).loc Cert.FKernelIdeal.main_arg5)) (m ((c.tc : Thread Cert.FKernelIdeal.nD Cert.FKernelIdeal.τ).loc Cert.FKernelIdeal.main_arg6))) = (fun _ => 1#1)

def Pre_FReferenceIdeal (m : (ℓ : Loc Cert.FReferenceIdeal.nD Cert.FReferenceIdeal.τ Cert.FReferenceIdeal.sig) → Buf (Elt Ideal) ℓ) : Prop :=
  True

def Pre_FReferenceIdeal_finite_ffn [hPre_finite_ffn : Cert.Pre_finite_ffn.Facts] (m : (ℓ : Loc Cert.FReferenceIdeal.nD Cert.FReferenceIdeal.τ Cert.FReferenceIdeal.sig) → Buf (Elt Ideal) ℓ) : Prop :=
  ∀ c : Dev Cert.FReferenceIdeal.nD,
    (Cert.Pre_finite_ffn.fn (F := Ideal) (m ((c.tc : Thread Cert.FReferenceIdeal.nD Cert.FReferenceIdeal.τ).loc Cert.FReferenceIdeal.main_arg0)) (m ((c.tc : Thread Cert.FReferenceIdeal.nD Cert.FReferenceIdeal.τ).loc Cert.FReferenceIdeal.main_arg1)) (m ((c.tc : Thread Cert.FReferenceIdeal.nD Cert.FReferenceIdeal.τ).loc Cert.FReferenceIdeal.main_arg2)) (m ((c.tc : Thread Cert.FReferenceIdeal.nD Cert.FReferenceIdeal.τ).loc Cert.FReferenceIdeal.main_arg3)) (m ((c.tc : Thread Cert.FReferenceIdeal.nD Cert.FReferenceIdeal.τ).loc Cert.FReferenceIdeal.main_arg4)) (m ((c.tc : Thread Cert.FReferenceIdeal.nD Cert.FReferenceIdeal.τ).loc Cert.FReferenceIdeal.main_arg5)) (m ((c.tc : Thread Cert.FReferenceIdeal.nD Cert.FReferenceIdeal.τ).loc Cert.FReferenceIdeal.main_arg6))) = (fun _ => 1#1)

def Pre_GKernel (m : (ℓ : Loc Cert.GKernel.nD Cert.GKernel.τ Cert.GKernel.sig) → Buf (Elt Bits) ℓ) : Prop :=
  True

def Pre_GKernelIdeal (m : (ℓ : Loc Cert.GKernelIdeal.nD Cert.GKernelIdeal.τ Cert.GKernelIdeal.sig) → Buf (Elt Ideal) ℓ) : Prop :=
  True

def Pre_GKernelIdeal_finite_ffn [hPre_finite_ffn : Cert.Pre_finite_ffn.Facts] (m : (ℓ : Loc Cert.GKernelIdeal.nD Cert.GKernelIdeal.τ Cert.GKernelIdeal.sig) → Buf (Elt Ideal) ℓ) : Prop :=
  ∀ c : Dev Cert.GKernelIdeal.nD,
    (Cert.Pre_finite_ffn.fn (F := Ideal) (m ((c.tc : Thread Cert.GKernelIdeal.nD Cert.GKernelIdeal.τ).loc Cert.GKernelIdeal.main_arg0)) (m ((c.tc : Thread Cert.GKernelIdeal.nD Cert.GKernelIdeal.τ).loc Cert.GKernelIdeal.main_arg1)) (m ((c.tc : Thread Cert.GKernelIdeal.nD Cert.GKernelIdeal.τ).loc Cert.GKernelIdeal.main_arg2)) (m ((c.tc : Thread Cert.GKernelIdeal.nD Cert.GKernelIdeal.τ).loc Cert.GKernelIdeal.main_arg3)) (m ((c.tc : Thread Cert.GKernelIdeal.nD Cert.GKernelIdeal.τ).loc Cert.GKernelIdeal.main_arg4)) (m ((c.tc : Thread Cert.GKernelIdeal.nD Cert.GKernelIdeal.τ).loc Cert.GKernelIdeal.main_arg5)) (m ((c.tc : Thread Cert.GKernelIdeal.nD Cert.GKernelIdeal.τ).loc Cert.GKernelIdeal.main_arg6))) = (fun _ => 1#1)

def Pre_GReferenceIdeal (m : (ℓ : Loc Cert.GReferenceIdeal.nD Cert.GReferenceIdeal.τ Cert.GReferenceIdeal.sig) → Buf (Elt Ideal) ℓ) : Prop :=
  True

def Pre_GReferenceIdeal_finite_ffn [hPre_finite_ffn : Cert.Pre_finite_ffn.Facts] (m : (ℓ : Loc Cert.GReferenceIdeal.nD Cert.GReferenceIdeal.τ Cert.GReferenceIdeal.sig) → Buf (Elt Ideal) ℓ) : Prop :=
  ∀ c : Dev Cert.GReferenceIdeal.nD,
    (Cert.Pre_finite_ffn.fn (F := Ideal) (m ((c.tc : Thread Cert.GReferenceIdeal.nD Cert.GReferenceIdeal.τ).loc Cert.GReferenceIdeal.main_arg0)) (m ((c.tc : Thread Cert.GReferenceIdeal.nD Cert.GReferenceIdeal.τ).loc Cert.GReferenceIdeal.main_arg1)) (m ((c.tc : Thread Cert.GReferenceIdeal.nD Cert.GReferenceIdeal.τ).loc Cert.GReferenceIdeal.main_arg2)) (m ((c.tc : Thread Cert.GReferenceIdeal.nD Cert.GReferenceIdeal.τ).loc Cert.GReferenceIdeal.main_arg3)) (m ((c.tc : Thread Cert.GReferenceIdeal.nD Cert.GReferenceIdeal.τ).loc Cert.GReferenceIdeal.main_arg4)) (m ((c.tc : Thread Cert.GReferenceIdeal.nD Cert.GReferenceIdeal.τ).loc Cert.GReferenceIdeal.main_arg5)) (m ((c.tc : Thread Cert.GReferenceIdeal.nD Cert.GReferenceIdeal.τ).loc Cert.GReferenceIdeal.main_arg6))) = (fun _ => 1#1)

def Pre_HKernel (m : (ℓ : Loc Cert.HKernel.nD Cert.HKernel.τ Cert.HKernel.sig) → Buf (Elt Bits) ℓ) : Prop :=
  True

def Pre_HKernelIdeal (m : (ℓ : Loc Cert.HKernelIdeal.nD Cert.HKernelIdeal.τ Cert.HKernelIdeal.sig) → Buf (Elt Ideal) ℓ) : Prop :=
  True

def Pre_HReferenceIdeal (m : (ℓ : Loc Cert.HReferenceIdeal.nD Cert.HReferenceIdeal.τ Cert.HReferenceIdeal.sig) → Buf (Elt Ideal) ℓ) : Prop :=
  True

def Pre_JKernel (m : (ℓ : Loc Cert.JKernel.nD Cert.JKernel.τ Cert.JKernel.sig) → Buf (Elt Bits) ℓ) : Prop :=
  True

def Pre_JKernelIdeal (m : (ℓ : Loc Cert.JKernelIdeal.nD Cert.JKernelIdeal.τ Cert.JKernelIdeal.sig) → Buf (Elt Ideal) ℓ) : Prop :=
  True

def Pre_JReferenceIdeal (m : (ℓ : Loc Cert.JReferenceIdeal.nD Cert.JReferenceIdeal.τ Cert.JReferenceIdeal.sig) → Buf (Elt Ideal) ℓ) : Prop :=
  True

def Pre_DKernel (m : (ℓ : Loc Cert.DKernel.nD Cert.DKernel.τ Cert.DKernel.sig) → Buf (Elt Bits) ℓ) : Prop :=
  True

def Pre_DKernelIdeal (m : (ℓ : Loc Cert.DKernelIdeal.nD Cert.DKernelIdeal.τ Cert.DKernelIdeal.sig) → Buf (Elt Ideal) ℓ) : Prop :=
  True

def Pre_DReferenceIdeal (m : (ℓ : Loc Cert.DReferenceIdeal.nD Cert.DReferenceIdeal.τ Cert.DReferenceIdeal.sig) → Buf (Elt Ideal) ℓ) : Prop :=
  True

def Pre_UKernel (m : (ℓ : Loc Cert.UKernel.nD Cert.UKernel.τ Cert.UKernel.sig) → Buf (Elt Bits) ℓ) : Prop :=
  True

def Pre_UKernelIdeal (m : (ℓ : Loc Cert.UKernelIdeal.nD Cert.UKernelIdeal.τ Cert.UKernelIdeal.sig) → Buf (Elt Ideal) ℓ) : Prop :=
  True

def Pre_UReferenceIdeal (m : (ℓ : Loc Cert.UReferenceIdeal.nD Cert.UReferenceIdeal.τ Cert.UReferenceIdeal.sig) → Buf (Elt Ideal) ℓ) : Prop :=
  True

def Pre_BKernel (m : (ℓ : Loc Cert.BKernel.nD Cert.BKernel.τ Cert.BKernel.sig) → Buf (Elt Bits) ℓ) : Prop :=
  True

def Pre_BKernelIdeal (m : (ℓ : Loc Cert.BKernelIdeal.nD Cert.BKernelIdeal.τ Cert.BKernelIdeal.sig) → Buf (Elt Ideal) ℓ) : Prop :=
  True

def Pre_BReferenceIdeal (m : (ℓ : Loc Cert.BReferenceIdeal.nD Cert.BReferenceIdeal.τ Cert.BReferenceIdeal.sig) → Buf (Elt Ideal) ℓ) : Prop :=
  True

def Pre_AKernel (m : (ℓ : Loc Cert.AKernel.nD Cert.AKernel.τ Cert.AKernel.sig) → Buf (Elt Bits) ℓ) : Prop :=
  True

def Pre_AKernelIdeal (m : (ℓ : Loc Cert.AKernelIdeal.nD Cert.AKernelIdeal.τ Cert.AKernelIdeal.sig) → Buf (Elt Ideal) ℓ) : Prop :=
  True

def Pre_AReferenceIdeal (m : (ℓ : Loc Cert.AReferenceIdeal.nD Cert.AReferenceIdeal.τ Cert.AReferenceIdeal.sig) → Buf (Elt Ideal) ℓ) : Prop :=
  True

def Pre_OKernel (m : (ℓ : Loc Cert.OKernel.nD Cert.OKernel.τ Cert.OKernel.sig) → Buf (Elt Bits) ℓ) : Prop :=
  True

def Pre_OKernelIdeal (m : (ℓ : Loc Cert.OKernelIdeal.nD Cert.OKernelIdeal.τ Cert.OKernelIdeal.sig) → Buf (Elt Ideal) ℓ) : Prop :=
  True

def Pre_OReferenceIdeal (m : (ℓ : Loc Cert.OReferenceIdeal.nD Cert.OReferenceIdeal.τ Cert.OReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite_sc [hKernelIdeal : Cert.KernelIdeal.Facts] [hPre_finite_sc : Cert.Pre_finite_sc.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_sc m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite_sc [hReferenceIdeal : Cert.ReferenceIdeal.Facts] [hPre_finite_sc : Cert.Pre_finite_sc.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_sc m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_FKernel [hFKernel : Cert.FKernel.Facts] : Prop :=
  ∀ (m : (ℓ : Loc Cert.FKernel.nD Cert.FKernel.τ Cert.FKernel.sig) → Buf (Elt Bits) ℓ) (g : Dev Cert.FKernel.nD → PrngReg), Pre_FKernel m →
    θ_run (Cert.FKernel.defs (F := Bits)) (onTc (τ := Cert.FKernel.τ) (Cert.FKernel.main (F := Bits))) ⟨m, fun _ => 0, g⟩ (fun r => (∀ c : Dev Cert.FKernel.nD,
      r.2.mem ((c.tc : Thread Cert.FKernel.nD Cert.FKernel.τ).loc Cert.FKernel.main_arg0) = m ((c.tc : Thread Cert.FKernel.nD Cert.FKernel.τ).loc Cert.FKernel.main_arg0)
      ∧ r.2.mem ((c.tc : Thread Cert.FKernel.nD Cert.FKernel.τ).loc Cert.FKernel.main_arg1) = m ((c.tc : Thread Cert.FKernel.nD Cert.FKernel.τ).loc Cert.FKernel.main_arg1)
      ∧ r.2.mem ((c.tc : Thread Cert.FKernel.nD Cert.FKernel.τ).loc Cert.FKernel.main_arg2) = m ((c.tc : Thread Cert.FKernel.nD Cert.FKernel.τ).loc Cert.FKernel.main_arg2)
      ∧ r.2.mem ((c.tc : Thread Cert.FKernel.nD Cert.FKernel.τ).loc Cert.FKernel.main_arg3) = m ((c.tc : Thread Cert.FKernel.nD Cert.FKernel.τ).loc Cert.FKernel.main_arg3)
      ∧ r.2.mem ((c.tc : Thread Cert.FKernel.nD Cert.FKernel.τ).loc Cert.FKernel.main_arg4) = m ((c.tc : Thread Cert.FKernel.nD Cert.FKernel.τ).loc Cert.FKernel.main_arg4)
      ∧ r.2.mem ((c.tc : Thread Cert.FKernel.nD Cert.FKernel.τ).loc Cert.FKernel.main_arg5) = m ((c.tc : Thread Cert.FKernel.nD Cert.FKernel.τ).loc Cert.FKernel.main_arg5)
      ∧ r.2.mem ((c.tc : Thread Cert.FKernel.nD Cert.FKernel.τ).loc Cert.FKernel.main_arg6) = m ((c.tc : Thread Cert.FKernel.nD Cert.FKernel.τ).loc Cert.FKernel.main_arg6))
      ∧ r.2.sem = fun _ => 0)

def quiescent_FKernelIdeal [hFKernelIdeal : Cert.FKernelIdeal.Facts] : Prop :=
  ∀ (m : (ℓ : Loc Cert.FKernelIdeal.nD Cert.FKernelIdeal.τ Cert.FKernelIdeal.sig) → Buf (Elt Ideal) ℓ) (g : Dev Cert.FKernelIdeal.nD → PrngReg), Pre_FKernelIdeal m →
    θ_run (Cert.FKernelIdeal.defs (F := Ideal)) (onTc (τ := Cert.FKernelIdeal.τ) (Cert.FKernelIdeal.main (F := Ideal))) ⟨m, fun _ => 0, g⟩ (fun r => (∀ c : Dev Cert.FKernelIdeal.nD,
      r.2.mem ((c.tc : Thread Cert.FKernelIdeal.nD Cert.FKernelIdeal.τ).loc Cert.FKernelIdeal.main_arg0) = m ((c.tc : Thread Cert.FKernelIdeal.nD Cert.FKernelIdeal.τ).loc Cert.FKernelIdeal.main_arg0)
      ∧ r.2.mem ((c.tc : Thread Cert.FKernelIdeal.nD Cert.FKernelIdeal.τ).loc Cert.FKernelIdeal.main_arg1) = m ((c.tc : Thread Cert.FKernelIdeal.nD Cert.FKernelIdeal.τ).loc Cert.FKernelIdeal.main_arg1)
      ∧ r.2.mem ((c.tc : Thread Cert.FKernelIdeal.nD Cert.FKernelIdeal.τ).loc Cert.FKernelIdeal.main_arg2) = m ((c.tc : Thread Cert.FKernelIdeal.nD Cert.FKernelIdeal.τ).loc Cert.FKernelIdeal.main_arg2)
      ∧ r.2.mem ((c.tc : Thread Cert.FKernelIdeal.nD Cert.FKernelIdeal.τ).loc Cert.FKernelIdeal.main_arg3) = m ((c.tc : Thread Cert.FKernelIdeal.nD Cert.FKernelIdeal.τ).loc Cert.FKernelIdeal.main_arg3)
      ∧ r.2.mem ((c.tc : Thread Cert.FKernelIdeal.nD Cert.FKernelIdeal.τ).loc Cert.FKernelIdeal.main_arg4) = m ((c.tc : Thread Cert.FKernelIdeal.nD Cert.FKernelIdeal.τ).loc Cert.FKernelIdeal.main_arg4)
      ∧ r.2.mem ((c.tc : Thread Cert.FKernelIdeal.nD Cert.FKernelIdeal.τ).loc Cert.FKernelIdeal.main_arg5) = m ((c.tc : Thread Cert.FKernelIdeal.nD Cert.FKernelIdeal.τ).loc Cert.FKernelIdeal.main_arg5)
      ∧ r.2.mem ((c.tc : Thread Cert.FKernelIdeal.nD Cert.FKernelIdeal.τ).loc Cert.FKernelIdeal.main_arg6) = m ((c.tc : Thread Cert.FKernelIdeal.nD Cert.FKernelIdeal.τ).loc Cert.FKernelIdeal.main_arg6))
      ∧ r.2.sem = fun _ => 0)

def quiescent_FKernelIdeal_pre_finite_ffn [hFKernelIdeal : Cert.FKernelIdeal.Facts] [hPre_finite_ffn : Cert.Pre_finite_ffn.Facts] : Prop :=
  ∀ (m : (ℓ : Loc Cert.FKernelIdeal.nD Cert.FKernelIdeal.τ Cert.FKernelIdeal.sig) → Buf (Elt Ideal) ℓ) (g : Dev Cert.FKernelIdeal.nD → PrngReg), Pre_FKernelIdeal_finite_ffn m →
    θ_run (Cert.FKernelIdeal.defs (F := Ideal)) (onTc (τ := Cert.FKernelIdeal.τ) (Cert.FKernelIdeal.main (F := Ideal))) ⟨m, fun _ => 0, g⟩ (fun r => (∀ c : Dev Cert.FKernelIdeal.nD,
      r.2.mem ((c.tc : Thread Cert.FKernelIdeal.nD Cert.FKernelIdeal.τ).loc Cert.FKernelIdeal.main_arg0) = m ((c.tc : Thread Cert.FKernelIdeal.nD Cert.FKernelIdeal.τ).loc Cert.FKernelIdeal.main_arg0)
      ∧ r.2.mem ((c.tc : Thread Cert.FKernelIdeal.nD Cert.FKernelIdeal.τ).loc Cert.FKernelIdeal.main_arg1) = m ((c.tc : Thread Cert.FKernelIdeal.nD Cert.FKernelIdeal.τ).loc Cert.FKernelIdeal.main_arg1)
      ∧ r.2.mem ((c.tc : Thread Cert.FKernelIdeal.nD Cert.FKernelIdeal.τ).loc Cert.FKernelIdeal.main_arg2) = m ((c.tc : Thread Cert.FKernelIdeal.nD Cert.FKernelIdeal.τ).loc Cert.FKernelIdeal.main_arg2)
      ∧ r.2.mem ((c.tc : Thread Cert.FKernelIdeal.nD Cert.FKernelIdeal.τ).loc Cert.FKernelIdeal.main_arg3) = m ((c.tc : Thread Cert.FKernelIdeal.nD Cert.FKernelIdeal.τ).loc Cert.FKernelIdeal.main_arg3)
      ∧ r.2.mem ((c.tc : Thread Cert.FKernelIdeal.nD Cert.FKernelIdeal.τ).loc Cert.FKernelIdeal.main_arg4) = m ((c.tc : Thread Cert.FKernelIdeal.nD Cert.FKernelIdeal.τ).loc Cert.FKernelIdeal.main_arg4)
      ∧ r.2.mem ((c.tc : Thread Cert.FKernelIdeal.nD Cert.FKernelIdeal.τ).loc Cert.FKernelIdeal.main_arg5) = m ((c.tc : Thread Cert.FKernelIdeal.nD Cert.FKernelIdeal.τ).loc Cert.FKernelIdeal.main_arg5)
      ∧ r.2.mem ((c.tc : Thread Cert.FKernelIdeal.nD Cert.FKernelIdeal.τ).loc Cert.FKernelIdeal.main_arg6) = m ((c.tc : Thread Cert.FKernelIdeal.nD Cert.FKernelIdeal.τ).loc Cert.FKernelIdeal.main_arg6))
      ∧ r.2.sem = fun _ => 0)

def quiescent_FReferenceIdeal [hFReferenceIdeal : Cert.FReferenceIdeal.Facts] : Prop :=
  ∀ (m : (ℓ : Loc Cert.FReferenceIdeal.nD Cert.FReferenceIdeal.τ Cert.FReferenceIdeal.sig) → Buf (Elt Ideal) ℓ) (g : Dev Cert.FReferenceIdeal.nD → PrngReg), Pre_FReferenceIdeal m →
    θ_run (Cert.FReferenceIdeal.defs (F := Ideal)) (onTc (τ := Cert.FReferenceIdeal.τ) (Cert.FReferenceIdeal.main (F := Ideal))) ⟨m, fun _ => 0, g⟩ (fun r => (∀ c : Dev Cert.FReferenceIdeal.nD,
      r.2.mem ((c.tc : Thread Cert.FReferenceIdeal.nD Cert.FReferenceIdeal.τ).loc Cert.FReferenceIdeal.main_arg0) = m ((c.tc : Thread Cert.FReferenceIdeal.nD Cert.FReferenceIdeal.τ).loc Cert.FReferenceIdeal.main_arg0)
      ∧ r.2.mem ((c.tc : Thread Cert.FReferenceIdeal.nD Cert.FReferenceIdeal.τ).loc Cert.FReferenceIdeal.main_arg1) = m ((c.tc : Thread Cert.FReferenceIdeal.nD Cert.FReferenceIdeal.τ).loc Cert.FReferenceIdeal.main_arg1)
      ∧ r.2.mem ((c.tc : Thread Cert.FReferenceIdeal.nD Cert.FReferenceIdeal.τ).loc Cert.FReferenceIdeal.main_arg2) = m ((c.tc : Thread Cert.FReferenceIdeal.nD Cert.FReferenceIdeal.τ).loc Cert.FReferenceIdeal.main_arg2)
      ∧ r.2.mem ((c.tc : Thread Cert.FReferenceIdeal.nD Cert.FReferenceIdeal.τ).loc Cert.FReferenceIdeal.main_arg3) = m ((c.tc : Thread Cert.FReferenceIdeal.nD Cert.FReferenceIdeal.τ).loc Cert.FReferenceIdeal.main_arg3)
      ∧ r.2.mem ((c.tc : Thread Cert.FReferenceIdeal.nD Cert.FReferenceIdeal.τ).loc Cert.FReferenceIdeal.main_arg4) = m ((c.tc : Thread Cert.FReferenceIdeal.nD Cert.FReferenceIdeal.τ).loc Cert.FReferenceIdeal.main_arg4)
      ∧ r.2.mem ((c.tc : Thread Cert.FReferenceIdeal.nD Cert.FReferenceIdeal.τ).loc Cert.FReferenceIdeal.main_arg5) = m ((c.tc : Thread Cert.FReferenceIdeal.nD Cert.FReferenceIdeal.τ).loc Cert.FReferenceIdeal.main_arg5)
      ∧ r.2.mem ((c.tc : Thread Cert.FReferenceIdeal.nD Cert.FReferenceIdeal.τ).loc Cert.FReferenceIdeal.main_arg6) = m ((c.tc : Thread Cert.FReferenceIdeal.nD Cert.FReferenceIdeal.τ).loc Cert.FReferenceIdeal.main_arg6))
      ∧ r.2.sem = fun _ => 0)

def quiescent_FReferenceIdeal_pre_finite_ffn [hFReferenceIdeal : Cert.FReferenceIdeal.Facts] [hPre_finite_ffn : Cert.Pre_finite_ffn.Facts] : Prop :=
  ∀ (m : (ℓ : Loc Cert.FReferenceIdeal.nD Cert.FReferenceIdeal.τ Cert.FReferenceIdeal.sig) → Buf (Elt Ideal) ℓ) (g : Dev Cert.FReferenceIdeal.nD → PrngReg), Pre_FReferenceIdeal_finite_ffn m →
    θ_run (Cert.FReferenceIdeal.defs (F := Ideal)) (onTc (τ := Cert.FReferenceIdeal.τ) (Cert.FReferenceIdeal.main (F := Ideal))) ⟨m, fun _ => 0, g⟩ (fun r => (∀ c : Dev Cert.FReferenceIdeal.nD,
      r.2.mem ((c.tc : Thread Cert.FReferenceIdeal.nD Cert.FReferenceIdeal.τ).loc Cert.FReferenceIdeal.main_arg0) = m ((c.tc : Thread Cert.FReferenceIdeal.nD Cert.FReferenceIdeal.τ).loc Cert.FReferenceIdeal.main_arg0)
      ∧ r.2.mem ((c.tc : Thread Cert.FReferenceIdeal.nD Cert.FReferenceIdeal.τ).loc Cert.FReferenceIdeal.main_arg1) = m ((c.tc : Thread Cert.FReferenceIdeal.nD Cert.FReferenceIdeal.τ).loc Cert.FReferenceIdeal.main_arg1)
      ∧ r.2.mem ((c.tc : Thread Cert.FReferenceIdeal.nD Cert.FReferenceIdeal.τ).loc Cert.FReferenceIdeal.main_arg2) = m ((c.tc : Thread Cert.FReferenceIdeal.nD Cert.FReferenceIdeal.τ).loc Cert.FReferenceIdeal.main_arg2)
      ∧ r.2.mem ((c.tc : Thread Cert.FReferenceIdeal.nD Cert.FReferenceIdeal.τ).loc Cert.FReferenceIdeal.main_arg3) = m ((c.tc : Thread Cert.FReferenceIdeal.nD Cert.FReferenceIdeal.τ).loc Cert.FReferenceIdeal.main_arg3)
      ∧ r.2.mem ((c.tc : Thread Cert.FReferenceIdeal.nD Cert.FReferenceIdeal.τ).loc Cert.FReferenceIdeal.main_arg4) = m ((c.tc : Thread Cert.FReferenceIdeal.nD Cert.FReferenceIdeal.τ).loc Cert.FReferenceIdeal.main_arg4)
      ∧ r.2.mem ((c.tc : Thread Cert.FReferenceIdeal.nD Cert.FReferenceIdeal.τ).loc Cert.FReferenceIdeal.main_arg5) = m ((c.tc : Thread Cert.FReferenceIdeal.nD Cert.FReferenceIdeal.τ).loc Cert.FReferenceIdeal.main_arg5)
      ∧ r.2.mem ((c.tc : Thread Cert.FReferenceIdeal.nD Cert.FReferenceIdeal.τ).loc Cert.FReferenceIdeal.main_arg6) = m ((c.tc : Thread Cert.FReferenceIdeal.nD Cert.FReferenceIdeal.τ).loc Cert.FReferenceIdeal.main_arg6))
      ∧ r.2.sem = fun _ => 0)

def quiescent_GKernel [hGKernel : Cert.GKernel.Facts] : Prop :=
  ∀ (m : (ℓ : Loc Cert.GKernel.nD Cert.GKernel.τ Cert.GKernel.sig) → Buf (Elt Bits) ℓ) (g : Dev Cert.GKernel.nD → PrngReg), Pre_GKernel m →
    θ_run (Cert.GKernel.defs (F := Bits)) (onTc (τ := Cert.GKernel.τ) (Cert.GKernel.main (F := Bits))) ⟨m, fun _ => 0, g⟩ (fun r => (∀ c : Dev Cert.GKernel.nD,
      r.2.mem ((c.tc : Thread Cert.GKernel.nD Cert.GKernel.τ).loc Cert.GKernel.main_arg0) = m ((c.tc : Thread Cert.GKernel.nD Cert.GKernel.τ).loc Cert.GKernel.main_arg0)
      ∧ r.2.mem ((c.tc : Thread Cert.GKernel.nD Cert.GKernel.τ).loc Cert.GKernel.main_arg1) = m ((c.tc : Thread Cert.GKernel.nD Cert.GKernel.τ).loc Cert.GKernel.main_arg1)
      ∧ r.2.mem ((c.tc : Thread Cert.GKernel.nD Cert.GKernel.τ).loc Cert.GKernel.main_arg2) = m ((c.tc : Thread Cert.GKernel.nD Cert.GKernel.τ).loc Cert.GKernel.main_arg2)
      ∧ r.2.mem ((c.tc : Thread Cert.GKernel.nD Cert.GKernel.τ).loc Cert.GKernel.main_arg3) = m ((c.tc : Thread Cert.GKernel.nD Cert.GKernel.τ).loc Cert.GKernel.main_arg3)
      ∧ r.2.mem ((c.tc : Thread Cert.GKernel.nD Cert.GKernel.τ).loc Cert.GKernel.main_arg4) = m ((c.tc : Thread Cert.GKernel.nD Cert.GKernel.τ).loc Cert.GKernel.main_arg4)
      ∧ r.2.mem ((c.tc : Thread Cert.GKernel.nD Cert.GKernel.τ).loc Cert.GKernel.main_arg5) = m ((c.tc : Thread Cert.GKernel.nD Cert.GKernel.τ).loc Cert.GKernel.main_arg5)
      ∧ r.2.mem ((c.tc : Thread Cert.GKernel.nD Cert.GKernel.τ).loc Cert.GKernel.main_arg6) = m ((c.tc : Thread Cert.GKernel.nD Cert.GKernel.τ).loc Cert.GKernel.main_arg6))
      ∧ r.2.sem = fun _ => 0)

def quiescent_GKernelIdeal [hGKernelIdeal : Cert.GKernelIdeal.Facts] : Prop :=
  ∀ (m : (ℓ : Loc Cert.GKernelIdeal.nD Cert.GKernelIdeal.τ Cert.GKernelIdeal.sig) → Buf (Elt Ideal) ℓ) (g : Dev Cert.GKernelIdeal.nD → PrngReg), Pre_GKernelIdeal m →
    θ_run (Cert.GKernelIdeal.defs (F := Ideal)) (onTc (τ := Cert.GKernelIdeal.τ) (Cert.GKernelIdeal.main (F := Ideal))) ⟨m, fun _ => 0, g⟩ (fun r => (∀ c : Dev Cert.GKernelIdeal.nD,
      r.2.mem ((c.tc : Thread Cert.GKernelIdeal.nD Cert.GKernelIdeal.τ).loc Cert.GKernelIdeal.main_arg0) = m ((c.tc : Thread Cert.GKernelIdeal.nD Cert.GKernelIdeal.τ).loc Cert.GKernelIdeal.main_arg0)
      ∧ r.2.mem ((c.tc : Thread Cert.GKernelIdeal.nD Cert.GKernelIdeal.τ).loc Cert.GKernelIdeal.main_arg1) = m ((c.tc : Thread Cert.GKernelIdeal.nD Cert.GKernelIdeal.τ).loc Cert.GKernelIdeal.main_arg1)
      ∧ r.2.mem ((c.tc : Thread Cert.GKernelIdeal.nD Cert.GKernelIdeal.τ).loc Cert.GKernelIdeal.main_arg2) = m ((c.tc : Thread Cert.GKernelIdeal.nD Cert.GKernelIdeal.τ).loc Cert.GKernelIdeal.main_arg2)
      ∧ r.2.mem ((c.tc : Thread Cert.GKernelIdeal.nD Cert.GKernelIdeal.τ).loc Cert.GKernelIdeal.main_arg3) = m ((c.tc : Thread Cert.GKernelIdeal.nD Cert.GKernelIdeal.τ).loc Cert.GKernelIdeal.main_arg3)
      ∧ r.2.mem ((c.tc : Thread Cert.GKernelIdeal.nD Cert.GKernelIdeal.τ).loc Cert.GKernelIdeal.main_arg4) = m ((c.tc : Thread Cert.GKernelIdeal.nD Cert.GKernelIdeal.τ).loc Cert.GKernelIdeal.main_arg4)
      ∧ r.2.mem ((c.tc : Thread Cert.GKernelIdeal.nD Cert.GKernelIdeal.τ).loc Cert.GKernelIdeal.main_arg5) = m ((c.tc : Thread Cert.GKernelIdeal.nD Cert.GKernelIdeal.τ).loc Cert.GKernelIdeal.main_arg5)
      ∧ r.2.mem ((c.tc : Thread Cert.GKernelIdeal.nD Cert.GKernelIdeal.τ).loc Cert.GKernelIdeal.main_arg6) = m ((c.tc : Thread Cert.GKernelIdeal.nD Cert.GKernelIdeal.τ).loc Cert.GKernelIdeal.main_arg6))
      ∧ r.2.sem = fun _ => 0)

def quiescent_GKernelIdeal_pre_finite_ffn [hGKernelIdeal : Cert.GKernelIdeal.Facts] [hPre_finite_ffn : Cert.Pre_finite_ffn.Facts] : Prop :=
  ∀ (m : (ℓ : Loc Cert.GKernelIdeal.nD Cert.GKernelIdeal.τ Cert.GKernelIdeal.sig) → Buf (Elt Ideal) ℓ) (g : Dev Cert.GKernelIdeal.nD → PrngReg), Pre_GKernelIdeal_finite_ffn m →
    θ_run (Cert.GKernelIdeal.defs (F := Ideal)) (onTc (τ := Cert.GKernelIdeal.τ) (Cert.GKernelIdeal.main (F := Ideal))) ⟨m, fun _ => 0, g⟩ (fun r => (∀ c : Dev Cert.GKernelIdeal.nD,
      r.2.mem ((c.tc : Thread Cert.GKernelIdeal.nD Cert.GKernelIdeal.τ).loc Cert.GKernelIdeal.main_arg0) = m ((c.tc : Thread Cert.GKernelIdeal.nD Cert.GKernelIdeal.τ).loc Cert.GKernelIdeal.main_arg0)
      ∧ r.2.mem ((c.tc : Thread Cert.GKernelIdeal.nD Cert.GKernelIdeal.τ).loc Cert.GKernelIdeal.main_arg1) = m ((c.tc : Thread Cert.GKernelIdeal.nD Cert.GKernelIdeal.τ).loc Cert.GKernelIdeal.main_arg1)
      ∧ r.2.mem ((c.tc : Thread Cert.GKernelIdeal.nD Cert.GKernelIdeal.τ).loc Cert.GKernelIdeal.main_arg2) = m ((c.tc : Thread Cert.GKernelIdeal.nD Cert.GKernelIdeal.τ).loc Cert.GKernelIdeal.main_arg2)
      ∧ r.2.mem ((c.tc : Thread Cert.GKernelIdeal.nD Cert.GKernelIdeal.τ).loc Cert.GKernelIdeal.main_arg3) = m ((c.tc : Thread Cert.GKernelIdeal.nD Cert.GKernelIdeal.τ).loc Cert.GKernelIdeal.main_arg3)
      ∧ r.2.mem ((c.tc : Thread Cert.GKernelIdeal.nD Cert.GKernelIdeal.τ).loc Cert.GKernelIdeal.main_arg4) = m ((c.tc : Thread Cert.GKernelIdeal.nD Cert.GKernelIdeal.τ).loc Cert.GKernelIdeal.main_arg4)
      ∧ r.2.mem ((c.tc : Thread Cert.GKernelIdeal.nD Cert.GKernelIdeal.τ).loc Cert.GKernelIdeal.main_arg5) = m ((c.tc : Thread Cert.GKernelIdeal.nD Cert.GKernelIdeal.τ).loc Cert.GKernelIdeal.main_arg5)
      ∧ r.2.mem ((c.tc : Thread Cert.GKernelIdeal.nD Cert.GKernelIdeal.τ).loc Cert.GKernelIdeal.main_arg6) = m ((c.tc : Thread Cert.GKernelIdeal.nD Cert.GKernelIdeal.τ).loc Cert.GKernelIdeal.main_arg6))
      ∧ r.2.sem = fun _ => 0)

def quiescent_GReferenceIdeal [hGReferenceIdeal : Cert.GReferenceIdeal.Facts] : Prop :=
  ∀ (m : (ℓ : Loc Cert.GReferenceIdeal.nD Cert.GReferenceIdeal.τ Cert.GReferenceIdeal.sig) → Buf (Elt Ideal) ℓ) (g : Dev Cert.GReferenceIdeal.nD → PrngReg), Pre_GReferenceIdeal m →
    θ_run (Cert.GReferenceIdeal.defs (F := Ideal)) (onTc (τ := Cert.GReferenceIdeal.τ) (Cert.GReferenceIdeal.main (F := Ideal))) ⟨m, fun _ => 0, g⟩ (fun r => (∀ c : Dev Cert.GReferenceIdeal.nD,
      r.2.mem ((c.tc : Thread Cert.GReferenceIdeal.nD Cert.GReferenceIdeal.τ).loc Cert.GReferenceIdeal.main_arg0) = m ((c.tc : Thread Cert.GReferenceIdeal.nD Cert.GReferenceIdeal.τ).loc Cert.GReferenceIdeal.main_arg0)
      ∧ r.2.mem ((c.tc : Thread Cert.GReferenceIdeal.nD Cert.GReferenceIdeal.τ).loc Cert.GReferenceIdeal.main_arg1) = m ((c.tc : Thread Cert.GReferenceIdeal.nD Cert.GReferenceIdeal.τ).loc Cert.GReferenceIdeal.main_arg1)
      ∧ r.2.mem ((c.tc : Thread Cert.GReferenceIdeal.nD Cert.GReferenceIdeal.τ).loc Cert.GReferenceIdeal.main_arg2) = m ((c.tc : Thread Cert.GReferenceIdeal.nD Cert.GReferenceIdeal.τ).loc Cert.GReferenceIdeal.main_arg2)
      ∧ r.2.mem ((c.tc : Thread Cert.GReferenceIdeal.nD Cert.GReferenceIdeal.τ).loc Cert.GReferenceIdeal.main_arg3) = m ((c.tc : Thread Cert.GReferenceIdeal.nD Cert.GReferenceIdeal.τ).loc Cert.GReferenceIdeal.main_arg3)
      ∧ r.2.mem ((c.tc : Thread Cert.GReferenceIdeal.nD Cert.GReferenceIdeal.τ).loc Cert.GReferenceIdeal.main_arg4) = m ((c.tc : Thread Cert.GReferenceIdeal.nD Cert.GReferenceIdeal.τ).loc Cert.GReferenceIdeal.main_arg4)
      ∧ r.2.mem ((c.tc : Thread Cert.GReferenceIdeal.nD Cert.GReferenceIdeal.τ).loc Cert.GReferenceIdeal.main_arg5) = m ((c.tc : Thread Cert.GReferenceIdeal.nD Cert.GReferenceIdeal.τ).loc Cert.GReferenceIdeal.main_arg5)
      ∧ r.2.mem ((c.tc : Thread Cert.GReferenceIdeal.nD Cert.GReferenceIdeal.τ).loc Cert.GReferenceIdeal.main_arg6) = m ((c.tc : Thread Cert.GReferenceIdeal.nD Cert.GReferenceIdeal.τ).loc Cert.GReferenceIdeal.main_arg6))
      ∧ r.2.sem = fun _ => 0)

def quiescent_GReferenceIdeal_pre_finite_ffn [hGReferenceIdeal : Cert.GReferenceIdeal.Facts] [hPre_finite_ffn : Cert.Pre_finite_ffn.Facts] : Prop :=
  ∀ (m : (ℓ : Loc Cert.GReferenceIdeal.nD Cert.GReferenceIdeal.τ Cert.GReferenceIdeal.sig) → Buf (Elt Ideal) ℓ) (g : Dev Cert.GReferenceIdeal.nD → PrngReg), Pre_GReferenceIdeal_finite_ffn m →
    θ_run (Cert.GReferenceIdeal.defs (F := Ideal)) (onTc (τ := Cert.GReferenceIdeal.τ) (Cert.GReferenceIdeal.main (F := Ideal))) ⟨m, fun _ => 0, g⟩ (fun r => (∀ c : Dev Cert.GReferenceIdeal.nD,
      r.2.mem ((c.tc : Thread Cert.GReferenceIdeal.nD Cert.GReferenceIdeal.τ).loc Cert.GReferenceIdeal.main_arg0) = m ((c.tc : Thread Cert.GReferenceIdeal.nD Cert.GReferenceIdeal.τ).loc Cert.GReferenceIdeal.main_arg0)
      ∧ r.2.mem ((c.tc : Thread Cert.GReferenceIdeal.nD Cert.GReferenceIdeal.τ).loc Cert.GReferenceIdeal.main_arg1) = m ((c.tc : Thread Cert.GReferenceIdeal.nD Cert.GReferenceIdeal.τ).loc Cert.GReferenceIdeal.main_arg1)
      ∧ r.2.mem ((c.tc : Thread Cert.GReferenceIdeal.nD Cert.GReferenceIdeal.τ).loc Cert.GReferenceIdeal.main_arg2) = m ((c.tc : Thread Cert.GReferenceIdeal.nD Cert.GReferenceIdeal.τ).loc Cert.GReferenceIdeal.main_arg2)
      ∧ r.2.mem ((c.tc : Thread Cert.GReferenceIdeal.nD Cert.GReferenceIdeal.τ).loc Cert.GReferenceIdeal.main_arg3) = m ((c.tc : Thread Cert.GReferenceIdeal.nD Cert.GReferenceIdeal.τ).loc Cert.GReferenceIdeal.main_arg3)
      ∧ r.2.mem ((c.tc : Thread Cert.GReferenceIdeal.nD Cert.GReferenceIdeal.τ).loc Cert.GReferenceIdeal.main_arg4) = m ((c.tc : Thread Cert.GReferenceIdeal.nD Cert.GReferenceIdeal.τ).loc Cert.GReferenceIdeal.main_arg4)
      ∧ r.2.mem ((c.tc : Thread Cert.GReferenceIdeal.nD Cert.GReferenceIdeal.τ).loc Cert.GReferenceIdeal.main_arg5) = m ((c.tc : Thread Cert.GReferenceIdeal.nD Cert.GReferenceIdeal.τ).loc Cert.GReferenceIdeal.main_arg5)
      ∧ r.2.mem ((c.tc : Thread Cert.GReferenceIdeal.nD Cert.GReferenceIdeal.τ).loc Cert.GReferenceIdeal.main_arg6) = m ((c.tc : Thread Cert.GReferenceIdeal.nD Cert.GReferenceIdeal.τ).loc Cert.GReferenceIdeal.main_arg6))
      ∧ r.2.sem = fun _ => 0)

def quiescent_HKernel [hHKernel : Cert.HKernel.Facts] : Prop :=
  ∀ (m : (ℓ : Loc Cert.HKernel.nD Cert.HKernel.τ Cert.HKernel.sig) → Buf (Elt Bits) ℓ) (g : Dev Cert.HKernel.nD → PrngReg), Pre_HKernel m →
    θ_run (Cert.HKernel.defs (F := Bits)) (onTc (τ := Cert.HKernel.τ) (Cert.HKernel.main (F := Bits))) ⟨m, fun _ => 0, g⟩ (fun r => (∀ c : Dev Cert.HKernel.nD,
      r.2.mem ((c.tc : Thread Cert.HKernel.nD Cert.HKernel.τ).loc Cert.HKernel.main_arg0) = m ((c.tc : Thread Cert.HKernel.nD Cert.HKernel.τ).loc Cert.HKernel.main_arg0)
      ∧ r.2.mem ((c.tc : Thread Cert.HKernel.nD Cert.HKernel.τ).loc Cert.HKernel.main_arg1) = m ((c.tc : Thread Cert.HKernel.nD Cert.HKernel.τ).loc Cert.HKernel.main_arg1)
      ∧ r.2.mem ((c.tc : Thread Cert.HKernel.nD Cert.HKernel.τ).loc Cert.HKernel.main_arg2) = m ((c.tc : Thread Cert.HKernel.nD Cert.HKernel.τ).loc Cert.HKernel.main_arg2)
      ∧ r.2.mem ((c.tc : Thread Cert.HKernel.nD Cert.HKernel.τ).loc Cert.HKernel.main_arg3) = m ((c.tc : Thread Cert.HKernel.nD Cert.HKernel.τ).loc Cert.HKernel.main_arg3)
      ∧ r.2.mem ((c.tc : Thread Cert.HKernel.nD Cert.HKernel.τ).loc Cert.HKernel.main_arg4) = m ((c.tc : Thread Cert.HKernel.nD Cert.HKernel.τ).loc Cert.HKernel.main_arg4)
      ∧ r.2.mem ((c.tc : Thread Cert.HKernel.nD Cert.HKernel.τ).loc Cert.HKernel.main_arg5) = m ((c.tc : Thread Cert.HKernel.nD Cert.HKernel.τ).loc Cert.HKernel.main_arg5))
      ∧ r.2.sem = fun _ => 0)

def quiescent_HKernelIdeal [hHKernelIdeal : Cert.HKernelIdeal.Facts] : Prop :=
  ∀ (m : (ℓ : Loc Cert.HKernelIdeal.nD Cert.HKernelIdeal.τ Cert.HKernelIdeal.sig) → Buf (Elt Ideal) ℓ) (g : Dev Cert.HKernelIdeal.nD → PrngReg), Pre_HKernelIdeal m →
    θ_run (Cert.HKernelIdeal.defs (F := Ideal)) (onTc (τ := Cert.HKernelIdeal.τ) (Cert.HKernelIdeal.main (F := Ideal))) ⟨m, fun _ => 0, g⟩ (fun r => (∀ c : Dev Cert.HKernelIdeal.nD,
      r.2.mem ((c.tc : Thread Cert.HKernelIdeal.nD Cert.HKernelIdeal.τ).loc Cert.HKernelIdeal.main_arg0) = m ((c.tc : Thread Cert.HKernelIdeal.nD Cert.HKernelIdeal.τ).loc Cert.HKernelIdeal.main_arg0)
      ∧ r.2.mem ((c.tc : Thread Cert.HKernelIdeal.nD Cert.HKernelIdeal.τ).loc Cert.HKernelIdeal.main_arg1) = m ((c.tc : Thread Cert.HKernelIdeal.nD Cert.HKernelIdeal.τ).loc Cert.HKernelIdeal.main_arg1)
      ∧ r.2.mem ((c.tc : Thread Cert.HKernelIdeal.nD Cert.HKernelIdeal.τ).loc Cert.HKernelIdeal.main_arg2) = m ((c.tc : Thread Cert.HKernelIdeal.nD Cert.HKernelIdeal.τ).loc Cert.HKernelIdeal.main_arg2)
      ∧ r.2.mem ((c.tc : Thread Cert.HKernelIdeal.nD Cert.HKernelIdeal.τ).loc Cert.HKernelIdeal.main_arg3) = m ((c.tc : Thread Cert.HKernelIdeal.nD Cert.HKernelIdeal.τ).loc Cert.HKernelIdeal.main_arg3)
      ∧ r.2.mem ((c.tc : Thread Cert.HKernelIdeal.nD Cert.HKernelIdeal.τ).loc Cert.HKernelIdeal.main_arg4) = m ((c.tc : Thread Cert.HKernelIdeal.nD Cert.HKernelIdeal.τ).loc Cert.HKernelIdeal.main_arg4)
      ∧ r.2.mem ((c.tc : Thread Cert.HKernelIdeal.nD Cert.HKernelIdeal.τ).loc Cert.HKernelIdeal.main_arg5) = m ((c.tc : Thread Cert.HKernelIdeal.nD Cert.HKernelIdeal.τ).loc Cert.HKernelIdeal.main_arg5))
      ∧ r.2.sem = fun _ => 0)

def quiescent_HReferenceIdeal [hHReferenceIdeal : Cert.HReferenceIdeal.Facts] : Prop :=
  ∀ (m : (ℓ : Loc Cert.HReferenceIdeal.nD Cert.HReferenceIdeal.τ Cert.HReferenceIdeal.sig) → Buf (Elt Ideal) ℓ) (g : Dev Cert.HReferenceIdeal.nD → PrngReg), Pre_HReferenceIdeal m →
    θ_run (Cert.HReferenceIdeal.defs (F := Ideal)) (onTc (τ := Cert.HReferenceIdeal.τ) (Cert.HReferenceIdeal.main (F := Ideal))) ⟨m, fun _ => 0, g⟩ (fun r => (∀ c : Dev Cert.HReferenceIdeal.nD,
      r.2.mem ((c.tc : Thread Cert.HReferenceIdeal.nD Cert.HReferenceIdeal.τ).loc Cert.HReferenceIdeal.main_arg0) = m ((c.tc : Thread Cert.HReferenceIdeal.nD Cert.HReferenceIdeal.τ).loc Cert.HReferenceIdeal.main_arg0)
      ∧ r.2.mem ((c.tc : Thread Cert.HReferenceIdeal.nD Cert.HReferenceIdeal.τ).loc Cert.HReferenceIdeal.main_arg1) = m ((c.tc : Thread Cert.HReferenceIdeal.nD Cert.HReferenceIdeal.τ).loc Cert.HReferenceIdeal.main_arg1)
      ∧ r.2.mem ((c.tc : Thread Cert.HReferenceIdeal.nD Cert.HReferenceIdeal.τ).loc Cert.HReferenceIdeal.main_arg2) = m ((c.tc : Thread Cert.HReferenceIdeal.nD Cert.HReferenceIdeal.τ).loc Cert.HReferenceIdeal.main_arg2)
      ∧ r.2.mem ((c.tc : Thread Cert.HReferenceIdeal.nD Cert.HReferenceIdeal.τ).loc Cert.HReferenceIdeal.main_arg3) = m ((c.tc : Thread Cert.HReferenceIdeal.nD Cert.HReferenceIdeal.τ).loc Cert.HReferenceIdeal.main_arg3)
      ∧ r.2.mem ((c.tc : Thread Cert.HReferenceIdeal.nD Cert.HReferenceIdeal.τ).loc Cert.HReferenceIdeal.main_arg4) = m ((c.tc : Thread Cert.HReferenceIdeal.nD Cert.HReferenceIdeal.τ).loc Cert.HReferenceIdeal.main_arg4)
      ∧ r.2.mem ((c.tc : Thread Cert.HReferenceIdeal.nD Cert.HReferenceIdeal.τ).loc Cert.HReferenceIdeal.main_arg5) = m ((c.tc : Thread Cert.HReferenceIdeal.nD Cert.HReferenceIdeal.τ).loc Cert.HReferenceIdeal.main_arg5))
      ∧ r.2.sem = fun _ => 0)

def quiescent_JKernel [hJKernel : Cert.JKernel.Facts] : Prop :=
  ∀ (m : (ℓ : Loc Cert.JKernel.nD Cert.JKernel.τ Cert.JKernel.sig) → Buf (Elt Bits) ℓ) (g : Dev Cert.JKernel.nD → PrngReg), Pre_JKernel m →
    θ_run (Cert.JKernel.defs (F := Bits)) (onTc (τ := Cert.JKernel.τ) (Cert.JKernel.main (F := Bits))) ⟨m, fun _ => 0, g⟩ (fun r => (∀ c : Dev Cert.JKernel.nD,
      r.2.mem ((c.tc : Thread Cert.JKernel.nD Cert.JKernel.τ).loc Cert.JKernel.main_arg0) = m ((c.tc : Thread Cert.JKernel.nD Cert.JKernel.τ).loc Cert.JKernel.main_arg0)
      ∧ r.2.mem ((c.tc : Thread Cert.JKernel.nD Cert.JKernel.τ).loc Cert.JKernel.main_arg1) = m ((c.tc : Thread Cert.JKernel.nD Cert.JKernel.τ).loc Cert.JKernel.main_arg1)
      ∧ r.2.mem ((c.tc : Thread Cert.JKernel.nD Cert.JKernel.τ).loc Cert.JKernel.main_arg2) = m ((c.tc : Thread Cert.JKernel.nD Cert.JKernel.τ).loc Cert.JKernel.main_arg2)
      ∧ r.2.mem ((c.tc : Thread Cert.JKernel.nD Cert.JKernel.τ).loc Cert.JKernel.main_arg3) = m ((c.tc : Thread Cert.JKernel.nD Cert.JKernel.τ).loc Cert.JKernel.main_arg3)
      ∧ r.2.mem ((c.tc : Thread Cert.JKernel.nD Cert.JKernel.τ).loc Cert.JKernel.main_arg4) = m ((c.tc : Thread Cert.JKernel.nD Cert.JKernel.τ).loc Cert.JKernel.main_arg4)
      ∧ r.2.mem ((c.tc : Thread Cert.JKernel.nD Cert.JKernel.τ).loc Cert.JKernel.main_arg5) = m ((c.tc : Thread Cert.JKernel.nD Cert.JKernel.τ).loc Cert.JKernel.main_arg5))
      ∧ r.2.sem = fun _ => 0)

def quiescent_JKernelIdeal [hJKernelIdeal : Cert.JKernelIdeal.Facts] : Prop :=
  ∀ (m : (ℓ : Loc Cert.JKernelIdeal.nD Cert.JKernelIdeal.τ Cert.JKernelIdeal.sig) → Buf (Elt Ideal) ℓ) (g : Dev Cert.JKernelIdeal.nD → PrngReg), Pre_JKernelIdeal m →
    θ_run (Cert.JKernelIdeal.defs (F := Ideal)) (onTc (τ := Cert.JKernelIdeal.τ) (Cert.JKernelIdeal.main (F := Ideal))) ⟨m, fun _ => 0, g⟩ (fun r => (∀ c : Dev Cert.JKernelIdeal.nD,
      r.2.mem ((c.tc : Thread Cert.JKernelIdeal.nD Cert.JKernelIdeal.τ).loc Cert.JKernelIdeal.main_arg0) = m ((c.tc : Thread Cert.JKernelIdeal.nD Cert.JKernelIdeal.τ).loc Cert.JKernelIdeal.main_arg0)
      ∧ r.2.mem ((c.tc : Thread Cert.JKernelIdeal.nD Cert.JKernelIdeal.τ).loc Cert.JKernelIdeal.main_arg1) = m ((c.tc : Thread Cert.JKernelIdeal.nD Cert.JKernelIdeal.τ).loc Cert.JKernelIdeal.main_arg1)
      ∧ r.2.mem ((c.tc : Thread Cert.JKernelIdeal.nD Cert.JKernelIdeal.τ).loc Cert.JKernelIdeal.main_arg2) = m ((c.tc : Thread Cert.JKernelIdeal.nD Cert.JKernelIdeal.τ).loc Cert.JKernelIdeal.main_arg2)
      ∧ r.2.mem ((c.tc : Thread Cert.JKernelIdeal.nD Cert.JKernelIdeal.τ).loc Cert.JKernelIdeal.main_arg3) = m ((c.tc : Thread Cert.JKernelIdeal.nD Cert.JKernelIdeal.τ).loc Cert.JKernelIdeal.main_arg3)
      ∧ r.2.mem ((c.tc : Thread Cert.JKernelIdeal.nD Cert.JKernelIdeal.τ).loc Cert.JKernelIdeal.main_arg4) = m ((c.tc : Thread Cert.JKernelIdeal.nD Cert.JKernelIdeal.τ).loc Cert.JKernelIdeal.main_arg4)
      ∧ r.2.mem ((c.tc : Thread Cert.JKernelIdeal.nD Cert.JKernelIdeal.τ).loc Cert.JKernelIdeal.main_arg5) = m ((c.tc : Thread Cert.JKernelIdeal.nD Cert.JKernelIdeal.τ).loc Cert.JKernelIdeal.main_arg5))
      ∧ r.2.sem = fun _ => 0)

def quiescent_JReferenceIdeal [hJReferenceIdeal : Cert.JReferenceIdeal.Facts] : Prop :=
  ∀ (m : (ℓ : Loc Cert.JReferenceIdeal.nD Cert.JReferenceIdeal.τ Cert.JReferenceIdeal.sig) → Buf (Elt Ideal) ℓ) (g : Dev Cert.JReferenceIdeal.nD → PrngReg), Pre_JReferenceIdeal m →
    θ_run (Cert.JReferenceIdeal.defs (F := Ideal)) (onTc (τ := Cert.JReferenceIdeal.τ) (Cert.JReferenceIdeal.main (F := Ideal))) ⟨m, fun _ => 0, g⟩ (fun r => (∀ c : Dev Cert.JReferenceIdeal.nD,
      r.2.mem ((c.tc : Thread Cert.JReferenceIdeal.nD Cert.JReferenceIdeal.τ).loc Cert.JReferenceIdeal.main_arg0) = m ((c.tc : Thread Cert.JReferenceIdeal.nD Cert.JReferenceIdeal.τ).loc Cert.JReferenceIdeal.main_arg0)
      ∧ r.2.mem ((c.tc : Thread Cert.JReferenceIdeal.nD Cert.JReferenceIdeal.τ).loc Cert.JReferenceIdeal.main_arg1) = m ((c.tc : Thread Cert.JReferenceIdeal.nD Cert.JReferenceIdeal.τ).loc Cert.JReferenceIdeal.main_arg1)
      ∧ r.2.mem ((c.tc : Thread Cert.JReferenceIdeal.nD Cert.JReferenceIdeal.τ).loc Cert.JReferenceIdeal.main_arg2) = m ((c.tc : Thread Cert.JReferenceIdeal.nD Cert.JReferenceIdeal.τ).loc Cert.JReferenceIdeal.main_arg2)
      ∧ r.2.mem ((c.tc : Thread Cert.JReferenceIdeal.nD Cert.JReferenceIdeal.τ).loc Cert.JReferenceIdeal.main_arg3) = m ((c.tc : Thread Cert.JReferenceIdeal.nD Cert.JReferenceIdeal.τ).loc Cert.JReferenceIdeal.main_arg3)
      ∧ r.2.mem ((c.tc : Thread Cert.JReferenceIdeal.nD Cert.JReferenceIdeal.τ).loc Cert.JReferenceIdeal.main_arg4) = m ((c.tc : Thread Cert.JReferenceIdeal.nD Cert.JReferenceIdeal.τ).loc Cert.JReferenceIdeal.main_arg4)
      ∧ r.2.mem ((c.tc : Thread Cert.JReferenceIdeal.nD Cert.JReferenceIdeal.τ).loc Cert.JReferenceIdeal.main_arg5) = m ((c.tc : Thread Cert.JReferenceIdeal.nD Cert.JReferenceIdeal.τ).loc Cert.JReferenceIdeal.main_arg5))
      ∧ r.2.sem = fun _ => 0)

def quiescent_DKernel [hDKernel : Cert.DKernel.Facts] : Prop :=
  ∀ (m : (ℓ : Loc Cert.DKernel.nD Cert.DKernel.τ Cert.DKernel.sig) → Buf (Elt Bits) ℓ) (g : Dev Cert.DKernel.nD → PrngReg), Pre_DKernel m →
    θ_run (Cert.DKernel.defs (F := Bits)) (onTc (τ := Cert.DKernel.τ) (Cert.DKernel.main (F := Bits))) ⟨m, fun _ => 0, g⟩ (fun r => (∀ c : Dev Cert.DKernel.nD,
      r.2.mem ((c.tc : Thread Cert.DKernel.nD Cert.DKernel.τ).loc Cert.DKernel.main_arg0) = m ((c.tc : Thread Cert.DKernel.nD Cert.DKernel.τ).loc Cert.DKernel.main_arg0)
      ∧ r.2.mem ((c.tc : Thread Cert.DKernel.nD Cert.DKernel.τ).loc Cert.DKernel.main_arg1) = m ((c.tc : Thread Cert.DKernel.nD Cert.DKernel.τ).loc Cert.DKernel.main_arg1))
      ∧ r.2.sem = fun _ => 0)

def quiescent_DKernelIdeal [hDKernelIdeal : Cert.DKernelIdeal.Facts] : Prop :=
  ∀ (m : (ℓ : Loc Cert.DKernelIdeal.nD Cert.DKernelIdeal.τ Cert.DKernelIdeal.sig) → Buf (Elt Ideal) ℓ) (g : Dev Cert.DKernelIdeal.nD → PrngReg), Pre_DKernelIdeal m →
    θ_run (Cert.DKernelIdeal.defs (F := Ideal)) (onTc (τ := Cert.DKernelIdeal.τ) (Cert.DKernelIdeal.main (F := Ideal))) ⟨m, fun _ => 0, g⟩ (fun r => (∀ c : Dev Cert.DKernelIdeal.nD,
      r.2.mem ((c.tc : Thread Cert.DKernelIdeal.nD Cert.DKernelIdeal.τ).loc Cert.DKernelIdeal.main_arg0) = m ((c.tc : Thread Cert.DKernelIdeal.nD Cert.DKernelIdeal.τ).loc Cert.DKernelIdeal.main_arg0)
      ∧ r.2.mem ((c.tc : Thread Cert.DKernelIdeal.nD Cert.DKernelIdeal.τ).loc Cert.DKernelIdeal.main_arg1) = m ((c.tc : Thread Cert.DKernelIdeal.nD Cert.DKernelIdeal.τ).loc Cert.DKernelIdeal.main_arg1))
      ∧ r.2.sem = fun _ => 0)

def quiescent_DReferenceIdeal [hDReferenceIdeal : Cert.DReferenceIdeal.Facts] : Prop :=
  ∀ (m : (ℓ : Loc Cert.DReferenceIdeal.nD Cert.DReferenceIdeal.τ Cert.DReferenceIdeal.sig) → Buf (Elt Ideal) ℓ) (g : Dev Cert.DReferenceIdeal.nD → PrngReg), Pre_DReferenceIdeal m →
    θ_run (Cert.DReferenceIdeal.defs (F := Ideal)) (onTc (τ := Cert.DReferenceIdeal.τ) (Cert.DReferenceIdeal.main (F := Ideal))) ⟨m, fun _ => 0, g⟩ (fun r => (∀ c : Dev Cert.DReferenceIdeal.nD,
      r.2.mem ((c.tc : Thread Cert.DReferenceIdeal.nD Cert.DReferenceIdeal.τ).loc Cert.DReferenceIdeal.main_arg0) = m ((c.tc : Thread Cert.DReferenceIdeal.nD Cert.DReferenceIdeal.τ).loc Cert.DReferenceIdeal.main_arg0)
      ∧ r.2.mem ((c.tc : Thread Cert.DReferenceIdeal.nD Cert.DReferenceIdeal.τ).loc Cert.DReferenceIdeal.main_arg1) = m ((c.tc : Thread Cert.DReferenceIdeal.nD Cert.DReferenceIdeal.τ).loc Cert.DReferenceIdeal.main_arg1))
      ∧ r.2.sem = fun _ => 0)

def quiescent_UKernel [hUKernel : Cert.UKernel.Facts] : Prop :=
  ∀ (m : (ℓ : Loc Cert.UKernel.nD Cert.UKernel.τ Cert.UKernel.sig) → Buf (Elt Bits) ℓ) (g : Dev Cert.UKernel.nD → PrngReg), Pre_UKernel m →
    θ_run (Cert.UKernel.defs (F := Bits)) (onTc (τ := Cert.UKernel.τ) (Cert.UKernel.main (F := Bits))) ⟨m, fun _ => 0, g⟩ (fun r => (∀ c : Dev Cert.UKernel.nD,
      r.2.mem ((c.tc : Thread Cert.UKernel.nD Cert.UKernel.τ).loc Cert.UKernel.main_arg0) = m ((c.tc : Thread Cert.UKernel.nD Cert.UKernel.τ).loc Cert.UKernel.main_arg0)
      ∧ r.2.mem ((c.tc : Thread Cert.UKernel.nD Cert.UKernel.τ).loc Cert.UKernel.main_arg1) = m ((c.tc : Thread Cert.UKernel.nD Cert.UKernel.τ).loc Cert.UKernel.main_arg1))
      ∧ r.2.sem = fun _ => 0)

def quiescent_UKernelIdeal [hUKernelIdeal : Cert.UKernelIdeal.Facts] : Prop :=
  ∀ (m : (ℓ : Loc Cert.UKernelIdeal.nD Cert.UKernelIdeal.τ Cert.UKernelIdeal.sig) → Buf (Elt Ideal) ℓ) (g : Dev Cert.UKernelIdeal.nD → PrngReg), Pre_UKernelIdeal m →
    θ_run (Cert.UKernelIdeal.defs (F := Ideal)) (onTc (τ := Cert.UKernelIdeal.τ) (Cert.UKernelIdeal.main (F := Ideal))) ⟨m, fun _ => 0, g⟩ (fun r => (∀ c : Dev Cert.UKernelIdeal.nD,
      r.2.mem ((c.tc : Thread Cert.UKernelIdeal.nD Cert.UKernelIdeal.τ).loc Cert.UKernelIdeal.main_arg0) = m ((c.tc : Thread Cert.UKernelIdeal.nD Cert.UKernelIdeal.τ).loc Cert.UKernelIdeal.main_arg0)
      ∧ r.2.mem ((c.tc : Thread Cert.UKernelIdeal.nD Cert.UKernelIdeal.τ).loc Cert.UKernelIdeal.main_arg1) = m ((c.tc : Thread Cert.UKernelIdeal.nD Cert.UKernelIdeal.τ).loc Cert.UKernelIdeal.main_arg1))
      ∧ r.2.sem = fun _ => 0)

def quiescent_UReferenceIdeal [hUReferenceIdeal : Cert.UReferenceIdeal.Facts] : Prop :=
  ∀ (m : (ℓ : Loc Cert.UReferenceIdeal.nD Cert.UReferenceIdeal.τ Cert.UReferenceIdeal.sig) → Buf (Elt Ideal) ℓ) (g : Dev Cert.UReferenceIdeal.nD → PrngReg), Pre_UReferenceIdeal m →
    θ_run (Cert.UReferenceIdeal.defs (F := Ideal)) (onTc (τ := Cert.UReferenceIdeal.τ) (Cert.UReferenceIdeal.main (F := Ideal))) ⟨m, fun _ => 0, g⟩ (fun r => (∀ c : Dev Cert.UReferenceIdeal.nD,
      r.2.mem ((c.tc : Thread Cert.UReferenceIdeal.nD Cert.UReferenceIdeal.τ).loc Cert.UReferenceIdeal.main_arg0) = m ((c.tc : Thread Cert.UReferenceIdeal.nD Cert.UReferenceIdeal.τ).loc Cert.UReferenceIdeal.main_arg0)
      ∧ r.2.mem ((c.tc : Thread Cert.UReferenceIdeal.nD Cert.UReferenceIdeal.τ).loc Cert.UReferenceIdeal.main_arg1) = m ((c.tc : Thread Cert.UReferenceIdeal.nD Cert.UReferenceIdeal.τ).loc Cert.UReferenceIdeal.main_arg1))
      ∧ r.2.sem = fun _ => 0)

def quiescent_BKernel [hBKernel : Cert.BKernel.Facts] : Prop :=
  ∀ (m : (ℓ : Loc Cert.BKernel.nD Cert.BKernel.τ Cert.BKernel.sig) → Buf (Elt Bits) ℓ) (g : Dev Cert.BKernel.nD → PrngReg), Pre_BKernel m →
    θ_run (Cert.BKernel.defs (F := Bits)) (onTc (τ := Cert.BKernel.τ) (Cert.BKernel.main (F := Bits))) ⟨m, fun _ => 0, g⟩ (fun r => (∀ c : Dev Cert.BKernel.nD,
      r.2.mem ((c.tc : Thread Cert.BKernel.nD Cert.BKernel.τ).loc Cert.BKernel.main_arg0) = m ((c.tc : Thread Cert.BKernel.nD Cert.BKernel.τ).loc Cert.BKernel.main_arg0)
      ∧ r.2.mem ((c.tc : Thread Cert.BKernel.nD Cert.BKernel.τ).loc Cert.BKernel.main_arg1) = m ((c.tc : Thread Cert.BKernel.nD Cert.BKernel.τ).loc Cert.BKernel.main_arg1))
      ∧ r.2.sem = fun _ => 0)

def quiescent_BKernelIdeal [hBKernelIdeal : Cert.BKernelIdeal.Facts] : Prop :=
  ∀ (m : (ℓ : Loc Cert.BKernelIdeal.nD Cert.BKernelIdeal.τ Cert.BKernelIdeal.sig) → Buf (Elt Ideal) ℓ) (g : Dev Cert.BKernelIdeal.nD → PrngReg), Pre_BKernelIdeal m →
    θ_run (Cert.BKernelIdeal.defs (F := Ideal)) (onTc (τ := Cert.BKernelIdeal.τ) (Cert.BKernelIdeal.main (F := Ideal))) ⟨m, fun _ => 0, g⟩ (fun r => (∀ c : Dev Cert.BKernelIdeal.nD,
      r.2.mem ((c.tc : Thread Cert.BKernelIdeal.nD Cert.BKernelIdeal.τ).loc Cert.BKernelIdeal.main_arg0) = m ((c.tc : Thread Cert.BKernelIdeal.nD Cert.BKernelIdeal.τ).loc Cert.BKernelIdeal.main_arg0)
      ∧ r.2.mem ((c.tc : Thread Cert.BKernelIdeal.nD Cert.BKernelIdeal.τ).loc Cert.BKernelIdeal.main_arg1) = m ((c.tc : Thread Cert.BKernelIdeal.nD Cert.BKernelIdeal.τ).loc Cert.BKernelIdeal.main_arg1))
      ∧ r.2.sem = fun _ => 0)

def quiescent_BReferenceIdeal [hBReferenceIdeal : Cert.BReferenceIdeal.Facts] : Prop :=
  ∀ (m : (ℓ : Loc Cert.BReferenceIdeal.nD Cert.BReferenceIdeal.τ Cert.BReferenceIdeal.sig) → Buf (Elt Ideal) ℓ) (g : Dev Cert.BReferenceIdeal.nD → PrngReg), Pre_BReferenceIdeal m →
    θ_run (Cert.BReferenceIdeal.defs (F := Ideal)) (onTc (τ := Cert.BReferenceIdeal.τ) (Cert.BReferenceIdeal.main (F := Ideal))) ⟨m, fun _ => 0, g⟩ (fun r => (∀ c : Dev Cert.BReferenceIdeal.nD,
      r.2.mem ((c.tc : Thread Cert.BReferenceIdeal.nD Cert.BReferenceIdeal.τ).loc Cert.BReferenceIdeal.main_arg0) = m ((c.tc : Thread Cert.BReferenceIdeal.nD Cert.BReferenceIdeal.τ).loc Cert.BReferenceIdeal.main_arg0)
      ∧ r.2.mem ((c.tc : Thread Cert.BReferenceIdeal.nD Cert.BReferenceIdeal.τ).loc Cert.BReferenceIdeal.main_arg1) = m ((c.tc : Thread Cert.BReferenceIdeal.nD Cert.BReferenceIdeal.τ).loc Cert.BReferenceIdeal.main_arg1))
      ∧ r.2.sem = fun _ => 0)

def quiescent_AKernel [hAKernel : Cert.AKernel.Facts] : Prop :=
  ∀ (m : (ℓ : Loc Cert.AKernel.nD Cert.AKernel.τ Cert.AKernel.sig) → Buf (Elt Bits) ℓ) (g : Dev Cert.AKernel.nD → PrngReg), Pre_AKernel m →
    θ_run (Cert.AKernel.defs (F := Bits)) (onTc (τ := Cert.AKernel.τ) (Cert.AKernel.main (F := Bits))) ⟨m, fun _ => 0, g⟩ (fun r => (∀ c : Dev Cert.AKernel.nD,
      r.2.mem ((c.tc : Thread Cert.AKernel.nD Cert.AKernel.τ).loc Cert.AKernel.main_arg0) = m ((c.tc : Thread Cert.AKernel.nD Cert.AKernel.τ).loc Cert.AKernel.main_arg0)
      ∧ r.2.mem ((c.tc : Thread Cert.AKernel.nD Cert.AKernel.τ).loc Cert.AKernel.main_arg1) = m ((c.tc : Thread Cert.AKernel.nD Cert.AKernel.τ).loc Cert.AKernel.main_arg1))
      ∧ r.2.sem = fun _ => 0)

def quiescent_AKernelIdeal [hAKernelIdeal : Cert.AKernelIdeal.Facts] : Prop :=
  ∀ (m : (ℓ : Loc Cert.AKernelIdeal.nD Cert.AKernelIdeal.τ Cert.AKernelIdeal.sig) → Buf (Elt Ideal) ℓ) (g : Dev Cert.AKernelIdeal.nD → PrngReg), Pre_AKernelIdeal m →
    θ_run (Cert.AKernelIdeal.defs (F := Ideal)) (onTc (τ := Cert.AKernelIdeal.τ) (Cert.AKernelIdeal.main (F := Ideal))) ⟨m, fun _ => 0, g⟩ (fun r => (∀ c : Dev Cert.AKernelIdeal.nD,
      r.2.mem ((c.tc : Thread Cert.AKernelIdeal.nD Cert.AKernelIdeal.τ).loc Cert.AKernelIdeal.main_arg0) = m ((c.tc : Thread Cert.AKernelIdeal.nD Cert.AKernelIdeal.τ).loc Cert.AKernelIdeal.main_arg0)
      ∧ r.2.mem ((c.tc : Thread Cert.AKernelIdeal.nD Cert.AKernelIdeal.τ).loc Cert.AKernelIdeal.main_arg1) = m ((c.tc : Thread Cert.AKernelIdeal.nD Cert.AKernelIdeal.τ).loc Cert.AKernelIdeal.main_arg1))
      ∧ r.2.sem = fun _ => 0)

def quiescent_AReferenceIdeal [hAReferenceIdeal : Cert.AReferenceIdeal.Facts] : Prop :=
  ∀ (m : (ℓ : Loc Cert.AReferenceIdeal.nD Cert.AReferenceIdeal.τ Cert.AReferenceIdeal.sig) → Buf (Elt Ideal) ℓ) (g : Dev Cert.AReferenceIdeal.nD → PrngReg), Pre_AReferenceIdeal m →
    θ_run (Cert.AReferenceIdeal.defs (F := Ideal)) (onTc (τ := Cert.AReferenceIdeal.τ) (Cert.AReferenceIdeal.main (F := Ideal))) ⟨m, fun _ => 0, g⟩ (fun r => (∀ c : Dev Cert.AReferenceIdeal.nD,
      r.2.mem ((c.tc : Thread Cert.AReferenceIdeal.nD Cert.AReferenceIdeal.τ).loc Cert.AReferenceIdeal.main_arg0) = m ((c.tc : Thread Cert.AReferenceIdeal.nD Cert.AReferenceIdeal.τ).loc Cert.AReferenceIdeal.main_arg0)
      ∧ r.2.mem ((c.tc : Thread Cert.AReferenceIdeal.nD Cert.AReferenceIdeal.τ).loc Cert.AReferenceIdeal.main_arg1) = m ((c.tc : Thread Cert.AReferenceIdeal.nD Cert.AReferenceIdeal.τ).loc Cert.AReferenceIdeal.main_arg1))
      ∧ r.2.sem = fun _ => 0)

def quiescent_OKernel [hOKernel : Cert.OKernel.Facts] : Prop :=
  ∀ (m : (ℓ : Loc Cert.OKernel.nD Cert.OKernel.τ Cert.OKernel.sig) → Buf (Elt Bits) ℓ) (g : Dev Cert.OKernel.nD → PrngReg), Pre_OKernel m →
    θ_run (Cert.OKernel.defs (F := Bits)) (onTc (τ := Cert.OKernel.τ) (Cert.OKernel.main (F := Bits))) ⟨m, fun _ => 0, g⟩ (fun r => (∀ c : Dev Cert.OKernel.nD,
      r.2.mem ((c.tc : Thread Cert.OKernel.nD Cert.OKernel.τ).loc Cert.OKernel.main_arg0) = m ((c.tc : Thread Cert.OKernel.nD Cert.OKernel.τ).loc Cert.OKernel.main_arg0)
      ∧ r.2.mem ((c.tc : Thread Cert.OKernel.nD Cert.OKernel.τ).loc Cert.OKernel.main_arg1) = m ((c.tc : Thread Cert.OKernel.nD Cert.OKernel.τ).loc Cert.OKernel.main_arg1)
      ∧ r.2.mem ((c.tc : Thread Cert.OKernel.nD Cert.OKernel.τ).loc Cert.OKernel.main_arg2) = m ((c.tc : Thread Cert.OKernel.nD Cert.OKernel.τ).loc Cert.OKernel.main_arg2))
      ∧ r.2.sem = fun _ => 0)

def quiescent_OKernelIdeal [hOKernelIdeal : Cert.OKernelIdeal.Facts] : Prop :=
  ∀ (m : (ℓ : Loc Cert.OKernelIdeal.nD Cert.OKernelIdeal.τ Cert.OKernelIdeal.sig) → Buf (Elt Ideal) ℓ) (g : Dev Cert.OKernelIdeal.nD → PrngReg), Pre_OKernelIdeal m →
    θ_run (Cert.OKernelIdeal.defs (F := Ideal)) (onTc (τ := Cert.OKernelIdeal.τ) (Cert.OKernelIdeal.main (F := Ideal))) ⟨m, fun _ => 0, g⟩ (fun r => (∀ c : Dev Cert.OKernelIdeal.nD,
      r.2.mem ((c.tc : Thread Cert.OKernelIdeal.nD Cert.OKernelIdeal.τ).loc Cert.OKernelIdeal.main_arg0) = m ((c.tc : Thread Cert.OKernelIdeal.nD Cert.OKernelIdeal.τ).loc Cert.OKernelIdeal.main_arg0)
      ∧ r.2.mem ((c.tc : Thread Cert.OKernelIdeal.nD Cert.OKernelIdeal.τ).loc Cert.OKernelIdeal.main_arg1) = m ((c.tc : Thread Cert.OKernelIdeal.nD Cert.OKernelIdeal.τ).loc Cert.OKernelIdeal.main_arg1)
      ∧ r.2.mem ((c.tc : Thread Cert.OKernelIdeal.nD Cert.OKernelIdeal.τ).loc Cert.OKernelIdeal.main_arg2) = m ((c.tc : Thread Cert.OKernelIdeal.nD Cert.OKernelIdeal.τ).loc Cert.OKernelIdeal.main_arg2))
      ∧ r.2.sem = fun _ => 0)

def quiescent_OReferenceIdeal [hOReferenceIdeal : Cert.OReferenceIdeal.Facts] : Prop :=
  ∀ (m : (ℓ : Loc Cert.OReferenceIdeal.nD Cert.OReferenceIdeal.τ Cert.OReferenceIdeal.sig) → Buf (Elt Ideal) ℓ) (g : Dev Cert.OReferenceIdeal.nD → PrngReg), Pre_OReferenceIdeal m →
    θ_run (Cert.OReferenceIdeal.defs (F := Ideal)) (onTc (τ := Cert.OReferenceIdeal.τ) (Cert.OReferenceIdeal.main (F := Ideal))) ⟨m, fun _ => 0, g⟩ (fun r => (∀ c : Dev Cert.OReferenceIdeal.nD,
      r.2.mem ((c.tc : Thread Cert.OReferenceIdeal.nD Cert.OReferenceIdeal.τ).loc Cert.OReferenceIdeal.main_arg0) = m ((c.tc : Thread Cert.OReferenceIdeal.nD Cert.OReferenceIdeal.τ).loc Cert.OReferenceIdeal.main_arg0)
      ∧ r.2.mem ((c.tc : Thread Cert.OReferenceIdeal.nD Cert.OReferenceIdeal.τ).loc Cert.OReferenceIdeal.main_arg1) = m ((c.tc : Thread Cert.OReferenceIdeal.nD Cert.OReferenceIdeal.τ).loc Cert.OReferenceIdeal.main_arg1)
      ∧ r.2.mem ((c.tc : Thread Cert.OReferenceIdeal.nD Cert.OReferenceIdeal.τ).loc Cert.OReferenceIdeal.main_arg2) = m ((c.tc : Thread Cert.OReferenceIdeal.nD Cert.OReferenceIdeal.τ).loc Cert.OReferenceIdeal.main_arg2))
      ∧ r.2.sem = fun _ => 0)

def preserves_Kernel_KernelIdeal : Prop :=
  True

def algebraic_KernelIdeal_ReferenceIdeal_pre_finite_sc [hKernelIdeal : Cert.KernelIdeal.Facts] [hReferenceIdeal : Cert.ReferenceIdeal.Facts] [hPre_finite_sc : Cert.Pre_finite_sc.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_sc m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)) (v4 : (c : Dev Cert.KernelIdeal.nD) → Buf (Elt Ideal) ((c.tc : Thread Cert.KernelIdeal.nD Cert.KernelIdeal.τ).loc Cert.KernelIdeal.main_v0_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_v0_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v129) = v0 c
          ∧ r.2.mem ((c.tc : Thread Cert.ReferenceIdeal.nD Cert.ReferenceIdeal.τ).loc Cert.ReferenceIdeal.main_v131) = v1 c
          ∧ r.2.mem ((c.tc : Thread Cert.ReferenceIdeal.nD Cert.ReferenceIdeal.τ).loc Cert.ReferenceIdeal.main_v128) = v2 c
          ∧ r.2.mem ((c.tc : Thread Cert.ReferenceIdeal.nD Cert.ReferenceIdeal.τ).loc Cert.ReferenceIdeal.main_v133) = v3 c
          ∧ r.2.mem ((c.tc : Thread Cert.ReferenceIdeal.nD Cert.ReferenceIdeal.τ).loc Cert.ReferenceIdeal.main_v135) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_FKernel_FKernelIdeal : Prop :=
  True

def algebraic_FKernelIdeal_FReferenceIdeal_pre_finite_ffn [hFKernelIdeal : Cert.FKernelIdeal.Facts] [hFReferenceIdeal : Cert.FReferenceIdeal.Facts] [hPre_finite_ffn : Cert.Pre_finite_ffn.Facts] : Prop :=
  ∀ (m : (ℓ : Loc Cert.FKernelIdeal.nD Cert.FKernelIdeal.τ Cert.FKernelIdeal.sig) → Buf (Elt Ideal) ℓ) (g : Dev Cert.FKernelIdeal.nD → PrngReg)
    (m' : (ℓ : Loc Cert.FReferenceIdeal.nD Cert.FReferenceIdeal.τ Cert.FReferenceIdeal.sig) → Buf (Elt Ideal) ℓ) (g' : Dev Cert.FReferenceIdeal.nD → PrngReg), Pre_FKernelIdeal_finite_ffn m →
    (∀ c : Dev Cert.FKernelIdeal.nD,
      m' ((c.tc : Thread Cert.FReferenceIdeal.nD Cert.FReferenceIdeal.τ).loc Cert.FReferenceIdeal.main_arg0) = m ((c.tc : Thread Cert.FKernelIdeal.nD Cert.FKernelIdeal.τ).loc Cert.FKernelIdeal.main_arg0)
      ∧ m' ((c.tc : Thread Cert.FReferenceIdeal.nD Cert.FReferenceIdeal.τ).loc Cert.FReferenceIdeal.main_arg1) = m ((c.tc : Thread Cert.FKernelIdeal.nD Cert.FKernelIdeal.τ).loc Cert.FKernelIdeal.main_arg1)
      ∧ m' ((c.tc : Thread Cert.FReferenceIdeal.nD Cert.FReferenceIdeal.τ).loc Cert.FReferenceIdeal.main_arg2) = m ((c.tc : Thread Cert.FKernelIdeal.nD Cert.FKernelIdeal.τ).loc Cert.FKernelIdeal.main_arg2)
      ∧ m' ((c.tc : Thread Cert.FReferenceIdeal.nD Cert.FReferenceIdeal.τ).loc Cert.FReferenceIdeal.main_arg3) = m ((c.tc : Thread Cert.FKernelIdeal.nD Cert.FKernelIdeal.τ).loc Cert.FKernelIdeal.main_arg3)
      ∧ m' ((c.tc : Thread Cert.FReferenceIdeal.nD Cert.FReferenceIdeal.τ).loc Cert.FReferenceIdeal.main_arg4) = m ((c.tc : Thread Cert.FKernelIdeal.nD Cert.FKernelIdeal.τ).loc Cert.FKernelIdeal.main_arg4)
      ∧ m' ((c.tc : Thread Cert.FReferenceIdeal.nD Cert.FReferenceIdeal.τ).loc Cert.FReferenceIdeal.main_arg5) = m ((c.tc : Thread Cert.FKernelIdeal.nD Cert.FKernelIdeal.τ).loc Cert.FKernelIdeal.main_arg5)
      ∧ m' ((c.tc : Thread Cert.FReferenceIdeal.nD Cert.FReferenceIdeal.τ).loc Cert.FReferenceIdeal.main_arg6) = m ((c.tc : Thread Cert.FKernelIdeal.nD Cert.FKernelIdeal.τ).loc Cert.FKernelIdeal.main_arg6)) →
    ∃ (v0 : (c : Dev Cert.FKernelIdeal.nD) → Buf (Elt Ideal) ((c.tc : Thread Cert.FKernelIdeal.nD Cert.FKernelIdeal.τ).loc Cert.FKernelIdeal.main_v0_0)) (v1 : (c : Dev Cert.FKernelIdeal.nD) → Buf (Elt Ideal) ((c.tc : Thread Cert.FKernelIdeal.nD Cert.FKernelIdeal.τ).loc Cert.FKernelIdeal.main_v0_1)) (v2 : (c : Dev Cert.FKernelIdeal.nD) → Buf (Elt Ideal) ((c.tc : Thread Cert.FKernelIdeal.nD Cert.FKernelIdeal.τ).loc Cert.FKernelIdeal.main_v0_2)) (v3 : (c : Dev Cert.FKernelIdeal.nD) → Buf (Elt Ideal) ((c.tc : Thread Cert.FKernelIdeal.nD Cert.FKernelIdeal.τ).loc Cert.FKernelIdeal.main_v0_3)) (v4 : (c : Dev Cert.FKernelIdeal.nD) → Buf (Elt Ideal) ((c.tc : Thread Cert.FKernelIdeal.nD Cert.FKernelIdeal.τ).loc Cert.FKernelIdeal.main_v0_4)),
      θ_run (Cert.FKernelIdeal.defs (F := Ideal)) (onTc (τ := Cert.FKernelIdeal.τ) (Cert.FKernelIdeal.main (F := Ideal))) ⟨m, fun _ => 0, g⟩ (fun r => ∀ c : Dev Cert.FKernelIdeal.nD,
          r.2.mem ((c.tc : Thread Cert.FKernelIdeal.nD Cert.FKernelIdeal.τ).loc Cert.FKernelIdeal.main_v0_0) = v0 c
          ∧ r.2.mem ((c.tc : Thread Cert.FKernelIdeal.nD Cert.FKernelIdeal.τ).loc Cert.FKernelIdeal.main_v0_1) = v1 c
          ∧ r.2.mem ((c.tc : Thread Cert.FKernelIdeal.nD Cert.FKernelIdeal.τ).loc Cert.FKernelIdeal.main_v0_2) = v2 c
          ∧ r.2.mem ((c.tc : Thread Cert.FKernelIdeal.nD Cert.FKernelIdeal.τ).loc Cert.FKernelIdeal.main_v0_3) = v3 c
          ∧ r.2.mem ((c.tc : Thread Cert.FKernelIdeal.nD Cert.FKernelIdeal.τ).loc Cert.FKernelIdeal.main_v0_4) = v4 c
          ∧ r.2.mem ((c.tc : Thread Cert.FKernelIdeal.nD Cert.FKernelIdeal.τ).loc Cert.FKernelIdeal.main_arg0) = m ((c.tc : Thread Cert.FKernelIdeal.nD Cert.FKernelIdeal.τ).loc Cert.FKernelIdeal.main_arg0)
          ∧ r.2.mem ((c.tc : Thread Cert.FKernelIdeal.nD Cert.FKernelIdeal.τ).loc Cert.FKernelIdeal.main_arg1) = m ((c.tc : Thread Cert.FKernelIdeal.nD Cert.FKernelIdeal.τ).loc Cert.FKernelIdeal.main_arg1)
          ∧ r.2.mem ((c.tc : Thread Cert.FKernelIdeal.nD Cert.FKernelIdeal.τ).loc Cert.FKernelIdeal.main_arg2) = m ((c.tc : Thread Cert.FKernelIdeal.nD Cert.FKernelIdeal.τ).loc Cert.FKernelIdeal.main_arg2)
          ∧ r.2.mem ((c.tc : Thread Cert.FKernelIdeal.nD Cert.FKernelIdeal.τ).loc Cert.FKernelIdeal.main_arg3) = m ((c.tc : Thread Cert.FKernelIdeal.nD Cert.FKernelIdeal.τ).loc Cert.FKernelIdeal.main_arg3)
          ∧ r.2.mem ((c.tc : Thread Cert.FKernelIdeal.nD Cert.FKernelIdeal.τ).loc Cert.FKernelIdeal.main_arg4) = m ((c.tc : Thread Cert.FKernelIdeal.nD Cert.FKernelIdeal.τ).loc Cert.FKernelIdeal.main_arg4)
          ∧ r.2.mem ((c.tc : Thread Cert.FKernelIdeal.nD Cert.FKernelIdeal.τ).loc Cert.FKernelIdeal.main_arg5) = m ((c.tc : Thread Cert.FKernelIdeal.nD Cert.FKernelIdeal.τ).loc Cert.FKernelIdeal.main_arg5)
          ∧ r.2.mem ((c.tc : Thread Cert.FKernelIdeal.nD Cert.FKernelIdeal.τ).loc Cert.FKernelIdeal.main_arg6) = m ((c.tc : Thread Cert.FKernelIdeal.nD Cert.FKernelIdeal.τ).loc Cert.FKernelIdeal.main_arg6))
      ∧ θ_run (Cert.FReferenceIdeal.defs (F := Ideal)) (onTc (τ := Cert.FReferenceIdeal.τ) (Cert.FReferenceIdeal.main (F := Ideal))) ⟨m', fun _ => 0, g'⟩ (fun r => ∀ c : Dev Cert.FReferenceIdeal.nD,
          r.2.mem ((c.tc : Thread Cert.FReferenceIdeal.nD Cert.FReferenceIdeal.τ).loc Cert.FReferenceIdeal.main_v132) = v0 c
          ∧ r.2.mem ((c.tc : Thread Cert.FReferenceIdeal.nD Cert.FReferenceIdeal.τ).loc Cert.FReferenceIdeal.main_v134) = v1 c
          ∧ r.2.mem ((c.tc : Thread Cert.FReferenceIdeal.nD Cert.FReferenceIdeal.τ).loc Cert.FReferenceIdeal.main_v131) = v2 c
          ∧ r.2.mem ((c.tc : Thread Cert.FReferenceIdeal.nD Cert.FReferenceIdeal.τ).loc Cert.FReferenceIdeal.main_v136) = v3 c
          ∧ r.2.mem ((c.tc : Thread Cert.FReferenceIdeal.nD Cert.FReferenceIdeal.τ).loc Cert.FReferenceIdeal.main_v138) = v4 c
          ∧ r.2.mem ((c.tc : Thread Cert.FReferenceIdeal.nD Cert.FReferenceIdeal.τ).loc Cert.FReferenceIdeal.main_arg0) = m' ((c.tc : Thread Cert.FReferenceIdeal.nD Cert.FReferenceIdeal.τ).loc Cert.FReferenceIdeal.main_arg0)
          ∧ r.2.mem ((c.tc : Thread Cert.FReferenceIdeal.nD Cert.FReferenceIdeal.τ).loc Cert.FReferenceIdeal.main_arg1) = m' ((c.tc : Thread Cert.FReferenceIdeal.nD Cert.FReferenceIdeal.τ).loc Cert.FReferenceIdeal.main_arg1)
          ∧ r.2.mem ((c.tc : Thread Cert.FReferenceIdeal.nD Cert.FReferenceIdeal.τ).loc Cert.FReferenceIdeal.main_arg2) = m' ((c.tc : Thread Cert.FReferenceIdeal.nD Cert.FReferenceIdeal.τ).loc Cert.FReferenceIdeal.main_arg2)
          ∧ r.2.mem ((c.tc : Thread Cert.FReferenceIdeal.nD Cert.FReferenceIdeal.τ).loc Cert.FReferenceIdeal.main_arg3) = m' ((c.tc : Thread Cert.FReferenceIdeal.nD Cert.FReferenceIdeal.τ).loc Cert.FReferenceIdeal.main_arg3)
          ∧ r.2.mem ((c.tc : Thread Cert.FReferenceIdeal.nD Cert.FReferenceIdeal.τ).loc Cert.FReferenceIdeal.main_arg4) = m' ((c.tc : Thread Cert.FReferenceIdeal.nD Cert.FReferenceIdeal.τ).loc Cert.FReferenceIdeal.main_arg4)
          ∧ r.2.mem ((c.tc : Thread Cert.FReferenceIdeal.nD Cert.FReferenceIdeal.τ).loc Cert.FReferenceIdeal.main_arg5) = m' ((c.tc : Thread Cert.FReferenceIdeal.nD Cert.FReferenceIdeal.τ).loc Cert.FReferenceIdeal.main_arg5)
          ∧ r.2.mem ((c.tc : Thread Cert.FReferenceIdeal.nD Cert.FReferenceIdeal.τ).loc Cert.FReferenceIdeal.main_arg6) = m' ((c.tc : Thread Cert.FReferenceIdeal.nD Cert.FReferenceIdeal.τ).loc Cert.FReferenceIdeal.main_arg6))

def preserves_GKernel_GKernelIdeal : Prop :=
  True

def algebraic_GKernelIdeal_GReferenceIdeal_pre_finite_ffn [hGKernelIdeal : Cert.GKernelIdeal.Facts] [hGReferenceIdeal : Cert.GReferenceIdeal.Facts] [hPre_finite_ffn : Cert.Pre_finite_ffn.Facts] : Prop :=
  ∀ (m : (ℓ : Loc Cert.GKernelIdeal.nD Cert.GKernelIdeal.τ Cert.GKernelIdeal.sig) → Buf (Elt Ideal) ℓ) (g : Dev Cert.GKernelIdeal.nD → PrngReg)
    (m' : (ℓ : Loc Cert.GReferenceIdeal.nD Cert.GReferenceIdeal.τ Cert.GReferenceIdeal.sig) → Buf (Elt Ideal) ℓ) (g' : Dev Cert.GReferenceIdeal.nD → PrngReg), Pre_GKernelIdeal_finite_ffn m →
    (∀ c : Dev Cert.GKernelIdeal.nD,
      m' ((c.tc : Thread Cert.GReferenceIdeal.nD Cert.GReferenceIdeal.τ).loc Cert.GReferenceIdeal.main_arg0) = m ((c.tc : Thread Cert.GKernelIdeal.nD Cert.GKernelIdeal.τ).loc Cert.GKernelIdeal.main_arg0)
      ∧ m' ((c.tc : Thread Cert.GReferenceIdeal.nD Cert.GReferenceIdeal.τ).loc Cert.GReferenceIdeal.main_arg1) = m ((c.tc : Thread Cert.GKernelIdeal.nD Cert.GKernelIdeal.τ).loc Cert.GKernelIdeal.main_arg1)
      ∧ m' ((c.tc : Thread Cert.GReferenceIdeal.nD Cert.GReferenceIdeal.τ).loc Cert.GReferenceIdeal.main_arg2) = m ((c.tc : Thread Cert.GKernelIdeal.nD Cert.GKernelIdeal.τ).loc Cert.GKernelIdeal.main_arg2)
      ∧ m' ((c.tc : Thread Cert.GReferenceIdeal.nD Cert.GReferenceIdeal.τ).loc Cert.GReferenceIdeal.main_arg3) = m ((c.tc : Thread Cert.GKernelIdeal.nD Cert.GKernelIdeal.τ).loc Cert.GKernelIdeal.main_arg3)
      ∧ m' ((c.tc : Thread Cert.GReferenceIdeal.nD Cert.GReferenceIdeal.τ).loc Cert.GReferenceIdeal.main_arg4) = m ((c.tc : Thread Cert.GKernelIdeal.nD Cert.GKernelIdeal.τ).loc Cert.GKernelIdeal.main_arg4)
      ∧ m' ((c.tc : Thread Cert.GReferenceIdeal.nD Cert.GReferenceIdeal.τ).loc Cert.GReferenceIdeal.main_arg5) = m ((c.tc : Thread Cert.GKernelIdeal.nD Cert.GKernelIdeal.τ).loc Cert.GKernelIdeal.main_arg5)
      ∧ m' ((c.tc : Thread Cert.GReferenceIdeal.nD Cert.GReferenceIdeal.τ).loc Cert.GReferenceIdeal.main_arg6) = m ((c.tc : Thread Cert.GKernelIdeal.nD Cert.GKernelIdeal.τ).loc Cert.GKernelIdeal.main_arg6)) →
    ∃ (v0 : (c : Dev Cert.GKernelIdeal.nD) → Buf (Elt Ideal) ((c.tc : Thread Cert.GKernelIdeal.nD Cert.GKernelIdeal.τ).loc Cert.GKernelIdeal.main_v0_0)) (v1 : (c : Dev Cert.GKernelIdeal.nD) → Buf (Elt Ideal) ((c.tc : Thread Cert.GKernelIdeal.nD Cert.GKernelIdeal.τ).loc Cert.GKernelIdeal.main_v0_1)) (v2 : (c : Dev Cert.GKernelIdeal.nD) → Buf (Elt Ideal) ((c.tc : Thread Cert.GKernelIdeal.nD Cert.GKernelIdeal.τ).loc Cert.GKernelIdeal.main_v0_2)) (v3 : (c : Dev Cert.GKernelIdeal.nD) → Buf (Elt Ideal) ((c.tc : Thread Cert.GKernelIdeal.nD Cert.GKernelIdeal.τ).loc Cert.GKernelIdeal.main_v0_3)) (v4 : (c : Dev Cert.GKernelIdeal.nD) → Buf (Elt Ideal) ((c.tc : Thread Cert.GKernelIdeal.nD Cert.GKernelIdeal.τ).loc Cert.GKernelIdeal.main_v0_4)),
      θ_run (Cert.GKernelIdeal.defs (F := Ideal)) (onTc (τ := Cert.GKernelIdeal.τ) (Cert.GKernelIdeal.main (F := Ideal))) ⟨m, fun _ => 0, g⟩ (fun r => ∀ c : Dev Cert.GKernelIdeal.nD,
          r.2.mem ((c.tc : Thread Cert.GKernelIdeal.nD Cert.GKernelIdeal.τ).loc Cert.GKernelIdeal.main_v0_0) = v0 c
          ∧ r.2.mem ((c.tc : Thread Cert.GKernelIdeal.nD Cert.GKernelIdeal.τ).loc Cert.GKernelIdeal.main_v0_1) = v1 c
          ∧ r.2.mem ((c.tc : Thread Cert.GKernelIdeal.nD Cert.GKernelIdeal.τ).loc Cert.GKernelIdeal.main_v0_2) = v2 c
          ∧ r.2.mem ((c.tc : Thread Cert.GKernelIdeal.nD Cert.GKernelIdeal.τ).loc Cert.GKernelIdeal.main_v0_3) = v3 c
          ∧ r.2.mem ((c.tc : Thread Cert.GKernelIdeal.nD Cert.GKernelIdeal.τ).loc Cert.GKernelIdeal.main_v0_4) = v4 c
          ∧ r.2.mem ((c.tc : Thread Cert.GKernelIdeal.nD Cert.GKernelIdeal.τ).loc Cert.GKernelIdeal.main_arg0) = m ((c.tc : Thread Cert.GKernelIdeal.nD Cert.GKernelIdeal.τ).loc Cert.GKernelIdeal.main_arg0)
          ∧ r.2.mem ((c.tc : Thread Cert.GKernelIdeal.nD Cert.GKernelIdeal.τ).loc Cert.GKernelIdeal.main_arg1) = m ((c.tc : Thread Cert.GKernelIdeal.nD Cert.GKernelIdeal.τ).loc Cert.GKernelIdeal.main_arg1)
          ∧ r.2.mem ((c.tc : Thread Cert.GKernelIdeal.nD Cert.GKernelIdeal.τ).loc Cert.GKernelIdeal.main_arg2) = m ((c.tc : Thread Cert.GKernelIdeal.nD Cert.GKernelIdeal.τ).loc Cert.GKernelIdeal.main_arg2)
          ∧ r.2.mem ((c.tc : Thread Cert.GKernelIdeal.nD Cert.GKernelIdeal.τ).loc Cert.GKernelIdeal.main_arg3) = m ((c.tc : Thread Cert.GKernelIdeal.nD Cert.GKernelIdeal.τ).loc Cert.GKernelIdeal.main_arg3)
          ∧ r.2.mem ((c.tc : Thread Cert.GKernelIdeal.nD Cert.GKernelIdeal.τ).loc Cert.GKernelIdeal.main_arg4) = m ((c.tc : Thread Cert.GKernelIdeal.nD Cert.GKernelIdeal.τ).loc Cert.GKernelIdeal.main_arg4)
          ∧ r.2.mem ((c.tc : Thread Cert.GKernelIdeal.nD Cert.GKernelIdeal.τ).loc Cert.GKernelIdeal.main_arg5) = m ((c.tc : Thread Cert.GKernelIdeal.nD Cert.GKernelIdeal.τ).loc Cert.GKernelIdeal.main_arg5)
          ∧ r.2.mem ((c.tc : Thread Cert.GKernelIdeal.nD Cert.GKernelIdeal.τ).loc Cert.GKernelIdeal.main_arg6) = m ((c.tc : Thread Cert.GKernelIdeal.nD Cert.GKernelIdeal.τ).loc Cert.GKernelIdeal.main_arg6))
      ∧ θ_run (Cert.GReferenceIdeal.defs (F := Ideal)) (onTc (τ := Cert.GReferenceIdeal.τ) (Cert.GReferenceIdeal.main (F := Ideal))) ⟨m', fun _ => 0, g'⟩ (fun r => ∀ c : Dev Cert.GReferenceIdeal.nD,
          r.2.mem ((c.tc : Thread Cert.GReferenceIdeal.nD Cert.GReferenceIdeal.τ).loc Cert.GReferenceIdeal.main_v132) = v0 c
          ∧ r.2.mem ((c.tc : Thread Cert.GReferenceIdeal.nD Cert.GReferenceIdeal.τ).loc Cert.GReferenceIdeal.main_v134) = v1 c
          ∧ r.2.mem ((c.tc : Thread Cert.GReferenceIdeal.nD Cert.GReferenceIdeal.τ).loc Cert.GReferenceIdeal.main_v131) = v2 c
          ∧ r.2.mem ((c.tc : Thread Cert.GReferenceIdeal.nD Cert.GReferenceIdeal.τ).loc Cert.GReferenceIdeal.main_v136) = v3 c
          ∧ r.2.mem ((c.tc : Thread Cert.GReferenceIdeal.nD Cert.GReferenceIdeal.τ).loc Cert.GReferenceIdeal.main_v138) = v4 c
          ∧ r.2.mem ((c.tc : Thread Cert.GReferenceIdeal.nD Cert.GReferenceIdeal.τ).loc Cert.GReferenceIdeal.main_arg0) = m' ((c.tc : Thread Cert.GReferenceIdeal.nD Cert.GReferenceIdeal.τ).loc Cert.GReferenceIdeal.main_arg0)
          ∧ r.2.mem ((c.tc : Thread Cert.GReferenceIdeal.nD Cert.GReferenceIdeal.τ).loc Cert.GReferenceIdeal.main_arg1) = m' ((c.tc : Thread Cert.GReferenceIdeal.nD Cert.GReferenceIdeal.τ).loc Cert.GReferenceIdeal.main_arg1)
          ∧ r.2.mem ((c.tc : Thread Cert.GReferenceIdeal.nD Cert.GReferenceIdeal.τ).loc Cert.GReferenceIdeal.main_arg2) = m' ((c.tc : Thread Cert.GReferenceIdeal.nD Cert.GReferenceIdeal.τ).loc Cert.GReferenceIdeal.main_arg2)
          ∧ r.2.mem ((c.tc : Thread Cert.GReferenceIdeal.nD Cert.GReferenceIdeal.τ).loc Cert.GReferenceIdeal.main_arg3) = m' ((c.tc : Thread Cert.GReferenceIdeal.nD Cert.GReferenceIdeal.τ).loc Cert.GReferenceIdeal.main_arg3)
          ∧ r.2.mem ((c.tc : Thread Cert.GReferenceIdeal.nD Cert.GReferenceIdeal.τ).loc Cert.GReferenceIdeal.main_arg4) = m' ((c.tc : Thread Cert.GReferenceIdeal.nD Cert.GReferenceIdeal.τ).loc Cert.GReferenceIdeal.main_arg4)
          ∧ r.2.mem ((c.tc : Thread Cert.GReferenceIdeal.nD Cert.GReferenceIdeal.τ).loc Cert.GReferenceIdeal.main_arg5) = m' ((c.tc : Thread Cert.GReferenceIdeal.nD Cert.GReferenceIdeal.τ).loc Cert.GReferenceIdeal.main_arg5)
          ∧ r.2.mem ((c.tc : Thread Cert.GReferenceIdeal.nD Cert.GReferenceIdeal.τ).loc Cert.GReferenceIdeal.main_arg6) = m' ((c.tc : Thread Cert.GReferenceIdeal.nD Cert.GReferenceIdeal.τ).loc Cert.GReferenceIdeal.main_arg6))

def preserves_HKernel_HKernelIdeal : Prop :=
  True

def algebraic_HKernelIdeal_HReferenceIdeal [hHKernelIdeal : Cert.HKernelIdeal.Facts] [hHReferenceIdeal : Cert.HReferenceIdeal.Facts] : Prop :=
  ∀ (m : (ℓ : Loc Cert.HKernelIdeal.nD Cert.HKernelIdeal.τ Cert.HKernelIdeal.sig) → Buf (Elt Ideal) ℓ) (g : Dev Cert.HKernelIdeal.nD → PrngReg)
    (m' : (ℓ : Loc Cert.HReferenceIdeal.nD Cert.HReferenceIdeal.τ Cert.HReferenceIdeal.sig) → Buf (Elt Ideal) ℓ) (g' : Dev Cert.HReferenceIdeal.nD → PrngReg), Pre_HKernelIdeal m →
    (∀ c : Dev Cert.HKernelIdeal.nD,
      m' ((c.tc : Thread Cert.HReferenceIdeal.nD Cert.HReferenceIdeal.τ).loc Cert.HReferenceIdeal.main_arg0) = m ((c.tc : Thread Cert.HKernelIdeal.nD Cert.HKernelIdeal.τ).loc Cert.HKernelIdeal.main_arg0)
      ∧ m' ((c.tc : Thread Cert.HReferenceIdeal.nD Cert.HReferenceIdeal.τ).loc Cert.HReferenceIdeal.main_arg1) = m ((c.tc : Thread Cert.HKernelIdeal.nD Cert.HKernelIdeal.τ).loc Cert.HKernelIdeal.main_arg1)
      ∧ m' ((c.tc : Thread Cert.HReferenceIdeal.nD Cert.HReferenceIdeal.τ).loc Cert.HReferenceIdeal.main_arg2) = m ((c.tc : Thread Cert.HKernelIdeal.nD Cert.HKernelIdeal.τ).loc Cert.HKernelIdeal.main_arg2)
      ∧ m' ((c.tc : Thread Cert.HReferenceIdeal.nD Cert.HReferenceIdeal.τ).loc Cert.HReferenceIdeal.main_arg3) = m ((c.tc : Thread Cert.HKernelIdeal.nD Cert.HKernelIdeal.τ).loc Cert.HKernelIdeal.main_arg3)
      ∧ m' ((c.tc : Thread Cert.HReferenceIdeal.nD Cert.HReferenceIdeal.τ).loc Cert.HReferenceIdeal.main_arg4) = m ((c.tc : Thread Cert.HKernelIdeal.nD Cert.HKernelIdeal.τ).loc Cert.HKernelIdeal.main_arg4)
      ∧ m' ((c.tc : Thread Cert.HReferenceIdeal.nD Cert.HReferenceIdeal.τ).loc Cert.HReferenceIdeal.main_arg5) = m ((c.tc : Thread Cert.HKernelIdeal.nD Cert.HKernelIdeal.τ).loc Cert.HKernelIdeal.main_arg5)) →
    ∃ (v0 : (c : Dev Cert.HKernelIdeal.nD) → Buf (Elt Ideal) ((c.tc : Thread Cert.HKernelIdeal.nD Cert.HKernelIdeal.τ).loc Cert.HKernelIdeal.main_v0_0)) (v1 : (c : Dev Cert.HKernelIdeal.nD) → Buf (Elt Ideal) ((c.tc : Thread Cert.HKernelIdeal.nD Cert.HKernelIdeal.τ).loc Cert.HKernelIdeal.main_v0_1)) (v2 : (c : Dev Cert.HKernelIdeal.nD) → Buf (Elt Ideal) ((c.tc : Thread Cert.HKernelIdeal.nD Cert.HKernelIdeal.τ).loc Cert.HKernelIdeal.main_v0_2)) (v3 : (c : Dev Cert.HKernelIdeal.nD) → Buf (Elt Ideal) ((c.tc : Thread Cert.HKernelIdeal.nD Cert.HKernelIdeal.τ).loc Cert.HKernelIdeal.main_v0_3)),
      θ_run (Cert.HKernelIdeal.defs (F := Ideal)) (onTc (τ := Cert.HKernelIdeal.τ) (Cert.HKernelIdeal.main (F := Ideal))) ⟨m, fun _ => 0, g⟩ (fun r => ∀ c : Dev Cert.HKernelIdeal.nD,
          r.2.mem ((c.tc : Thread Cert.HKernelIdeal.nD Cert.HKernelIdeal.τ).loc Cert.HKernelIdeal.main_v0_0) = v0 c
          ∧ r.2.mem ((c.tc : Thread Cert.HKernelIdeal.nD Cert.HKernelIdeal.τ).loc Cert.HKernelIdeal.main_v0_1) = v1 c
          ∧ r.2.mem ((c.tc : Thread Cert.HKernelIdeal.nD Cert.HKernelIdeal.τ).loc Cert.HKernelIdeal.main_v0_2) = v2 c
          ∧ r.2.mem ((c.tc : Thread Cert.HKernelIdeal.nD Cert.HKernelIdeal.τ).loc Cert.HKernelIdeal.main_v0_3) = v3 c
          ∧ r.2.mem ((c.tc : Thread Cert.HKernelIdeal.nD Cert.HKernelIdeal.τ).loc Cert.HKernelIdeal.main_arg0) = m ((c.tc : Thread Cert.HKernelIdeal.nD Cert.HKernelIdeal.τ).loc Cert.HKernelIdeal.main_arg0)
          ∧ r.2.mem ((c.tc : Thread Cert.HKernelIdeal.nD Cert.HKernelIdeal.τ).loc Cert.HKernelIdeal.main_arg1) = m ((c.tc : Thread Cert.HKernelIdeal.nD Cert.HKernelIdeal.τ).loc Cert.HKernelIdeal.main_arg1)
          ∧ r.2.mem ((c.tc : Thread Cert.HKernelIdeal.nD Cert.HKernelIdeal.τ).loc Cert.HKernelIdeal.main_arg2) = m ((c.tc : Thread Cert.HKernelIdeal.nD Cert.HKernelIdeal.τ).loc Cert.HKernelIdeal.main_arg2)
          ∧ r.2.mem ((c.tc : Thread Cert.HKernelIdeal.nD Cert.HKernelIdeal.τ).loc Cert.HKernelIdeal.main_arg3) = m ((c.tc : Thread Cert.HKernelIdeal.nD Cert.HKernelIdeal.τ).loc Cert.HKernelIdeal.main_arg3)
          ∧ r.2.mem ((c.tc : Thread Cert.HKernelIdeal.nD Cert.HKernelIdeal.τ).loc Cert.HKernelIdeal.main_arg4) = m ((c.tc : Thread Cert.HKernelIdeal.nD Cert.HKernelIdeal.τ).loc Cert.HKernelIdeal.main_arg4)
          ∧ r.2.mem ((c.tc : Thread Cert.HKernelIdeal.nD Cert.HKernelIdeal.τ).loc Cert.HKernelIdeal.main_arg5) = m ((c.tc : Thread Cert.HKernelIdeal.nD Cert.HKernelIdeal.τ).loc Cert.HKernelIdeal.main_arg5))
      ∧ θ_run (Cert.HReferenceIdeal.defs (F := Ideal)) (onTc (τ := Cert.HReferenceIdeal.τ) (Cert.HReferenceIdeal.main (F := Ideal))) ⟨m', fun _ => 0, g'⟩ (fun r => ∀ c : Dev Cert.HReferenceIdeal.nD,
          r.2.mem ((c.tc : Thread Cert.HReferenceIdeal.nD Cert.HReferenceIdeal.τ).loc Cert.HReferenceIdeal.main_v3) = v0 c
          ∧ r.2.mem ((c.tc : Thread Cert.HReferenceIdeal.nD Cert.HReferenceIdeal.τ).loc Cert.HReferenceIdeal.main_v34) = v1 c
          ∧ r.2.mem ((c.tc : Thread Cert.HReferenceIdeal.nD Cert.HReferenceIdeal.τ).loc Cert.HReferenceIdeal.main_v33) = v2 c
          ∧ r.2.mem ((c.tc : Thread Cert.HReferenceIdeal.nD Cert.HReferenceIdeal.τ).loc Cert.HReferenceIdeal.main_v60) = v3 c
          ∧ r.2.mem ((c.tc : Thread Cert.HReferenceIdeal.nD Cert.HReferenceIdeal.τ).loc Cert.HReferenceIdeal.main_arg0) = m' ((c.tc : Thread Cert.HReferenceIdeal.nD Cert.HReferenceIdeal.τ).loc Cert.HReferenceIdeal.main_arg0)
          ∧ r.2.mem ((c.tc : Thread Cert.HReferenceIdeal.nD Cert.HReferenceIdeal.τ).loc Cert.HReferenceIdeal.main_arg1) = m' ((c.tc : Thread Cert.HReferenceIdeal.nD Cert.HReferenceIdeal.τ).loc Cert.HReferenceIdeal.main_arg1)
          ∧ r.2.mem ((c.tc : Thread Cert.HReferenceIdeal.nD Cert.HReferenceIdeal.τ).loc Cert.HReferenceIdeal.main_arg2) = m' ((c.tc : Thread Cert.HReferenceIdeal.nD Cert.HReferenceIdeal.τ).loc Cert.HReferenceIdeal.main_arg2)
          ∧ r.2.mem ((c.tc : Thread Cert.HReferenceIdeal.nD Cert.HReferenceIdeal.τ).loc Cert.HReferenceIdeal.main_arg3) = m' ((c.tc : Thread Cert.HReferenceIdeal.nD Cert.HReferenceIdeal.τ).loc Cert.HReferenceIdeal.main_arg3)
          ∧ r.2.mem ((c.tc : Thread Cert.HReferenceIdeal.nD Cert.HReferenceIdeal.τ).loc Cert.HReferenceIdeal.main_arg4) = m' ((c.tc : Thread Cert.HReferenceIdeal.nD Cert.HReferenceIdeal.τ).loc Cert.HReferenceIdeal.main_arg4)
          ∧ r.2.mem ((c.tc : Thread Cert.HReferenceIdeal.nD Cert.HReferenceIdeal.τ).loc Cert.HReferenceIdeal.main_arg5) = m' ((c.tc : Thread Cert.HReferenceIdeal.nD Cert.HReferenceIdeal.τ).loc Cert.HReferenceIdeal.main_arg5))

def preserves_JKernel_JKernelIdeal : Prop :=
  True

def algebraic_JKernelIdeal_JReferenceIdeal [hJKernelIdeal : Cert.JKernelIdeal.Facts] [hJReferenceIdeal : Cert.JReferenceIdeal.Facts] : Prop :=
  ∀ (m : (ℓ : Loc Cert.JKernelIdeal.nD Cert.JKernelIdeal.τ Cert.JKernelIdeal.sig) → Buf (Elt Ideal) ℓ) (g : Dev Cert.JKernelIdeal.nD → PrngReg)
    (m' : (ℓ : Loc Cert.JReferenceIdeal.nD Cert.JReferenceIdeal.τ Cert.JReferenceIdeal.sig) → Buf (Elt Ideal) ℓ) (g' : Dev Cert.JReferenceIdeal.nD → PrngReg), Pre_JKernelIdeal m →
    (∀ c : Dev Cert.JKernelIdeal.nD,
      m' ((c.tc : Thread Cert.JReferenceIdeal.nD Cert.JReferenceIdeal.τ).loc Cert.JReferenceIdeal.main_arg0) = m ((c.tc : Thread Cert.JKernelIdeal.nD Cert.JKernelIdeal.τ).loc Cert.JKernelIdeal.main_arg0)
      ∧ m' ((c.tc : Thread Cert.JReferenceIdeal.nD Cert.JReferenceIdeal.τ).loc Cert.JReferenceIdeal.main_arg1) = m ((c.tc : Thread Cert.JKernelIdeal.nD Cert.JKernelIdeal.τ).loc Cert.JKernelIdeal.main_arg1)
      ∧ m' ((c.tc : Thread Cert.JReferenceIdeal.nD Cert.JReferenceIdeal.τ).loc Cert.JReferenceIdeal.main_arg2) = m ((c.tc : Thread Cert.JKernelIdeal.nD Cert.JKernelIdeal.τ).loc Cert.JKernelIdeal.main_arg2)
      ∧ m' ((c.tc : Thread Cert.JReferenceIdeal.nD Cert.JReferenceIdeal.τ).loc Cert.JReferenceIdeal.main_arg3) = m ((c.tc : Thread Cert.JKernelIdeal.nD Cert.JKernelIdeal.τ).loc Cert.JKernelIdeal.main_arg3)
      ∧ m' ((c.tc : Thread Cert.JReferenceIdeal.nD Cert.JReferenceIdeal.τ).loc Cert.JReferenceIdeal.main_arg4) = m ((c.tc : Thread Cert.JKernelIdeal.nD Cert.JKernelIdeal.τ).loc Cert.JKernelIdeal.main_arg4)
      ∧ m' ((c.tc : Thread Cert.JReferenceIdeal.nD Cert.JReferenceIdeal.τ).loc Cert.JReferenceIdeal.main_arg5) = m ((c.tc : Thread Cert.JKernelIdeal.nD Cert.JKernelIdeal.τ).loc Cert.JKernelIdeal.main_arg5)) →
    ∃ (v0 : (c : Dev Cert.JKernelIdeal.nD) → Buf (Elt Ideal) ((c.tc : Thread Cert.JKernelIdeal.nD Cert.JKernelIdeal.τ).loc Cert.JKernelIdeal.main_v0_0)) (v1 : (c : Dev Cert.JKernelIdeal.nD) → Buf (Elt Ideal) ((c.tc : Thread Cert.JKernelIdeal.nD Cert.JKernelIdeal.τ).loc Cert.JKernelIdeal.main_v0_1)) (v2 : (c : Dev Cert.JKernelIdeal.nD) → Buf (Elt Ideal) ((c.tc : Thread Cert.JKernelIdeal.nD Cert.JKernelIdeal.τ).loc Cert.JKernelIdeal.main_v0_2)) (v3 : (c : Dev Cert.JKernelIdeal.nD) → Buf (Elt Ideal) ((c.tc : Thread Cert.JKernelIdeal.nD Cert.JKernelIdeal.τ).loc Cert.JKernelIdeal.main_v0_3)),
      θ_run (Cert.JKernelIdeal.defs (F := Ideal)) (onTc (τ := Cert.JKernelIdeal.τ) (Cert.JKernelIdeal.main (F := Ideal))) ⟨m, fun _ => 0, g⟩ (fun r => ∀ c : Dev Cert.JKernelIdeal.nD,
          r.2.mem ((c.tc : Thread Cert.JKernelIdeal.nD Cert.JKernelIdeal.τ).loc Cert.JKernelIdeal.main_v0_0) = v0 c
          ∧ r.2.mem ((c.tc : Thread Cert.JKernelIdeal.nD Cert.JKernelIdeal.τ).loc Cert.JKernelIdeal.main_v0_1) = v1 c
          ∧ r.2.mem ((c.tc : Thread Cert.JKernelIdeal.nD Cert.JKernelIdeal.τ).loc Cert.JKernelIdeal.main_v0_2) = v2 c
          ∧ r.2.mem ((c.tc : Thread Cert.JKernelIdeal.nD Cert.JKernelIdeal.τ).loc Cert.JKernelIdeal.main_v0_3) = v3 c
          ∧ r.2.mem ((c.tc : Thread Cert.JKernelIdeal.nD Cert.JKernelIdeal.τ).loc Cert.JKernelIdeal.main_arg0) = m ((c.tc : Thread Cert.JKernelIdeal.nD Cert.JKernelIdeal.τ).loc Cert.JKernelIdeal.main_arg0)
          ∧ r.2.mem ((c.tc : Thread Cert.JKernelIdeal.nD Cert.JKernelIdeal.τ).loc Cert.JKernelIdeal.main_arg1) = m ((c.tc : Thread Cert.JKernelIdeal.nD Cert.JKernelIdeal.τ).loc Cert.JKernelIdeal.main_arg1)
          ∧ r.2.mem ((c.tc : Thread Cert.JKernelIdeal.nD Cert.JKernelIdeal.τ).loc Cert.JKernelIdeal.main_arg2) = m ((c.tc : Thread Cert.JKernelIdeal.nD Cert.JKernelIdeal.τ).loc Cert.JKernelIdeal.main_arg2)
          ∧ r.2.mem ((c.tc : Thread Cert.JKernelIdeal.nD Cert.JKernelIdeal.τ).loc Cert.JKernelIdeal.main_arg3) = m ((c.tc : Thread Cert.JKernelIdeal.nD Cert.JKernelIdeal.τ).loc Cert.JKernelIdeal.main_arg3)
          ∧ r.2.mem ((c.tc : Thread Cert.JKernelIdeal.nD Cert.JKernelIdeal.τ).loc Cert.JKernelIdeal.main_arg4) = m ((c.tc : Thread Cert.JKernelIdeal.nD Cert.JKernelIdeal.τ).loc Cert.JKernelIdeal.main_arg4)
          ∧ r.2.mem ((c.tc : Thread Cert.JKernelIdeal.nD Cert.JKernelIdeal.τ).loc Cert.JKernelIdeal.main_arg5) = m ((c.tc : Thread Cert.JKernelIdeal.nD Cert.JKernelIdeal.τ).loc Cert.JKernelIdeal.main_arg5))
      ∧ θ_run (Cert.JReferenceIdeal.defs (F := Ideal)) (onTc (τ := Cert.JReferenceIdeal.τ) (Cert.JReferenceIdeal.main (F := Ideal))) ⟨m', fun _ => 0, g'⟩ (fun r => ∀ c : Dev Cert.JReferenceIdeal.nD,
          r.2.mem ((c.tc : Thread Cert.JReferenceIdeal.nD Cert.JReferenceIdeal.τ).loc Cert.JReferenceIdeal.main_v3) = v0 c
          ∧ r.2.mem ((c.tc : Thread Cert.JReferenceIdeal.nD Cert.JReferenceIdeal.τ).loc Cert.JReferenceIdeal.main_v34) = v1 c
          ∧ r.2.mem ((c.tc : Thread Cert.JReferenceIdeal.nD Cert.JReferenceIdeal.τ).loc Cert.JReferenceIdeal.main_v33) = v2 c
          ∧ r.2.mem ((c.tc : Thread Cert.JReferenceIdeal.nD Cert.JReferenceIdeal.τ).loc Cert.JReferenceIdeal.main_v60) = v3 c
          ∧ r.2.mem ((c.tc : Thread Cert.JReferenceIdeal.nD Cert.JReferenceIdeal.τ).loc Cert.JReferenceIdeal.main_arg0) = m' ((c.tc : Thread Cert.JReferenceIdeal.nD Cert.JReferenceIdeal.τ).loc Cert.JReferenceIdeal.main_arg0)
          ∧ r.2.mem ((c.tc : Thread Cert.JReferenceIdeal.nD Cert.JReferenceIdeal.τ).loc Cert.JReferenceIdeal.main_arg1) = m' ((c.tc : Thread Cert.JReferenceIdeal.nD Cert.JReferenceIdeal.τ).loc Cert.JReferenceIdeal.main_arg1)
          ∧ r.2.mem ((c.tc : Thread Cert.JReferenceIdeal.nD Cert.JReferenceIdeal.τ).loc Cert.JReferenceIdeal.main_arg2) = m' ((c.tc : Thread Cert.JReferenceIdeal.nD Cert.JReferenceIdeal.τ).loc Cert.JReferenceIdeal.main_arg2)
          ∧ r.2.mem ((c.tc : Thread Cert.JReferenceIdeal.nD Cert.JReferenceIdeal.τ).loc Cert.JReferenceIdeal.main_arg3) = m' ((c.tc : Thread Cert.JReferenceIdeal.nD Cert.JReferenceIdeal.τ).loc Cert.JReferenceIdeal.main_arg3)
          ∧ r.2.mem ((c.tc : Thread Cert.JReferenceIdeal.nD Cert.JReferenceIdeal.τ).loc Cert.JReferenceIdeal.main_arg4) = m' ((c.tc : Thread Cert.JReferenceIdeal.nD Cert.JReferenceIdeal.τ).loc Cert.JReferenceIdeal.main_arg4)
          ∧ r.2.mem ((c.tc : Thread Cert.JReferenceIdeal.nD Cert.JReferenceIdeal.τ).loc Cert.JReferenceIdeal.main_arg5) = m' ((c.tc : Thread Cert.JReferenceIdeal.nD Cert.JReferenceIdeal.τ).loc Cert.JReferenceIdeal.main_arg5))

def preserves_DKernel_DKernelIdeal : Prop :=
  True

def algebraic_DKernelIdeal_DReferenceIdeal [hDKernelIdeal : Cert.DKernelIdeal.Facts] [hDReferenceIdeal : Cert.DReferenceIdeal.Facts] : Prop :=
  ∀ (m : (ℓ : Loc Cert.DKernelIdeal.nD Cert.DKernelIdeal.τ Cert.DKernelIdeal.sig) → Buf (Elt Ideal) ℓ) (g : Dev Cert.DKernelIdeal.nD → PrngReg)
    (m' : (ℓ : Loc Cert.DReferenceIdeal.nD Cert.DReferenceIdeal.τ Cert.DReferenceIdeal.sig) → Buf (Elt Ideal) ℓ) (g' : Dev Cert.DReferenceIdeal.nD → PrngReg), Pre_DKernelIdeal m →
    (∀ c : Dev Cert.DKernelIdeal.nD,
      m' ((c.tc : Thread Cert.DReferenceIdeal.nD Cert.DReferenceIdeal.τ).loc Cert.DReferenceIdeal.main_arg0) = m ((c.tc : Thread Cert.DKernelIdeal.nD Cert.DKernelIdeal.τ).loc Cert.DKernelIdeal.main_arg0)
      ∧ m' ((c.tc : Thread Cert.DReferenceIdeal.nD Cert.DReferenceIdeal.τ).loc Cert.DReferenceIdeal.main_arg1) = m ((c.tc : Thread Cert.DKernelIdeal.nD Cert.DKernelIdeal.τ).loc Cert.DKernelIdeal.main_arg1)) →
    ∃ (v0 : (c : Dev Cert.DKernelIdeal.nD) → Buf (Elt Ideal) ((c.tc : Thread Cert.DKernelIdeal.nD Cert.DKernelIdeal.τ).loc Cert.DKernelIdeal.main_v0)),
      θ_run (Cert.DKernelIdeal.defs (F := Ideal)) (onTc (τ := Cert.DKernelIdeal.τ) (Cert.DKernelIdeal.main (F := Ideal))) ⟨m, fun _ => 0, g⟩ (fun r => ∀ c : Dev Cert.DKernelIdeal.nD,
          r.2.mem ((c.tc : Thread Cert.DKernelIdeal.nD Cert.DKernelIdeal.τ).loc Cert.DKernelIdeal.main_v0) = v0 c
          ∧ r.2.mem ((c.tc : Thread Cert.DKernelIdeal.nD Cert.DKernelIdeal.τ).loc Cert.DKernelIdeal.main_arg0) = m ((c.tc : Thread Cert.DKernelIdeal.nD Cert.DKernelIdeal.τ).loc Cert.DKernelIdeal.main_arg0)
          ∧ r.2.mem ((c.tc : Thread Cert.DKernelIdeal.nD Cert.DKernelIdeal.τ).loc Cert.DKernelIdeal.main_arg1) = m ((c.tc : Thread Cert.DKernelIdeal.nD Cert.DKernelIdeal.τ).loc Cert.DKernelIdeal.main_arg1))
      ∧ θ_run (Cert.DReferenceIdeal.defs (F := Ideal)) (onTc (τ := Cert.DReferenceIdeal.τ) (Cert.DReferenceIdeal.main (F := Ideal))) ⟨m', fun _ => 0, g'⟩ (fun r => ∀ c : Dev Cert.DReferenceIdeal.nD,
          r.2.mem ((c.tc : Thread Cert.DReferenceIdeal.nD Cert.DReferenceIdeal.τ).loc Cert.DReferenceIdeal.main_v4) = v0 c
          ∧ r.2.mem ((c.tc : Thread Cert.DReferenceIdeal.nD Cert.DReferenceIdeal.τ).loc Cert.DReferenceIdeal.main_arg0) = m' ((c.tc : Thread Cert.DReferenceIdeal.nD Cert.DReferenceIdeal.τ).loc Cert.DReferenceIdeal.main_arg0)
          ∧ r.2.mem ((c.tc : Thread Cert.DReferenceIdeal.nD Cert.DReferenceIdeal.τ).loc Cert.DReferenceIdeal.main_arg1) = m' ((c.tc : Thread Cert.DReferenceIdeal.nD Cert.DReferenceIdeal.τ).loc Cert.DReferenceIdeal.main_arg1))

def preserves_UKernel_UKernelIdeal : Prop :=
  True

def algebraic_UKernelIdeal_UReferenceIdeal [hUKernelIdeal : Cert.UKernelIdeal.Facts] [hUReferenceIdeal : Cert.UReferenceIdeal.Facts] : Prop :=
  ∀ (m : (ℓ : Loc Cert.UKernelIdeal.nD Cert.UKernelIdeal.τ Cert.UKernelIdeal.sig) → Buf (Elt Ideal) ℓ) (g : Dev Cert.UKernelIdeal.nD → PrngReg)
    (m' : (ℓ : Loc Cert.UReferenceIdeal.nD Cert.UReferenceIdeal.τ Cert.UReferenceIdeal.sig) → Buf (Elt Ideal) ℓ) (g' : Dev Cert.UReferenceIdeal.nD → PrngReg), Pre_UKernelIdeal m →
    (∀ c : Dev Cert.UKernelIdeal.nD,
      m' ((c.tc : Thread Cert.UReferenceIdeal.nD Cert.UReferenceIdeal.τ).loc Cert.UReferenceIdeal.main_arg0) = m ((c.tc : Thread Cert.UKernelIdeal.nD Cert.UKernelIdeal.τ).loc Cert.UKernelIdeal.main_arg0)
      ∧ m' ((c.tc : Thread Cert.UReferenceIdeal.nD Cert.UReferenceIdeal.τ).loc Cert.UReferenceIdeal.main_arg1) = m ((c.tc : Thread Cert.UKernelIdeal.nD Cert.UKernelIdeal.τ).loc Cert.UKernelIdeal.main_arg1)) →
    ∃ (v0 : (c : Dev Cert.UKernelIdeal.nD) → Buf (Elt Ideal) ((c.tc : Thread Cert.UKernelIdeal.nD Cert.UKernelIdeal.τ).loc Cert.UKernelIdeal.main_v0)),
      θ_run (Cert.UKernelIdeal.defs (F := Ideal)) (onTc (τ := Cert.UKernelIdeal.τ) (Cert.UKernelIdeal.main (F := Ideal))) ⟨m, fun _ => 0, g⟩ (fun r => ∀ c : Dev Cert.UKernelIdeal.nD,
          r.2.mem ((c.tc : Thread Cert.UKernelIdeal.nD Cert.UKernelIdeal.τ).loc Cert.UKernelIdeal.main_v0) = v0 c
          ∧ r.2.mem ((c.tc : Thread Cert.UKernelIdeal.nD Cert.UKernelIdeal.τ).loc Cert.UKernelIdeal.main_arg0) = m ((c.tc : Thread Cert.UKernelIdeal.nD Cert.UKernelIdeal.τ).loc Cert.UKernelIdeal.main_arg0)
          ∧ r.2.mem ((c.tc : Thread Cert.UKernelIdeal.nD Cert.UKernelIdeal.τ).loc Cert.UKernelIdeal.main_arg1) = m ((c.tc : Thread Cert.UKernelIdeal.nD Cert.UKernelIdeal.τ).loc Cert.UKernelIdeal.main_arg1))
      ∧ θ_run (Cert.UReferenceIdeal.defs (F := Ideal)) (onTc (τ := Cert.UReferenceIdeal.τ) (Cert.UReferenceIdeal.main (F := Ideal))) ⟨m', fun _ => 0, g'⟩ (fun r => ∀ c : Dev Cert.UReferenceIdeal.nD,
          r.2.mem ((c.tc : Thread Cert.UReferenceIdeal.nD Cert.UReferenceIdeal.τ).loc Cert.UReferenceIdeal.main_v4) = v0 c
          ∧ r.2.mem ((c.tc : Thread Cert.UReferenceIdeal.nD Cert.UReferenceIdeal.τ).loc Cert.UReferenceIdeal.main_arg0) = m' ((c.tc : Thread Cert.UReferenceIdeal.nD Cert.UReferenceIdeal.τ).loc Cert.UReferenceIdeal.main_arg0)
          ∧ r.2.mem ((c.tc : Thread Cert.UReferenceIdeal.nD Cert.UReferenceIdeal.τ).loc Cert.UReferenceIdeal.main_arg1) = m' ((c.tc : Thread Cert.UReferenceIdeal.nD Cert.UReferenceIdeal.τ).loc Cert.UReferenceIdeal.main_arg1))

def preserves_BKernel_BKernelIdeal : Prop :=
  True

def algebraic_BKernelIdeal_BReferenceIdeal [hBKernelIdeal : Cert.BKernelIdeal.Facts] [hBReferenceIdeal : Cert.BReferenceIdeal.Facts] : Prop :=
  ∀ (m : (ℓ : Loc Cert.BKernelIdeal.nD Cert.BKernelIdeal.τ Cert.BKernelIdeal.sig) → Buf (Elt Ideal) ℓ) (g : Dev Cert.BKernelIdeal.nD → PrngReg)
    (m' : (ℓ : Loc Cert.BReferenceIdeal.nD Cert.BReferenceIdeal.τ Cert.BReferenceIdeal.sig) → Buf (Elt Ideal) ℓ) (g' : Dev Cert.BReferenceIdeal.nD → PrngReg), Pre_BKernelIdeal m →
    (∀ c : Dev Cert.BKernelIdeal.nD,
      m' ((c.tc : Thread Cert.BReferenceIdeal.nD Cert.BReferenceIdeal.τ).loc Cert.BReferenceIdeal.main_arg0) = m ((c.tc : Thread Cert.BKernelIdeal.nD Cert.BKernelIdeal.τ).loc Cert.BKernelIdeal.main_arg0)
      ∧ m' ((c.tc : Thread Cert.BReferenceIdeal.nD Cert.BReferenceIdeal.τ).loc Cert.BReferenceIdeal.main_arg1) = m ((c.tc : Thread Cert.BKernelIdeal.nD Cert.BKernelIdeal.τ).loc Cert.BKernelIdeal.main_arg1)) →
    ∃ (v0 : (c : Dev Cert.BKernelIdeal.nD) → Buf (Elt Ideal) ((c.tc : Thread Cert.BKernelIdeal.nD Cert.BKernelIdeal.τ).loc Cert.BKernelIdeal.main_v0)),
      θ_run (Cert.BKernelIdeal.defs (F := Ideal)) (onTc (τ := Cert.BKernelIdeal.τ) (Cert.BKernelIdeal.main (F := Ideal))) ⟨m, fun _ => 0, g⟩ (fun r => ∀ c : Dev Cert.BKernelIdeal.nD,
          r.2.mem ((c.tc : Thread Cert.BKernelIdeal.nD Cert.BKernelIdeal.τ).loc Cert.BKernelIdeal.main_v0) = v0 c
          ∧ r.2.mem ((c.tc : Thread Cert.BKernelIdeal.nD Cert.BKernelIdeal.τ).loc Cert.BKernelIdeal.main_arg0) = m ((c.tc : Thread Cert.BKernelIdeal.nD Cert.BKernelIdeal.τ).loc Cert.BKernelIdeal.main_arg0)
          ∧ r.2.mem ((c.tc : Thread Cert.BKernelIdeal.nD Cert.BKernelIdeal.τ).loc Cert.BKernelIdeal.main_arg1) = m ((c.tc : Thread Cert.BKernelIdeal.nD Cert.BKernelIdeal.τ).loc Cert.BKernelIdeal.main_arg1))
      ∧ θ_run (Cert.BReferenceIdeal.defs (F := Ideal)) (onTc (τ := Cert.BReferenceIdeal.τ) (Cert.BReferenceIdeal.main (F := Ideal))) ⟨m', fun _ => 0, g'⟩ (fun r => ∀ c : Dev Cert.BReferenceIdeal.nD,
          r.2.mem ((c.tc : Thread Cert.BReferenceIdeal.nD Cert.BReferenceIdeal.τ).loc Cert.BReferenceIdeal.main_v4) = v0 c
          ∧ r.2.mem ((c.tc : Thread Cert.BReferenceIdeal.nD Cert.BReferenceIdeal.τ).loc Cert.BReferenceIdeal.main_arg0) = m' ((c.tc : Thread Cert.BReferenceIdeal.nD Cert.BReferenceIdeal.τ).loc Cert.BReferenceIdeal.main_arg0)
          ∧ r.2.mem ((c.tc : Thread Cert.BReferenceIdeal.nD Cert.BReferenceIdeal.τ).loc Cert.BReferenceIdeal.main_arg1) = m' ((c.tc : Thread Cert.BReferenceIdeal.nD Cert.BReferenceIdeal.τ).loc Cert.BReferenceIdeal.main_arg1))

def preserves_AKernel_AKernelIdeal : Prop :=
  True

def algebraic_AKernelIdeal_AReferenceIdeal [hAKernelIdeal : Cert.AKernelIdeal.Facts] [hAReferenceIdeal : Cert.AReferenceIdeal.Facts] : Prop :=
  ∀ (m : (ℓ : Loc Cert.AKernelIdeal.nD Cert.AKernelIdeal.τ Cert.AKernelIdeal.sig) → Buf (Elt Ideal) ℓ) (g : Dev Cert.AKernelIdeal.nD → PrngReg)
    (m' : (ℓ : Loc Cert.AReferenceIdeal.nD Cert.AReferenceIdeal.τ Cert.AReferenceIdeal.sig) → Buf (Elt Ideal) ℓ) (g' : Dev Cert.AReferenceIdeal.nD → PrngReg), Pre_AKernelIdeal m →
    (∀ c : Dev Cert.AKernelIdeal.nD,
      m' ((c.tc : Thread Cert.AReferenceIdeal.nD Cert.AReferenceIdeal.τ).loc Cert.AReferenceIdeal.main_arg0) = m ((c.tc : Thread Cert.AKernelIdeal.nD Cert.AKernelIdeal.τ).loc Cert.AKernelIdeal.main_arg0)
      ∧ m' ((c.tc : Thread Cert.AReferenceIdeal.nD Cert.AReferenceIdeal.τ).loc Cert.AReferenceIdeal.main_arg1) = m ((c.tc : Thread Cert.AKernelIdeal.nD Cert.AKernelIdeal.τ).loc Cert.AKernelIdeal.main_arg1)) →
    ∃ (v0 : (c : Dev Cert.AKernelIdeal.nD) → Buf (Elt Ideal) ((c.tc : Thread Cert.AKernelIdeal.nD Cert.AKernelIdeal.τ).loc Cert.AKernelIdeal.main_v0)),
      θ_run (Cert.AKernelIdeal.defs (F := Ideal)) (onTc (τ := Cert.AKernelIdeal.τ) (Cert.AKernelIdeal.main (F := Ideal))) ⟨m, fun _ => 0, g⟩ (fun r => ∀ c : Dev Cert.AKernelIdeal.nD,
          r.2.mem ((c.tc : Thread Cert.AKernelIdeal.nD Cert.AKernelIdeal.τ).loc Cert.AKernelIdeal.main_v0) = v0 c
          ∧ r.2.mem ((c.tc : Thread Cert.AKernelIdeal.nD Cert.AKernelIdeal.τ).loc Cert.AKernelIdeal.main_arg0) = m ((c.tc : Thread Cert.AKernelIdeal.nD Cert.AKernelIdeal.τ).loc Cert.AKernelIdeal.main_arg0)
          ∧ r.2.mem ((c.tc : Thread Cert.AKernelIdeal.nD Cert.AKernelIdeal.τ).loc Cert.AKernelIdeal.main_arg1) = m ((c.tc : Thread Cert.AKernelIdeal.nD Cert.AKernelIdeal.τ).loc Cert.AKernelIdeal.main_arg1))
      ∧ θ_run (Cert.AReferenceIdeal.defs (F := Ideal)) (onTc (τ := Cert.AReferenceIdeal.τ) (Cert.AReferenceIdeal.main (F := Ideal))) ⟨m', fun _ => 0, g'⟩ (fun r => ∀ c : Dev Cert.AReferenceIdeal.nD,
          r.2.mem ((c.tc : Thread Cert.AReferenceIdeal.nD Cert.AReferenceIdeal.τ).loc Cert.AReferenceIdeal.main_v4) = v0 c
          ∧ r.2.mem ((c.tc : Thread Cert.AReferenceIdeal.nD Cert.AReferenceIdeal.τ).loc Cert.AReferenceIdeal.main_arg0) = m' ((c.tc : Thread Cert.AReferenceIdeal.nD Cert.AReferenceIdeal.τ).loc Cert.AReferenceIdeal.main_arg0)
          ∧ r.2.mem ((c.tc : Thread Cert.AReferenceIdeal.nD Cert.AReferenceIdeal.τ).loc Cert.AReferenceIdeal.main_arg1) = m' ((c.tc : Thread Cert.AReferenceIdeal.nD Cert.AReferenceIdeal.τ).loc Cert.AReferenceIdeal.main_arg1))

def preserves_OKernel_OKernelIdeal : Prop :=
  True

def algebraic_OKernelIdeal_OReferenceIdeal [hOKernelIdeal : Cert.OKernelIdeal.Facts] [hOReferenceIdeal : Cert.OReferenceIdeal.Facts] : Prop :=
  ∀ (m : (ℓ : Loc Cert.OKernelIdeal.nD Cert.OKernelIdeal.τ Cert.OKernelIdeal.sig) → Buf (Elt Ideal) ℓ) (g : Dev Cert.OKernelIdeal.nD → PrngReg)
    (m' : (ℓ : Loc Cert.OReferenceIdeal.nD Cert.OReferenceIdeal.τ Cert.OReferenceIdeal.sig) → Buf (Elt Ideal) ℓ) (g' : Dev Cert.OReferenceIdeal.nD → PrngReg), Pre_OKernelIdeal m →
    (∀ c : Dev Cert.OKernelIdeal.nD,
      m' ((c.tc : Thread Cert.OReferenceIdeal.nD Cert.OReferenceIdeal.τ).loc Cert.OReferenceIdeal.main_arg0) = m ((c.tc : Thread Cert.OKernelIdeal.nD Cert.OKernelIdeal.τ).loc Cert.OKernelIdeal.main_arg0)
      ∧ m' ((c.tc : Thread Cert.OReferenceIdeal.nD Cert.OReferenceIdeal.τ).loc Cert.OReferenceIdeal.main_arg1) = m ((c.tc : Thread Cert.OKernelIdeal.nD Cert.OKernelIdeal.τ).loc Cert.OKernelIdeal.main_arg1)
      ∧ m' ((c.tc : Thread Cert.OReferenceIdeal.nD Cert.OReferenceIdeal.τ).loc Cert.OReferenceIdeal.main_arg2) = m ((c.tc : Thread Cert.OKernelIdeal.nD Cert.OKernelIdeal.τ).loc Cert.OKernelIdeal.main_arg2)) →
    ∃ (v0 : (c : Dev Cert.OKernelIdeal.nD) → Buf (Elt Ideal) ((c.tc : Thread Cert.OKernelIdeal.nD Cert.OKernelIdeal.τ).loc Cert.OKernelIdeal.main_v0)),
      θ_run (Cert.OKernelIdeal.defs (F := Ideal)) (onTc (τ := Cert.OKernelIdeal.τ) (Cert.OKernelIdeal.main (F := Ideal))) ⟨m, fun _ => 0, g⟩ (fun r => ∀ c : Dev Cert.OKernelIdeal.nD,
          r.2.mem ((c.tc : Thread Cert.OKernelIdeal.nD Cert.OKernelIdeal.τ).loc Cert.OKernelIdeal.main_v0) = v0 c
          ∧ r.2.mem ((c.tc : Thread Cert.OKernelIdeal.nD Cert.OKernelIdeal.τ).loc Cert.OKernelIdeal.main_arg0) = m ((c.tc : Thread Cert.OKernelIdeal.nD Cert.OKernelIdeal.τ).loc Cert.OKernelIdeal.main_arg0)
          ∧ r.2.mem ((c.tc : Thread Cert.OKernelIdeal.nD Cert.OKernelIdeal.τ).loc Cert.OKernelIdeal.main_arg1) = m ((c.tc : Thread Cert.OKernelIdeal.nD Cert.OKernelIdeal.τ).loc Cert.OKernelIdeal.main_arg1)
          ∧ r.2.mem ((c.tc : Thread Cert.OKernelIdeal.nD Cert.OKernelIdeal.τ).loc Cert.OKernelIdeal.main_arg2) = m ((c.tc : Thread Cert.OKernelIdeal.nD Cert.OKernelIdeal.τ).loc Cert.OKernelIdeal.main_arg2))
      ∧ θ_run (Cert.OReferenceIdeal.defs (F := Ideal)) (onTc (τ := Cert.OReferenceIdeal.τ) (Cert.OReferenceIdeal.main (F := Ideal))) ⟨m', fun _ => 0, g'⟩ (fun r => ∀ c : Dev Cert.OReferenceIdeal.nD,
          r.2.mem ((c.tc : Thread Cert.OReferenceIdeal.nD Cert.OReferenceIdeal.τ).loc Cert.OReferenceIdeal.main_v4) = v0 c
          ∧ r.2.mem ((c.tc : Thread Cert.OReferenceIdeal.nD Cert.OReferenceIdeal.τ).loc Cert.OReferenceIdeal.main_arg0) = m' ((c.tc : Thread Cert.OReferenceIdeal.nD Cert.OReferenceIdeal.τ).loc Cert.OReferenceIdeal.main_arg0)
          ∧ r.2.mem ((c.tc : Thread Cert.OReferenceIdeal.nD Cert.OReferenceIdeal.τ).loc Cert.OReferenceIdeal.main_arg1) = m' ((c.tc : Thread Cert.OReferenceIdeal.nD Cert.OReferenceIdeal.τ).loc Cert.OReferenceIdeal.main_arg1)
          ∧ r.2.mem ((c.tc : Thread Cert.OReferenceIdeal.nD Cert.OReferenceIdeal.τ).loc Cert.OReferenceIdeal.main_arg2) = m' ((c.tc : Thread Cert.OReferenceIdeal.nD Cert.OReferenceIdeal.τ).loc Cert.OReferenceIdeal.main_arg2))

def Claim : Prop :=
  ∃ (hKernel : Cert.Kernel.Facts) (hKernelIdeal : Cert.KernelIdeal.Facts) (hReferenceIdeal : Cert.ReferenceIdeal.Facts) (hFKernel : Cert.FKernel.Facts) (hFKernelIdeal : Cert.FKernelIdeal.Facts) (hFReferenceIdeal : Cert.FReferenceIdeal.Facts) (hGKernel : Cert.GKernel.Facts) (hGKernelIdeal : Cert.GKernelIdeal.Facts) (hGReferenceIdeal : Cert.GReferenceIdeal.Facts) (hHKernel : Cert.HKernel.Facts) (hHKernelIdeal : Cert.HKernelIdeal.Facts) (hHReferenceIdeal : Cert.HReferenceIdeal.Facts) (hJKernel : Cert.JKernel.Facts) (hJKernelIdeal : Cert.JKernelIdeal.Facts) (hJReferenceIdeal : Cert.JReferenceIdeal.Facts) (hDKernel : Cert.DKernel.Facts) (hDKernelIdeal : Cert.DKernelIdeal.Facts) (hDReferenceIdeal : Cert.DReferenceIdeal.Facts) (hUKernel : Cert.UKernel.Facts) (hUKernelIdeal : Cert.UKernelIdeal.Facts) (hUReferenceIdeal : Cert.UReferenceIdeal.Facts) (hBKernel : Cert.BKernel.Facts) (hBKernelIdeal : Cert.BKernelIdeal.Facts) (hBReferenceIdeal : Cert.BReferenceIdeal.Facts) (hAKernel : Cert.AKernel.Facts) (hAKernelIdeal : Cert.AKernelIdeal.Facts) (hAReferenceIdeal : Cert.AReferenceIdeal.Facts) (hOKernel : Cert.OKernel.Facts) (hOKernelIdeal : Cert.OKernelIdeal.Facts) (hOReferenceIdeal : Cert.OReferenceIdeal.Facts) (hPre_finite_sc : Cert.Pre_finite_sc.Facts) (hPre_finite_ffn : Cert.Pre_finite_ffn.Facts),
    quiescent_Kernel (hKernel := hKernel)
    ∧ quiescent_KernelIdeal (hKernelIdeal := hKernelIdeal)
    ∧ quiescent_KernelIdeal_pre_finite_sc (hKernelIdeal := hKernelIdeal) (hPre_finite_sc := hPre_finite_sc)
    ∧ quiescent_ReferenceIdeal (hReferenceIdeal := hReferenceIdeal)
    ∧ quiescent_ReferenceIdeal_pre_finite_sc (hReferenceIdeal := hReferenceIdeal) (hPre_finite_sc := hPre_finite_sc)
    ∧ quiescent_FKernel (hFKernel := hFKernel)
    ∧ quiescent_FKernelIdeal (hFKernelIdeal := hFKernelIdeal)
    ∧ quiescent_FKernelIdeal_pre_finite_ffn (hFKernelIdeal := hFKernelIdeal) (hPre_finite_ffn := hPre_finite_ffn)
    ∧ quiescent_FReferenceIdeal (hFReferenceIdeal := hFReferenceIdeal)
    ∧ quiescent_FReferenceIdeal_pre_finite_ffn (hFReferenceIdeal := hFReferenceIdeal) (hPre_finite_ffn := hPre_finite_ffn)
    ∧ quiescent_GKernel (hGKernel := hGKernel)
    ∧ quiescent_GKernelIdeal (hGKernelIdeal := hGKernelIdeal)
    ∧ quiescent_GKernelIdeal_pre_finite_ffn (hGKernelIdeal := hGKernelIdeal) (hPre_finite_ffn := hPre_finite_ffn)
    ∧ quiescent_GReferenceIdeal (hGReferenceIdeal := hGReferenceIdeal)
    ∧ quiescent_GReferenceIdeal_pre_finite_ffn (hGReferenceIdeal := hGReferenceIdeal) (hPre_finite_ffn := hPre_finite_ffn)
    ∧ quiescent_HKernel (hHKernel := hHKernel)
    ∧ quiescent_HKernelIdeal (hHKernelIdeal := hHKernelIdeal)
    ∧ quiescent_HReferenceIdeal (hHReferenceIdeal := hHReferenceIdeal)
    ∧ quiescent_JKernel (hJKernel := hJKernel)
    ∧ quiescent_JKernelIdeal (hJKernelIdeal := hJKernelIdeal)
    ∧ quiescent_JReferenceIdeal (hJReferenceIdeal := hJReferenceIdeal)
    ∧ quiescent_DKernel (hDKernel := hDKernel)
    ∧ quiescent_DKernelIdeal (hDKernelIdeal := hDKernelIdeal)
    ∧ quiescent_DReferenceIdeal (hDReferenceIdeal := hDReferenceIdeal)
    ∧ quiescent_UKernel (hUKernel := hUKernel)
    ∧ quiescent_UKernelIdeal (hUKernelIdeal := hUKernelIdeal)
    ∧ quiescent_UReferenceIdeal (hUReferenceIdeal := hUReferenceIdeal)
    ∧ quiescent_BKernel (hBKernel := hBKernel)
    ∧ quiescent_BKernelIdeal (hBKernelIdeal := hBKernelIdeal)
    ∧ quiescent_BReferenceIdeal (hBReferenceIdeal := hBReferenceIdeal)
    ∧ quiescent_AKernel (hAKernel := hAKernel)
    ∧ quiescent_AKernelIdeal (hAKernelIdeal := hAKernelIdeal)
    ∧ quiescent_AReferenceIdeal (hAReferenceIdeal := hAReferenceIdeal)
    ∧ quiescent_OKernel (hOKernel := hOKernel)
    ∧ quiescent_OKernelIdeal (hOKernelIdeal := hOKernelIdeal)
    ∧ quiescent_OReferenceIdeal (hOReferenceIdeal := hOReferenceIdeal)
    ∧ preserves_Kernel_KernelIdeal
    ∧ algebraic_KernelIdeal_ReferenceIdeal_pre_finite_sc (hKernelIdeal := hKernelIdeal) (hReferenceIdeal := hReferenceIdeal) (hPre_finite_sc := hPre_finite_sc)
    ∧ preserves_FKernel_FKernelIdeal
    ∧ algebraic_FKernelIdeal_FReferenceIdeal_pre_finite_ffn (hFKernelIdeal := hFKernelIdeal) (hFReferenceIdeal := hFReferenceIdeal) (hPre_finite_ffn := hPre_finite_ffn)
    ∧ preserves_GKernel_GKernelIdeal
    ∧ algebraic_GKernelIdeal_GReferenceIdeal_pre_finite_ffn (hGKernelIdeal := hGKernelIdeal) (hGReferenceIdeal := hGReferenceIdeal) (hPre_finite_ffn := hPre_finite_ffn)
    ∧ preserves_HKernel_HKernelIdeal
    ∧ algebraic_HKernelIdeal_HReferenceIdeal (hHKernelIdeal := hHKernelIdeal) (hHReferenceIdeal := hHReferenceIdeal)
    ∧ preserves_JKernel_JKernelIdeal
    ∧ algebraic_JKernelIdeal_JReferenceIdeal (hJKernelIdeal := hJKernelIdeal) (hJReferenceIdeal := hJReferenceIdeal)
    ∧ preserves_DKernel_DKernelIdeal
    ∧ algebraic_DKernelIdeal_DReferenceIdeal (hDKernelIdeal := hDKernelIdeal) (hDReferenceIdeal := hDReferenceIdeal)
    ∧ preserves_UKernel_UKernelIdeal
    ∧ algebraic_UKernelIdeal_UReferenceIdeal (hUKernelIdeal := hUKernelIdeal) (hUReferenceIdeal := hUReferenceIdeal)
    ∧ preserves_BKernel_BKernelIdeal
    ∧ algebraic_BKernelIdeal_BReferenceIdeal (hBKernelIdeal := hBKernelIdeal) (hBReferenceIdeal := hBReferenceIdeal)
    ∧ preserves_AKernel_AKernelIdeal
    ∧ algebraic_AKernelIdeal_AReferenceIdeal (hAKernelIdeal := hAKernelIdeal) (hAReferenceIdeal := hAReferenceIdeal)
    ∧ preserves_OKernel_OKernelIdeal
    ∧ algebraic_OKernelIdeal_OReferenceIdeal (hOKernelIdeal := hOKernelIdeal) (hOReferenceIdeal := hOReferenceIdeal)
-- ==== Pre_finite_ffn.lean ====
abbrev S8448x1024 : Shape := ⟨2, ![8448, 1024]⟩
abbrev S8448x5632 : Shape := ⟨2, ![8448, 5632]⟩
abbrev S8x2x352x1024 : Shape := ⟨4, ![8, 2, 352, 1024]⟩
abbrev S3x2816 : Shape := ⟨2, ![3, 2816]⟩
abbrev S2x1024x5632 : Shape := ⟨3, ![2, 1024, 5632]⟩
abbrev S1x1024 : Shape := ⟨2, ![1, 1024]⟩
abbrev S_ : Shape := ⟨0, ![]⟩

class Facts : Prop where
  bcast_S_S8448x1024 : S_.BroadcastsInDim S8448x1024 (![] : Fin 0 → Fin S8448x1024.rank)
  reducesTo_S8448x1024_S_d0_1 : S8448x1024.ReducesTo [0, 1] S_
  h_S_ : 0 < S_.numel
  bcast_S_S8448x5632 : S_.BroadcastsInDim S8448x5632 (![] : Fin 0 → Fin S8448x5632.rank)
  reducesTo_S8448x5632_S_d0_1 : S8448x5632.ReducesTo [0, 1] S_
  bitsLt_bf16_f32 : FTy.bits .bf16 < FTy.bits .f32
  bcast_S_S8x2x352x1024 : S_.BroadcastsInDim S8x2x352x1024 (![] : Fin 0 → Fin S8x2x352x1024.rank)
  reducesTo_S8x2x352x1024_S_d0_1_2_3 : S8x2x352x1024.ReducesTo [0, 1, 2, 3] S_
  bcast_S_S3x2816 : S_.BroadcastsInDim S3x2816 (![] : Fin 0 → Fin S3x2816.rank)
  reducesTo_S3x2816_S_d0_1 : S3x2816.ReducesTo [0, 1] S_
  bcast_S_S2x1024x5632 : S_.BroadcastsInDim S2x1024x5632 (![] : Fin 0 → Fin S2x1024x5632.rank)
  reducesTo_S2x1024x5632_S_d0_1_2 : S2x1024x5632.ReducesTo [0, 1, 2] S_
  bcast_S_S1x1024 : S_.BroadcastsInDim S1x1024 (![] : Fin 0 → Fin S1x1024.rank)
  reducesTo_S1x1024_S_d0_1 : S1x1024.ReducesTo [0, 1] S_

variable [Facts]

def fn_part2 {F : FTy → Type} [FloatOps F] (main_v31 : IVec S_ 1) (main_v32 : FVec F S1x1024 .f32) (main_v33 : FVec F S1x1024 .f32) : IVec S_ 1 :=
  let main_v34 : IVec S1x1024 1 := cmpf .olt main_v32 main_v33
  let main_c_12 : IVec S_ 1 := constantI S_ 1 1#1
  let main_v35 : IVec S_ 1 := (fun x v => Host.reduce IntOp.andi x v reducesTo_S1x1024_S_d0_1 h_S_) main_v34 main_c_12
  let main_v36 : IVec S_ 1 := andi main_v31 main_v35
  main_v36

def fn_part1 {F : FTy → Type} [FloatOps F] (main_arg4 : FVec F S2x1024x5632 .bf16) (main_arg5 : FVec F S8448x1024 .f32) (main_arg6 : FVec F S1x1024 .f32) (main_v15 : IVec S_ 1) (main_v16 : FVec F S3x2816 .f32) : IVec S_ 1 :=
  let main_cst_5 : FVec F S_ .f32 := constant S_ .f32 0x7F800000#32
  let main_v17 : FVec F S3x2816 .f32 := broadcastInDim S3x2816 ![] bcast_S_S3x2816 main_cst_5
  let main_v18 : IVec S3x2816 1 := cmpf .olt main_v16 main_v17
  let main_c_6 : IVec S_ 1 := constantI S_ 1 1#1
  let main_v19 : IVec S_ 1 := (fun x v => Host.reduce IntOp.andi x v reducesTo_S3x2816_S_d0_1 h_S_) main_v18 main_c_6
  let main_v20 : IVec S_ 1 := andi main_v15 main_v19
  let main_v21 : FVec F S2x1024x5632 .f32 := (extf .f32 · bitsLt_bf16_f32) main_arg4
  let main_v22 : FVec F S2x1024x5632 .f32 := Host.absf main_v21
  let main_cst_7 : FVec F S_ .f32 := constant S_ .f32 0x7F800000#32
  let main_v23 : FVec F S2x1024x5632 .f32 := broadcastInDim S2x1024x5632 ![] bcast_S_S2x1024x5632 main_cst_7
  let main_v24 : IVec S2x1024x5632 1 := cmpf .olt main_v22 main_v23
  let main_c_8 : IVec S_ 1 := constantI S_ 1 1#1
  let main_v25 : IVec S_ 1 := (fun x v => Host.reduce IntOp.andi x v reducesTo_S2x1024x5632_S_d0_1_2 h_S_) main_v24 main_c_8
  let main_v26 : IVec S_ 1 := andi main_v20 main_v25
  let main_v27 : FVec F S8448x1024 .f32 := Host.absf main_arg5
  let main_cst_9 : FVec F S_ .f32 := constant S_ .f32 0x7F800000#32
  let main_v28 : FVec F S8448x1024 .f32 := broadcastInDim S8448x1024 ![] bcast_S_S8448x1024 main_cst_9
  let main_v29 : IVec S8448x1024 1 := cmpf .olt main_v27 main_v28
  let main_c_10 : IVec S_ 1 := constantI S_ 1 1#1
  let main_v30 : IVec S_ 1 := (fun x v => Host.reduce IntOp.andi x v reducesTo_S8448x1024_S_d0_1 h_S_) main_v29 main_c_10
  let main_v31 : IVec S_ 1 := andi main_v26 main_v30
  let main_v32 : FVec F S1x1024 .f32 := Host.absf main_arg6
  let main_cst_11 : FVec F S_ .f32 := constant S_ .f32 0x7F800000#32
  let main_v33 : FVec F S1x1024 .f32 := broadcastInDim S1x1024 ![] bcast_S_S1x1024 main_cst_11
  fn_part2 (F := F) main_v31 main_v32 main_v33

def fn {F : FTy → Type} [FloatOps F] (main_arg0 : FVec F S8448x1024 .f32) (main_arg1 : FVec F S8448x5632 .f32) (main_arg2 : FVec F S8x2x352x1024 .bf16) (main_arg3 : FVec F S3x2816 .f32) (main_arg4 : FVec F S2x1024x5632 .bf16) (main_arg5 : FVec F S8448x1024 .f32) (main_arg6 : FVec F S1x1024 .f32) : IVec S_ 1 :=
  let main_v0 : FVec F S8448x1024 .f32 := Host.absf main_arg0
  let main_cst : FVec F S_ .f32 := constant S_ .f32 0x7F800000#32
  let main_v1 : FVec F S8448x1024 .f32 := broadcastInDim S8448x1024 ![] bcast_S_S8448x1024 main_cst
  let main_v2 : IVec S8448x1024 1 := cmpf .olt main_v0 main_v1
  let main_c : IVec S_ 1 := constantI S_ 1 1#1
  let main_v3 : IVec S_ 1 := (fun x v => Host.reduce IntOp.andi x v reducesTo_S8448x1024_S_d0_1 h_S_) main_v2 main_c
  let main_c_0 : IVec S_ 1 := constantI S_ 1 1#1
  let main_v4 : IVec S_ 1 := andi main_c_0 main_v3
  let main_v5 : FVec F S8448x5632 .f32 := Host.absf main_arg1
  let main_cst_1 : FVec F S_ .f32 := constant S_ .f32 0x7F800000#32
  let main_v6 : FVec F S8448x5632 .f32 := broadcastInDim S8448x5632 ![] bcast_S_S8448x5632 main_cst_1
  let main_v7 : IVec S8448x5632 1 := cmpf .olt main_v5 main_v6
  let main_c_2 : IVec S_ 1 := constantI S_ 1 1#1
  let main_v8 : IVec S_ 1 := (fun x v => Host.reduce IntOp.andi x v reducesTo_S8448x5632_S_d0_1 h_S_) main_v7 main_c_2
  let main_v9 : IVec S_ 1 := andi main_v4 main_v8
  let main_v10 : FVec F S8x2x352x1024 .f32 := (extf .f32 · bitsLt_bf16_f32) main_arg2
  let main_v11 : FVec F S8x2x352x1024 .f32 := Host.absf main_v10
  let main_cst_3 : FVec F S_ .f32 := constant S_ .f32 0x7F800000#32
  let main_v12 : FVec F S8x2x352x1024 .f32 := broadcastInDim S8x2x352x1024 ![] bcast_S_S8x2x352x1024 main_cst_3
  let main_v13 : IVec S8x2x352x1024 1 := cmpf .olt main_v11 main_v12
  let main_c_4 : IVec S_ 1 := constantI S_ 1 1#1
  let main_v14 : IVec S_ 1 := (fun x v => Host.reduce IntOp.andi x v reducesTo_S8x2x352x1024_S_d0_1_2_3 h_S_) main_v13 main_c_4
  let main_v15 : IVec S_ 1 := andi main_v9 main_v14
  let main_v16 : FVec F S3x2816 .f32 := Host.absf main_arg3
  fn_part1 (F := F) main_arg4 main_arg5 main_arg6 main_v15 main_v16
-- ==== Pre_finite_sc.lean ====
abbrev S8448x1024 : Shape := ⟨2, ![8448, 1024]⟩
abbrev S8448x3072 : Shape := ⟨2, ![8448, 3072]⟩
abbrev S3x1024 : Shape := ⟨2, ![3, 1024]⟩
abbrev S1024x1024 : Shape := ⟨2, ![1024, 1024]⟩
abbrev S1024x3072 : Shape := ⟨2, ![1024, 3072]⟩
abbrev S1x1024 : Shape := ⟨2, ![1, 1024]⟩
abbrev S_ : Shape := ⟨0, ![]⟩

class Facts : Prop where
  bcast_S_S8448x1024 : S_.BroadcastsInDim S8448x1024 (![] : Fin 0 → Fin S8448x1024.rank)
  reducesTo_S8448x1024_S_d0_1 : S8448x1024.ReducesTo [0, 1] S_
  h_S_ : 0 < S_.numel
  bcast_S_S8448x3072 : S_.BroadcastsInDim S8448x3072 (![] : Fin 0 → Fin S8448x3072.rank)
  reducesTo_S8448x3072_S_d0_1 : S8448x3072.ReducesTo [0, 1] S_
  bcast_S_S3x1024 : S_.BroadcastsInDim S3x1024 (![] : Fin 0 → Fin S3x1024.rank)
  reducesTo_S3x1024_S_d0_1 : S3x1024.ReducesTo [0, 1] S_
  bitsLt_bf16_f32 : FTy.bits .bf16 < FTy.bits .f32
  bcast_S_S1024x1024 : S_.BroadcastsInDim S1024x1024 (![] : Fin 0 → Fin S1024x1024.rank)
  reducesTo_S1024x1024_S_d0_1 : S1024x1024.ReducesTo [0, 1] S_
  bcast_S_S1024x3072 : S_.BroadcastsInDim S1024x3072 (![] : Fin 0 → Fin S1024x3072.rank)
  reducesTo_S1024x3072_S_d0_1 : S1024x3072.ReducesTo [0, 1] S_
  bcast_S_S1x1024 : S_.BroadcastsInDim S1x1024 (![] : Fin 0 → Fin S1x1024.rank)
  reducesTo_S1x1024_S_d0_1 : S1x1024.ReducesTo [0, 1] S_

variable [Facts]

def fn_part2 {F : FTy → Type} [FloatOps F] (main_v31 : IVec S_ 1) (main_v32 : FVec F S1x1024 .f32) (main_v33 : FVec F S1x1024 .f32) : IVec S_ 1 :=
  let main_v34 : IVec S1x1024 1 := cmpf .olt main_v32 main_v33
  let main_c_12 : IVec S_ 1 := constantI S_ 1 1#1
  let main_v35 : IVec S_ 1 := (fun x v => Host.reduce IntOp.andi x v reducesTo_S1x1024_S_d0_1 h_S_) main_v34 main_c_12
  let main_v36 : IVec S_ 1 := andi main_v31 main_v35
  main_v36

def fn_part1 {F : FTy → Type} [FloatOps F] (main_arg4 : FVec F S1024x3072 .bf16) (main_arg5 : FVec F S8448x1024 .f32) (main_arg6 : FVec F S1x1024 .f32) (main_v14 : IVec S_ 1) (main_v16 : FVec F S1024x1024 .f32) : IVec S_ 1 :=
  let main_cst_5 : FVec F S_ .f32 := constant S_ .f32 0x7F800000#32
  let main_v17 : FVec F S1024x1024 .f32 := broadcastInDim S1024x1024 ![] bcast_S_S1024x1024 main_cst_5
  let main_v18 : IVec S1024x1024 1 := cmpf .olt main_v16 main_v17
  let main_c_6 : IVec S_ 1 := constantI S_ 1 1#1
  let main_v19 : IVec S_ 1 := (fun x v => Host.reduce IntOp.andi x v reducesTo_S1024x1024_S_d0_1 h_S_) main_v18 main_c_6
  let main_v20 : IVec S_ 1 := andi main_v14 main_v19
  let main_v21 : FVec F S1024x3072 .f32 := (extf .f32 · bitsLt_bf16_f32) main_arg4
  let main_v22 : FVec F S1024x3072 .f32 := Host.absf main_v21
  let main_cst_7 : FVec F S_ .f32 := constant S_ .f32 0x7F800000#32
  let main_v23 : FVec F S1024x3072 .f32 := broadcastInDim S1024x3072 ![] bcast_S_S1024x3072 main_cst_7
  let main_v24 : IVec S1024x3072 1 := cmpf .olt main_v22 main_v23
  let main_c_8 : IVec S_ 1 := constantI S_ 1 1#1
  let main_v25 : IVec S_ 1 := (fun x v => Host.reduce IntOp.andi x v reducesTo_S1024x3072_S_d0_1 h_S_) main_v24 main_c_8
  let main_v26 : IVec S_ 1 := andi main_v20 main_v25
  let main_v27 : FVec F S8448x1024 .f32 := Host.absf main_arg5
  let main_cst_9 : FVec F S_ .f32 := constant S_ .f32 0x7F800000#32
  let main_v28 : FVec F S8448x1024 .f32 := broadcastInDim S8448x1024 ![] bcast_S_S8448x1024 main_cst_9
  let main_v29 : IVec S8448x1024 1 := cmpf .olt main_v27 main_v28
  let main_c_10 : IVec S_ 1 := constantI S_ 1 1#1
  let main_v30 : IVec S_ 1 := (fun x v => Host.reduce IntOp.andi x v reducesTo_S8448x1024_S_d0_1 h_S_) main_v29 main_c_10
  let main_v31 : IVec S_ 1 := andi main_v26 main_v30
  let main_v32 : FVec F S1x1024 .f32 := Host.absf main_arg6
  let main_cst_11 : FVec F S_ .f32 := constant S_ .f32 0x7F800000#32
  let main_v33 : FVec F S1x1024 .f32 := broadcastInDim S1x1024 ![] bcast_S_S1x1024 main_cst_11
  fn_part2 (F := F) main_v31 main_v32 main_v33

def fn {F : FTy → Type} [FloatOps F] (main_arg0 : FVec F S8448x1024 .f32) (main_arg1 : FVec F S8448x3072 .f32) (main_arg2 : FVec F S3x1024 .f32) (main_arg3 : FVec F S1024x1024 .bf16) (main_arg4 : FVec F S1024x3072 .bf16) (main_arg5 : FVec F S8448x1024 .f32) (main_arg6 : FVec F S1x1024 .f32) : IVec S_ 1 :=
  let main_v0 : FVec F S8448x1024 .f32 := Host.absf main_arg0
  let main_cst : FVec F S_ .f32 := constant S_ .f32 0x7F800000#32
  let main_v1 : FVec F S8448x1024 .f32 := broadcastInDim S8448x1024 ![] bcast_S_S8448x1024 main_cst
  let main_v2 : IVec S8448x1024 1 := cmpf .olt main_v0 main_v1
  let main_c : IVec S_ 1 := constantI S_ 1 1#1
  let main_v3 : IVec S_ 1 := (fun x v => Host.reduce IntOp.andi x v reducesTo_S8448x1024_S_d0_1 h_S_) main_v2 main_c
  let main_c_0 : IVec S_ 1 := constantI S_ 1 1#1
  let main_v4 : IVec S_ 1 := andi main_c_0 main_v3
  let main_v5 : FVec F S8448x3072 .f32 := Host.absf main_arg1
  let main_cst_1 : FVec F S_ .f32 := constant S_ .f32 0x7F800000#32
  let main_v6 : FVec F S8448x3072 .f32 := broadcastInDim S8448x3072 ![] bcast_S_S8448x3072 main_cst_1
  let main_v7 : IVec S8448x3072 1 := cmpf .olt main_v5 main_v6
  let main_c_2 : IVec S_ 1 := constantI S_ 1 1#1
  let main_v8 : IVec S_ 1 := (fun x v => Host.reduce IntOp.andi x v reducesTo_S8448x3072_S_d0_1 h_S_) main_v7 main_c_2
  let main_v9 : IVec S_ 1 := andi main_v4 main_v8
  let main_v10 : FVec F S3x1024 .f32 := Host.absf main_arg2
  let main_cst_3 : FVec F S_ .f32 := constant S_ .f32 0x7F800000#32
  let main_v11 : FVec F S3x1024 .f32 := broadcastInDim S3x1024 ![] bcast_S_S3x1024 main_cst_3
  let main_v12 : IVec S3x1024 1 := cmpf .olt main_v10 main_v11
  let main_c_4 : IVec S_ 1 := constantI S_ 1 1#1
  let main_v13 : IVec S_ 1 := (fun x v => Host.reduce IntOp.andi x v reducesTo_S3x1024_S_d0_1 h_S_) main_v12 main_c_4
  let main_v14 : IVec S_ 1 := andi main_v9 main_v13
  let main_v15 : FVec F S1024x1024 .f32 := (extf .f32 · bitsLt_bf16_f32) main_arg3
  let main_v16 : FVec F S1024x1024 .f32 := Host.absf main_v15
  fn_part1 (F := F) main_arg4 main_arg5 main_arg6 main_v14 main_v16
-- ==== Kernel.lean ====
abbrev S8448x1024 : Shape := ⟨2, ![8448, 1024]⟩
abbrev S8448x3072 : Shape := ⟨2, ![8448, 3072]⟩
abbrev S3x1024 : Shape := ⟨2, ![3, 1024]⟩
abbrev S1024x1024 : Shape := ⟨2, ![1024, 1024]⟩
abbrev S1024x3072 : Shape := ⟨2, ![1024, 3072]⟩
abbrev S1x1024 : Shape := ⟨2, ![1, 1024]⟩
abbrev S8x1024 : Shape := ⟨2, ![8, 1024]⟩
abbrev S256x1024 : Shape := ⟨2, ![256, 1024]⟩
abbrev S256x3072 : Shape := ⟨2, ![256, 3072]⟩
abbrev S2 : Shape := ⟨1, ![2]⟩
abbrev S1 : Shape := ⟨1, ![1]⟩
abbrev S_ : Shape := ⟨0, ![]⟩
abbrev S264x1024 : Shape := ⟨2, ![264, 1024]⟩
abbrev S1024 : Shape := ⟨1, ![1024]⟩
abbrev S256 : Shape := ⟨1, ![256]⟩
abbrev S256x1 : Shape := ⟨2, ![256, 1]⟩

abbrev nBuf : Space → Nat
  | .hbm => 12
  | .vmem => 22
  | .smem => 0
  | _ => 0

abbrev bufTy : (tb : Table) → Fin (tcTables nBuf tb) → BufTy
  | .hbm, ⟨0, _⟩ => ⟨S8448x1024, .f32⟩
  | .hbm, ⟨1, _⟩ => ⟨S8448x3072, .f32⟩
  | .hbm, ⟨2, _⟩ => ⟨S3x1024, .f32⟩
  | .hbm, ⟨3, _⟩ => ⟨S1024x1024, .bf16⟩
  | .hbm, ⟨4, _⟩ => ⟨S1024x3072, .bf16⟩
  | .hbm, ⟨5, _⟩ => ⟨S8448x1024, .f32⟩
  | .hbm, ⟨6, _⟩ => ⟨S1x1024, .f32⟩
  | .hbm, ⟨7, _⟩ => ⟨S8448x3072, .bf16⟩
  | .hbm, ⟨8, _⟩ => ⟨S8x1024, .f32⟩
  | .hbm, ⟨9, _⟩ => ⟨S8448x1024, .f32⟩
  | .hbm, ⟨10, _⟩ => ⟨S8x1024, .f32⟩
  | .hbm, ⟨11, _⟩ => ⟨S8x1024, .f32⟩
  | .local _ .vmem, ⟨0, _⟩ => ⟨S256x1024, .f32⟩
  | .local _ .vmem, ⟨1, _⟩ => ⟨S256x1024, .f32⟩
  | .local _ .vmem, ⟨2, _⟩ => ⟨S256x3072, .f32⟩
  | .local _ .vmem, ⟨3, _⟩ => ⟨S256x3072, .f32⟩
  | .local _ .vmem, ⟨4, _⟩ => ⟨S8x1024, .f32⟩
  | .local _ .vmem, ⟨5, _⟩ => ⟨S8x1024, .f32⟩
  | .local _ .vmem, ⟨6, _⟩ => ⟨S8x1024, .f32⟩
  | .local _ .vmem, ⟨7, _⟩ => ⟨S8x1024, .f32⟩
  | .local _ .vmem, ⟨8, _⟩ => ⟨S3x1024, .f32⟩
  | .local _ .vmem, ⟨9, _⟩ => ⟨S256x1024, .f32⟩
  | .local _ .vmem, ⟨10, _⟩ => ⟨S256x1024, .f32⟩
  | .local _ .vmem, ⟨11, _⟩ => ⟨S1x1024, .f32⟩
  | .local _ .vmem, ⟨12, _⟩ => ⟨S256x3072, .bf16⟩
  | .local _ .vmem, ⟨13, _⟩ => ⟨S256x3072, .bf16⟩
  | .local _ .vmem, ⟨14, _⟩ => ⟨S8x1024, .f32⟩
  | .local _ .vmem, ⟨15, _⟩ => ⟨S256x1024, .f32⟩
  | .local _ .vmem, ⟨16, _⟩ => ⟨S256x1024, .f32⟩
  | .local _ .vmem, ⟨17, _⟩ => ⟨S8x1024, .f32⟩
  | .local _ .vmem, ⟨18, _⟩ => ⟨S8x1024, .f32⟩
  | .local _ .vmem, ⟨19, _⟩ => ⟨S1024x1024, .bf16⟩
  | .local _ .vmem, ⟨20, _⟩ => ⟨S1024x3072, .bf16⟩
  | .local _ .vmem, ⟨21, _⟩ => ⟨S8x1024, .f32⟩
  | _, _ => ⟨S8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev main_v0_4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg11_0 : Ref sig .tc := ⟨.vmem, 18, rfl⟩
abbrev cc0_scratch0 : Ref sig .tc := ⟨.vmem, 19, rfl⟩
abbrev cc0_scratch1 : Ref sig .tc := ⟨.vmem, 20, rfl⟩
abbrev cc0_scratch2 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem9_0 : DmaSem sig := 15
abbrev cc0_sem9_1 : DmaSem sig := 16
abbrev cc0_sem10_0 : DmaSem sig := 17
abbrev cc0_sem11_0 : DmaSem sig := 18

abbrev nD : Nat := 1
abbrev τ : Topo := Topo.v7x

variable {F : FTy → Type} [FloatOps F]

abbrev grid0 : Pipeline.Grid := ⟨1, ![33], ![false]⟩

def cc0_transform_0 (i : grid0.Coords) : Fin 2 → Nat :=
  let arg0 : BitVec 32 := BitVec.ofNat 32 (i 0).val
  let c32_i32 : BitVec 32 := 32#32
  let v0 : BitVec 32 := Scalar.subi c32_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c32_i32 : BitVec 32 := 32#32
  let v0 : BitVec 32 := Scalar.subi c32_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c32_i32 : BitVec 32 := 32#32
  let v0 : BitVec 32 := Scalar.subi c32_i32 arg0
  let c32_i32_0 : BitVec 32 := 32#32
  let v1 : BitVec 32 := Scalar.muli v0 c32_i32_0
  let c1_i32 : BitVec 32 := 1#32
  let v2 : BitVec 32 := Scalar.subi v1 c1_i32
  let c0_i32 : BitVec 32 := 0#32
  let v3 : BitVec 32 := Scalar.maxsi v2 c0_i32
  let c1_i32_1 : BitVec 32 := 1#32
  let c0_i32_2 : BitVec 32 := 0#32
  ![v3.toNat, c1_i32_1.toNat]

def cc0_transform_3 (i : grid0.Coords) : Fin 2 → Nat :=
  let arg0 : BitVec 32 := BitVec.ofNat 32 (i 0).val
  let c32_i32 : BitVec 32 := 32#32
  let v0 : BitVec 32 := Scalar.subi c32_i32 arg0
  let c32_i32_0 : BitVec 32 := 32#32
  let v1 : BitVec 32 := Scalar.muli v0 c32_i32_0
  let c1_i32 : BitVec 32 := 1#32
  let v2 : BitVec 32 := Scalar.subi v1 c1_i32
  let c0_i32 : BitVec 32 := 0#32
  let v3 : BitVec 32 := Scalar.maxsi v2 c0_i32
  let c2_i32 : BitVec 32 := 2#32
  let c0_i32_1 : BitVec 32 := 0#32
  ![v3.toNat, c2_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c32_i32 : BitVec 32 := 32#32
  let v0 : BitVec 32 := Scalar.subi c32_i32 arg0
  let c0_i32 : BitVec 32 := 0#32
  let c0_i32_0 : BitVec 32 := 0#32
  ![v0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c32_i32 : BitVec 32 := 32#32
  let v0 : BitVec 32 := Scalar.subi c32_i32 arg0
  let c0_i32 : BitVec 32 := 0#32
  let c0_i32_0 : BitVec 32 := 0#32
  ![v0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c32_i32 : BitVec 32 := 32#32
  let v0 : BitVec 32 := Scalar.subi c32_i32 arg0
  let c0_i32 : BitVec 32 := 0#32
  let c0_i32_0 : BitVec 32 := 0#32
  ![v0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x3072 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S3x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x3072 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S8x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S8x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S8x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== ReferenceIdeal.lean ====
abbrev S8448x1024 : Shape := ⟨2, ![8448, 1024]⟩
abbrev S8448x3072 : Shape := ⟨2, ![8448, 3072]⟩
abbrev S3x1024 : Shape := ⟨2, ![3, 1024]⟩
abbrev S1024x1024 : Shape := ⟨2, ![1024, 1024]⟩
abbrev S1024x3072 : Shape := ⟨2, ![1024, 3072]⟩
abbrev S1x1024 : Shape := ⟨2, ![1, 1024]⟩
abbrev S_ : Shape := ⟨0, ![]⟩
abbrev S2x1024 : Shape := ⟨2, ![2, 1024]⟩
abbrev S8450x1024 : Shape := ⟨2, ![8450, 1024]⟩
abbrev S1024 : Shape := ⟨1, ![1024]⟩
abbrev S3072x1024 : Shape := ⟨2, ![3072, 1024]⟩
abbrev S8448 : Shape := ⟨1, ![8448]⟩
abbrev S8448x1 : Shape := ⟨2, ![8448, 1]⟩
abbrev S5x1024 : Shape := ⟨2, ![5, 1024]⟩
abbrev S8x1024 : Shape := ⟨2, ![8, 1024]⟩
abbrev S7x1024 : Shape := ⟨2, ![7, 1024]⟩

abbrev nBuf : Space → Nat
  | .hbm => 184
  | .vmem => 0
  | .smem => 0
  | _ => 0

abbrev hbmTy0_0 (i : Nat) : BufTy := match i % 128 with
  | 0 => ⟨S8448x1024, .f32⟩
  | 1 => ⟨S8448x3072, .f32⟩
  | 2 => ⟨S3x1024, .f32⟩
  | 3 => ⟨S1024x1024, .bf16⟩
  | 4 => ⟨S1024x3072, .bf16⟩
  | 5 => ⟨S8448x1024, .f32⟩
  | 6 => ⟨S1x1024, .f32⟩
  | 7 => ⟨S8448x1024, .f32⟩
  | 8 => ⟨S8448x1024, .f32⟩
  | 9 => ⟨S8448x1024, .f32⟩
  | 10 => ⟨S8448x1024, .f32⟩
  | 11 => ⟨S_, .f32⟩
  | 12 => ⟨S2x1024, .f32⟩
  | 13 => ⟨S8450x1024, .f32⟩
  | 14 => ⟨S_, .f32⟩
  | 15 => ⟨S2x1024, .f32⟩
  | 16 => ⟨S1x1024, .f32⟩
  | 17 => ⟨S8448x1024, .f32⟩
  | 18 => ⟨S8448x1024, .f32⟩
  | 19 => ⟨S8448x1024, .f32⟩
  | 20 => ⟨S_, .f32⟩
  | 21 => ⟨S8448x1024, .f32⟩
  | 22 => ⟨S8448x1024, .f32⟩
  | 23 => ⟨S1x1024, .f32⟩
  | 24 => ⟨S8448x1024, .f32⟩
  | 25 => ⟨S8448x1024, .f32⟩
  | 26 => ⟨S8448x1024, .f32⟩
  | 27 => ⟨S8448x1024, .f32⟩
  | 28 => ⟨S1x1024, .f32⟩
  | 29 => ⟨S8448x1024, .f32⟩
  | 30 => ⟨S8448x1024, .f32⟩
  | 31 => ⟨S8448x1024, .f32⟩
  | 32 => ⟨S8448x1024, .f32⟩
  | 33 => ⟨S8448x1024, .f32⟩
  | 34 => ⟨S1024x1024, .f32⟩
  | 35 => ⟨S8448x1024, .f32⟩
  | 36 => ⟨S8448x1024, .f32⟩
  | 37 => ⟨S8448x1024, .f32⟩
  | 38 => ⟨S8448x1024, .f32⟩
  | 39 => ⟨S8448x1024, .f32⟩
  | 40 => ⟨S8448x1024, .f32⟩
  | 41 => ⟨S8448x1024, .f32⟩
  | 42 => ⟨S_, .f32⟩
  | 43 => ⟨S1024, .f32⟩
  | 44 => ⟨S1x1024, .f32⟩
  | 45 => ⟨S_, .f32⟩
  | 46 => ⟨S8450x1024, .f32⟩
  | 47 => ⟨S_, .f32⟩
  | 48 => ⟨S3x1024, .f32⟩
  | 49 => ⟨S8448x1024, .f32⟩
  | 50 => ⟨S8448x1024, .f32⟩
  | 51 => ⟨S8448x1024, .f32⟩
  | 52 => ⟨S_, .f32⟩
  | 53 => ⟨S1024, .f32⟩
  | 54 => ⟨S1x1024, .f32⟩
  | 55 => ⟨S_, .f32⟩
  | 56 => ⟨S8450x1024, .f32⟩
  | 57 => ⟨S8450x1024, .f32⟩
  | 58 => ⟨S_, .f32⟩
  | 59 => ⟨S3x1024, .f32⟩
  | 60 => ⟨S3x1024, .f32⟩
  | 61 => ⟨S8448x1024, .f32⟩
  | 62 => ⟨S8448x1024, .f32⟩
  | 63 => ⟨S8448x1024, .f32⟩
  | 64 => ⟨S_, .f32⟩
  | 65 => ⟨S1024, .f32⟩
  | 66 => ⟨S1x1024, .f32⟩
  | 67 => ⟨S_, .f32⟩
  | 68 => ⟨S8450x1024, .f32⟩
  | 69 => ⟨S8450x1024, .f32⟩
  | 70 => ⟨S_, .f32⟩
  | 71 => ⟨S3x1024, .f32⟩
  | 72 => ⟨S3x1024, .f32⟩
  | 73 => ⟨S2x1024, .f32⟩
  | 74 => ⟨S8448x1024, .f32⟩
  | 75 => ⟨S8448x1024, .f32⟩
  | 76 => ⟨S8448x1024, .f32⟩
  | 77 => ⟨S8448x3072, .f32⟩
  | 78 => ⟨S_, .f32⟩
  | 79 => ⟨S8448x1024, .f32⟩
  | 80 => ⟨S8448x1024, .f32⟩
  | 81 => ⟨S1024x3072, .f32⟩
  | 82 => ⟨S3072x1024, .f32⟩
  | 83 => ⟨S8448x1024, .f32⟩
  | 84 => ⟨S8448x1024, .f32⟩
  | 85 => ⟨S_, .f32⟩
  | 86 => ⟨S1x1024, .f32⟩
  | 87 => ⟨S_, .f32⟩
  | 88 => ⟨S8448, .f32⟩
  | 89 => ⟨S8448x1, .f32⟩
  | 90 => ⟨S_, .f32⟩
  | 91 => ⟨S8448x1, .f32⟩
  | 92 => ⟨S8448x1, .f32⟩
  | 93 => ⟨S8448x1024, .f32⟩
  | 94 => ⟨S8448x1024, .f32⟩
  | 95 => ⟨S8448x1024, .f32⟩
  | 96 => ⟨S_, .f32⟩
  | 97 => ⟨S8448x1024, .f32⟩
  | 98 => ⟨S8448x1024, .f32⟩
  | 99 => ⟨S_, .f32⟩
  | 100 => ⟨S8448, .f32⟩
  | 101 => ⟨S8448x1, .f32⟩
  | 102 => ⟨S_, .f32⟩
  | 103 => ⟨S8448x1, .f32⟩
  | 104 => ⟨S8448x1, .f32⟩
  | 105 => ⟨S8448x1024, .f32⟩
  | 106 => ⟨S8448x1024, .f32⟩
  | 107 => ⟨S_, .f32⟩
  | 108 => ⟨S8448x1, .f32⟩
  | 109 => ⟨S8448x1, .f32⟩
  | 110 => ⟨S8448x1, .f32⟩
  | 111 => ⟨S8448x1, .f32⟩
  | 112 => ⟨S_, .f32⟩
  | 113 => ⟨S8448x1, .f32⟩
  | 114 => ⟨S8448x1, .f32⟩
  | 115 => ⟨S8448x1024, .f32⟩
  | 116 => ⟨S8448x1024, .f32⟩
  | 117 => ⟨S8448x1024, .f32⟩
  | 118 => ⟨S8448x1024, .f32⟩
  | 119 => ⟨S8448x1024, .f32⟩
  | 120 => ⟨S8448x1024, .f32⟩
  | 121 => ⟨S8448x1024, .i32⟩
  | 122 => ⟨S_, .i32⟩
  | 123 => ⟨S8448x1024, .i32⟩
  | 124 => ⟨S8448x1024, .i1⟩
  | 125 => ⟨S_, .f32⟩
  | 126 => ⟨S_, .f32⟩
  | 127 => ⟨S8448x1024, .f32⟩
  | _ => ⟨S8448x1024, .f32⟩

abbrev hbmTy0_1 (i : Nat) : BufTy := match i % 128 with
  | 0 => ⟨S8448x1024, .f32⟩
  | 1 => ⟨S_, .f32⟩
  | 2 => ⟨S8448x1024, .f32⟩
  | 3 => ⟨S_, .f32⟩
  | 4 => ⟨S8448x1024, .f32⟩
  | 5 => ⟨S8448x1024, .f32⟩
  | 6 => ⟨S_, .f32⟩
  | 7 => ⟨S1024, .f32⟩
  | 8 => ⟨S1x1024, .f32⟩
  | 9 => ⟨S8448x1024, .f32⟩
  | 10 => ⟨S_, .f32⟩
  | 11 => ⟨S1024, .f32⟩
  | 12 => ⟨S1x1024, .f32⟩
  | 13 => ⟨S8448x1024, .f32⟩
  | 14 => ⟨S8448x1024, .f32⟩
  | 15 => ⟨S8448x1024, .f32⟩
  | 16 => ⟨S_, .f32⟩
  | 17 => ⟨S8448, .f32⟩
  | 18 => ⟨S8448x1, .f32⟩
  | 19 => ⟨S8448x1024, .f32⟩
  | 20 => ⟨S8448x1024, .f32⟩
  | 21 => ⟨S8448x1, .f32⟩
  | 22 => ⟨S8448x1024, .f32⟩
  | 23 => ⟨S_, .f32⟩
  | 24 => ⟨S8448, .f32⟩
  | 25 => ⟨S8448x1, .f32⟩
  | 26 => ⟨S_, .f32⟩
  | 27 => ⟨S8448x1, .f32⟩
  | 28 => ⟨S8448x1, .f32⟩
  | 29 => ⟨S_, .f32⟩
  | 30 => ⟨S8448, .f32⟩
  | 31 => ⟨S8448x1024, .f32⟩
  | 32 => ⟨S8448x1024, .f32⟩
  | 33 => ⟨S8448x1024, .f32⟩
  | 34 => ⟨S_, .f32⟩
  | 35 => ⟨S8448, .f32⟩
  | 36 => ⟨S8448x1, .f32⟩
  | 37 => ⟨S8448x1024, .f32⟩
  | 38 => ⟨S8448x1, .f32⟩
  | 39 => ⟨S_, .f32⟩
  | 40 => ⟨S8448x1, .f32⟩
  | 41 => ⟨S8448x1, .f32⟩
  | 42 => ⟨S_, .f32⟩
  | 43 => ⟨S8448, .f32⟩
  | 44 => ⟨S8448x1024, .f32⟩
  | 45 => ⟨S8448x1024, .f32⟩
  | 46 => ⟨S8448x3072, .bf16⟩
  | 47 => ⟨S_, .f32⟩
  | 48 => ⟨S5x1024, .f32⟩
  | 49 => ⟨S8x1024, .f32⟩
  | 50 => ⟨S_, .f32⟩
  | 51 => ⟨S7x1024, .f32⟩
  | 52 => ⟨S8x1024, .f32⟩
  | 53 => ⟨S_, .f32⟩
  | 54 => ⟨S7x1024, .f32⟩
  | 55 => ⟨S8x1024, .f32⟩
  | _ => ⟨S8448x1024, .f32⟩

abbrev hbmTy (i : Nat) : BufTy := match i / 128 with
  | 0 => hbmTy0_0 i
  | 1 => hbmTy0_1 i
  | _ => ⟨S8448x1024, .f32⟩

abbrev bufTy : (tb : Table) → Fin (tcTables nBuf tb) → BufTy
  | .hbm, ⟨i, _⟩ => hbmTy i
  | _, _ => ⟨S8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_cst_2 : Ref sig .tc := ⟨.hbm, 42, rfl⟩
abbrev main_v32 : Ref sig .tc := ⟨.hbm, 43, rfl⟩
abbrev main_v33 : Ref sig .tc := ⟨.hbm, 44, rfl⟩
abbrev main_cst_3 : Ref sig .tc := ⟨.hbm, 45, rfl⟩
abbrev main_v34 : Ref sig .tc := ⟨.hbm, 46, rfl⟩
abbrev main_cst_4 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_cst_5 : Ref sig .tc := ⟨.hbm, 52, rfl⟩
abbrev main_v39 : Ref sig .tc := ⟨.hbm, 53, rfl⟩
abbrev main_v40 : Ref sig .tc := ⟨.hbm, 54, rfl⟩
abbrev main_cst_6 : Ref sig .tc := ⟨.hbm, 55, rfl⟩
abbrev main_v41 : Ref sig .tc := ⟨.hbm, 56, rfl⟩
abbrev main_v42 : Ref sig .tc := ⟨.hbm, 57, rfl⟩
abbrev main_cst_7 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_cst_8 : Ref sig .tc := ⟨.hbm, 64, rfl⟩
abbrev main_v48 : Ref sig .tc := ⟨.hbm, 65, rfl⟩
abbrev main_v49 : Ref sig .tc := ⟨.hbm, 66, rfl⟩
abbrev main_cst_9 : Ref sig .tc := ⟨.hbm, 67, rfl⟩
abbrev main_v50 : Ref sig .tc := ⟨.hbm, 68, rfl⟩
abbrev main_v51 : Ref sig .tc := ⟨.hbm, 69, rfl⟩
abbrev main_cst_10 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_cst_11 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_cst_12 : Ref sig .tc := ⟨.hbm, 85, rfl⟩
abbrev main_v65 : Ref sig .tc := ⟨.hbm, 86, rfl⟩
abbrev main_cst_13 : Ref sig .tc := ⟨.hbm, 87, rfl⟩
abbrev main_v66 : Ref sig .tc := ⟨.hbm, 88, rfl⟩
abbrev main_v67 : Ref sig .tc := ⟨.hbm, 89, rfl⟩
abbrev main_cst_14 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_cst_15 : Ref sig .tc := ⟨.hbm, 96, rfl⟩
abbrev main_v73 : Ref sig .tc := ⟨.hbm, 97, rfl⟩
abbrev main_v74 : Ref sig .tc := ⟨.hbm, 98, rfl⟩
abbrev main_cst_16 : Ref sig .tc := ⟨.hbm, 99, rfl⟩
abbrev main_v75 : Ref sig .tc := ⟨.hbm, 100, rfl⟩
abbrev main_v76 : Ref sig .tc := ⟨.hbm, 101, rfl⟩
abbrev main_cst_17 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_cst_18 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_cst_19 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_c : Ref sig .tc := ⟨.hbm, 122, rfl⟩
abbrev main_v94 : Ref sig .tc := ⟨.hbm, 123, rfl⟩
abbrev main_v95 : Ref sig .tc := ⟨.hbm, 124, rfl⟩
abbrev main_cst_20 : Ref sig .tc := ⟨.hbm, 125, rfl⟩
abbrev main_call0_v0 : Ref sig .tc := ⟨.hbm, 126, rfl⟩
abbrev main_call0_v1 : Ref sig .tc := ⟨.hbm, 127, rfl⟩
abbrev main_v96_0 : Ref sig .tc := ⟨.hbm, 128, rfl⟩
abbrev main_call0_cst : Ref sig .tc := ⟨.hbm, 129, rfl⟩
abbrev main_v96_1 : Ref sig .tc := ⟨.hbm, 130, rfl⟩
abbrev main_call1_cst : Ref sig .tc := ⟨.hbm, 131, rfl⟩
abbrev main_call1_v0 : Ref sig .tc := ⟨.hbm, 132, rfl⟩
abbrev main_v97 : Ref sig .tc := ⟨.hbm, 133, rfl⟩
abbrev main_cst_21 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_cst_22 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_cst_23 : Ref sig .tc := ⟨.hbm, 144, rfl⟩
abbrev main_v106 : Ref sig .tc := ⟨.hbm, 145, rfl⟩
abbrev main_v107 : Ref sig .tc := ⟨.hbm, 146, rfl⟩
abbrev main_v108 : Ref sig .tc := ⟨.hbm, 147, rfl⟩
abbrev main_v109 : Ref sig .tc := ⟨.hbm, 148, rfl⟩
abbrev main_v110 : Ref sig .tc := ⟨.hbm, 149, rfl⟩
abbrev main_v111 : Ref sig .tc := ⟨.hbm, 150, rfl⟩
abbrev main_cst_24 : Ref sig .tc := ⟨.hbm, 151, rfl⟩
abbrev main_v112 : Ref sig .tc := ⟨.hbm, 152, rfl⟩
abbrev main_v113 : Ref sig .tc := ⟨.hbm, 153, rfl⟩
abbrev main_cst_25 : Ref sig .tc := ⟨.hbm, 154, rfl⟩
abbrev main_v114 : Ref sig .tc := ⟨.hbm, 155, rfl⟩
abbrev main_v115 : Ref sig .tc := ⟨.hbm, 156, rfl⟩
abbrev main_cst_26 : Ref sig .tc := ⟨.hbm, 157, rfl⟩
abbrev main_v116 : Ref sig .tc := ⟨.hbm, 158, rfl⟩
abbrev main_v117 : Ref sig .tc := ⟨.hbm, 159, rfl⟩
abbrev main_v118 : Ref sig .tc := ⟨.hbm, 160, rfl⟩
abbrev main_v119 : Ref sig .tc := ⟨.hbm, 161, rfl⟩
abbrev main_cst_27 : Ref sig .tc := ⟨.hbm, 162, rfl⟩
abbrev main_v120 : Ref sig .tc := ⟨.hbm, 163, rfl⟩
abbrev main_v121 : Ref sig .tc := ⟨.hbm, 164, rfl⟩
abbrev main_v122 : Ref sig .tc := ⟨.hbm, 165, rfl⟩
abbrev main_v123 : Ref sig .tc := ⟨.hbm, 166, rfl⟩
abbrev main_cst_28 : Ref sig .tc := ⟨.hbm, 167, rfl⟩
abbrev main_v124 : Ref sig .tc := ⟨.hbm, 168, rfl⟩
abbrev main_v125 : Ref sig .tc := ⟨.hbm, 169, rfl⟩
abbrev main_cst_29 : Ref sig .tc := ⟨.hbm, 170, rfl⟩
abbrev main_v126 : Ref sig .tc := ⟨.hbm, 171, rfl⟩
abbrev main_v127 : Ref sig .tc := ⟨.hbm, 172, rfl⟩
abbrev main_v128 : Ref sig .tc := ⟨.hbm, 173, rfl⟩
abbrev main_v129 : Ref sig .tc := ⟨.hbm, 174, rfl⟩
abbrev main_cst_30 : Ref sig .tc := ⟨.hbm, 175, rfl⟩
abbrev main_v130 : Ref sig .tc := ⟨.hbm, 176, rfl⟩
abbrev main_v131 : Ref sig .tc := ⟨.hbm, 177, rfl⟩
abbrev main_cst_31 : Ref sig .tc := ⟨.hbm, 178, rfl⟩
abbrev main_v132 : Ref sig .tc := ⟨.hbm, 179, rfl⟩
abbrev main_v133 : Ref sig .tc := ⟨.hbm, 180, rfl⟩
abbrev main_cst_32 : Ref sig .tc := ⟨.hbm, 181, rfl⟩
abbrev main_v134 : Ref sig .tc := ⟨.hbm, 182, rfl⟩
abbrev main_v135 : Ref sig .tc := ⟨.hbm, 183, rfl⟩

abbrev nD : Nat := 1
abbrev τ : Topo := Topo.v7x

variable {F : FTy → Type} [FloatOps F]
-- ==== FKernel.lean ====
abbrev S8448x1024 : Shape := ⟨2, ![8448, 1024]⟩
abbrev S8448x5632 : Shape := ⟨2, ![8448, 5632]⟩
abbrev S8x2x352x1024 : Shape := ⟨4, ![8, 2, 352, 1024]⟩
abbrev S3x2816 : Shape := ⟨2, ![3, 2816]⟩
abbrev S2x1024x5632 : Shape := ⟨3, ![2, 1024, 5632]⟩
abbrev S1x1024 : Shape := ⟨2, ![1, 1024]⟩
abbrev S8x2816 : Shape := ⟨2, ![8, 2816]⟩
abbrev S8x1024 : Shape := ⟨2, ![8, 1024]⟩
abbrev S256x1024 : Shape := ⟨2, ![256, 1024]⟩
abbrev S256x5632 : Shape := ⟨2, ![256, 5632]⟩
abbrev S2816x1024 : Shape := ⟨2, ![2816, 1024]⟩
abbrev S1024x5632 : Shape := ⟨2, ![1024, 5632]⟩
abbrev S9 : Shape := ⟨1, ![9]⟩
abbrev S1 : Shape := ⟨1, ![1]⟩
abbrev S_ : Shape := ⟨0, ![]⟩
abbrev S1x1024x5632 : Shape := ⟨3, ![1, 1024, 5632]⟩
abbrev S352x1024 : Shape := ⟨2, ![352, 1024]⟩
abbrev S1x1x352x1024 : Shape := ⟨4, ![1, 1, 352, 1024]⟩
abbrev S256x2816 : Shape := ⟨2, ![256, 2816]⟩
abbrev S264x2816 : Shape := ⟨2, ![264, 2816]⟩
abbrev S1x2816 : Shape := ⟨2, ![1, 2816]⟩
abbrev S2816 : Shape := ⟨1, ![2816]⟩
abbrev S1024x2816 : Shape := ⟨2, ![1024, 2816]⟩
abbrev S256 : Shape := ⟨1, ![256]⟩
abbrev S256x1 : Shape := ⟨2, ![256, 1]⟩
abbrev S1024 : Shape := ⟨1, ![1024]⟩

abbrev nBuf : Space → Nat
  | .hbm => 12
  | .vmem => 20
  | .smem => 0
  | _ => 0

abbrev bufTy : (tb : Table) → Fin (tcTables nBuf tb) → BufTy
  | .hbm, ⟨0, _⟩ => ⟨S8448x1024, .f32⟩
  | .hbm, ⟨1, _⟩ => ⟨S8448x5632, .f32⟩
  | .hbm, ⟨2, _⟩ => ⟨S8x2x352x1024, .bf16⟩
  | .hbm, ⟨3, _⟩ => ⟨S3x2816, .f32⟩
  | .hbm, ⟨4, _⟩ => ⟨S2x1024x5632, .bf16⟩
  | .hbm, ⟨5, _⟩ => ⟨S8448x1024, .f32⟩
  | .hbm, ⟨6, _⟩ => ⟨S1x1024, .f32⟩
  | .hbm, ⟨7, _⟩ => ⟨S8448x5632, .bf16⟩
  | .hbm, ⟨8, _⟩ => ⟨S8x2816, .f32⟩
  | .hbm, ⟨9, _⟩ => ⟨S8448x1024, .f32⟩
  | .hbm, ⟨10, _⟩ => ⟨S8x1024, .f32⟩
  | .hbm, ⟨11, _⟩ => ⟨S8x1024, .f32⟩
  | .local _ .vmem, ⟨0, _⟩ => ⟨S256x1024, .f32⟩
  | .local _ .vmem, ⟨1, _⟩ => ⟨S256x1024, .f32⟩
  | .local _ .vmem, ⟨2, _⟩ => ⟨S256x5632, .f32⟩
  | .local _ .vmem, ⟨3, _⟩ => ⟨S256x5632, .f32⟩
  | .local _ .vmem, ⟨4, _⟩ => ⟨S8x2816, .f32⟩
  | .local _ .vmem, ⟨5, _⟩ => ⟨S8x2816, .f32⟩
  | .local _ .vmem, ⟨6, _⟩ => ⟨S3x2816, .f32⟩
  | .local _ .vmem, ⟨7, _⟩ => ⟨S256x1024, .f32⟩
  | .local _ .vmem, ⟨8, _⟩ => ⟨S256x1024, .f32⟩
  | .local _ .vmem, ⟨9, _⟩ => ⟨S1x1024, .f32⟩
  | .local _ .vmem, ⟨10, _⟩ => ⟨S256x5632, .bf16⟩
  | .local _ .vmem, ⟨11, _⟩ => ⟨S256x5632, .bf16⟩
  | .local _ .vmem, ⟨12, _⟩ => ⟨S8x2816, .f32⟩
  | .local _ .vmem, ⟨13, _⟩ => ⟨S256x1024, .f32⟩
  | .local _ .vmem, ⟨14, _⟩ => ⟨S256x1024, .f32⟩
  | .local _ .vmem, ⟨15, _⟩ => ⟨S8x1024, .f32⟩
  | .local _ .vmem, ⟨16, _⟩ => ⟨S8x1024, .f32⟩
  | .local _ .vmem, ⟨17, _⟩ => ⟨S2816x1024, .bf16⟩
  | .local _ .vmem, ⟨18, _⟩ => ⟨S1024x5632, .bf16⟩
  | .local _ .vmem, ⟨19, _⟩ => ⟨S8x2816, .f32⟩
  | _, _ => ⟨S8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev main_v0_4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg10_0 : Ref sig .tc := ⟨.vmem, 16, rfl⟩
abbrev cc0_scratch0 : Ref sig .tc := ⟨.vmem, 17, rfl⟩
abbrev cc0_scratch1 : Ref sig .tc := ⟨.vmem, 18, rfl⟩
abbrev cc0_scratch2 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem10_0 : DmaSem sig := 16

abbrev nD : Nat := 1
abbrev τ : Topo := Topo.v7x

variable {F : FTy → Type} [FloatOps F]

abbrev grid0 : Pipeline.Grid := ⟨1, ![33], ![false]⟩

def cc0_transform_0 (i : grid0.Coords) : Fin 2 → Nat :=
  let arg0 : BitVec 32 := BitVec.ofNat 32 (i 0).val
  let c32_i32 : BitVec 32 := 32#32
  let v0 : BitVec 32 := Scalar.subi c32_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c32_i32 : BitVec 32 := 32#32
  let v0 : BitVec 32 := Scalar.subi c32_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c32_i32 : BitVec 32 := 32#32
  let v0 : BitVec 32 := Scalar.subi c32_i32 arg0
  let c32_i32_0 : BitVec 32 := 32#32
  let v1 : BitVec 32 := Scalar.muli v0 c32_i32_0
  let c1_i32 : BitVec 32 := 1#32
  let v2 : BitVec 32 := Scalar.subi v1 c1_i32
  let c0_i32 : BitVec 32 := 0#32
  let v3 : BitVec 32 := Scalar.maxsi v2 c0_i32
  let c0_i32_1 : BitVec 32 := 0#32
  let c0_i32_2 : BitVec 32 := 0#32
  ![v3.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c32_i32 : BitVec 32 := 32#32
  let v0 : BitVec 32 := Scalar.subi c32_i32 arg0
  let c0_i32 : BitVec 32 := 0#32
  let c0_i32_0 : BitVec 32 := 0#32
  ![v0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c32_i32 : BitVec 32 := 32#32
  let v0 : BitVec 32 := Scalar.subi c32_i32 arg0
  let c0_i32 : BitVec 32 := 0#32
  let c0_i32_0 : BitVec 32 := 0#32
  ![v0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c32_i32 : BitVec 32 := 32#32
  let v0 : BitVec 32 := Scalar.subi c32_i32 arg0
  let c0_i32 : BitVec 32 := 0#32
  let c0_i32_0 : BitVec 32 := 0#32
  ![v0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x5632 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x2816 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S3x2816 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x5632 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S8x2816 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S8x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S8x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== FReferenceIdeal.lean ====
abbrev S8448x1024 : Shape := ⟨2, ![8448, 1024]⟩
abbrev S8448x5632 : Shape := ⟨2, ![8448, 5632]⟩
abbrev S8x2x352x1024 : Shape := ⟨4, ![8, 2, 352, 1024]⟩
abbrev S3x2816 : Shape := ⟨2, ![3, 2816]⟩
abbrev S2x1024x5632 : Shape := ⟨3, ![2, 1024, 5632]⟩
abbrev S1x1024 : Shape := ⟨2, ![1, 1024]⟩
abbrev S8448x2816 : Shape := ⟨2, ![8448, 2816]⟩
abbrev S_ : Shape := ⟨0, ![]⟩
abbrev S2x2816 : Shape := ⟨2, ![2, 2816]⟩
abbrev S8450x2816 : Shape := ⟨2, ![8450, 2816]⟩
abbrev S1x2816 : Shape := ⟨2, ![1, 2816]⟩
abbrev S8x1x352x1024 : Shape := ⟨4, ![8, 1, 352, 1024]⟩
abbrev S8x352x1024 : Shape := ⟨3, ![8, 352, 1024]⟩
abbrev S2816x1024 : Shape := ⟨2, ![2816, 1024]⟩
abbrev S2816 : Shape := ⟨1, ![2816]⟩
abbrev S1x1024x5632 : Shape := ⟨3, ![1, 1024, 5632]⟩
abbrev S1024x5632 : Shape := ⟨2, ![1024, 5632]⟩
abbrev S5632x1024 : Shape := ⟨2, ![5632, 1024]⟩
abbrev S8448 : Shape := ⟨1, ![8448]⟩
abbrev S8448x1 : Shape := ⟨2, ![8448, 1]⟩
abbrev S1024 : Shape := ⟨1, ![1024]⟩
abbrev S5x2816 : Shape := ⟨2, ![5, 2816]⟩
abbrev S8x2816 : Shape := ⟨2, ![8, 2816]⟩
abbrev S7x1024 : Shape := ⟨2, ![7, 1024]⟩
abbrev S8x1024 : Shape := ⟨2, ![8, 1024]⟩

abbrev nBuf : Space → Nat
  | .hbm => 202
  | .vmem => 0
  | .smem => 0
  | _ => 0

abbrev hbmTy0_0 (i : Nat) : BufTy := match i % 128 with
  | 0 => ⟨S8448x1024, .f32⟩
  | 1 => ⟨S8448x5632, .f32⟩
  | 2 => ⟨S8x2x352x1024, .bf16⟩
  | 3 => ⟨S3x2816, .f32⟩
  | 4 => ⟨S2x1024x5632, .bf16⟩
  | 5 => ⟨S8448x1024, .f32⟩
  | 6 => ⟨S1x1024, .f32⟩
  | 7 => ⟨S8448x2816, .f32⟩
  | 8 => ⟨S8448x2816, .f32⟩
  | 9 => ⟨S_, .f32⟩
  | 10 => ⟨S2x2816, .f32⟩
  | 11 => ⟨S8450x2816, .f32⟩
  | 12 => ⟨S_, .f32⟩
  | 13 => ⟨S2x2816, .f32⟩
  | 14 => ⟨S1x2816, .f32⟩
  | 15 => ⟨S8448x2816, .f32⟩
  | 16 => ⟨S8448x2816, .f32⟩
  | 17 => ⟨S8448x2816, .f32⟩
  | 18 => ⟨S_, .f32⟩
  | 19 => ⟨S8448x2816, .f32⟩
  | 20 => ⟨S8448x2816, .f32⟩
  | 21 => ⟨S1x2816, .f32⟩
  | 22 => ⟨S8448x2816, .f32⟩
  | 23 => ⟨S8448x2816, .f32⟩
  | 24 => ⟨S8448x2816, .f32⟩
  | 25 => ⟨S8448x2816, .f32⟩
  | 26 => ⟨S1x2816, .f32⟩
  | 27 => ⟨S8448x2816, .f32⟩
  | 28 => ⟨S8448x2816, .f32⟩
  | 29 => ⟨S8448x2816, .f32⟩
  | 30 => ⟨S8448x2816, .f32⟩
  | 31 => ⟨S8448x2816, .f32⟩
  | 32 => ⟨S8448x2816, .f32⟩
  | 33 => ⟨S_, .f32⟩
  | 34 => ⟨S8448x2816, .f32⟩
  | 35 => ⟨S8448x2816, .f32⟩
  | 36 => ⟨S_, .f32⟩
  | 37 => ⟨S8448x2816, .f32⟩
  | 38 => ⟨S8448x2816, .f32⟩
  | 39 => ⟨S_, .f32⟩
  | 40 => ⟨S8448x2816, .f32⟩
  | 41 => ⟨S8448x2816, .f32⟩
  | 42 => ⟨S8448x2816, .f32⟩
  | 43 => ⟨S8448x2816, .f32⟩
  | 44 => ⟨S8448x2816, .f32⟩
  | 45 => ⟨S8x2x352x1024, .f32⟩
  | 46 => ⟨S8x1x352x1024, .f32⟩
  | 47 => ⟨S8x352x1024, .f32⟩
  | 48 => ⟨S2816x1024, .f32⟩
  | 49 => ⟨S8448x1024, .f32⟩
  | 50 => ⟨S8448x2816, .f32⟩
  | 51 => ⟨S8448x2816, .f32⟩
  | 52 => ⟨S8448x2816, .f32⟩
  | 53 => ⟨S8448x2816, .f32⟩
  | 54 => ⟨S8448x2816, .f32⟩
  | 55 => ⟨S8448x2816, .f32⟩
  | 56 => ⟨S8448x2816, .f32⟩
  | 57 => ⟨S8448x2816, .f32⟩
  | 58 => ⟨S8448x2816, .f32⟩
  | 59 => ⟨S8448x2816, .f32⟩
  | 60 => ⟨S_, .f32⟩
  | 61 => ⟨S2816, .f32⟩
  | 62 => ⟨S1x2816, .f32⟩
  | 63 => ⟨S_, .f32⟩
  | 64 => ⟨S8450x2816, .f32⟩
  | 65 => ⟨S_, .f32⟩
  | 66 => ⟨S3x2816, .f32⟩
  | 67 => ⟨S8448x2816, .f32⟩
  | 68 => ⟨S8448x2816, .f32⟩
  | 69 => ⟨S8448x2816, .f32⟩
  | 70 => ⟨S_, .f32⟩
  | 71 => ⟨S2816, .f32⟩
  | 72 => ⟨S1x2816, .f32⟩
  | 73 => ⟨S_, .f32⟩
  | 74 => ⟨S8450x2816, .f32⟩
  | 75 => ⟨S8450x2816, .f32⟩
  | 76 => ⟨S_, .f32⟩
  | 77 => ⟨S3x2816, .f32⟩
  | 78 => ⟨S3x2816, .f32⟩
  | 79 => ⟨S8448x2816, .f32⟩
  | 80 => ⟨S8448x2816, .f32⟩
  | 81 => ⟨S8448x2816, .f32⟩
  | 82 => ⟨S_, .f32⟩
  | 83 => ⟨S2816, .f32⟩
  | 84 => ⟨S1x2816, .f32⟩
  | 85 => ⟨S_, .f32⟩
  | 86 => ⟨S8450x2816, .f32⟩
  | 87 => ⟨S8450x2816, .f32⟩
  | 88 => ⟨S_, .f32⟩
  | 89 => ⟨S3x2816, .f32⟩
  | 90 => ⟨S3x2816, .f32⟩
  | 91 => ⟨S2x2816, .f32⟩
  | 92 => ⟨S8448x2816, .f32⟩
  | 93 => ⟨S8448x5632, .f32⟩
  | 94 => ⟨S_, .f32⟩
  | 95 => ⟨S8448x1024, .f32⟩
  | 96 => ⟨S8448x1024, .f32⟩
  | 97 => ⟨S2x1024x5632, .f32⟩
  | 98 => ⟨S1x1024x5632, .f32⟩
  | 99 => ⟨S1024x5632, .f32⟩
  | 100 => ⟨S5632x1024, .f32⟩
  | 101 => ⟨S8448x1024, .f32⟩
  | 102 => ⟨S8448x1024, .f32⟩
  | 103 => ⟨S_, .f32⟩
  | 104 => ⟨S1x1024, .f32⟩
  | 105 => ⟨S_, .f32⟩
  | 106 => ⟨S8448, .f32⟩
  | 107 => ⟨S8448x1, .f32⟩
  | 108 => ⟨S_, .f32⟩
  | 109 => ⟨S8448x1, .f32⟩
  | 110 => ⟨S8448x1, .f32⟩
  | 111 => ⟨S8448x1024, .f32⟩
  | 112 => ⟨S8448x1024, .f32⟩
  | 113 => ⟨S8448x1024, .f32⟩
  | 114 => ⟨S_, .f32⟩
  | 115 => ⟨S8448x1024, .f32⟩
  | 116 => ⟨S8448x1024, .f32⟩
  | 117 => ⟨S_, .f32⟩
  | 118 => ⟨S8448, .f32⟩
  | 119 => ⟨S8448x1, .f32⟩
  | 120 => ⟨S_, .f32⟩
  | 121 => ⟨S8448x1, .f32⟩
  | 122 => ⟨S8448x1, .f32⟩
  | 123 => ⟨S8448x1024, .f32⟩
  | 124 => ⟨S8448x1024, .f32⟩
  | 125 => ⟨S_, .f32⟩
  | 126 => ⟨S8448x1, .f32⟩
  | 127 => ⟨S8448x1, .f32⟩
  | _ => ⟨S8448x1024, .f32⟩

abbrev hbmTy0_1 (i : Nat) : BufTy := match i % 128 with
  | 0 => ⟨S8448x1, .f32⟩
  | 1 => ⟨S8448x1, .f32⟩
  | 2 => ⟨S_, .f32⟩
  | 3 => ⟨S8448x1, .f32⟩
  | 4 => ⟨S8448x1, .f32⟩
  | 5 => ⟨S8448x1024, .f32⟩
  | 6 => ⟨S8448x1024, .f32⟩
  | 7 => ⟨S8448x1024, .f32⟩
  | 8 => ⟨S8448x1024, .f32⟩
  | 9 => ⟨S8448x1024, .f32⟩
  | 10 => ⟨S8448x1024, .f32⟩
  | 11 => ⟨S8448x1024, .i32⟩
  | 12 => ⟨S_, .i32⟩
  | 13 => ⟨S8448x1024, .i32⟩
  | 14 => ⟨S8448x1024, .i1⟩
  | 15 => ⟨S_, .f32⟩
  | 16 => ⟨S_, .f32⟩
  | 17 => ⟨S8448x1024, .f32⟩
  | 18 => ⟨S8448x1024, .f32⟩
  | 19 => ⟨S_, .f32⟩
  | 20 => ⟨S8448x1024, .f32⟩
  | 21 => ⟨S_, .f32⟩
  | 22 => ⟨S8448x1024, .f32⟩
  | 23 => ⟨S8448x1024, .f32⟩
  | 24 => ⟨S_, .f32⟩
  | 25 => ⟨S1024, .f32⟩
  | 26 => ⟨S1x1024, .f32⟩
  | 27 => ⟨S8448x1024, .f32⟩
  | 28 => ⟨S_, .f32⟩
  | 29 => ⟨S1024, .f32⟩
  | 30 => ⟨S1x1024, .f32⟩
  | 31 => ⟨S8448x1024, .f32⟩
  | 32 => ⟨S8448x1024, .f32⟩
  | 33 => ⟨S8448x1024, .f32⟩
  | 34 => ⟨S_, .f32⟩
  | 35 => ⟨S8448, .f32⟩
  | 36 => ⟨S8448x1, .f32⟩
  | 37 => ⟨S8448x1024, .f32⟩
  | 38 => ⟨S8448x1024, .f32⟩
  | 39 => ⟨S8448x1, .f32⟩
  | 40 => ⟨S8448x1024, .f32⟩
  | 41 => ⟨S_, .f32⟩
  | 42 => ⟨S8448, .f32⟩
  | 43 => ⟨S8448x1, .f32⟩
  | 44 => ⟨S_, .f32⟩
  | 45 => ⟨S8448x1, .f32⟩
  | 46 => ⟨S8448x1, .f32⟩
  | 47 => ⟨S_, .f32⟩
  | 48 => ⟨S8448, .f32⟩
  | 49 => ⟨S8448x1024, .f32⟩
  | 50 => ⟨S8448x1024, .f32⟩
  | 51 => ⟨S8448x1024, .f32⟩
  | 52 => ⟨S_, .f32⟩
  | 53 => ⟨S8448, .f32⟩
  | 54 => ⟨S8448x1, .f32⟩
  | 55 => ⟨S8448x1024, .f32⟩
  | 56 => ⟨S8448x1, .f32⟩
  | 57 => ⟨S_, .f32⟩
  | 58 => ⟨S8448x1, .f32⟩
  | 59 => ⟨S8448x1, .f32⟩
  | 60 => ⟨S_, .f32⟩
  | 61 => ⟨S8448, .f32⟩
  | 62 => ⟨S8448x1024, .f32⟩
  | 63 => ⟨S8448x1024, .f32⟩
  | 64 => ⟨S8448x5632, .bf16⟩
  | 65 => ⟨S_, .f32⟩
  | 66 => ⟨S5x2816, .f32⟩
  | 67 => ⟨S8x2816, .f32⟩
  | 68 => ⟨S_, .f32⟩
  | 69 => ⟨S7x1024, .f32⟩
  | 70 => ⟨S8x1024, .f32⟩
  | 71 => ⟨S_, .f32⟩
  | 72 => ⟨S7x1024, .f32⟩
  | 73 => ⟨S8x1024, .f32⟩
  | _ => ⟨S8448x1024, .f32⟩

abbrev hbmTy (i : Nat) : BufTy := match i / 128 with
  | 0 => hbmTy0_0 i
  | 1 => hbmTy0_1 i
  | _ => ⟨S8448x1024, .f32⟩

abbrev bufTy : (tb : Table) → Fin (tcTables nBuf tb) → BufTy
  | .hbm, ⟨i, _⟩ => hbmTy i
  | _, _ => ⟨S8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_call0_v0 : Ref sig .tc := ⟨.hbm, 31, rfl⟩
abbrev main_call0_v1 : Ref sig .tc := ⟨.hbm, 32, rfl⟩
abbrev main_call0_cst : Ref sig .tc := ⟨.hbm, 33, rfl⟩
abbrev main_call0_v2 : Ref sig .tc := ⟨.hbm, 34, rfl⟩
abbrev main_call0_v3 : Ref sig .tc := ⟨.hbm, 35, rfl⟩
abbrev main_call0_cst_0 : Ref sig .tc := ⟨.hbm, 36, rfl⟩
abbrev main_call0_v4 : Ref sig .tc := ⟨.hbm, 37, rfl⟩
abbrev main_v21_2 : Ref sig .tc := ⟨.hbm, 38, rfl⟩
abbrev main_call0_cst_1 : Ref sig .tc := ⟨.hbm, 39, rfl⟩
abbrev main_call0_v6 : Ref sig .tc := ⟨.hbm, 40, rfl⟩
abbrev main_call0_v7 : Ref sig .tc := ⟨.hbm, 41, rfl⟩
abbrev main_v21_1 : Ref sig .tc := ⟨.hbm, 42, rfl⟩
abbrev main_v21_0 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_call1_v0 : Ref sig .tc := ⟨.hbm, 53, rfl⟩
abbrev main_call1_v1 : Ref sig .tc := ⟨.hbm, 54, rfl⟩
abbrev main_call1_v2 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_cst_2 : Ref sig .tc := ⟨.hbm, 60, rfl⟩
abbrev main_v35 : Ref sig .tc := ⟨.hbm, 61, rfl⟩
abbrev main_v36 : Ref sig .tc := ⟨.hbm, 62, rfl⟩
abbrev main_cst_3 : Ref sig .tc := ⟨.hbm, 63, rfl⟩
abbrev main_v37 : Ref sig .tc := ⟨.hbm, 64, rfl⟩
abbrev main_cst_4 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_cst_5 : Ref sig .tc := ⟨.hbm, 70, rfl⟩
abbrev main_v42 : Ref sig .tc := ⟨.hbm, 71, rfl⟩
abbrev main_v43 : Ref sig .tc := ⟨.hbm, 72, rfl⟩
abbrev main_cst_6 : Ref sig .tc := ⟨.hbm, 73, rfl⟩
abbrev main_v44 : Ref sig .tc := ⟨.hbm, 74, rfl⟩
abbrev main_v45 : Ref sig .tc := ⟨.hbm, 75, rfl⟩
abbrev main_cst_7 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_cst_8 : Ref sig .tc := ⟨.hbm, 82, rfl⟩
abbrev main_v51 : Ref sig .tc := ⟨.hbm, 83, rfl⟩
abbrev main_v52 : Ref sig .tc := ⟨.hbm, 84, rfl⟩
abbrev main_cst_9 : Ref sig .tc := ⟨.hbm, 85, rfl⟩
abbrev main_v53 : Ref sig .tc := ⟨.hbm, 86, rfl⟩
abbrev main_v54 : Ref sig .tc := ⟨.hbm, 87, rfl⟩
abbrev main_cst_10 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_cst_11 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_cst_12 : Ref sig .tc := ⟨.hbm, 103, rfl⟩
abbrev main_v68 : Ref sig .tc := ⟨.hbm, 104, rfl⟩
abbrev main_cst_13 : Ref sig .tc := ⟨.hbm, 105, rfl⟩
abbrev main_v69 : Ref sig .tc := ⟨.hbm, 106, rfl⟩
abbrev main_v70 : Ref sig .tc := ⟨.hbm, 107, rfl⟩
abbrev main_cst_14 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_cst_15 : Ref sig .tc := ⟨.hbm, 114, rfl⟩
abbrev main_v76 : Ref sig .tc := ⟨.hbm, 115, rfl⟩
abbrev main_v77 : Ref sig .tc := ⟨.hbm, 116, rfl⟩
abbrev main_cst_16 : Ref sig .tc := ⟨.hbm, 117, rfl⟩
abbrev main_v78 : Ref sig .tc := ⟨.hbm, 118, rfl⟩
abbrev main_v79 : Ref sig .tc := ⟨.hbm, 119, rfl⟩
abbrev main_cst_17 : Ref sig .tc := ⟨.hbm, 120, rfl⟩
abbrev main_v80 : Ref sig .tc := ⟨.hbm, 121, rfl⟩
abbrev main_v81 : Ref sig .tc := ⟨.hbm, 122, rfl⟩
abbrev main_v82 : Ref sig .tc := ⟨.hbm, 123, rfl⟩
abbrev main_v83 : Ref sig .tc := ⟨.hbm, 124, rfl⟩
abbrev main_cst_18 : Ref sig .tc := ⟨.hbm, 125, rfl⟩
abbrev main_v84 : Ref sig .tc := ⟨.hbm, 126, rfl⟩
abbrev main_v85 : Ref sig .tc := ⟨.hbm, 127, rfl⟩
abbrev main_v86 : Ref sig .tc := ⟨.hbm, 128, rfl⟩
abbrev main_v87 : Ref sig .tc := ⟨.hbm, 129, rfl⟩
abbrev main_cst_19 : Ref sig .tc := ⟨.hbm, 130, rfl⟩
abbrev main_v88 : Ref sig .tc := ⟨.hbm, 131, rfl⟩
abbrev main_v89 : Ref sig .tc := ⟨.hbm, 132, rfl⟩
abbrev main_v90 : Ref sig .tc := ⟨.hbm, 133, rfl⟩
abbrev main_v91 : Ref sig .tc := ⟨.hbm, 134, rfl⟩
abbrev main_v92 : Ref sig .tc := ⟨.hbm, 135, rfl⟩
abbrev main_v93 : Ref sig .tc := ⟨.hbm, 136, rfl⟩
abbrev main_v94 : Ref sig .tc := ⟨.hbm, 137, rfl⟩
abbrev main_v95 : Ref sig .tc := ⟨.hbm, 138, rfl⟩
abbrev main_v96 : Ref sig .tc := ⟨.hbm, 139, rfl⟩
abbrev main_c : Ref sig .tc := ⟨.hbm, 140, rfl⟩
abbrev main_v97 : Ref sig .tc := ⟨.hbm, 141, rfl⟩
abbrev main_v98 : Ref sig .tc := ⟨.hbm, 142, rfl⟩
abbrev main_cst_20 : Ref sig .tc := ⟨.hbm, 143, rfl⟩
abbrev main_call2_v0 : Ref sig .tc := ⟨.hbm, 144, rfl⟩
abbrev main_call2_v1 : Ref sig .tc := ⟨.hbm, 145, rfl⟩
abbrev main_v99_0 : Ref sig .tc := ⟨.hbm, 146, rfl⟩
abbrev main_call2_cst : Ref sig .tc := ⟨.hbm, 147, rfl⟩
abbrev main_v99_1 : Ref sig .tc := ⟨.hbm, 148, rfl⟩
abbrev main_call3_cst : Ref sig .tc := ⟨.hbm, 149, rfl⟩
abbrev main_call3_v0 : Ref sig .tc := ⟨.hbm, 150, rfl⟩
abbrev main_v100 : Ref sig .tc := ⟨.hbm, 151, rfl⟩
abbrev main_cst_21 : Ref sig .tc := ⟨.hbm, 152, rfl⟩
abbrev main_v101 : Ref sig .tc := ⟨.hbm, 153, rfl⟩
abbrev main_v102 : Ref sig .tc := ⟨.hbm, 154, rfl⟩
abbrev main_v103 : Ref sig .tc := ⟨.hbm, 155, rfl⟩
abbrev main_cst_22 : Ref sig .tc := ⟨.hbm, 156, rfl⟩
abbrev main_v104 : Ref sig .tc := ⟨.hbm, 157, rfl⟩
abbrev main_v105 : Ref sig .tc := ⟨.hbm, 158, rfl⟩
abbrev main_v106 : Ref sig .tc := ⟨.hbm, 159, rfl⟩
abbrev main_v107 : Ref sig .tc := ⟨.hbm, 160, rfl⟩
abbrev main_v108 : Ref sig .tc := ⟨.hbm, 161, rfl⟩
abbrev main_cst_23 : Ref sig .tc := ⟨.hbm, 162, rfl⟩
abbrev main_v109 : Ref sig .tc := ⟨.hbm, 163, rfl⟩
abbrev main_v110 : Ref sig .tc := ⟨.hbm, 164, rfl⟩
abbrev main_v111 : Ref sig .tc := ⟨.hbm, 165, rfl⟩
abbrev main_v112 : Ref sig .tc := ⟨.hbm, 166, rfl⟩
abbrev main_v113 : Ref sig .tc := ⟨.hbm, 167, rfl⟩
abbrev main_v114 : Ref sig .tc := ⟨.hbm, 168, rfl⟩
abbrev main_cst_24 : Ref sig .tc := ⟨.hbm, 169, rfl⟩
abbrev main_v115 : Ref sig .tc := ⟨.hbm, 170, rfl⟩
abbrev main_v116 : Ref sig .tc := ⟨.hbm, 171, rfl⟩
abbrev main_cst_25 : Ref sig .tc := ⟨.hbm, 172, rfl⟩
abbrev main_v117 : Ref sig .tc := ⟨.hbm, 173, rfl⟩
abbrev main_v118 : Ref sig .tc := ⟨.hbm, 174, rfl⟩
abbrev main_cst_26 : Ref sig .tc := ⟨.hbm, 175, rfl⟩
abbrev main_v119 : Ref sig .tc := ⟨.hbm, 176, rfl⟩
abbrev main_v120 : Ref sig .tc := ⟨.hbm, 177, rfl⟩
abbrev main_v121 : Ref sig .tc := ⟨.hbm, 178, rfl⟩
abbrev main_v122 : Ref sig .tc := ⟨.hbm, 179, rfl⟩
abbrev main_cst_27 : Ref sig .tc := ⟨.hbm, 180, rfl⟩
abbrev main_v123 : Ref sig .tc := ⟨.hbm, 181, rfl⟩
abbrev main_v124 : Ref sig .tc := ⟨.hbm, 182, rfl⟩
abbrev main_v125 : Ref sig .tc := ⟨.hbm, 183, rfl⟩
abbrev main_v126 : Ref sig .tc := ⟨.hbm, 184, rfl⟩
abbrev main_cst_28 : Ref sig .tc := ⟨.hbm, 185, rfl⟩
abbrev main_v127 : Ref sig .tc := ⟨.hbm, 186, rfl⟩
abbrev main_v128 : Ref sig .tc := ⟨.hbm, 187, rfl⟩
abbrev main_cst_29 : Ref sig .tc := ⟨.hbm, 188, rfl⟩
abbrev main_v129 : Ref sig .tc := ⟨.hbm, 189, rfl⟩
abbrev main_v130 : Ref sig .tc := ⟨.hbm, 190, rfl⟩
abbrev main_v131 : Ref sig .tc := ⟨.hbm, 191, rfl⟩
abbrev main_v132 : Ref sig .tc := ⟨.hbm, 192, rfl⟩
abbrev main_cst_30 : Ref sig .tc := ⟨.hbm, 193, rfl⟩
abbrev main_v133 : Ref sig .tc := ⟨.hbm, 194, rfl⟩
abbrev main_v134 : Ref sig .tc := ⟨.hbm, 195, rfl⟩
abbrev main_cst_31 : Ref sig .tc := ⟨.hbm, 196, rfl⟩
abbrev main_v135 : Ref sig .tc := ⟨.hbm, 197, rfl⟩
abbrev main_v136 : Ref sig .tc := ⟨.hbm, 198, rfl⟩
abbrev main_cst_32 : Ref sig .tc := ⟨.hbm, 199, rfl⟩
abbrev main_v137 : Ref sig .tc := ⟨.hbm, 200, rfl⟩
abbrev main_v138 : Ref sig .tc := ⟨.hbm, 201, rfl⟩

abbrev nD : Nat := 1
abbrev τ : Topo := Topo.v7x

variable {F : FTy → Type} [FloatOps F]
-- ==== GKernel.lean ====
abbrev S8448x1024 : Shape := ⟨2, ![8448, 1024]⟩
abbrev S8448x5632 : Shape := ⟨2, ![8448, 5632]⟩
abbrev S8x2x352x1024 : Shape := ⟨4, ![8, 2, 352, 1024]⟩
abbrev S3x2816 : Shape := ⟨2, ![3, 2816]⟩
abbrev S2x1024x5632 : Shape := ⟨3, ![2, 1024, 5632]⟩
abbrev S1x1024 : Shape := ⟨2, ![1, 1024]⟩
abbrev S8x2816 : Shape := ⟨2, ![8, 2816]⟩
abbrev S8x1024 : Shape := ⟨2, ![8, 1024]⟩
abbrev S256x1024 : Shape := ⟨2, ![256, 1024]⟩
abbrev S256x5632 : Shape := ⟨2, ![256, 5632]⟩
abbrev S2816x1024 : Shape := ⟨2, ![2816, 1024]⟩
abbrev S1024x5632 : Shape := ⟨2, ![1024, 5632]⟩
abbrev S9 : Shape := ⟨1, ![9]⟩
abbrev S1 : Shape := ⟨1, ![1]⟩
abbrev S_ : Shape := ⟨0, ![]⟩
abbrev S1x1024x5632 : Shape := ⟨3, ![1, 1024, 5632]⟩
abbrev S352x1024 : Shape := ⟨2, ![352, 1024]⟩
abbrev S1x1x352x1024 : Shape := ⟨4, ![1, 1, 352, 1024]⟩
abbrev S256x2816 : Shape := ⟨2, ![256, 2816]⟩
abbrev S264x2816 : Shape := ⟨2, ![264, 2816]⟩
abbrev S1x2816 : Shape := ⟨2, ![1, 2816]⟩
abbrev S2816 : Shape := ⟨1, ![2816]⟩
abbrev S1024x2816 : Shape := ⟨2, ![1024, 2816]⟩
abbrev S256 : Shape := ⟨1, ![256]⟩
abbrev S256x1 : Shape := ⟨2, ![256, 1]⟩
abbrev S1024 : Shape := ⟨1, ![1024]⟩

abbrev nBuf : Space → Nat
  | .hbm => 12
  | .vmem => 20
  | .smem => 0
  | _ => 0

abbrev bufTy : (tb : Table) → Fin (tcTables nBuf tb) → BufTy
  | .hbm, ⟨0, _⟩ => ⟨S8448x1024, .f32⟩
  | .hbm, ⟨1, _⟩ => ⟨S8448x5632, .f32⟩
  | .hbm, ⟨2, _⟩ => ⟨S8x2x352x1024, .bf16⟩
  | .hbm, ⟨3, _⟩ => ⟨S3x2816, .f32⟩
  | .hbm, ⟨4, _⟩ => ⟨S2x1024x5632, .bf16⟩
  | .hbm, ⟨5, _⟩ => ⟨S8448x1024, .f32⟩
  | .hbm, ⟨6, _⟩ => ⟨S1x1024, .f32⟩
  | .hbm, ⟨7, _⟩ => ⟨S8448x5632, .bf16⟩
  | .hbm, ⟨8, _⟩ => ⟨S8x2816, .f32⟩
  | .hbm, ⟨9, _⟩ => ⟨S8448x1024, .f32⟩
  | .hbm, ⟨10, _⟩ => ⟨S8x1024, .f32⟩
  | .hbm, ⟨11, _⟩ => ⟨S8x1024, .f32⟩
  | .local _ .vmem, ⟨0, _⟩ => ⟨S256x1024, .f32⟩
  | .local _ .vmem, ⟨1, _⟩ => ⟨S256x1024, .f32⟩
  | .local _ .vmem, ⟨2, _⟩ => ⟨S256x5632, .f32⟩
  | .local _ .vmem, ⟨3, _⟩ => ⟨S256x5632, .f32⟩
  | .local _ .vmem, ⟨4, _⟩ => ⟨S8x2816, .f32⟩
  | .local _ .vmem, ⟨5, _⟩ => ⟨S8x2816, .f32⟩
  | .local _ .vmem, ⟨6, _⟩ => ⟨S3x2816, .f32⟩
  | .local _ .vmem, ⟨7, _⟩ => ⟨S256x1024, .f32⟩
  | .local _ .vmem, ⟨8, _⟩ => ⟨S256x1024, .f32⟩
  | .local _ .vmem, ⟨9, _⟩ => ⟨S1x1024, .f32⟩
  | .local _ .vmem, ⟨10, _⟩ => ⟨S256x5632, .bf16⟩
  | .local _ .vmem, ⟨11, _⟩ => ⟨S256x5632, .bf16⟩
  | .local _ .vmem, ⟨12, _⟩ => ⟨S8x2816, .f32⟩
  | .local _ .vmem, ⟨13, _⟩ => ⟨S256x1024, .f32⟩
  | .local _ .vmem, ⟨14, _⟩ => ⟨S256x1024, .f32⟩
  | .local _ .vmem, ⟨15, _⟩ => ⟨S8x1024, .f32⟩
  | .local _ .vmem, ⟨16, _⟩ => ⟨S8x1024, .f32⟩
  | .local _ .vmem, ⟨17, _⟩ => ⟨S2816x1024, .bf16⟩
  | .local _ .vmem, ⟨18, _⟩ => ⟨S1024x5632, .bf16⟩
  | .local _ .vmem, ⟨19, _⟩ => ⟨S8x2816, .f32⟩
  | _, _ => ⟨S8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev main_v0_4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg10_0 : Ref sig .tc := ⟨.vmem, 16, rfl⟩
abbrev cc0_scratch0 : Ref sig .tc := ⟨.vmem, 17, rfl⟩
abbrev cc0_scratch1 : Ref sig .tc := ⟨.vmem, 18, rfl⟩
abbrev cc0_scratch2 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem10_0 : DmaSem sig := 16

abbrev nD : Nat := 1
abbrev τ : Topo := Topo.v7x

variable {F : FTy → Type} [FloatOps F]

abbrev grid0 : Pipeline.Grid := ⟨1, ![33], ![false]⟩

def cc0_transform_0 (i : grid0.Coords) : Fin 2 → Nat :=
  let arg0 : BitVec 32 := BitVec.ofNat 32 (i 0).val
  let c32_i32 : BitVec 32 := 32#32
  let v0 : BitVec 32 := Scalar.subi c32_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c32_i32 : BitVec 32 := 32#32
  let v0 : BitVec 32 := Scalar.subi c32_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c32_i32 : BitVec 32 := 32#32
  let v0 : BitVec 32 := Scalar.subi c32_i32 arg0
  let c32_i32_0 : BitVec 32 := 32#32
  let v1 : BitVec 32 := Scalar.muli v0 c32_i32_0
  let c1_i32 : BitVec 32 := 1#32
  let v2 : BitVec 32 := Scalar.subi v1 c1_i32
  let c0_i32 : BitVec 32 := 0#32
  let v3 : BitVec 32 := Scalar.maxsi v2 c0_i32
  let c0_i32_1 : BitVec 32 := 0#32
  let c0_i32_2 : BitVec 32 := 0#32
  ![v3.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c32_i32 : BitVec 32 := 32#32
  let v0 : BitVec 32 := Scalar.subi c32_i32 arg0
  let c0_i32 : BitVec 32 := 0#32
  let c0_i32_0 : BitVec 32 := 0#32
  ![v0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c32_i32 : BitVec 32 := 32#32
  let v0 : BitVec 32 := Scalar.subi c32_i32 arg0
  let c0_i32 : BitVec 32 := 0#32
  let c0_i32_0 : BitVec 32 := 0#32
  ![v0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c32_i32 : BitVec 32 := 32#32
  let v0 : BitVec 32 := Scalar.subi c32_i32 arg0
  let c0_i32 : BitVec 32 := 0#32
  let c0_i32_0 : BitVec 32 := 0#32
  ![v0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x5632 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x2816 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S3x2816 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x5632 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S8x2816 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S8x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S8x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== GReferenceIdeal.lean ====
abbrev S8448x1024 : Shape := ⟨2, ![8448, 1024]⟩
abbrev S8448x5632 : Shape := ⟨2, ![8448, 5632]⟩
abbrev S8x2x352x1024 : Shape := ⟨4, ![8, 2, 352, 1024]⟩
abbrev S3x2816 : Shape := ⟨2, ![3, 2816]⟩
abbrev S2x1024x5632 : Shape := ⟨3, ![2, 1024, 5632]⟩
abbrev S1x1024 : Shape := ⟨2, ![1, 1024]⟩
abbrev S8448x2816 : Shape := ⟨2, ![8448, 2816]⟩
abbrev S_ : Shape := ⟨0, ![]⟩
abbrev S2x2816 : Shape := ⟨2, ![2, 2816]⟩
abbrev S8450x2816 : Shape := ⟨2, ![8450, 2816]⟩
abbrev S1x2816 : Shape := ⟨2, ![1, 2816]⟩
abbrev S8x1x352x1024 : Shape := ⟨4, ![8, 1, 352, 1024]⟩
abbrev S8x352x1024 : Shape := ⟨3, ![8, 352, 1024]⟩
abbrev S2816x1024 : Shape := ⟨2, ![2816, 1024]⟩
abbrev S2816 : Shape := ⟨1, ![2816]⟩
abbrev S1x1024x5632 : Shape := ⟨3, ![1, 1024, 5632]⟩
abbrev S1024x5632 : Shape := ⟨2, ![1024, 5632]⟩
abbrev S5632x1024 : Shape := ⟨2, ![5632, 1024]⟩
abbrev S8448 : Shape := ⟨1, ![8448]⟩
abbrev S8448x1 : Shape := ⟨2, ![8448, 1]⟩
abbrev S1024 : Shape := ⟨1, ![1024]⟩
abbrev S5x2816 : Shape := ⟨2, ![5, 2816]⟩
abbrev S8x2816 : Shape := ⟨2, ![8, 2816]⟩
abbrev S7x1024 : Shape := ⟨2, ![7, 1024]⟩
abbrev S8x1024 : Shape := ⟨2, ![8, 1024]⟩

abbrev nBuf : Space → Nat
  | .hbm => 202
  | .vmem => 0
  | .smem => 0
  | _ => 0

abbrev hbmTy0_0 (i : Nat) : BufTy := match i % 128 with
  | 0 => ⟨S8448x1024, .f32⟩
  | 1 => ⟨S8448x5632, .f32⟩
  | 2 => ⟨S8x2x352x1024, .bf16⟩
  | 3 => ⟨S3x2816, .f32⟩
  | 4 => ⟨S2x1024x5632, .bf16⟩
  | 5 => ⟨S8448x1024, .f32⟩
  | 6 => ⟨S1x1024, .f32⟩
  | 7 => ⟨S8448x2816, .f32⟩
  | 8 => ⟨S8448x2816, .f32⟩
  | 9 => ⟨S_, .f32⟩
  | 10 => ⟨S2x2816, .f32⟩
  | 11 => ⟨S8450x2816, .f32⟩
  | 12 => ⟨S_, .f32⟩
  | 13 => ⟨S2x2816, .f32⟩
  | 14 => ⟨S1x2816, .f32⟩
  | 15 => ⟨S8448x2816, .f32⟩
  | 16 => ⟨S8448x2816, .f32⟩
  | 17 => ⟨S8448x2816, .f32⟩
  | 18 => ⟨S_, .f32⟩
  | 19 => ⟨S8448x2816, .f32⟩
  | 20 => ⟨S8448x2816, .f32⟩
  | 21 => ⟨S1x2816, .f32⟩
  | 22 => ⟨S8448x2816, .f32⟩
  | 23 => ⟨S8448x2816, .f32⟩
  | 24 => ⟨S8448x2816, .f32⟩
  | 25 => ⟨S8448x2816, .f32⟩
  | 26 => ⟨S1x2816, .f32⟩
  | 27 => ⟨S8448x2816, .f32⟩
  | 28 => ⟨S8448x2816, .f32⟩
  | 29 => ⟨S8448x2816, .f32⟩
  | 30 => ⟨S8448x2816, .f32⟩
  | 31 => ⟨S8448x2816, .f32⟩
  | 32 => ⟨S8448x2816, .f32⟩
  | 33 => ⟨S_, .f32⟩
  | 34 => ⟨S8448x2816, .f32⟩
  | 35 => ⟨S8448x2816, .f32⟩
  | 36 => ⟨S_, .f32⟩
  | 37 => ⟨S8448x2816, .f32⟩
  | 38 => ⟨S8448x2816, .f32⟩
  | 39 => ⟨S_, .f32⟩
  | 40 => ⟨S8448x2816, .f32⟩
  | 41 => ⟨S8448x2816, .f32⟩
  | 42 => ⟨S8448x2816, .f32⟩
  | 43 => ⟨S8448x2816, .f32⟩
  | 44 => ⟨S8448x2816, .f32⟩
  | 45 => ⟨S8x2x352x1024, .f32⟩
  | 46 => ⟨S8x1x352x1024, .f32⟩
  | 47 => ⟨S8x352x1024, .f32⟩
  | 48 => ⟨S2816x1024, .f32⟩
  | 49 => ⟨S8448x1024, .f32⟩
  | 50 => ⟨S8448x2816, .f32⟩
  | 51 => ⟨S8448x2816, .f32⟩
  | 52 => ⟨S8448x2816, .f32⟩
  | 53 => ⟨S8448x2816, .f32⟩
  | 54 => ⟨S8448x2816, .f32⟩
  | 55 => ⟨S8448x2816, .f32⟩
  | 56 => ⟨S8448x2816, .f32⟩
  | 57 => ⟨S8448x2816, .f32⟩
  | 58 => ⟨S8448x2816, .f32⟩
  | 59 => ⟨S8448x2816, .f32⟩
  | 60 => ⟨S_, .f32⟩
  | 61 => ⟨S2816, .f32⟩
  | 62 => ⟨S1x2816, .f32⟩
  | 63 => ⟨S_, .f32⟩
  | 64 => ⟨S8450x2816, .f32⟩
  | 65 => ⟨S_, .f32⟩
  | 66 => ⟨S3x2816, .f32⟩
  | 67 => ⟨S8448x2816, .f32⟩
  | 68 => ⟨S8448x2816, .f32⟩
  | 69 => ⟨S8448x2816, .f32⟩
  | 70 => ⟨S_, .f32⟩
  | 71 => ⟨S2816, .f32⟩
  | 72 => ⟨S1x2816, .f32⟩
  | 73 => ⟨S_, .f32⟩
  | 74 => ⟨S8450x2816, .f32⟩
  | 75 => ⟨S8450x2816, .f32⟩
  | 76 => ⟨S_, .f32⟩
  | 77 => ⟨S3x2816, .f32⟩
  | 78 => ⟨S3x2816, .f32⟩
  | 79 => ⟨S8448x2816, .f32⟩
  | 80 => ⟨S8448x2816, .f32⟩
  | 81 => ⟨S8448x2816, .f32⟩
  | 82 => ⟨S_, .f32⟩
  | 83 => ⟨S2816, .f32⟩
  | 84 => ⟨S1x2816, .f32⟩
  | 85 => ⟨S_, .f32⟩
  | 86 => ⟨S8450x2816, .f32⟩
  | 87 => ⟨S8450x2816, .f32⟩
  | 88 => ⟨S_, .f32⟩
  | 89 => ⟨S3x2816, .f32⟩
  | 90 => ⟨S3x2816, .f32⟩
  | 91 => ⟨S2x2816, .f32⟩
  | 92 => ⟨S8448x2816, .f32⟩
  | 93 => ⟨S8448x5632, .f32⟩
  | 94 => ⟨S_, .f32⟩
  | 95 => ⟨S8448x1024, .f32⟩
  | 96 => ⟨S8448x1024, .f32⟩
  | 97 => ⟨S2x1024x5632, .f32⟩
  | 98 => ⟨S1x1024x5632, .f32⟩
  | 99 => ⟨S1024x5632, .f32⟩
  | 100 => ⟨S5632x1024, .f32⟩
  | 101 => ⟨S8448x1024, .f32⟩
  | 102 => ⟨S8448x1024, .f32⟩
  | 103 => ⟨S_, .f32⟩
  | 104 => ⟨S1x1024, .f32⟩
  | 105 => ⟨S_, .f32⟩
  | 106 => ⟨S8448, .f32⟩
  | 107 => ⟨S8448x1, .f32⟩
  | 108 => ⟨S_, .f32⟩
  | 109 => ⟨S8448x1, .f32⟩
  | 110 => ⟨S8448x1, .f32⟩
  | 111 => ⟨S8448x1024, .f32⟩
  | 112 => ⟨S8448x1024, .f32⟩
  | 113 => ⟨S8448x1024, .f32⟩
  | 114 => ⟨S_, .f32⟩
  | 115 => ⟨S8448x1024, .f32⟩
  | 116 => ⟨S8448x1024, .f32⟩
  | 117 => ⟨S_, .f32⟩
  | 118 => ⟨S8448, .f32⟩
  | 119 => ⟨S8448x1, .f32⟩
  | 120 => ⟨S_, .f32⟩
  | 121 => ⟨S8448x1, .f32⟩
  | 122 => ⟨S8448x1, .f32⟩
  | 123 => ⟨S8448x1024, .f32⟩
  | 124 => ⟨S8448x1024, .f32⟩
  | 125 => ⟨S_, .f32⟩
  | 126 => ⟨S8448x1, .f32⟩
  | 127 => ⟨S8448x1, .f32⟩
  | _ => ⟨S8448x1024, .f32⟩

abbrev hbmTy0_1 (i : Nat) : BufTy := match i % 128 with
  | 0 => ⟨S8448x1, .f32⟩
  | 1 => ⟨S8448x1, .f32⟩
  | 2 => ⟨S_, .f32⟩
  | 3 => ⟨S8448x1, .f32⟩
  | 4 => ⟨S8448x1, .f32⟩
  | 5 => ⟨S8448x1024, .f32⟩
  | 6 => ⟨S8448x1024, .f32⟩
  | 7 => ⟨S8448x1024, .f32⟩
  | 8 => ⟨S8448x1024, .f32⟩
  | 9 => ⟨S8448x1024, .f32⟩
  | 10 => ⟨S8448x1024, .f32⟩
  | 11 => ⟨S8448x1024, .i32⟩
  | 12 => ⟨S_, .i32⟩
  | 13 => ⟨S8448x1024, .i32⟩
  | 14 => ⟨S8448x1024, .i1⟩
  | 15 => ⟨S_, .f32⟩
  | 16 => ⟨S_, .f32⟩
  | 17 => ⟨S8448x1024, .f32⟩
  | 18 => ⟨S8448x1024, .f32⟩
  | 19 => ⟨S_, .f32⟩
  | 20 => ⟨S8448x1024, .f32⟩
  | 21 => ⟨S_, .f32⟩
  | 22 => ⟨S8448x1024, .f32⟩
  | 23 => ⟨S8448x1024, .f32⟩
  | 24 => ⟨S_, .f32⟩
  | 25 => ⟨S1024, .f32⟩
  | 26 => ⟨S1x1024, .f32⟩
  | 27 => ⟨S8448x1024, .f32⟩
  | 28 => ⟨S_, .f32⟩
  | 29 => ⟨S1024, .f32⟩
  | 30 => ⟨S1x1024, .f32⟩
  | 31 => ⟨S8448x1024, .f32⟩
  | 32 => ⟨S8448x1024, .f32⟩
  | 33 => ⟨S8448x1024, .f32⟩
  | 34 => ⟨S_, .f32⟩
  | 35 => ⟨S8448, .f32⟩
  | 36 => ⟨S8448x1, .f32⟩
  | 37 => ⟨S8448x1024, .f32⟩
  | 38 => ⟨S8448x1024, .f32⟩
  | 39 => ⟨S8448x1, .f32⟩
  | 40 => ⟨S8448x1024, .f32⟩
  | 41 => ⟨S_, .f32⟩
  | 42 => ⟨S8448, .f32⟩
  | 43 => ⟨S8448x1, .f32⟩
  | 44 => ⟨S_, .f32⟩
  | 45 => ⟨S8448x1, .f32⟩
  | 46 => ⟨S8448x1, .f32⟩
  | 47 => ⟨S_, .f32⟩
  | 48 => ⟨S8448, .f32⟩
  | 49 => ⟨S8448x1024, .f32⟩
  | 50 => ⟨S8448x1024, .f32⟩
  | 51 => ⟨S8448x1024, .f32⟩
  | 52 => ⟨S_, .f32⟩
  | 53 => ⟨S8448, .f32⟩
  | 54 => ⟨S8448x1, .f32⟩
  | 55 => ⟨S8448x1024, .f32⟩
  | 56 => ⟨S8448x1, .f32⟩
  | 57 => ⟨S_, .f32⟩
  | 58 => ⟨S8448x1, .f32⟩
  | 59 => ⟨S8448x1, .f32⟩
  | 60 => ⟨S_, .f32⟩
  | 61 => ⟨S8448, .f32⟩
  | 62 => ⟨S8448x1024, .f32⟩
  | 63 => ⟨S8448x1024, .f32⟩
  | 64 => ⟨S8448x5632, .bf16⟩
  | 65 => ⟨S_, .f32⟩
  | 66 => ⟨S5x2816, .f32⟩
  | 67 => ⟨S8x2816, .f32⟩
  | 68 => ⟨S_, .f32⟩
  | 69 => ⟨S7x1024, .f32⟩
  | 70 => ⟨S8x1024, .f32⟩
  | 71 => ⟨S_, .f32⟩
  | 72 => ⟨S7x1024, .f32⟩
  | 73 => ⟨S8x1024, .f32⟩
  | _ => ⟨S8448x1024, .f32⟩

abbrev hbmTy (i : Nat) : BufTy := match i / 128 with
  | 0 => hbmTy0_0 i
  | 1 => hbmTy0_1 i
  | _ => ⟨S8448x1024, .f32⟩

abbrev bufTy : (tb : Table) → Fin (tcTables nBuf tb) → BufTy
  | .hbm, ⟨i, _⟩ => hbmTy i
  | _, _ => ⟨S8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_call0_v0 : Ref sig .tc := ⟨.hbm, 31, rfl⟩
abbrev main_call0_v1 : Ref sig .tc := ⟨.hbm, 32, rfl⟩
abbrev main_call0_cst : Ref sig .tc := ⟨.hbm, 33, rfl⟩
abbrev main_call0_v2 : Ref sig .tc := ⟨.hbm, 34, rfl⟩
abbrev main_call0_v3 : Ref sig .tc := ⟨.hbm, 35, rfl⟩
abbrev main_call0_cst_0 : Ref sig .tc := ⟨.hbm, 36, rfl⟩
abbrev main_call0_v4 : Ref sig .tc := ⟨.hbm, 37, rfl⟩
abbrev main_v21_2 : Ref sig .tc := ⟨.hbm, 38, rfl⟩
abbrev main_call0_cst_1 : Ref sig .tc := ⟨.hbm, 39, rfl⟩
abbrev main_call0_v6 : Ref sig .tc := ⟨.hbm, 40, rfl⟩
abbrev main_call0_v7 : Ref sig .tc := ⟨.hbm, 41, rfl⟩
abbrev main_v21_1 : Ref sig .tc := ⟨.hbm, 42, rfl⟩
abbrev main_v21_0 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_call1_v0 : Ref sig .tc := ⟨.hbm, 53, rfl⟩
abbrev main_call1_v1 : Ref sig .tc := ⟨.hbm, 54, rfl⟩
abbrev main_call1_v2 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_cst_2 : Ref sig .tc := ⟨.hbm, 60, rfl⟩
abbrev main_v35 : Ref sig .tc := ⟨.hbm, 61, rfl⟩
abbrev main_v36 : Ref sig .tc := ⟨.hbm, 62, rfl⟩
abbrev main_cst_3 : Ref sig .tc := ⟨.hbm, 63, rfl⟩
abbrev main_v37 : Ref sig .tc := ⟨.hbm, 64, rfl⟩
abbrev main_cst_4 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_cst_5 : Ref sig .tc := ⟨.hbm, 70, rfl⟩
abbrev main_v42 : Ref sig .tc := ⟨.hbm, 71, rfl⟩
abbrev main_v43 : Ref sig .tc := ⟨.hbm, 72, rfl⟩
abbrev main_cst_6 : Ref sig .tc := ⟨.hbm, 73, rfl⟩
abbrev main_v44 : Ref sig .tc := ⟨.hbm, 74, rfl⟩
abbrev main_v45 : Ref sig .tc := ⟨.hbm, 75, rfl⟩
abbrev main_cst_7 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_cst_8 : Ref sig .tc := ⟨.hbm, 82, rfl⟩
abbrev main_v51 : Ref sig .tc := ⟨.hbm, 83, rfl⟩
abbrev main_v52 : Ref sig .tc := ⟨.hbm, 84, rfl⟩
abbrev main_cst_9 : Ref sig .tc := ⟨.hbm, 85, rfl⟩
abbrev main_v53 : Ref sig .tc := ⟨.hbm, 86, rfl⟩
abbrev main_v54 : Ref sig .tc := ⟨.hbm, 87, rfl⟩
abbrev main_cst_10 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_cst_11 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_cst_12 : Ref sig .tc := ⟨.hbm, 103, rfl⟩
abbrev main_v68 : Ref sig .tc := ⟨.hbm, 104, rfl⟩
abbrev main_cst_13 : Ref sig .tc := ⟨.hbm, 105, rfl⟩
abbrev main_v69 : Ref sig .tc := ⟨.hbm, 106, rfl⟩
abbrev main_v70 : Ref sig .tc := ⟨.hbm, 107, rfl⟩
abbrev main_cst_14 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_cst_15 : Ref sig .tc := ⟨.hbm, 114, rfl⟩
abbrev main_v76 : Ref sig .tc := ⟨.hbm, 115, rfl⟩
abbrev main_v77 : Ref sig .tc := ⟨.hbm, 116, rfl⟩
abbrev main_cst_16 : Ref sig .tc := ⟨.hbm, 117, rfl⟩
abbrev main_v78 : Ref sig .tc := ⟨.hbm, 118, rfl⟩
abbrev main_v79 : Ref sig .tc := ⟨.hbm, 119, rfl⟩
abbrev main_cst_17 : Ref sig .tc := ⟨.hbm, 120, rfl⟩
abbrev main_v80 : Ref sig .tc := ⟨.hbm, 121, rfl⟩
abbrev main_v81 : Ref sig .tc := ⟨.hbm, 122, rfl⟩
abbrev main_v82 : Ref sig .tc := ⟨.hbm, 123, rfl⟩
abbrev main_v83 : Ref sig .tc := ⟨.hbm, 124, rfl⟩
abbrev main_cst_18 : Ref sig .tc := ⟨.hbm, 125, rfl⟩
abbrev main_v84 : Ref sig .tc := ⟨.hbm, 126, rfl⟩
abbrev main_v85 : Ref sig .tc := ⟨.hbm, 127, rfl⟩
abbrev main_v86 : Ref sig .tc := ⟨.hbm, 128, rfl⟩
abbrev main_v87 : Ref sig .tc := ⟨.hbm, 129, rfl⟩
abbrev main_cst_19 : Ref sig .tc := ⟨.hbm, 130, rfl⟩
abbrev main_v88 : Ref sig .tc := ⟨.hbm, 131, rfl⟩
abbrev main_v89 : Ref sig .tc := ⟨.hbm, 132, rfl⟩
abbrev main_v90 : Ref sig .tc := ⟨.hbm, 133, rfl⟩
abbrev main_v91 : Ref sig .tc := ⟨.hbm, 134, rfl⟩
abbrev main_v92 : Ref sig .tc := ⟨.hbm, 135, rfl⟩
abbrev main_v93 : Ref sig .tc := ⟨.hbm, 136, rfl⟩
abbrev main_v94 : Ref sig .tc := ⟨.hbm, 137, rfl⟩
abbrev main_v95 : Ref sig .tc := ⟨.hbm, 138, rfl⟩
abbrev main_v96 : Ref sig .tc := ⟨.hbm, 139, rfl⟩
abbrev main_c : Ref sig .tc := ⟨.hbm, 140, rfl⟩
abbrev main_v97 : Ref sig .tc := ⟨.hbm, 141, rfl⟩
abbrev main_v98 : Ref sig .tc := ⟨.hbm, 142, rfl⟩
abbrev main_cst_20 : Ref sig .tc := ⟨.hbm, 143, rfl⟩
abbrev main_call2_v0 : Ref sig .tc := ⟨.hbm, 144, rfl⟩
abbrev main_call2_v1 : Ref sig .tc := ⟨.hbm, 145, rfl⟩
abbrev main_v99_0 : Ref sig .tc := ⟨.hbm, 146, rfl⟩
abbrev main_call2_cst : Ref sig .tc := ⟨.hbm, 147, rfl⟩
abbrev main_v99_1 : Ref sig .tc := ⟨.hbm, 148, rfl⟩
abbrev main_call3_cst : Ref sig .tc := ⟨.hbm, 149, rfl⟩
abbrev main_call3_v0 : Ref sig .tc := ⟨.hbm, 150, rfl⟩
abbrev main_v100 : Ref sig .tc := ⟨.hbm, 151, rfl⟩
abbrev main_cst_21 : Ref sig .tc := ⟨.hbm, 152, rfl⟩
abbrev main_v101 : Ref sig .tc := ⟨.hbm, 153, rfl⟩
abbrev main_v102 : Ref sig .tc := ⟨.hbm, 154, rfl⟩
abbrev main_v103 : Ref sig .tc := ⟨.hbm, 155, rfl⟩
abbrev main_cst_22 : Ref sig .tc := ⟨.hbm, 156, rfl⟩
abbrev main_v104 : Ref sig .tc := ⟨.hbm, 157, rfl⟩
abbrev main_v105 : Ref sig .tc := ⟨.hbm, 158, rfl⟩
abbrev main_v106 : Ref sig .tc := ⟨.hbm, 159, rfl⟩
abbrev main_v107 : Ref sig .tc := ⟨.hbm, 160, rfl⟩
abbrev main_v108 : Ref sig .tc := ⟨.hbm, 161, rfl⟩
abbrev main_cst_23 : Ref sig .tc := ⟨.hbm, 162, rfl⟩
abbrev main_v109 : Ref sig .tc := ⟨.hbm, 163, rfl⟩
abbrev main_v110 : Ref sig .tc := ⟨.hbm, 164, rfl⟩
abbrev main_v111 : Ref sig .tc := ⟨.hbm, 165, rfl⟩
abbrev main_v112 : Ref sig .tc := ⟨.hbm, 166, rfl⟩
abbrev main_v113 : Ref sig .tc := ⟨.hbm, 167, rfl⟩
abbrev main_v114 : Ref sig .tc := ⟨.hbm, 168, rfl⟩
abbrev main_cst_24 : Ref sig .tc := ⟨.hbm, 169, rfl⟩
abbrev main_v115 : Ref sig .tc := ⟨.hbm, 170, rfl⟩
abbrev main_v116 : Ref sig .tc := ⟨.hbm, 171, rfl⟩
abbrev main_cst_25 : Ref sig .tc := ⟨.hbm, 172, rfl⟩
abbrev main_v117 : Ref sig .tc := ⟨.hbm, 173, rfl⟩
abbrev main_v118 : Ref sig .tc := ⟨.hbm, 174, rfl⟩
abbrev main_cst_26 : Ref sig .tc := ⟨.hbm, 175, rfl⟩
abbrev main_v119 : Ref sig .tc := ⟨.hbm, 176, rfl⟩
abbrev main_v120 : Ref sig .tc := ⟨.hbm, 177, rfl⟩
abbrev main_v121 : Ref sig .tc := ⟨.hbm, 178, rfl⟩
abbrev main_v122 : Ref sig .tc := ⟨.hbm, 179, rfl⟩
abbrev main_cst_27 : Ref sig .tc := ⟨.hbm, 180, rfl⟩
abbrev main_v123 : Ref sig .tc := ⟨.hbm, 181, rfl⟩
abbrev main_v124 : Ref sig .tc := ⟨.hbm, 182, rfl⟩
abbrev main_v125 : Ref sig .tc := ⟨.hbm, 183, rfl⟩
abbrev main_v126 : Ref sig .tc := ⟨.hbm, 184, rfl⟩
abbrev main_cst_28 : Ref sig .tc := ⟨.hbm, 185, rfl⟩
abbrev main_v127 : Ref sig .tc := ⟨.hbm, 186, rfl⟩
abbrev main_v128 : Ref sig .tc := ⟨.hbm, 187, rfl⟩
abbrev main_cst_29 : Ref sig .tc := ⟨.hbm, 188, rfl⟩
abbrev main_v129 : Ref sig .tc := ⟨.hbm, 189, rfl⟩
abbrev main_v130 : Ref sig .tc := ⟨.hbm, 190, rfl⟩
abbrev main_v131 : Ref sig .tc := ⟨.hbm, 191, rfl⟩
abbrev main_v132 : Ref sig .tc := ⟨.hbm, 192, rfl⟩
abbrev main_cst_30 : Ref sig .tc := ⟨.hbm, 193, rfl⟩
abbrev main_v133 : Ref sig .tc := ⟨.hbm, 194, rfl⟩
abbrev main_v134 : Ref sig .tc := ⟨.hbm, 195, rfl⟩
abbrev main_cst_31 : Ref sig .tc := ⟨.hbm, 196, rfl⟩
abbrev main_v135 : Ref sig .tc := ⟨.hbm, 197, rfl⟩
abbrev main_v136 : Ref sig .tc := ⟨.hbm, 198, rfl⟩
abbrev main_cst_32 : Ref sig .tc := ⟨.hbm, 199, rfl⟩
abbrev main_v137 : Ref sig .tc := ⟨.hbm, 200, rfl⟩
abbrev main_v138 : Ref sig .tc := ⟨.hbm, 201, rfl⟩

abbrev nD : Nat := 1
abbrev τ : Topo := Topo.v7x

variable {F : FTy → Type} [FloatOps F]
-- ==== HKernel.lean ====
abbrev S8448x1024 : Shape := ⟨2, ![8448, 1024]⟩
abbrev S2x1024x5632 : Shape := ⟨3, ![2, 1024, 5632]⟩
abbrev S3x2816 : Shape := ⟨2, ![3, 2816]⟩
abbrev S8x2x352x1024 : Shape := ⟨4, ![8, 2, 352, 1024]⟩
abbrev S1x1024 : Shape := ⟨2, ![1, 1024]⟩
abbrev S8448x5632 : Shape := ⟨2, ![8448, 5632]⟩
abbrev S8448x2816 : Shape := ⟨2, ![8448, 2816]⟩
abbrev S256x1024 : Shape := ⟨2, ![256, 1024]⟩
abbrev S256x5632 : Shape := ⟨2, ![256, 5632]⟩
abbrev S256x2816 : Shape := ⟨2, ![256, 2816]⟩
abbrev S1024x5632 : Shape := ⟨2, ![1024, 5632]⟩
abbrev S2816x1024 : Shape := ⟨2, ![2816, 1024]⟩
abbrev S8x2816 : Shape := ⟨2, ![8, 2816]⟩
abbrev S9 : Shape := ⟨1, ![9]⟩
abbrev S1 : Shape := ⟨1, ![1]⟩
abbrev S_ : Shape := ⟨0, ![]⟩
abbrev S1x1024x5632 : Shape := ⟨3, ![1, 1024, 5632]⟩
abbrev S352x1024 : Shape := ⟨2, ![352, 1024]⟩
abbrev S1x1x352x1024 : Shape := ⟨4, ![1, 1, 352, 1024]⟩
abbrev S1024x1408 : Shape := ⟨2, ![1024, 1408]⟩
abbrev S256x1408 : Shape := ⟨2, ![256, 1408]⟩
abbrev S3x1408 : Shape := ⟨2, ![3, 1408]⟩
abbrev S8x1408 : Shape := ⟨2, ![8, 1408]⟩
abbrev S264x1408 : Shape := ⟨2, ![264, 1408]⟩
abbrev S1x1408 : Shape := ⟨2, ![1, 1408]⟩
abbrev S1408x1024 : Shape := ⟨2, ![1408, 1024]⟩
abbrev S256 : Shape := ⟨1, ![256]⟩
abbrev S256x1 : Shape := ⟨2, ![256, 1]⟩

abbrev nBuf : Space → Nat
  | .hbm => 10
  | .vmem => 16
  | .smem => 0
  | _ => 0

abbrev bufTy : (tb : Table) → Fin (tcTables nBuf tb) → BufTy
  | .hbm, ⟨0, _⟩ => ⟨S8448x1024, .f32⟩
  | .hbm, ⟨1, _⟩ => ⟨S2x1024x5632, .bf16⟩
  | .hbm, ⟨2, _⟩ => ⟨S3x2816, .f32⟩
  | .hbm, ⟨3, _⟩ => ⟨S8x2x352x1024, .bf16⟩
  | .hbm, ⟨4, _⟩ => ⟨S1x1024, .f32⟩
  | .hbm, ⟨5, _⟩ => ⟨S1x1024, .f32⟩
  | .hbm, ⟨6, _⟩ => ⟨S8448x5632, .f32⟩
  | .hbm, ⟨7, _⟩ => ⟨S8448x2816, .bf16⟩
  | .hbm, ⟨8, _⟩ => ⟨S8448x1024, .f32⟩
  | .hbm, ⟨9, _⟩ => ⟨S8448x1024, .f32⟩
  | .local _ .vmem, ⟨0, _⟩ => ⟨S256x1024, .f32⟩
  | .local _ .vmem, ⟨1, _⟩ => ⟨S256x1024, .f32⟩
  | .local _ .vmem, ⟨2, _⟩ => ⟨S3x2816, .f32⟩
  | .local _ .vmem, ⟨3, _⟩ => ⟨S1x1024, .f32⟩
  | .local _ .vmem, ⟨4, _⟩ => ⟨S1x1024, .f32⟩
  | .local _ .vmem, ⟨5, _⟩ => ⟨S256x5632, .f32⟩
  | .local _ .vmem, ⟨6, _⟩ => ⟨S256x5632, .f32⟩
  | .local _ .vmem, ⟨7, _⟩ => ⟨S256x2816, .bf16⟩
  | .local _ .vmem, ⟨8, _⟩ => ⟨S256x2816, .bf16⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S1024x5632, .bf16⟩
  | .local _ .vmem, ⟨14, _⟩ => ⟨S2816x1024, .bf16⟩
  | .local _ .vmem, ⟨15, _⟩ => ⟨S8x2816, .f32⟩
  | _, _ => ⟨S8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![33], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3x2816 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x5632 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2816 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== HReferenceIdeal.lean ====
abbrev S8448x1024 : Shape := ⟨2, ![8448, 1024]⟩
abbrev S2x1024x5632 : Shape := ⟨3, ![2, 1024, 5632]⟩
abbrev S3x2816 : Shape := ⟨2, ![3, 2816]⟩
abbrev S8x2x352x1024 : Shape := ⟨4, ![8, 2, 352, 1024]⟩
abbrev S1x1024 : Shape := ⟨2, ![1, 1024]⟩
abbrev S1x1024x5632 : Shape := ⟨3, ![1, 1024, 5632]⟩
abbrev S1024x5632 : Shape := ⟨2, ![1024, 5632]⟩
abbrev S8448x5632 : Shape := ⟨2, ![8448, 5632]⟩
abbrev S8448x2816 : Shape := ⟨2, ![8448, 2816]⟩
abbrev S_ : Shape := ⟨0, ![]⟩
abbrev S2x2816 : Shape := ⟨2, ![2, 2816]⟩
abbrev S8450x2816 : Shape := ⟨2, ![8450, 2816]⟩
abbrev S1x2816 : Shape := ⟨2, ![1, 2816]⟩
abbrev S8x1x352x1024 : Shape := ⟨4, ![8, 1, 352, 1024]⟩
abbrev S8x352x1024 : Shape := ⟨3, ![8, 352, 1024]⟩
abbrev S2816x1024 : Shape := ⟨2, ![2816, 1024]⟩
abbrev S8448 : Shape := ⟨1, ![8448]⟩
abbrev S8448x1 : Shape := ⟨2, ![8448, 1]⟩

abbrev nBuf : Space → Nat
  | .hbm => 87
  | .vmem => 0
  | .smem => 0
  | _ => 0

abbrev bufTy : (tb : Table) → Fin (tcTables nBuf tb) → BufTy
  | .hbm, ⟨0, _⟩ => ⟨S8448x1024, .f32⟩
  | .hbm, ⟨1, _⟩ => ⟨S2x1024x5632, .bf16⟩
  | .hbm, ⟨2, _⟩ => ⟨S3x2816, .f32⟩
  | .hbm, ⟨3, _⟩ => ⟨S8x2x352x1024, .bf16⟩
  | .hbm, ⟨4, _⟩ => ⟨S1x1024, .f32⟩
  | .hbm, ⟨5, _⟩ => ⟨S1x1024, .f32⟩
  | .hbm, ⟨6, _⟩ => ⟨S2x1024x5632, .f32⟩
  | .hbm, ⟨7, _⟩ => ⟨S1x1024x5632, .f32⟩
  | .hbm, ⟨8, _⟩ => ⟨S1024x5632, .f32⟩
  | .hbm, ⟨9, _⟩ => ⟨S8448x5632, .f32⟩
  | .hbm, ⟨10, _⟩ => ⟨S8448x2816, .f32⟩
  | .hbm, ⟨11, _⟩ => ⟨S8448x2816, .f32⟩
  | .hbm, ⟨12, _⟩ => ⟨S_, .f32⟩
  | .hbm, ⟨13, _⟩ => ⟨S2x2816, .f32⟩
  | .hbm, ⟨14, _⟩ => ⟨S8450x2816, .f32⟩
  | .hbm, ⟨15, _⟩ => ⟨S1x2816, .f32⟩
  | .hbm, ⟨16, _⟩ => ⟨S8448x2816, .f32⟩
  | .hbm, ⟨17, _⟩ => ⟨S8448x2816, .f32⟩
  | .hbm, ⟨18, _⟩ => ⟨S8448x2816, .f32⟩
  | .hbm, ⟨19, _⟩ => ⟨S_, .f32⟩
  | .hbm, ⟨20, _⟩ => ⟨S8448x2816, .f32⟩
  | .hbm, ⟨21, _⟩ => ⟨S8448x2816, .f32⟩
  | .hbm, ⟨22, _⟩ => ⟨S1x2816, .f32⟩
  | .hbm, ⟨23, _⟩ => ⟨S8448x2816, .f32⟩
  | .hbm, ⟨24, _⟩ => ⟨S8448x2816, .f32⟩
  | .hbm, ⟨25, _⟩ => ⟨S8448x2816, .f32⟩
  | .hbm, ⟨26, _⟩ => ⟨S8448x2816, .f32⟩
  | .hbm, ⟨27, _⟩ => ⟨S1x2816, .f32⟩
  | .hbm, ⟨28, _⟩ => ⟨S8448x2816, .f32⟩
  | .hbm, ⟨29, _⟩ => ⟨S8448x2816, .f32⟩
  | .hbm, ⟨30, _⟩ => ⟨S8448x2816, .f32⟩
  | .hbm, ⟨31, _⟩ => ⟨S8448x2816, .f32⟩
  | .hbm, ⟨32, _⟩ => ⟨S8448x2816, .f32⟩
  | .hbm, ⟨33, _⟩ => ⟨S8448x2816, .f32⟩
  | .hbm, ⟨34, _⟩ => ⟨S_, .f32⟩
  | .hbm, ⟨35, _⟩ => ⟨S8448x2816, .f32⟩
  | .hbm, ⟨36, _⟩ => ⟨S8448x2816, .f32⟩
  | .hbm, ⟨37, _⟩ => ⟨S_, .f32⟩
  | .hbm, ⟨38, _⟩ => ⟨S8448x2816, .f32⟩
  | .hbm, ⟨39, _⟩ => ⟨S8448x2816, .f32⟩
  | .hbm, ⟨40, _⟩ => ⟨S8448x2816, .f32⟩
  | .hbm, ⟨41, _⟩ => ⟨S8448x2816, .f32⟩
  | .hbm, ⟨42, _⟩ => ⟨S_, .f32⟩
  | .hbm, ⟨43, _⟩ => ⟨S8448x1024, .f32⟩
  | .hbm, ⟨44, _⟩ => ⟨S8448x1024, .f32⟩
  | .hbm, ⟨45, _⟩ => ⟨S8x2x352x1024, .f32⟩
  | .hbm, ⟨46, _⟩ => ⟨S8x1x352x1024, .f32⟩
  | .hbm, ⟨47, _⟩ => ⟨S8x352x1024, .f32⟩
  | .hbm, ⟨48, _⟩ => ⟨S2816x1024, .f32⟩
  | .hbm, ⟨49, _⟩ => ⟨S8448x1024, .f32⟩
  | .hbm, ⟨50, _⟩ => ⟨S8448x1024, .f32⟩
  | .hbm, ⟨51, _⟩ => ⟨S8448x2816, .bf16⟩
  | .hbm, ⟨52, _⟩ => ⟨S_, .f32⟩
  | .hbm, ⟨53, _⟩ => ⟨S8448, .f32⟩
  | .hbm, ⟨54, _⟩ => ⟨S8448x1, .f32⟩
  | .hbm, ⟨55, _⟩ => ⟨S_, .f32⟩
  | .hbm, ⟨56, _⟩ => ⟨S8448x1, .f32⟩
  | .hbm, ⟨57, _⟩ => ⟨S8448x1, .f32⟩
  | .hbm, ⟨58, _⟩ => ⟨S8448x1024, .f32⟩
  | .hbm, ⟨59, _⟩ => ⟨S8448x1024, .f32⟩
  | .hbm, ⟨60, _⟩ => ⟨S8448x1024, .f32⟩
  | .hbm, ⟨61, _⟩ => ⟨S_, .f32⟩
  | .hbm, ⟨62, _⟩ => ⟨S8448, .f32⟩
  | .hbm, ⟨63, _⟩ => ⟨S8448x1, .f32⟩
  | .hbm, ⟨64, _⟩ => ⟨S_, .f32⟩
  | .hbm, ⟨65, _⟩ => ⟨S8448x1, .f32⟩
  | .hbm, ⟨66, _⟩ => ⟨S8448x1, .f32⟩
  | .hbm, ⟨67, _⟩ => ⟨S8448x1024, .f32⟩
  | .hbm, ⟨68, _⟩ => ⟨S8448x1024, .f32⟩
  | .hbm, ⟨69, _⟩ => ⟨S_, .f32⟩
  | .hbm, ⟨70, _⟩ => ⟨S8448x1, .f32⟩
  | .hbm, ⟨71, _⟩ => ⟨S8448x1, .f32⟩
  | .hbm, ⟨72, _⟩ => ⟨S8448x1, .f32⟩
  | .hbm, ⟨73, _⟩ => ⟨S8448x1024, .f32⟩
  | .hbm, ⟨74, _⟩ => ⟨S8448x1024, .f32⟩
  | .hbm, ⟨75, _⟩ => ⟨S8448x1024, .f32⟩
  | .hbm, ⟨76, _⟩ => ⟨S8448x1024, .f32⟩
  | .hbm, ⟨77, _⟩ => ⟨S8448x1024, .f32⟩
  | .hbm, ⟨78, _⟩ => ⟨S8448x1024, .f32⟩
  | .hbm, ⟨79, _⟩ => ⟨S8448x1024, .i32⟩
  | .hbm, ⟨80, _⟩ => ⟨S_, .i32⟩
  | .hbm, ⟨81, _⟩ => ⟨S8448x1024, .i32⟩
  | .hbm, ⟨82, _⟩ => ⟨S8448x1024, .i1⟩
  | .hbm, ⟨83, _⟩ => ⟨S_, .f32⟩
  | .hbm, ⟨84, _⟩ => ⟨S_, .f32⟩
  | .hbm, ⟨85, _⟩ => ⟨S8448x1024, .f32⟩
  | .hbm, ⟨86, _⟩ => ⟨S8448x1024, .f32⟩
  | _, _ => ⟨S8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_0 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_call0_v0 : Ref sig .tc := ⟨.hbm, 32, rfl⟩
abbrev main_call0_v1 : Ref sig .tc := ⟨.hbm, 33, rfl⟩
abbrev main_call0_cst : Ref sig .tc := ⟨.hbm, 34, rfl⟩
abbrev main_call0_v2 : Ref sig .tc := ⟨.hbm, 35, rfl⟩
abbrev main_call0_v3 : Ref sig .tc := ⟨.hbm, 36, rfl⟩
abbrev main_call0_cst_0 : Ref sig .tc := ⟨.hbm, 37, rfl⟩
abbrev main_call0_v4 : Ref sig .tc := ⟨.hbm, 38, rfl⟩
abbrev main_call0_v5 : Ref sig .tc := ⟨.hbm, 39, rfl⟩
abbrev main_v24 : Ref sig .tc := ⟨.hbm, 40, rfl⟩
abbrev main_v25 : Ref sig .tc := ⟨.hbm, 41, rfl⟩
abbrev main_cst_1 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_2 : Ref sig .tc := ⟨.hbm, 52, rfl⟩
abbrev main_v35 : Ref sig .tc := ⟨.hbm, 53, rfl⟩
abbrev main_v36 : Ref sig .tc := ⟨.hbm, 54, rfl⟩
abbrev main_cst_3 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_4 : Ref sig .tc := ⟨.hbm, 61, rfl⟩
abbrev main_v42 : Ref sig .tc := ⟨.hbm, 62, rfl⟩
abbrev main_v43 : Ref sig .tc := ⟨.hbm, 63, rfl⟩
abbrev main_cst_5 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_cst_6 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_c : Ref sig .tc := ⟨.hbm, 80, rfl⟩
abbrev main_v58 : Ref sig .tc := ⟨.hbm, 81, rfl⟩
abbrev main_v59 : Ref sig .tc := ⟨.hbm, 82, rfl⟩
abbrev main_cst_7 : Ref sig .tc := ⟨.hbm, 83, rfl⟩
abbrev main_call1_v0 : Ref sig .tc := ⟨.hbm, 84, rfl⟩
abbrev main_call1_v1 : Ref sig .tc := ⟨.hbm, 85, rfl⟩
abbrev main_v60 : Ref sig .tc := ⟨.hbm, 86, rfl⟩

abbrev nD : Nat := 1
abbrev τ : Topo := Topo.v7x

variable {F : FTy → Type} [FloatOps F]
-- ==== JKernel.lean ====
abbrev S8448x1024 : Shape := ⟨2, ![8448, 1024]⟩
abbrev S2x1024x5632 : Shape := ⟨3, ![2, 1024, 5632]⟩
abbrev S3x2816 : Shape := ⟨2, ![3, 2816]⟩
abbrev S8x2x352x1024 : Shape := ⟨4, ![8, 2, 352, 1024]⟩
abbrev S1x1024 : Shape := ⟨2, ![1, 1024]⟩
abbrev S8448x5632 : Shape := ⟨2, ![8448, 5632]⟩
abbrev S8448x2816 : Shape := ⟨2, ![8448, 2816]⟩
abbrev S256x1024 : Shape := ⟨2, ![256, 1024]⟩
abbrev S256x5632 : Shape := ⟨2, ![256, 5632]⟩
abbrev S256x2816 : Shape := ⟨2, ![256, 2816]⟩
abbrev S1024x5632 : Shape := ⟨2, ![1024, 5632]⟩
abbrev S2816x1024 : Shape := ⟨2, ![2816, 1024]⟩
abbrev S8x2816 : Shape := ⟨2, ![8, 2816]⟩
abbrev S9 : Shape := ⟨1, ![9]⟩
abbrev S1 : Shape := ⟨1, ![1]⟩
abbrev S_ : Shape := ⟨0, ![]⟩
abbrev S1x1024x5632 : Shape := ⟨3, ![1, 1024, 5632]⟩
abbrev S352x1024 : Shape := ⟨2, ![352, 1024]⟩
abbrev S1x1x352x1024 : Shape := ⟨4, ![1, 1, 352, 1024]⟩
abbrev S1024x1408 : Shape := ⟨2, ![1024, 1408]⟩
abbrev S256x1408 : Shape := ⟨2, ![256, 1408]⟩
abbrev S3x1408 : Shape := ⟨2, ![3, 1408]⟩
abbrev S8x1408 : Shape := ⟨2, ![8, 1408]⟩
abbrev S264x1408 : Shape := ⟨2, ![264, 1408]⟩
abbrev S1x1408 : Shape := ⟨2, ![1, 1408]⟩
abbrev S1408x1024 : Shape := ⟨2, ![1408, 1024]⟩
abbrev S256 : Shape := ⟨1, ![256]⟩
abbrev S256x1 : Shape := ⟨2, ![256, 1]⟩

abbrev nBuf : Space → Nat
  | .hbm => 10
  | .vmem => 16
  | .smem => 0
  | _ => 0

abbrev bufTy : (tb : Table) → Fin (tcTables nBuf tb) → BufTy
  | .hbm, ⟨0, _⟩ => ⟨S8448x1024, .f32⟩
  | .hbm, ⟨1, _⟩ => ⟨S2x1024x5632, .bf16⟩
  | .hbm, ⟨2, _⟩ => ⟨S3x2816, .f32⟩
  | .hbm, ⟨3, _⟩ => ⟨S8x2x352x1024, .bf16⟩
  | .hbm, ⟨4, _⟩ => ⟨S1x1024, .f32⟩
  | .hbm, ⟨5, _⟩ => ⟨S1x1024, .f32⟩
  | .hbm, ⟨6, _⟩ => ⟨S8448x5632, .f32⟩
  | .hbm, ⟨7, _⟩ => ⟨S8448x2816, .bf16⟩
  | .hbm, ⟨8, _⟩ => ⟨S8448x1024, .f32⟩
  | .hbm, ⟨9, _⟩ => ⟨S8448x1024, .f32⟩
  | .local _ .vmem, ⟨0, _⟩ => ⟨S256x1024, .f32⟩
  | .local _ .vmem, ⟨1, _⟩ => ⟨S256x1024, .f32⟩
  | .local _ .vmem, ⟨2, _⟩ => ⟨S3x2816, .f32⟩
  | .local _ .vmem, ⟨3, _⟩ => ⟨S1x1024, .f32⟩
  | .local _ .vmem, ⟨4, _⟩ => ⟨S1x1024, .f32⟩
  | .local _ .vmem, ⟨5, _⟩ => ⟨S256x5632, .f32⟩
  | .local _ .vmem, ⟨6, _⟩ => ⟨S256x5632, .f32⟩
  | .local _ .vmem, ⟨7, _⟩ => ⟨S256x2816, .bf16⟩
  | .local _ .vmem, ⟨8, _⟩ => ⟨S256x2816, .bf16⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S1024x5632, .bf16⟩
  | .local _ .vmem, ⟨14, _⟩ => ⟨S2816x1024, .bf16⟩
  | .local _ .vmem, ⟨15, _⟩ => ⟨S8x2816, .f32⟩
  | _, _ => ⟨S8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![33], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3x2816 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x5632 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2816 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== JReferenceIdeal.lean ====
abbrev S8448x1024 : Shape := ⟨2, ![8448, 1024]⟩
abbrev S2x1024x5632 : Shape := ⟨3, ![2, 1024, 5632]⟩
abbrev S3x2816 : Shape := ⟨2, ![3, 2816]⟩
abbrev S8x2x352x1024 : Shape := ⟨4, ![8, 2, 352, 1024]⟩
abbrev S1x1024 : Shape := ⟨2, ![1, 1024]⟩
abbrev S1x1024x5632 : Shape := ⟨3, ![1, 1024, 5632]⟩
abbrev S1024x5632 : Shape := ⟨2, ![1024, 5632]⟩
abbrev S8448x5632 : Shape := ⟨2, ![8448, 5632]⟩
abbrev S8448x2816 : Shape := ⟨2, ![8448, 2816]⟩
abbrev S_ : Shape := ⟨0, ![]⟩
abbrev S2x2816 : Shape := ⟨2, ![2, 2816]⟩
abbrev S8450x2816 : Shape := ⟨2, ![8450, 2816]⟩
abbrev S1x2816 : Shape := ⟨2, ![1, 2816]⟩
abbrev S8x1x352x1024 : Shape := ⟨4, ![8, 1, 352, 1024]⟩
abbrev S8x352x1024 : Shape := ⟨3, ![8, 352, 1024]⟩
abbrev S2816x1024 : Shape := ⟨2, ![2816, 1024]⟩
abbrev S8448 : Shape := ⟨1, ![8448]⟩
abbrev S8448x1 : Shape := ⟨2, ![8448, 1]⟩

abbrev nBuf : Space → Nat
  | .hbm => 87
  | .vmem => 0
  | .smem => 0
  | _ => 0

abbrev bufTy : (tb : Table) → Fin (tcTables nBuf tb) → BufTy
  | .hbm, ⟨0, _⟩ => ⟨S8448x1024, .f32⟩
  | .hbm, ⟨1, _⟩ => ⟨S2x1024x5632, .bf16⟩
  | .hbm, ⟨2, _⟩ => ⟨S3x2816, .f32⟩
  | .hbm, ⟨3, _⟩ => ⟨S8x2x352x1024, .bf16⟩
  | .hbm, ⟨4, _⟩ => ⟨S1x1024, .f32⟩
  | .hbm, ⟨5, _⟩ => ⟨S1x1024, .f32⟩
  | .hbm, ⟨6, _⟩ => ⟨S2x1024x5632, .f32⟩
  | .hbm, ⟨7, _⟩ => ⟨S1x1024x5632, .f32⟩
  | .hbm, ⟨8, _⟩ => ⟨S1024x5632, .f32⟩
  | .hbm, ⟨9, _⟩ => ⟨S8448x5632, .f32⟩
  | .hbm, ⟨10, _⟩ => ⟨S8448x2816, .f32⟩
  | .hbm, ⟨11, _⟩ => ⟨S8448x2816, .f32⟩
  | .hbm, ⟨12, _⟩ => ⟨S_, .f32⟩
  | .hbm, ⟨13, _⟩ => ⟨S2x2816, .f32⟩
  | .hbm, ⟨14, _⟩ => ⟨S8450x2816, .f32⟩
  | .hbm, ⟨15, _⟩ => ⟨S1x2816, .f32⟩
  | .hbm, ⟨16, _⟩ => ⟨S8448x2816, .f32⟩
  | .hbm, ⟨17, _⟩ => ⟨S8448x2816, .f32⟩
  | .hbm, ⟨18, _⟩ => ⟨S8448x2816, .f32⟩
  | .hbm, ⟨19, _⟩ => ⟨S_, .f32⟩
  | .hbm, ⟨20, _⟩ => ⟨S8448x2816, .f32⟩
  | .hbm, ⟨21, _⟩ => ⟨S8448x2816, .f32⟩
  | .hbm, ⟨22, _⟩ => ⟨S1x2816, .f32⟩
  | .hbm, ⟨23, _⟩ => ⟨S8448x2816, .f32⟩
  | .hbm, ⟨24, _⟩ => ⟨S8448x2816, .f32⟩
  | .hbm, ⟨25, _⟩ => ⟨S8448x2816, .f32⟩
  | .hbm, ⟨26, _⟩ => ⟨S8448x2816, .f32⟩
  | .hbm, ⟨27, _⟩ => ⟨S1x2816, .f32⟩
  | .hbm, ⟨28, _⟩ => ⟨S8448x2816, .f32⟩
  | .hbm, ⟨29, _⟩ => ⟨S8448x2816, .f32⟩
  | .hbm, ⟨30, _⟩ => ⟨S8448x2816, .f32⟩
  | .hbm, ⟨31, _⟩ => ⟨S8448x2816, .f32⟩
  | .hbm, ⟨32, _⟩ => ⟨S8448x2816, .f32⟩
  | .hbm, ⟨33, _⟩ => ⟨S8448x2816, .f32⟩
  | .hbm, ⟨34, _⟩ => ⟨S_, .f32⟩
  | .hbm, ⟨35, _⟩ => ⟨S8448x2816, .f32⟩
  | .hbm, ⟨36, _⟩ => ⟨S8448x2816, .f32⟩
  | .hbm, ⟨37, _⟩ => ⟨S_, .f32⟩
  | .hbm, ⟨38, _⟩ => ⟨S8448x2816, .f32⟩
  | .hbm, ⟨39, _⟩ => ⟨S8448x2816, .f32⟩
  | .hbm, ⟨40, _⟩ => ⟨S8448x2816, .f32⟩
  | .hbm, ⟨41, _⟩ => ⟨S8448x2816, .f32⟩
  | .hbm, ⟨42, _⟩ => ⟨S_, .f32⟩
  | .hbm, ⟨43, _⟩ => ⟨S8448x1024, .f32⟩
  | .hbm, ⟨44, _⟩ => ⟨S8448x1024, .f32⟩
  | .hbm, ⟨45, _⟩ => ⟨S8x2x352x1024, .f32⟩
  | .hbm, ⟨46, _⟩ => ⟨S8x1x352x1024, .f32⟩
  | .hbm, ⟨47, _⟩ => ⟨S8x352x1024, .f32⟩
  | .hbm, ⟨48, _⟩ => ⟨S2816x1024, .f32⟩
  | .hbm, ⟨49, _⟩ => ⟨S8448x1024, .f32⟩
  | .hbm, ⟨50, _⟩ => ⟨S8448x1024, .f32⟩
  | .hbm, ⟨51, _⟩ => ⟨S8448x2816, .bf16⟩
  | .hbm, ⟨52, _⟩ => ⟨S_, .f32⟩
  | .hbm, ⟨53, _⟩ => ⟨S8448, .f32⟩
  | .hbm, ⟨54, _⟩ => ⟨S8448x1, .f32⟩
  | .hbm, ⟨55, _⟩ => ⟨S_, .f32⟩
  | .hbm, ⟨56, _⟩ => ⟨S8448x1, .f32⟩
  | .hbm, ⟨57, _⟩ => ⟨S8448x1, .f32⟩
  | .hbm, ⟨58, _⟩ => ⟨S8448x1024, .f32⟩
  | .hbm, ⟨59, _⟩ => ⟨S8448x1024, .f32⟩
  | .hbm, ⟨60, _⟩ => ⟨S8448x1024, .f32⟩
  | .hbm, ⟨61, _⟩ => ⟨S_, .f32⟩
  | .hbm, ⟨62, _⟩ => ⟨S8448, .f32⟩
  | .hbm, ⟨63, _⟩ => ⟨S8448x1, .f32⟩
  | .hbm, ⟨64, _⟩ => ⟨S_, .f32⟩
  | .hbm, ⟨65, _⟩ => ⟨S8448x1, .f32⟩
  | .hbm, ⟨66, _⟩ => ⟨S8448x1, .f32⟩
  | .hbm, ⟨67, _⟩ => ⟨S8448x1024, .f32⟩
  | .hbm, ⟨68, _⟩ => ⟨S8448x1024, .f32⟩
  | .hbm, ⟨69, _⟩ => ⟨S_, .f32⟩
  | .hbm, ⟨70, _⟩ => ⟨S8448x1, .f32⟩
  | .hbm, ⟨71, _⟩ => ⟨S8448x1, .f32⟩
  | .hbm, ⟨72, _⟩ => ⟨S8448x1, .f32⟩
  | .hbm, ⟨73, _⟩ => ⟨S8448x1024, .f32⟩
  | .hbm, ⟨74, _⟩ => ⟨S8448x1024, .f32⟩
  | .hbm, ⟨75, _⟩ => ⟨S8448x1024, .f32⟩
  | .hbm, ⟨76, _⟩ => ⟨S8448x1024, .f32⟩
  | .hbm, ⟨77, _⟩ => ⟨S8448x1024, .f32⟩
  | .hbm, ⟨78, _⟩ => ⟨S8448x1024, .f32⟩
  | .hbm, ⟨79, _⟩ => ⟨S8448x1024, .i32⟩
  | .hbm, ⟨80, _⟩ => ⟨S_, .i32⟩
  | .hbm, ⟨81, _⟩ => ⟨S8448x1024, .i32⟩
  | .hbm, ⟨82, _⟩ => ⟨S8448x1024, .i1⟩
  | .hbm, ⟨83, _⟩ => ⟨S_, .f32⟩
  | .hbm, ⟨84, _⟩ => ⟨S_, .f32⟩
  | .hbm, ⟨85, _⟩ => ⟨S8448x1024, .f32⟩
  | .hbm, ⟨86, _⟩ => ⟨S8448x1024, .f32⟩
  | _, _ => ⟨S8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_0 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_call0_v0 : Ref sig .tc := ⟨.hbm, 32, rfl⟩
abbrev main_call0_v1 : Ref sig .tc := ⟨.hbm, 33, rfl⟩
abbrev main_call0_cst : Ref sig .tc := ⟨.hbm, 34, rfl⟩
abbrev main_call0_v2 : Ref sig .tc := ⟨.hbm, 35, rfl⟩
abbrev main_call0_v3 : Ref sig .tc := ⟨.hbm, 36, rfl⟩
abbrev main_call0_cst_0 : Ref sig .tc := ⟨.hbm, 37, rfl⟩
abbrev main_call0_v4 : Ref sig .tc := ⟨.hbm, 38, rfl⟩
abbrev main_call0_v5 : Ref sig .tc := ⟨.hbm, 39, rfl⟩
abbrev main_v24 : Ref sig .tc := ⟨.hbm, 40, rfl⟩
abbrev main_v25 : Ref sig .tc := ⟨.hbm, 41, rfl⟩
abbrev main_cst_1 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_2 : Ref sig .tc := ⟨.hbm, 52, rfl⟩
abbrev main_v35 : Ref sig .tc := ⟨.hbm, 53, rfl⟩
abbrev main_v36 : Ref sig .tc := ⟨.hbm, 54, rfl⟩
abbrev main_cst_3 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_4 : Ref sig .tc := ⟨.hbm, 61, rfl⟩
abbrev main_v42 : Ref sig .tc := ⟨.hbm, 62, rfl⟩
abbrev main_v43 : Ref sig .tc := ⟨.hbm, 63, rfl⟩
abbrev main_cst_5 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_cst_6 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_c : Ref sig .tc := ⟨.hbm, 80, rfl⟩
abbrev main_v58 : Ref sig .tc := ⟨.hbm, 81, rfl⟩
abbrev main_v59 : Ref sig .tc := ⟨.hbm, 82, rfl⟩
abbrev main_cst_7 : Ref sig .tc := ⟨.hbm, 83, rfl⟩
abbrev main_call1_v0 : Ref sig .tc := ⟨.hbm, 84, rfl⟩
abbrev main_call1_v1 : Ref sig .tc := ⟨.hbm, 85, rfl⟩
abbrev main_v60 : Ref sig .tc := ⟨.hbm, 86, rfl⟩

abbrev nD : Nat := 1
abbrev τ : Topo := Topo.v7x

variable {F : FTy → Type} [FloatOps F]
-- ==== DKernel.lean ====
abbrev S8448x2816 : Shape := ⟨2, ![8448, 2816]⟩
abbrev S8448x1024 : Shape := ⟨2, ![8448, 1024]⟩
abbrev S2816x1024 : Shape := ⟨2, ![2816, 1024]⟩
abbrev S768x2816 : Shape := ⟨2, ![768, 2816]⟩
abbrev S768x512 : Shape := ⟨2, ![768, 512]⟩
abbrev S2816x512 : Shape := ⟨2, ![2816, 512]⟩

abbrev nBuf : Space → Nat
  | .hbm => 3
  | .vmem => 6
  | .smem => 0
  | _ => 0

abbrev bufTy : (tb : Table) → Fin (tcTables nBuf tb) → BufTy
  | .hbm, ⟨0, _⟩ => ⟨S8448x2816, .bf16⟩
  | .hbm, ⟨1, _⟩ => ⟨S8448x1024, .f32⟩
  | .hbm, ⟨2, _⟩ => ⟨S2816x1024, .f32⟩
  | .local _ .vmem, ⟨0, _⟩ => ⟨S768x2816, .bf16⟩
  | .local _ .vmem, ⟨1, _⟩ => ⟨S768x2816, .bf16⟩
  | .local _ .vmem, ⟨2, _⟩ => ⟨S768x512, .f32⟩
  | .local _ .vmem, ⟨3, _⟩ => ⟨S768x512, .f32⟩
  | .local _ .vmem, ⟨4, _⟩ => ⟨S2816x512, .f32⟩
  | .local _ .vmem, ⟨5, _⟩ => ⟨S2816x512, .f32⟩
  | _, _ => ⟨S8448x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S768x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S768x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2816x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== DReferenceIdeal.lean ====
abbrev S8448x2816 : Shape := ⟨2, ![8448, 2816]⟩
abbrev S8448x1024 : Shape := ⟨2, ![8448, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 8
  | .vmem => 0
  | .smem => 0
  | _ => 0

abbrev bufTy : (tb : Table) → Fin (tcTables nBuf tb) → BufTy
  | .hbm, ⟨0, _⟩ => ⟨S8448x2816, .bf16⟩
  | .hbm, ⟨1, _⟩ => ⟨S8448x1024, .f32⟩
  | .hbm, ⟨2, _⟩ => ⟨S_, .f32⟩
  | .hbm, ⟨3, _⟩ => ⟨S2816x1024, .f32⟩
  | .hbm, ⟨4, _⟩ => ⟨S8448x2816, .f32⟩
  | .hbm, ⟨5, _⟩ => ⟨S8448x1024, .f32⟩
  | .hbm, ⟨6, _⟩ => ⟨S1024x2816, .f32⟩
  | .hbm, ⟨7, _⟩ => ⟨S2816x1024, .f32⟩
  | _, _ => ⟨S8448x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== UKernel.lean ====
abbrev S8448x1024 : Shape := ⟨2, ![8448, 1024]⟩
abbrev S8448x5632 : Shape := ⟨2, ![8448, 5632]⟩
abbrev S1024x5632 : Shape := ⟨2, ![1024, 5632]⟩
abbrev S768x1024 : Shape := ⟨2, ![768, 1024]⟩
abbrev S768x1408 : Shape := ⟨2, ![768, 1408]⟩
abbrev S1024x1408 : Shape := ⟨2, ![1024, 1408]⟩

abbrev nBuf : Space → Nat
  | .hbm => 3
  | .vmem => 6
  | .smem => 0
  | _ => 0

abbrev bufTy : (tb : Table) → Fin (tcTables nBuf tb) → BufTy
  | .hbm, ⟨0, _⟩ => ⟨S8448x1024, .f32⟩
  | .hbm, ⟨1, _⟩ => ⟨S8448x5632, .bf16⟩
  | .hbm, ⟨2, _⟩ => ⟨S1024x5632, .f32⟩
  | .local _ .vmem, ⟨0, _⟩ => ⟨S768x1024, .f32⟩
  | .local _ .vmem, ⟨1, _⟩ => ⟨S768x1024, .f32⟩
  | .local _ .vmem, ⟨2, _⟩ => ⟨S768x1408, .bf16⟩
  | .local _ .vmem, ⟨3, _⟩ => ⟨S768x1408, .bf16⟩
  | .local _ .vmem, ⟨4, _⟩ => ⟨S1024x1408, .f32⟩
  | .local _ .vmem, ⟨5, _⟩ => ⟨S1024x1408, .f32⟩
  | _, _ => ⟨S8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S768x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S768x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== UReferenceIdeal.lean ====
abbrev S8448x1024 : Shape := ⟨2, ![8448, 1024]⟩
abbrev S8448x5632 : Shape := ⟨2, ![8448, 5632]⟩
abbrev S_ : Shape := ⟨0, ![]⟩
abbrev S1024x5632 : Shape := ⟨2, ![1024, 5632]⟩
abbrev S5632x1024 : Shape := ⟨2, ![5632, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8448x1024, .f32⟩
  | .hbm, ⟨1, _⟩ => ⟨S8448x5632, .bf16⟩
  | .hbm, ⟨2, _⟩ => ⟨S_, .f32⟩
  | .hbm, ⟨3, _⟩ => ⟨S1024x5632, .f32⟩
  | .hbm, ⟨4, _⟩ => ⟨S8448x5632, .f32⟩
  | .hbm, ⟨5, _⟩ => ⟨S8448x5632, .f32⟩
  | .hbm, ⟨6, _⟩ => ⟨S5632x1024, .f32⟩
  | .hbm, ⟨7, _⟩ => ⟨S1024x5632, .f32⟩
  | _, _ => ⟨S8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== BKernel.lean ====
abbrev S8448x1024 : Shape := ⟨2, ![8448, 1024]⟩
abbrev S8448x3072 : Shape := ⟨2, ![8448, 3072]⟩
abbrev S1024x3072 : Shape := ⟨2, ![1024, 3072]⟩
abbrev S768x1024 : Shape := ⟨2, ![768, 1024]⟩
abbrev S768x1536 : Shape := ⟨2, ![768, 1536]⟩
abbrev S1024x1536 : Shape := ⟨2, ![1024, 1536]⟩

abbrev nBuf : Space → Nat
  | .hbm => 3
  | .vmem => 6
  | .smem => 0
  | _ => 0

abbrev bufTy : (tb : Table) → Fin (tcTables nBuf tb) → BufTy
  | .hbm, ⟨0, _⟩ => ⟨S8448x1024, .f32⟩
  | .hbm, ⟨1, _⟩ => ⟨S8448x3072, .bf16⟩
  | .hbm, ⟨2, _⟩ => ⟨S1024x3072, .f32⟩
  | .local _ .vmem, ⟨0, _⟩ => ⟨S768x1024, .f32⟩
  | .local _ .vmem, ⟨1, _⟩ => ⟨S768x1024, .f32⟩
  | .local _ .vmem, ⟨2, _⟩ => ⟨S768x1536, .bf16⟩
  | .local _ .vmem, ⟨3, _⟩ => ⟨S768x1536, .bf16⟩
  | .local _ .vmem, ⟨4, _⟩ => ⟨S1024x1536, .f32⟩
  | .local _ .vmem, ⟨5, _⟩ => ⟨S1024x1536, .f32⟩
  | _, _ => ⟨S8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S768x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S768x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== BReferenceIdeal.lean ====
abbrev S8448x1024 : Shape := ⟨2, ![8448, 1024]⟩
abbrev S8448x3072 : Shape := ⟨2, ![8448, 3072]⟩
abbrev S_ : Shape := ⟨0, ![]⟩
abbrev S1024x3072 : Shape := ⟨2, ![1024, 3072]⟩
abbrev S3072x1024 : Shape := ⟨2, ![3072, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8448x1024, .f32⟩
  | .hbm, ⟨1, _⟩ => ⟨S8448x3072, .bf16⟩
  | .hbm, ⟨2, _⟩ => ⟨S_, .f32⟩
  | .hbm, ⟨3, _⟩ => ⟨S1024x3072, .f32⟩
  | .hbm, ⟨4, _⟩ => ⟨S8448x3072, .f32⟩
  | .hbm, ⟨5, _⟩ => ⟨S8448x3072, .f32⟩
  | .hbm, ⟨6, _⟩ => ⟨S3072x1024, .f32⟩
  | .hbm, ⟨7, _⟩ => ⟨S1024x3072, .f32⟩
  | _, _ => ⟨S8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== AKernel.lean ====
abbrev S8448x1024 : Shape := ⟨2, ![8448, 1024]⟩
abbrev S8448x4352 : Shape := ⟨2, ![8448, 4352]⟩
abbrev S1024x4352 : Shape := ⟨2, ![1024, 4352]⟩
abbrev S768x1024 : Shape := ⟨2, ![768, 1024]⟩
abbrev S768x2176 : Shape := ⟨2, ![768, 2176]⟩
abbrev S1024x2176 : Shape := ⟨2, ![1024, 2176]⟩

abbrev nBuf : Space → Nat
  | .hbm => 3
  | .vmem => 6
  | .smem => 0
  | _ => 0

abbrev bufTy : (tb : Table) → Fin (tcTables nBuf tb) → BufTy
  | .hbm, ⟨0, _⟩ => ⟨S8448x1024, .f32⟩
  | .hbm, ⟨1, _⟩ => ⟨S8448x4352, .bf16⟩
  | .hbm, ⟨2, _⟩ => ⟨S1024x4352, .f32⟩
  | .local _ .vmem, ⟨0, _⟩ => ⟨S768x1024, .f32⟩
  | .local _ .vmem, ⟨1, _⟩ => ⟨S768x1024, .f32⟩
  | .local _ .vmem, ⟨2, _⟩ => ⟨S768x2176, .bf16⟩
  | .local _ .vmem, ⟨3, _⟩ => ⟨S768x2176, .bf16⟩
  | .local _ .vmem, ⟨4, _⟩ => ⟨S1024x2176, .f32⟩
  | .local _ .vmem, ⟨5, _⟩ => ⟨S1024x2176, .f32⟩
  | _, _ => ⟨S8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S768x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S768x2176 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x2176 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== AReferenceIdeal.lean ====
abbrev S8448x1024 : Shape := ⟨2, ![8448, 1024]⟩
abbrev S8448x4352 : Shape := ⟨2, ![8448, 4352]⟩
abbrev S_ : Shape := ⟨0, ![]⟩
abbrev S1024x4352 : Shape := ⟨2, ![1024, 4352]⟩
abbrev S4352x1024 : Shape := ⟨2, ![4352, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8448x1024, .f32⟩
  | .hbm, ⟨1, _⟩ => ⟨S8448x4352, .bf16⟩
  | .hbm, ⟨2, _⟩ => ⟨S_, .f32⟩
  | .hbm, ⟨3, _⟩ => ⟨S1024x4352, .f32⟩
  | .hbm, ⟨4, _⟩ => ⟨S8448x4352, .f32⟩
  | .hbm, ⟨5, _⟩ => ⟨S8448x4352, .f32⟩
  | .hbm, ⟨6, _⟩ => ⟨S4352x1024, .f32⟩
  | .hbm, ⟨7, _⟩ => ⟨S1024x4352, .f32⟩
  | _, _ => ⟨S8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== OKernel.lean ====
abbrev S8448x1024 : Shape := ⟨2, ![8448, 1024]⟩
abbrev S8x128 : Shape := ⟨2, ![8, 128]⟩
abbrev S1024x1024 : Shape := ⟨2, ![1024, 1024]⟩
abbrev S768x1024 : Shape := ⟨2, ![768, 1024]⟩

abbrev nBuf : Space → Nat
  | .hbm => 4
  | .vmem => 6
  | .smem => 0
  | _ => 0

abbrev bufTy : (tb : Table) → Fin (tcTables nBuf tb) → BufTy
  | .hbm, ⟨0, _⟩ => ⟨S8448x1024, .bf16⟩
  | .hbm, ⟨1, _⟩ => ⟨S8448x1024, .f32⟩
  | .hbm, ⟨2, _⟩ => ⟨S8x128, .f32⟩
  | .hbm, ⟨3, _⟩ => ⟨S1024x1024, .f32⟩
  | .local _ .vmem, ⟨0, _⟩ => ⟨S768x1024, .bf16⟩
  | .local _ .vmem, ⟨1, _⟩ => ⟨S768x1024, .bf16⟩
  | .local _ .vmem, ⟨2, _⟩ => ⟨S768x1024, .f32⟩
  | .local _ .vmem, ⟨3, _⟩ => ⟨S768x1024, .f32⟩
  | .local _ .vmem, ⟨4, _⟩ => ⟨S8x128, .f32⟩
  | .local _ .vmem, ⟨5, _⟩ => ⟨S1024x1024, .f32⟩
  | _, _ => ⟨S8448x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5

abbrev nD : Nat := 1
abbrev τ : Topo := Topo.v7x

variable {F : FTy → Type} [FloatOps F]

abbrev grid0 : Pipeline.Grid := ⟨2, ![1, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S768x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S768x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]
-- ==== OReferenceIdeal.lean ====
abbrev S8448x1024 : Shape := ⟨2, ![8448, 1024]⟩
abbrev S8x128 : Shape := ⟨2, ![8, 128]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8448x1024, .bf16⟩
  | .hbm, ⟨1, _⟩ => ⟨S8448x1024, .f32⟩
  | .hbm, ⟨2, _⟩ => ⟨S8x128, .f32⟩
  | .hbm, ⟨3, _⟩ => ⟨S_, .f32⟩
  | .hbm, ⟨4, _⟩ => ⟨S1024x1024, .f32⟩
  | .hbm, ⟨5, _⟩ => ⟨S8448x1024, .f32⟩
  | .hbm, ⟨6, _⟩ => ⟨S8448x1024, .f32⟩
  | .hbm, ⟨7, _⟩ => ⟨S1024x1024, .f32⟩
  | .hbm, ⟨8, _⟩ => ⟨S1024x1024, .f32⟩
  | _, _ => ⟨S8448x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== Proof.ScRunIdeal.lean ====
/-
  The run of the short-convolution mixer's backward kernel, the program of the value claim: the generated module's
  text, with the two equations that say what a grid point leaves given more time.
-/
module

public import proofs.«01_k».proof.Proof.Gen.KernelIdeal.Frame.RunB
public import Idealize.ShloMosaic.Lib.Claim

@[expose] public section

set_option maxRecDepth 16384
set_option maxHeartbeats 4000000

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)
/-- What a point leaves: the outputs in window order, then the scratch. -/
abbrev Outs (F : FTy → Type) [FloatOps F] : Type := Vec F S256x3072 .bf16 × Vec F S8x1024 .f32 × Vec F S256x1024 .f32 × Vec F S8x1024 .f32 × Vec F S8x1024 .f32 × Vec F S1024x1024 .bf16 × Vec F S1024x3072 .bf16 × Vec F S8x1024 .f32

section CaseA
variable (c : Dev nD) (t : Fin cfg0.N) (hc0 : cond0_0 (grid0.coords t)) (hc1 : cond0_1 (grid0.coords t))

/-- The run of case A at point `t`. -/
abbrev runA :=
  kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) hc0 hc1 (iblk m c 0 t) (iblk m c 1 t) (iblk m c 2 t) (iblk m c 3 t) (iblk m c 4 t) (iblk m c 5 t) (iblk m c 6 t) (V m c main_arg3) (V m c main_arg4)

/-- Case A's pieces for output 7 tile its block, so they cover it. -/
theorem cover0_A_7 (y : S256x3072.Idx) :
    ∃ pc ∈ (runA m c t hc0 hc1).1, y ∈ pc.1.set :=
  View.cover_of_tiledL (runA m c t hc0 hc1).1 S256x1024.size (by sl_kernel_rfl) y

/-- What case A leaves in output 7's staging buffer: its pieces read back over junk. -/
def out0_A_7 : Vec F S256x3072 .bf16 :=
  VO0_7.read (Elt F) (VO0_7.writes (Elt F) VO0_7.junk (runA m c t hc0 hc1).1)

/-- Case A's pieces for output 8 are of SEVERAL sizes (4 stores of `S1x1024`, `S8x1024`): cut into blocks of `![1, 1024]` they tile its block, so they cover it. -/
theorem cover0_A_8 (y : S8x1024.Idx) :
    ∃ pc ∈ (runA m c t hc0 hc1).2.1, y ∈ pc.1.set :=
  View.cover_of_tiledBy (runA m c t hc0 hc1).2.1 ![1, 1024] (by sl_kernel_rfl) y

/-- What case A leaves in output 8's staging buffer: its pieces read back over junk. -/
def out0_A_8 : Vec F S8x1024 .f32 :=
  VO0_8.read (Elt F) (VO0_8.writes (Elt F) VO0_8.junk (runA m c t hc0 hc1).2.1)

/-- Case A's pieces for output 9 tile its block, so they cover it. -/
theorem cover0_A_9 (y : S256x1024.Idx) :
    ∃ pc ∈ (runA m c t hc0 hc1).2.2.1, y ∈ pc.1.set :=
  View.cover_of_tiledL (runA m c t hc0 hc1).2.2.1 S256x1024.size (by sl_kernel_rfl) y

/-- What case A leaves in output 9's staging buffer: its pieces read back over junk. -/
def out0_A_9 : Vec F S256x1024 .f32 :=
  VO0_9.read (Elt F) (VO0_9.writes (Elt F) VO0_9.junk (runA m c t hc0 hc1).2.2.1)

/-- Case A's pieces for output 10 are of SEVERAL sizes (2 stores of `S1x1024`, `S8x1024`): cut into blocks of `![1, 1024]` they tile its block, so they cover it. -/
theorem cover0_A_10 (y : S8x1024.Idx) :
    ∃ pc ∈ (runA m c t hc0 hc1).2.2.2.1, y ∈ pc.1.set :=
  View.cover_of_tiledBy (runA m c t hc0 hc1).2.2.2.1 ![1, 1024] (by sl_kernel_rfl) y

/-- What case A leaves in output 10's staging buffer: its pieces read back over junk. -/
def out0_A_10 : Vec F S8x1024 .f32 :=
  VO0_10.read (Elt F) (VO0_10.writes (Elt F) VO0_10.junk (runA m c t hc0 hc1).2.2.2.1)

/-- Case A's pieces for output 11 are of SEVERAL sizes (2 stores of `S1x1024`, `S8x1024`): cut into blocks of `![1, 1024]` they tile its block, so they cover it. -/
theorem cover0_A_11 (y : S8x1024.Idx) :
    ∃ pc ∈ (runA m c t hc0 hc1).2.2.2.2.1, y ∈ pc.1.set :=
  View.cover_of_tiledBy (runA m c t hc0 hc1).2.2.2.2.1 ![1, 1024] (by sl_kernel_rfl) y

/-- What case A leaves in output 11's staging buffer: its pieces read back over junk. -/
def out0_A_11 : Vec F S8x1024 .f32 :=
  VO0_11.read (Elt F) (VO0_11.writes (Elt F) VO0_11.junk (runA m c t hc0 hc1).2.2.2.2.1)

/-- Case A's pieces for scratch `arg15`, which the kernel carries between points, cover it: 1 piece of `S1024x1024` tiling it. -/
theorem scover0_A_0 (y : S1024x1024.Idx) :
    ∃ pc ∈ (runA m c t hc0 hc1).2.2.2.2.2.1, y ∈ pc.1.set :=
  View.cover_of_tiledL (runA m c t hc0 hc1).2.2.2.2.2.1 S1024x1024.size (by sl_kernel_rfl) y

/-- What case A leaves in scratch `arg15`: its pieces read back over junk. -/
def sout0_A_0 : Vec F S1024x1024 .bf16 :=
  VS0_0.read (Elt F) (VS0_0.writes (Elt F) VS0_0.junk (runA m c t hc0 hc1).2.2.2.2.2.1)

/-- Case A's pieces for scratch `arg16`, which the kernel carries between points, cover it: 1 piece of `S1024x3072` tiling it. -/
theorem scover0_A_1 (y : S1024x3072.Idx) :
    ∃ pc ∈ (runA m c t hc0 hc1).2.2.2.2.2.2.1, y ∈ pc.1.set :=
  View.cover_of_tiledL (runA m c t hc0 hc1).2.2.2.2.2.2.1 S1024x3072.size (by sl_kernel_rfl) y

/-- What case A leaves in scratch `arg16`: its pieces read back over junk. -/
def sout0_A_1 : Vec F S1024x3072 .bf16 :=
  VS0_1.read (Elt F) (VS0_1.writes (Elt F) VS0_1.junk (runA m c t hc0 hc1).2.2.2.2.2.2.1)

/-- Case A's pieces for scratch `arg17`, which the kernel carries between points, cover it: 2 pieces of `S8x1024` tiling it. -/
theorem scover0_A_2 (y : S8x1024.Idx) :
    ∃ pc ∈ (runA m c t hc0 hc1).2.2.2.2.2.2.2.1, y ∈ pc.1.set :=
  View.cover_of_tiledL (runA m c t hc0 hc1).2.2.2.2.2.2.2.1 S8x1024.size (by sl_kernel_rfl) y

/-- What case A leaves in scratch `arg17`: its pieces read back over junk. -/
def sout0_A_2 : Vec F S8x1024 .f32 :=
  VS0_2.read (Elt F) (VS0_2.writes (Elt F) VS0_2.junk (runA m c t hc0 hc1).2.2.2.2.2.2.2.1)

/-- What point `t` leaves in case A: the outputs in window order, then the scratch. -/
def leavesA : Outs F :=
  (out0_A_7 m c t hc0 hc1,
    out0_A_8 m c t hc0 hc1,
    out0_A_9 m c t hc0 hc1,
    out0_A_10 m c t hc0 hc1,
    out0_A_11 m c t hc0 hc1,
    sout0_A_0 m c t hc0 hc1,
    sout0_A_1 m c t hc0 hc1,
    sout0_A_2 m c t hc0 hc1)
end CaseA

section CaseB
variable (c : Dev nD) (t : Fin cfg0.N) (hc0 : ¬cond0_0 (grid0.coords t)) (hc1 : ¬cond0_1 (grid0.coords t)) (p : Outs F)

/-- The run of case B at point `t`, over what the point before left. -/
abbrev runB :=
  kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) hc0 hc1 (iblk m c 0 t) (iblk m c 1 t) (iblk m c 2 t) (iblk m c 3 t) (iblk m c 4 t) (iblk m c 5 t) (iblk m c 6 t) p.2.1 p.2.2.2.1 p.2.2.2.2.1 p.2.2.2.2.2.1 p.2.2.2.2.2.2.1 p.2.2.2.2.2.2.2 (V m c main_arg3) (V m c main_arg4)

/-- Case B's pieces for output 7 tile its block, so they cover it. -/
theorem cover0_B_7 (y : S256x3072.Idx) :
    ∃ pc ∈ (runB m c t hc0 hc1 p).1, y ∈ pc.1.set :=
  View.cover_of_tiledL (runB m c t hc0 hc1 p).1 S256x1024.size (by sl_kernel_rfl) y

/-- What case B leaves in output 7's staging buffer: its pieces read back over junk. -/
def out0_B_7 : Vec F S256x3072 .bf16 :=
  VO0_7.read (Elt F) (VO0_7.writes (Elt F) VO0_7.junk (runB m c t hc0 hc1 p).1)

/-- What case B leaves in output 8's staging buffer: its stores read back over what the point before left there (they do not cover the block). -/
def out0_B_8 : Vec F S8x1024 .f32 :=
  (ms0_8 t).view.read (Elt F) ((ms0_8 t).view.writes (Elt F) ((hs0_8 t).unread p.2.1) (runB m c t hc0 hc1 p).2.1)

/-- Case B's pieces for output 9 tile its block, so they cover it. -/
theorem cover0_B_9 (y : S256x1024.Idx) :
    ∃ pc ∈ (runB m c t hc0 hc1 p).2.2.1, y ∈ pc.1.set :=
  View.cover_of_tiledL (runB m c t hc0 hc1 p).2.2.1 S256x1024.size (by sl_kernel_rfl) y

/-- What case B leaves in output 9's staging buffer: its pieces read back over junk. -/
def out0_B_9 : Vec F S256x1024 .f32 :=
  VO0_9.read (Elt F) (VO0_9.writes (Elt F) VO0_9.junk (runB m c t hc0 hc1 p).2.2.1)

/-- What case B leaves in output 10's staging buffer: its stores read back over what the point before left there (they do not cover the block). -/
def out0_B_10 : Vec F S8x1024 .f32 :=
  (ms0_10 t).view.read (Elt F) ((ms0_10 t).view.writes (Elt F) ((hs0_10 t).unread p.2.2.2.1) (runB m c t hc0 hc1 p).2.2.2.1)

/-- What case B leaves in output 11's staging buffer: its stores read back over what the point before left there (they do not cover the block). -/
def out0_B_11 : Vec F S8x1024 .f32 :=
  (ms0_11 t).view.read (Elt F) ((ms0_11 t).view.writes (Elt F) ((hs0_11 t).unread p.2.2.2.2.1) (runB m c t hc0 hc1 p).2.2.2.2.1)

/-- Case B stores nothing into scratch `arg15`: it holds what the point before left. -/
def sout0_B_0 : Vec F S1024x1024 .bf16 := p.2.2.2.2.2.1

/-- Case B stores nothing into scratch `arg16`: it holds what the point before left. -/
def sout0_B_1 : Vec F S1024x3072 .bf16 := p.2.2.2.2.2.2.1

/-- Case B's pieces for scratch `arg17`, which the kernel carries between points, cover it: 1 piece of `S8x1024` tiling it. -/
theorem scover0_B_2 (y : S8x1024.Idx) :
    ∃ pc ∈ (runB m c t hc0 hc1 p).2.2.2.2.2.2.2.1, y ∈ pc.1.set :=
  View.cover_of_tiledL (runB m c t hc0 hc1 p).2.2.2.2.2.2.2.1 S8x1024.size (by sl_kernel_rfl) y

/-- What case B leaves in scratch `arg17`: its pieces read back over junk. -/
def sout0_B_2 : Vec F S8x1024 .f32 :=
  VS0_2.read (Elt F) (VS0_2.writes (Elt F) VS0_2.junk (runB m c t hc0 hc1 p).2.2.2.2.2.2.2.1)

/-- What point `t` leaves in case B: the outputs in window order, then the scratch. -/
def leavesB : Outs F :=
  (out0_B_7 m c t hc0 hc1 p,
    out0_B_8 m c t hc0 hc1 p,
    out0_B_9 m c t hc0 hc1 p,
    out0_B_10 m c t hc0 hc1 p,
    out0_B_11 m c t hc0 hc1 p,
    sout0_B_0 p,
    sout0_B_1 p,
    sout0_B_2 m c t hc0 hc1 p)
end CaseB

/-! ## What the outputs hold after each point -/

/-- What the points up to `n` leave: at each point the case its conditions select, over what the point before left. -/
def outsAt0 (c : Dev nD) : (n : ℕ) → n < cfg0.N → Outs F
  | 0, hn => leavesA m c ⟨0, hn⟩ ((hcond0_0 ⟨0, hn⟩).mpr (Nat.zero_mod _)) ((hcond0_1 ⟨0, hn⟩).mpr (Nat.zero_mod _))
  | n + 1, hn =>
    if h0 : (n + 1) % 33 = 0 then
      leavesA m c ⟨n + 1, hn⟩ ((hcond0_0 ⟨n + 1, hn⟩).mpr h0) ((hcond0_1 ⟨n + 1, hn⟩).mpr h0)
    else
      leavesB m c ⟨n + 1, hn⟩ (fun h => h0 ((hcond0_0 ⟨n + 1, hn⟩).mp h)) (fun h => h0 ((hcond0_1 ⟨n + 1, hn⟩).mp h))
        (outsAt0 c n (Nat.lt_of_succ_lt hn))

theorem outsAt0_A (c : Dev nD) (t : Fin cfg0.N) (h0 : t.val % 33 = 0) (h1 : t.val % 33 = 0) :
    outsAt0 m c t.val t.isLt = leavesA m c t ((hcond0_0 t).mpr h0) ((hcond0_1 t).mpr h1) := by
  obtain ⟨n, hn⟩ := t
  cases n with
  | zero => exact rfl
  | succ n => exact dif_pos h0

theorem outsAt0_B (c : Dev nD) (t : Fin cfg0.N) (h0 : ¬t.val % 33 = 0) (h1 : ¬t.val % 33 = 0) :
    outsAt0 m c t.val t.isLt = leavesB m c t (fun h => h0 ((hcond0_0 t).mp h)) (fun h => h1 ((hcond0_1 t).mp h))
      (outsAt0 m c (t.val - 1) (by omega)) := by
  obtain ⟨n, hn⟩ := t
  cases n with
  | zero => exact (by exfalso; (try dsimp only at h0); exact absurd (Nat.zero_mod _) h0)
  | succ n => exact dif_neg h0

/-- What a point that leaves `o` hands on: the carried scratch at that, the register, the cells at zero, the operands. -/
def keep (c : Dev nD) (o : Outs F) : sProp 𝕄 :=
  iprop(iprop(owns (c : Thread nD τ) scM0_0 fullShare (o.2.2.2.2.2.1) ∗ owns (c : Thread nD τ) scM0_1 fullShare (o.2.2.2.2.2.2.1) ∗ owns (c : Thread nD τ) scM0_2 fullShare (o.2.2.2.2.2.2.2)) ∗ (∃ r, prngReg c r) ∗ iprop(semVal ((c : Thread nD τ), SemLoc.dma 19) 0 ∗ semVal ((c : Thread nD τ), SemLoc.dma 20) 0) ∗ iprop(hbPt0 c hbM0_0 (V m c main_arg3) ∗ hbPt0 c hbM0_1 (V m c main_arg4)))

/-- The invariant before position `n`: before the first point the launch's, afterwards what the point before hands on. -/
def PhiS (c : Dev nD) : (n : ℕ) → n ≤ cfg0.N → sProp 𝕄
  | 0, _ => Pipeline.ΦD osem0 spec0 H0 (V m) c
  | n + 1, hn => keep m c (outsAt0 m c n hn)

theorem PhiS_zero (c : Dev nD) (n : ℕ) (h : n ≤ cfg0.N) (hz : n = 0) : PhiS m c n h = Pipeline.ΦD osem0 spec0 H0 (V m) c := by
  subst hz; rfl

/-- After point `n` (before point `n + 1`): the carried scratch at that point's contents. -/
theorem PhiS_succ (c : Dev nD) (n : ℕ) (hn : n < cfg0.N) :
    PhiS m c (n + 1) hn = keep m c (outsAt0 m c n hn) := rfl

/-- Before a point that is not the first: the carried scratch at what the point before left. -/
theorem PhiS_pos (c : Dev nD) (n : ℕ) (h : n ≤ cfg0.N) (hz : n ≠ 0) :
    PhiS m c n h = keep m c (outsAt0 m c (n - 1) (by omega)) := by
  cases n with
  | zero => exact absurd rfl hz
  | succ n => rfl

/-! ## The pipeline's proof data -/

/-- The proof data: the arrays as the region finds them; after the body each input's buffer at its block and the outputs' at `outsAt0`. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => (outsAt0 m c t.val t.isLt).1
    | ⟨8, _⟩ => (outsAt0 m c t.val t.isLt).2.1
    | ⟨9, _⟩ => (outsAt0 m c t.val t.isLt).2.2.1
    | ⟨10, _⟩ => (outsAt0 m c t.val t.isLt).2.2.2.1
    | ⟨11, _⟩ => (outsAt0 m c t.val t.isLt).2.2.2.2.1
  Φ t := PhiS m c t.val (Nat.le_of_lt_succ t.isLt)
  q w := Pipeline.shareOf spec0 w
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = (outsAt0 m c t.val t.isLt).1 := by dsimp only [dats]
theorem after0_8 (c : Dev nD) (t : Fin cfg0.N) : (dats m 0 c).after 8 t = (outsAt0 m c t.val t.isLt).2.1 := by dsimp only [dats]
theorem after0_9 (c : Dev nD) (t : Fin cfg0.N) : (dats m 0 c).after 9 t = (outsAt0 m c t.val t.isLt).2.2.1 := by dsimp only [dats]
theorem after0_10 (c : Dev nD) (t : Fin cfg0.N) : (dats m 0 c).after 10 t = (outsAt0 m c t.val t.isLt).2.2.2.1 := by dsimp only [dats]
theorem after0_11 (c : Dev nD) (t : Fin cfg0.N) : (dats m 0 c).after 11 t = (outsAt0 m c t.val t.isLt).2.2.2.2.1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
/-- At a point of case B output 8's current staging buffer holds what the body left at the point before: the point is
    not the first, the buffer was not written back between (`flush0_8`), the window is live and uncut (Lib/Pipeline/Frame.lean
    `Dat.before_out_kept`). -/
theorem before0_8_B (c : Dev nD) (t : Fin cfg0.N) (h0 : ¬t.val % 33 = 0) (h1 : ¬t.val % 33 = 0) (d) :
    (dats m 0 c).before 8 t d = (outsAt0 m c (t.val - 1) (Nat.lt_of_le_of_lt (Nat.sub_le _ _) t.isLt)).2.1 := by
  have hN : t.val < 33 := lt_of_lt_of_eq t.isLt (show cfg0.N = 33 from N_0)
  rw [Dat.before_out_kept _ 8 rfl t (by omega) (Bool.eq_false_iff.mpr fun h => by have := (flush0_8 _).mp h; dsimp only at this; omega)
    (fun _ => rfl) (fun _ _ => rfl)]
  dsimp only [dats]
/-- At a point of case B output 10's current staging buffer holds what the body left at the point before: the point is
    not the first, the buffer was not written back between (`flush0_10`), the window is live and uncut (Lib/Pipeline/Frame.lean
    `Dat.before_out_kept`). -/
theorem before0_10_B (c : Dev nD) (t : Fin cfg0.N) (h0 : ¬t.val % 33 = 0) (h1 : ¬t.val % 33 = 0) (d) :
    (dats m 0 c).before 10 t d = (outsAt0 m c (t.val - 1) (Nat.lt_of_le_of_lt (Nat.sub_le _ _) t.isLt)).2.2.2.1 := by
  have hN : t.val < 33 := lt_of_lt_of_eq t.isLt (show cfg0.N = 33 from N_0)
  rw [Dat.before_out_kept _ 10 rfl t (by omega) (Bool.eq_false_iff.mpr fun h => by have := (flush0_10 _).mp h; dsimp only at this; omega)
    (fun _ => rfl) (fun _ _ => rfl)]
  dsimp only [dats]
/-- At a point of case B output 11's current staging buffer holds what the body left at the point before: the point is
    not the first, the buffer was not written back between (`flush0_11`), the window is live and uncut (Lib/Pipeline/Frame.lean
    `Dat.before_out_kept`). -/
theorem before0_11_B (c : Dev nD) (t : Fin cfg0.N) (h0 : ¬t.val % 33 = 0) (h1 : ¬t.val % 33 = 0) (d) :
    (dats m 0 c).before 11 t d = (outsAt0 m c (t.val - 1) (Nat.lt_of_le_of_lt (Nat.sub_le _ _) t.isLt)).2.2.2.2.1 := by
  have hN : t.val < 33 := lt_of_lt_of_eq t.isLt (show cfg0.N = 33 from N_0)
  rw [Dat.before_out_kept _ 11 rfl t (by omega) (Bool.eq_false_iff.mpr fun h => by have := (flush0_11 _).mp h; dsimp only at this; omega)
    (fun _ => rfl) (fun _ _ => rfl)]
  dsimp only [dats]

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t))

set_option maxHeartbeats 9600000 in
/-- The body at any point: the run of the case the point is in, from what the point before left to what this one leaves. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).Φ t.succ = PhiS m c (t.val + 1) t.isLt from rfl, PhiS_succ, keep,
    after0_0, after0_1, after0_2, after0_3, after0_4, after0_5, after0_6, after0_7, after0_8, after0_9, after0_10, after0_11]
  unfold Dat.owesAt Pipeline.owesWithin
  rw [show (dats m 0 c).owed t.castSucc = 0 from rfl, show (dats m 0 c).owed t.succ = 0 from rfl]
  have hN : t.val < 33 := lt_of_lt_of_eq t.isLt (show cfg0.N = 33 from N_0)
  by_cases h0 : t.val % 33 = 0
  · by_cases h1 : t.val % 33 = 0
    · by_cases hz : t.val = 0
      · rw [PhiS_castSucc m c t, PhiS_zero m c _ _ hz, PhiD0_eq]
        rw [outsAt0_A m c t h0 h1]; unfold leavesA
        unfold out0_A_7 out0_A_8 out0_A_9 out0_A_10 out0_A_11 sout0_A_0 sout0_A_1 sout0_A_2; (try dsimp only)
        iintro ⟨⟨⟨HS0, HS1, HS2⟩, Hg, ⟨Hq0, Hq1⟩, ⟨Hh0, Hh1⟩⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
        iapply ((runA m c t ((hcond0_0 t).mpr h0) ((hcond0_1 t).mpr h1)).2.2.2.2.2.2.2.2 W _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexists _; iexact H7
        isplitl [H8]; · iexists _; iexact H8
        isplitl [H9]; · iexists _; iexact H9
        isplitl [H10]; · iexists _; iexact H10
        isplitl [H11]; · iexists _; iexact H11
        isplitl [HS0]; · iexact HS0
        isplitl [HS1]; · iexact HS1
        isplitl [HS2]; · iexact HS2
        isplitl [Hq0]; · iexact Hq0
        isplitl [Hq1]; · iexact Hq1
        isplitl [Hh0]; · iexact Hh0
        isplitl [Hh1]; · iexact Hh1
        isplitl [HW]; · iexact HW
        iintro ⟨H0, H1, H2, H3, H4, H5, H6, ⟨%e7, H7⟩, ⟨%e8, H8⟩, ⟨%e9, H9⟩, ⟨%e10, H10⟩, ⟨%e11, H11⟩, ⟨%es0, HS0⟩, ⟨%es1, HS1⟩, ⟨%es2, HS2⟩, Hq0, Hq1, Hh0, Hh1, ⟨%W', HW'⟩⟩
        isplitl [HS0 HS1 HS2 Hg Hq0 Hq1 Hh0 Hh1]
        · isplitl [HS0 HS1 HS2]
          · isplitl [HS0]
            · unfold owns; iexists _; isplitr
              swap; · iexact HS0
              ipureintro; exact View.read_writes_of_cover _ _ _ _ _ (scover0_A_0 m c t _ _)
            isplitl [HS1]
            · unfold owns; iexists _; isplitr
              swap; · iexact HS1
              ipureintro; exact View.read_writes_of_cover _ _ _ _ _ (scover0_A_1 m c t _ _)
            unfold owns; iexists _; isplitr
            swap; · iexact HS2
            ipureintro; exact View.read_writes_of_cover _ _ _ _ _ (scover0_A_2 m c t _ _)
          isplitl [Hg]
          · iexact Hg
          isplitl [Hq0 Hq1]
          · isplitl [Hq0]; · iexact Hq0
            iexact Hq1
          isplitl [Hh0]; · iexact Hh0
          iexact Hh1
        isplitl [HW']
        · iexists W'; isplitr; · ipureintro; exact fun _ _ => Or.inl trivial
          iexact HW'
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]
        · unfold owns; iexists _; isplitr
          swap; · iexact H7
          ipureintro; exact View.read_writes_of_cover _ _ _ _ _ (cover0_A_7 m c t _ _)
        isplitl [H8]
        · unfold owns; iexists _; isplitr
          swap; · iexact H8
          ipureintro; exact View.read_writes_of_cover _ _ _ _ _ (cover0_A_8 m c t _ _)
        isplitl [H9]
        · unfold owns; iexists _; isplitr
          swap; · iexact H9
          ipureintro; exact View.read_writes_of_cover _ _ _ _ _ (cover0_A_9 m c t _ _)
        isplitl [H10]
        · unfold owns; iexists _; isplitr
          swap; · iexact H10
          ipureintro; exact View.read_writes_of_cover _ _ _ _ _ (cover0_A_10 m c t _ _)
        unfold owns; iexists _; isplitr
        swap; · iexact H11
        ipureintro; exact View.read_writes_of_cover _ _ _ _ _ (cover0_A_11 m c t _ _)
      · exfalso; have hN : t.val < 33 := lt_of_lt_of_eq t.isLt (show cfg0.N = 33 from N_0); omega
    · exfalso; omega
  · by_cases h1 : t.val % 33 = 0
    · exfalso; omega
    · by_cases hz : t.val = 0
      · exfalso; have hN : t.val < 33 := lt_of_lt_of_eq t.isLt (show cfg0.N = 33 from N_0); omega
      · rw [PhiS_castSucc m c t, PhiS_pos m c _ _ hz, keep]
        rw [outsAt0_B m c t h0 h1]; unfold leavesB
        simp only [before0_8_B m c t h0 h1, before0_10_B m c t h0 h1, before0_11_B m c t h0 h1]
        unfold out0_B_7 out0_B_8 out0_B_9 out0_B_10 out0_B_11 sout0_B_0 sout0_B_1 sout0_B_2; (try dsimp only)
        iintro ⟨⟨⟨HS0, HS1, HS2⟩, Hg, ⟨Hq0, Hq1⟩, ⟨Hh0, Hh1⟩⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
        iapply ((runB m c t (fun h => h0 ((hcond0_0 t).mp h)) (fun h => h1 ((hcond0_1 t).mp h)) (outsAt0 m c (t.val - 1) (by omega))).2.2.2.2.2.2.2.2 W _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexists _; iexact H7
        isplitl [H8]; · iexact H8
        isplitl [H9]; · iexists _; iexact H9
        isplitl [H10]; · iexact H10
        isplitl [H11]; · iexact H11
        isplitl [HS0]; · iexact HS0
        isplitl [HS1]; · iexact HS1
        isplitl [HS2]; · iexact HS2
        isplitl [Hq0]; · iexact Hq0
        isplitl [Hq1]; · iexact Hq1
        isplitl [Hh0]; · iexact Hh0
        isplitl [Hh1]; · iexact Hh1
        isplitl [HW]; · iexact HW
        iintro ⟨H0, H1, H2, H3, H4, H5, H6, ⟨%e7, H7⟩, H8, ⟨%e9, H9⟩, H10, H11, HS0, HS1, ⟨%es2, HS2⟩, Hq0, Hq1, Hh0, Hh1, ⟨%W', HW'⟩⟩
        isplitl [HS0 HS1 HS2 Hg Hq0 Hq1 Hh0 Hh1]
        · isplitl [HS0 HS1 HS2]
          · isplitl [HS0]; · iexact HS0
            isplitl [HS1]; · iexact HS1
            unfold owns; iexists _; isplitr
            swap; · iexact HS2
            ipureintro; exact View.read_writes_of_cover _ _ _ _ _ (scover0_B_2 m c t _ _ _)
          isplitl [Hg]
          · iexact Hg
          isplitl [Hq0 Hq1]
          · isplitl [Hq0]; · iexact Hq0
            iexact Hq1
          isplitl [Hh0]; · iexact Hh0
          iexact Hh1
        isplitl [HW']
        · iexists W'; isplitr; · ipureintro; exact fun _ _ => Or.inl trivial
          iexact HW'
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]
        · unfold owns; iexists _; isplitr
          swap; · iexact H7
          ipureintro; exact View.read_writes_of_cover _ _ _ _ _ (cover0_B_7 m c t _ _ _)
        isplitl [H8]
        · unfold owns; iexists _; isplitr
          swap; · iexact H8
          ipureintro; rfl
        isplitl [H9]
        · unfold owns; iexists _; isplitr
          swap; · iexact H9
          ipureintro; exact View.read_writes_of_cover _ _ _ _ _ (cover0_B_9 m c t _ _ _)
        isplitl [H10]
        · unfold owns; iexists _; isplitr
          swap; · iexact H10
          ipureintro; rfl
        unfold owns; iexists _; isplitr
        swap; · iexact H11
        ipureintro; rfl

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦD`) is the invariant before the first point. -/
theorem hin (c : Dev nD) : Pipeline.ΦD osem0 spec0 H0 (V m) c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦD` back: the carried scratch's named contents are forgotten. -/
theorem Phi_out (c : Dev nD) (t : Fin (cfg0.N + 1)) (ht : t.val ≠ 0) : (dats m 0 c).Φ t ⊢ Pipeline.ΦD osem0 spec0 H0 (V m) c := by
  rw [show (dats m 0 c).Φ t = PhiS m c t.val (Nat.le_of_lt_succ t.isLt) from rfl, PhiS_pos m c _ _ ht, keep, PhiD0_eq]
  iintro ⟨⟨HS0, HS1, HS2⟩, Hg, ⟨Hq0, Hq1⟩, ⟨Hh0, Hh1⟩⟩
  isplitl [HS0 HS1 HS2]
  · isplitl [HS0]
    · iexists _; iexact HS0
    isplitl [HS1]
    · iexists _; iexact HS1
    iexists _; iexact HS2
  isplitl [Hg]; · iexact Hg
  isplitl [Hq0 Hq1]
  · isplitl [Hq0]; · iexact Hq0
    iexact Hq1
  isplitl [Hh0]; · iexact Hh0
  iexact Hh1

/-- The same after the last point. -/
theorem hout (c : Dev nD) : (dats m 0 c).Φ (Fin.last cfg0.N) ⊢ Pipeline.ΦD osem0 spec0 H0 (V m) c :=
  Phi_out m c _ (by rw [Fin.val_last]; have : cfg0.N = 33 := N_0; omega)

/-! ## The run and the frame -/

-- `θ_run_frame_dma_shared`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_dma_shared (Q' := _) cfgs (dats m) (0 : Fin 1) launch₀0 osem0 defs₀ Variants.none ownSemFacts0 H0 H0_sub m ρ main
    (hbody := fun c => (body_obligation m c).loose) (hq := fun _ _ _ => rfl)
    (howed := fun _ _ => rfl) (V := V m) (hmain := hmain m Variants.none) (hA := A_eq m)
    (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

/-- The frame: the arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged m ρ) ((θ_run defs _ _).mono (fun _ h => h.2) (run_main_quiescent m ρ))

end Cert.KernelIdeal.Gen

end
-- ==== Proof.Ln.lean ====
/-
  The mathematics of the normalisation's backward rule, away from any program.

  Both programs scale the rows of an array and differentiate the scaling. The kernel uses the closed form in which two
  means of the incoming gradient are taken off; the reference differentiates the mean, the variance and the reciprocal
  root one after the other. Over finite numbers the two forms agree, and this module says so for one row of 1024.
-/
module

public import Idealize.ShloMosaic.PureOps.Ideal.Laws
public import Idealize.ShloMosaic.Lib.Pointwise

@[expose] public section

noncomputable section

namespace Cert.Ln

open Idealize.ShloMosaic

/-- The row length as an extended real, as both programs write it. -/
def len : EReal := Ideal.ofBits .f32 0x44800000#32
/-- The small number that keeps the variance away from zero. -/
def eps : EReal := Ideal.ofBits .f32 0x3727C5AC#32
def mhalf : EReal := Ideal.ofBits .f32 0xBF000000#32
def two : EReal := Ideal.ofBits .f32 0x40000000#32

theorem len_eq : len = ((1024 : ℝ) : EReal) := by
  simp [len, Ideal.ofBits, Ideal.ieee, -EReal.coe_mul, -EReal.coe_neg]; norm_num
theorem mhalf_eq : mhalf = ((-(1/2) : ℝ) : EReal) := by
  simp [mhalf, Ideal.ofBits, Ideal.ieee, -EReal.coe_mul, -EReal.coe_neg]; norm_num
theorem two_eq : two = ((2 : ℝ) : EReal) := by
  simp [two, Ideal.ofBits, Ideal.ieee, -EReal.coe_mul, -EReal.coe_neg]; norm_num
theorem eps_pos : ∃ e : ℝ, 0 < e ∧ eps = ((e : ℝ) : EReal) := by
  refine ⟨(2 ^ 23 + 2606508 : ℕ) * (2 : ℝ) ^ (-40 : Int), by positivity, ?_⟩
  simp [eps, Ideal.ofBits, Ideal.ieee, -EReal.coe_mul, -EReal.coe_neg]

variable {n : ℕ}

def mean (x : Fin n → EReal) : EReal := Ideal.div (∑ k, x k) len
def cen (x : Fin n → EReal) (k : Fin n) : EReal := x k - mean x
def den (x : Fin n → EReal) : EReal := mean (fun k => cen x k * cen x k) + eps
def rstd (x : Fin n → EReal) : EReal := Ideal.rsqrt (den x)
def xhat (x : Fin n → EReal) (k : Fin n) : EReal := cen x k * rstd x

/-- The kernel's closed form, for a gradient `t` of the scaled row. -/
def bwd (x t : Fin n → EReal) (k : Fin n) : EReal :=
  rstd x * (t k - mean t - xhat x k * mean (fun k => t k * xhat x k))

/-- The gradient of the variance, as the reference carries it. -/
def dvar (x t : Fin n → EReal) : EReal :=
  Ideal.div ((∑ k, cen x k * t k) * (mhalf * Ideal.div (rstd x) (den x))) len

/-- The reference's chain of derivatives. -/
def chain (x t : Fin n → EReal) (k : Fin n) : EReal :=
  t k * rstd x + dvar x t * (two * cen x k)
    + Ideal.div ((∑ k, -(t k * rstd x)) + ∑ k, -(dvar x t * (two * cen x k))) len

/-- An extended real that is a number. -/
def Fin' (x : EReal) : Prop := ∃ r : ℝ, x = (r : EReal)

theorem coe_sum {ι : Type} (s : Finset ι) (f : ι → ℝ) : ((∑ i ∈ s, f i : ℝ) : EReal) = ∑ i ∈ s, (f i : EReal) :=
  map_sum (⟨⟨Real.toEReal, EReal.coe_zero⟩, EReal.coe_add⟩ : ℝ →+ EReal) f s

theorem Fin'.add {x y : EReal} : Fin' x → Fin' y → Fin' (x + y) :=
  fun ⟨a, ha⟩ ⟨b, hb⟩ => ⟨a + b, by rw [ha, hb, EReal.coe_add]⟩
theorem Fin'.mul {x y : EReal} : Fin' x → Fin' y → Fin' (x * y) :=
  fun ⟨a, ha⟩ ⟨b, hb⟩ => ⟨a * b, by rw [ha, hb, EReal.coe_mul]⟩
theorem Fin'.zero : Fin' 0 := ⟨0, EReal.coe_zero.symm⟩
theorem Fin'.sum {ι : Type} (s : Finset ι) (f : ι → EReal) (h : ∀ i, Fin' (f i)) : Fin' (∑ i ∈ s, f i) := by
  choose g hg using h
  exact ⟨∑ i ∈ s, g i, by rw [coe_sum]; exact Finset.sum_congr rfl fun i _ => hg i⟩
theorem Fin'.of_abs_lt {x : EReal} (h : max x (-x) < ⊤) : Fin' x := by
  induction x using EReal.rec with
  | bot => simp at h
  | top => simp at h
  | coe r => exact ⟨r, rfl⟩

/-- On a row of 1024 numbers the two forms are one. -/
theorem bwd_eq_chain (x t : Fin 1024 → EReal) (hx : ∀ k, Fin' (x k)) (ht : ∀ k, Fin' (t k)) (k : Fin 1024) :
    bwd x t k = chain x t k := by
  choose a ha using hx
  choose u hu using ht
  obtain rfl : x = fun k => (a k : EReal) := funext ha
  obtain rfl : t = fun k => (u k : EReal) := funext hu
  obtain ⟨e, he, hee⟩ := eps_pos
  have hmean : ∀ f : Fin 1024 → ℝ, mean (fun k => (f k : EReal)) = (((∑ k, f k) * (1 / 1024) : ℝ) : EReal) := fun f => by
    rw [mean, len_eq, ← coe_sum, Ideal.div_coe (by norm_num), ← EReal.coe_mul]
  set mu : ℝ := (∑ k, a k) * (1 / 1024) with hmu
  have hcen : ∀ k, cen (fun k => (a k : EReal)) k = ((a k - mu : ℝ) : EReal) := fun k => by
    rw [cen, hmean, ← EReal.coe_sub]
  set w : ℝ := (∑ k, (a k - mu) * (a k - mu)) * (1 / 1024) + e with hw
  have hwpos : 0 < w := by
    have : 0 ≤ ∑ k, (a k - mu) * (a k - mu) := Finset.sum_nonneg fun k _ => mul_self_nonneg _
    positivity
  have hden : den (fun k => (a k : EReal)) = ((w : ℝ) : EReal) := by
    rw [den, hee]
    simp only [hcen, ← EReal.coe_mul]
    rw [hmean, ← EReal.coe_add]
  set r : ℝ := (Real.sqrt w)⁻¹ with hr
  have hrstd : rstd (fun k => (a k : EReal)) = ((r : ℝ) : EReal) := by
    rw [rstd, hden, Ideal.rsqrt_coe, if_neg (not_lt.2 hwpos.le), if_neg hwpos.ne']
  have hrr : r * r = 1 / w := by
    rw [hr, ← mul_inv, Real.mul_self_sqrt hwpos.le, one_div]
  have hc0 : ∑ k, (a k - mu) = 0 := by
    rw [Finset.sum_sub_distrib, Finset.sum_const, Finset.card_univ, Fintype.card_fin, nsmul_eq_mul, hmu]
    push_cast; ring
  set S : ℝ := ∑ k, (a k - mu) * u k with hS
  set D : ℝ := S * (-(1/2) * (r * (1 / w))) * (1 / 1024) with hD
  have hdvar : dvar (fun k => (a k : EReal)) (fun k => (u k : EReal)) = ((D : ℝ) : EReal) := by
    rw [dvar, hrstd, hden, mhalf_eq, len_eq, Ideal.div_coe (by norm_num), Ideal.div_coe hwpos.ne']
    simp only [hcen, ← EReal.coe_mul]
    rw [← coe_sum, ← EReal.coe_mul, ← EReal.coe_mul]
  rw [bwd, chain, hdvar, two_eq, len_eq, Ideal.div_coe (by norm_num)]
  simp only [xhat, hcen, hrstd, ← EReal.coe_mul, ← EReal.coe_neg]
  rw [hmean, hmean, ← coe_sum, ← coe_sum]
  simp only [← EReal.coe_mul, ← EReal.coe_sub, ← EReal.coe_add]
  congr 1
  have h1 : ∑ k, u k * ((a k - mu) * r) = S * r := by
    rw [hS, Finset.sum_mul]; exact Finset.sum_congr rfl fun k _ => by ring
  have h2 : ∑ k, -(D * (2 * (a k - mu))) = 0 := by
    rw [show (∑ k, -(D * (2 * (a k - mu)))) = -(D * 2) * ∑ k, (a k - mu) from by
      rw [Finset.mul_sum]; exact Finset.sum_congr rfl fun k _ => by ring, hc0, mul_zero]
  have h3 : ∑ k, -(u k * r) = -((∑ k, u k) * r) := by
    rw [Finset.sum_neg_distrib, Finset.sum_mul]
  rw [h1, h2, h3, hD]
  have : r * ((a k - mu) * r * (S * r * (1 / 1024))) = (r * r) * ((a k - mu) * S * r * (1 / 1024)) := by ring
  rw [mul_sub, this, hrr]
  ring

end Cert.Ln

end
-- ==== Proof.ScSpec.lean ====
/-
  What the backward pass of the short-convolution mixer computes, as plain functions of row and lane.

  The arguments are read as functions: `D` the incoming gradient, `PR` the three gates side by side, `CW` the three taps,
  `WO` and `WI` the two weight matrices, `X` the rows that were normalised and `G` the scale. Rows are counted over the
  whole sequence, so nothing here knows of tiles. A row before the first or past the last counts as zero.
-/
module

public import proofs.«01_k».proof.Proof.Ln

@[expose] public section

noncomputable section

namespace Cert.Sc

open Idealize.ShloMosaic

/-- Rows of the sequence. -/
abbrev R := Fin 8448
/-- Lanes of the model. -/
abbrev W := Fin 1024
/-- Lanes of the three gates side by side. -/
abbrev Q := Fin 3072

/-- The residual scale both programs use. -/
def alpha : EReal := Ideal.ofBits .f32 0x3FB504F3#32

variable (D : R → W → EReal) (PR : R → Q → EReal) (CW : Fin 3 → W → EReal) (WO : W → W → EReal) (WI : W → Q → EReal)
  (X : R → W → EReal) (G : W → EReal)

/-- A lane of the first, second and third gate. -/
abbrev q0 (w : W) : Q := ⟨w.val, by omega⟩
abbrev q1 (w : W) : Q := ⟨1024 + w.val, by omega⟩
abbrev q2 (w : W) : Q := ⟨2048 + w.val, by omega⟩

/-- The convolution's input. -/
def pp (r : R) (w : W) : EReal := PR r (q1 w) * PR r (q2 w)
/-- The same `s` rows earlier. -/
def back (s : ℕ) (r : R) (w : W) : EReal := if s ≤ r.val then pp PR ⟨r.val - s, by omega⟩ w else 0
/-- The convolution's output. -/
def uu (r : R) (w : W) : EReal := CW 0 w * back PR 2 r w + CW 1 w * back PR 1 r w + CW 2 w * pp PR r w
/-- The gradient of the product that leaves the mixer. -/
def dd (r : R) (w : W) : EReal := ∑ k, D r k * WO w k
/-- The gradient of the convolution's output. -/
def du (r : R) (w : W) : EReal := dd D WO r w * PR r (q0 w)
/-- The same `s` rows later. -/
def ahead (s : ℕ) (r : R) (w : W) : EReal := if h : r.val + s < 8448 then du D PR WO ⟨r.val + s, h⟩ w else 0
/-- The gradient of the convolution's input. -/
def dp (r : R) (w : W) : EReal :=
  CW 0 w * ahead D PR WO 2 r w + CW 1 w * ahead D PR WO 1 r w + CW 2 w * du D PR WO r w
/-- The gradient of the three gates side by side. -/
def dproj (r : R) (q : Q) : EReal :=
  if h : q.val < 1024 then dd D WO r ⟨q.val, h⟩ * uu PR CW r ⟨q.val, h⟩
  else if h' : q.val < 2048 then dp D PR CW WO r ⟨q.val - 1024, by omega⟩ * PR r (q2 ⟨q.val - 1024, by omega⟩)
  else dp D PR CW WO r ⟨q.val - 2048, by omega⟩ * PR r (q1 ⟨q.val - 2048, by omega⟩)
/-- The gradient of the normalised rows. -/
def dh (r : R) (k : W) : EReal := alpha * D r k + ∑ q, dproj D PR CW WO r q * WI k q
/-- The same past the rows that come before the sequence. -/
def dy (r : R) (k : W) : EReal := if 240 ≤ r.val then dh D PR CW WO WI r k else 0
/-- The gradient of tap `j`. -/
def dcw (s : ℕ) (w : W) : EReal := ∑ r, ahead D PR WO s r w * pp PR r w
/-- The gradient of the scale. -/
def dg (k : W) : EReal := ∑ r, dy D PR CW WO WI r k * Ln.xhat (X r) k
/-- The gradient of the shift. -/
def db (k : W) : EReal := ∑ r, dy D PR CW WO WI r k
/-- The gradient of the rows that were normalised. -/
def dpin (r : R) (k : W) : EReal := Ln.bwd (X r) (fun k => dy D PR CW WO WI r k * G k) k

/-- Moving one factor of a sum over the rows `s` forward is moving the other `s` back. -/
theorem sum_shift (s L : ℕ) (f g : ℕ → EReal) :
    (∑ r : Fin L, f r.val * (if s ≤ r.val then g (r.val - s) else 0))
      = ∑ r : Fin L, (if r.val + s < L then f (r.val + s) else 0) * g r.val := by
  rw [Fin.sum_univ_eq_sum_range (fun r => f r * (if s ≤ r then g (r - s) else 0)) L,
    Fin.sum_univ_eq_sum_range (fun r => (if r + s < L then f (r + s) else 0) * g r) L]
  simp only [mul_ite, mul_zero, ite_mul, zero_mul]
  rw [← Finset.sum_filter, ← Finset.sum_filter]
  refine Finset.sum_nbij' (fun r => r - s) (fun r => r + s) ?_ ?_ ?_ ?_ ?_ <;>
    simp only [Finset.mem_filter, Finset.mem_range] <;> intro a ha
  · omega
  · omega
  · omega
  · omega
  · rw [show a - s + s = a by omega]

/-- The gradient of a tap, with the convolution's input moved instead of its output's gradient. -/
theorem dcw_eq (s : ℕ) (w : W) : (∑ r, du D PR WO r w * back PR s r w) = dcw D PR WO s w := by
  have := sum_shift s 8448 (fun n => if h : n < 8448 then du D PR WO ⟨n, h⟩ w else 0)
    (fun n => if h : n < 8448 then pp PR ⟨n, h⟩ w else 0)
  refine Eq.trans (Finset.sum_congr rfl fun r _ => ?_) (this.trans (Finset.sum_congr rfl fun r _ => ?_))
  · rw [back, dif_pos r.isLt]
    refine congrArg (du D PR WO r w * ·) ?_
    split_ifs <;> first | rfl | omega
  · rw [ahead, dif_pos r.isLt]
    refine congrArg (· * pp PR r w) ?_
    split_ifs <;> first | rfl | omega

section Finite
variable {D PR CW WO WI X G}
variable (hD : ∀ r k, Ln.Fin' (D r k)) (hPR : ∀ r q, Ln.Fin' (PR r q)) (hCW : ∀ j w, Ln.Fin' (CW j w))
  (hWO : ∀ a b, Ln.Fin' (WO a b)) (hWI : ∀ a b, Ln.Fin' (WI a b))
include hD hPR hCW hWO

theorem fin_dd (r : R) (w : W) : Ln.Fin' (dd D WO r w) := .sum _ _ fun k => (hD r k).mul (hWO w k)
theorem fin_du (r : R) (w : W) : Ln.Fin' (du D PR WO r w) := (fin_dd hD hPR hCW hWO r w).mul (hPR _ _)
theorem fin_pp (r : R) (w : W) : Ln.Fin' (pp PR r w) := (hPR _ _).mul (hPR _ _)
theorem fin_back (s : ℕ) (r : R) (w : W) : Ln.Fin' (back PR s r w) := by
  unfold back; split_ifs
  · exact fin_pp hD hPR hCW hWO _ _
  · exact .zero
theorem fin_ahead (s : ℕ) (r : R) (w : W) : Ln.Fin' (ahead D PR WO s r w) := by
  unfold ahead; split_ifs
  · exact fin_du hD hPR hCW hWO _ _
  · exact .zero
theorem fin_dp (r : R) (w : W) : Ln.Fin' (dp D PR CW WO r w) :=
  (((hCW _ _).mul (fin_ahead hD hPR hCW hWO _ _ _)).add ((hCW _ _).mul (fin_ahead hD hPR hCW hWO _ _ _))).add
    ((hCW _ _).mul (fin_du hD hPR hCW hWO _ _))
theorem fin_uu (r : R) (w : W) : Ln.Fin' (uu PR CW r w) :=
  (((hCW _ _).mul (fin_back hD hPR hCW hWO _ _ _)).add ((hCW _ _).mul (fin_back hD hPR hCW hWO _ _ _))).add
    ((hCW _ _).mul (fin_pp hD hPR hCW hWO _ _))
theorem fin_dproj (r : R) (q : Q) : Ln.Fin' (dproj D PR CW WO r q) := by
  unfold dproj; split_ifs
  · exact (fin_dd hD hPR hCW hWO _ _).mul (fin_uu hD hPR hCW hWO _ _)
  · exact (fin_dp hD hPR hCW hWO _ _).mul (hPR _ _)
  · exact (fin_dp hD hPR hCW hWO _ _).mul (hPR _ _)
include hWI in
theorem fin_dy (r : R) (k : W) : Ln.Fin' (dy D PR CW WO WI r k) := by
  unfold dy dh; split_ifs
  · refine .add (.mul ?_ (hD _ _)) (.sum _ _ fun q => (fin_dproj hD hPR hCW hWO _ _).mul (hWI _ _))
    exact ⟨(2 ^ 23 + 3474675 : ℕ) * (2 : ℝ) ^ (-23 : Int), by simp [alpha, Ideal.ofBits, Ideal.ieee, -EReal.coe_mul]⟩
  · exact .zero
end Finite

end Cert.Sc

end
-- ==== Proof.ScPay.lean ====
/-
  One block of the short convolution's backward pass: each value the body computes, read at a row and lane.

  The block numbered `b` holds the rows `256 b`, `256 b + 1`, … of the sequence. The statements say what the body's
  values are when the blocks it loads hold the arguments' rows, in the words of ScSpec.
-/
module

public import proofs.«01_k».proof.Proof.ScSpec
public import proofs.«01_k».proof.Proof.Gen.KernelIdeal.Skeleton
public import Idealize.ShloMosaic.Lib.Pointwise
public import Idealize.ShloMosaic.Lib.WordCmp

@[expose] public section

set_option maxRecDepth 16384

noncomputable section

namespace Cert.KernelIdeal.Val

open Cert.KernelIdeal Cert.KernelIdeal.Gen Cert.Sc
open Idealize.ShloMosaic Idealize.ShloMosaic.TcCoe Idealize.SL.Sem

/-- Row `r` of block `b`. -/
abbrev row (b : Fin 33) (r : Fin 256) : R := ⟨256 * b.val + r.val, by omega⟩

variable (D : R → W → EReal) (PR : R → Q → EReal) (CW : Fin 3 → W → EReal) (WO : W → W → EReal) (WI : W → Q → EReal)
  (X : R → W → EReal) (G : W → EReal) (b : Fin 33)

variable {v7 v8 v9 v34 v98 v33 v10 v41 v47 v63 v97 : FVec Ideal S256x1024 .f32} {v11 : FVec Ideal S3x1024 .f32}
  {v13 v14 v42 : FVec Ideal S8x1024 .f32} {v36 : FVec Ideal S1024x1024 .bf16} {v95 : FVec Ideal S1024x3072 .bf16}
  {v93 : FVec Ideal S256x3072 .bf16} {v99 v64 : FVec Ideal S1x1024 .f32} {v103 : IVec S256x1024 32}

theorem pay7 (h8 : ∀ r w, v8 (ix2 r w) = PR (row b r) (q1 w)) (h9 : ∀ r w, v9 (ix2 r w) = PR (row b r) (q2 w))
    (r : Fin 256) (w : W) : k0_pay7 (F := Ideal) v8 v9 (ix2 r w) = pp PR (row b r) w := by
  pointwise [k0_pay7]
  rw [h8, h9]; rfl

theorem pay9 (h34 : ∀ r w, v34 (ix2 r w) = D (row b r) w) (h36 : ∀ a w, v36 (ix2 a w) = WO a w)
    (r : Fin 256) (w : W) : k0_pay9 (F := Ideal) v34 v36 (ix2 r w) = dd D WO (row b r) w := by
  pointwise [k0_pay9]
  unfold dd
  exact Finset.sum_congr rfl fun k _ => by rw [h34, h36]

theorem pay11 (h7 : ∀ r w, v7 (ix2 r w) = PR (row b r) (q0 w))
    (h34 : ∀ r w, v34 (ix2 r w) = D (row b r) w) (h36 : ∀ a w, v36 (ix2 a w) = WO a w)
    (r : Fin 256) (w : W) : k0_pay11 (F := Ideal) v7 v34 v36 (ix2 r w) = du D PR WO (row b r) w := by
  pointwise [k0_pay11]
  rw [pay9 D WO b h34 h36, h7]; rfl

theorem pay10 (h34 : ∀ r w, v34 (ix2 r w) = D (row b r) w) (h36 : ∀ a w, v36 (ix2 a w) = WO a w)
    (h33 : ∀ r w, v33 (ix2 r w) = uu PR CW (row b r) w)
    (r : Fin 256) (w : W) :
    k0_pay10 (F := Ideal) v33 v34 v36 (ix2 r w) = dd D WO (row b r) w * uu PR CW (row b r) w := by
  pointwise [k0_pay10]
  rw [pay9 D WO b h34 h36, h33]

theorem sub_word : ∀ b : Fin 33, Scalar.subi 32#32 (BitVec.ofNat 32 (32 - b.val)) = BitVec.ofNat 32 b.val := by decide
theorem sgt_word : ∀ b : Fin 33, Scalar.cmpi .sgt (BitVec.ofNat 32 b.val) 0#32 = if 0 < b.val then 1#1 else 0#1 := by
  decide

/-- The condition that the block is not the first one, as a word. -/
theorem select_first (n : ℕ) (hn : n = 32 - b.val) {α : Type} (x y : α) :
    Scalar.select (Scalar.cmpi .sgt (Scalar.subi 32#32 (BitVec.ofNat 32 n)) 0#32) x y = if 0 < b.val then x else y := by
  rw [hn, sub_word, sgt_word]
  by_cases h : 0 < b.val
  · rw [if_pos h, if_pos h]; rfl
  · rw [if_neg h, if_neg h]; rfl

/-- A block's rows and the eight after them, moved up by `s`. -/
theorem ahead_of (s : ℕ) (hs : s < 8) (f : Fin 256 → W → EReal) (g : Fin 8 → W → EReal)
    (hf : ∀ r w, f r w = du D PR WO (row b r) w)
    (hg : ∀ (a : Fin 8) (w : W), g a w = if h : 256 * b.val + 256 + a.val < 8448 then
      du D PR WO ⟨256 * b.val + 256 + a.val, h⟩ w else 0)
    (r : Fin 256) (w : W) (n : ℕ) (hn : n = r.val + s) (h' : ¬ n < 256 → n - 256 < 8) :
    (if h : n < 256 then f ⟨n, h⟩ w else g ⟨n - 256, h' h⟩ w) = ahead D PR WO s (row b r) w := by
  subst hn
  by_cases h : r.val + s < 256
  · rw [dif_pos h, hf, ahead, dif_pos (by show 256 * b.val + r.val + s < 8448; omega)]
    exact congrArg (du D PR WO · w) (Fin.ext (by show 256 * b.val + (r.val + s) = 256 * b.val + r.val + s; omega))
  · rw [dif_neg h, hg, ahead]
    by_cases h2 : 256 * b.val + r.val + s < 8448
    · rw [dif_pos (by show 256 * b.val + 256 + (r.val + s - 256) < 8448; omega), dif_pos h2]
      exact congrArg (du D PR WO · w)
        (Fin.ext (by show 256 * b.val + 256 + (r.val + s - 256) = 256 * b.val + r.val + s; omega))
    · rw [dif_neg (by show ¬ 256 * b.val + 256 + (r.val + s - 256) < 8448; omega), dif_neg h2]

theorem pay13 (h7 : ∀ r w, v7 (ix2 r w) = PR (row b r) (q0 w))
    (h34 : ∀ r w, v34 (ix2 r w) = D (row b r) w) (h36 : ∀ a w, v36 (ix2 a w) = WO a w)
    (h42 : ∀ (a : Fin 8) (w : W), v42 (ix2 a w) = if h : 256 * b.val + 256 + a.val < 8448 then
      du D PR WO ⟨256 * b.val + 256 + a.val, h⟩ w else 0)
    (r : Fin 256) (w : W) : k0_pay13 (F := Ideal) v7 v34 v36 v42 (ix2 r w) = ahead D PR WO 2 (row b r) w := by
  pointwise [k0_pay13, k0_pay12]
  exact ahead_of D PR WO b 2 (by omega) (fun r w => k0_pay11 (F := Ideal) v7 v34 v36 (ix2 r w)) (fun a w => v42 (ix2 a w))
    (pay11 D PR WO b h7 h34 h36) h42 r w _ (by omega) (fun h => by omega)

theorem pay14 (h7 : ∀ r w, v7 (ix2 r w) = PR (row b r) (q0 w))
    (h34 : ∀ r w, v34 (ix2 r w) = D (row b r) w) (h36 : ∀ a w, v36 (ix2 a w) = WO a w)
    (h42 : ∀ (a : Fin 8) (w : W), v42 (ix2 a w) = if h : 256 * b.val + 256 + a.val < 8448 then
      du D PR WO ⟨256 * b.val + 256 + a.val, h⟩ w else 0)
    (r : Fin 256) (w : W) : k0_pay14 (F := Ideal) v7 v34 v36 v42 (ix2 r w) = ahead D PR WO 1 (row b r) w := by
  pointwise [k0_pay14, k0_pay12]
  exact ahead_of D PR WO b 1 (by omega) (fun r w => k0_pay11 (F := Ideal) v7 v34 v36 (ix2 r w)) (fun a w => v42 (ix2 a w))
    (pay11 D PR WO b h7 h34 h36) h42 r w _ (by omega) (fun h => by omega)

theorem pay15 (h7 : ∀ r w, v7 (ix2 r w) = PR (row b r) (q0 w))
    (h34 : ∀ r w, v34 (ix2 r w) = D (row b r) w) (h36 : ∀ a w, v36 (ix2 a w) = WO a w)
    (r : Fin 8) (w : W) :
    k0_pay15 (F := Ideal) v7 v34 v36 (ix2 r w) = du D PR WO ⟨256 * b.val + r.val, by omega⟩ w := by
  pointwise [k0_pay15]
  exact pay11 D PR WO b h7 h34 h36 ⟨r.val, by omega⟩ w

theorem pay16 (h7 : ∀ r w, v7 (ix2 r w) = PR (row b r) (q0 w))
    (h34 : ∀ r w, v34 (ix2 r w) = D (row b r) w) (h36 : ∀ a w, v36 (ix2 a w) = WO a w)
    (h42 : ∀ (a : Fin 8) (w : W), v42 (ix2 a w) = if h : 256 * b.val + 256 + a.val < 8448 then
      du D PR WO ⟨256 * b.val + 256 + a.val, h⟩ w else 0)
    (h11 : ∀ r w, v11 (ix2 r w) = CW r w)
    (r : Fin 256) (w : W) : k0_pay16 (F := Ideal) v7 v34 v36 v42 v11 (ix2 r w) = dp D PR CW WO (row b r) w := by
  pointwise [k0_pay16]
  rw [pay13 D PR WO b h7 h34 h36 h42, pay14 D PR WO b h7 h34 h36 h42, pay11 D PR WO b h7 h34 h36, h11, h11, h11]
  rfl

/-- The eight rows before a block and the block, moved down by `s`. -/
theorem back_of (s : ℕ) (hs : s < 8) (f : Fin 256 → W → EReal) (g : Fin 8 → W → EReal)
    (hf : ∀ r w, f r w = pp PR (row b r) w)
    (hg : ∀ (a : Fin 8) (w : W) (h : 0 < b.val), g a w = pp PR ⟨256 * b.val - 8 + a.val, by omega⟩ w)
    (r : Fin 256) (w : W) (n : ℕ) (hn : n = 8 + r.val - s) (h' : ¬ n < 8 → n - 8 < 256) :
    (if h : n < 8 then if 0 < b.val then g ⟨n, h⟩ w else 0 else f ⟨n - 8, h' h⟩ w) = back PR s (row b r) w := by
  subst hn
  by_cases h : 8 + r.val - s < 8
  · rw [dif_pos h, back]
    by_cases h2 : 0 < b.val
    · rw [if_pos h2, hg _ _ h2, if_pos (by show s ≤ 256 * b.val + r.val; omega)]
      exact congrArg (pp PR · w)
        (Fin.ext (by show 256 * b.val - 8 + (8 + r.val - s) = 256 * b.val + r.val - s; omega))
    · rw [if_neg h2, if_neg (by show ¬ s ≤ 256 * b.val + r.val; omega)]
  · rw [dif_neg h, back, hf, if_pos (by show s ≤ 256 * b.val + r.val; omega)]
    exact congrArg (pp PR · w)
      (Fin.ext (by show 256 * b.val + (8 + r.val - s - 8) = 256 * b.val + r.val - s; omega))

theorem pay8 (i : grid0.Coords) (hi : (i 0).val = 32 - b.val)
    (h8 : ∀ r w, v8 (ix2 r w) = PR (row b r) (q1 w)) (h9 : ∀ r w, v9 (ix2 r w) = PR (row b r) (q2 w))
    (h11 : ∀ r w, v11 (ix2 r w) = CW r w)
    (h13 : ∀ (a : Fin 8) (w : W) (h : 0 < b.val), v13 (ix2 a w) = PR ⟨256 * b.val - 8 + a.val, by omega⟩ (q1 w))
    (h14 : ∀ (a : Fin 8) (w : W) (h : 0 < b.val), v14 (ix2 a w) = PR ⟨256 * b.val - 8 + a.val, by omega⟩ (q2 w))
    (r : Fin 256) (w : W) : k0_pay8 (F := Ideal) i v8 v9 v11 v13 v14 (ix2 r w) = uu PR CW (row b r) w := by
  pointwise [k0_pay8]
  simp only [select_first b _ hi]
  rw [h11, h11, h11, pay7 PR b h8 h9]
  have hb := fun s hs n hn h' => back_of PR b s hs (fun r w => k0_pay7 (F := Ideal) v8 v9 (ix2 r w))
    (fun a w => v13 (ix2 a w) * v14 (ix2 a w)) (pay7 PR b h8 h9)
    (fun a w h => congrArg₂ (· * ·) (h13 a w h) (h14 a w h)) r w n hn h'
  exact congrArg₂ (· + ·) (congrArg₂ (· + ·)
    (congrArg (CW 0 w * ·) (hb 2 (by omega) _ (by omega) (fun h => by omega)))
    (congrArg (CW 1 w * ·) (hb 1 (by omega) _ (by omega) (fun h => by omega)))) rfl

theorem pay17 (r : Fin 1) (w : W) : k0_pay17 (F := Ideal) v7 v10 v34 v36 v42 v64 (ix2 r w)
    = v64 (ix2 r w) + ∑ j : Fin 256, k0_pay13 (F := Ideal) v7 v34 v36 v42 (ix2 j w) * v10 (ix2 j w) := by
  pointwise [k0_pay17]
theorem pay18 (r : Fin 1) (w : W) : k0_pay18 (F := Ideal) v10 v47 v64 (ix2 r w)
    = v64 (ix2 r w) + ∑ j : Fin 256, v47 (ix2 j w) * v10 (ix2 j w) := by
  pointwise [k0_pay18]
theorem pay19 (r : Fin 1) (w : W) : k0_pay19 (F := Ideal) v10 v41 v64 (ix2 r w)
    = v64 (ix2 r w) + ∑ j : Fin 256, v41 (ix2 j w) * v10 (ix2 j w) := by
  pointwise [k0_pay19]
theorem pay20 (r : Fin 256) (w : W) :
    k0_pay20 (F := Ideal) v9 v63 (ix2 r w) = v63 (ix2 r w) * v9 (ix2 r w) := by
  pointwise [k0_pay20]
theorem pay21 (r : Fin 256) (w : W) :
    k0_pay21 (F := Ideal) v8 v63 (ix2 r w) = v63 (ix2 r w) * v8 (ix2 r w) := by
  pointwise [k0_pay21]

theorem pay22 (h34 : ∀ r w, v34 (ix2 r w) = D (row b r) w)
    (h93 : ∀ r q, v93 (ix2 r q) = dproj D PR CW WO (row b r) q) (h95 : ∀ k q, v95 (ix2 k q) = WI k q)
    (r : Fin 256) (k : W) :
    k0_pay22 (F := Ideal) v34 v93 v95 (ix2 r k) = dh D PR CW WO WI (row b r) k := by
  pointwise [k0_pay22]
  rw [h34]
  exact congrArg₂ (· + ·) rfl (Finset.sum_congr rfl fun q _ => congrArg₂ (· * ·) (h93 r q) (h95 k q))

theorem pay25 (h98 : ∀ r w, v98 (ix2 r w) = X (row b r) w) (r : Fin 256) (z : Fin 1) :
    k0_pay25 (F := Ideal) v98 (ix2 r z) = Ln.rstd (X (row b r)) := by
  pointwise [k0_pay25, k0_pay24]
  simp only [h98]
  rfl
theorem pay26 (h98 : ∀ r w, v98 (ix2 r w) = X (row b r) w) (r : Fin 256) (w : W) :
    k0_pay26 (F := Ideal) v98 (ix2 r w) = Ln.xhat (X (row b r)) w := by
  pointwise [k0_pay26, k0_pay24]
  rw [pay25 X b h98]
  simp only [h98]
  rfl

theorem sge_word : ∀ b : Fin 33, ∀ n, n < 256 →
    IntOp.cmpi .sge (IntOp.addi (Scalar.muli (BitVec.ofNat 32 b.val) 256#32) (BitVec.ofNat 32 n)) 240#32
      = if 240 ≤ 256 * b.val + n then 1#1 else 0#1 := by
  intro b n hn
  rw [show IntOp.addi (Scalar.muli (BitVec.ofNat 32 b.val) 256#32) (BitVec.ofNat 32 n)
    = BitVec.ofNat 32 (256 * b.val + n) from ?_]
  · rw [show (240#32 : BitVec 32) = BitVec.ofNat 32 240 from rfl, WordCmp.cmpi_sge_ofNat (by omega) (by omega)]
    by_cases h : 240 ≤ 256 * b.val + n <;> simp [h]
  · show BitVec.ofNat 32 b.val * 256#32 + BitVec.ofNat 32 n = _
    rw [Nat.mul_comm, show (256#32 : BitVec 32) = BitVec.ofNat 32 256 from rfl, BitVec.ofNat_add, BitVec.ofNat_mul]

theorem pay27 (h97 : ∀ r w, v97 (ix2 r w) = dh D PR CW WO WI (row b r) w) (r : Fin 256) (w : W) :
    k0_pay27 (F := Ideal) v97 (k0_pay23 (BitVec.ofNat 32 b.val)) (ix2 r w) = dy D PR CW WO WI (row b r) w := by
  pointwise [k0_pay27, k0_pay23]
  rw [h97, sge_word b r.val r.isLt, dy]
  by_cases h : 240 ≤ 256 * b.val + r.val
  · rw [if_pos h]; exact (if_pos h).symm
  · rw [if_neg h]; exact (if_neg h).symm

theorem pay28 (h97 : ∀ r w, v97 (ix2 r w) = dh D PR CW WO WI (row b r) w)
    (h98 : ∀ r w, v98 (ix2 r w) = X (row b r) w) (h99 : ∀ w, v99 (ix2 (0 : Fin 1) w) = G w)
    (r : Fin 256) (w : W) :
    k0_pay28 (F := Ideal) v97 v98 v99 (k0_pay23 (BitVec.ofNat 32 b.val)) (ix2 r w)
      = dpin D PR CW WO WI X G (row b r) w := by
  pointwise [k0_pay28]
  simp only [pay25 X b h98, pay26 X b h98, pay27 D PR CW WO WI b h97, h99]
  rfl

theorem pay29 (h97 : ∀ r w, v97 (ix2 r w) = dh D PR CW WO WI (row b r) w)
    (h98 : ∀ r w, v98 (ix2 r w) = X (row b r) w) (z : Fin 1) (w : W) :
    k0_pay29 (F := Ideal) v97 v98 (k0_pay23 (BitVec.ofNat 32 b.val)) (ix2 z w)
      = ∑ r : Fin 256, dy D PR CW WO WI (row b r) w * Ln.xhat (X (row b r)) w := by
  pointwise [k0_pay29]
  simp only [pay26 X b h98, pay27 D PR CW WO WI b h97]
theorem pay30 (h97 : ∀ r w, v97 (ix2 r w) = dh D PR CW WO WI (row b r) w) (z : Fin 1) (w : W) :
    k0_pay30 (F := Ideal) v97 (k0_pay23 (BitVec.ofNat 32 b.val)) (ix2 z w)
      = ∑ r : Fin 256, dy D PR CW WO WI (row b r) w := by
  pointwise [k0_pay30]
  simp only [pay27 D PR CW WO WI b h97]
theorem pay1 (z : Fin 1) (w : W) : k0_pay1 (F := Ideal) v99 v64 (ix2 z w) = v64 (ix2 z w) + v99 (ix2 z w) := by
  pointwise [k0_pay1]
theorem pay2 (z : Fin 1) (w : W) : k0_pay2 (F := Ideal) v99 v64 (ix2 z w) = v64 (ix2 z w) + v99 (ix2 z w) := by
  pointwise [k0_pay2]

end Cert.KernelIdeal.Val

end
-- ==== Proof.ScPoint.lean ====
/-
  One block of the short convolution's backward pass, as the body leaves it: what it stores side by side for the three
  gates, read back as one block, and the three sums it adds to.
-/
module

public import proofs.«01_k».proof.Proof.ScPay
public import Idealize.ShloMosaic.Lib.Pipeline.ValueKit
public import Idealize.ShloMosaic.Lib.Pipeline.ReadBack
public import Idealize.ShloMosaic.Lib.WritesUnit

@[expose] public section

set_option maxRecDepth 16384

noncomputable section

namespace Cert.KernelIdeal.Val

open Cert.KernelIdeal Cert.KernelIdeal.Gen Cert.Sc
open Idealize.ShloMosaic Idealize.ShloMosaic.TcCoe Idealize.SL.Sem

variable (D : R → W → EReal) (PR : R → Q → EReal) (CW : Fin 3 → W → EReal) (WO : W → W → EReal) (WI : W → Q → EReal)
  (X : R → W → EReal) (G : W → EReal) (b : Fin 33)

/-- The left, middle and right third of a block of gates. -/
abbrev g0 (x1 : FVec Ideal S256x3072 .f32) : FVec Ideal S256x1024 .f32 :=
  View.ld (Val := Elt Ideal) (S := S256x3072) (e' := .f32) x1 (Rect.unit ![0, 0] ![256, 1024] inb_S256x3072_S256x1024_0_0)
abbrev g1 (x1 : FVec Ideal S256x3072 .f32) : FVec Ideal S256x1024 .f32 :=
  View.ld (Val := Elt Ideal) (S := S256x3072) (e' := .f32) x1 (Rect.unit ![0, 1024] ![256, 1024] inb_S256x3072_S256x1024_0_1024)
abbrev g2 (x1 : FVec Ideal S256x3072 .f32) : FVec Ideal S256x1024 .f32 :=
  View.ld (Val := Elt Ideal) (S := S256x3072) (e' := .f32) x1 (Rect.unit ![0, 2048] ![256, 1024] inb_S256x3072_S256x1024_0_2048)

/-- The three stores that fill the block of the gates' gradient. -/
abbrev pieces (i : grid0.Coords) (x0 : FVec Ideal S256x1024 .f32) (x1 : FVec Ideal S256x3072 .f32)
    (x2 x3 : FVec Ideal S8x1024 .f32) (x4 : FVec Ideal S3x1024 .f32) (v36 : FVec Ideal S1024x1024 .bf16)
    (v42 : FVec Ideal S8x1024 .f32) : List (View.Piece (Elt Ideal) S256x3072 .bf16) :=
  [⟨Rect.unit ![0, 2048] ![256, 1024] inb_S256x3072_S256x1024_0_2048,
      k0_pay21 (F := Ideal) (g1 x1) (k0_pay16 (F := Ideal) (g0 x1) x0 v36 v42 x4)⟩,
    ⟨Rect.unit ![0, 1024] ![256, 1024] inb_S256x3072_S256x1024_0_1024,
      k0_pay20 (F := Ideal) (g2 x1) (k0_pay16 (F := Ideal) (g0 x1) x0 v36 v42 x4)⟩,
    ⟨Rect.unit ![0, 0] ![256, 1024] inb_S256x3072_S256x1024_0_0,
      k0_pay10 (F := Ideal) (k0_pay8 (F := Ideal) i (g1 x1) (g2 x1) x4 x2 x3) x0 v36⟩]

/-- The block read back whole after the stores `L`. -/
abbrev readBack {sig : RefSig} {κ : Kind} {sp : Space} (v : View sig κ sp S256x3072 .bf16)
    (L : List (View.Piece (Elt Ideal) S256x3072 .bf16)) : FVec Ideal S256x3072 .bf16 :=
  v.readCov L (Rect.unit (s := S256x3072) ![0, 0] ![256, 3072] inb_S256x3072_S256x3072_0_0).toLoadRect

variable {i : grid0.Coords} {x0 : FVec Ideal S256x1024 .f32} {x1 : FVec Ideal S256x3072 .f32}
    {x2 x3 : FVec Ideal S8x1024 .f32} {x4 : FVec Ideal S3x1024 .f32} {x5 : FVec Ideal S256x1024 .f32}
    {x6 : FVec Ideal S1x1024 .f32} {v36 : FVec Ideal S1024x1024 .bf16} {v42 : FVec Ideal S8x1024 .f32}
    {v95 : FVec Ideal S1024x3072 .bf16}

/-- What the body finds: the arguments' rows of block `b`, the rows around it, and the weights. -/
structure At (i : grid0.Coords) (x0 : FVec Ideal S256x1024 .f32) (x1 : FVec Ideal S256x3072 .f32)
    (x2 x3 : FVec Ideal S8x1024 .f32) (x4 : FVec Ideal S3x1024 .f32) (x5 : FVec Ideal S256x1024 .f32)
    (x6 : FVec Ideal S1x1024 .f32) (v36 : FVec Ideal S1024x1024 .bf16) (v42 : FVec Ideal S8x1024 .f32)
    (v95 : FVec Ideal S1024x3072 .bf16) : Prop where
  hi : (i 0).val = 32 - b.val
  h0 : ∀ r w, x0 (ix2 r w) = D (row b r) w
  h1 : ∀ r q, x1 (ix2 r q) = PR (row b r) q
  h2 : ∀ (a : Fin 8) (w : W) (h : 0 < b.val), x2 (ix2 a w) = PR ⟨256 * b.val - 8 + a.val, by omega⟩ (q1 w)
  h3 : ∀ (a : Fin 8) (w : W) (h : 0 < b.val), x3 (ix2 a w) = PR ⟨256 * b.val - 8 + a.val, by omega⟩ (q2 w)
  h4 : ∀ r w, x4 (ix2 r w) = CW r w
  h5 : ∀ r w, x5 (ix2 r w) = X (row b r) w
  h6 : ∀ w, x6 (ix2 (0 : Fin 1) w) = G w
  h36 : ∀ a w, v36 (ix2 a w) = WO a w
  h42 : ∀ (a : Fin 8) (w : W), v42 (ix2 a w) = if h : 256 * b.val + 256 + a.val < 8448 then
      du D PR WO ⟨256 * b.val + 256 + a.val, h⟩ w else 0
  h95 : ∀ a q, v95 (ix2 a q) = WI a q

variable {D PR CW WO WI X G b}
variable (H : At D PR CW WO WI X G b i x0 x1 x2 x3 x4 x5 x6 v36 v42 v95)
include H

theorem At.g0 (r : Fin 256) (w : W) : Val.g0 x1 (ix2 r w) = PR (row b r) (q0 w) := by
  pointwise [Val.g0]
  exact H.h1 _ _
theorem At.g1 (r : Fin 256) (w : W) : Val.g1 x1 (ix2 r w) = PR (row b r) (q1 w) := by
  pointwise [Val.g1]
  exact H.h1 _ _
theorem At.g2 (r : Fin 256) (w : W) : Val.g2 x1 (ix2 r w) = PR (row b r) (q2 w) := by
  pointwise [Val.g2]
  exact H.h1 _ _

theorem At.dp (r : Fin 256) (w : W) :
    k0_pay16 (F := Ideal) (Val.g0 x1) x0 v36 v42 x4 (ix2 r w) = dp D PR CW WO (row b r) w :=
  pay16 D PR CW WO b H.g0 H.h0 H.h36 H.h42 H.h4 r w

theorem At.uu (r : Fin 256) (w : W) :
    k0_pay8 (F := Ideal) i (Val.g1 x1) (Val.g2 x1) x4 x2 x3 (ix2 r w) = uu PR CW (row b r) w :=
  pay8 PR CW b i H.hi H.g1 H.g2 H.h4 H.h2 H.h3 r w

omit H in
theorem ix2_of {a b : ℕ} (x : (⟨2, ![a, b]⟩ : Shape).Idx) : ∃ (i : Fin a) (j : Fin b), x = ix2 i j :=
  ⟨x 0, x 1, funext fun k => by fin_cases k <;> rfl⟩

/-- The block of the gates' gradient. -/
theorem At.dproj (r : Fin 256) (q : Q) :
    View.canon (pieces i x0 x1 x2 x3 x4 v36 v42) (ix2 r q) = dproj D PR CW WO (row b r) q := by
  canon_tiles x h
  · obtain ⟨a, c, rfl⟩ := ix2_of x
    obtain rfl : r = a := Fin.ext h0
    obtain rfl : q = q2 c := Fin.ext h1
    rw [pay21, H.dp, H.g1]
    have hc : 2048 + c.val < 3072 := by omega
    rw [Sc.dproj, dif_neg (by show ¬ 2048 + c.val < 1024; omega), dif_neg (by show ¬ 2048 + c.val < 2048; omega)]
    have e : (⟨2048 + c.val - 2048, by omega⟩ : W) = c := Fin.ext (by show 2048 + c.val - 2048 = c.val; omega)
    exact (congrArg (fun c => Sc.dp D PR CW WO (row b r) c * PR (row b r) (q1 c)) e).symm
  · obtain ⟨a, c, rfl⟩ := ix2_of x
    obtain rfl : r = a := Fin.ext h0
    obtain rfl : q = q1 c := Fin.ext h1
    rw [pay20, H.dp, H.g2]
    rw [Sc.dproj, dif_neg (by show ¬ 1024 + c.val < 1024; omega), dif_pos (by show 1024 + c.val < 2048; omega)]
    have e : (⟨1024 + c.val - 1024, by omega⟩ : W) = c := Fin.ext (by show 1024 + c.val - 1024 = c.val; omega)
    exact (congrArg (fun c => Sc.dp D PR CW WO (row b r) c * PR (row b r) (q2 c)) e).symm
  · obtain ⟨a, c, rfl⟩ := ix2_of x
    obtain rfl : r = a := Fin.ext h0
    obtain rfl : q = q0 c := Fin.ext h1
    rw [pay10 D PR CW WO b H.h0 H.h36 H.uu]
    rw [Sc.dproj, dif_pos (by show c.val < 1024; omega)]

/-- The same, read back whole. -/
theorem At.back {sig : RefSig} {κ : Kind} {sp : Space} (v : View sig κ sp S256x3072 .bf16) (r : Fin 256) (q : Q) :
    readBack v (pieces i x0 x1 x2 x3 x4 v36 v42) (ix2 r q)
      = Sc.dproj D PR CW WO (row b r) q := by
  unfold readBack
  rw [View.readCov_eq_canon']
  refine Eq.trans (congrArg _ ?_) (H.dproj r q)
  funext k
  fin_cases k <;> exact Fin.ext (by simp)

theorem At.dh {sig : RefSig} {κ : Kind} {sp : Space} (v : View sig κ sp S256x3072 .bf16) (r : Fin 256) (k : W) :
    k0_pay22 (F := Ideal) x0 (readBack v (pieces i x0 x1 x2 x3 x4 v36 v42)) v95 (ix2 r k)
      = dh D PR CW WO WI (row b r) k :=
  pay22 D PR CW WO WI b H.h0 (H.back v) H.h95 r k

theorem At.word : Scalar.subi 32#32 (BitVec.ofNat 32 (i 0).val) = BitVec.ofNat 32 b.val := by
  rw [H.hi]; exact sub_word b

/-- The block of the gradient of the rows that were normalised. -/
theorem At.dpin {sig : RefSig} {κ : Kind} {sp : Space} (v : View sig κ sp S256x3072 .bf16) (r : Fin 256) (k : W) :
    k0_pay28 (F := Ideal) (k0_pay22 (F := Ideal) x0 (readBack v (pieces i x0 x1 x2 x3 x4 v36 v42)) v95) x5 x6
      (k0_pay23 (Scalar.subi 32#32 (BitVec.ofNat 32 (i 0).val))) (ix2 r k)
      = dpin D PR CW WO WI X G (row b r) k := by
  rw [H.word]
  exact pay28 D PR CW WO WI X G b (H.dh v) H.h5 H.h6 r k

/-- What the block adds to the gradient of the scale, and to that of the shift. -/
theorem At.dg {sig : RefSig} {κ : Kind} {sp : Space} (v : View sig κ sp S256x3072 .bf16)
    (y : FVec Ideal S1x1024 .f32) (z : Fin 1) (k : W) :
    k0_pay1 (F := Ideal) (k0_pay29 (F := Ideal) (k0_pay22 (F := Ideal) x0 (readBack v (pieces i x0 x1 x2 x3 x4 v36 v42)) v95) x5
      (k0_pay23 (Scalar.subi 32#32 (BitVec.ofNat 32 (i 0).val)))) y (ix2 z k)
      = y (ix2 z k) + ∑ r : Fin 256, dy D PR CW WO WI (row b r) k * Ln.xhat (X (row b r)) k := by
  rw [H.word, pay1, pay29 D PR CW WO WI X b (H.dh v) H.h5]
theorem At.db {sig : RefSig} {κ : Kind} {sp : Space} (v : View sig κ sp S256x3072 .bf16)
    (y : FVec Ideal S1x1024 .f32) (z : Fin 1) (k : W) :
    k0_pay2 (F := Ideal) (k0_pay30 (F := Ideal) (k0_pay22 (F := Ideal) x0 (readBack v (pieces i x0 x1 x2 x3 x4 v36 v42)) v95)
      (k0_pay23 (Scalar.subi 32#32 (BitVec.ofNat 32 (i 0).val)))) y (ix2 z k)
      = y (ix2 z k) + ∑ r : Fin 256, dy D PR CW WO WI (row b r) k := by
  rw [H.word, pay2, pay30 D PR CW WO WI b (H.dh v)]

/-- What the block adds to the gradient of each tap. -/
theorem At.tap0 (y : FVec Ideal S1x1024 .f32) (z : Fin 1) (w : W) :
    k0_pay17 (F := Ideal) (Val.g0 x1) (k0_pay7 (F := Ideal) (Val.g1 x1) (Val.g2 x1)) x0 v36 v42 y (ix2 z w)
      = y (ix2 z w) + ∑ r : Fin 256, ahead D PR WO 2 (row b r) w * pp PR (row b r) w := by
  rw [pay17]
  simp only [pay13 D PR WO b H.g0 H.h0 H.h36 H.h42, pay7 PR b H.g1 H.g2]
theorem At.tap1 (y : FVec Ideal S1x1024 .f32) (z : Fin 1) (w : W) :
    k0_pay18 (F := Ideal) (k0_pay7 (F := Ideal) (Val.g1 x1) (Val.g2 x1)) (k0_pay14 (F := Ideal) (Val.g0 x1) x0 v36 v42)
      y (ix2 z w)
      = y (ix2 z w) + ∑ r : Fin 256, ahead D PR WO 1 (row b r) w * pp PR (row b r) w := by
  rw [pay18]
  simp only [pay14 D PR WO b H.g0 H.h0 H.h36 H.h42, pay7 PR b H.g1 H.g2]
theorem At.tap2 (y : FVec Ideal S1x1024 .f32) (z : Fin 1) (w : W) :
    k0_pay19 (F := Ideal) (k0_pay7 (F := Ideal) (Val.g1 x1) (Val.g2 x1)) (k0_pay11 (F := Ideal) (Val.g0 x1) x0 v36)
      y (ix2 z w)
      = y (ix2 z w) + ∑ r : Fin 256, ahead D PR WO 0 (row b r) w * pp PR (row b r) w := by
  rw [pay19]
  simp only [pay11 D PR WO b H.g0 H.h0 H.h36, pay7 PR b H.g1 H.g2]
  refine congrArg (y (ix2 z w) + ·) (Finset.sum_congr rfl fun r _ => congrArg (· * pp PR (row b r) w) ?_)
  rw [ahead, dif_pos (by show 256 * b.val + r.val + 0 < 8448; omega)]
  rfl

theorem At.carry (a : Fin 8) (w : W) :
    k0_pay15 (F := Ideal) (Val.g0 x1) x0 v36 (ix2 a w) = du D PR WO ⟨256 * b.val + a.val, by omega⟩ w :=
  pay15 D PR WO b H.g0 H.h0 H.h36 a w

end Cert.KernelIdeal.Val

end
-- ==== Proof.ScAt.lean ====
/-
  The short convolution's backward pass, block after block from the last one to the first: what each grid point finds,
  and what it leaves behind.
-/
module

public import proofs.«01_k».proof.Proof.ScPoint
public import proofs.«01_k».proof.Proof.ScRunIdeal

@[expose] public section

set_option maxRecDepth 16384

noncomputable section

namespace Cert.KernelIdeal.Val

open Cert.KernelIdeal Cert.KernelIdeal.Gen Cert.Sc
open Idealize.ShloMosaic Idealize.ShloMosaic.TcCoe Idealize.SL.Sem

variable (m : (ℓ : Loc nD τ sig) → Buf (Elt Ideal) ℓ) (c : Dev nD)

/-- The arguments as functions of row and lane. -/
abbrev kD : R → W → EReal := fun r k => (m ((c : Thread nD τ).loc main_arg0) : FVec Ideal S8448x1024 .f32) (ix2 r k)
abbrev kPR : R → Q → EReal := fun r k => (m ((c : Thread nD τ).loc main_arg1) : FVec Ideal S8448x3072 .f32) (ix2 r k)
abbrev kCW : Fin 3 → W → EReal := fun r k => (m ((c : Thread nD τ).loc main_arg2) : FVec Ideal S3x1024 .f32) (ix2 r k)
abbrev kWO : W → W → EReal := fun r k => (m ((c : Thread nD τ).loc main_arg3) : FVec Ideal S1024x1024 .bf16) (ix2 r k)
abbrev kWI : W → Q → EReal := fun r k => (m ((c : Thread nD τ).loc main_arg4) : FVec Ideal S1024x3072 .bf16) (ix2 r k)
abbrev kX : R → W → EReal := fun r k => (m ((c : Thread nD τ).loc main_arg5) : FVec Ideal S8448x1024 .f32) (ix2 r k)
abbrev kG : W → EReal := fun k => (m ((c : Thread nD τ).loc main_arg6) : FVec Ideal S1x1024 .f32) (ix2 (0 : Fin 1) k)

theorem idx : ∀ t : Fin cfg0.N, win0_0.index t = ![32 - t.val, 0] ∧ win0_1.index t = ![32 - t.val, 0]
    ∧ win0_2.index t = ![32 * (32 - t.val) - 1, 1] ∧ win0_3.index t = ![32 * (32 - t.val) - 1, 2]
    ∧ win0_4.index t = ![0, 0] ∧ win0_5.index t = ![32 - t.val, 0] ∧ win0_6.index t = ![0, 0]
    ∧ win0_7.index t = ![32 - t.val, 0] ∧ win0_8.index t = ![0, 0] ∧ win0_9.index t = ![32 - t.val, 0]
    ∧ win0_10.index t = ![0, 0] ∧ win0_11.index t = ![0, 0] :=
  (by decide +kernel : ∀ t : Fin grid0.N, _)

theorem coord : ∀ t : Fin cfg0.N, (grid0.coords t 0).val = t.val := (by decide +kernel : ∀ t : Fin grid0.N, _)

/-- The block a grid point works on. -/
def bk (t : Fin cfg0.N) : Fin 33 := ⟨32 - t.val, by omega⟩

theorem lt33 (t : Fin cfg0.N) : t.val < 33 := lt_of_lt_of_eq t.isLt N_0

theorem in0 (t : Fin cfg0.N) (r : Fin 256) (w : W) :
    (iblk m c 0 t : FVec Ideal S256x1024 .f32) (ix2 r w) = kD m c (row (bk t) r) w := by
  blk_ext [iblk, V, idx t, bk]
theorem in1 (t : Fin cfg0.N) (r : Fin 256) (w : Q) :
    (iblk m c 1 t : FVec Ideal S256x3072 .f32) (ix2 r w) = kPR m c (row (bk t) r) w := by
  blk_ext [iblk, V, idx t, bk]
theorem in2 (t : Fin cfg0.N) (a : Fin 8) (w : W) (h : 0 < (bk t).val) :
    (iblk m c 2 t : FVec Ideal S8x1024 .f32) (ix2 a w) = kPR m c ⟨256 * (bk t).val - 8 + a.val, by omega⟩ (q1 w) := by
  blk_ext [iblk, V, idx t, bk]
theorem in3 (t : Fin cfg0.N) (a : Fin 8) (w : W) (h : 0 < (bk t).val) :
    (iblk m c 3 t : FVec Ideal S8x1024 .f32) (ix2 a w) = kPR m c ⟨256 * (bk t).val - 8 + a.val, by omega⟩ (q2 w) := by
  blk_ext [iblk, V, idx t, bk]
theorem in4 (t : Fin cfg0.N) (r : Fin 3) (w : W) :
    (iblk m c 4 t : FVec Ideal S3x1024 .f32) (ix2 r w) = kCW m c r w := by
  blk_ext [iblk, V, idx t, bk]
theorem in5 (t : Fin cfg0.N) (r : Fin 256) (w : W) :
    (iblk m c 5 t : FVec Ideal S256x1024 .f32) (ix2 r w) = kX m c (row (bk t) r) w := by
  blk_ext [iblk, V, idx t, bk]
theorem in6 (t : Fin cfg0.N) (w : W) :
    (iblk m c 6 t : FVec Ideal S1x1024 .f32) (ix2 (0 : Fin 1) w) = kG m c w := by
  blk_ext [iblk, V, idx t, bk]

/-- What point `t` finds, given the weights and the rows the point before it left. -/
theorem at_of (t : Fin cfg0.N) (v36 : FVec Ideal S1024x1024 .bf16) (v42 : FVec Ideal S8x1024 .f32)
    (v95 : FVec Ideal S1024x3072 .bf16) (h36 : ∀ a w, v36 (ix2 a w) = kWO m c a w)
    (h42 : ∀ (a : Fin 8) (w : W), v42 (ix2 a w) = if h : 256 * (bk t).val + 256 + a.val < 8448 then
      du (kD m c) (kPR m c) (kWO m c) ⟨256 * (bk t).val + 256 + a.val, h⟩ w else 0)
    (h95 : ∀ a q, v95 (ix2 a q) = kWI m c a q) :
    At (kD m c) (kPR m c) (kCW m c) (kWO m c) (kWI m c) (kX m c) (kG m c) (bk t) (grid0.coords t)
      (iblk m c 0 t) (iblk m c 1 t) (iblk m c 2 t) (iblk m c 3 t) (iblk m c 4 t) (iblk m c 5 t) (iblk m c 6 t)
      v36 v42 v95 where
  hi := by rw [coord]; have := lt33 t; show t.val = 32 - (32 - t.val); omega
  h0 := in0 m c t
  h1 := in1 m c t
  h2 := in2 m c t
  h3 := in3 m c t
  h4 := in4 m c t
  h5 := in5 m c t
  h6 := in6 m c t
  h36 := h36
  h42 := h42
  h95 := h95

end Cert.KernelIdeal.Val

end
-- ==== Proof.ScLeft.lean ====
/-
  The short convolution's backward pass: what is left after each grid point. The weights stay where the first point put
  them, eight rows are handed to the block before, and the gradients of the taps, the scale and the shift grow by one
  block's sum at every point.
-/
module
public import proofs.«01_k».proof.Proof.ScAt
public import Idealize.ShloMosaic.Lib.Pipeline.ValueKit
public import Idealize.ShloMosaic.Lib.Pipeline.ReadBack
@[expose] public section
set_option maxRecDepth 16384
noncomputable section
namespace Cert.KernelIdeal.Val
open Cert.KernelIdeal Cert.KernelIdeal.Gen Cert.Sc
open Idealize.ShloMosaic Idealize.ShloMosaic.TcCoe Idealize.SL.Sem
section Stores
variable {sig' : RefSig} {κ : Kind} {sp : Space} (v : View sig' κ sp S8x1024 .f32) (f)

/-- Rows 0, 1, 2 stored one after another over what `L` left. -/
theorem rows3 (p2 p1 p0 : FVec Ideal S1x1024 .f32) (L : List (View.Piece (Elt Ideal) S8x1024 .f32))
    (Y : FVec Ideal S8x1024 .f32) (hY : v.read (Elt Ideal) (v.writes (Elt Ideal) f L) = Y) (T : ℕ → W → EReal)
    (h0 : ∀ w, p0 (ix2 (0 : Fin 1) w) = Y (ix2 (0 : Fin 8) w) + T 2 w)
    (h1 : ∀ w, p1 (ix2 (0 : Fin 1) w) = Y (ix2 (1 : Fin 8) w) + T 1 w)
    (h2 : ∀ w, p2 (ix2 (0 : Fin 1) w) = Y (ix2 (2 : Fin 8) w) + T 0 w) (a : Fin 8) (w : W) :
    v.read (Elt Ideal) (v.writes (Elt Ideal) f
      ((⟨Rect.unit (s := S8x1024) ![2, 0] ![1, 1024] inb_S8x1024_S1x1024_2_0, p2⟩ : View.Piece (Elt Ideal) S8x1024 .f32)
        :: (⟨Rect.unit (s := S8x1024) ![1, 0] ![1, 1024] inb_S8x1024_S1x1024_1_0, p1⟩ : View.Piece (Elt Ideal) S8x1024 .f32)
        :: (⟨Rect.unit (s := S8x1024) ![0, 0] ![1, 1024] inb_S8x1024_S1x1024_0_0, p0⟩ : View.Piece (Elt Ideal) S8x1024 .f32)
        :: L)) (ix2 a w)
      = Y (ix2 a w) + if a.val < 3 then T (2 - a.val) w else 0 := by
  by_cases a2 : a = 2
  · subst a2
    exact (View.read_writes_cons_rows_of_mem v f _ _ _ (ix2 (2 : Fin 8) w) (ix2 (0 : Fin 1) w) rfl rfl rfl).trans (h2 w)
  refine (View.read_writes_cons_rows_of_not_mem v f _ _ _ (ix2 a w) rfl rfl ?_).trans ?_
  · show a.val < 2 ∨ 2 + 1 ≤ a.val
    have : a.val ≠ 2 := fun h => a2 (Fin.ext h)
    omega
  by_cases a1 : a = 1
  · subst a1
    exact (View.read_writes_cons_rows_of_mem v f _ _ _ (ix2 (1 : Fin 8) w) (ix2 (0 : Fin 1) w) rfl rfl rfl).trans (h1 w)
  refine (View.read_writes_cons_rows_of_not_mem v f _ _ _ (ix2 a w) rfl rfl ?_).trans ?_
  · show a.val < 1 ∨ 1 + 1 ≤ a.val
    have : a.val ≠ 1 := fun h => a1 (Fin.ext h)
    omega
  by_cases a0 : a = 0
  · subst a0
    exact (View.read_writes_cons_rows_of_mem v f _ _ _ (ix2 (0 : Fin 8) w) (ix2 (0 : Fin 1) w) rfl rfl rfl).trans (h0 w)
  refine (View.read_writes_cons_rows_of_not_mem v f _ _ _ (ix2 a w) rfl rfl ?_).trans ?_
  · show a.val < 0 ∨ 0 + 1 ≤ a.val
    have : a.val ≠ 0 := fun h => a0 (Fin.ext h)
    omega
  have h2 : a.val ≠ 2 := fun h => a2 (Fin.ext h)
  have h1 : a.val ≠ 1 := fun h => a1 (Fin.ext h)
  have h0 : a.val ≠ 0 := fun h => a0 (Fin.ext h)
  rw [if_neg (by omega), hY, add_zero]

/-- Row 0 stored over what `L` left. -/
theorem rows1 (p0 : FVec Ideal S1x1024 .f32) (L : List (View.Piece (Elt Ideal) S8x1024 .f32))
    (Y : FVec Ideal S8x1024 .f32) (hY : v.read (Elt Ideal) (v.writes (Elt Ideal) f L) = Y) (T : W → EReal)
    (h0 : ∀ w, p0 (ix2 (0 : Fin 1) w) = Y (ix2 (0 : Fin 8) w) + T w) (a : Fin 8) (w : W) :
    v.read (Elt Ideal) (v.writes (Elt Ideal) f
      ((⟨Rect.unit (s := S8x1024) ![0, 0] ![1, 1024] inb_S8x1024_S1x1024_0_0, p0⟩ : View.Piece (Elt Ideal) S8x1024 .f32)
        :: L)) (ix2 a w)
      = Y (ix2 a w) + if a.val < 1 then T w else 0 := by
  by_cases a0 : a = 0
  · subst a0
    exact (View.read_writes_cons_rows_of_mem v f _ _ _ (ix2 (0 : Fin 8) w) (ix2 (0 : Fin 1) w) rfl rfl rfl).trans (h0 w)
  refine (View.read_writes_cons_rows_of_not_mem v f _ _ _ (ix2 a w) rfl rfl ?_).trans ?_
  · show a.val < 0 ∨ 0 + 1 ≤ a.val
    have : a.val ≠ 0 := fun h => a0 (Fin.ext h)
    omega
  have h0 : a.val ≠ 0 := fun h => a0 (Fin.ext h)
  rw [if_neg (by omega), hY, add_zero]

/-- A row of a block. -/
theorem ld_row0 (x : FVec Ideal S8x1024 .f32) (z : Fin 1) (w : W) :
    View.ld (Val := Elt Ideal) (S := S8x1024) (e' := .f32) x (Rect.unit ![0, 0] ![1, 1024] inb_S8x1024_S1x1024_0_0) (ix2 z w)
      = x (ix2 (0 : Fin 8) w) := by
  obtain rfl : z = 0 := Subsingleton.elim _ _
  pointwise
theorem ld_row1 (x : FVec Ideal S8x1024 .f32) (z : Fin 1) (w : W) :
    View.ld (Val := Elt Ideal) (S := S8x1024) (e' := .f32) x (Rect.unit ![1, 0] ![1, 1024] inb_S8x1024_S1x1024_1_0) (ix2 z w)
      = x (ix2 (1 : Fin 8) w) := by
  obtain rfl : z = 0 := Subsingleton.elim _ _
  pointwise
theorem ld_row2 (x : FVec Ideal S8x1024 .f32) (z : Fin 1) (w : W) :
    View.ld (Val := Elt Ideal) (S := S8x1024) (e' := .f32) x (Rect.unit ![2, 0] ![1, 1024] inb_S8x1024_S1x1024_2_0) (ix2 z w)
      = x (ix2 (2 : Fin 8) w) := by
  obtain rfl : z = 0 := Subsingleton.elim _ _
  pointwise
end Stores

variable (m : (ℓ : Loc nD τ sig) → Buf (Elt Ideal) ℓ) (c : Dev nD)

/-- Block `32 - k`, the one taken at step `k`. -/
abbrev nth (k : ℕ) : Fin 33 := Fin.ofNat 33 (32 - k)
theorem bk_eq (t : Fin cfg0.N) : bk t = nth t.val :=
  Fin.ext (by show 32 - t.val = (32 - t.val) % 33; omega)

abbrev tapSum (s : ℕ) (b : Fin 33) (w : W) : EReal :=
  ∑ r : Fin 256, ahead (kD m c) (kPR m c) (kWO m c) s (row b r) w * pp (kPR m c) (row b r) w
abbrev gSum (b : Fin 33) (k : W) : EReal :=
  ∑ r : Fin 256, dy (kD m c) (kPR m c) (kCW m c) (kWO m c) (kWI m c) (row b r) k * Ln.xhat (kX m c (row b r)) k
abbrev bSum (b : Fin 33) (k : W) : EReal :=
  ∑ r : Fin 256, dy (kD m c) (kPR m c) (kCW m c) (kWO m c) (kWI m c) (row b r) k

/-- What the points up to `n` leave behind. -/
structure Left (n : ℕ) (hn : n < cfg0.N) : Prop where
  s0 : ∀ a w, ((outsAt0 m c n hn).2.2.2.2.2.1 : FVec Ideal S1024x1024 .bf16) (ix2 a w) = kWO m c a w
  s1 : ∀ a w, ((outsAt0 m c n hn).2.2.2.2.2.2.1 : FVec Ideal S1024x3072 .bf16) (ix2 a w) = kWI m c a w
  s2 : ∀ (a : Fin 8) (w : W), ((outsAt0 m c n hn).2.2.2.2.2.2.2 : FVec Ideal S8x1024 .f32) (ix2 a w)
    = du (kD m c) (kPR m c) (kWO m c) ⟨256 * (nth n).val + a.val, by omega⟩ w
  tap : ∀ (a : Fin 8) (w : W), ((outsAt0 m c n hn).2.1 : FVec Ideal S8x1024 .f32) (ix2 a w)
    = if a.val < 3 then ∑ k ∈ Finset.range (n + 1), tapSum m c (2 - a.val) (nth k) w else 0
  sg : ∀ (a : Fin 8) (w : W), ((outsAt0 m c n hn).2.2.2.1 : FVec Ideal S8x1024 .f32) (ix2 a w)
    = if a.val < 1 then ∑ k ∈ Finset.range (n + 1), gSum m c (nth k) w else 0
  sb : ∀ (a : Fin 8) (w : W), ((outsAt0 m c n hn).2.2.2.2.1 : FVec Ideal S8x1024 .f32) (ix2 a w)
    = if a.val < 1 then ∑ k ∈ Finset.range (n + 1), bSum m c (nth k) w else 0

/-- The gradients of a point's rows. -/
structure Rows (t : Fin cfg0.N) : Prop where
  proj : ∀ r q, ((outsAt0 m c t.val t.isLt).1 : FVec Ideal S256x3072 .bf16) (ix2 r q)
    = dproj (kD m c) (kPR m c) (kCW m c) (kWO m c) (row (bk t) r) q
  pin : ∀ r q, ((outsAt0 m c t.val t.isLt).2.2.1 : FVec Ideal S256x1024 .f32) (ix2 r q)
    = dpin (kD m c) (kPR m c) (kCW m c) (kWO m c) (kWI m c) (kX m c) (kG m c) (row (bk t) r) q

variable (t : Fin cfg0.N)

theorem rest_lt (h : ¬ t.val % 33 = 0) : t.val - 1 < cfg0.N := by omega

theorem atB (h : ¬ t.val % 33 = 0) (L : Left m c (t.val - 1) (rest_lt t h)) :
    At (kD m c) (kPR m c) (kCW m c) (kWO m c) (kWI m c) (kX m c) (kG m c) (bk t) (grid0.coords t)
      (iblk m c 0 t) (iblk m c 1 t) (iblk m c 2 t) (iblk m c 3 t) (iblk m c 4 t) (iblk m c 5 t) (iblk m c 6 t)
      (outsAt0 m c (t.val - 1) (rest_lt t h)).2.2.2.2.2.1 (outsAt0 m c (t.val - 1) (rest_lt t h)).2.2.2.2.2.2.2
      (outsAt0 m c (t.val - 1) (rest_lt t h)).2.2.2.2.2.2.1 := by
  refine at_of m c t _ _ _ L.s0 (fun a w => ?_) L.s1
  have h1 := lt33 t
  have e : (nth (t.val - 1)).val = (bk t).val + 1 := by
    show (32 - (t.val - 1)) % 33 = 32 - t.val + 1; omega
  rw [L.s2, dif_pos (by rw [show (bk t).val = 32 - t.val from rfl]; omega)]
  refine congrArg (fun r => du _ _ _ r w) (Fin.ext ?_)
  show 256 * (nth (t.val - 1)).val + a.val = _
  rw [e]; ring

theorem rowsB (h : ¬ t.val % 33 = 0) (L : Left m c (t.val - 1) (rest_lt t h)) : Rows m c t := by
  constructor
  · intro r q
    rw [outsAt0_B m c t h h]; unfold leavesB
    frame_open; delta runB; frame_out
    try simp only [read_unread_whole]
    exact (atB m c t h L).dproj r q
  · intro r q
    rw [outsAt0_B m c t h h]; unfold leavesB
    frame_open; delta runB; frame_out
    try simp only [read_unread_whole]
    exact (atB m c t h L).dpin _ r q

theorem s0B (h : ¬ t.val % 33 = 0) (L : Left m c (t.val - 1) (rest_lt t h)) (a : W) (w : W) :
    ((outsAt0 m c t.val t.isLt).2.2.2.2.2.1 : FVec Ideal S1024x1024 .bf16) (ix2 a w) = kWO m c a w := by
  rw [outsAt0_B m c t h h]; unfold leavesB
  exact L.s0 a w
theorem s1B (h : ¬ t.val % 33 = 0) (L : Left m c (t.val - 1) (rest_lt t h)) (a : W) (w : Q) :
    ((outsAt0 m c t.val t.isLt).2.2.2.2.2.2.1 : FVec Ideal S1024x3072 .bf16) (ix2 a w) = kWI m c a w := by
  rw [outsAt0_B m c t h h]; unfold leavesB
  exact L.s1 a w
theorem s2B (h : ¬ t.val % 33 = 0) (L : Left m c (t.val - 1) (rest_lt t h)) (a : Fin 8) (w : W) :
    ((outsAt0 m c t.val t.isLt).2.2.2.2.2.2.2 : FVec Ideal S8x1024 .f32) (ix2 a w)
    = du (kD m c) (kPR m c) (kWO m c) ⟨256 * (bk t).val + a.val, by omega⟩ w := by
  rw [outsAt0_B m c t h h]; unfold leavesB
  frame_open; delta runB; frame_out
  try simp only [read_unread_whole]
  exact (atB m c t h L).carry a w

theorem tapB (h : ¬ t.val % 33 = 0) (L : Left m c (t.val - 1) (rest_lt t h)) (a : Fin 8) (w : W) :
    ((outsAt0 m c t.val t.isLt).2.1 : FVec Ideal S8x1024 .f32) (ix2 a w)
    = ((outsAt0 m c (t.val - 1) (rest_lt t h)).2.1 : FVec Ideal S8x1024 .f32) (ix2 a w)
      + if a.val < 3 then tapSum m c (2 - a.val) (bk t) w else 0 := by
  rw [outsAt0_B m c t h h]; unfold leavesB
  frame_open; delta runB; frame_out
  try simp only [read_unread_whole]
  have H := atB m c t h L
  refine rows3 _ _ _ _ _ [] _ ((hs0_8 t).read_unread _) (fun s w => tapSum m c s (bk t) w) ?_ ?_ ?_ a w
  · exact fun w => (H.tap0 _ _ _).trans (congrArg (· + _) (ld_row0 _ _ _))
  · exact fun w => (H.tap1 _ _ _).trans (congrArg (· + _) (ld_row1 _ _ _))
  · exact fun w => (H.tap2 _ _ _).trans (congrArg (· + _) (ld_row2 _ _ _))
theorem sgB (h : ¬ t.val % 33 = 0) (L : Left m c (t.val - 1) (rest_lt t h)) (a : Fin 8) (w : W) :
    ((outsAt0 m c t.val t.isLt).2.2.2.1 : FVec Ideal S8x1024 .f32) (ix2 a w)
    = ((outsAt0 m c (t.val - 1) (rest_lt t h)).2.2.2.1 : FVec Ideal S8x1024 .f32) (ix2 a w)
      + if a.val < 1 then gSum m c (bk t) w else 0 := by
  rw [outsAt0_B m c t h h]; unfold leavesB
  frame_open; delta runB; frame_out
  try simp only [read_unread_whole]
  have H := atB m c t h L
  refine rows1 _ _ _ [] _ ((hs0_10 t).read_unread _) (gSum m c (bk t)) ?_ a w
  exact fun w => (H.dg _ _ _ _).trans (congrArg (· + _) (ld_row0 _ _ _))
theorem sbB (h : ¬ t.val % 33 = 0) (L : Left m c (t.val - 1) (rest_lt t h)) (a : Fin 8) (w : W) :
    ((outsAt0 m c t.val t.isLt).2.2.2.2.1 : FVec Ideal S8x1024 .f32) (ix2 a w)
    = ((outsAt0 m c (t.val - 1) (rest_lt t h)).2.2.2.2.1 : FVec Ideal S8x1024 .f32) (ix2 a w)
      + if a.val < 1 then bSum m c (bk t) w else 0 := by
  rw [outsAt0_B m c t h h]; unfold leavesB
  frame_open; delta runB; frame_out
  try simp only [read_unread_whole]
  have H := atB m c t h L
  refine rows1 _ _ _ [] _ ((hs0_11 t).read_unread _) (bSum m c (bk t)) ?_ a w
  exact fun w => (H.db _ _ _ _).trans (congrArg (· + _) (ld_row0 _ _ _))

theorem leftB (h : ¬ t.val % 33 = 0) (L : Left m c (t.val - 1) (rest_lt t h)) : Left m c t.val t.isLt := by
  have e : t.val - 1 + 1 = t.val := by omega
  refine ⟨s0B m c t h L, s1B m c t h L, fun a w => ?_, fun a w => ?_, fun a w => ?_, fun a w => ?_⟩
  · rw [s2B m c t h L]
    exact congrArg (fun r => du _ _ _ r w) (Fin.ext (by show 256 * (bk t).val + _ = _; rw [bk_eq]))
  · rw [tapB m c t h L, L.tap, e, Finset.sum_range_succ, bk_eq]
    by_cases ha : a.val < 3
    · simp only [if_pos ha]
    · simp only [if_neg ha, add_zero]
  · rw [sgB m c t h L, L.sg, e, Finset.sum_range_succ, bk_eq]
    by_cases ha : a.val < 1
    · simp only [if_pos ha]
    · simp only [if_neg ha, add_zero]
  · rw [sbB m c t h L, L.sb, e, Finset.sum_range_succ, bk_eq]
    by_cases ha : a.val < 1
    · simp only [if_pos ha]
    · simp only [if_neg ha, add_zero]

/-! ## The first point -/

/-- The weights copied in at the first point. -/
theorem copy_wo : (View.canon [(⟨Rect.whole S1024x1024, ReadAs.same.apply
      (View.read (Elt Ideal) (View.whole main_arg3) (V m c main_arg3))⟩ : View.Piece (Elt Ideal) S1024x1024 .bf16)])
    = (m ((c : Thread nD τ).loc main_arg3) : FVec Ideal S1024x1024 .bf16) :=
  View.canon_cons_unit_lit' (S := S1024x1024) (off := fun _ => 0) _ _ [] (fun _ => rfl)
theorem copy_wi : (View.canon [(⟨Rect.whole S1024x3072, ReadAs.same.apply
      (View.read (Elt Ideal) (View.whole main_arg4) (V m c main_arg4))⟩ : View.Piece (Elt Ideal) S1024x3072 .bf16)])
    = (m ((c : Thread nD τ).loc main_arg4) : FVec Ideal S1024x3072 .bf16) :=
  View.canon_cons_unit_lit' (S := S1024x3072) (off := fun _ => 0) _ _ [] (fun _ => rfl)
abbrev wo : FVec Ideal S1024x1024 .bf16 := (View.whole cc0_scratch0).readCov [⟨Rect.whole S1024x1024, ReadAs.same.apply
      (View.read (Elt Ideal) (View.whole main_arg3) (V m c main_arg3))⟩]
      (Rect.unit (s := S1024x1024) ![0, 0] ![1024, 1024] inb_S1024x1024_S1024x1024_0_0).toLoadRect
abbrev wi : FVec Ideal S1024x3072 .bf16 := (View.whole cc0_scratch1).readCov [⟨Rect.whole S1024x3072, ReadAs.same.apply
      (View.read (Elt Ideal) (View.whole main_arg4) (V m c main_arg4))⟩]
      (Rect.unit (s := S1024x3072) ![0, 0] ![1024, 3072] inb_S1024x3072_S1024x3072_0_0).toLoadRect
theorem wo_eq : wo m c = (m ((c : Thread nD τ).loc main_arg3) : FVec Ideal S1024x1024 .bf16) :=
  View.readCov_cons_unit_lit' (S := S1024x1024) (View.whole cc0_scratch0) (off := fun _ => 0) (off' := ![0, 0]) _ inb_S1024x1024_S1024x1024_0_0 _ [] (fun _ => rfl) (by decide)
theorem wi_eq : wi m c = (m ((c : Thread nD τ).loc main_arg4) : FVec Ideal S1024x3072 .bf16) :=
  View.readCov_cons_unit_lit' (S := S1024x3072) (View.whole cc0_scratch1) (off := fun _ => 0) (off' := ![0, 0]) _ inb_S1024x3072_S1024x3072_0_0 _ [] (fun _ => rfl) (by decide)

theorem pay3_eq (a : Fin 8) (w : W) : k0_pay3 (F := Ideal) (ix2 a w) = 0 := by pointwise [k0_pay3]
theorem pay4_eq : k0_pay4 (F := Ideal) = fun _ => (0 : EReal) := by
  funext x
  obtain ⟨a, w, rfl⟩ := ix2_of x
  pointwise [k0_pay4]
theorem pay5_eq : k0_pay5 (F := Ideal) = fun _ => (0 : EReal) := by
  funext x
  obtain ⟨a, w, rfl⟩ := ix2_of x
  pointwise [k0_pay5]
theorem pay6_eq : k0_pay6 (F := Ideal) = fun _ => (0 : EReal) := by
  funext x
  obtain ⟨a, w, rfl⟩ := ix2_of x
  pointwise [k0_pay6]

theorem atA (h : t.val % 33 = 0) :
    At (kD m c) (kPR m c) (kCW m c) (kWO m c) (kWI m c) (kX m c) (kG m c) (bk t) (grid0.coords t)
      (iblk m c 0 t) (iblk m c 1 t) (iblk m c 2 t) (iblk m c 3 t) (iblk m c 4 t) (iblk m c 5 t) (iblk m c 6 t)
      (wo m c) (k0_pay3 (F := Ideal)) (wi m c) := by
  refine at_of m c t _ _ _ (fun a w => congrFun (wo_eq m c) _) (fun a w => ?_) (fun a w => congrFun (wi_eq m c) _)
  have h1 := lt33 t
  rw [pay3_eq, dif_neg (by rw [show (bk t).val = 32 - t.val from rfl]; omega)]

theorem rowsA (h : t.val % 33 = 0) : Rows m c t := by
  constructor
  · intro r q
    rw [outsAt0_A m c t h h]; unfold leavesA
    frame_open; delta runA; frame_out
    try simp only [read_unread_whole]
    exact (atA m c t h).dproj r q
  · intro r q
    rw [outsAt0_A m c t h h]; unfold leavesA
    frame_open; delta runA; frame_out
    try simp only [read_unread_whole]
    exact (atA m c t h).dpin _ r q

theorem s0A (h : t.val % 33 = 0) :
    ((outsAt0 m c t.val t.isLt).2.2.2.2.2.1 : FVec Ideal S1024x1024 .bf16) = m ((c : Thread nD τ).loc main_arg3) := by
  rw [outsAt0_A m c t h h]; unfold leavesA
  frame_open; delta runA; frame_out
  exact copy_wo m c
theorem s1A (h : t.val % 33 = 0) :
    ((outsAt0 m c t.val t.isLt).2.2.2.2.2.2.1 : FVec Ideal S1024x3072 .bf16) = m ((c : Thread nD τ).loc main_arg4) := by
  rw [outsAt0_A m c t h h]; unfold leavesA
  frame_open; delta runA; frame_out
  exact copy_wi m c
theorem s2A (h : t.val % 33 = 0) (a : Fin 8) (w : W) :
    ((outsAt0 m c t.val t.isLt).2.2.2.2.2.2.2 : FVec Ideal S8x1024 .f32) (ix2 a w)
    = du (kD m c) (kPR m c) (kWO m c) ⟨256 * (bk t).val + a.val, by omega⟩ w := by
  rw [outsAt0_A m c t h h]; unfold leavesA
  frame_open; delta runA; frame_out
  exact (atA m c t h).carry a w

theorem tapA (h : t.val % 33 = 0) (a : Fin 8) (w : W) :
    ((outsAt0 m c t.val t.isLt).2.1 : FVec Ideal S8x1024 .f32) (ix2 a w)
    = if a.val < 3 then tapSum m c (2 - a.val) (bk t) w else 0 := by
  rw [outsAt0_A m c t h h]; unfold leavesA
  frame_open; delta runA; frame_out
  try simp only [read_unread_whole]
  simp (disch := decide) only [↓ View.readCov_skip, ↓ View.readCov_cons_toLoadRect, ↓ View.readCov_fill]
  rw [← View.read_writes_junk_eq_canon (ms0_8 t).view]
  have H := atA m c t h
  refine (rows3 _ _ _ _ _ _ (k0_pay4 (F := Ideal)) ?_ (fun s w => tapSum m c s (bk t) w) ?_ ?_ ?_ a w).trans ?_
  · rw [View.read_writes_junk_eq_canon]
    exact View.canon_cons_unit_lit' (S := S8x1024) (off := ![0, 0]) _ _ [] (by decide)
  · exact fun w => (H.tap0 _ _ _).trans (congrArg (· + _) (ld_row0 _ _ _))
  · exact fun w => (H.tap1 _ _ _).trans (congrArg (· + _) (ld_row1 _ _ _))
  · exact fun w => (H.tap2 _ _ _).trans (congrArg (· + _) (ld_row2 _ _ _))
  · rw [pay4_eq]; exact zero_add _
theorem sgA (h : t.val % 33 = 0) (a : Fin 8) (w : W) :
    ((outsAt0 m c t.val t.isLt).2.2.2.1 : FVec Ideal S8x1024 .f32) (ix2 a w)
    = if a.val < 1 then gSum m c (bk t) w else 0 := by
  rw [outsAt0_A m c t h h]; unfold leavesA
  frame_open; delta runA; frame_out
  try simp only [read_unread_whole]
  simp (disch := decide) only [↓ View.readCov_skip, ↓ View.readCov_fill]
  rw [← View.read_writes_junk_eq_canon (ms0_10 t).view]
  have H := atA m c t h
  refine (rows1 _ _ _ _ (k0_pay5 (F := Ideal)) ?_ (gSum m c (bk t)) ?_ a w).trans ?_
  · rw [View.read_writes_junk_eq_canon]
    exact View.canon_cons_unit_lit' (S := S8x1024) (off := ![0, 0]) _ _ [] (by decide)
  · exact fun w => (H.dg _ _ _ _).trans (congrArg (· + _) (ld_row0 _ _ _))
  · rw [pay5_eq]; exact zero_add _
theorem sbA (h : t.val % 33 = 0) (a : Fin 8) (w : W) :
    ((outsAt0 m c t.val t.isLt).2.2.2.2.1 : FVec Ideal S8x1024 .f32) (ix2 a w)
    = if a.val < 1 then bSum m c (bk t) w else 0 := by
  rw [outsAt0_A m c t h h]; unfold leavesA
  frame_open; delta runA; frame_out
  try simp only [read_unread_whole]
  simp (disch := decide) only [↓ View.readCov_skip, ↓ View.readCov_fill]
  rw [← View.read_writes_junk_eq_canon (ms0_11 t).view]
  have H := atA m c t h
  refine (rows1 _ _ _ _ (k0_pay6 (F := Ideal)) ?_ (bSum m c (bk t)) ?_ a w).trans ?_
  · rw [View.read_writes_junk_eq_canon]
    exact View.canon_cons_unit_lit' (S := S8x1024) (off := ![0, 0]) _ _ [] (by decide)
  · exact fun w => (H.db _ _ _ _).trans (congrArg (· + _) (ld_row0 _ _ _))
  · rw [pay6_eq]; exact zero_add _

theorem leftA (h : t.val % 33 = 0) : Left m c t.val t.isLt := by
  have e : t.val = 0 := by have := lt33 t; omega
  refine ⟨fun a w => congrFun (s0A m c t h) _, fun a w => congrFun (s1A m c t h) _, fun a w => ?_, fun a w => ?_,
    fun a w => ?_, fun a w => ?_⟩
  · rw [s2A m c t h]
    exact congrArg (fun r => du _ _ _ r w) (Fin.ext (by show 256 * (bk t).val + _ = _; rw [bk_eq]))
  · rw [tapA m c t h, bk_eq, e, Finset.sum_range_one]
  · rw [sgA m c t h, bk_eq, e, Finset.sum_range_one]
  · rw [sbA m c t h, bk_eq, e, Finset.sum_range_one]

/-! ## All points -/

theorem left : ∀ (n : ℕ) (hn : n < cfg0.N), Left m c n hn
  | 0, hn => leftA m c ⟨0, hn⟩ rfl
  | n + 1, hn => leftB m c ⟨n + 1, hn⟩ (by
      have : n + 1 < 33 := lt33 ⟨n + 1, hn⟩
      show ¬ (n + 1) % 33 = 0; omega) (left n (by omega))

theorem rows : Rows m c t := by
  by_cases h : t.val % 33 = 0
  · exact rowsA m c t h
  · exact rowsB m c t h (left m c _ _)

end Cert.KernelIdeal.Val
end
-- ==== Proof.ScVal.lean ====
/-
  The short convolution's backward pass: the five result arrays after the last grid point, and the run that leaves them.
-/
module

public import proofs.«01_k».proof.Proof.ScLeft
public import Idealize.ShloMosaic.Lib.Pipeline.ValueKit

@[expose] public section

set_option maxRecDepth 16384

noncomputable section

namespace Cert.KernelIdeal.Val

open Cert.KernelIdeal Cert.KernelIdeal.Gen Cert.Sc
open Idealize.ShloMosaic Idealize.ShloMosaic.TcCoe Idealize.SL.Sem

variable (m : (ℓ : Loc nD τ sig) → Buf (Elt Ideal) ℓ) (c : Dev nD) (ρ : Dev nD → PrngReg)

/-- The sum over the blocks, the last one first, of each block's sum is the sum over all rows. -/
theorem sum_blocks (f : R → EReal) :
    (∑ k ∈ Finset.range (32 + 1), ∑ r : Fin 256, f (row (nth k) r)) = ∑ r, f r := by
  rw [← Fin.sum_univ_eq_sum_range (fun k => ∑ r : Fin 256, f (row (nth k) r)) 33]
  have e : (∑ k : Fin 33, ∑ r : Fin 256, f (row (nth k.val) r)) = ∑ b : Fin 33, ∑ r : Fin 256, f (row b r) := by
    refine Fintype.sum_equiv Fin.revPerm _ _ fun k => ?_
    have : nth k.val = Fin.revPerm k := Fin.ext (by
      show (32 - k.val) % 33 = (Fin.rev k).val
      rw [Fin.val_rev]; omega)
    rw [this]
  rw [e, ← Finset.sum_product']
  refine Finset.sum_bij' (i := fun p _ => row p.1 p.2)
    (j := fun r _ => ((⟨r.val / 256, by omega⟩ : Fin 33), (⟨r.val % 256, by omega⟩ : Fin 256)))
    (fun _ _ => Finset.mem_univ _) (fun _ _ => Finset.mem_univ _) (fun p _ => ?_) (fun r _ => ?_) (fun _ _ => rfl)
  · refine Prod.ext (Fin.ext ?_) (Fin.ext ?_)
    · show (256 * p.1.val + p.2.val) / 256 = p.1.val; omega
    · show (256 * p.1.val + p.2.val) % 256 = p.2.val; omega
  · exact Fin.ext (by show 256 * (r.val / 256) + r.val % 256 = r.val; omega)

/-- The results. -/
def rProj : FVec Ideal S8448x3072 .bf16 := fun y => dproj (kD m c) (kPR m c) (kCW m c) (kWO m c) (y 0) (y 1)
def rTap : FVec Ideal S8x1024 .f32 := fun y => if (y 0).val < 3 then dcw (kD m c) (kPR m c) (kWO m c) (2 - (y 0).val) (y 1) else 0
def rPin : FVec Ideal S8448x1024 .f32 := fun y =>
  dpin (kD m c) (kPR m c) (kCW m c) (kWO m c) (kWI m c) (kX m c) (kG m c) (y 0) (y 1)
def rScale : FVec Ideal S8x1024 .f32 := fun y =>
  if (y 0).val < 1 then dg (kD m c) (kPR m c) (kCW m c) (kWO m c) (kWI m c) (kX m c) (y 1) else 0
def rShift : FVec Ideal S8x1024 .f32 := fun y =>
  if (y 0).val < 1 then db (kD m c) (kPR m c) (kCW m c) (kWO m c) (kWI m c) (y 1) else 0

theorem arr7 : (dats m 0 c).arrAt 7 cfg0.N = rProj m c := by
  refine (dats m 0 c).arrAt_eq_of_covers 7 _ (by decide +kernel) fun t hf y => ?_
  obtain ⟨r, q, rfl⟩ := ix2_of y
  blk_simp
  rw [after0_7]
  refine ((rows m c t).proj r q).trans ?_
  refine congrArg₂ (dproj _ _ _ _) (Fin.ext ?_) (Fin.ext ?_)
  · show 256 * (32 - t.val) + r.val = _
    blk_simp [idx t]; omega
  · blk_simp [idx t]
theorem arr9 : (dats m 0 c).arrAt 9 cfg0.N = rPin m c := by
  refine (dats m 0 c).arrAt_eq_of_covers 9 _ (by decide +kernel) fun t hf y => ?_
  obtain ⟨r, q, rfl⟩ := ix2_of y
  blk_simp
  rw [after0_9]
  refine ((rows m c t).pin r q).trans ?_
  refine congrArg₂ (dpin _ _ _ _ _ _ _) (Fin.ext ?_) (Fin.ext ?_)
  · show 256 * (32 - t.val) + r.val = _
    blk_simp [idx t]; omega
  · blk_simp [idx t]

theorem last (t : Fin cfg0.N) (h : t.val % 33 = 32) : t.val = 32 := by have := lt33 t; omega

theorem arr8 : (dats m 0 c).arrAt 8 cfg0.N = rTap m c := by
  refine (dats m 0 c).arrAt_eq_of_covers 8 _ (by decide +kernel) fun t hf y => ?_
  obtain ⟨r, q, rfl⟩ := ix2_of y
  have e := last t ((flush0_8 t).mp hf)
  blk_simp
  rw [after0_8]
  refine ((left m c t.val t.isLt).tap r q).trans ?_
  have e0 : (win0_8.blk t).view.emb (ix2 r q) = ix2 r q := by blk_ext [idx t]
  rw [e0, e]
  exact if_congr Iff.rfl (sum_blocks fun p => ahead (kD m c) (kPR m c) (kWO m c) (2 - r.val) p q * pp (kPR m c) p q) rfl
theorem arr10 : (dats m 0 c).arrAt 10 cfg0.N = rScale m c := by
  refine (dats m 0 c).arrAt_eq_of_covers 10 _ (by decide +kernel) fun t hf y => ?_
  obtain ⟨r, q, rfl⟩ := ix2_of y
  have e := last t ((flush0_10 t).mp hf)
  blk_simp
  rw [after0_10]
  refine ((left m c t.val t.isLt).sg r q).trans ?_
  have e0 : (win0_10.blk t).view.emb (ix2 r q) = ix2 r q := by blk_ext [idx t]
  rw [e0, e]
  exact if_congr Iff.rfl (sum_blocks fun p =>
    dy (kD m c) (kPR m c) (kCW m c) (kWO m c) (kWI m c) p q * Ln.xhat (kX m c p) q) rfl
theorem arr11 : (dats m 0 c).arrAt 11 cfg0.N = rShift m c := by
  refine (dats m 0 c).arrAt_eq_of_covers 11 _ (by decide +kernel) fun t hf y => ?_
  obtain ⟨r, q, rfl⟩ := ix2_of y
  have e := last t ((flush0_11 t).mp hf)
  blk_simp
  rw [after0_11]
  refine ((left m c t.val t.isLt).sb r q).trans ?_
  have e0 : (win0_11.blk t).view.emb (ix2 r q) = ix2 r q := by blk_ext [idx t]
  rw [e0, e]
  exact if_congr Iff.rfl (sum_blocks fun p => dy (kD m c) (kPR m c) (kCW m c) (kWO m c) (kWI m c) p q) rfl

/-- The run with the results named. -/
theorem run : θ_run defs (onTc (τ := τ) (main (F := Ideal))) ⟨m, fun _ => 0, ρ⟩ fun r => ∀ c : Dev nD,
      r.2.mem ((c : Thread nD τ).loc main_v0_0) = rProj m c
      ∧ r.2.mem ((c : Thread nD τ).loc main_v0_1) = rTap m c
      ∧ r.2.mem ((c : Thread nD τ).loc main_v0_2) = rPin m c
      ∧ r.2.mem ((c : Thread nD τ).loc main_v0_3) = rScale m c
      ∧ r.2.mem ((c : Thread nD τ).loc main_v0_4) = rShift m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨((h.1 c).1 7).trans (arr7 m c), ((h.1 c).1 8).trans (arr8 m c),
      ((h.1 c).1 9).trans (arr9 m c), ((h.1 c).1 10).trans (arr10 m c), ((h.1 c).1 11).trans (arr11 m c), h.2 c⟩)
    (θ_run_and (run_main m ρ) (unchanged m ρ))

end Cert.KernelIdeal.Val

end
-- ==== Proof.ScRef.lean ====
/-
  The reference's five results read at an index: they are the functions of ScSpec.
-/
module

public import proofs.«01_k».proof.Proof.ScSpec
public import proofs.«01_k».proof.Proof.Gen.ReferenceIdeal.Read
public import Idealize.ShloMosaic.Lib.Pointwise
public import Idealize.ShloMosaic.Lib.WordCmp

@[expose] public section

set_option maxRecDepth 16384

noncomputable section

namespace Cert.ReferenceIdeal.Spec

open Cert.ReferenceIdeal Cert.ReferenceIdeal.Gen Cert.ReferenceIdeal.Read Cert.Sc
open Idealize.ShloMosaic Idealize.ShloMosaic.TcCoe Idealize.SL.Sem

variable (x0 : FVec Ideal S8448x1024 .f32) (x1 : FVec Ideal S8448x3072 .f32) (x2 : FVec Ideal S3x1024 .f32)
  (x3 : FVec Ideal S1024x1024 .bf16) (x4 : FVec Ideal S1024x3072 .bf16) (x5 : FVec Ideal S8448x1024 .f32)
  (x6 : FVec Ideal S1x1024 .f32)

/-- The arguments as functions of row and lane. -/
abbrev aD : R → W → EReal := fun r k => x0 (ix2 r k)
abbrev aPR : R → Q → EReal := fun r k => x1 (ix2 r k)
abbrev aCW : Fin 3 → W → EReal := fun r k => x2 (ix2 r k)
abbrev aWO : W → W → EReal := fun r k => x3 (ix2 r k)
abbrev aWI : W → Q → EReal := fun r k => x4 (ix2 r k)
abbrev aX : R → W → EReal := fun r k => x5 (ix2 r k)
abbrev aG : W → EReal := fun k => x6 (ix2 (0 : Fin 1) k)

theorem v3 (r : R) (w : W) : val_main_v3 (F := Ideal) x1 (ix2 r w) = pp (aPR x1) r w := by
  pointwise [val_main_v3, val_main_v1, val_main_v2]
  rfl

theorem v26 (r : R) (w : W) : val_main_v26 (F := Ideal) x0 x3 (ix2 r w) = dd (aD x0) (aWO x3) r w := by
  pointwise [val_main_v26, val_main_v24]
  rfl

theorem v27 (r : R) (w : W) : val_main_v27 (F := Ideal) x0 x1 x3 (ix2 r w) = du (aD x0) (aPR x1) (aWO x3) r w := by
  pointwise [val_main_v27, val_main_v0]
  rw [v26]
  exact mul_comm _ _

/-- The convolution's input a number of rows earlier, cut out of the rows with two zero rows in front. -/
theorem v8 (r : R) (w : W) : val_main_v8 (F := Ideal) x1 (ix2 r w) = back (aPR x1) 2 r w := by
  pointwise [val_main_v8, val_main_v5, val_main_v4, val_main_cst]
  simp only [v3, back]
  by_cases h : r.val < 2
  · rw [dif_pos h, if_neg (by omega)]
  · rw [dif_neg h]
    exact (if_pos (show 2 ≤ r.val by omega)).symm

theorem v14 (r : R) (w : W) : val_main_v14 (F := Ideal) x1 (ix2 r w) = back (aPR x1) 1 r w := by
  pointwise [val_main_v14, val_main_v5, val_main_v4, val_main_cst]
  simp only [v3, back]
  by_cases h : 1 + r.val < 2
  · rw [dif_pos h, if_neg (by omega)]
  · rw [dif_neg h]
    refine Eq.trans ?_ (if_pos (show 1 ≤ r.val by omega)).symm
    exact congrArg (pp (aPR x1) · w) (Fin.ext (by show 1 + r.val - 2 = r.val - 1; omega))

theorem v19 (r : R) (w : W) : val_main_v19 (F := Ideal) x1 (ix2 r w) = pp (aPR x1) r w := by
  pointwise [val_main_v19, val_main_v5, val_main_v4, val_main_cst]
  simp only [v3]

theorem v22 (r : R) (w : W) : val_main_v22 (F := Ideal) x1 x2 (ix2 r w) = uu (aPR x1) (aCW x2) r w := by
  pointwise [val_main_v22, val_main_v21, val_main_v20, val_main_v18, val_main_v17, val_main_v16, val_main_v15, val_main_v13,
    val_main_v12, val_main_v11, val_main_cst_1, val_main_v10, val_main_v9, val_main_v7]
  simp only [v8, v14, v19, zero_add]
  rfl

theorem v28 (r : R) (w : W) :
    val_main_v28 (F := Ideal) x0 x1 x2 x3 (ix2 r w) = dd (aD x0) (aWO x3) r w * uu (aPR x1) (aCW x2) r w := by
  pointwise [val_main_v28]
  rw [v26, v22]

theorem v55 (r : R) (w : W) :
    val_main_v55 (F := Ideal) x0 x1 x2 x3 (ix2 r w) = dp (aD x0) (aPR x1) (aCW x2) (aWO x3) r w := by
  pointwise [val_main_v55, val_main_v51, val_main_v50, val_main_cst_9, val_main_v46, val_main_v45, val_main_v7, val_main_v42,
    val_main_v41, val_main_cst_6, val_main_v37, val_main_v36, val_main_v13, val_main_v34, val_main_cst_3, val_main_v30,
    val_main_v29, val_main_v18]
  simp only [v27, dp, ahead]
  rw [add_comm (_ + _), add_comm (x2 (ix2 2 w) * _), ← add_assoc]
  refine congrArg₂ (· + ·) (congrArg₂ (· + ·) ?_ ?_) rfl
  · split_ifs with h h' h'
    · exact congrArg (fun t => x2 (ix2 0 w) * du (aD x0) (aPR x1) (aWO x3) t w) (Fin.ext (Nat.add_comm 2 r.val))
    · omega
    · omega
    · exact (mul_zero _).symm
  · split_ifs with h h' h'
    · exact congrArg (fun t => x2 (ix2 1 w) * du (aD x0) (aPR x1) (aWO x3) t w)
        (Fin.ext (by show 2 + r.val - 1 = r.val + 1; omega))
    · omega
    · omega
    · exact (mul_zero _).symm

theorem v57 (r : R) (w : W) : val_main_v57 (F := Ideal) x0 x1 x2 x3 (ix2 r w)
    = dp (aD x0) (aPR x1) (aCW x2) (aWO x3) r w * aPR x1 r (q2 w) := by
  pointwise [val_main_v57, val_main_v2]
  rw [v55]

theorem v56 (r : R) (w : W) : val_main_v56 (F := Ideal) x0 x1 x2 x3 (ix2 r w)
    = dp (aD x0) (aPR x1) (aCW x2) (aWO x3) r w * aPR x1 r (q1 w) := by
  pointwise [val_main_v56, val_main_v1]
  rw [v55, mul_comm]

theorem v58 (r : R) (q : Q) :
    val_main_v58 (F := Ideal) x0 x1 x2 x3 (ix2 r q) = dproj (aD x0) (aPR x1) (aCW x2) (aWO x3) r q := by
  pointwise [val_main_v58]
  simp only [v28, v57, v56, dproj]
  have e : ∀ h h', (⟨q.val - 1024 - 1024, h⟩ : W) = ⟨q.val - 2048, h'⟩ := fun _ _ => Fin.ext (by show q.val - 1024 - 1024 = q.val - 2048; omega)
  by_cases h : q.val < 1024
  · rw [dif_pos h, dif_pos h]
  · by_cases h' : q.val - 1024 < 1024
    · rw [dif_neg h, dif_pos h', dif_neg h, dif_pos (by omega)]
    · rw [dif_neg h, dif_neg h', dif_neg h, dif_neg (by omega)]
      have e' : (⟨q.val - 1024 - 1024, by omega⟩ : W) = ⟨q.val - 2048, by omega⟩ := e _ _
      exact congrArg (fun t : W => dp (aD x0) (aPR x1) (aCW x2) (aWO x3) r t * aPR x1 r (q1 t)) e'

/-- The gradient of the gates. -/
theorem v129 (r : R) (q : Q) :
    val_main_v129 (F := Ideal) x0 x1 x2 x3 (ix2 r q) = dproj (aD x0) (aPR x1) (aCW x2) (aWO x3) r q := by
  pointwise [val_main_v129]
  rw [v58]

theorem v64 (r : R) (k : W) :
    val_main_v64 (F := Ideal) x0 x1 x2 x3 x4 (ix2 r k) = dh (aD x0) (aPR x1) (aCW x2) (aWO x3) (aWI x4) r k := by
  pointwise [val_main_v64, val_main_v63, val_main_v62, val_main_v61, val_main_v60, val_main_v59, val_main_cst_11]
  simp only [v58, dh]
  rfl

/-- Comparing a row number below 2^31 with another, as words. -/
theorem sge_ofNat {a b : ℕ} (ha : a < 2 ^ 31) (hb : b < 2 ^ 31) {α : Type} (x y : α) :
    Scalar.select (IntOp.cmpi CmpIPredicate.sge (BitVec.ofNat 32 a) (BitVec.ofNat 32 b)) x y = if b ≤ a then x else y := by
  have ha' : a < 2 ^ (32 - 1) := ha
  have hb' : b < 2 ^ (32 - 1) := hb
  rw [WordCmp.cmpi_sge_ofNat ha' hb']
  by_cases h : b ≤ a <;> simp [Scalar.select, h]

theorem v97 (r : R) (k : W) :
    val_main_v97 (F := Ideal) x0 x1 x2 x3 x4 (ix2 r k) = dy (aD x0) (aPR x1) (aCW x2) (aWO x3) (aWI x4) r k := by
  pointwise [val_main_v97, val_main_v95, val_main_v93, val_main_v94, val_main_c, val_main_call1_v0, val_main_call1_cst]
  rw [v64, sge_ofNat (by omega) (by omega)]
  unfold dy
  split_ifs <;> first | rfl | omega

theorem sum_pp (w : W) :
    (∑ r, du (aD x0) (aPR x1) (aWO x3) r w * pp (aPR x1) r w) = dcw (aD x0) (aPR x1) (aWO x3) 0 w := by
  rw [← dcw_eq]
  rfl

/-- The gradient of the three taps, followed by five zero rows. -/
theorem v131 (r : Fin 8) (w : W) : val_main_v131 (F := Ideal) x0 x1 x3 (ix2 r w)
    = if r.val < 3 then dcw (aD x0) (aPR x1) (aWO x3) (2 - r.val) w else 0 := by
  pointwise [val_main_v131, val_main_v130, val_main_cst_30, val_main_v53, val_main_v52, val_main_cst_10, val_main_v49,
    val_main_v48, val_main_cst_8, val_main_v47, val_main_v44, val_main_v43, val_main_cst_7, val_main_v40, val_main_v39, val_main_cst_5,
    val_main_v38, val_main_v35, val_main_cst_4, val_main_v33, val_main_v32, val_main_cst_2, val_main_v31]
  simp only [v27, v8, v14, v19, dcw_eq, zero_add, sum_pp]
  obtain ⟨n, hn⟩ := r
  rcases n with _ | _ | _ | n
  · simp
  · simp
  · simp
  · rw [dif_neg (by simp), if_neg (by simp)]

theorem v69 (r : R) (k : Fin 1) : val_main_v69 (F := Ideal) x5 (ix2 r k) = Ln.mean (aX x5 r) := by
  pointwise [val_main_v69, val_main_v68, val_main_cst_14, val_main_v67, val_main_v66, val_main_cst_13]
  rfl

theorem v71 (r : R) (k : W) : val_main_v71 (F := Ideal) x5 (ix2 r k) = Ln.cen (aX x5 r) k := by
  pointwise [val_main_v71, val_main_v70]
  rw [v69]
  rfl

theorem v80 (r : R) (k : W) : val_main_v80 (F := Ideal) x5 (ix2 r k) = Ln.cen (aX x5 r) k := by
  pointwise [val_main_v80, val_main_v79]
  rw [v69]
  rfl

theorem v82 (r : R) (k : Fin 1) : val_main_v82 (F := Ideal) x5 (ix2 r k) = Ln.den (aX x5 r) := by
  pointwise [val_main_v82, val_main_v81, val_main_cst_18, val_main_v78, val_main_v77, val_main_cst_17, val_main_v76, val_main_v75,
    val_main_cst_16, val_main_v72]
  simp only [v71, zero_add]
  rfl

theorem v83 (r : R) (k : Fin 1) : val_main_v83 (F := Ideal) x5 (ix2 r k) = Ln.rstd (aX x5 r) := by
  pointwise [val_main_v83]
  rw [v82]
  rfl

theorem v88 (r : R) (k : W) : val_main_v88 (F := Ideal) x5 (ix2 r k) = Ln.xhat (aX x5 r) k := by
  pointwise [val_main_v88, val_main_v87]
  rw [v80, v83]
  rfl

/-- The gradient of the scale and of the shift, each in the first of eight rows. -/
theorem v133 (r : Fin 8) (k : W) : val_main_v133 (F := Ideal) x0 x1 x2 x3 x4 x5 (ix2 r k)
    = if r.val < 1 then dg (aD x0) (aPR x1) (aCW x2) (aWO x3) (aWI x4) (aX x5) k else 0 := by
  pointwise [val_main_v133, val_main_v132, val_main_cst_31, val_main_v102, val_main_v101, val_main_cst_22, val_main_v100]
  simp only [v88, v97, dg, zero_add, mul_comm (Ln.xhat _ _)]
  split_ifs <;> rfl

theorem v135 (r : Fin 8) (k : W) : val_main_v135 (F := Ideal) x0 x1 x2 x3 x4 (ix2 r k)
    = if r.val < 1 then db (aD x0) (aPR x1) (aCW x2) (aWO x3) (aWI x4) k else 0 := by
  pointwise [val_main_v135, val_main_v134, val_main_cst_32, val_main_v99, val_main_v98, val_main_cst_21]
  simp only [v97, db, zero_add]
  split_ifs <;> rfl

theorem v109 (r : R) (k : W) : val_main_v109 (F := Ideal) x0 x1 x2 x3 x4 x5 x6 (ix2 r k)
    = (dy (aD x0) (aPR x1) (aCW x2) (aWO x3) (aWI x4) r k * aG x6 k) * Ln.rstd (aX x5 r) := by
  pointwise [val_main_v109, val_main_v108, val_main_v104, val_main_v103]
  rw [v97, v83]

theorem v117 (r : R) (k : W) : val_main_v117 (F := Ideal) x0 x1 x2 x3 x4 x5 x6 (ix2 r k)
    = Ln.dvar (aX x5 r) (fun k => dy (aD x0) (aPR x1) (aCW x2) (aWO x3) (aWI x4) r k * aG x6 k) := by
  pointwise [val_main_v117, val_main_v116, val_main_cst_26, val_main_v115, val_main_v114, val_main_cst_25, val_main_v110, val_main_v107,
    val_main_v106, val_main_cst_23, val_main_v105, val_main_v104, val_main_v103, val_main_v86, val_main_v85, val_main_cst_19, val_main_v84]
  simp only [v80, v97, v83, v82, zero_add, Fin.sum_univ_one]
  rfl

theorem v118 (r : R) (k : W) : val_main_v118 (F := Ideal) x0 x1 x2 x3 x4 x5 x6 (ix2 r k)
    = Ln.dvar (aX x5 r) (fun k => dy (aD x0) (aPR x1) (aCW x2) (aWO x3) (aWI x4) r k * aG x6 k)
      * (Ln.two * Ln.cen (aX x5 r) k) := by
  pointwise [val_main_v118, val_main_v74, val_main_v73, val_main_cst_15]
  rw [v117, v71]
  rfl

theorem v128_chain (r : R) (k : W) : val_main_v128 (F := Ideal) x0 x1 x2 x3 x4 x5 x6 (ix2 r k)
    = Ln.chain (aX x5 r) (fun k => dy (aD x0) (aPR x1) (aCW x2) (aWO x3) (aWI x4) r k * aG x6 k) k := by
  pointwise [val_main_v128, val_main_v127, val_main_v126, val_main_cst_29, val_main_v125, val_main_v124, val_main_cst_28, val_main_v123,
    val_main_v122, val_main_v121, val_main_v120, val_main_cst_27, val_main_v119, val_main_v113, val_main_v112, val_main_cst_24,
    val_main_v111]
  simp only [v109, v118, zero_add, Fin.sum_univ_one]
  rfl

/-- The gradient of the normalised rows, of arguments that are numbers. -/
theorem v128 (h0 : ∀ i, Ln.Fin' (x0 i)) (h1 : ∀ i, Ln.Fin' (x1 i)) (h2 : ∀ i, Ln.Fin' (x2 i)) (h3 : ∀ i, Ln.Fin' (x3 i))
    (h4 : ∀ i, Ln.Fin' (x4 i)) (h5 : ∀ i, Ln.Fin' (x5 i)) (h6 : ∀ i, Ln.Fin' (x6 i)) (r : R) (k : W) :
    val_main_v128 (F := Ideal) x0 x1 x2 x3 x4 x5 x6 (ix2 r k)
      = dpin (aD x0) (aPR x1) (aCW x2) (aWO x3) (aWI x4) (aX x5) (aG x6) r k := by
  rw [v128_chain, dpin, Ln.bwd_eq_chain]
  · exact fun k => h5 _
  · exact fun k => (fin_dy (fun _ _ => h0 _) (fun _ _ => h1 _) (fun _ _ => h2 _) (fun _ _ => h3 _) (fun _ _ => h4 _) r k).mul (h6 _)

end Cert.ReferenceIdeal.Spec

end
-- ==== Proof.ScFin.lean ====
/-
  What the precondition says: every element of every argument is a number, neither infinity.
-/
module

public import proofs.«01_k».proof.Proof.Ln
public import proofs.«01_k».proof.Proof.Gen.Pre_finite_sc
public import Idealize.ShloMosaic.Lib.ReduceAll
public import Idealize.ShloMosaic.Lib.Affine

@[expose] public section

noncomputable section

namespace Cert.Pre_finite_sc.Val

open Cert.Pre_finite_sc Cert.Pre_finite_sc.Gen
open Idealize.ShloMosaic Idealize.ShloMosaic.TcCoe Idealize.SL.Sem

/-- An element whose absolute value is below infinity is a number. -/
theorem fin_of {s : Shape} (x : FVec Ideal s .f32) (h : S_.BroadcastsInDim s (![] : Fin 0 → Fin s.rank)) (i : s.Idx)
    (e : cmpf .olt (Host.absf x) (broadcastInDim s ![] h (constant S_ .f32 0x7F800000#32)) i = 1#1) : Ln.Fin' (x i) := by
  refine Ln.Fin'.of_abs_lt ?_
  have h2 : BitVec.ofBool (decide (max (x i) (-(x i)) < Ideal.ofBits .f32 0x7F800000#32)) = 1#1 := e
  have h3 : Ideal.ofBits .f32 0x7F800000#32 = ⊤ := by
    simp [Ideal.ofBits, Ideal.ieee]
  by_contra h4
  rw [h3, decide_eq_false h4] at h2
  exact absurd h2 (by decide)

variable (x0 : FVec Ideal S8448x1024 .f32) (x1 : FVec Ideal S8448x3072 .f32) (x2 : FVec Ideal S3x1024 .f32)
  (x3 : FVec Ideal S1024x1024 .bf16) (x4 : FVec Ideal S1024x3072 .bf16) (x5 : FVec Ideal S8448x1024 .f32)
  (x6 : FVec Ideal S1x1024 .f32)

instance : Subsingleton S_.Idx := ⟨fun a b => funext fun k => k.elim0⟩

theorem finite (h : fn (F := Ideal) x0 x1 x2 x3 x4 x5 x6 = fun _ => 1#1) :
    (∀ i, Ln.Fin' (x0 i)) ∧ (∀ i, Ln.Fin' (x1 i)) ∧ (∀ i, Ln.Fin' (x2 i)) ∧ (∀ i, Ln.Fin' (x3 i))
      ∧ (∀ i, Ln.Fin' (x4 i)) ∧ (∀ i, Ln.Fin' (x5 i)) ∧ (∀ i, Ln.Fin' (x6 i)) := by
  have e := congrFun h (fun k => k.elim0)
  simp only [fn, fn_part1, fn_part2] at e
  obtain ⟨e, e6⟩ := IntOp.andi_eq_one.mp e
  obtain ⟨e, e5⟩ := IntOp.andi_eq_one.mp e
  obtain ⟨e, e4⟩ := IntOp.andi_eq_one.mp e
  obtain ⟨e, e3⟩ := IntOp.andi_eq_one.mp e
  obtain ⟨e, e2⟩ := IntOp.andi_eq_one.mp e
  obtain ⟨e, e1⟩ := IntOp.andi_eq_one.mp e
  obtain ⟨e, e0⟩ := IntOp.andi_eq_one.mp e
  exact ⟨fun i => fin_of x0 _ i (Host.reduce_andi_all _ _ _ _ _ e0 i), fun i => fin_of x1 _ i (Host.reduce_andi_all _ _ _ _ _ e1 i),
    fun i => fin_of x2 _ i (Host.reduce_andi_all _ _ _ _ _ e2 i), fun i => fin_of (s := S1024x1024) x3 _ i (Host.reduce_andi_all _ _ _ _ _ e3 i),
    fun i => fin_of (s := S1024x3072) x4 _ i (Host.reduce_andi_all _ _ _ _ _ e4 i), fun i => fin_of x5 _ i (Host.reduce_andi_all _ _ _ _ _ e5 i),
    fun i => fin_of x6 _ i (Host.reduce_andi_all _ _ _ _ _ e6 i)⟩

end Cert.Pre_finite_sc.Val

end
-- ==== Proof.ScClaims.lean ====
/-
  The short convolution's backward pass: the claims.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.ScRunIdeal
public import proofs.«01_k».proof.Proof.ScVal
public import proofs.«01_k».proof.Proof.ScRef
public import proofs.«01_k».proof.Proof.ScFin

@[expose] public section

set_option maxRecDepth 16384

noncomputable section

namespace Cert.Proof.Sc

open Idealize.ShloMosaic Idealize.ShloMosaic.TcCoe Idealize.SL.Sem

open Cert.KernelIdeal in
/-- The frame of the ideal program's text at the machine's words. -/
def FrameBits : Prop :=
  ∀ (m : (ℓ : Loc nD τ sig) → Buf (Elt Bits) ℓ) (g : Dev nD → PrngReg), True →
    θ_run (defs (F := Bits)) (onTc (τ := τ) (main (F := Bits))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0)
theorem frame_bits : FrameBits := fun m ρ _ => Cert.KernelIdeal.Gen.frame (F := Bits) m ρ

/-- Kernel and ideal kernel are one text, so that this is the kernel's frame. -/
theorem frame_eq : FrameBits = Cert.quiescent_Kernel := by sl_kernel_rfl
theorem frame : Cert.quiescent_Kernel := frame_eq.mp frame_bits
theorem frame_ideal : Cert.quiescent_KernelIdeal := fun m ρ _ => Cert.KernelIdeal.Gen.frame m ρ
theorem frame_ideal_pre : Cert.quiescent_KernelIdeal_pre_finite_sc := fun m ρ _ => Cert.KernelIdeal.Gen.frame m ρ

theorem frame_ref : Cert.quiescent_ReferenceIdeal := fun m ρ _ =>
  (θ_run Cert.ReferenceIdeal.defs _ _).mono (fun r h => ⟨fun c => (h c).2.2.2.2.2,
      Idealize.ShloMosaic.sem_eq_zero_of_no_sems (by decide) r.2⟩)
    (Cert.ReferenceIdeal.Value.run (F := Ideal) m ρ)
theorem frame_ref_pre : Cert.quiescent_ReferenceIdeal_pre_finite_sc := fun m ρ _ => frame_ref m ρ trivial

theorem preserves : Cert.preserves_Kernel_KernelIdeal := trivial

open Cert.ReferenceIdeal Cert.ReferenceIdeal.Read in
theorem algebraic : Cert.algebraic_KernelIdeal_ReferenceIdeal_pre_finite_sc := by
  intro m ρ m' ρ' hpre hag
  refine ⟨fun c => Cert.KernelIdeal.Val.rProj m c, fun c => Cert.KernelIdeal.Val.rTap m c, fun c => Cert.KernelIdeal.Val.rPin m c,
    fun c => Cert.KernelIdeal.Val.rScale m c, fun c => Cert.KernelIdeal.Val.rShift m c, Cert.KernelIdeal.Val.run m ρ, ?_⟩
  refine (θ_run Cert.ReferenceIdeal.defs _ _).mono (fun r h c => ?_) (Cert.ReferenceIdeal.Value.run (F := Ideal) m' ρ')
  obtain ⟨e0, e1, e2, e3, e4, e5, e6⟩ := hag c
  have h := h c
  rw [val_main_v129_eq, val_main_v131_eq, val_main_v128_eq, val_main_v133_eq, val_main_v135_eq] at h
  obtain ⟨f0, f1, f2, f3, f4, f5, f6⟩ := Cert.Pre_finite_sc.Val.finite _ _ _ _ _ _ _ (hpre c)
  refine ⟨h.1.trans ?_, h.2.1.trans ?_, h.2.2.1.trans ?_, h.2.2.2.1.trans ?_, h.2.2.2.2.1.trans ?_, h.2.2.2.2.2⟩
  · rw [e0, e1, e2, e3]
    funext y
    obtain ⟨r, q, rfl⟩ := Cert.KernelIdeal.Val.ix2_of y
    exact Cert.ReferenceIdeal.Spec.v129 _ _ _ _ r q
  · rw [e0, e1, e3]
    funext y
    obtain ⟨r, q, rfl⟩ := Cert.KernelIdeal.Val.ix2_of y
    exact Cert.ReferenceIdeal.Spec.v131 _ _ _ r q
  · rw [e0, e1, e2, e3, e4, e5, e6]
    funext y
    obtain ⟨r, q, rfl⟩ := Cert.KernelIdeal.Val.ix2_of y
    exact Cert.ReferenceIdeal.Spec.v128 _ _ _ _ _ _ _ f0 f1 f2 f3 f4 f5 f6 r q
  · rw [e0, e1, e2, e3, e4, e5]
    funext y
    obtain ⟨r, q, rfl⟩ := Cert.KernelIdeal.Val.ix2_of y
    exact Cert.ReferenceIdeal.Spec.v133 _ _ _ _ _ _ r q
  · rw [e0, e1, e2, e3, e4]
    funext y
    obtain ⟨r, q, rfl⟩ := Cert.KernelIdeal.Val.ix2_of y
    exact Cert.ReferenceIdeal.Spec.v135 _ _ _ _ _ r q

end Cert.Proof.Sc

end
-- ==== Proof.FfRunA.lean ====
/-
  The run of the gated ConvFFN's backward kernel at the first grid point, where the weights are copied in: the generated
  module's text, with each copy into a slice of the scratch lent that slice alone.
-/
module

public import proofs.«01_k».proof.Proof.Gen.FKernelIdeal.Frame.Runs

@[expose] public section

set_option maxRecDepth 16384
set_option sl_exec.dmaWindow true
set_option sl_exec.dmaWindowSet true

noncomputable section

namespace Cert.FKernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option maxHeartbeats 1000000 in
/-- What the body stores in case A (the first point of the grid), output by output and then the scratch, as pieces with the last first; and that
    it runs from the inputs at their contents, the HBM operands at theirs and its cells at zero, and gives them back so. -/
noncomputable def kernelRun0_A (c : Dev nD) (i : grid0.Coords) (arg1 : Memref sig .tc .vmem S256x1024 .f32) (harg1 : arg1.IsWhole) (arg2 : Memref sig .tc .vmem S256x5632 .f32) (harg2 : arg2.IsWhole) (arg3 : Memref sig .tc .vmem S8x2816 .f32) (harg3 : arg3.IsWhole) (arg5 : Memref sig .tc .vmem S3x2816 .f32) (harg5 : arg5.IsWhole) (arg7 : Memref sig .tc .vmem S256x1024 .f32) (harg7 : arg7.IsWhole) (arg8 : Memref sig .tc .vmem S1x1024 .f32) (harg8 : arg8.IsWhole) (arg9 : Memref sig .tc .vmem S256x5632 .bf16) (harg9 : arg9.IsWhole) (arg10 : Memref sig .tc .vmem S8x2816 .f32) (harg10 : arg10.IsWhole) (arg11 : Memref sig .tc .vmem S256x1024 .f32) (harg11 : arg11.IsWhole) (arg12 : Memref sig .tc .vmem S8x1024 .f32) (harg12 : arg12.IsWhole) (arg13 : Memref sig .tc .vmem S8x1024 .f32) (harg13 : arg13.IsWhole) (arg14 : Memref sig .tc .vmem S2816x1024 .bf16) (harg14 : arg14.IsWhole) (arg15 : Memref sig .tc .vmem S1024x5632 .bf16) (harg15 : arg15.IsWhole) (arg16 : Memref sig .tc .vmem S8x2816 .f32) (harg16 : arg16.IsWhole) (hc0 : cond0_0 i) (hc1 : cond0_1 i)
    (x0 : Vec F S256x1024 .f32) (x1 : Vec F S256x5632 .f32) (x2 : Vec F S8x2816 .f32) (x3 : Vec F S3x2816 .f32) (x4 : Vec F S256x1024 .f32) (x5 : Vec F S1x1024 .f32) (fh0 : HbBuf0 (F := F) c hbM0_0) (fh1 : HbBuf0 (F := F) c hbM0_1) :
    Σ' (L6 : List (View.Piece (Elt F) S256x5632 .bf16)), Σ' (L7 : List (View.Piece (Elt F) S8x2816 .f32)), Σ' (L8 : List (View.Piece (Elt F) S256x1024 .f32)), Σ' (L9 : List (View.Piece (Elt F) S8x1024 .f32)), Σ' (L10 : List (View.Piece (Elt F) S8x1024 .f32)), Σ' (LS0 : List (View.Piece (Elt F) S2816x1024 .bf16)), Σ' (LS1 : List (View.Piece (Elt F) S1024x5632 .bf16)), { LS2 : List (View.Piece (Elt F) S8x2816 .f32) //
      ∀ (W : Waits sig Unit) (K : PUnit → sProp 𝕄),
        iprop(owns (c : Thread nD τ) arg1 fullShare x0 ∗ owns (c : Thread nD τ) arg2 fullShare x1 ∗ owns (c : Thread nD τ) arg3 fullShare x2 ∗ owns (c : Thread nD τ) arg5 fullShare x3 ∗ owns (c : Thread nD τ) arg7 fullShare x4 ∗ owns (c : Thread nD τ) arg8 fullShare x5 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ hbPt0 c hbM0_0 fh0 ∗ hbPt0 c hbM0_1 fh1 ∗ owes (c : Thread nD τ) 0 W
            ∗ (iprop(owns (c : Thread nD τ) arg1 fullShare x0 ∗ owns (c : Thread nD τ) arg2 fullShare x1 ∗ owns (c : Thread nD τ) arg3 fullShare x2 ∗ owns (c : Thread nD τ) arg5 fullShare x3 ∗ owns (c : Thread nD τ) arg7 fullShare x4 ∗ owns (c : Thread nD τ) arg8 fullShare x5 ∗ (∃ f, arg9.view.loc (c : Thread nD τ) ↦[arg9.view.set]{fullShare} arg9.view.writes (Elt F) f L6) ∗ (∃ f, arg10.view.loc (c : Thread nD τ) ↦[arg10.view.set]{fullShare} arg10.view.writes (Elt F) f L7) ∗ (∃ f, arg11.view.loc (c : Thread nD τ) ↦[arg11.view.set]{fullShare} arg11.view.writes (Elt F) f L8) ∗ (∃ f, arg12.view.loc (c : Thread nD τ) ↦[arg12.view.set]{fullShare} arg12.view.writes (Elt F) f L9) ∗ (∃ f, arg13.view.loc (c : Thread nD τ) ↦[arg13.view.set]{fullShare} arg13.view.writes (Elt F) f L10) ∗ (∃ f, arg14.view.loc (c : Thread nD τ) ↦[arg14.view.set]{fullShare} arg14.view.writes (Elt F) f LS0) ∗ (∃ f, arg15.view.loc (c : Thread nD τ) ↦[arg15.view.set]{fullShare} arg15.view.writes (Elt F) f LS1) ∗ (∃ f, arg16.view.loc (c : Thread nD τ) ↦[arg16.view.set]{fullShare} arg16.view.writes (Elt F) f LS2) ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ hbPt0 c hbM0_0 fh0 ∗ hbPt0 c hbM0_1 fh1 ∗ (∃ W', owes (c : Thread nD τ) 0 W')) -∗ K ⟨⟩))
          ⊢ wp frame (wpE (defs₀ (F := F)) Variants.none c none) Set.univ (cc0_ffn_bwd0 i arg1 harg1 arg2 harg2 arg3 harg3 (Memref.whole main_arg2) (Memref.isWhole_whole _) arg5 harg5 (Memref.whole main_arg4) (Memref.isWhole_whole _) arg7 harg7 arg8 harg8 arg9 harg9 arg10 harg10 arg11 harg11 arg12 harg12 arg13 harg13 arg14 harg14 arg15 harg15 arg16 harg16 cc0_scratch3) K } := by
  refine ⟨?_, ?_, ?_, ?_, ?_, ?_, ?_, ?_, fun W K => ?run⟩
  case run =>
    simp only [cc0_ffn_bwd0_eq_skeleton]; unfold cc0_ffn_bwd0_skel
    simp only [k0_part4_eq_skeleton, k0_part1_eq_skeleton, k0_part2_eq_skeleton, k0_part3_eq_skeleton, k0_part5_eq_skeleton, k0_part6_eq_skeleton, k0_part7_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%d10, %f10, -, H10⟩, ⟨%ds0, %fs0, -, HS0⟩, ⟨%ds1, %fs1, -, HS1⟩, ⟨%ds2, %fs2, -, HS2⟩, Hq0, Hq1, Hq2, Hq3, Hq4, Hq5, Hq6, Hq7, Hq8, Hh0, Hh1, HW, Hk⟩
    obtain rfl := harg1.eq_unread hf0; obtain rfl := harg2.eq_unread hf1; obtain rfl := harg3.eq_unread hf2; obtain rfl := harg5.eq_unread hf3; obtain rfl := harg7.eq_unread hf4; obtain rfl := harg8.eq_unread hf5
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg5.read_unread _
      iexact H3
    isplitl [H4]
    · iexists _; isplitr; · ipureintro; exact harg7.read_unread _
      iexact H4
    isplitl [H5]
    · iexists _; isplitr; · ipureintro; exact harg8.read_unread _
      iexact H5
    isplitl [H6]; · iexists _; iexact H6
    isplitl [H7]; · iexists _; iexact H7
    isplitl [H8]; · iexists _; iexact H8
    isplitl [H9]; · iexists _; iexact H9
    isplitl [H10]; · iexists _; iexact H10
    isplitl [HS0]; · iexists _; iexact HS0
    isplitl [HS1]; · iexists _; iexact HS1
    isplitl [HS2]; · iexists _; iexact HS2
    isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Hq8]; · iexact Hq8
    isplitl [Hh0]; · iexact Hh0
    isplitl [Hh1]; · iexact Hh1
    iexists _; iexact HW

end Cert.FKernelIdeal.Gen

end
-- ==== Proof.FfRunB.lean ====
/-
  The run of the gated ConvFFN's backward kernel at every later grid point: the generated module's text.
-/
module

public import proofs.«01_k».proof.Proof.FfRunA

@[expose] public section

set_option maxRecDepth 16384

noncomputable section

namespace Cert.FKernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option maxHeartbeats 1200000 in
/-- What the body stores in case B (every later point: the scratch as the point before left it), output by output and then the scratch, as pieces with the last first; and that
    it runs from the inputs at their contents, the HBM operands at theirs and its cells at zero, and gives them back so. -/
noncomputable def kernelRun0_B (c : Dev nD) (i : grid0.Coords) (arg1 : Memref sig .tc .vmem S256x1024 .f32) (harg1 : arg1.IsWhole) (arg2 : Memref sig .tc .vmem S256x5632 .f32) (harg2 : arg2.IsWhole) (arg3 : Memref sig .tc .vmem S8x2816 .f32) (harg3 : arg3.IsWhole) (arg5 : Memref sig .tc .vmem S3x2816 .f32) (harg5 : arg5.IsWhole) (arg7 : Memref sig .tc .vmem S256x1024 .f32) (harg7 : arg7.IsWhole) (arg8 : Memref sig .tc .vmem S1x1024 .f32) (harg8 : arg8.IsWhole) (arg9 : Memref sig .tc .vmem S256x5632 .bf16) (harg9 : arg9.IsWhole) (arg10 : Memref sig .tc .vmem S8x2816 .f32) (harg10 : arg10.IsWhole) (arg11 : Memref sig .tc .vmem S256x1024 .f32) (harg11 : arg11.IsWhole) (arg12 : Memref sig .tc .vmem S8x1024 .f32) (harg12 : arg12.IsWhole) (arg13 : Memref sig .tc .vmem S8x1024 .f32) (harg13 : arg13.IsWhole) (arg14 : Memref sig .tc .vmem S2816x1024 .bf16) (harg14 : arg14.IsWhole) (arg15 : Memref sig .tc .vmem S1024x5632 .bf16) (harg15 : arg15.IsWhole) (arg16 : Memref sig .tc .vmem S8x2816 .f32) (harg16 : arg16.IsWhole) (hc0 : ¬cond0_0 i) (hc1 : ¬cond0_1 i)
    (x0 : Vec F S256x1024 .f32) (x1 : Vec F S256x5632 .f32) (x2 : Vec F S8x2816 .f32) (x3 : Vec F S3x2816 .f32) (x4 : Vec F S256x1024 .f32) (x5 : Vec F S1x1024 .f32) (xo7 : Vec F S8x2816 .f32) (xo9 : Vec F S8x1024 .f32) (xo10 : Vec F S8x1024 .f32) (xs0 : Vec F S2816x1024 .bf16) (xs1 : Vec F S1024x5632 .bf16) (xs2 : Vec F S8x2816 .f32) (fh0 : HbBuf0 (F := F) c hbM0_0) (fh1 : HbBuf0 (F := F) c hbM0_1) :
    Σ' (L6 : List (View.Piece (Elt F) S256x5632 .bf16)), Σ' (L7 : List (View.Piece (Elt F) S8x2816 .f32)), Σ' (L8 : List (View.Piece (Elt F) S256x1024 .f32)), Σ' (L9 : List (View.Piece (Elt F) S8x1024 .f32)), Σ' (L10 : List (View.Piece (Elt F) S8x1024 .f32)), Σ' (LS0 : List (View.Piece (Elt F) S2816x1024 .bf16)), Σ' (LS1 : List (View.Piece (Elt F) S1024x5632 .bf16)), { LS2 : List (View.Piece (Elt F) S8x2816 .f32) //
      ∀ (W : Waits sig Unit) (K : PUnit → sProp 𝕄),
        iprop(owns (c : Thread nD τ) arg1 fullShare x0 ∗ owns (c : Thread nD τ) arg2 fullShare x1 ∗ owns (c : Thread nD τ) arg3 fullShare x2 ∗ owns (c : Thread nD τ) arg5 fullShare x3 ∗ owns (c : Thread nD τ) arg7 fullShare x4 ∗ owns (c : Thread nD τ) arg8 fullShare x5 ∗ (∃ d, owns (c : Thread nD τ) arg9 fullShare d) ∗ owns (c : Thread nD τ) arg10 fullShare xo7 ∗ (∃ d, owns (c : Thread nD τ) arg11 fullShare d) ∗ owns (c : Thread nD τ) arg12 fullShare xo9 ∗ owns (c : Thread nD τ) arg13 fullShare xo10 ∗ owns (c : Thread nD τ) arg14 fullShare xs0 ∗ owns (c : Thread nD τ) arg15 fullShare xs1 ∗ owns (c : Thread nD τ) arg16 fullShare xs2 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ hbPt0 c hbM0_0 fh0 ∗ hbPt0 c hbM0_1 fh1 ∗ owes (c : Thread nD τ) 0 W
            ∗ (iprop(owns (c : Thread nD τ) arg1 fullShare x0 ∗ owns (c : Thread nD τ) arg2 fullShare x1 ∗ owns (c : Thread nD τ) arg3 fullShare x2 ∗ owns (c : Thread nD τ) arg5 fullShare x3 ∗ owns (c : Thread nD τ) arg7 fullShare x4 ∗ owns (c : Thread nD τ) arg8 fullShare x5 ∗ (∃ f, arg9.view.loc (c : Thread nD τ) ↦[arg9.view.set]{fullShare} arg9.view.writes (Elt F) f L6) ∗ (arg10.view.loc (c : Thread nD τ) ↦[arg10.view.set]{fullShare} arg10.view.writes (Elt F) (harg10.unread xo7) L7) ∗ (∃ f, arg11.view.loc (c : Thread nD τ) ↦[arg11.view.set]{fullShare} arg11.view.writes (Elt F) f L8) ∗ (arg12.view.loc (c : Thread nD τ) ↦[arg12.view.set]{fullShare} arg12.view.writes (Elt F) (harg12.unread xo9) L9) ∗ (arg13.view.loc (c : Thread nD τ) ↦[arg13.view.set]{fullShare} arg13.view.writes (Elt F) (harg13.unread xo10) L10) ∗ owns (c : Thread nD τ) arg14 fullShare xs0 ∗ owns (c : Thread nD τ) arg15 fullShare xs1 ∗ (∃ f, arg16.view.loc (c : Thread nD τ) ↦[arg16.view.set]{fullShare} arg16.view.writes (Elt F) f LS2) ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ hbPt0 c hbM0_0 fh0 ∗ hbPt0 c hbM0_1 fh1 ∗ (∃ W', owes (c : Thread nD τ) 0 W')) -∗ K ⟨⟩))
          ⊢ wp frame (wpE (defs₀ (F := F)) Variants.none c none) Set.univ (cc0_ffn_bwd0 i arg1 harg1 arg2 harg2 arg3 harg3 (Memref.whole main_arg2) (Memref.isWhole_whole _) arg5 harg5 (Memref.whole main_arg4) (Memref.isWhole_whole _) arg7 harg7 arg8 harg8 arg9 harg9 arg10 harg10 arg11 harg11 arg12 harg12 arg13 harg13 arg14 harg14 arg15 harg15 arg16 harg16 cc0_scratch3) K } := by
  refine ⟨?_, ?_, ?_, ?_, ?_, [], [], ?_, fun W K => ?run⟩
  case run =>
    simp only [cc0_ffn_bwd0_eq_skeleton]; unfold cc0_ffn_bwd0_skel
    simp only [k0_part4_eq_skeleton, k0_part5_eq_skeleton, k0_part6_eq_skeleton, k0_part7_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%d8, %f8, -, H8⟩, ⟨%f9, %hf9, H9⟩, ⟨%f10, %hf10, H10⟩, ⟨%fs0, %hfs0, HS0⟩, ⟨%fs1, %hfs1, HS1⟩, ⟨%fs2, %hfs2, HS2⟩, Hq0, Hq1, Hq2, Hq3, Hq4, Hq5, Hq6, Hq7, Hq8, Hh0, Hh1, HW, Hk⟩
    obtain rfl := harg1.eq_unread hf0; obtain rfl := harg2.eq_unread hf1; obtain rfl := harg3.eq_unread hf2; obtain rfl := harg5.eq_unread hf3; obtain rfl := harg7.eq_unread hf4; obtain rfl := harg8.eq_unread hf5; obtain rfl := harg10.eq_unread hf7; obtain rfl := harg12.eq_unread hf9; obtain rfl := harg13.eq_unread hf10; obtain rfl := harg14.eq_unread hfs0; obtain rfl := harg15.eq_unread hfs1; obtain rfl := harg16.eq_unread hfs2
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg5.read_unread _
      iexact H3
    isplitl [H4]
    · iexists _; isplitr; · ipureintro; exact harg7.read_unread _
      iexact H4
    isplitl [H5]
    · iexists _; isplitr; · ipureintro; exact harg8.read_unread _
      iexact H5
    isplitl [H6]; · iexists _; iexact H6
    isplitl [H7]; · iexact H7
    isplitl [H8]; · iexists _; iexact H8
    isplitl [H9]; · iexact H9
    isplitl [H10]; · iexact H10
    isplitl [HS0]
    · iexists _; isplitr; · ipureintro; exact harg14.read_unread _
      iexact HS0
    isplitl [HS1]
    · iexists _; isplitr; · ipureintro; exact harg15.read_unread _
      iexact HS1
    isplitl [HS2]; · iexists _; iexact HS2
    isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Hq8]; · iexact Hq8
    isplitl [Hh0]; · iexact Hh0
    isplitl [Hh1]; · iexact Hh1
    iexists _; iexact HW

end Cert.FKernelIdeal.Gen

end
-- ==== Proof.FfRun.lean ====
/-
  The run of the gated ConvFFN's backward kernel, point after point: the generated module's text, with the two equations
  that say what a grid point leaves given more time.
-/
module

public import proofs.«01_k».proof.Proof.FfRunB
public import Idealize.ShloMosaic.Lib.Claim

@[expose] public section

set_option maxRecDepth 16384
set_option maxHeartbeats 4000000

noncomputable section

namespace Cert.FKernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)
/-- What a point leaves: the outputs in window order, then the scratch. -/
abbrev Outs (F : FTy → Type) [FloatOps F] : Type := Vec F S256x5632 .bf16 × Vec F S8x2816 .f32 × Vec F S256x1024 .f32 × Vec F S8x1024 .f32 × Vec F S8x1024 .f32 × Vec F S2816x1024 .bf16 × Vec F S1024x5632 .bf16 × Vec F S8x2816 .f32

section CaseA
variable (c : Dev nD) (t : Fin cfg0.N) (hc0 : cond0_0 (grid0.coords t)) (hc1 : cond0_1 (grid0.coords t))

/-- The run of case A at point `t`. -/
abbrev runA :=
  kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) hc0 hc1 (iblk m c 0 t) (iblk m c 1 t) (iblk m c 2 t) (iblk m c 3 t) (iblk m c 4 t) (iblk m c 5 t) (V m c main_arg2) (V m c main_arg4)

/-- Case A's pieces for output 6 tile its block, so they cover it. -/
theorem cover0_A_6 (y : S256x5632.Idx) :
    ∃ pc ∈ (runA m c t hc0 hc1).1, y ∈ pc.1.set :=
  View.cover_of_tiledL (runA m c t hc0 hc1).1 S256x2816.size (by sl_kernel_rfl) y

/-- What case A leaves in output 6's staging buffer: its pieces read back over junk. -/
def out0_A_6 : Vec F S256x5632 .bf16 :=
  VO0_6.read (Elt F) (VO0_6.writes (Elt F) VO0_6.junk (runA m c t hc0 hc1).1)

/-- Case A's pieces for output 7 are of SEVERAL sizes (4 stores of `S1x2816`, `S8x2816`): cut into blocks of `![1, 2816]` they tile its block, so they cover it. -/
theorem cover0_A_7 (y : S8x2816.Idx) :
    ∃ pc ∈ (runA m c t hc0 hc1).2.1, y ∈ pc.1.set :=
  View.cover_of_tiledBy (runA m c t hc0 hc1).2.1 ![1, 2816] (by sl_kernel_rfl) y

/-- What case A leaves in output 7's staging buffer: its pieces read back over junk. -/
def out0_A_7 : Vec F S8x2816 .f32 :=
  VO0_7.read (Elt F) (VO0_7.writes (Elt F) VO0_7.junk (runA m c t hc0 hc1).2.1)

/-- Case A's pieces for output 8 tile its block, so they cover it. -/
theorem cover0_A_8 (y : S256x1024.Idx) :
    ∃ pc ∈ (runA m c t hc0 hc1).2.2.1, y ∈ pc.1.set :=
  View.cover_of_tiledL (runA m c t hc0 hc1).2.2.1 S256x1024.size (by sl_kernel_rfl) y

/-- What case A leaves in output 8's staging buffer: its pieces read back over junk. -/
def out0_A_8 : Vec F S256x1024 .f32 :=
  VO0_8.read (Elt F) (VO0_8.writes (Elt F) VO0_8.junk (runA m c t hc0 hc1).2.2.1)

/-- Case A's pieces for output 9 are of SEVERAL sizes (2 stores of `S1x1024`, `S8x1024`): cut into blocks of `![1, 1024]` they tile its block, so they cover it. -/
theorem cover0_A_9 (y : S8x1024.Idx) :
    ∃ pc ∈ (runA m c t hc0 hc1).2.2.2.1, y ∈ pc.1.set :=
  View.cover_of_tiledBy (runA m c t hc0 hc1).2.2.2.1 ![1, 1024] (by sl_kernel_rfl) y

/-- What case A leaves in output 9's staging buffer: its pieces read back over junk. -/
def out0_A_9 : Vec F S8x1024 .f32 :=
  VO0_9.read (Elt F) (VO0_9.writes (Elt F) VO0_9.junk (runA m c t hc0 hc1).2.2.2.1)

/-- Case A's pieces for output 10 are of SEVERAL sizes (2 stores of `S1x1024`, `S8x1024`): cut into blocks of `![1, 1024]` they tile its block, so they cover it. -/
theorem cover0_A_10 (y : S8x1024.Idx) :
    ∃ pc ∈ (runA m c t hc0 hc1).2.2.2.2.1, y ∈ pc.1.set :=
  View.cover_of_tiledBy (runA m c t hc0 hc1).2.2.2.2.1 ![1, 1024] (by sl_kernel_rfl) y

/-- What case A leaves in output 10's staging buffer: its pieces read back over junk. -/
def out0_A_10 : Vec F S8x1024 .f32 :=
  VO0_10.read (Elt F) (VO0_10.writes (Elt F) VO0_10.junk (runA m c t hc0 hc1).2.2.2.2.1)

/-- Case A's pieces for scratch `arg14`, which the kernel carries between points, cover it: 8 pieces of `S352x1024` tiling it. -/
theorem scover0_A_0 (y : S2816x1024.Idx) :
    ∃ pc ∈ (runA m c t hc0 hc1).2.2.2.2.2.1, y ∈ pc.1.set :=
  View.cover_of_tiledL (runA m c t hc0 hc1).2.2.2.2.2.1 S352x1024.size (by sl_kernel_rfl) y

/-- What case A leaves in scratch `arg14`: its pieces read back over junk. -/
def sout0_A_0 : Vec F S2816x1024 .bf16 :=
  VS0_0.read (Elt F) (VS0_0.writes (Elt F) VS0_0.junk (runA m c t hc0 hc1).2.2.2.2.2.1)

/-- Case A's pieces for scratch `arg15`, which the kernel carries between points, cover it: 1 piece of `S1024x5632` tiling it. -/
theorem scover0_A_1 (y : S1024x5632.Idx) :
    ∃ pc ∈ (runA m c t hc0 hc1).2.2.2.2.2.2.1, y ∈ pc.1.set :=
  View.cover_of_tiledL (runA m c t hc0 hc1).2.2.2.2.2.2.1 S1024x5632.size (by sl_kernel_rfl) y

/-- What case A leaves in scratch `arg15`: its pieces read back over junk. -/
def sout0_A_1 : Vec F S1024x5632 .bf16 :=
  VS0_1.read (Elt F) (VS0_1.writes (Elt F) VS0_1.junk (runA m c t hc0 hc1).2.2.2.2.2.2.1)

/-- Case A's pieces for scratch `arg16`, which the kernel carries between points, cover it: 2 pieces of `S8x2816` tiling it. -/
theorem scover0_A_2 (y : S8x2816.Idx) :
    ∃ pc ∈ (runA m c t hc0 hc1).2.2.2.2.2.2.2.1, y ∈ pc.1.set :=
  View.cover_of_tiledL (runA m c t hc0 hc1).2.2.2.2.2.2.2.1 S8x2816.size (by sl_kernel_rfl) y

/-- What case A leaves in scratch `arg16`: its pieces read back over junk. -/
def sout0_A_2 : Vec F S8x2816 .f32 :=
  VS0_2.read (Elt F) (VS0_2.writes (Elt F) VS0_2.junk (runA m c t hc0 hc1).2.2.2.2.2.2.2.1)

/-- What point `t` leaves in case A: the outputs in window order, then the scratch. -/
def leavesA : Outs F :=
  (out0_A_6 m c t hc0 hc1,
    out0_A_7 m c t hc0 hc1,
    out0_A_8 m c t hc0 hc1,
    out0_A_9 m c t hc0 hc1,
    out0_A_10 m c t hc0 hc1,
    sout0_A_0 m c t hc0 hc1,
    sout0_A_1 m c t hc0 hc1,
    sout0_A_2 m c t hc0 hc1)
end CaseA

section CaseB
variable (c : Dev nD) (t : Fin cfg0.N) (hc0 : ¬cond0_0 (grid0.coords t)) (hc1 : ¬cond0_1 (grid0.coords t)) (p : Outs F)

/-- The run of case B at point `t`, over what the point before left. -/
abbrev runB :=
  kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) hc0 hc1 (iblk m c 0 t) (iblk m c 1 t) (iblk m c 2 t) (iblk m c 3 t) (iblk m c 4 t) (iblk m c 5 t) p.2.1 p.2.2.2.1 p.2.2.2.2.1 p.2.2.2.2.2.1 p.2.2.2.2.2.2.1 p.2.2.2.2.2.2.2 (V m c main_arg2) (V m c main_arg4)

/-- Case B's pieces for output 6 tile its block, so they cover it. -/
theorem cover0_B_6 (y : S256x5632.Idx) :
    ∃ pc ∈ (runB m c t hc0 hc1 p).1, y ∈ pc.1.set :=
  View.cover_of_tiledL (runB m c t hc0 hc1 p).1 S256x2816.size (by sl_kernel_rfl) y

/-- What case B leaves in output 6's staging buffer: its pieces read back over junk. -/
def out0_B_6 : Vec F S256x5632 .bf16 :=
  VO0_6.read (Elt F) (VO0_6.writes (Elt F) VO0_6.junk (runB m c t hc0 hc1 p).1)

/-- What case B leaves in output 7's staging buffer: its stores read back over what the point before left there (they do not cover the block). -/
def out0_B_7 : Vec F S8x2816 .f32 :=
  (ms0_7 t).view.read (Elt F) ((ms0_7 t).view.writes (Elt F) ((hs0_7 t).unread p.2.1) (runB m c t hc0 hc1 p).2.1)

/-- Case B's pieces for output 8 tile its block, so they cover it. -/
theorem cover0_B_8 (y : S256x1024.Idx) :
    ∃ pc ∈ (runB m c t hc0 hc1 p).2.2.1, y ∈ pc.1.set :=
  View.cover_of_tiledL (runB m c t hc0 hc1 p).2.2.1 S256x1024.size (by sl_kernel_rfl) y

/-- What case B leaves in output 8's staging buffer: its pieces read back over junk. -/
def out0_B_8 : Vec F S256x1024 .f32 :=
  VO0_8.read (Elt F) (VO0_8.writes (Elt F) VO0_8.junk (runB m c t hc0 hc1 p).2.2.1)

/-- What case B leaves in output 9's staging buffer: its stores read back over what the point before left there (they do not cover the block). -/
def out0_B_9 : Vec F S8x1024 .f32 :=
  (ms0_9 t).view.read (Elt F) ((ms0_9 t).view.writes (Elt F) ((hs0_9 t).unread p.2.2.2.1) (runB m c t hc0 hc1 p).2.2.2.1)

/-- What case B leaves in output 10's staging buffer: its stores read back over what the point before left there (they do not cover the block). -/
def out0_B_10 : Vec F S8x1024 .f32 :=
  (ms0_10 t).view.read (Elt F) ((ms0_10 t).view.writes (Elt F) ((hs0_10 t).unread p.2.2.2.2.1) (runB m c t hc0 hc1 p).2.2.2.2.1)

/-- Case B stores nothing into scratch `arg14`: it holds what the point before left. -/
def sout0_B_0 : Vec F S2816x1024 .bf16 := p.2.2.2.2.2.1

/-- Case B stores nothing into scratch `arg15`: it holds what the point before left. -/
def sout0_B_1 : Vec F S1024x5632 .bf16 := p.2.2.2.2.2.2.1

/-- Case B's pieces for scratch `arg16`, which the kernel carries between points, cover it: 1 piece of `S8x2816` tiling it. -/
theorem scover0_B_2 (y : S8x2816.Idx) :
    ∃ pc ∈ (runB m c t hc0 hc1 p).2.2.2.2.2.2.2.1, y ∈ pc.1.set :=
  View.cover_of_tiledL (runB m c t hc0 hc1 p).2.2.2.2.2.2.2.1 S8x2816.size (by sl_kernel_rfl) y

/-- What case B leaves in scratch `arg16`: its pieces read back over junk. -/
def sout0_B_2 : Vec F S8x2816 .f32 :=
  VS0_2.read (Elt F) (VS0_2.writes (Elt F) VS0_2.junk (runB m c t hc0 hc1 p).2.2.2.2.2.2.2.1)

/-- What point `t` leaves in case B: the outputs in window order, then the scratch. -/
def leavesB : Outs F :=
  (out0_B_6 m c t hc0 hc1 p,
    out0_B_7 m c t hc0 hc1 p,
    out0_B_8 m c t hc0 hc1 p,
    out0_B_9 m c t hc0 hc1 p,
    out0_B_10 m c t hc0 hc1 p,
    sout0_B_0 p,
    sout0_B_1 p,
    sout0_B_2 m c t hc0 hc1 p)
end CaseB

/-! ## What the outputs hold after each point -/

/-- What the points up to `n` leave: at each point the case its conditions select, over what the point before left. -/
def outsAt0 (c : Dev nD) : (n : ℕ) → n < cfg0.N → Outs F
  | 0, hn => leavesA m c ⟨0, hn⟩ ((hcond0_0 ⟨0, hn⟩).mpr (Nat.zero_mod _)) ((hcond0_1 ⟨0, hn⟩).mpr (Nat.zero_mod _))
  | n + 1, hn =>
    if h0 : (n + 1) % 33 = 0 then
      leavesA m c ⟨n + 1, hn⟩ ((hcond0_0 ⟨n + 1, hn⟩).mpr h0) ((hcond0_1 ⟨n + 1, hn⟩).mpr h0)
    else
      leavesB m c ⟨n + 1, hn⟩ (fun h => h0 ((hcond0_0 ⟨n + 1, hn⟩).mp h)) (fun h => h0 ((hcond0_1 ⟨n + 1, hn⟩).mp h))
        (outsAt0 c n (Nat.lt_of_succ_lt hn))

theorem outsAt0_A (c : Dev nD) (t : Fin cfg0.N) (h0 : t.val % 33 = 0) (h1 : t.val % 33 = 0) :
    outsAt0 m c t.val t.isLt = leavesA m c t ((hcond0_0 t).mpr h0) ((hcond0_1 t).mpr h1) := by
  obtain ⟨n, hn⟩ := t
  cases n with
  | zero => exact rfl
  | succ n => exact dif_pos h0

theorem outsAt0_B (c : Dev nD) (t : Fin cfg0.N) (h0 : ¬t.val % 33 = 0) (h1 : ¬t.val % 33 = 0) :
    outsAt0 m c t.val t.isLt = leavesB m c t (fun h => h0 ((hcond0_0 t).mp h)) (fun h => h1 ((hcond0_1 t).mp h))
      (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact dif_neg h0

/-- What a point that leaves `o` hands on: the carried scratch at that, the register, the cells at zero, the operands. -/
def keep (c : Dev nD) (o : Outs F) : sProp 𝕄 :=
  iprop(iprop(owns (c : Thread nD τ) scM0_0 fullShare (o.2.2.2.2.2.1) ∗ owns (c : Thread nD τ) scM0_1 fullShare (o.2.2.2.2.2.2.1) ∗ owns (c : Thread nD τ) scM0_2 fullShare (o.2.2.2.2.2.2.2)) ∗ (∃ r, prngReg c r) ∗ iprop(semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0) ∗ iprop(hbPt0 c hbM0_0 (V m c main_arg2) ∗ hbPt0 c hbM0_1 (V m c main_arg4)))

/-- The invariant before position `n`: before the first point the launch's, afterwards what the point before hands on. -/
def PhiS (c : Dev nD) : (n : ℕ) → n ≤ cfg0.N → sProp 𝕄
  | 0, _ => Pipeline.ΦD osem0 spec0 H0 (V m) c
  | n + 1, hn => keep m c (outsAt0 m c n hn)

theorem PhiS_zero (c : Dev nD) (n : ℕ) (h : n ≤ cfg0.N) (hz : n = 0) : PhiS m c n h = Pipeline.ΦD osem0 spec0 H0 (V m) c := by
  subst hz; rfl

/-- After point `n` (before point `n + 1`): the carried scratch at that point's contents. -/
theorem PhiS_succ (c : Dev nD) (n : ℕ) (hn : n < cfg0.N) :
    PhiS m c (n + 1) hn = keep m c (outsAt0 m c n hn) := rfl

/-- Before a point that is not the first: the carried scratch at what the point before left. -/
theorem PhiS_pos (c : Dev nD) (n : ℕ) (h : n ≤ cfg0.N) (hz : n ≠ 0) :
    PhiS m c n h = keep m c (outsAt0 m c (n - 1) (by omega)) := by
  cases n with
  | zero => exact absurd rfl hz
  | succ n => rfl

/-! ## The pipeline's proof data -/

/-- The proof data: the arrays as the region finds them; after the body each input's buffer at its block and the outputs' at `outsAt0`. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (outsAt0 m c t.val t.isLt).1
    | ⟨7, _⟩ => (outsAt0 m c t.val t.isLt).2.1
    | ⟨8, _⟩ => (outsAt0 m c t.val t.isLt).2.2.1
    | ⟨9, _⟩ => (outsAt0 m c t.val t.isLt).2.2.2.1
    | ⟨10, _⟩ => (outsAt0 m c t.val t.isLt).2.2.2.2.1
  Φ t := PhiS m c t.val (Nat.le_of_lt_succ t.isLt)
  q w := Pipeline.shareOf spec0 w
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = (outsAt0 m c t.val t.isLt).1 := by dsimp only [dats]
theorem after0_7 (c : Dev nD) (t : Fin cfg0.N) : (dats m 0 c).after 7 t = (outsAt0 m c t.val t.isLt).2.1 := by dsimp only [dats]
theorem after0_8 (c : Dev nD) (t : Fin cfg0.N) : (dats m 0 c).after 8 t = (outsAt0 m c t.val t.isLt).2.2.1 := by dsimp only [dats]
theorem after0_9 (c : Dev nD) (t : Fin cfg0.N) : (dats m 0 c).after 9 t = (outsAt0 m c t.val t.isLt).2.2.2.1 := by dsimp only [dats]
theorem after0_10 (c : Dev nD) (t : Fin cfg0.N) : (dats m 0 c).after 10 t = (outsAt0 m c t.val t.isLt).2.2.2.2.1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
/-- At a point of case B output 7's current staging buffer holds what the body left at the point before: the point is
    not the first, the buffer was not written back between (`flush0_7`), the window is live and uncut (Lib/Pipeline/Frame.lean
    `Dat.before_out_kept`). -/
theorem before0_7_B (c : Dev nD) (t : Fin cfg0.N) (h0 : ¬t.val % 33 = 0) (h1 : ¬t.val % 33 = 0) (d) :
    (dats m 0 c).before 7 t d = (outsAt0 m c (t.val - 1) (Nat.lt_of_le_of_lt (Nat.sub_le _ _) t.isLt)).2.1 := by
  have hN : t.val < 33 := lt_of_lt_of_eq t.isLt (show cfg0.N = 33 from N_0)
  rw [Dat.before_out_kept _ 7 rfl t (by omega) (Bool.eq_false_iff.mpr fun h => by have := (flush0_7 _).mp h; dsimp only at this; omega)
    (fun _ => rfl) (fun _ _ => rfl)]
  dsimp only [dats]
/-- At a point of case B output 9's current staging buffer holds what the body left at the point before: the point is
    not the first, the buffer was not written back between (`flush0_9`), the window is live and uncut (Lib/Pipeline/Frame.lean
    `Dat.before_out_kept`). -/
theorem before0_9_B (c : Dev nD) (t : Fin cfg0.N) (h0 : ¬t.val % 33 = 0) (h1 : ¬t.val % 33 = 0) (d) :
    (dats m 0 c).before 9 t d = (outsAt0 m c (t.val - 1) (Nat.lt_of_le_of_lt (Nat.sub_le _ _) t.isLt)).2.2.2.1 := by
  have hN : t.val < 33 := lt_of_lt_of_eq t.isLt (show cfg0.N = 33 from N_0)
  rw [Dat.before_out_kept _ 9 rfl t (by omega) (Bool.eq_false_iff.mpr fun h => by have := (flush0_9 _).mp h; dsimp only at this; omega)
    (fun _ => rfl) (fun _ _ => rfl)]
  dsimp only [dats]
/-- At a point of case B output 10's current staging buffer holds what the body left at the point before: the point is
    not the first, the buffer was not written back between (`flush0_10`), the window is live and uncut (Lib/Pipeline/Frame.lean
    `Dat.before_out_kept`). -/
theorem before0_10_B (c : Dev nD) (t : Fin cfg0.N) (h0 : ¬t.val % 33 = 0) (h1 : ¬t.val % 33 = 0) (d) :
    (dats m 0 c).before 10 t d = (outsAt0 m c (t.val - 1) (Nat.lt_of_le_of_lt (Nat.sub_le _ _) t.isLt)).2.2.2.2.1 := by
  have hN : t.val < 33 := lt_of_lt_of_eq t.isLt (show cfg0.N = 33 from N_0)
  rw [Dat.before_out_kept _ 10 rfl t (by omega) (Bool.eq_false_iff.mpr fun h => by have := (flush0_10 _).mp h; dsimp only at this; omega)
    (fun _ => rfl) (fun _ _ => rfl)]
  dsimp only [dats]

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t))

set_option maxHeartbeats 9600000 in
/-- The body at any point: the run of the case the point is in, from what the point before left to what this one leaves. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = PhiS m c (t.val + 1) t.isLt from rfl, PhiS_succ, keep,
    after0_0, after0_1, after0_2, after0_3, after0_4, after0_5, after0_6, after0_7, after0_8, after0_9, after0_10]
  unfold Dat.owesAt Pipeline.owesWithin
  rw [show (dats m 0 c).owed t.castSucc = 0 from rfl, show (dats m 0 c).owed t.succ = 0 from rfl]
  have hN : t.val < 33 := lt_of_lt_of_eq t.isLt (show cfg0.N = 33 from N_0)
  by_cases h0 : t.val % 33 = 0
  · by_cases h1 : t.val % 33 = 0
    · by_cases hz : t.val = 0
      · rw [PhiS_castSucc m c t, PhiS_zero m c _ _ hz, PhiD0_eq]
        rw [outsAt0_A m c t h0 h1]; unfold leavesA
        unfold out0_A_6 out0_A_7 out0_A_8 out0_A_9 out0_A_10 sout0_A_0 sout0_A_1 sout0_A_2; (try dsimp only)
        iintro ⟨⟨⟨HS0, HS1, HS2⟩, Hg, ⟨Hq0, Hq1, Hq2, Hq3, Hq4, Hq5, Hq6, Hq7, Hq8⟩, ⟨Hh0, Hh1⟩⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
        iapply ((runA m c t ((hcond0_0 t).mpr h0) ((hcond0_1 t).mpr h1)).2.2.2.2.2.2.2.2 W _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [H7]; · iexists _; iexact H7
        isplitl [H8]; · iexists _; iexact H8
        isplitl [H9]; · iexists _; iexact H9
        isplitl [H10]; · iexists _; iexact H10
        isplitl [HS0]; · iexact HS0
        isplitl [HS1]; · iexact HS1
        isplitl [HS2]; · iexact HS2
        isplitl [Hq0]; · iexact Hq0
        isplitl [Hq1]; · iexact Hq1
        isplitl [Hq2]; · iexact Hq2
        isplitl [Hq3]; · iexact Hq3
        isplitl [Hq4]; · iexact Hq4
        isplitl [Hq5]; · iexact Hq5
        isplitl [Hq6]; · iexact Hq6
        isplitl [Hq7]; · iexact Hq7
        isplitl [Hq8]; · iexact Hq8
        isplitl [Hh0]; · iexact Hh0
        isplitl [Hh1]; · iexact Hh1
        isplitl [HW]; · iexact HW
        iintro ⟨H0, H1, H2, H3, H4, H5, ⟨%e6, H6⟩, ⟨%e7, H7⟩, ⟨%e8, H8⟩, ⟨%e9, H9⟩, ⟨%e10, H10⟩, ⟨%es0, HS0⟩, ⟨%es1, HS1⟩, ⟨%es2, HS2⟩, Hq0, Hq1, Hq2, Hq3, Hq4, Hq5, Hq6, Hq7, Hq8, Hh0, Hh1, ⟨%W', HW'⟩⟩
        isplitl [HS0 HS1 HS2 Hg Hq0 Hq1 Hq2 Hq3 Hq4 Hq5 Hq6 Hq7 Hq8 Hh0 Hh1]
        · isplitl [HS0 HS1 HS2]
          · isplitl [HS0]
            · unfold owns; iexists _; isplitr
              swap; · iexact HS0
              ipureintro; exact View.read_writes_of_cover _ _ _ _ _ (scover0_A_0 m c t _ _)
            isplitl [HS1]
            · unfold owns; iexists _; isplitr
              swap; · iexact HS1
              ipureintro; exact View.read_writes_of_cover _ _ _ _ _ (scover0_A_1 m c t _ _)
            unfold owns; iexists _; isplitr
            swap; · iexact HS2
            ipureintro; exact View.read_writes_of_cover _ _ _ _ _ (scover0_A_2 m c t _ _)
          isplitl [Hg]
          · iexact Hg
          isplitl [Hq0 Hq1 Hq2 Hq3 Hq4 Hq5 Hq6 Hq7 Hq8]
          · isplitl [Hq0]; · iexact Hq0
            isplitl [Hq1]; · iexact Hq1
            isplitl [Hq2]; · iexact Hq2
            isplitl [Hq3]; · iexact Hq3
            isplitl [Hq4]; · iexact Hq4
            isplitl [Hq5]; · iexact Hq5
            isplitl [Hq6]; · iexact Hq6
            isplitl [Hq7]; · iexact Hq7
            iexact Hq8
          isplitl [Hh0]; · iexact Hh0
          iexact Hh1
        isplitl [HW']
        · iexists W'; isplitr; · ipureintro; exact fun _ _ => Or.inl trivial
          iexact HW'
        isplitl [H0]; · iexact H0
        isplitl [H1]; · iexact H1
        isplitl [H2]; · iexact H2
        isplitl [H3]; · iexact H3
        isplitl [H4]; · iexact H4
        isplitl [H5]; · iexact H5
        isplitl [H6]
        · unfold owns; iexists _; isplitr
          swap; · iexact H6
          ipureintro; exact View.read_writes_of_cover _ _ _ _ _ (cover0_A_6 m c t _ _)
        isplitl [H7]
        · unfold owns; iexists _; isplitr
          swap; · iexact H7
          ipureintro; exact View.read_writes_of_cover _ _ _ _ _ (cover0_A_7 m c t _ _)
        isplitl [H8]
        · unfold owns; iexists _; isplitr
          swap; · iexact H8
          ipureintro; exact View.read_writes_of_cover _ _ _ _ _ (cover0_A_8 m c t _ _)
        isplitl [H9]
        · unfold owns; iexists _; isplitr
          swap; · iexact H9
          ipureintro; exact View.read_writes_of_cover _ _ _ _ _ (cover0_A_9 m c t _ _)
        unfold owns; iexists _; isplitr
        swap; · iexact H10
        ipureintro; exact View.read_writes_of_cover _ _ _ _ _ (cover0_A_10 m c t _ _)
      · exfalso; have hN : t.val < 33 := lt_of_lt_of_eq t.isLt (show cfg0.N = 33 from N_0); omega
    · exfalso; omega
  · by_cases h1 : t.val % 33 = 0
    · exfalso; omega
    · by_cases hz : t.val = 0
      · exfalso; have hN : t.val < 33 := lt_of_lt_of_eq t.isLt (show cfg0.N = 33 from N_0); omega
      · rw [PhiS_castSucc m c t, PhiS_pos m c _ _ hz, keep]
        rw [outsAt0_B m c t h0 h1]; unfold leavesB
        simp only [before0_7_B m c t h0 h1, before0_9_B m c t h0 h1, before0_10_B m c t h0 h1]
        unfold out0_B_6 out0_B_7 out0_B_8 out0_B_9 out0_B_10 sout0_B_0 sout0_B_1 sout0_B_2; (try dsimp only)
        iintro ⟨⟨⟨HS0, HS1, HS2⟩, Hg, ⟨Hq0, Hq1, Hq2, Hq3, Hq4, Hq5, Hq6, Hq7, Hq8⟩, ⟨Hh0, Hh1⟩⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
        iapply ((runB m c t (fun h => h0 ((hcond0_0 t).mp h)) (fun h => h1 ((hcond0_1 t).mp h)) (outsAt0 m c (t.val - 1) (by omega))).2.2.2.2.2.2.2.2 W _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [H7]; · iexact H7
        isplitl [H8]; · iexists _; iexact H8
        isplitl [H9]; · iexact H9
        isplitl [H10]; · iexact H10
        isplitl [HS0]; · iexact HS0
        isplitl [HS1]; · iexact HS1
        isplitl [HS2]; · iexact HS2
        isplitl [Hq0]; · iexact Hq0
        isplitl [Hq1]; · iexact Hq1
        isplitl [Hq2]; · iexact Hq2
        isplitl [Hq3]; · iexact Hq3
        isplitl [Hq4]; · iexact Hq4
        isplitl [Hq5]; · iexact Hq5
        isplitl [Hq6]; · iexact Hq6
        isplitl [Hq7]; · iexact Hq7
        isplitl [Hq8]; · iexact Hq8
        isplitl [Hh0]; · iexact Hh0
        isplitl [Hh1]; · iexact Hh1
        isplitl [HW]; · iexact HW
        iintro ⟨H0, H1, H2, H3, H4, H5, ⟨%e6, H6⟩, H7, ⟨%e8, H8⟩, H9, H10, HS0, HS1, ⟨%es2, HS2⟩, Hq0, Hq1, Hq2, Hq3, Hq4, Hq5, Hq6, Hq7, Hq8, Hh0, Hh1, ⟨%W', HW'⟩⟩
        isplitl [HS0 HS1 HS2 Hg Hq0 Hq1 Hq2 Hq3 Hq4 Hq5 Hq6 Hq7 Hq8 Hh0 Hh1]
        · isplitl [HS0 HS1 HS2]
          · isplitl [HS0]; · iexact HS0
            isplitl [HS1]; · iexact HS1
            unfold owns; iexists _; isplitr
            swap; · iexact HS2
            ipureintro; exact View.read_writes_of_cover _ _ _ _ _ (scover0_B_2 m c t _ _ _)
          isplitl [Hg]
          · iexact Hg
          isplitl [Hq0 Hq1 Hq2 Hq3 Hq4 Hq5 Hq6 Hq7 Hq8]
          · isplitl [Hq0]; · iexact Hq0
            isplitl [Hq1]; · iexact Hq1
            isplitl [Hq2]; · iexact Hq2
            isplitl [Hq3]; · iexact Hq3
            isplitl [Hq4]; · iexact Hq4
            isplitl [Hq5]; · iexact Hq5
            isplitl [Hq6]; · iexact Hq6
            isplitl [Hq7]; · iexact Hq7
            iexact Hq8
          isplitl [Hh0]; · iexact Hh0
          iexact Hh1
        isplitl [HW']
        · iexists W'; isplitr; · ipureintro; exact fun _ _ => Or.inl trivial
          iexact HW'
        isplitl [H0]; · iexact H0
        isplitl [H1]; · iexact H1
        isplitl [H2]; · iexact H2
        isplitl [H3]; · iexact H3
        isplitl [H4]; · iexact H4
        isplitl [H5]; · iexact H5
        isplitl [H6]
        · unfold owns; iexists _; isplitr
          swap; · iexact H6
          ipureintro; exact View.read_writes_of_cover _ _ _ _ _ (cover0_B_6 m c t _ _ _)
        isplitl [H7]
        · unfold owns; iexists _; isplitr
          swap; · iexact H7
          ipureintro; rfl
        isplitl [H8]
        · unfold owns; iexists _; isplitr
          swap; · iexact H8
          ipureintro; exact View.read_writes_of_cover _ _ _ _ _ (cover0_B_8 m c t _ _ _)
        isplitl [H9]
        · unfold owns; iexists _; isplitr
          swap; · iexact H9
          ipureintro; rfl
        unfold owns; iexists _; isplitr
        swap; · iexact H10
        ipureintro; rfl

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦD`) is the invariant before the first point. -/
theorem hin (c : Dev nD) : Pipeline.ΦD osem0 spec0 H0 (V m) c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦD` back: the carried scratch's named contents are forgotten. -/
theorem Phi_out (c : Dev nD) (t : Fin (cfg0.N + 1)) (ht : t.val ≠ 0) : (dats m 0 c).Φ t ⊢ Pipeline.ΦD osem0 spec0 H0 (V m) c := by
  rw [show (dats m 0 c).Φ t = PhiS m c t.val (Nat.le_of_lt_succ t.isLt) from rfl, PhiS_pos m c _ _ ht, keep, PhiD0_eq]
  iintro ⟨⟨HS0, HS1, HS2⟩, Hg, ⟨Hq0, Hq1, Hq2, Hq3, Hq4, Hq5, Hq6, Hq7, Hq8⟩, ⟨Hh0, Hh1⟩⟩
  isplitl [HS0 HS1 HS2]
  · isplitl [HS0]
    · iexists _; iexact HS0
    isplitl [HS1]
    · iexists _; iexact HS1
    iexists _; iexact HS2
  isplitl [Hg]; · iexact Hg
  isplitl [Hq0 Hq1 Hq2 Hq3 Hq4 Hq5 Hq6 Hq7 Hq8]
  · isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    iexact Hq8
  isplitl [Hh0]; · iexact Hh0
  iexact Hh1

/-- The same after the last point. -/
theorem hout (c : Dev nD) : (dats m 0 c).Φ (Fin.last cfg0.N) ⊢ Pipeline.ΦD osem0 spec0 H0 (V m) c :=
  Phi_out m c _ (by rw [Fin.val_last]; have : cfg0.N = 33 := N_0; omega)

/-! ## The run and the frame -/

-- `θ_run_frame_dma_shared`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_dma_shared (Q' := _) cfgs (dats m) (0 : Fin 1) launch₀0 osem0 defs₀ Variants.none ownSemFacts0 H0 H0_sub m ρ main
    (hbody := fun c => (body_obligation m c).loose) (hq := fun _ _ _ => rfl)
    (howed := fun _ _ => rfl) (V := V m) (hmain := hmain m Variants.none) (hA := A_eq m)
    (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

/-- The frame: the arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged m ρ) ((θ_run defs _ _).mono (fun _ h => h.2) (run_main_quiescent m ρ))

end Cert.FKernelIdeal.Gen

end
-- ==== Proof.FfSpec.lean ====
/-
  What the backward pass of the gated ConvFFN computes, as plain functions of row and lane.

  The arguments are read as functions: `D` the incoming gradient, `UP` the two halves of the up projection side by side
  (what the convolution takes and the gate), `WD` the down projection's weights, `CW` the three taps, `WU` the up
  projection's weights, `X` the rows that were normalised and `G` the scale. Rows are counted over the whole sequence,
  so nothing here knows of tiles. A row before the first or past the last counts as zero.
-/
module

public import proofs.«01_k».proof.Proof.ScSpec

@[expose] public section

noncomputable section

namespace Cert.Ff

open Idealize.ShloMosaic

/-- Rows of the sequence. -/
abbrev R := Fin 8448
/-- Lanes of the model. -/
abbrev W := Fin 1024
/-- Lanes of the hidden layer. -/
abbrev H := Fin 2816
/-- Lanes of the up projection. -/
abbrev U := Fin 5632

/-- The residual scale both programs use, and the number one. -/
def alpha : EReal := Ideal.ofBits .f32 0x3FB504F3#32
abbrev one : EReal := 1

theorem one_eq : one = ((1 : ℝ) : EReal) := rfl

/-- The logistic function as both programs write it. -/
def sg (x : EReal) : EReal := Ideal.div one (one + Ideal.exp (0 - x))

variable (D : R → W → EReal) (UP : R → U → EReal) (WD : H → W → EReal) (CW : Fin 3 → H → EReal) (WU : W → U → EReal)
  (X : R → W → EReal) (G : W → EReal)

/-- A lane of the convolution's input and of the gate. -/
abbrev u0 (f : H) : U := ⟨f.val, by omega⟩
abbrev u1 (f : H) : U := ⟨2816 + f.val, by omega⟩

/-- The convolution's input, `s` rows earlier. -/
def back (s : ℕ) (r : R) (f : H) : EReal := if s ≤ r.val then UP ⟨r.val - s, by omega⟩ (u0 f) else 0
/-- The convolution's output. -/
def uu (r : R) (f : H) : EReal := CW 0 f * back UP 2 r f + CW 1 f * back UP 1 r f + CW 2 f * UP r (u0 f)
/-- The gradient of the hidden layer's output. -/
def da (r : R) (f : H) : EReal := ∑ k, D r k * WD f k
/-- The gradient of the gate. -/
def dgate (r : R) (f : H) : EReal := da D WD r f * (uu UP CW r f * sg (uu UP CW r f))
/-- The gradient of the convolution's output. -/
def dc (r : R) (f : H) : EReal := da D WD r f * UP r (u1 f)
  * (sg (uu UP CW r f) * (one + uu UP CW r f * (one - sg (uu UP CW r f))))
/-- The same `s` rows later. -/
def ahead (s : ℕ) (r : R) (f : H) : EReal := if h : r.val + s < 8448 then dc D UP WD CW ⟨r.val + s, h⟩ f else 0
/-- The gradient of the convolution's input. -/
def dx (r : R) (f : H) : EReal :=
  CW 0 f * ahead D UP WD CW 2 r f + CW 1 f * ahead D UP WD CW 1 r f + CW 2 f * dc D UP WD CW r f
/-- The gradient of the up projection. -/
def dup (r : R) (q : U) : EReal :=
  if h : q.val < 2816 then dx D UP WD CW r ⟨q.val, h⟩ else dgate D UP WD CW r ⟨q.val - 2816, by omega⟩
/-- The gradient of the normalised rows. -/
def dh (r : R) (k : W) : EReal :=
  alpha * D r k + ∑ f, dx D UP WD CW r f * WU k (u0 f) + ∑ f, dgate D UP WD CW r f * WU k (u1 f)
/-- The same past the rows that come before the sequence. -/
def dy (r : R) (k : W) : EReal := if 240 ≤ r.val then dh D UP WD CW WU r k else 0
/-- The gradient of the tap that looks `s` rows back. -/
def dcw (s : ℕ) (f : H) : EReal := ∑ r, ahead D UP WD CW s r f * UP r (u0 f)
/-- The gradient of the scale. -/
def dg (k : W) : EReal := ∑ r, dy D UP WD CW WU r k * Ln.xhat (X r) k
/-- The gradient of the shift. -/
def db (k : W) : EReal := ∑ r, dy D UP WD CW WU r k
/-- The gradient of the rows that were normalised. -/
def dpin (r : R) (k : W) : EReal := Ln.bwd (X r) (fun k => dy D UP WD CW WU r k * G k) k

/-- The gradient of a tap, with the convolution's input moved instead of its output's gradient. -/
theorem dcw_eq (s : ℕ) (f : H) : (∑ r, dc D UP WD CW r f * back UP s r f) = dcw D UP WD CW s f := by
  have := Sc.sum_shift s 8448 (fun n => if h : n < 8448 then dc D UP WD CW ⟨n, h⟩ f else 0)
    (fun n => if h : n < 8448 then UP ⟨n, h⟩ (u0 f) else 0)
  refine Eq.trans (Finset.sum_congr rfl fun r _ => ?_) (this.trans (Finset.sum_congr rfl fun r _ => ?_))
  · rw [back, dif_pos r.isLt]
    refine congrArg (dc D UP WD CW r f * ·) ?_
    split_ifs <;> first | rfl | omega
  · rw [ahead, dif_pos r.isLt]
    refine congrArg (· * UP r (u0 f)) ?_
    split_ifs <;> first | rfl | omega

/-- The hidden layer's two halves of a sum over the up projection's lanes. -/
theorem sum_halves (g : U → EReal) : (∑ q, g q) = ∑ f, g (u0 f) + ∑ f, g (u1 f) :=
  Fin.sum_univ_add (a := 2816) (b := 2816) g

theorem dup_u0 (r : R) (f : H) : dup D UP WD CW r (u0 f) = dx D UP WD CW r f := dif_pos f.isLt
theorem dup_u1 (r : R) (f : H) : dup D UP WD CW r (u1 f) = dgate D UP WD CW r f := by
  rw [dup, dif_neg (by show ¬ 2816 + f.val < 2816; omega)]
  exact congrArg (dgate D UP WD CW r) (Fin.ext (by show 2816 + f.val - 2816 = f.val; omega))

/-- The gradient of the normalised rows with one product over both halves. -/
theorem dh_eq (r : R) (k : W) : alpha * D r k + ∑ q, dup D UP WD CW r q * WU k q = dh D UP WD CW WU r k := by
  rw [sum_halves, dh, add_assoc]
  simp only [dup_u0, dup_u1]

section Finite
variable {D UP WD CW WU X G}
variable (hD : ∀ r k, Ln.Fin' (D r k)) (hU : ∀ r q, Ln.Fin' (UP r q)) (hWD : ∀ a b, Ln.Fin' (WD a b))
  (hCW : ∀ j w, Ln.Fin' (CW j w)) (hWU : ∀ a b, Ln.Fin' (WU a b))

theorem fin_one : Ln.Fin' one := ⟨1, one_eq⟩
theorem fin_sub {x y : EReal} : Ln.Fin' x → Ln.Fin' y → Ln.Fin' (x - y) :=
  fun ⟨a, ha⟩ ⟨b, hb⟩ => ⟨a - b, by rw [ha, hb, EReal.coe_sub]⟩
theorem fin_sg {x : EReal} : Ln.Fin' x → Ln.Fin' (sg x) := by
  rintro ⟨a, rfl⟩
  have h : (0 : ℝ) < 1 + Real.exp (-a) := by positivity
  refine ⟨1 * (1 / (1 + Real.exp (-a))), ?_⟩
  rw [sg, one_eq, zero_sub, ← EReal.coe_neg, Ideal.exp_coe, ← EReal.coe_add, Ideal.div_coe h.ne', ← EReal.coe_mul]

include hU in
theorem fin_back (s : ℕ) (r : R) (f : H) : Ln.Fin' (back UP s r f) := by
  unfold back; split_ifs
  · exact hU _ _
  · exact .zero
include hU hCW in
theorem fin_uu (r : R) (f : H) : Ln.Fin' (uu UP CW r f) :=
  (((hCW _ _).mul (fin_back hU _ _ _)).add ((hCW _ _).mul (fin_back hU _ _ _))).add ((hCW _ _).mul (hU _ _))
include hD hWD in
theorem fin_da (r : R) (f : H) : Ln.Fin' (da D WD r f) := .sum _ _ fun k => (hD r k).mul (hWD f k)
include hD hU hWD hCW
theorem fin_dgate (r : R) (f : H) : Ln.Fin' (dgate D UP WD CW r f) :=
  (fin_da hD hWD r f).mul ((fin_uu hU hCW r f).mul (fin_sg (fin_uu hU hCW r f)))
theorem fin_dc (r : R) (f : H) : Ln.Fin' (dc D UP WD CW r f) :=
  ((fin_da hD hWD r f).mul (hU _ _)).mul ((fin_sg (fin_uu hU hCW r f)).mul
    (fin_one.add ((fin_uu hU hCW r f).mul (fin_sub fin_one (fin_sg (fin_uu hU hCW r f))))))
theorem fin_ahead (s : ℕ) (r : R) (f : H) : Ln.Fin' (ahead D UP WD CW s r f) := by
  unfold ahead; split_ifs
  · exact fin_dc hD hU hWD hCW _ _
  · exact .zero
theorem fin_dx (r : R) (f : H) : Ln.Fin' (dx D UP WD CW r f) :=
  (((hCW _ _).mul (fin_ahead hD hU hWD hCW _ _ _)).add ((hCW _ _).mul (fin_ahead hD hU hWD hCW _ _ _))).add
    ((hCW _ _).mul (fin_dc hD hU hWD hCW _ _))
include hWU in
theorem fin_dy (r : R) (k : W) : Ln.Fin' (dy D UP WD CW WU r k) := by
  unfold dy dh; split_ifs
  · refine .add (.add (.mul ?_ (hD _ _)) (.sum _ _ fun q => (fin_dx hD hU hWD hCW _ _).mul (hWU _ _)))
      (.sum _ _ fun q => (fin_dgate hD hU hWD hCW _ _).mul (hWU _ _))
    exact ⟨(2 ^ 23 + 3474675 : ℕ) * (2 : ℝ) ^ (-23 : Int), by simp [alpha, Ideal.ofBits, Ideal.ieee, -EReal.coe_mul]⟩
  · exact .zero

/-- The gradient of the convolution's output as the reference has it: the product rule for `u * sg u`. -/
theorem dc_eq (r : R) (f : H) :
    da D WD r f * UP r (u1 f) * sg (uu UP CW r f)
      + uu UP CW r f * (da D WD r f * UP r (u1 f)) * (sg (uu UP CW r f) * (one - sg (uu UP CW r f)))
      = dc D UP WD CW r f := by
  obtain ⟨p, hp⟩ := (fin_da hD hWD r f).mul (hU r (u1 f))
  obtain ⟨u, hu⟩ := fin_uu hU hCW r f
  obtain ⟨s, hs⟩ := fin_sg (fin_uu hU hCW r f)
  rw [dc, hp, hs, hu, one_eq]
  simp only [← EReal.coe_mul, ← EReal.coe_sub, ← EReal.coe_add]
  congr 1
  ring
end Finite

end Cert.Ff

end
-- ==== Proof.FfPay.lean ====
/-
  One block of the gated ConvFFN's backward pass: each value the body computes, read at a row and lane.

  The block numbered `b` holds the rows `256 b`, `256 b + 1`, … of the sequence. The statements say what the body's
  values are when the blocks it loads hold the arguments' rows, in the words of FfSpec.
-/
module

public import proofs.«01_k».proof.Proof.FfSpec
public import proofs.«01_k».proof.Proof.Gen.FKernelIdeal.Skeleton
public import Idealize.ShloMosaic.Lib.Pointwise
public import Idealize.ShloMosaic.Lib.WordCmp

@[expose] public section

set_option maxRecDepth 16384

noncomputable section

namespace Cert.FKernelIdeal.Val

open Cert.FKernelIdeal Cert.FKernelIdeal.Gen Cert.Ff
open Idealize.ShloMosaic Idealize.ShloMosaic.TcCoe Idealize.SL.Sem

/-- Row `r` of block `b`. -/
abbrev row (b : Fin 33) (r : Fin 256) : R := ⟨256 * b.val + r.val, by omega⟩

variable (D : R → W → EReal) (UP : R → U → EReal) (WD : H → W → EReal) (CW : Fin 3 → H → EReal) (WU : W → U → EReal)
  (X : R → W → EReal) (G : W → EReal) (b : Fin 33)

variable {v7 v10 v106 : FVec Ideal S256x1024 .f32} {v11 : FVec Ideal S2816x1024 .bf16}
  {v12 v13 v14 v54 v58 v60 : FVec Ideal S256x2816 .f32} {v15 : FVec Ideal S3x2816 .f32} {v16 : BitVec 1}
  {v17 v18 v55 : FVec Ideal S8x2816 .f32} {v45 v77 : FVec Ideal S256x2816 .bf16}
  {v100 v103 : FVec Ideal S1024x2816 .bf16} {v107 : FVec Ideal S1x1024 .f32}

theorem sub_word : ∀ b : Fin 33, Scalar.subi 32#32 (BitVec.ofNat 32 (32 - b.val)) = BitVec.ofNat 32 b.val := by decide
theorem sgt_word : ∀ b : Fin 33, Scalar.cmpi .sgt (BitVec.ofNat 32 b.val) 0#32 = if 0 < b.val then 1#1 else 0#1 := by
  decide

/-- The word that says the block is not the first one chooses between two values. -/
theorem select_first (h16 : v16 = if 0 < b.val then 1#1 else 0#1) {α : Type} (x y : α) :
    Scalar.select v16 x y = if 0 < b.val then x else y := by
  rw [h16]
  by_cases h : 0 < b.val
  · rw [if_pos h, if_pos h]; rfl
  · rw [if_neg h, if_neg h]; rfl

theorem pay8 (h7 : ∀ r w, v7 (ix2 r w) = D (row b r) w) (r : Fin 256) (w : W) :
    k0_pay8 (F := Ideal) v7 (ix2 r w) = alpha * D (row b r) w := by
  pointwise [k0_pay8]
  rw [h7]; rfl

theorem pay9 (h7 : ∀ r w, v7 (ix2 r w) = D (row b r) w) (h11 : ∀ f w, v11 (ix2 f w) = WD f w)
    (r : Fin 256) (f : H) : k0_pay9 (F := Ideal) v7 v11 (ix2 r f) = da D WD (row b r) f := by
  pointwise [k0_pay9]
  unfold da
  exact Finset.sum_congr rfl fun k _ => by rw [h7, h11]

theorem pay10 (a : Fin 8) (f : H) : k0_pay10 (F := Ideal) (ix2 a f) = 0 := by pointwise [k0_pay10]

/-- The eight rows before a block and the block, moved down by `s`. -/
theorem back_of (s : ℕ) (hs : s < 8) (f : Fin 256 → H → EReal) (g : Fin 8 → H → EReal)
    (hf : ∀ r w, f r w = UP (row b r) (u0 w))
    (hg : ∀ (a : Fin 8) (w : H) (h : 0 < b.val), g a w = UP ⟨256 * b.val - 8 + a.val, by omega⟩ (u0 w))
    (hz : ∀ (a : Fin 8) (w : H) (_ : ¬ 0 < b.val), g a w = 0)
    (r : Fin 256) (w : H) (n : ℕ) (hn : n = 8 + r.val - s) (h' : ¬ n < 8 → n - 8 < 256) :
    (if h : n < 8 then g ⟨n, h⟩ w else f ⟨n - 8, h' h⟩ w) = back UP s (row b r) w := by
  subst hn
  by_cases h : 8 + r.val - s < 8
  · rw [dif_pos h, back]
    by_cases h2 : 0 < b.val
    · rw [hg _ _ h2, if_pos (by show s ≤ 256 * b.val + r.val; omega)]
      exact congrArg (UP · (u0 w))
        (Fin.ext (by show 256 * b.val - 8 + (8 + r.val - s) = 256 * b.val + r.val - s; omega))
    · rw [hz _ _ h2, if_neg (by show ¬ s ≤ 256 * b.val + r.val; omega)]
  · rw [dif_neg h, back, hf, if_pos (by show s ≤ 256 * b.val + r.val; omega)]
    exact congrArg (UP · (u0 w))
      (Fin.ext (by show 256 * b.val + (8 + r.val - s - 8) = 256 * b.val + r.val - s; omega))

/-- A block's rows and the eight after them, moved up by `s`. -/
theorem ahead_of (s : ℕ) (hs : s < 8) (f : Fin 256 → H → EReal) (g : Fin 8 → H → EReal)
    (hf : ∀ r w, f r w = dc D UP WD CW (row b r) w)
    (hg : ∀ (a : Fin 8) (w : H), g a w = if h : 256 * b.val + 256 + a.val < 8448 then
      dc D UP WD CW ⟨256 * b.val + 256 + a.val, h⟩ w else 0)
    (r : Fin 256) (w : H) (n : ℕ) (hn : n = r.val + s) (h' : ¬ n < 256 → n - 256 < 8) :
    (if h : n < 256 then f ⟨n, h⟩ w else g ⟨n - 256, h' h⟩ w) = ahead D UP WD CW s (row b r) w := by
  subst hn
  by_cases h : r.val + s < 256
  · rw [dif_pos h, hf, ahead, dif_pos (by show 256 * b.val + r.val + s < 8448; omega)]
    exact congrArg (dc D UP WD CW · w) (Fin.ext (by show 256 * b.val + (r.val + s) = 256 * b.val + r.val + s; omega))
  · rw [dif_neg h, hg, ahead]
    by_cases h2 : 256 * b.val + r.val + s < 8448
    · rw [dif_pos (by show 256 * b.val + 256 + (r.val + s - 256) < 8448; omega), dif_pos h2]
      exact congrArg (dc D UP WD CW · w)
        (Fin.ext (by show 256 * b.val + 256 + (r.val + s - 256) = 256 * b.val + r.val + s; omega))
    · rw [dif_neg (by show ¬ 256 * b.val + 256 + (r.val + s - 256) < 8448; omega), dif_neg h2]

/-- What the convolution's part of the body finds in the block of the up projection, in the eight rows before it and in
    the taps. -/
structure Conv (v14 : FVec Ideal S256x2816 .f32) (v15 : FVec Ideal S3x2816 .f32) (v16 : BitVec 1)
    (v17 v18 : FVec Ideal S8x2816 .f32) : Prop where
  h14 : ∀ r f, v14 (ix2 r f) = UP (row b r) (u0 f)
  h15 : ∀ j f, v15 (ix2 j f) = CW j f
  h16 : v16 = if 0 < b.val then 1#1 else 0#1
  h17 : ∀ (a : Fin 8) (f : H) (h : 0 < b.val), v17 (ix2 a f) = UP ⟨256 * b.val - 8 + a.val, by omega⟩ (u0 f)
  h18 : ∀ a f, v18 (ix2 a f) = 0

section Conv
variable {UP CW b}
variable (C : Conv UP CW b v14 v15 v16 v17 v18)
include C

theorem pay11 (r : Fin 256) (f : H) : k0_pay11 (F := Ideal) v14 v15 v16 v17 v18 (ix2 r f) = uu UP CW (row b r) f := by
  have hs : ∃ s : FVec Ideal S8x2816 .f32, (∀ i, Scalar.select v16 (v17 i) (v18 i) = s i) ∧
      (0 < b.val → s = v17) ∧ (¬ 0 < b.val → s = v18) := by
    by_cases h : 0 < b.val
    · exact ⟨v17, fun i => (select_first b C.h16 _ _).trans (if_pos h), fun _ => rfl, fun n => absurd h n⟩
    · exact ⟨v18, fun i => (select_first b C.h16 _ _).trans (if_neg h), fun n => absurd n h, fun _ => rfl⟩
  obtain ⟨s, hs, h1, h2⟩ := hs
  pointwise [k0_pay11]
  rw [C.h15, C.h15, C.h15, C.h14]
  simp only [hs]
  have hb := fun k hk n hn h' => back_of UP b k hk (fun r w => v14 (ix2 r w)) (fun a w => s (ix2 a w)) C.h14
    (fun a w h => (congrFun (h1 h) _).trans (C.h17 a w h)) (fun a w h => (congrFun (h2 h) _).trans (C.h18 a w))
    r f n hn h'
  have b2 := hb 2 (by omega) ((8 + r.val + 264 - 2) % 264) (by omega) (fun h => by omega)
  have b1 := hb 1 (by omega) ((8 + r.val + 264 - 1) % 264) (by omega) (fun h => by omega)
  rw [uu, ← b2, ← b1]

theorem pay12 (r : Fin 256) (f : H) :
    k0_pay12 (F := Ideal) v14 v15 v16 v17 v18 (ix2 r f) = sg (uu UP CW (row b r) f) := by
  pointwise [k0_pay12]
  rw [pay11 C]
  rfl

theorem pay13 (h12 : ∀ r f, v12 (ix2 r f) = da D WD (row b r) f) (r : Fin 256) (f : H) :
    k0_pay13 (F := Ideal) v12 v14 v15 v16 v17 v18 (ix2 r f) = dgate D UP WD CW (row b r) f := by
  pointwise [k0_pay13]
  rw [pay11 C, pay12 C, h12]; rfl

theorem pay14 (h12 : ∀ r f, v12 (ix2 r f) = da D WD (row b r) f) (h13 : ∀ r f, v13 (ix2 r f) = UP (row b r) (u1 f))
    (r : Fin 256) (f : H) :
    k0_pay14 (F := Ideal) v12 v13 v14 v15 v16 v17 v18 (ix2 r f) = dc D UP WD CW (row b r) f := by
  pointwise [k0_pay14]
  rw [pay11 C, pay12 C, h12, h13]; rfl

theorem pay16 (h12 : ∀ r f, v12 (ix2 r f) = da D WD (row b r) f) (h13 : ∀ r f, v13 (ix2 r f) = UP (row b r) (u1 f))
    (h55 : ∀ (a : Fin 8) (w : H), v55 (ix2 a w) = if h : 256 * b.val + 256 + a.val < 8448 then
      dc D UP WD CW ⟨256 * b.val + 256 + a.val, h⟩ w else 0) (r : Fin 256) (f : H) :
    k0_pay16 (F := Ideal) v12 v13 v14 v15 v16 v17 v18 v55 (ix2 r f) = ahead D UP WD CW 2 (row b r) f := by
  pointwise [k0_pay16, k0_pay15]
  exact ahead_of D UP WD CW b 2 (by omega) (fun r f => k0_pay14 (F := Ideal) v12 v13 v14 v15 v16 v17 v18 (ix2 r f))
    (fun a w => v55 (ix2 a w)) (pay14 D WD C h12 h13) h55 r f _ (by omega) (fun h => by omega)
theorem pay17 (h12 : ∀ r f, v12 (ix2 r f) = da D WD (row b r) f) (h13 : ∀ r f, v13 (ix2 r f) = UP (row b r) (u1 f))
    (h55 : ∀ (a : Fin 8) (w : H), v55 (ix2 a w) = if h : 256 * b.val + 256 + a.val < 8448 then
      dc D UP WD CW ⟨256 * b.val + 256 + a.val, h⟩ w else 0) (r : Fin 256) (f : H) :
    k0_pay17 (F := Ideal) v12 v13 v14 v15 v16 v17 v18 v55 (ix2 r f) = ahead D UP WD CW 1 (row b r) f := by
  pointwise [k0_pay17, k0_pay15]
  exact ahead_of D UP WD CW b 1 (by omega) (fun r f => k0_pay14 (F := Ideal) v12 v13 v14 v15 v16 v17 v18 (ix2 r f))
    (fun a w => v55 (ix2 a w)) (pay14 D WD C h12 h13) h55 r f _ (by omega) (fun h => by omega)

theorem pay18 (h12 : ∀ r f, v12 (ix2 r f) = da D WD (row b r) f) (h13 : ∀ r f, v13 (ix2 r f) = UP (row b r) (u1 f))
    (a : Fin 8) (f : H) : k0_pay18 (F := Ideal) v12 v13 v14 v15 v16 v17 v18 (ix2 a f)
      = dc D UP WD CW ⟨256 * b.val + a.val, by omega⟩ f := by
  pointwise [k0_pay18]
  exact pay14 D WD C h12 h13 ⟨a.val, by omega⟩ f
end Conv

theorem pay19 (v61 : FVec Ideal S8x2816 .f32) (a : Fin 8) (f : H) :
    k0_pay19 (F := Ideal) v61 (ix2 a f) = v61 (ix2 a f) := by pointwise [k0_pay19]

theorem pay20 (h54 : ∀ r f, v54 (ix2 r f) = dc D UP WD CW (row b r) f)
    (h58 : ∀ r f, v58 (ix2 r f) = ahead D UP WD CW 2 (row b r) f)
    (h60 : ∀ r f, v60 (ix2 r f) = ahead D UP WD CW 1 (row b r) f) (h15 : ∀ j f, v15 (ix2 j f) = CW j f)
    (r : Fin 256) (f : H) : k0_pay20 (F := Ideal) v54 v58 v60 v15 (ix2 r f) = dx D UP WD CW (row b r) f := by
  pointwise [k0_pay20]
  rw [h54, h58, h60, h15, h15, h15]; rfl

theorem pay21 (y : FVec Ideal S1x2816 .f32) (z : Fin 1) (f : H) : k0_pay21 (F := Ideal) v14 v58 y (ix2 z f)
    = y (ix2 z f) + ∑ r : Fin 256, v58 (ix2 r f) * v14 (ix2 r f) := by pointwise [k0_pay21]
theorem pay22 (y : FVec Ideal S1x2816 .f32) (z : Fin 1) (f : H) : k0_pay22 (F := Ideal) v14 v60 y (ix2 z f)
    = y (ix2 z f) + ∑ r : Fin 256, v60 (ix2 r f) * v14 (ix2 r f) := by pointwise [k0_pay22]
theorem pay23 (y : FVec Ideal S1x2816 .f32) (z : Fin 1) (f : H) : k0_pay23 (F := Ideal) v14 v54 y (ix2 z f)
    = y (ix2 z f) + ∑ r : Fin 256, v54 (ix2 r f) * v14 (ix2 r f) := by pointwise [k0_pay23]

theorem pay25 (h106 : ∀ r w, v106 (ix2 r w) = X (row b r) w) (r : Fin 256) (z : Fin 1) :
    k0_pay25 (F := Ideal) v106 (ix2 r z) = Ln.rstd (X (row b r)) := by
  pointwise [k0_pay25, k0_pay24]
  simp only [h106]
  rfl
theorem pay26 (h106 : ∀ r w, v106 (ix2 r w) = X (row b r) w) (r : Fin 256) (w : W) :
    k0_pay26 (F := Ideal) v106 (ix2 r w) = Ln.xhat (X (row b r)) w := by
  pointwise [k0_pay26, k0_pay24]
  rw [pay25 X b h106]
  simp only [h106]
  rfl

theorem sge_word : ∀ b : Fin 33, ∀ n, n < 256 →
    IntOp.cmpi .sge (IntOp.addi (Scalar.muli (BitVec.ofNat 32 b.val) 256#32) (BitVec.ofNat 32 n)) 240#32
      = if 240 ≤ 256 * b.val + n then 1#1 else 0#1 := by
  intro b n hn
  rw [show IntOp.addi (Scalar.muli (BitVec.ofNat 32 b.val) 256#32) (BitVec.ofNat 32 n)
    = BitVec.ofNat 32 (256 * b.val + n) from ?_]
  · rw [show (240#32 : BitVec 32) = BitVec.ofNat 32 240 from rfl, WordCmp.cmpi_sge_ofNat (by omega) (by omega)]
    by_cases h : 240 ≤ 256 * b.val + n <;> simp [h]
  · show BitVec.ofNat 32 b.val * 256#32 + BitVec.ofNat 32 n = _
    rw [Nat.mul_comm, show (256#32 : BitVec 32) = BitVec.ofNat 32 256 from rfl, BitVec.ofNat_add, BitVec.ofNat_mul]

/-- What the layer norm's part of the body finds. -/
structure Norm (v10 : FVec Ideal S256x1024 .f32) (v45 v77 : FVec Ideal S256x2816 .bf16)
    (v100 v103 : FVec Ideal S1024x2816 .bf16) : Prop where
  h10 : ∀ r w, v10 (ix2 r w) = alpha * D (row b r) w
  h45 : ∀ r f, v45 (ix2 r f) = dgate D UP WD CW (row b r) f
  h77 : ∀ r f, v77 (ix2 r f) = dx D UP WD CW (row b r) f
  h100 : ∀ k f, v100 (ix2 k f) = WU k (u0 f)
  h103 : ∀ k f, v103 (ix2 k f) = WU k (u1 f)

section Norm
variable {D UP WD CW WU b}
variable (N : Norm D UP WD CW WU b v10 v45 v77 v100 v103)
include N

theorem pay27 (r : Fin 256) (w : W) :
    k0_pay27 (F := Ideal) (BitVec.ofNat 32 b.val) v10 v45 v77 v100 v103 (ix2 r w) = dy D UP WD CW WU (row b r) w := by
  pointwise [k0_pay27]
  rw [sge_word b r.val r.isLt, dy]
  have e : v10 (ix2 r w) + ∑ f, v77 (ix2 r f) * v100 (ix2 w f) + ∑ f, v45 (ix2 r f) * v103 (ix2 w f)
      = dh D UP WD CW WU (row b r) w := by
    simp only [N.h10, N.h45, N.h77, N.h100, N.h103]; rfl
  by_cases h : 240 ≤ 256 * b.val + r.val
  · rw [if_pos h]; exact e.trans (if_pos h).symm
  · rw [if_neg h]; exact (if_neg h).symm

theorem pay28 (h107 : ∀ w, v107 (ix2 (0 : Fin 1) w) = G w) (r : Fin 256) (w : W) :
    k0_pay28 (F := Ideal) (BitVec.ofNat 32 b.val) v10 v45 v77 v100 v103 v107 (ix2 r w)
      = dy D UP WD CW WU (row b r) w * G w := by
  pointwise [k0_pay28]
  rw [pay27 N, h107]

theorem pay29 (h107 : ∀ w, v107 (ix2 (0 : Fin 1) w) = G w) (r : Fin 256) (w : W) :
    k0_pay29 (F := Ideal) (BitVec.ofNat 32 b.val) v10 v45 v77 v100 v103 v107 (ix2 r w)
      = Ln.mean (fun k => dy D UP WD CW WU (row b r) k * G k) := by
  pointwise [k0_pay29]
  simp only [pay28 G N h107]
  rfl

theorem pay1 (h106 : ∀ r w, v106 (ix2 r w) = X (row b r) w) (h107 : ∀ w, v107 (ix2 (0 : Fin 1) w) = G w)
    (r : Fin 256) (w : W) :
    k0_pay1 (F := Ideal) (k0_pay25 (F := Ideal) v106) (k0_pay26 (F := Ideal) v106)
      (k0_pay28 (F := Ideal) (BitVec.ofNat 32 b.val) v10 v45 v77 v100 v103 v107)
      (k0_pay29 (F := Ideal) (BitVec.ofNat 32 b.val) v10 v45 v77 v100 v103 v107) (ix2 r w)
      = dpin D UP WD CW WU X G (row b r) w := by
  pointwise [k0_pay1]
  simp only [pay25 X b h106, pay26 X b h106, pay28 G N h107, pay29 G N h107]
  rfl

theorem pay2 (h106 : ∀ r w, v106 (ix2 r w) = X (row b r) w) (y : FVec Ideal S1x1024 .f32) (z : Fin 1) (w : W) :
    k0_pay2 (F := Ideal) (k0_pay26 (F := Ideal) v106)
      (k0_pay27 (F := Ideal) (BitVec.ofNat 32 b.val) v10 v45 v77 v100 v103) y (ix2 z w)
      = y (ix2 z w) + ∑ r : Fin 256, dy D UP WD CW WU (row b r) w * Ln.xhat (X (row b r)) w := by
  pointwise [k0_pay2]
  simp only [pay26 X b h106, pay27 N]
theorem pay3 (y : FVec Ideal S1x1024 .f32) (z : Fin 1) (w : W) :
    k0_pay3 (F := Ideal) (k0_pay27 (F := Ideal) (BitVec.ofNat 32 b.val) v10 v45 v77 v100 v103) y (ix2 z w)
      = y (ix2 z w) + ∑ r : Fin 256, dy D UP WD CW WU (row b r) w := by
  pointwise [k0_pay3]
  simp only [pay27 N]
end Norm

end Cert.FKernelIdeal.Val

end
-- ==== Proof.FfPoint.lean ====
/-
  One block of the gated ConvFFN's backward pass, as the body leaves it: what it stores side by side for the two halves
  of the up projection, the rows' gradients, and the sums it adds to.
-/
module

public import proofs.«01_k».proof.Proof.FfPay
public import Idealize.ShloMosaic.Lib.Pipeline.ValueKit
public import Idealize.ShloMosaic.Lib.Pipeline.ReadBack
public import Idealize.ShloMosaic.Lib.WritesUnit

@[expose] public section

set_option maxRecDepth 16384

noncomputable section

namespace Cert.FKernelIdeal.Val

open Cert.FKernelIdeal Cert.FKernelIdeal.Gen Cert.Ff
open Idealize.ShloMosaic Idealize.ShloMosaic.TcCoe Idealize.SL.Sem

/-- The left and the right half of a block of the up projection. -/
abbrev gU (x1 : FVec Ideal S256x5632 .f32) : FVec Ideal S256x2816 .f32 :=
  View.ld (Val := Elt Ideal) (S := S256x5632) (e' := .f32) x1 (Rect.unit ![0, 0] ![256, 2816] inb_S256x5632_S256x2816_0_0)
abbrev gG (x1 : FVec Ideal S256x5632 .f32) : FVec Ideal S256x2816 .f32 :=
  View.ld (Val := Elt Ideal) (S := S256x5632) (e' := .f32) x1 (Rect.unit ![0, 2816] ![256, 2816] inb_S256x5632_S256x2816_0_2816)

/-- The number of the block, as a word, and the word that says it is not the first one. -/
abbrev w0 (i : grid0.Coords) : BitVec 32 := Scalar.subi 32#32 (BitVec.ofNat 32 (i 0).val)
abbrev w16 (i : grid0.Coords) : BitVec 1 := Scalar.cmpi .sgt (w0 i) 0#32

section Values
variable (i : grid0.Coords) (x0 : FVec Ideal S256x1024 .f32) (x1 : FVec Ideal S256x5632 .f32) (x2 : FVec Ideal S8x2816 .f32)
  (x3 : FVec Ideal S3x2816 .f32) (v11 : FVec Ideal S2816x1024 .bf16) (v55 : FVec Ideal S8x2816 .f32)

/-- The body's values: the gradient of the gate, of the convolution's output, the same one and two rows later, and of the
    convolution's input. -/
abbrev p13 : FVec Ideal S256x2816 .bf16 :=
  k0_pay13 (F := Ideal) (k0_pay9 (F := Ideal) x0 v11) (gU x1) x3 (w16 i) x2 (k0_pay10 (F := Ideal))
abbrev p14 : FVec Ideal S256x2816 .f32 :=
  k0_pay14 (F := Ideal) (k0_pay9 (F := Ideal) x0 v11) (gG x1) (gU x1) x3 (w16 i) x2 (k0_pay10 (F := Ideal))
abbrev p16 : FVec Ideal S256x2816 .f32 :=
  k0_pay16 (F := Ideal) (k0_pay9 (F := Ideal) x0 v11) (gG x1) (gU x1) x3 (w16 i) x2 (k0_pay10 (F := Ideal)) v55
abbrev p17 : FVec Ideal S256x2816 .f32 :=
  k0_pay17 (F := Ideal) (k0_pay9 (F := Ideal) x0 v11) (gG x1) (gU x1) x3 (w16 i) x2 (k0_pay10 (F := Ideal)) v55
abbrev p18 : FVec Ideal S8x2816 .f32 :=
  k0_pay18 (F := Ideal) (k0_pay9 (F := Ideal) x0 v11) (gG x1) (gU x1) x3 (w16 i) x2 (k0_pay10 (F := Ideal))
abbrev p20 : FVec Ideal S256x2816 .bf16 :=
  k0_pay20 (F := Ideal) (p14 i x0 x1 x2 x3 v11) (p16 i x0 x1 x2 x3 v11 v55) (p17 i x0 x1 x2 x3 v11 v55) x3

/-- The two stores that fill the block of the up projection's gradient. -/
abbrev pieces : List (View.Piece (Elt Ideal) S256x5632 .bf16) :=
  [⟨Rect.unit ![0, 0] ![256, 2816] inb_S256x5632_S256x2816_0_0, p20 i x0 x1 x2 x3 v11 v55⟩,
    ⟨Rect.unit ![0, 2816] ![256, 2816] inb_S256x5632_S256x2816_0_2816, p13 i x0 x1 x2 x3 v11⟩]
end Values

/-- What the body finds: the arguments' rows of block `b`, the rows around it, and the weights. -/
structure At (D : R → W → EReal) (UP : R → U → EReal) (WD : H → W → EReal) (CW : Fin 3 → H → EReal)
    (WU : W → U → EReal) (X : R → W → EReal) (G : W → EReal) (b : Fin 33)
    (i : grid0.Coords) (x0 : FVec Ideal S256x1024 .f32) (x1 : FVec Ideal S256x5632 .f32)
    (x2 : FVec Ideal S8x2816 .f32) (x3 : FVec Ideal S3x2816 .f32) (x4 : FVec Ideal S256x1024 .f32)
    (x5 : FVec Ideal S1x1024 .f32) (v11 : FVec Ideal S2816x1024 .bf16) (v55 : FVec Ideal S8x2816 .f32)
    (v100 v103 : FVec Ideal S1024x2816 .bf16) : Prop where
  hi : (i 0).val = 32 - b.val
  h0 : ∀ r w, x0 (ix2 r w) = D (row b r) w
  h1 : ∀ r q, x1 (ix2 r q) = UP (row b r) q
  h2 : ∀ (a : Fin 8) (f : H) (h : 0 < b.val), x2 (ix2 a f) = UP ⟨256 * b.val - 8 + a.val, by omega⟩ (u0 f)
  h3 : ∀ r f, x3 (ix2 r f) = CW r f
  h4 : ∀ r w, x4 (ix2 r w) = X (row b r) w
  h5 : ∀ w, x5 (ix2 (0 : Fin 1) w) = G w
  h11 : ∀ f w, v11 (ix2 f w) = WD f w
  h55 : ∀ (a : Fin 8) (f : H), v55 (ix2 a f) = if h : 256 * b.val + 256 + a.val < 8448 then
      dc D UP WD CW ⟨256 * b.val + 256 + a.val, h⟩ f else 0
  h100 : ∀ k f, v100 (ix2 k f) = WU k (u0 f)
  h103 : ∀ k f, v103 (ix2 k f) = WU k (u1 f)

theorem ix2_of {a b : ℕ} (x : (⟨2, ![a, b]⟩ : Shape).Idx) : ∃ (i : Fin a) (j : Fin b), x = ix2 i j :=
  ⟨x 0, x 1, funext fun k => by fin_cases k <;> rfl⟩

variable {D : R → W → EReal} {UP : R → U → EReal} {WD : H → W → EReal} {CW : Fin 3 → H → EReal} {WU : W → U → EReal}
  {X : R → W → EReal} {G : W → EReal} {b : Fin 33}
  {i : grid0.Coords} {x0 : FVec Ideal S256x1024 .f32} {x1 : FVec Ideal S256x5632 .f32}
  {x2 : FVec Ideal S8x2816 .f32} {x3 : FVec Ideal S3x2816 .f32} {x4 : FVec Ideal S256x1024 .f32}
  {x5 : FVec Ideal S1x1024 .f32} {v11 : FVec Ideal S2816x1024 .bf16} {v55 : FVec Ideal S8x2816 .f32}
  {v100 v103 : FVec Ideal S1024x2816 .bf16}
  (H : At D UP WD CW WU X G b i x0 x1 x2 x3 x4 x5 v11 v55 v100 v103)
include H

theorem At.gU (r : Fin 256) (f : Ff.H) : Val.gU x1 (ix2 r f) = UP (row b r) (u0 f) := by
  pointwise [Val.gU]
  exact H.h1 _ _
theorem At.gG (r : Fin 256) (f : Ff.H) : Val.gG x1 (ix2 r f) = UP (row b r) (u1 f) := by
  pointwise [Val.gG]
  exact H.h1 _ _

theorem At.word : w0 i = BitVec.ofNat 32 b.val := by
  unfold w0; rw [H.hi]; exact sub_word b

theorem At.da (r : Fin 256) (f : Ff.H) : k0_pay9 (F := Ideal) x0 v11 (ix2 r f) = da D WD (row b r) f :=
  pay9 D WD b H.h0 H.h11 r f

theorem At.conv : Conv UP CW b (Val.gU x1) x3 (w16 i) x2 (k0_pay10 (F := Ideal)) where
  h14 := H.gU
  h15 := H.h3
  h16 := by unfold w16; rw [H.word]; exact sgt_word b
  h17 := H.h2
  h18 := pay10

theorem At.c13 (r : Fin 256) (f : Ff.H) : p13 i x0 x1 x2 x3 v11 (ix2 r f) = dgate D UP WD CW (row b r) f :=
  pay13 D WD H.conv H.da r f
theorem At.c14 (r : Fin 256) (f : Ff.H) : p14 i x0 x1 x2 x3 v11 (ix2 r f) = dc D UP WD CW (row b r) f :=
  pay14 D WD H.conv H.da H.gG r f
theorem At.c16 (r : Fin 256) (f : Ff.H) : p16 i x0 x1 x2 x3 v11 v55 (ix2 r f) = ahead D UP WD CW 2 (row b r) f :=
  pay16 D WD H.conv H.da H.gG H.h55 r f
theorem At.c17 (r : Fin 256) (f : Ff.H) : p17 i x0 x1 x2 x3 v11 v55 (ix2 r f) = ahead D UP WD CW 1 (row b r) f :=
  pay17 D WD H.conv H.da H.gG H.h55 r f
theorem At.c20 (r : Fin 256) (f : Ff.H) : p20 i x0 x1 x2 x3 v11 v55 (ix2 r f) = dx D UP WD CW (row b r) f :=
  pay20 D UP WD CW b H.c14 H.c16 H.c17 H.h3 r f

theorem At.norm : Norm D UP WD CW WU b (k0_pay8 (F := Ideal) x0) (p13 i x0 x1 x2 x3 v11) (p20 i x0 x1 x2 x3 v11 v55)
    v100 v103 where
  h10 := pay8 D b H.h0
  h45 := H.c13
  h77 := H.c20
  h100 := H.h100
  h103 := H.h103

/-- The block of the up projection's gradient. -/
theorem At.dup (r : Fin 256) (q : U) :
    View.canon (pieces i x0 x1 x2 x3 v11 v55) (ix2 r q) = dup D UP WD CW (row b r) q := by
  canon_tiles x h
  · obtain ⟨a, c, rfl⟩ := ix2_of x
    obtain rfl : r = a := Fin.ext h0
    obtain rfl : q = u0 c := Fin.ext h1
    rw [H.c20, dup_u0]
  · obtain ⟨a, c, rfl⟩ := ix2_of x
    obtain rfl : r = a := Fin.ext h0
    obtain rfl : q = u1 c := Fin.ext h1
    rw [H.c13, dup_u1]

/-- The block of the gradient of the rows that were normalised. -/
theorem At.dpin (r : Fin 256) (k : W) :
    k0_pay1 (F := Ideal) (k0_pay25 (F := Ideal) x4) (k0_pay26 (F := Ideal) x4)
      (k0_pay28 (F := Ideal) (w0 i) (k0_pay8 (F := Ideal) x0) (p13 i x0 x1 x2 x3 v11) (p20 i x0 x1 x2 x3 v11 v55) v100 v103 x5)
      (k0_pay29 (F := Ideal) (w0 i) (k0_pay8 (F := Ideal) x0) (p13 i x0 x1 x2 x3 v11) (p20 i x0 x1 x2 x3 v11 v55) v100 v103 x5)
      (ix2 r k) = dpin D UP WD CW WU X G (row b r) k := by
  rw [H.word]
  exact pay1 X G H.norm H.h4 H.h5 r k

/-- What the block adds to the gradient of the scale, and to that of the shift. -/
theorem At.dg (y : FVec Ideal S1x1024 .f32) (z : Fin 1) (k : W) :
    k0_pay2 (F := Ideal) (k0_pay26 (F := Ideal) x4)
      (k0_pay27 (F := Ideal) (w0 i) (k0_pay8 (F := Ideal) x0) (p13 i x0 x1 x2 x3 v11) (p20 i x0 x1 x2 x3 v11 v55) v100 v103)
      y (ix2 z k)
      = y (ix2 z k) + ∑ r : Fin 256, dy D UP WD CW WU (row b r) k * Ln.xhat (X (row b r)) k := by
  rw [H.word]
  exact pay2 X H.norm H.h4 y z k
theorem At.db (y : FVec Ideal S1x1024 .f32) (z : Fin 1) (k : W) :
    k0_pay3 (F := Ideal)
      (k0_pay27 (F := Ideal) (w0 i) (k0_pay8 (F := Ideal) x0) (p13 i x0 x1 x2 x3 v11) (p20 i x0 x1 x2 x3 v11 v55) v100 v103)
      y (ix2 z k)
      = y (ix2 z k) + ∑ r : Fin 256, dy D UP WD CW WU (row b r) k := by
  rw [H.word]
  exact pay3 H.norm y z k

/-- What the block adds to the gradient of each tap. -/
theorem At.tap0 (y : FVec Ideal S1x2816 .f32) (z : Fin 1) (f : Ff.H) :
    k0_pay21 (F := Ideal) (Val.gU x1) (p16 i x0 x1 x2 x3 v11 v55) y (ix2 z f)
      = y (ix2 z f) + ∑ r : Fin 256, ahead D UP WD CW 2 (row b r) f * UP (row b r) (u0 f) := by
  rw [pay21]
  simp only [H.c16, H.gU]
theorem At.tap1 (y : FVec Ideal S1x2816 .f32) (z : Fin 1) (f : Ff.H) :
    k0_pay22 (F := Ideal) (Val.gU x1) (p17 i x0 x1 x2 x3 v11 v55) y (ix2 z f)
      = y (ix2 z f) + ∑ r : Fin 256, ahead D UP WD CW 1 (row b r) f * UP (row b r) (u0 f) := by
  rw [pay22]
  simp only [H.c17, H.gU]
theorem At.tap2 (y : FVec Ideal S1x2816 .f32) (z : Fin 1) (f : Ff.H) :
    k0_pay23 (F := Ideal) (Val.gU x1) (p14 i x0 x1 x2 x3 v11) y (ix2 z f)
      = y (ix2 z f) + ∑ r : Fin 256, ahead D UP WD CW 0 (row b r) f * UP (row b r) (u0 f) := by
  rw [pay23]
  simp only [H.c14, H.gU]
  refine congrArg (y (ix2 z f) + ·) (Finset.sum_congr rfl fun r _ => congrArg (· * UP (row b r) (u0 f)) ?_)
  rw [ahead, dif_pos (by show 256 * b.val + r.val + 0 < 8448; omega)]
  rfl

theorem At.carry (a : Fin 8) (f : Ff.H) :
    k0_pay19 (F := Ideal) (p18 i x0 x1 x2 x3 v11) (ix2 a f) = dc D UP WD CW ⟨256 * b.val + a.val, by omega⟩ f := by
  rw [pay19]
  exact pay18 D WD H.conv H.da H.gG a f

end Cert.FKernelIdeal.Val

end
-- ==== Proof.FfAt.lean ====
/-
  The gated ConvFFN's backward pass, block after block from the last one to the first: what each grid point finds.
-/
module

public import proofs.«01_k».proof.Proof.FfPoint
public import proofs.«01_k».proof.Proof.FfRun

@[expose] public section

set_option maxRecDepth 16384

noncomputable section

namespace Cert.FKernelIdeal.Val

open Cert.FKernelIdeal Cert.FKernelIdeal.Gen Cert.Ff
open Idealize.ShloMosaic Idealize.ShloMosaic.TcCoe Idealize.SL.Sem

variable (m : (ℓ : Loc nD τ sig) → Buf (Elt Ideal) ℓ) (c : Dev nD)

/-- The row of the down projection's weights that holds lane `f`: which of the eight slabs, and where in it. -/
abbrev slab (f : H) : Fin 8 := ⟨f.val / 352, by omega⟩
abbrev inSlab (f : H) : Fin 352 := ⟨f.val % 352, by omega⟩

/-- The arguments as functions of row and lane. -/
abbrev kD : R → W → EReal := fun r k => (m ((c : Thread nD τ).loc main_arg0) : FVec Ideal S8448x1024 .f32) (ix2 r k)
abbrev kUP : R → U → EReal := fun r k => (m ((c : Thread nD τ).loc main_arg1) : FVec Ideal S8448x5632 .f32) (ix2 r k)
abbrev kWD : H → W → EReal := fun f k =>
  (m ((c : Thread nD τ).loc main_arg2) : FVec Ideal S8x2x352x1024 .bf16) (ix4 (slab f) (0 : Fin 2) (inSlab f) k)
abbrev kCW : Fin 3 → H → EReal := fun r k => (m ((c : Thread nD τ).loc main_arg3) : FVec Ideal S3x2816 .f32) (ix2 r k)
abbrev kWU : W → U → EReal := fun r k =>
  (m ((c : Thread nD τ).loc main_arg4) : FVec Ideal S2x1024x5632 .bf16) (ix3 (0 : Fin 2) r k)
abbrev kX : R → W → EReal := fun r k => (m ((c : Thread nD τ).loc main_arg5) : FVec Ideal S8448x1024 .f32) (ix2 r k)
abbrev kG : W → EReal := fun k => (m ((c : Thread nD τ).loc main_arg6) : FVec Ideal S1x1024 .f32) (ix2 (0 : Fin 1) k)

theorem idx : ∀ t : Fin cfg0.N, win0_0.index t = ![32 - t.val, 0] ∧ win0_1.index t = ![32 - t.val, 0]
    ∧ win0_2.index t = ![32 * (32 - t.val) - 1, 0] ∧ win0_3.index t = ![0, 0] ∧ win0_4.index t = ![32 - t.val, 0]
    ∧ win0_5.index t = ![0, 0] ∧ win0_6.index t = ![32 - t.val, 0] ∧ win0_7.index t = ![0, 0]
    ∧ win0_8.index t = ![32 - t.val, 0] ∧ win0_9.index t = ![0, 0] ∧ win0_10.index t = ![0, 0] :=
  (by decide +kernel : ∀ t : Fin grid0.N, _)

theorem coord : ∀ t : Fin cfg0.N, (grid0.coords t 0).val = t.val := (by decide +kernel : ∀ t : Fin grid0.N, _)

/-- The block a grid point works on. -/
def bk (t : Fin cfg0.N) : Fin 33 := ⟨32 - t.val, by omega⟩

theorem lt33 (t : Fin cfg0.N) : t.val < 33 := lt_of_lt_of_eq t.isLt N_0

theorem in0 (t : Fin cfg0.N) (r : Fin 256) (w : W) :
    (iblk m c 0 t : FVec Ideal S256x1024 .f32) (ix2 r w) = kD m c (row (bk t) r) w := by
  blk_ext [iblk, V, idx t, bk]
theorem in1 (t : Fin cfg0.N) (r : Fin 256) (w : U) :
    (iblk m c 1 t : FVec Ideal S256x5632 .f32) (ix2 r w) = kUP m c (row (bk t) r) w := by
  blk_ext [iblk, V, idx t, bk]
theorem in2 (t : Fin cfg0.N) (a : Fin 8) (f : H) (h : 0 < (bk t).val) :
    (iblk m c 2 t : FVec Ideal S8x2816 .f32) (ix2 a f) = kUP m c ⟨256 * (bk t).val - 8 + a.val, by omega⟩ (u0 f) := by
  blk_ext [iblk, V, idx t, bk]
theorem in3 (t : Fin cfg0.N) (r : Fin 3) (f : H) :
    (iblk m c 3 t : FVec Ideal S3x2816 .f32) (ix2 r f) = kCW m c r f := by
  blk_ext [iblk, V, idx t, bk]
theorem in4 (t : Fin cfg0.N) (r : Fin 256) (w : W) :
    (iblk m c 4 t : FVec Ideal S256x1024 .f32) (ix2 r w) = kX m c (row (bk t) r) w := by
  blk_ext [iblk, V, idx t, bk]
theorem in5 (t : Fin cfg0.N) (w : W) :
    (iblk m c 5 t : FVec Ideal S1x1024 .f32) (ix2 (0 : Fin 1) w) = kG m c w := by
  blk_ext [iblk, V, idx t, bk]

/-- What point `t` finds, given the weights and the rows the point before it left. -/
theorem at_of (t : Fin cfg0.N) (v11 : FVec Ideal S2816x1024 .bf16) (v55 : FVec Ideal S8x2816 .f32)
    (v100 v103 : FVec Ideal S1024x2816 .bf16) (h11 : ∀ f w, v11 (ix2 f w) = kWD m c f w)
    (h55 : ∀ (a : Fin 8) (f : H), v55 (ix2 a f) = if h : 256 * (bk t).val + 256 + a.val < 8448 then
      dc (kD m c) (kUP m c) (kWD m c) (kCW m c) ⟨256 * (bk t).val + 256 + a.val, h⟩ f else 0)
    (h100 : ∀ k f, v100 (ix2 k f) = kWU m c k (u0 f)) (h103 : ∀ k f, v103 (ix2 k f) = kWU m c k (u1 f)) :
    At (kD m c) (kUP m c) (kWD m c) (kCW m c) (kWU m c) (kX m c) (kG m c) (bk t) (grid0.coords t)
      (iblk m c 0 t) (iblk m c 1 t) (iblk m c 2 t) (iblk m c 3 t) (iblk m c 4 t) (iblk m c 5 t) v11 v55 v100 v103 where
  hi := by rw [coord]; have := lt33 t; show t.val = 32 - (32 - t.val); omega
  h0 := in0 m c t
  h1 := in1 m c t
  h2 := in2 m c t
  h3 := in3 m c t
  h4 := in4 m c t
  h5 := in5 m c t
  h11 := h11
  h55 := h55
  h100 := h100
  h103 := h103

end Cert.FKernelIdeal.Val

end
-- ==== Proof.FfCopy.lean ====
/-
  The gated ConvFFN's backward pass: the weights copied in at the first point. The down projection's come as eight slabs
  of rows, the up projection's in one piece; both from the layer the call is given.
-/
module

public import proofs.«01_k».proof.Proof.FfAt
public import Idealize.ShloMosaic.Lib.Pipeline.ValueKit
public import Idealize.ShloMosaic.Lib.Pipeline.ReadBack
public import Idealize.ShloMosaic.Lib.ValueLayout

@[expose] public section

set_option maxRecDepth 16384

noncomputable section

namespace Cert.FKernelIdeal.Val

open Cert.FKernelIdeal Cert.FKernelIdeal.Gen Cert.Ff
open Idealize.ShloMosaic Idealize.ShloMosaic.TcCoe Idealize.SL.Sem

variable (m : (ℓ : Loc nD τ sig) → Buf (Elt Ideal) ℓ) (c : Dev nD)

/-- One slab of the down projection's weights, as it lies in the argument. -/
abbrev slabOf (p : ℕ) (h : ∀ k, (![p, 0, 0, 0] : Fin 4 → ℕ) k + ![1, 1, 352, 1024] k ≤ S8x2x352x1024.size k) :
    FVec Ideal S352x1024 .bf16 :=
  ReadAs.same.apply (View.read (Elt Ideal)
    (((View.whole main_arg2).slice (Rect.unit ![p, 0, 0, 0] ![1, 1, 352, 1024] h)).reshape S352x1024
      squeezes_S1x1x352x1024_S352x1024.numel_eq) (V m c main_arg2))

/-- The slab stored at its rows. -/
abbrev slabPiece (p o : ℕ) (h : ∀ k, (![p, 0, 0, 0] : Fin 4 → ℕ) k + ![1, 1, 352, 1024] k ≤ S8x2x352x1024.size k)
    (h' : ∀ k, (![o, 0] : Fin 2 → ℕ) k + ![352, 1024] k ≤ S2816x1024.size k) : View.Piece (Elt Ideal) S2816x1024 .bf16 :=
  ⟨Rect.unit (s := S2816x1024) ![o, 0] ![352, 1024] h', slabOf m c p h⟩

abbrev slabs : List (View.Piece (Elt Ideal) S2816x1024 .bf16) :=
  [slabPiece m c 7 2464 inb_S8x2x352x1024_S1x1x352x1024_7_0_0_0 inb_S2816x1024_S352x1024_2464_0,
    slabPiece m c 6 2112 inb_S8x2x352x1024_S1x1x352x1024_6_0_0_0 inb_S2816x1024_S352x1024_2112_0,
    slabPiece m c 5 1760 inb_S8x2x352x1024_S1x1x352x1024_5_0_0_0 inb_S2816x1024_S352x1024_1760_0,
    slabPiece m c 4 1408 inb_S8x2x352x1024_S1x1x352x1024_4_0_0_0 inb_S2816x1024_S352x1024_1408_0,
    slabPiece m c 3 1056 inb_S8x2x352x1024_S1x1x352x1024_3_0_0_0 inb_S2816x1024_S352x1024_1056_0,
    slabPiece m c 2 704 inb_S8x2x352x1024_S1x1x352x1024_2_0_0_0 inb_S2816x1024_S352x1024_704_0,
    slabPiece m c 1 352 inb_S8x2x352x1024_S1x1x352x1024_1_0_0_0 inb_S2816x1024_S352x1024_352_0,
    slabPiece m c 0 0 inb_S8x2x352x1024_S1x1x352x1024_0_0_0_0 inb_S2816x1024_S352x1024_0_0]

theorem slabOf_apply (p : ℕ) (hp : p < 8) (h) (r : Fin 352) (k : W) (f : H) (hf : f.val = 352 * p + r.val) :
    slabOf m c p h (ix2 r k) = kWD m c f k := by
  show (m ((c : Thread nD τ).loc main_arg2) : FVec Ideal S8x2x352x1024 .bf16)
    ((Rect.unit (s := S8x2x352x1024) ![p, 0, 0, 0] ![1, 1, 352, 1024] h).emb
      (Shape.reshapeEquiv squeezes_S1x1x352x1024_S352x1024.numel_eq (ix2 r k))) = _
  have e : Shape.reshapeEquiv squeezes_S1x1x352x1024_S352x1024.numel_eq (ix2 r k) = ix4 (0 : Fin 1) (0 : Fin 1) r k :=
    ValueIdx.reshapeEquiv_ix2_11ab (a := 352) (b := 1024) _ r k
  rw [e]
  refine congrArg _ (funext fun j => Fin.ext ?_)
  fin_cases j
  · show p + 1 * 0 = f.val / 352; omega
  · rfl
  · show 0 + 1 * r.val = f.val % 352; omega
  · show 0 + 1 * k.val = k.val; omega

theorem slabs_apply (f : H) (k : W) : View.canon (slabs m c) (ix2 f k) = kWD m c f k := by
  canon_tiles x h
  all_goals
    obtain ⟨a, b, rfl⟩ := ix2_of x
    obtain rfl : k = b := Fin.ext (by simpa using h1)
    first
    | exact slabOf_apply m c _ (by omega) _ a k f h0
    | exact slabOf_apply m c 0 (by omega) _ a k f (by have e : f.val = a.val := h0; omega)

/-- The weights copied in at the first point, as the body reads them. -/
abbrev wd : FVec Ideal S2816x1024 .bf16 := (View.whole cc0_scratch0).readCov (slabs m c)
  (Rect.unit (s := S2816x1024) ![0, 0] ![2816, 1024] inb_S2816x1024_S2816x1024_0_0).toLoadRect
theorem wd_eq (f : H) (k : W) : wd m c (ix2 f k) = kWD m c f k := by
  rw [← slabs_apply]
  show (View.whole cc0_scratch0).readCov (slabs m c) _ _ = _
  rw [View.readCov_eq_canon']
  refine congrArg (View.canon (slabs m c)) (funext fun j => Fin.ext ?_)
  fin_cases j
  · show 0 + 1 * f.val = f.val; omega
  · show 0 + 1 * k.val = k.val; omega

/-- The up projection's weights. -/
abbrev upOf : FVec Ideal S1024x5632 .bf16 :=
  ReadAs.same.apply (View.read (Elt Ideal)
    (((View.whole main_arg4).slice (Rect.unit ![0, 0, 0] ![1, 1024, 5632] inb_S2x1024x5632_S1x1024x5632_0_0_0)).reshape S1024x5632
      squeezes_S1x1024x5632_S1024x5632.numel_eq) (V m c main_arg4))
abbrev ups : List (View.Piece (Elt Ideal) S1024x5632 .bf16) := [⟨Rect.whole S1024x5632, upOf m c⟩]

theorem upOf_apply (k : W) (q : U) : upOf m c (ix2 k q) = kWU m c k q := by
  show (m ((c : Thread nD τ).loc main_arg4) : FVec Ideal S2x1024x5632 .bf16)
    ((Rect.unit (s := S2x1024x5632) ![0, 0, 0] ![1, 1024, 5632] inb_S2x1024x5632_S1x1024x5632_0_0_0).emb
      (Shape.reshapeEquiv squeezes_S1x1024x5632_S1024x5632.numel_eq (ix2 k q))) = _
  have e : Shape.reshapeEquiv squeezes_S1x1024x5632_S1024x5632.numel_eq (ix2 k q) = ix3 (0 : Fin 1) k q :=
    ValueIdx.reshapeEquiv_ix2_1ab (a := 1024) (b := 5632) _ k q
  rw [e]
  refine congrArg _ (funext fun j => Fin.ext ?_)
  fin_cases j
  · rfl
  · show 0 + 1 * k.val = k.val; omega
  · show 0 + 1 * q.val = q.val; omega

theorem canon_up (x : FVec Ideal S1024x5632 .bf16) :
    View.canon [(⟨Rect.whole S1024x5632, x⟩ : View.Piece (Elt Ideal) S1024x5632 .bf16)] = x :=
  View.canon_cons_unit_lit' (S := S1024x5632) (off := fun _ => 0) _ _ [] (fun _ => rfl)
theorem ups_apply (k : W) (q : U) : View.canon (ups m c) (ix2 k q) = kWU m c k q := by
  rw [ups, canon_up]
  exact upOf_apply m c k q

abbrev wul : FVec Ideal S1024x2816 .bf16 := (View.whole cc0_scratch1).readCov (ups m c)
  (Rect.unit (s := S1024x5632) ![0, 0] ![1024, 2816] inb_S1024x5632_S1024x2816_0_0).toLoadRect
abbrev wur : FVec Ideal S1024x2816 .bf16 := (View.whole cc0_scratch1).readCov (ups m c)
  (Rect.unit (s := S1024x5632) ![0, 2816] ![1024, 2816] inb_S1024x5632_S1024x2816_0_2816).toLoadRect
theorem wul_eq (k : W) (f : H) : wul m c (ix2 k f) = kWU m c k (u0 f) := by
  rw [← ups_apply]
  show (View.whole cc0_scratch1).readCov (ups m c) _ _ = _
  rw [View.readCov_eq_canon']
  refine congrArg (View.canon (ups m c)) (funext fun j => Fin.ext ?_)
  fin_cases j
  · show 0 + 1 * k.val = k.val; omega
  · show 0 + 1 * f.val = f.val; omega
theorem wur_eq (k : W) (f : H) : wur m c (ix2 k f) = kWU m c k (u1 f) := by
  rw [← ups_apply]
  show (View.whole cc0_scratch1).readCov (ups m c) _ _ = _
  rw [View.readCov_eq_canon']
  refine congrArg (View.canon (ups m c)) (funext fun j => Fin.ext ?_)
  fin_cases j
  · show 0 + 1 * k.val = k.val; omega
  · show 2816 + 1 * f.val = 2816 + f.val; omega

end Cert.FKernelIdeal.Val

end
-- ==== Proof.FfLeft.lean ====
/-
  The gated ConvFFN's backward pass: what is left after each grid point. The weights stay where the first point put
  them, eight rows are handed to the block before, and the gradients of the taps, the scale and the shift grow by one
  block's sum at every point.
-/
module
public import proofs.«01_k».proof.Proof.FfCopy
public import Idealize.ShloMosaic.Lib.Pipeline.ValueKit
public import Idealize.ShloMosaic.Lib.Pipeline.ReadBack
@[expose] public section
set_option maxRecDepth 16384
noncomputable section
namespace Cert.FKernelIdeal.Val
open Cert.FKernelIdeal Cert.FKernelIdeal.Gen Cert.Ff
open Idealize.ShloMosaic Idealize.ShloMosaic.TcCoe Idealize.SL.Sem
section Taps
variable {sig' : RefSig} {κ : Kind} {sp : Space} (v : View sig' κ sp S8x2816 .f32) (f)

/-- Rows 0, 1, 2 stored one after another over what `L` left. -/
theorem rows3 (p2 p1 p0 : FVec Ideal S1x2816 .f32) (L : List (View.Piece (Elt Ideal) S8x2816 .f32))
    (Y : FVec Ideal S8x2816 .f32) (hY : v.read (Elt Ideal) (v.writes (Elt Ideal) f L) = Y) (T : ℕ → H → EReal)
    (h0 : ∀ w, p0 (ix2 (0 : Fin 1) w) = Y (ix2 (0 : Fin 8) w) + T 2 w)
    (h1 : ∀ w, p1 (ix2 (0 : Fin 1) w) = Y (ix2 (1 : Fin 8) w) + T 1 w)
    (h2 : ∀ w, p2 (ix2 (0 : Fin 1) w) = Y (ix2 (2 : Fin 8) w) + T 0 w) (a : Fin 8) (w : H) :
    v.read (Elt Ideal) (v.writes (Elt Ideal) f
      ((⟨Rect.unit (s := S8x2816) ![2, 0] ![1, 2816] inb_S8x2816_S1x2816_2_0, p2⟩ : View.Piece (Elt Ideal) S8x2816 .f32)
        :: (⟨Rect.unit (s := S8x2816) ![1, 0] ![1, 2816] inb_S8x2816_S1x2816_1_0, p1⟩ : View.Piece (Elt Ideal) S8x2816 .f32)
        :: (⟨Rect.unit (s := S8x2816) ![0, 0] ![1, 2816] inb_S8x2816_S1x2816_0_0, p0⟩ : View.Piece (Elt Ideal) S8x2816 .f32)
        :: L)) (ix2 a w)
      = Y (ix2 a w) + if a.val < 3 then T (2 - a.val) w else 0 := by
  by_cases a2 : a = 2
  · subst a2
    exact (View.read_writes_cons_rows_of_mem v f _ _ _ (ix2 (2 : Fin 8) w) (ix2 (0 : Fin 1) w) rfl rfl rfl).trans (h2 w)
  refine (View.read_writes_cons_rows_of_not_mem v f _ _ _ (ix2 a w) rfl rfl ?_).trans ?_
  · show a.val < 2 ∨ 2 + 1 ≤ a.val
    have : a.val ≠ 2 := fun h => a2 (Fin.ext h)
    omega
  by_cases a1 : a = 1
  · subst a1
    exact (View.read_writes_cons_rows_of_mem v f _ _ _ (ix2 (1 : Fin 8) w) (ix2 (0 : Fin 1) w) rfl rfl rfl).trans (h1 w)
  refine (View.read_writes_cons_rows_of_not_mem v f _ _ _ (ix2 a w) rfl rfl ?_).trans ?_
  · show a.val < 1 ∨ 1 + 1 ≤ a.val
    have : a.val ≠ 1 := fun h => a1 (Fin.ext h)
    omega
  by_cases a0 : a = 0
  · subst a0
    exact (View.read_writes_cons_rows_of_mem v f _ _ _ (ix2 (0 : Fin 8) w) (ix2 (0 : Fin 1) w) rfl rfl rfl).trans (h0 w)
  refine (View.read_writes_cons_rows_of_not_mem v f _ _ _ (ix2 a w) rfl rfl ?_).trans ?_
  · show a.val < 0 ∨ 0 + 1 ≤ a.val
    have : a.val ≠ 0 := fun h => a0 (Fin.ext h)
    omega
  have h2 : a.val ≠ 2 := fun h => a2 (Fin.ext h)
  have h1 : a.val ≠ 1 := fun h => a1 (Fin.ext h)
  have h0 : a.val ≠ 0 := fun h => a0 (Fin.ext h)
  rw [if_neg (by omega), hY, add_zero]

/-- A row of a block. -/
theorem ld_tap0 (x : FVec Ideal S8x2816 .f32) (z : Fin 1) (w : H) :
    View.ld (Val := Elt Ideal) (S := S8x2816) (e' := .f32) x (Rect.unit ![0, 0] ![1, 2816] inb_S8x2816_S1x2816_0_0) (ix2 z w)
      = x (ix2 (0 : Fin 8) w) := by
  obtain rfl : z = 0 := Subsingleton.elim _ _
  pointwise
theorem ld_tap1 (x : FVec Ideal S8x2816 .f32) (z : Fin 1) (w : H) :
    View.ld (Val := Elt Ideal) (S := S8x2816) (e' := .f32) x (Rect.unit ![1, 0] ![1, 2816] inb_S8x2816_S1x2816_1_0) (ix2 z w)
      = x (ix2 (1 : Fin 8) w) := by
  obtain rfl : z = 0 := Subsingleton.elim _ _
  pointwise
theorem ld_tap2 (x : FVec Ideal S8x2816 .f32) (z : Fin 1) (w : H) :
    View.ld (Val := Elt Ideal) (S := S8x2816) (e' := .f32) x (Rect.unit ![2, 0] ![1, 2816] inb_S8x2816_S1x2816_2_0) (ix2 z w)
      = x (ix2 (2 : Fin 8) w) := by
  obtain rfl : z = 0 := Subsingleton.elim _ _
  pointwise

/-- The two halves of the up projection's weights. -/
abbrev wl (x : FVec Ideal S1024x5632 .bf16) : FVec Ideal S1024x2816 .bf16 :=
  View.ld (Val := Elt Ideal) (S := S1024x5632) (e' := .bf16) x (Rect.unit ![0, 0] ![1024, 2816] inb_S1024x5632_S1024x2816_0_0)
abbrev wr (x : FVec Ideal S1024x5632 .bf16) : FVec Ideal S1024x2816 .bf16 :=
  View.ld (Val := Elt Ideal) (S := S1024x5632) (e' := .bf16) x (Rect.unit ![0, 2816] ![1024, 2816] inb_S1024x5632_S1024x2816_0_2816)
theorem wl_apply (x : FVec Ideal S1024x5632 .bf16) (k : W) (f : H) : wl x (ix2 k f) = x (ix2 k (u0 f)) := by
  pointwise [wl]
theorem wr_apply (x : FVec Ideal S1024x5632 .bf16) (k : W) (f : H) : wr x (ix2 k f) = x (ix2 k (u1 f)) := by
  pointwise [wr]
end Taps

section Stores
variable {sig' : RefSig} {κ : Kind} {sp : Space} (v : View sig' κ sp S8x1024 .f32) (f)

/-- Row 0 stored over what `L` left. -/
theorem rows1 (p0 : FVec Ideal S1x1024 .f32) (L : List (View.Piece (Elt Ideal) S8x1024 .f32))
    (Y : FVec Ideal S8x1024 .f32) (hY : v.read (Elt Ideal) (v.writes (Elt Ideal) f L) = Y) (T : W → EReal)
    (h0 : ∀ w, p0 (ix2 (0 : Fin 1) w) = Y (ix2 (0 : Fin 8) w) + T w) (a : Fin 8) (w : W) :
    v.read (Elt Ideal) (v.writes (Elt Ideal) f
      ((⟨Rect.unit (s := S8x1024) ![0, 0] ![1, 1024] inb_S8x1024_S1x1024_0_0, p0⟩ : View.Piece (Elt Ideal) S8x1024 .f32)
        :: L)) (ix2 a w)
      = Y (ix2 a w) + if a.val < 1 then T w else 0 := by
  by_cases a0 : a = 0
  · subst a0
    exact (View.read_writes_cons_rows_of_mem v f _ _ _ (ix2 (0 : Fin 8) w) (ix2 (0 : Fin 1) w) rfl rfl rfl).trans (h0 w)
  refine (View.read_writes_cons_rows_of_not_mem v f _ _ _ (ix2 a w) rfl rfl ?_).trans ?_
  · show a.val < 0 ∨ 0 + 1 ≤ a.val
    have : a.val ≠ 0 := fun h => a0 (Fin.ext h)
    omega
  have h0 : a.val ≠ 0 := fun h => a0 (Fin.ext h)
  rw [if_neg (by omega), hY, add_zero]

/-- A row of a block. -/
theorem ld_row0 (x : FVec Ideal S8x1024 .f32) (z : Fin 1) (w : W) :
    View.ld (Val := Elt Ideal) (S := S8x1024) (e' := .f32) x (Rect.unit ![0, 0] ![1, 1024] inb_S8x1024_S1x1024_0_0) (ix2 z w)
      = x (ix2 (0 : Fin 8) w) := by
  obtain rfl : z = 0 := Subsingleton.elim _ _
  pointwise
end Stores

variable (m : (ℓ : Loc nD τ sig) → Buf (Elt Ideal) ℓ) (c : Dev nD)

/-- Block `32 - k`, the one taken at step `k`. -/
abbrev nth (k : ℕ) : Fin 33 := Fin.ofNat 33 (32 - k)
theorem bk_eq (t : Fin cfg0.N) : bk t = nth t.val :=
  Fin.ext (by show 32 - t.val = (32 - t.val) % 33; omega)

abbrev tapSum (s : ℕ) (b : Fin 33) (w : H) : EReal :=
  ∑ r : Fin 256, ahead (kD m c) (kUP m c) (kWD m c) (kCW m c) s (row b r) w * kUP m c (row b r) (u0 w)
abbrev gSum (b : Fin 33) (k : W) : EReal :=
  ∑ r : Fin 256, dy (kD m c) (kUP m c) (kWD m c) (kCW m c) (kWU m c) (row b r) k * Ln.xhat (kX m c (row b r)) k
abbrev bSum (b : Fin 33) (k : W) : EReal :=
  ∑ r : Fin 256, dy (kD m c) (kUP m c) (kWD m c) (kCW m c) (kWU m c) (row b r) k

/-- What the points up to `n` leave behind. -/
structure Left (n : ℕ) (hn : n < cfg0.N) : Prop where
  s0 : ∀ f w, ((outsAt0 m c n hn).2.2.2.2.2.1 : FVec Ideal S2816x1024 .bf16) (ix2 f w) = kWD m c f w
  s1 : ∀ a w, ((outsAt0 m c n hn).2.2.2.2.2.2.1 : FVec Ideal S1024x5632 .bf16) (ix2 a w) = kWU m c a w
  s2 : ∀ (a : Fin 8) (w : H), ((outsAt0 m c n hn).2.2.2.2.2.2.2 : FVec Ideal S8x2816 .f32) (ix2 a w)
    = dc (kD m c) (kUP m c) (kWD m c) (kCW m c) ⟨256 * (nth n).val + a.val, by omega⟩ w
  tap : ∀ (a : Fin 8) (w : H), ((outsAt0 m c n hn).2.1 : FVec Ideal S8x2816 .f32) (ix2 a w)
    = if a.val < 3 then ∑ k ∈ Finset.range (n + 1), tapSum m c (2 - a.val) (nth k) w else 0
  sg : ∀ (a : Fin 8) (w : W), ((outsAt0 m c n hn).2.2.2.1 : FVec Ideal S8x1024 .f32) (ix2 a w)
    = if a.val < 1 then ∑ k ∈ Finset.range (n + 1), gSum m c (nth k) w else 0
  sb : ∀ (a : Fin 8) (w : W), ((outsAt0 m c n hn).2.2.2.2.1 : FVec Ideal S8x1024 .f32) (ix2 a w)
    = if a.val < 1 then ∑ k ∈ Finset.range (n + 1), bSum m c (nth k) w else 0

/-- The gradients of a point's rows. -/
structure Rows (t : Fin cfg0.N) : Prop where
  up : ∀ r q, ((outsAt0 m c t.val t.isLt).1 : FVec Ideal S256x5632 .bf16) (ix2 r q)
    = dup (kD m c) (kUP m c) (kWD m c) (kCW m c) (row (bk t) r) q
  pin : ∀ r q, ((outsAt0 m c t.val t.isLt).2.2.1 : FVec Ideal S256x1024 .f32) (ix2 r q)
    = dpin (kD m c) (kUP m c) (kWD m c) (kCW m c) (kWU m c) (kX m c) (kG m c) (row (bk t) r) q

variable (t : Fin cfg0.N)

theorem rest_lt (h : ¬ t.val % 33 = 0) : t.val - 1 < cfg0.N := by omega

theorem atB (h : ¬ t.val % 33 = 0) (L : Left m c (t.val - 1) (rest_lt t h)) :
    At (kD m c) (kUP m c) (kWD m c) (kCW m c) (kWU m c) (kX m c) (kG m c) (bk t) (grid0.coords t)
      (iblk m c 0 t) (iblk m c 1 t) (iblk m c 2 t) (iblk m c 3 t) (iblk m c 4 t) (iblk m c 5 t)
      (outsAt0 m c (t.val - 1) (rest_lt t h)).2.2.2.2.2.1 (outsAt0 m c (t.val - 1) (rest_lt t h)).2.2.2.2.2.2.2
      (wl (outsAt0 m c (t.val - 1) (rest_lt t h)).2.2.2.2.2.2.1) (wr (outsAt0 m c (t.val - 1) (rest_lt t h)).2.2.2.2.2.2.1) := by
  refine at_of m c t _ _ _ _ L.s0 (fun a w => ?_) (fun k f => (wl_apply _ k f).trans (L.s1 _ _))
    (fun k f => (wr_apply _ k f).trans (L.s1 _ _))
  have h1 := lt33 t
  have e : (nth (t.val - 1)).val = (bk t).val + 1 := by
    show (32 - (t.val - 1)) % 33 = 32 - t.val + 1; omega
  rw [L.s2, dif_pos (by rw [show (bk t).val = 32 - t.val from rfl]; omega)]
  refine congrArg (fun r => dc _ _ _ _ r w) (Fin.ext ?_)
  show 256 * (nth (t.val - 1)).val + a.val = _
  rw [e]; ring

theorem rowsB (h : ¬ t.val % 33 = 0) (L : Left m c (t.val - 1) (rest_lt t h)) : Rows m c t := by
  constructor
  · intro r q
    rw [outsAt0_B m c t h h]; unfold leavesB
    frame_open; delta runB; frame_out
    try simp only [read_unread_whole]
    exact (atB m c t h L).dup r q
  · intro r q
    rw [outsAt0_B m c t h h]; unfold leavesB
    frame_open; delta runB; frame_out
    try simp only [read_unread_whole]
    exact (atB m c t h L).dpin r q

theorem s0B (h : ¬ t.val % 33 = 0) (L : Left m c (t.val - 1) (rest_lt t h)) (a : H) (w : W) :
    ((outsAt0 m c t.val t.isLt).2.2.2.2.2.1 : FVec Ideal S2816x1024 .bf16) (ix2 a w) = kWD m c a w := by
  rw [outsAt0_B m c t h h]; unfold leavesB
  exact L.s0 a w
theorem s1B (h : ¬ t.val % 33 = 0) (L : Left m c (t.val - 1) (rest_lt t h)) (a : W) (w : U) :
    ((outsAt0 m c t.val t.isLt).2.2.2.2.2.2.1 : FVec Ideal S1024x5632 .bf16) (ix2 a w) = kWU m c a w := by
  rw [outsAt0_B m c t h h]; unfold leavesB
  exact L.s1 a w
theorem s2B (h : ¬ t.val % 33 = 0) (L : Left m c (t.val - 1) (rest_lt t h)) (a : Fin 8) (w : H) :
    ((outsAt0 m c t.val t.isLt).2.2.2.2.2.2.2 : FVec Ideal S8x2816 .f32) (ix2 a w)
    = dc (kD m c) (kUP m c) (kWD m c) (kCW m c) ⟨256 * (bk t).val + a.val, by omega⟩ w := by
  rw [outsAt0_B m c t h h]; unfold leavesB
  frame_open; delta runB; frame_out
  try simp only [read_unread_whole]
  exact (atB m c t h L).carry a w

theorem tapB (h : ¬ t.val % 33 = 0) (L : Left m c (t.val - 1) (rest_lt t h)) (a : Fin 8) (w : H) :
    ((outsAt0 m c t.val t.isLt).2.1 : FVec Ideal S8x2816 .f32) (ix2 a w)
    = ((outsAt0 m c (t.val - 1) (rest_lt t h)).2.1 : FVec Ideal S8x2816 .f32) (ix2 a w)
      + if a.val < 3 then tapSum m c (2 - a.val) (bk t) w else 0 := by
  rw [outsAt0_B m c t h h]; unfold leavesB
  frame_open; delta runB; frame_out
  try simp only [read_unread_whole]
  have H := atB m c t h L
  refine rows3 _ _ _ _ _ [] _ ((hs0_7 t).read_unread _) (fun s w => tapSum m c s (bk t) w) ?_ ?_ ?_ a w
  · exact fun w => (H.tap0 _ _ _).trans (congrArg (· + _) (ld_tap0 _ _ _))
  · exact fun w => (H.tap1 _ _ _).trans (congrArg (· + _) (ld_tap1 _ _ _))
  · exact fun w => (H.tap2 _ _ _).trans (congrArg (· + _) (ld_tap2 _ _ _))
theorem sgB (h : ¬ t.val % 33 = 0) (L : Left m c (t.val - 1) (rest_lt t h)) (a : Fin 8) (w : W) :
    ((outsAt0 m c t.val t.isLt).2.2.2.1 : FVec Ideal S8x1024 .f32) (ix2 a w)
    = ((outsAt0 m c (t.val - 1) (rest_lt t h)).2.2.2.1 : FVec Ideal S8x1024 .f32) (ix2 a w)
      + if a.val < 1 then gSum m c (bk t) w else 0 := by
  rw [outsAt0_B m c t h h]; unfold leavesB
  frame_open; delta runB; frame_out
  try simp only [read_unread_whole]
  have H := atB m c t h L
  refine rows1 _ _ _ [] _ ((hs0_9 t).read_unread _) (gSum m c (bk t)) ?_ a w
  exact fun w => (H.dg _ _ _).trans (congrArg (· + _) (ld_row0 _ _ _))
theorem sbB (h : ¬ t.val % 33 = 0) (L : Left m c (t.val - 1) (rest_lt t h)) (a : Fin 8) (w : W) :
    ((outsAt0 m c t.val t.isLt).2.2.2.2.1 : FVec Ideal S8x1024 .f32) (ix2 a w)
    = ((outsAt0 m c (t.val - 1) (rest_lt t h)).2.2.2.2.1 : FVec Ideal S8x1024 .f32) (ix2 a w)
      + if a.val < 1 then bSum m c (bk t) w else 0 := by
  rw [outsAt0_B m c t h h]; unfold leavesB
  frame_open; delta runB; frame_out
  try simp only [read_unread_whole]
  have H := atB m c t h L
  refine rows1 _ _ _ [] _ ((hs0_10 t).read_unread _) (bSum m c (bk t)) ?_ a w
  exact fun w => (H.db _ _ _).trans (congrArg (· + _) (ld_row0 _ _ _))

theorem leftB (h : ¬ t.val % 33 = 0) (L : Left m c (t.val - 1) (rest_lt t h)) : Left m c t.val t.isLt := by
  have e : t.val - 1 + 1 = t.val := by omega
  refine ⟨s0B m c t h L, s1B m c t h L, fun a w => ?_, fun a w => ?_, fun a w => ?_, fun a w => ?_⟩
  · rw [s2B m c t h L]
    exact congrArg (fun r => dc _ _ _ _ r w) (Fin.ext (by show 256 * (bk t).val + _ = _; rw [bk_eq]))
  · rw [tapB m c t h L, L.tap, e, Finset.sum_range_succ, bk_eq]
    by_cases ha : a.val < 3
    · simp only [if_pos ha]
    · simp only [if_neg ha, add_zero]
  · rw [sgB m c t h L, L.sg, e, Finset.sum_range_succ, bk_eq]
    by_cases ha : a.val < 1
    · simp only [if_pos ha]
    · simp only [if_neg ha, add_zero]
  · rw [sbB m c t h L, L.sb, e, Finset.sum_range_succ, bk_eq]
    by_cases ha : a.val < 1
    · simp only [if_pos ha]
    · simp only [if_neg ha, add_zero]

/-! ## The first point -/

theorem pay4_eq (a : Fin 8) (w : H) : k0_pay4 (F := Ideal) (ix2 a w) = 0 := by pointwise [k0_pay4]
theorem pay5_eq : k0_pay5 (F := Ideal) = fun _ => (0 : EReal) := by
  funext x
  obtain ⟨a, w, rfl⟩ := ix2_of x
  pointwise [k0_pay5]
theorem pay6_eq : k0_pay6 (F := Ideal) = fun _ => (0 : EReal) := by
  funext x
  obtain ⟨a, w, rfl⟩ := ix2_of x
  pointwise [k0_pay6]
theorem pay7_eq : k0_pay7 (F := Ideal) = fun _ => (0 : EReal) := by
  funext x
  obtain ⟨a, w, rfl⟩ := ix2_of x
  pointwise [k0_pay7]

theorem atA (h : t.val % 33 = 0) :
    At (kD m c) (kUP m c) (kWD m c) (kCW m c) (kWU m c) (kX m c) (kG m c) (bk t) (grid0.coords t)
      (iblk m c 0 t) (iblk m c 1 t) (iblk m c 2 t) (iblk m c 3 t) (iblk m c 4 t) (iblk m c 5 t)
      (wd m c) (k0_pay4 (F := Ideal)) (wul m c) (wur m c) := by
  refine at_of m c t _ _ _ _ (wd_eq m c) (fun a w => ?_) (wul_eq m c) (wur_eq m c)
  have h1 := lt33 t
  rw [pay4_eq, dif_neg (by rw [show (bk t).val = 32 - t.val from rfl]; omega)]

theorem rowsA (h : t.val % 33 = 0) : Rows m c t := by
  constructor
  · intro r q
    rw [outsAt0_A m c t h h]; unfold leavesA
    frame_open; delta runA; frame_out
    try simp only [read_unread_whole]
    exact (atA m c t h).dup r q
  · intro r q
    rw [outsAt0_A m c t h h]; unfold leavesA
    frame_open; delta runA; frame_out
    try simp only [read_unread_whole]
    exact (atA m c t h).dpin r q

theorem s0A (h : t.val % 33 = 0) (f : H) (w : W) :
    ((outsAt0 m c t.val t.isLt).2.2.2.2.2.1 : FVec Ideal S2816x1024 .bf16) (ix2 f w) = kWD m c f w := by
  rw [outsAt0_A m c t h h]; unfold leavesA
  frame_open; delta runA; frame_out
  exact slabs_apply m c f w
theorem s1A (h : t.val % 33 = 0) (k : W) (q : U) :
    ((outsAt0 m c t.val t.isLt).2.2.2.2.2.2.1 : FVec Ideal S1024x5632 .bf16) (ix2 k q) = kWU m c k q := by
  rw [outsAt0_A m c t h h]; unfold leavesA
  frame_open; delta runA; frame_out
  exact ups_apply m c k q
theorem s2A (h : t.val % 33 = 0) (a : Fin 8) (w : H) :
    ((outsAt0 m c t.val t.isLt).2.2.2.2.2.2.2 : FVec Ideal S8x2816 .f32) (ix2 a w)
    = dc (kD m c) (kUP m c) (kWD m c) (kCW m c) ⟨256 * (bk t).val + a.val, by omega⟩ w := by
  rw [outsAt0_A m c t h h]; unfold leavesA
  frame_open; delta runA; frame_out
  exact (atA m c t h).carry a w

theorem tapA (h : t.val % 33 = 0) (a : Fin 8) (w : H) :
    ((outsAt0 m c t.val t.isLt).2.1 : FVec Ideal S8x2816 .f32) (ix2 a w)
    = if a.val < 3 then tapSum m c (2 - a.val) (bk t) w else 0 := by
  rw [outsAt0_A m c t h h]; unfold leavesA
  frame_open; delta runA; frame_out
  try simp only [read_unread_whole]
  simp (disch := decide) only [↓ View.readCov_skip, ↓ View.readCov_cons_toLoadRect, ↓ View.readCov_fill]
  rw [← View.read_writes_junk_eq_canon (ms0_7 t).view]
  have H := atA m c t h
  refine (rows3 _ _ _ _ _ _ (k0_pay5 (F := Ideal)) ?_ (fun s w => tapSum m c s (bk t) w) ?_ ?_ ?_ a w).trans ?_
  · rw [View.read_writes_junk_eq_canon]
    exact View.canon_cons_unit_lit' (S := S8x2816) (off := ![0, 0]) _ _ [] (by decide)
  · exact fun w => (H.tap0 _ _ _).trans (congrArg (· + _) (ld_tap0 _ _ _))
  · exact fun w => (H.tap1 _ _ _).trans (congrArg (· + _) (ld_tap1 _ _ _))
  · exact fun w => (H.tap2 _ _ _).trans (congrArg (· + _) (ld_tap2 _ _ _))
  · rw [pay5_eq]; exact zero_add _
theorem sgA (h : t.val % 33 = 0) (a : Fin 8) (w : W) :
    ((outsAt0 m c t.val t.isLt).2.2.2.1 : FVec Ideal S8x1024 .f32) (ix2 a w)
    = if a.val < 1 then gSum m c (bk t) w else 0 := by
  rw [outsAt0_A m c t h h]; unfold leavesA
  frame_open; delta runA; frame_out
  try simp only [read_unread_whole]
  simp (disch := decide) only [↓ View.readCov_skip, ↓ View.readCov_fill]
  rw [← View.read_writes_junk_eq_canon (ms0_9 t).view]
  have H := atA m c t h
  refine (rows1 _ _ _ _ (k0_pay6 (F := Ideal)) ?_ (gSum m c (bk t)) ?_ a w).trans ?_
  · rw [View.read_writes_junk_eq_canon]
    exact View.canon_cons_unit_lit' (S := S8x1024) (off := ![0, 0]) _ _ [] (by decide)
  · exact fun w => (H.dg _ _ _).trans (congrArg (· + _) (ld_row0 _ _ _))
  · rw [pay6_eq]; exact zero_add _
theorem sbA (h : t.val % 33 = 0) (a : Fin 8) (w : W) :
    ((outsAt0 m c t.val t.isLt).2.2.2.2.1 : FVec Ideal S8x1024 .f32) (ix2 a w)
    = if a.val < 1 then bSum m c (bk t) w else 0 := by
  rw [outsAt0_A m c t h h]; unfold leavesA
  frame_open; delta runA; frame_out
  try simp only [read_unread_whole]
  simp (disch := decide) only [↓ View.readCov_skip, ↓ View.readCov_fill]
  rw [← View.read_writes_junk_eq_canon (ms0_10 t).view]
  have H := atA m c t h
  refine (rows1 _ _ _ _ (k0_pay7 (F := Ideal)) ?_ (bSum m c (bk t)) ?_ a w).trans ?_
  · rw [View.read_writes_junk_eq_canon]
    exact View.canon_cons_unit_lit' (S := S8x1024) (off := ![0, 0]) _ _ [] (by decide)
  · exact fun w => (H.db _ _ _).trans (congrArg (· + _) (ld_row0 _ _ _))
  · rw [pay7_eq]; exact zero_add _

theorem leftA (h : t.val % 33 = 0) : Left m c t.val t.isLt := by
  have e : t.val = 0 := by have := lt33 t; omega
  refine ⟨s0A m c t h, s1A m c t h, fun a w => ?_, fun a w => ?_,
    fun a w => ?_, fun a w => ?_⟩
  · rw [s2A m c t h]
    exact congrArg (fun r => dc _ _ _ _ r w) (Fin.ext (by show 256 * (bk t).val + _ = _; rw [bk_eq]))
  · rw [tapA m c t h, bk_eq, e, Finset.sum_range_one]
  · rw [sgA m c t h, bk_eq, e, Finset.sum_range_one]
  · rw [sbA m c t h, bk_eq, e, Finset.sum_range_one]

/-! ## All points -/

theorem left : ∀ (n : ℕ) (hn : n < cfg0.N), Left m c n hn
  | 0, hn => leftA m c ⟨0, hn⟩ rfl
  | n + 1, hn => leftB m c ⟨n + 1, hn⟩ (by
      have : n + 1 < 33 := lt33 ⟨n + 1, hn⟩
      show ¬ (n + 1) % 33 = 0; omega) (left n (by omega))

theorem rows : Rows m c t := by
  by_cases h : t.val % 33 = 0
  · exact rowsA m c t h
  · exact rowsB m c t h (left m c _ _)

end Cert.FKernelIdeal.Val
end
-- ==== Proof.FfVal.lean ====
/-
  The gated ConvFFN's backward pass: the five result arrays after the last grid point, and the run that leaves them.
-/
module

public import proofs.«01_k».proof.Proof.FfLeft
public import Idealize.ShloMosaic.Lib.Pipeline.ValueKit

@[expose] public section

set_option maxRecDepth 16384

noncomputable section

namespace Cert.FKernelIdeal.Val

open Cert.FKernelIdeal Cert.FKernelIdeal.Gen Cert.Ff
open Idealize.ShloMosaic Idealize.ShloMosaic.TcCoe Idealize.SL.Sem

variable (m : (ℓ : Loc nD τ sig) → Buf (Elt Ideal) ℓ) (c : Dev nD) (ρ : Dev nD → PrngReg)

/-- The sum over the blocks, the last one first, of each block's sum is the sum over all rows. -/
theorem sum_blocks (f : R → EReal) :
    (∑ k ∈ Finset.range (32 + 1), ∑ r : Fin 256, f (row (nth k) r)) = ∑ r, f r := by
  rw [← Fin.sum_univ_eq_sum_range (fun k => ∑ r : Fin 256, f (row (nth k) r)) 33]
  have e : (∑ k : Fin 33, ∑ r : Fin 256, f (row (nth k.val) r)) = ∑ b : Fin 33, ∑ r : Fin 256, f (row b r) := by
    refine Fintype.sum_equiv Fin.revPerm _ _ fun k => ?_
    have : nth k.val = Fin.revPerm k := Fin.ext (by
      show (32 - k.val) % 33 = (Fin.rev k).val
      rw [Fin.val_rev]; omega)
    rw [this]
  rw [e, ← Finset.sum_product']
  refine Finset.sum_bij' (i := fun p _ => row p.1 p.2)
    (j := fun r _ => ((⟨r.val / 256, by omega⟩ : Fin 33), (⟨r.val % 256, by omega⟩ : Fin 256)))
    (fun _ _ => Finset.mem_univ _) (fun _ _ => Finset.mem_univ _) (fun p _ => ?_) (fun r _ => ?_) (fun _ _ => rfl)
  · refine Prod.ext (Fin.ext ?_) (Fin.ext ?_)
    · show (256 * p.1.val + p.2.val) / 256 = p.1.val; omega
    · show (256 * p.1.val + p.2.val) % 256 = p.2.val; omega
  · exact Fin.ext (by show 256 * (r.val / 256) + r.val % 256 = r.val; omega)

/-- The results. -/
def rProj : FVec Ideal S8448x5632 .bf16 := fun y => dup (kD m c) (kUP m c) (kWD m c) (kCW m c) (y 0) (y 1)
def rTap : FVec Ideal S8x2816 .f32 := fun y => if (y 0).val < 3 then dcw (kD m c) (kUP m c) (kWD m c) (kCW m c) (2 - (y 0).val) (y 1) else 0
def rPin : FVec Ideal S8448x1024 .f32 := fun y =>
  dpin (kD m c) (kUP m c) (kWD m c) (kCW m c) (kWU m c) (kX m c) (kG m c) (y 0) (y 1)
def rScale : FVec Ideal S8x1024 .f32 := fun y =>
  if (y 0).val < 1 then dg (kD m c) (kUP m c) (kWD m c) (kCW m c) (kWU m c) (kX m c) (y 1) else 0
def rShift : FVec Ideal S8x1024 .f32 := fun y =>
  if (y 0).val < 1 then db (kD m c) (kUP m c) (kWD m c) (kCW m c) (kWU m c) (y 1) else 0

theorem arr6 : (dats m 0 c).arrAt 6 cfg0.N = rProj m c := by
  refine (dats m 0 c).arrAt_eq_of_covers 6 _ (by decide +kernel) fun t hf y => ?_
  obtain ⟨r, q, rfl⟩ := ix2_of y
  blk_simp
  rw [after0_6]
  refine ((rows m c t).up r q).trans ?_
  refine congrArg₂ (dup _ _ _ _) (Fin.ext ?_) (Fin.ext ?_)
  · show 256 * (32 - t.val) + r.val = _
    blk_simp [idx t]; omega
  · blk_simp [idx t]
theorem arr8 : (dats m 0 c).arrAt 8 cfg0.N = rPin m c := by
  refine (dats m 0 c).arrAt_eq_of_covers 8 _ (by decide +kernel) fun t hf y => ?_
  obtain ⟨r, q, rfl⟩ := ix2_of y
  blk_simp
  rw [after0_8]
  refine ((rows m c t).pin r q).trans ?_
  refine congrArg₂ (dpin _ _ _ _ _ _ _) (Fin.ext ?_) (Fin.ext ?_)
  · show 256 * (32 - t.val) + r.val = _
    blk_simp [idx t]; omega
  · blk_simp [idx t]

theorem last (t : Fin cfg0.N) (h : t.val % 33 = 32) : t.val = 32 := by have := lt33 t; omega

theorem arr7 : (dats m 0 c).arrAt 7 cfg0.N = rTap m c := by
  refine (dats m 0 c).arrAt_eq_of_covers 7 _ (by decide +kernel) fun t hf y => ?_
  obtain ⟨r, q, rfl⟩ := ix2_of y
  have e := last t ((flush0_7 t).mp hf)
  blk_simp
  rw [after0_7]
  refine ((left m c t.val t.isLt).tap r q).trans ?_
  have e0 : (win0_7.blk t).view.emb (ix2 r q) = ix2 r q := by blk_ext [idx t]
  rw [e0, e]
  exact if_congr Iff.rfl (sum_blocks fun p => ahead (kD m c) (kUP m c) (kWD m c) (kCW m c) (2 - r.val) p q * kUP m c p (u0 q)) rfl
theorem arr9 : (dats m 0 c).arrAt 9 cfg0.N = rScale m c := by
  refine (dats m 0 c).arrAt_eq_of_covers 9 _ (by decide +kernel) fun t hf y => ?_
  obtain ⟨r, q, rfl⟩ := ix2_of y
  have e := last t ((flush0_9 t).mp hf)
  blk_simp
  rw [after0_9]
  refine ((left m c t.val t.isLt).sg r q).trans ?_
  have e0 : (win0_9.blk t).view.emb (ix2 r q) = ix2 r q := by blk_ext [idx t]
  rw [e0, e]
  exact if_congr Iff.rfl (sum_blocks fun p =>
    dy (kD m c) (kUP m c) (kWD m c) (kCW m c) (kWU m c) p q * Ln.xhat (kX m c p) q) rfl
theorem arr10 : (dats m 0 c).arrAt 10 cfg0.N = rShift m c := by
  refine (dats m 0 c).arrAt_eq_of_covers 10 _ (by decide +kernel) fun t hf y => ?_
  obtain ⟨r, q, rfl⟩ := ix2_of y
  have e := last t ((flush0_10 t).mp hf)
  blk_simp
  rw [after0_10]
  refine ((left m c t.val t.isLt).sb r q).trans ?_
  have e0 : (win0_10.blk t).view.emb (ix2 r q) = ix2 r q := by blk_ext [idx t]
  rw [e0, e]
  exact if_congr Iff.rfl (sum_blocks fun p => dy (kD m c) (kUP m c) (kWD m c) (kCW m c) (kWU m c) p q) rfl

/-- The run with the results named. -/
theorem run : θ_run defs (onTc (τ := τ) (main (F := Ideal))) ⟨m, fun _ => 0, ρ⟩ fun r => ∀ c : Dev nD,
      r.2.mem ((c : Thread nD τ).loc main_v0_0) = rProj m c
      ∧ r.2.mem ((c : Thread nD τ).loc main_v0_1) = rTap m c
      ∧ r.2.mem ((c : Thread nD τ).loc main_v0_2) = rPin m c
      ∧ r.2.mem ((c : Thread nD τ).loc main_v0_3) = rScale m c
      ∧ r.2.mem ((c : Thread nD τ).loc main_v0_4) = rShift m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨((h.1 c).1 6).trans (arr6 m c), ((h.1 c).1 7).trans (arr7 m c),
      ((h.1 c).1 8).trans (arr8 m c), ((h.1 c).1 9).trans (arr9 m c), ((h.1 c).1 10).trans (arr10 m c), h.2 c⟩)
    (θ_run_and (run_main m ρ) (unchanged m ρ))

end Cert.FKernelIdeal.Val

end
-- ==== Proof.FfFin.lean ====
/-
  What the precondition says: every element of every argument is a number, neither infinity.
-/
module

public import proofs.«01_k».proof.Proof.ScFin
public import proofs.«01_k».proof.Proof.Gen.Pre_finite_ffn
public import Idealize.ShloMosaic.Lib.ReduceAll
public import Idealize.ShloMosaic.Lib.Affine

@[expose] public section

noncomputable section

namespace Cert.Pre_finite_ffn.Val

open Cert.Pre_finite_ffn Cert.Pre_finite_ffn.Gen
open Cert.Pre_finite_sc.Val (fin_of)
open Idealize.ShloMosaic Idealize.ShloMosaic.TcCoe Idealize.SL.Sem

variable (x0 : FVec Ideal S8448x1024 .f32) (x1 : FVec Ideal S8448x5632 .f32) (x2 : FVec Ideal S8x2x352x1024 .bf16)
  (x3 : FVec Ideal S3x2816 .f32) (x4 : FVec Ideal S2x1024x5632 .bf16) (x5 : FVec Ideal S8448x1024 .f32)
  (x6 : FVec Ideal S1x1024 .f32)

instance : Subsingleton S_.Idx := ⟨fun a b => funext fun k => k.elim0⟩

theorem finite (h : fn (F := Ideal) x0 x1 x2 x3 x4 x5 x6 = fun _ => 1#1) :
    (∀ i, Ln.Fin' (x0 i)) ∧ (∀ i, Ln.Fin' (x1 i)) ∧ (∀ i, Ln.Fin' (x2 i)) ∧ (∀ i, Ln.Fin' (x3 i))
      ∧ (∀ i, Ln.Fin' (x4 i)) ∧ (∀ i, Ln.Fin' (x5 i)) ∧ (∀ i, Ln.Fin' (x6 i)) := by
  have e := congrFun h (fun k => k.elim0)
  simp only [fn, fn_part1, fn_part2] at e
  obtain ⟨e, e6⟩ := IntOp.andi_eq_one.mp e
  obtain ⟨e, e5⟩ := IntOp.andi_eq_one.mp e
  obtain ⟨e, e4⟩ := IntOp.andi_eq_one.mp e
  obtain ⟨e, e3⟩ := IntOp.andi_eq_one.mp e
  obtain ⟨e, e2⟩ := IntOp.andi_eq_one.mp e
  obtain ⟨e, e1⟩ := IntOp.andi_eq_one.mp e
  obtain ⟨e, e0⟩ := IntOp.andi_eq_one.mp e
  exact ⟨fun i => fin_of x0 _ i (Host.reduce_andi_all _ _ _ _ _ e0 i), fun i => fin_of x1 _ i (Host.reduce_andi_all _ _ _ _ _ e1 i),
    fun i => fin_of (s := S8x2x352x1024) x2 _ i (Host.reduce_andi_all _ _ _ _ _ e2 i), fun i => fin_of x3 _ i (Host.reduce_andi_all _ _ _ _ _ e3 i),
    fun i => fin_of (s := S2x1024x5632) x4 _ i (Host.reduce_andi_all _ _ _ _ _ e4 i), fun i => fin_of x5 _ i (Host.reduce_andi_all _ _ _ _ _ e5 i),
    fun i => fin_of x6 _ i (Host.reduce_andi_all _ _ _ _ _ e6 i)⟩

end Cert.Pre_finite_ffn.Val

end
-- ==== Proof.FfClaims.lean ====
/-
  The gated ConvFFN's backward pass: the claims.
-/
module

public import proofs.«01_k».proof.Defs
public import proofs.«01_k».proof.Proof.Gen.FKernel
public import proofs.«01_k».proof.Proof.Gen.FKernelIdeal
public import proofs.«01_k».proof.Proof.Gen.FReferenceIdeal
public import proofs.«01_k».proof.Proof.FfRun
public import proofs.«01_k».proof.Proof.FfVal
public import proofs.«01_k».proof.Proof.FfRef
public import proofs.«01_k».proof.Proof.FfFin

@[expose] public section

set_option maxRecDepth 16384

noncomputable section

namespace Cert.Proof.Ff

open Idealize.ShloMosaic Idealize.ShloMosaic.TcCoe Idealize.SL.Sem

open Cert.FKernelIdeal in
/-- The frame of the ideal program's text at the machine's words. -/
def FrameBits : Prop :=
  ∀ (m : (ℓ : Loc nD τ sig) → Buf (Elt Bits) ℓ) (g : Dev nD → PrngReg), True →
    θ_run (defs (F := Bits)) (onTc (τ := τ) (main (F := Bits))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0)
theorem frame_bits : FrameBits := fun m ρ _ => Cert.FKernelIdeal.Gen.frame (F := Bits) m ρ

/-- Kernel and ideal kernel are one text, so that this is the kernel's frame. -/
theorem frame_eq : FrameBits = Cert.quiescent_FKernel := by sl_kernel_rfl
theorem frame : Cert.quiescent_FKernel := frame_eq.mp frame_bits
theorem frame_ideal : Cert.quiescent_FKernelIdeal := fun m ρ _ => Cert.FKernelIdeal.Gen.frame m ρ
theorem frame_ideal_pre : Cert.quiescent_FKernelIdeal_pre_finite_ffn := fun m ρ _ => Cert.FKernelIdeal.Gen.frame m ρ

theorem frame_ref : Cert.quiescent_FReferenceIdeal := fun m ρ _ =>
  (θ_run Cert.FReferenceIdeal.defs _ _).mono (fun r h => ⟨fun c => (h c).2.2.2.2.2,
      Idealize.ShloMosaic.sem_eq_zero_of_no_sems (by decide) r.2⟩)
    (Cert.FReferenceIdeal.Value.run (F := Ideal) m ρ)
theorem frame_ref_pre : Cert.quiescent_FReferenceIdeal_pre_finite_ffn := fun m ρ _ => frame_ref m ρ trivial

theorem preserves : Cert.preserves_FKernel_FKernelIdeal := trivial

open Cert.FReferenceIdeal Cert.FReferenceIdeal.Read in
theorem algebraic : Cert.algebraic_FKernelIdeal_FReferenceIdeal_pre_finite_ffn := by
  intro m ρ m' ρ' hpre hag
  refine ⟨fun c => Cert.FKernelIdeal.Val.rProj m c, fun c => Cert.FKernelIdeal.Val.rTap m c, fun c => Cert.FKernelIdeal.Val.rPin m c,
    fun c => Cert.FKernelIdeal.Val.rScale m c, fun c => Cert.FKernelIdeal.Val.rShift m c, Cert.FKernelIdeal.Val.run m ρ, ?_⟩
  refine (θ_run Cert.FReferenceIdeal.defs _ _).mono (fun r h c => ?_) (Cert.FReferenceIdeal.Value.run (F := Ideal) m' ρ')
  obtain ⟨e0, e1, e2, e3, e4, e5, e6⟩ := hag c
  replace e0 : StableHlo.launchContents m' c (Proc.tc.devRef main_arg0) = m (c.tc.loc Cert.FKernelIdeal.main_arg0) := e0
  replace e1 : StableHlo.launchContents m' c (Proc.tc.devRef main_arg1) = m (c.tc.loc Cert.FKernelIdeal.main_arg1) := e1
  replace e2 : StableHlo.launchContents m' c (Proc.tc.devRef main_arg2) = m (c.tc.loc Cert.FKernelIdeal.main_arg2) := e2
  replace e3 : StableHlo.launchContents m' c (Proc.tc.devRef main_arg3) = m (c.tc.loc Cert.FKernelIdeal.main_arg3) := e3
  replace e4 : StableHlo.launchContents m' c (Proc.tc.devRef main_arg4) = m (c.tc.loc Cert.FKernelIdeal.main_arg4) := e4
  replace e5 : StableHlo.launchContents m' c (Proc.tc.devRef main_arg5) = m (c.tc.loc Cert.FKernelIdeal.main_arg5) := e5
  replace e6 : StableHlo.launchContents m' c (Proc.tc.devRef main_arg6) = m (c.tc.loc Cert.FKernelIdeal.main_arg6) := e6
  replace h := h c
  rw [val_main_v132_eq, val_main_v134_eq, val_main_v131_eq, val_main_v136_eq, val_main_v138_eq] at h
  obtain ⟨f0, f1, f2, f3, f4, f5, f6⟩ := Cert.Pre_finite_ffn.Val.finite _ _ _ _ _ _ _ (hpre c)
  refine ⟨h.1.trans ?_, h.2.1.trans ?_, h.2.2.1.trans ?_, h.2.2.2.1.trans ?_, h.2.2.2.2.1.trans ?_, h.2.2.2.2.2⟩
  · rw [e0, e1, e2, e3]
    funext y
    obtain ⟨r, q, rfl⟩ := Cert.FKernelIdeal.Val.ix2_of y
    exact Cert.FReferenceIdeal.Spec.v132 _ _ _ _ f0 f1 f2 f3 r q
  · rw [e0, e1, e2, e3]
    funext y
    obtain ⟨r, q, rfl⟩ := Cert.FKernelIdeal.Val.ix2_of y
    exact Cert.FReferenceIdeal.Spec.v134 _ _ _ _ f0 f1 f2 f3 r q
  · rw [e0, e1, e2, e3, e4, e5, e6]
    funext y
    obtain ⟨r, q, rfl⟩ := Cert.FKernelIdeal.Val.ix2_of y
    exact Cert.FReferenceIdeal.Spec.v131 _ _ _ _ _ _ _ f0 f1 f2 f3 f4 f5 f6 r q
  · rw [e0, e1, e2, e3, e4, e5]
    funext y
    obtain ⟨r, q, rfl⟩ := Cert.FKernelIdeal.Val.ix2_of y
    exact Cert.FReferenceIdeal.Spec.v136 _ _ _ _ _ _ f0 f1 f2 f3 r q
  · rw [e0, e1, e2, e3, e4]
    funext y
    obtain ⟨r, q, rfl⟩ := Cert.FKernelIdeal.Val.ix2_of y
    exact Cert.FReferenceIdeal.Spec.v138 _ _ _ _ _ f0 f1 f2 f3 r q

end Cert.Proof.Ff

end
-- ==== Proof.FgRunA.lean ====
/-
  The run of the gated ConvFFN's backward kernel at the second layer at the first grid point, where the weights are copied in: the generated
  module's text, with each copy into a slice of the scratch lent that slice alone.
-/
module

public import proofs.«01_k».proof.Proof.Gen.GKernelIdeal.Frame.Runs

@[expose] public section

set_option maxRecDepth 16384
set_option sl_exec.dmaWindow true
set_option sl_exec.dmaWindowSet true

noncomputable section

namespace Cert.GKernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option maxHeartbeats 1000000 in
/-- What the body stores in case A (the first point of the grid), output by output and then the scratch, as pieces with the last first; and that
    it runs from the inputs at their contents, the HBM operands at theirs and its cells at zero, and gives them back so. -/
noncomputable def kernelRun0_A (c : Dev nD) (i : grid0.Coords) (arg1 : Memref sig .tc .vmem S256x1024 .f32) (harg1 : arg1.IsWhole) (arg2 : Memref sig .tc .vmem S256x5632 .f32) (harg2 : arg2.IsWhole) (arg3 : Memref sig .tc .vmem S8x2816 .f32) (harg3 : arg3.IsWhole) (arg5 : Memref sig .tc .vmem S3x2816 .f32) (harg5 : arg5.IsWhole) (arg7 : Memref sig .tc .vmem S256x1024 .f32) (harg7 : arg7.IsWhole) (arg8 : Memref sig .tc .vmem S1x1024 .f32) (harg8 : arg8.IsWhole) (arg9 : Memref sig .tc .vmem S256x5632 .bf16) (harg9 : arg9.IsWhole) (arg10 : Memref sig .tc .vmem S8x2816 .f32) (harg10 : arg10.IsWhole) (arg11 : Memref sig .tc .vmem S256x1024 .f32) (harg11 : arg11.IsWhole) (arg12 : Memref sig .tc .vmem S8x1024 .f32) (harg12 : arg12.IsWhole) (arg13 : Memref sig .tc .vmem S8x1024 .f32) (harg13 : arg13.IsWhole) (arg14 : Memref sig .tc .vmem S2816x1024 .bf16) (harg14 : arg14.IsWhole) (arg15 : Memref sig .tc .vmem S1024x5632 .bf16) (harg15 : arg15.IsWhole) (arg16 : Memref sig .tc .vmem S8x2816 .f32) (harg16 : arg16.IsWhole) (hc0 : cond0_0 i) (hc1 : cond0_1 i)
    (x0 : Vec F S256x1024 .f32) (x1 : Vec F S256x5632 .f32) (x2 : Vec F S8x2816 .f32) (x3 : Vec F S3x2816 .f32) (x4 : Vec F S256x1024 .f32) (x5 : Vec F S1x1024 .f32) (fh0 : HbBuf0 (F := F) c hbM0_0) (fh1 : HbBuf0 (F := F) c hbM0_1) :
    Σ' (L6 : List (View.Piece (Elt F) S256x5632 .bf16)), Σ' (L7 : List (View.Piece (Elt F) S8x2816 .f32)), Σ' (L8 : List (View.Piece (Elt F) S256x1024 .f32)), Σ' (L9 : List (View.Piece (Elt F) S8x1024 .f32)), Σ' (L10 : List (View.Piece (Elt F) S8x1024 .f32)), Σ' (LS0 : List (View.Piece (Elt F) S2816x1024 .bf16)), Σ' (LS1 : List (View.Piece (Elt F) S1024x5632 .bf16)), { LS2 : List (View.Piece (Elt F) S8x2816 .f32) //
      ∀ (W : Waits sig Unit) (K : PUnit → sProp 𝕄),
        iprop(owns (c : Thread nD τ) arg1 fullShare x0 ∗ owns (c : Thread nD τ) arg2 fullShare x1 ∗ owns (c : Thread nD τ) arg3 fullShare x2 ∗ owns (c : Thread nD τ) arg5 fullShare x3 ∗ owns (c : Thread nD τ) arg7 fullShare x4 ∗ owns (c : Thread nD τ) arg8 fullShare x5 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ hbPt0 c hbM0_0 fh0 ∗ hbPt0 c hbM0_1 fh1 ∗ owes (c : Thread nD τ) 0 W
            ∗ (iprop(owns (c : Thread nD τ) arg1 fullShare x0 ∗ owns (c : Thread nD τ) arg2 fullShare x1 ∗ owns (c : Thread nD τ) arg3 fullShare x2 ∗ owns (c : Thread nD τ) arg5 fullShare x3 ∗ owns (c : Thread nD τ) arg7 fullShare x4 ∗ owns (c : Thread nD τ) arg8 fullShare x5 ∗ (∃ f, arg9.view.loc (c : Thread nD τ) ↦[arg9.view.set]{fullShare} arg9.view.writes (Elt F) f L6) ∗ (∃ f, arg10.view.loc (c : Thread nD τ) ↦[arg10.view.set]{fullShare} arg10.view.writes (Elt F) f L7) ∗ (∃ f, arg11.view.loc (c : Thread nD τ) ↦[arg11.view.set]{fullShare} arg11.view.writes (Elt F) f L8) ∗ (∃ f, arg12.view.loc (c : Thread nD τ) ↦[arg12.view.set]{fullShare} arg12.view.writes (Elt F) f L9) ∗ (∃ f, arg13.view.loc (c : Thread nD τ) ↦[arg13.view.set]{fullShare} arg13.view.writes (Elt F) f L10) ∗ (∃ f, arg14.view.loc (c : Thread nD τ) ↦[arg14.view.set]{fullShare} arg14.view.writes (Elt F) f LS0) ∗ (∃ f, arg15.view.loc (c : Thread nD τ) ↦[arg15.view.set]{fullShare} arg15.view.writes (Elt F) f LS1) ∗ (∃ f, arg16.view.loc (c : Thread nD τ) ↦[arg16.view.set]{fullShare} arg16.view.writes (Elt F) f LS2) ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ hbPt0 c hbM0_0 fh0 ∗ hbPt0 c hbM0_1 fh1 ∗ (∃ W', owes (c : Thread nD τ) 0 W')) -∗ K ⟨⟩))
          ⊢ wp frame (wpE (defs₀ (F := F)) Variants.none c none) Set.univ (cc0_ffn_bwd1 i arg1 harg1 arg2 harg2 arg3 harg3 (Memref.whole main_arg2) (Memref.isWhole_whole _) arg5 harg5 (Memref.whole main_arg4) (Memref.isWhole_whole _) arg7 harg7 arg8 harg8 arg9 harg9 arg10 harg10 arg11 harg11 arg12 harg12 arg13 harg13 arg14 harg14 arg15 harg15 arg16 harg16 cc0_scratch3) K } := by
  refine ⟨?_, ?_, ?_, ?_, ?_, ?_, ?_, ?_, fun W K => ?run⟩
  case run =>
    simp only [cc0_ffn_bwd1_eq_skeleton]; unfold cc0_ffn_bwd1_skel
    simp only [k0_part4_eq_skeleton, k0_part1_eq_skeleton, k0_part2_eq_skeleton, k0_part3_eq_skeleton, k0_part5_eq_skeleton, k0_part6_eq_skeleton, k0_part7_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%d10, %f10, -, H10⟩, ⟨%ds0, %fs0, -, HS0⟩, ⟨%ds1, %fs1, -, HS1⟩, ⟨%ds2, %fs2, -, HS2⟩, Hq0, Hq1, Hq2, Hq3, Hq4, Hq5, Hq6, Hq7, Hq8, Hh0, Hh1, HW, Hk⟩
    obtain rfl := harg1.eq_unread hf0; obtain rfl := harg2.eq_unread hf1; obtain rfl := harg3.eq_unread hf2; obtain rfl := harg5.eq_unread hf3; obtain rfl := harg7.eq_unread hf4; obtain rfl := harg8.eq_unread hf5
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg5.read_unread _
      iexact H3
    isplitl [H4]
    · iexists _; isplitr; · ipureintro; exact harg7.read_unread _
      iexact H4
    isplitl [H5]
    · iexists _; isplitr; · ipureintro; exact harg8.read_unread _
      iexact H5
    isplitl [H6]; · iexists _; iexact H6
    isplitl [H7]; · iexists _; iexact H7
    isplitl [H8]; · iexists _; iexact H8
    isplitl [H9]; · iexists _; iexact H9
    isplitl [H10]; · iexists _; iexact H10
    isplitl [HS0]; · iexists _; iexact HS0
    isplitl [HS1]; · iexists _; iexact HS1
    isplitl [HS2]; · iexists _; iexact HS2
    isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Hq8]; · iexact Hq8
    isplitl [Hh0]; · iexact Hh0
    isplitl [Hh1]; · iexact Hh1
    iexists _; iexact HW

end Cert.GKernelIdeal.Gen

end
-- ==== Proof.FgRunB.lean ====
/-
  The run of the gated ConvFFN's backward kernel at the second layer at every later grid point: the generated module's text.
-/
module

public import proofs.«01_k».proof.Proof.FgRunA

@[expose] public section

set_option maxRecDepth 16384

noncomputable section

namespace Cert.GKernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option maxHeartbeats 1200000 in
/-- What the body stores in case B (every later point: the scratch as the point before left it), output by output and then the scratch, as pieces with the last first; and that
    it runs from the inputs at their contents, the HBM operands at theirs and its cells at zero, and gives them back so. -/
noncomputable def kernelRun0_B (c : Dev nD) (i : grid0.Coords) (arg1 : Memref sig .tc .vmem S256x1024 .f32) (harg1 : arg1.IsWhole) (arg2 : Memref sig .tc .vmem S256x5632 .f32) (harg2 : arg2.IsWhole) (arg3 : Memref sig .tc .vmem S8x2816 .f32) (harg3 : arg3.IsWhole) (arg5 : Memref sig .tc .vmem S3x2816 .f32) (harg5 : arg5.IsWhole) (arg7 : Memref sig .tc .vmem S256x1024 .f32) (harg7 : arg7.IsWhole) (arg8 : Memref sig .tc .vmem S1x1024 .f32) (harg8 : arg8.IsWhole) (arg9 : Memref sig .tc .vmem S256x5632 .bf16) (harg9 : arg9.IsWhole) (arg10 : Memref sig .tc .vmem S8x2816 .f32) (harg10 : arg10.IsWhole) (arg11 : Memref sig .tc .vmem S256x1024 .f32) (harg11 : arg11.IsWhole) (arg12 : Memref sig .tc .vmem S8x1024 .f32) (harg12 : arg12.IsWhole) (arg13 : Memref sig .tc .vmem S8x1024 .f32) (harg13 : arg13.IsWhole) (arg14 : Memref sig .tc .vmem S2816x1024 .bf16) (harg14 : arg14.IsWhole) (arg15 : Memref sig .tc .vmem S1024x5632 .bf16) (harg15 : arg15.IsWhole) (arg16 : Memref sig .tc .vmem S8x2816 .f32) (harg16 : arg16.IsWhole) (hc0 : ¬cond0_0 i) (hc1 : ¬cond0_1 i)
    (x0 : Vec F S256x1024 .f32) (x1 : Vec F S256x5632 .f32) (x2 : Vec F S8x2816 .f32) (x3 : Vec F S3x2816 .f32) (x4 : Vec F S256x1024 .f32) (x5 : Vec F S1x1024 .f32) (xo7 : Vec F S8x2816 .f32) (xo9 : Vec F S8x1024 .f32) (xo10 : Vec F S8x1024 .f32) (xs0 : Vec F S2816x1024 .bf16) (xs1 : Vec F S1024x5632 .bf16) (xs2 : Vec F S8x2816 .f32) (fh0 : HbBuf0 (F := F) c hbM0_0) (fh1 : HbBuf0 (F := F) c hbM0_1) :
    Σ' (L6 : List (View.Piece (Elt F) S256x5632 .bf16)), Σ' (L7 : List (View.Piece (Elt F) S8x2816 .f32)), Σ' (L8 : List (View.Piece (Elt F) S256x1024 .f32)), Σ' (L9 : List (View.Piece (Elt F) S8x1024 .f32)), Σ' (L10 : List (View.Piece (Elt F) S8x1024 .f32)), Σ' (LS0 : List (View.Piece (Elt F) S2816x1024 .bf16)), Σ' (LS1 : List (View.Piece (Elt F) S1024x5632 .bf16)), { LS2 : List (View.Piece (Elt F) S8x2816 .f32) //
      ∀ (W : Waits sig Unit) (K : PUnit → sProp 𝕄),
        iprop(owns (c : Thread nD τ) arg1 fullShare x0 ∗ owns (c : Thread nD τ) arg2 fullShare x1 ∗ owns (c : Thread nD τ) arg3 fullShare x2 ∗ owns (c : Thread nD τ) arg5 fullShare x3 ∗ owns (c : Thread nD τ) arg7 fullShare x4 ∗ owns (c : Thread nD τ) arg8 fullShare x5 ∗ (∃ d, owns (c : Thread nD τ) arg9 fullShare d) ∗ owns (c : Thread nD τ) arg10 fullShare xo7 ∗ (∃ d, owns (c : Thread nD τ) arg11 fullShare d) ∗ owns (c : Thread nD τ) arg12 fullShare xo9 ∗ owns (c : Thread nD τ) arg13 fullShare xo10 ∗ owns (c : Thread nD τ) arg14 fullShare xs0 ∗ owns (c : Thread nD τ) arg15 fullShare xs1 ∗ owns (c : Thread nD τ) arg16 fullShare xs2 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ hbPt0 c hbM0_0 fh0 ∗ hbPt0 c hbM0_1 fh1 ∗ owes (c : Thread nD τ) 0 W
            ∗ (iprop(owns (c : Thread nD τ) arg1 fullShare x0 ∗ owns (c : Thread nD τ) arg2 fullShare x1 ∗ owns (c : Thread nD τ) arg3 fullShare x2 ∗ owns (c : Thread nD τ) arg5 fullShare x3 ∗ owns (c : Thread nD τ) arg7 fullShare x4 ∗ owns (c : Thread nD τ) arg8 fullShare x5 ∗ (∃ f, arg9.view.loc (c : Thread nD τ) ↦[arg9.view.set]{fullShare} arg9.view.writes (Elt F) f L6) ∗ (arg10.view.loc (c : Thread nD τ) ↦[arg10.view.set]{fullShare} arg10.view.writes (Elt F) (harg10.unread xo7) L7) ∗ (∃ f, arg11.view.loc (c : Thread nD τ) ↦[arg11.view.set]{fullShare} arg11.view.writes (Elt F) f L8) ∗ (arg12.view.loc (c : Thread nD τ) ↦[arg12.view.set]{fullShare} arg12.view.writes (Elt F) (harg12.unread xo9) L9) ∗ (arg13.view.loc (c : Thread nD τ) ↦[arg13.view.set]{fullShare} arg13.view.writes (Elt F) (harg13.unread xo10) L10) ∗ owns (c : Thread nD τ) arg14 fullShare xs0 ∗ owns (c : Thread nD τ) arg15 fullShare xs1 ∗ (∃ f, arg16.view.loc (c : Thread nD τ) ↦[arg16.view.set]{fullShare} arg16.view.writes (Elt F) f LS2) ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ hbPt0 c hbM0_0 fh0 ∗ hbPt0 c hbM0_1 fh1 ∗ (∃ W', owes (c : Thread nD τ) 0 W')) -∗ K ⟨⟩))
          ⊢ wp frame (wpE (defs₀ (F := F)) Variants.none c none) Set.univ (cc0_ffn_bwd1 i arg1 harg1 arg2 harg2 arg3 harg3 (Memref.whole main_arg2) (Memref.isWhole_whole _) arg5 harg5 (Memref.whole main_arg4) (Memref.isWhole_whole _) arg7 harg7 arg8 harg8 arg9 harg9 arg10 harg10 arg11 harg11 arg12 harg12 arg13 harg13 arg14 harg14 arg15 harg15 arg16 harg16 cc0_scratch3) K } := by
  refine ⟨?_, ?_, ?_, ?_, ?_, [], [], ?_, fun W K => ?run⟩
  case run =>
    simp only [cc0_ffn_bwd1_eq_skeleton]; unfold cc0_ffn_bwd1_skel
    simp only [k0_part4_eq_skeleton, k0_part5_eq_skeleton, k0_part6_eq_skeleton, k0_part7_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%d8, %f8, -, H8⟩, ⟨%f9, %hf9, H9⟩, ⟨%f10, %hf10, H10⟩, ⟨%fs0, %hfs0, HS0⟩, ⟨%fs1, %hfs1, HS1⟩, ⟨%fs2, %hfs2, HS2⟩, Hq0, Hq1, Hq2, Hq3, Hq4, Hq5, Hq6, Hq7, Hq8, Hh0, Hh1, HW, Hk⟩
    obtain rfl := harg1.eq_unread hf0; obtain rfl := harg2.eq_unread hf1; obtain rfl := harg3.eq_unread hf2; obtain rfl := harg5.eq_unread hf3; obtain rfl := harg7.eq_unread hf4; obtain rfl := harg8.eq_unread hf5; obtain rfl := harg10.eq_unread hf7; obtain rfl := harg12.eq_unread hf9; obtain rfl := harg13.eq_unread hf10; obtain rfl := harg14.eq_unread hfs0; obtain rfl := harg15.eq_unread hfs1; obtain rfl := harg16.eq_unread hfs2
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg5.read_unread _
      iexact H3
    isplitl [H4]
    · iexists _; isplitr; · ipureintro; exact harg7.read_unread _
      iexact H4
    isplitl [H5]
    · iexists _; isplitr; · ipureintro; exact harg8.read_unread _
      iexact H5
    isplitl [H6]; · iexists _; iexact H6
    isplitl [H7]; · iexact H7
    isplitl [H8]; · iexists _; iexact H8
    isplitl [H9]; · iexact H9
    isplitl [H10]; · iexact H10
    isplitl [HS0]
    · iexists _; isplitr; · ipureintro; exact harg14.read_unread _
      iexact HS0
    isplitl [HS1]
    · iexists _; isplitr; · ipureintro; exact harg15.read_unread _
      iexact HS1
    isplitl [HS2]; · iexists _; iexact HS2
    isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Hq8]; · iexact Hq8
    isplitl [Hh0]; · iexact Hh0
    isplitl [Hh1]; · iexact Hh1
    iexists _; iexact HW

end Cert.GKernelIdeal.Gen

end
-- ==== Proof.FgRun.lean ====
/-
  The run of the gated ConvFFN's backward kernel at the second layer, point after point: the generated module's text, with the two equations
  that say what a grid point leaves given more time.
-/
module

public import proofs.«01_k».proof.Proof.FgRunB
public import Idealize.ShloMosaic.Lib.Claim

@[expose] public section

set_option maxRecDepth 16384
set_option maxHeartbeats 4000000

noncomputable section

namespace Cert.GKernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)
/-- What a point leaves: the outputs in window order, then the scratch. -/
abbrev Outs (F : FTy → Type) [FloatOps F] : Type := Vec F S256x5632 .bf16 × Vec F S8x2816 .f32 × Vec F S256x1024 .f32 × Vec F S8x1024 .f32 × Vec F S8x1024 .f32 × Vec F S2816x1024 .bf16 × Vec F S1024x5632 .bf16 × Vec F S8x2816 .f32

section CaseA
variable (c : Dev nD) (t : Fin cfg0.N) (hc0 : cond0_0 (grid0.coords t)) (hc1 : cond0_1 (grid0.coords t))

/-- The run of case A at point `t`. -/
abbrev runA :=
  kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) hc0 hc1 (iblk m c 0 t) (iblk m c 1 t) (iblk m c 2 t) (iblk m c 3 t) (iblk m c 4 t) (iblk m c 5 t) (V m c main_arg2) (V m c main_arg4)

/-- Case A's pieces for output 6 tile its block, so they cover it. -/
theorem cover0_A_6 (y : S256x5632.Idx) :
    ∃ pc ∈ (runA m c t hc0 hc1).1, y ∈ pc.1.set :=
  View.cover_of_tiledL (runA m c t hc0 hc1).1 S256x2816.size (by sl_kernel_rfl) y

/-- What case A leaves in output 6's staging buffer: its pieces read back over junk. -/
def out0_A_6 : Vec F S256x5632 .bf16 :=
  VO0_6.read (Elt F) (VO0_6.writes (Elt F) VO0_6.junk (runA m c t hc0 hc1).1)

/-- Case A's pieces for output 7 are of SEVERAL sizes (4 stores of `S1x2816`, `S8x2816`): cut into blocks of `![1, 2816]` they tile its block, so they cover it. -/
theorem cover0_A_7 (y : S8x2816.Idx) :
    ∃ pc ∈ (runA m c t hc0 hc1).2.1, y ∈ pc.1.set :=
  View.cover_of_tiledBy (runA m c t hc0 hc1).2.1 ![1, 2816] (by sl_kernel_rfl) y

/-- What case A leaves in output 7's staging buffer: its pieces read back over junk. -/
def out0_A_7 : Vec F S8x2816 .f32 :=
  VO0_7.read (Elt F) (VO0_7.writes (Elt F) VO0_7.junk (runA m c t hc0 hc1).2.1)

/-- Case A's pieces for output 8 tile its block, so they cover it. -/
theorem cover0_A_8 (y : S256x1024.Idx) :
    ∃ pc ∈ (runA m c t hc0 hc1).2.2.1, y ∈ pc.1.set :=
  View.cover_of_tiledL (runA m c t hc0 hc1).2.2.1 S256x1024.size (by sl_kernel_rfl) y

/-- What case A leaves in output 8's staging buffer: its pieces read back over junk. -/
def out0_A_8 : Vec F S256x1024 .f32 :=
  VO0_8.read (Elt F) (VO0_8.writes (Elt F) VO0_8.junk (runA m c t hc0 hc1).2.2.1)

/-- Case A's pieces for output 9 are of SEVERAL sizes (2 stores of `S1x1024`, `S8x1024`): cut into blocks of `![1, 1024]` they tile its block, so they cover it. -/
theorem cover0_A_9 (y : S8x1024.Idx) :
    ∃ pc ∈ (runA m c t hc0 hc1).2.2.2.1, y ∈ pc.1.set :=
  View.cover_of_tiledBy (runA m c t hc0 hc1).2.2.2.1 ![1, 1024] (by sl_kernel_rfl) y

/-- What case A leaves in output 9's staging buffer: its pieces read back over junk. -/
def out0_A_9 : Vec F S8x1024 .f32 :=
  VO0_9.read (Elt F) (VO0_9.writes (Elt F) VO0_9.junk (runA m c t hc0 hc1).2.2.2.1)

/-- Case A's pieces for output 10 are of SEVERAL sizes (2 stores of `S1x1024`, `S8x1024`): cut into blocks of `![1, 1024]` they tile its block, so they cover it. -/
theorem cover0_A_10 (y : S8x1024.Idx) :
    ∃ pc ∈ (runA m c t hc0 hc1).2.2.2.2.1, y ∈ pc.1.set :=
  View.cover_of_tiledBy (runA m c t hc0 hc1).2.2.2.2.1 ![1, 1024] (by sl_kernel_rfl) y

/-- What case A leaves in output 10's staging buffer: its pieces read back over junk. -/
def out0_A_10 : Vec F S8x1024 .f32 :=
  VO0_10.read (Elt F) (VO0_10.writes (Elt F) VO0_10.junk (runA m c t hc0 hc1).2.2.2.2.1)

/-- Case A's pieces for scratch `arg14`, which the kernel carries between points, cover it: 8 pieces of `S352x1024` tiling it. -/
theorem scover0_A_0 (y : S2816x1024.Idx) :
    ∃ pc ∈ (runA m c t hc0 hc1).2.2.2.2.2.1, y ∈ pc.1.set :=
  View.cover_of_tiledL (runA m c t hc0 hc1).2.2.2.2.2.1 S352x1024.size (by sl_kernel_rfl) y

/-- What case A leaves in scratch `arg14`: its pieces read back over junk. -/
def sout0_A_0 : Vec F S2816x1024 .bf16 :=
  VS0_0.read (Elt F) (VS0_0.writes (Elt F) VS0_0.junk (runA m c t hc0 hc1).2.2.2.2.2.1)

/-- Case A's pieces for scratch `arg15`, which the kernel carries between points, cover it: 1 piece of `S1024x5632` tiling it. -/
theorem scover0_A_1 (y : S1024x5632.Idx) :
    ∃ pc ∈ (runA m c t hc0 hc1).2.2.2.2.2.2.1, y ∈ pc.1.set :=
  View.cover_of_tiledL (runA m c t hc0 hc1).2.2.2.2.2.2.1 S1024x5632.size (by sl_kernel_rfl) y

/-- What case A leaves in scratch `arg15`: its pieces read back over junk. -/
def sout0_A_1 : Vec F S1024x5632 .bf16 :=
  VS0_1.read (Elt F) (VS0_1.writes (Elt F) VS0_1.junk (runA m c t hc0 hc1).2.2.2.2.2.2.1)

/-- Case A's pieces for scratch `arg16`, which the kernel carries between points, cover it: 2 pieces of `S8x2816` tiling it. -/
theorem scover0_A_2 (y : S8x2816.Idx) :
    ∃ pc ∈ (runA m c t hc0 hc1).2.2.2.2.2.2.2.1, y ∈ pc.1.set :=
  View.cover_of_tiledL (runA m c t hc0 hc1).2.2.2.2.2.2.2.1 S8x2816.size (by sl_kernel_rfl) y

/-- What case A leaves in scratch `arg16`: its pieces read back over junk. -/
def sout0_A_2 : Vec F S8x2816 .f32 :=
  VS0_2.read (Elt F) (VS0_2.writes (Elt F) VS0_2.junk (runA m c t hc0 hc1).2.2.2.2.2.2.2.1)

/-- What point `t` leaves in case A: the outputs in window order, then the scratch. -/
def leavesA : Outs F :=
  (out0_A_6 m c t hc0 hc1,
    out0_A_7 m c t hc0 hc1,
    out0_A_8 m c t hc0 hc1,
    out0_A_9 m c t hc0 hc1,
    out0_A_10 m c t hc0 hc1,
    sout0_A_0 m c t hc0 hc1,
    sout0_A_1 m c t hc0 hc1,
    sout0_A_2 m c t hc0 hc1)
end CaseA

section CaseB
variable (c : Dev nD) (t : Fin cfg0.N) (hc0 : ¬cond0_0 (grid0.coords t)) (hc1 : ¬cond0_1 (grid0.coords t)) (p : Outs F)

/-- The run of case B at point `t`, over what the point before left. -/
abbrev runB :=
  kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) hc0 hc1 (iblk m c 0 t) (iblk m c 1 t) (iblk m c 2 t) (iblk m c 3 t) (iblk m c 4 t) (iblk m c 5 t) p.2.1 p.2.2.2.1 p.2.2.2.2.1 p.2.2.2.2.2.1 p.2.2.2.2.2.2.1 p.2.2.2.2.2.2.2 (V m c main_arg2) (V m c main_arg4)

/-- Case B's pieces for output 6 tile its block, so they cover it. -/
theorem cover0_B_6 (y : S256x5632.Idx) :
    ∃ pc ∈ (runB m c t hc0 hc1 p).1, y ∈ pc.1.set :=
  View.cover_of_tiledL (runB m c t hc0 hc1 p).1 S256x2816.size (by sl_kernel_rfl) y

/-- What case B leaves in output 6's staging buffer: its pieces read back over junk. -/
def out0_B_6 : Vec F S256x5632 .bf16 :=
  VO0_6.read (Elt F) (VO0_6.writes (Elt F) VO0_6.junk (runB m c t hc0 hc1 p).1)

/-- What case B leaves in output 7's staging buffer: its stores read back over what the point before left there (they do not cover the block). -/
def out0_B_7 : Vec F S8x2816 .f32 :=
  (ms0_7 t).view.read (Elt F) ((ms0_7 t).view.writes (Elt F) ((hs0_7 t).unread p.2.1) (runB m c t hc0 hc1 p).2.1)

/-- Case B's pieces for output 8 tile its block, so they cover it. -/
theorem cover0_B_8 (y : S256x1024.Idx) :
    ∃ pc ∈ (runB m c t hc0 hc1 p).2.2.1, y ∈ pc.1.set :=
  View.cover_of_tiledL (runB m c t hc0 hc1 p).2.2.1 S256x1024.size (by sl_kernel_rfl) y

/-- What case B leaves in output 8's staging buffer: its pieces read back over junk. -/
def out0_B_8 : Vec F S256x1024 .f32 :=
  VO0_8.read (Elt F) (VO0_8.writes (Elt F) VO0_8.junk (runB m c t hc0 hc1 p).2.2.1)

/-- What case B leaves in output 9's staging buffer: its stores read back over what the point before left there (they do not cover the block). -/
def out0_B_9 : Vec F S8x1024 .f32 :=
  (ms0_9 t).view.read (Elt F) ((ms0_9 t).view.writes (Elt F) ((hs0_9 t).unread p.2.2.2.1) (runB m c t hc0 hc1 p).2.2.2.1)

/-- What case B leaves in output 10's staging buffer: its stores read back over what the point before left there (they do not cover the block). -/
def out0_B_10 : Vec F S8x1024 .f32 :=
  (ms0_10 t).view.read (Elt F) ((ms0_10 t).view.writes (Elt F) ((hs0_10 t).unread p.2.2.2.2.1) (runB m c t hc0 hc1 p).2.2.2.2.1)

/-- Case B stores nothing into scratch `arg14`: it holds what the point before left. -/
def sout0_B_0 : Vec F S2816x1024 .bf16 := p.2.2.2.2.2.1

/-- Case B stores nothing into scratch `arg15`: it holds what the point before left. -/
def sout0_B_1 : Vec F S1024x5632 .bf16 := p.2.2.2.2.2.2.1

/-- Case B's pieces for scratch `arg16`, which the kernel carries between points, cover it: 1 piece of `S8x2816` tiling it. -/
theorem scover0_B_2 (y : S8x2816.Idx) :
    ∃ pc ∈ (runB m c t hc0 hc1 p).2.2.2.2.2.2.2.1, y ∈ pc.1.set :=
  View.cover_of_tiledL (runB m c t hc0 hc1 p).2.2.2.2.2.2.2.1 S8x2816.size (by sl_kernel_rfl) y

/-- What case B leaves in scratch `arg16`: its pieces read back over junk. -/
def sout0_B_2 : Vec F S8x2816 .f32 :=
  VS0_2.read (Elt F) (VS0_2.writes (Elt F) VS0_2.junk (runB m c t hc0 hc1 p).2.2.2.2.2.2.2.1)

/-- What point `t` leaves in case B: the outputs in window order, then the scratch. -/
def leavesB : Outs F :=
  (out0_B_6 m c t hc0 hc1 p,
    out0_B_7 m c t hc0 hc1 p,
    out0_B_8 m c t hc0 hc1 p,
    out0_B_9 m c t hc0 hc1 p,
    out0_B_10 m c t hc0 hc1 p,
    sout0_B_0 p,
    sout0_B_1 p,
    sout0_B_2 m c t hc0 hc1 p)
end CaseB

/-! ## What the outputs hold after each point -/

/-- What the points up to `n` leave: at each point the case its conditions select, over what the point before left. -/
def outsAt0 (c : Dev nD) : (n : ℕ) → n < cfg0.N → Outs F
  | 0, hn => leavesA m c ⟨0, hn⟩ ((hcond0_0 ⟨0, hn⟩).mpr (Nat.zero_mod _)) ((hcond0_1 ⟨0, hn⟩).mpr (Nat.zero_mod _))
  | n + 1, hn =>
    if h0 : (n + 1) % 33 = 0 then
      leavesA m c ⟨n + 1, hn⟩ ((hcond0_0 ⟨n + 1, hn⟩).mpr h0) ((hcond0_1 ⟨n + 1, hn⟩).mpr h0)
    else
      leavesB m c ⟨n + 1, hn⟩ (fun h => h0 ((hcond0_0 ⟨n + 1, hn⟩).mp h)) (fun h => h0 ((hcond0_1 ⟨n + 1, hn⟩).mp h))
        (outsAt0 c n (Nat.lt_of_succ_lt hn))

theorem outsAt0_A (c : Dev nD) (t : Fin cfg0.N) (h0 : t.val % 33 = 0) (h1 : t.val % 33 = 0) :
    outsAt0 m c t.val t.isLt = leavesA m c t ((hcond0_0 t).mpr h0) ((hcond0_1 t).mpr h1) := by
  obtain ⟨n, hn⟩ := t
  cases n with
  | zero => exact rfl
  | succ n => exact dif_pos h0

theorem outsAt0_B (c : Dev nD) (t : Fin cfg0.N) (h0 : ¬t.val % 33 = 0) (h1 : ¬t.val % 33 = 0) :
    outsAt0 m c t.val t.isLt = leavesB m c t (fun h => h0 ((hcond0_0 t).mp h)) (fun h => h1 ((hcond0_1 t).mp h))
      (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact dif_neg h0

/-- What a point that leaves `o` hands on: the carried scratch at that, the register, the cells at zero, the operands. -/
def keep (c : Dev nD) (o : Outs F) : sProp 𝕄 :=
  iprop(iprop(owns (c : Thread nD τ) scM0_0 fullShare (o.2.2.2.2.2.1) ∗ owns (c : Thread nD τ) scM0_1 fullShare (o.2.2.2.2.2.2.1) ∗ owns (c : Thread nD τ) scM0_2 fullShare (o.2.2.2.2.2.2.2)) ∗ (∃ r, prngReg c r) ∗ iprop(semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0) ∗ iprop(hbPt0 c hbM0_0 (V m c main_arg2) ∗ hbPt0 c hbM0_1 (V m c main_arg4)))

/-- The invariant before position `n`: before the first point the launch's, afterwards what the point before hands on. -/
def PhiS (c : Dev nD) : (n : ℕ) → n ≤ cfg0.N → sProp 𝕄
  | 0, _ => Pipeline.ΦD osem0 spec0 H0 (V m) c
  | n + 1, hn => keep m c (outsAt0 m c n hn)

theorem PhiS_zero (c : Dev nD) (n : ℕ) (h : n ≤ cfg0.N) (hz : n = 0) : PhiS m c n h = Pipeline.ΦD osem0 spec0 H0 (V m) c := by
  subst hz; rfl

/-- After point `n` (before point `n + 1`): the carried scratch at that point's contents. -/
theorem PhiS_succ (c : Dev nD) (n : ℕ) (hn : n < cfg0.N) :
    PhiS m c (n + 1) hn = keep m c (outsAt0 m c n hn) := rfl

/-- Before a point that is not the first: the carried scratch at what the point before left. -/
theorem PhiS_pos (c : Dev nD) (n : ℕ) (h : n ≤ cfg0.N) (hz : n ≠ 0) :
    PhiS m c n h = keep m c (outsAt0 m c (n - 1) (by omega)) := by
  cases n with
  | zero => exact absurd rfl hz
  | succ n => rfl

/-! ## The pipeline's proof data -/

/-- The proof data: the arrays as the region finds them; after the body each input's buffer at its block and the outputs' at `outsAt0`. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (outsAt0 m c t.val t.isLt).1
    | ⟨7, _⟩ => (outsAt0 m c t.val t.isLt).2.1
    | ⟨8, _⟩ => (outsAt0 m c t.val t.isLt).2.2.1
    | ⟨9, _⟩ => (outsAt0 m c t.val t.isLt).2.2.2.1
    | ⟨10, _⟩ => (outsAt0 m c t.val t.isLt).2.2.2.2.1
  Φ t := PhiS m c t.val (Nat.le_of_lt_succ t.isLt)
  q w := Pipeline.shareOf spec0 w
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = (outsAt0 m c t.val t.isLt).1 := by dsimp only [dats]
theorem after0_7 (c : Dev nD) (t : Fin cfg0.N) : (dats m 0 c).after 7 t = (outsAt0 m c t.val t.isLt).2.1 := by dsimp only [dats]
theorem after0_8 (c : Dev nD) (t : Fin cfg0.N) : (dats m 0 c).after 8 t = (outsAt0 m c t.val t.isLt).2.2.1 := by dsimp only [dats]
theorem after0_9 (c : Dev nD) (t : Fin cfg0.N) : (dats m 0 c).after 9 t = (outsAt0 m c t.val t.isLt).2.2.2.1 := by dsimp only [dats]
theorem after0_10 (c : Dev nD) (t : Fin cfg0.N) : (dats m 0 c).after 10 t = (outsAt0 m c t.val t.isLt).2.2.2.2.1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
/-- At a point of case B output 7's current staging buffer holds what the body left at the point before: the point is
    not the first, the buffer was not written back between (`flush0_7`), the window is live and uncut (Lib/Pipeline/Frame.lean
    `Dat.before_out_kept`). -/
theorem before0_7_B (c : Dev nD) (t : Fin cfg0.N) (h0 : ¬t.val % 33 = 0) (h1 : ¬t.val % 33 = 0) (d) :
    (dats m 0 c).before 7 t d = (outsAt0 m c (t.val - 1) (Nat.lt_of_le_of_lt (Nat.sub_le _ _) t.isLt)).2.1 := by
  have hN : t.val < 33 := lt_of_lt_of_eq t.isLt (show cfg0.N = 33 from N_0)
  rw [Dat.before_out_kept _ 7 rfl t (by omega) (Bool.eq_false_iff.mpr fun h => by have := (flush0_7 _).mp h; dsimp only at this; omega)
    (fun _ => rfl) (fun _ _ => rfl)]
  dsimp only [dats]
/-- At a point of case B output 9's current staging buffer holds what the body left at the point before: the point is
    not the first, the buffer was not written back between (`flush0_9`), the window is live and uncut (Lib/Pipeline/Frame.lean
    `Dat.before_out_kept`). -/
theorem before0_9_B (c : Dev nD) (t : Fin cfg0.N) (h0 : ¬t.val % 33 = 0) (h1 : ¬t.val % 33 = 0) (d) :
    (dats m 0 c).before 9 t d = (outsAt0 m c (t.val - 1) (Nat.lt_of_le_of_lt (Nat.sub_le _ _) t.isLt)).2.2.2.1 := by
  have hN : t.val < 33 := lt_of_lt_of_eq t.isLt (show cfg0.N = 33 from N_0)
  rw [Dat.before_out_kept _ 9 rfl t (by omega) (Bool.eq_false_iff.mpr fun h => by have := (flush0_9 _).mp h; dsimp only at this; omega)
    (fun _ => rfl) (fun _ _ => rfl)]
  dsimp only [dats]
/-- At a point of case B output 10's current staging buffer holds what the body left at the point before: the point is
    not the first, the buffer was not written back between (`flush0_10`), the window is live and uncut (Lib/Pipeline/Frame.lean
    `Dat.before_out_kept`). -/
theorem before0_10_B (c : Dev nD) (t : Fin cfg0.N) (h0 : ¬t.val % 33 = 0) (h1 : ¬t.val % 33 = 0) (d) :
    (dats m 0 c).before 10 t d = (outsAt0 m c (t.val - 1) (Nat.lt_of_le_of_lt (Nat.sub_le _ _) t.isLt)).2.2.2.2.1 := by
  have hN : t.val < 33 := lt_of_lt_of_eq t.isLt (show cfg0.N = 33 from N_0)
  rw [Dat.before_out_kept _ 10 rfl t (by omega) (Bool.eq_false_iff.mpr fun h => by have := (flush0_10 _).mp h; dsimp only at this; omega)
    (fun _ => rfl) (fun _ _ => rfl)]
  dsimp only [dats]

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t))

set_option maxHeartbeats 9600000 in
/-- The body at any point: the run of the case the point is in, from what the point before left to what this one leaves. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = PhiS m c (t.val + 1) t.isLt from rfl, PhiS_succ, keep,
    after0_0, after0_1, after0_2, after0_3, after0_4, after0_5, after0_6, after0_7, after0_8, after0_9, after0_10]
  unfold Dat.owesAt Pipeline.owesWithin
  rw [show (dats m 0 c).owed t.castSucc = 0 from rfl, show (dats m 0 c).owed t.succ = 0 from rfl]
  have hN : t.val < 33 := lt_of_lt_of_eq t.isLt (show cfg0.N = 33 from N_0)
  by_cases h0 : t.val % 33 = 0
  · by_cases h1 : t.val % 33 = 0
    · by_cases hz : t.val = 0
      · rw [PhiS_castSucc m c t, PhiS_zero m c _ _ hz, PhiD0_eq]
        rw [outsAt0_A m c t h0 h1]; unfold leavesA
        unfold out0_A_6 out0_A_7 out0_A_8 out0_A_9 out0_A_10 sout0_A_0 sout0_A_1 sout0_A_2; (try dsimp only)
        iintro ⟨⟨⟨HS0, HS1, HS2⟩, Hg, ⟨Hq0, Hq1, Hq2, Hq3, Hq4, Hq5, Hq6, Hq7, Hq8⟩, ⟨Hh0, Hh1⟩⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
        iapply ((runA m c t ((hcond0_0 t).mpr h0) ((hcond0_1 t).mpr h1)).2.2.2.2.2.2.2.2 W _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [H7]; · iexists _; iexact H7
        isplitl [H8]; · iexists _; iexact H8
        isplitl [H9]; · iexists _; iexact H9
        isplitl [H10]; · iexists _; iexact H10
        isplitl [HS0]; · iexact HS0
        isplitl [HS1]; · iexact HS1
        isplitl [HS2]; · iexact HS2
        isplitl [Hq0]; · iexact Hq0
        isplitl [Hq1]; · iexact Hq1
        isplitl [Hq2]; · iexact Hq2
        isplitl [Hq3]; · iexact Hq3
        isplitl [Hq4]; · iexact Hq4
        isplitl [Hq5]; · iexact Hq5
        isplitl [Hq6]; · iexact Hq6
        isplitl [Hq7]; · iexact Hq7
        isplitl [Hq8]; · iexact Hq8
        isplitl [Hh0]; · iexact Hh0
        isplitl [Hh1]; · iexact Hh1
        isplitl [HW]; · iexact HW
        iintro ⟨H0, H1, H2, H3, H4, H5, ⟨%e6, H6⟩, ⟨%e7, H7⟩, ⟨%e8, H8⟩, ⟨%e9, H9⟩, ⟨%e10, H10⟩, ⟨%es0, HS0⟩, ⟨%es1, HS1⟩, ⟨%es2, HS2⟩, Hq0, Hq1, Hq2, Hq3, Hq4, Hq5, Hq6, Hq7, Hq8, Hh0, Hh1, ⟨%W', HW'⟩⟩
        isplitl [HS0 HS1 HS2 Hg Hq0 Hq1 Hq2 Hq3 Hq4 Hq5 Hq6 Hq7 Hq8 Hh0 Hh1]
        · isplitl [HS0 HS1 HS2]
          · isplitl [HS0]
            · unfold owns; iexists _; isplitr
              swap; · iexact HS0
              ipureintro; exact View.read_writes_of_cover _ _ _ _ _ (scover0_A_0 m c t _ _)
            isplitl [HS1]
            · unfold owns; iexists _; isplitr
              swap; · iexact HS1
              ipureintro; exact View.read_writes_of_cover _ _ _ _ _ (scover0_A_1 m c t _ _)
            unfold owns; iexists _; isplitr
            swap; · iexact HS2
            ipureintro; exact View.read_writes_of_cover _ _ _ _ _ (scover0_A_2 m c t _ _)
          isplitl [Hg]
          · iexact Hg
          isplitl [Hq0 Hq1 Hq2 Hq3 Hq4 Hq5 Hq6 Hq7 Hq8]
          · isplitl [Hq0]; · iexact Hq0
            isplitl [Hq1]; · iexact Hq1
            isplitl [Hq2]; · iexact Hq2
            isplitl [Hq3]; · iexact Hq3
            isplitl [Hq4]; · iexact Hq4
            isplitl [Hq5]; · iexact Hq5
            isplitl [Hq6]; · iexact Hq6
            isplitl [Hq7]; · iexact Hq7
            iexact Hq8
          isplitl [Hh0]; · iexact Hh0
          iexact Hh1
        isplitl [HW']
        · iexists W'; isplitr; · ipureintro; exact fun _ _ => Or.inl trivial
          iexact HW'
        isplitl [H0]; · iexact H0
        isplitl [H1]; · iexact H1
        isplitl [H2]; · iexact H2
        isplitl [H3]; · iexact H3
        isplitl [H4]; · iexact H4
        isplitl [H5]; · iexact H5
        isplitl [H6]
        · unfold owns; iexists _; isplitr
          swap; · iexact H6
          ipureintro; exact View.read_writes_of_cover _ _ _ _ _ (cover0_A_6 m c t _ _)
        isplitl [H7]
        · unfold owns; iexists _; isplitr
          swap; · iexact H7
          ipureintro; exact View.read_writes_of_cover _ _ _ _ _ (cover0_A_7 m c t _ _)
        isplitl [H8]
        · unfold owns; iexists _; isplitr
          swap; · iexact H8
          ipureintro; exact View.read_writes_of_cover _ _ _ _ _ (cover0_A_8 m c t _ _)
        isplitl [H9]
        · unfold owns; iexists _; isplitr
          swap; · iexact H9
          ipureintro; exact View.read_writes_of_cover _ _ _ _ _ (cover0_A_9 m c t _ _)
        unfold owns; iexists _; isplitr
        swap; · iexact H10
        ipureintro; exact View.read_writes_of_cover _ _ _ _ _ (cover0_A_10 m c t _ _)
      · exfalso; have hN : t.val < 33 := lt_of_lt_of_eq t.isLt (show cfg0.N = 33 from N_0); omega
    · exfalso; omega
  · by_cases h1 : t.val % 33 = 0
    · exfalso; omega
    · by_cases hz : t.val = 0
      · exfalso; have hN : t.val < 33 := lt_of_lt_of_eq t.isLt (show cfg0.N = 33 from N_0); omega
      · rw [PhiS_castSucc m c t, PhiS_pos m c _ _ hz, keep]
        rw [outsAt0_B m c t h0 h1]; unfold leavesB
        simp only [before0_7_B m c t h0 h1, before0_9_B m c t h0 h1, before0_10_B m c t h0 h1]
        unfold out0_B_6 out0_B_7 out0_B_8 out0_B_9 out0_B_10 sout0_B_0 sout0_B_1 sout0_B_2; (try dsimp only)
        iintro ⟨⟨⟨HS0, HS1, HS2⟩, Hg, ⟨Hq0, Hq1, Hq2, Hq3, Hq4, Hq5, Hq6, Hq7, Hq8⟩, ⟨Hh0, Hh1⟩⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
        iapply ((runB m c t (fun h => h0 ((hcond0_0 t).mp h)) (fun h => h1 ((hcond0_1 t).mp h)) (outsAt0 m c (t.val - 1) (by omega))).2.2.2.2.2.2.2.2 W _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [H7]; · iexact H7
        isplitl [H8]; · iexists _; iexact H8
        isplitl [H9]; · iexact H9
        isplitl [H10]; · iexact H10
        isplitl [HS0]; · iexact HS0
        isplitl [HS1]; · iexact HS1
        isplitl [HS2]; · iexact HS2
        isplitl [Hq0]; · iexact Hq0
        isplitl [Hq1]; · iexact Hq1
        isplitl [Hq2]; · iexact Hq2
        isplitl [Hq3]; · iexact Hq3
        isplitl [Hq4]; · iexact Hq4
        isplitl [Hq5]; · iexact Hq5
        isplitl [Hq6]; · iexact Hq6
        isplitl [Hq7]; · iexact Hq7
        isplitl [Hq8]; · iexact Hq8
        isplitl [Hh0]; · iexact Hh0
        isplitl [Hh1]; · iexact Hh1
        isplitl [HW]; · iexact HW
        iintro ⟨H0, H1, H2, H3, H4, H5, ⟨%e6, H6⟩, H7, ⟨%e8, H8⟩, H9, H10, HS0, HS1, ⟨%es2, HS2⟩, Hq0, Hq1, Hq2, Hq3, Hq4, Hq5, Hq6, Hq7, Hq8, Hh0, Hh1, ⟨%W', HW'⟩⟩
        isplitl [HS0 HS1 HS2 Hg Hq0 Hq1 Hq2 Hq3 Hq4 Hq5 Hq6 Hq7 Hq8 Hh0 Hh1]
        · isplitl [HS0 HS1 HS2]
          · isplitl [HS0]; · iexact HS0
            isplitl [HS1]; · iexact HS1
            unfold owns; iexists _; isplitr
            swap; · iexact HS2
            ipureintro; exact View.read_writes_of_cover _ _ _ _ _ (scover0_B_2 m c t _ _ _)
          isplitl [Hg]
          · iexact Hg
          isplitl [Hq0 Hq1 Hq2 Hq3 Hq4 Hq5 Hq6 Hq7 Hq8]
          · isplitl [Hq0]; · iexact Hq0
            isplitl [Hq1]; · iexact Hq1
            isplitl [Hq2]; · iexact Hq2
            isplitl [Hq3]; · iexact Hq3
            isplitl [Hq4]; · iexact Hq4
            isplitl [Hq5]; · iexact Hq5
            isplitl [Hq6]; · iexact Hq6
            isplitl [Hq7]; · iexact Hq7
            iexact Hq8
          isplitl [Hh0]; · iexact Hh0
          iexact Hh1
        isplitl [HW']
        · iexists W'; isplitr; · ipureintro; exact fun _ _ => Or.inl trivial
          iexact HW'
        isplitl [H0]; · iexact H0
        isplitl [H1]; · iexact H1
        isplitl [H2]; · iexact H2
        isplitl [H3]; · iexact H3
        isplitl [H4]; · iexact H4
        isplitl [H5]; · iexact H5
        isplitl [H6]
        · unfold owns; iexists _; isplitr
          swap; · iexact H6
          ipureintro; exact View.read_writes_of_cover _ _ _ _ _ (cover0_B_6 m c t _ _ _)
        isplitl [H7]
        · unfold owns; iexists _; isplitr
          swap; · iexact H7
          ipureintro; rfl
        isplitl [H8]
        · unfold owns; iexists _; isplitr
          swap; · iexact H8
          ipureintro; exact View.read_writes_of_cover _ _ _ _ _ (cover0_B_8 m c t _ _ _)
        isplitl [H9]
        · unfold owns; iexists _; isplitr
          swap; · iexact H9
          ipureintro; rfl
        unfold owns; iexists _; isplitr
        swap; · iexact H10
        ipureintro; rfl

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦD`) is the invariant before the first point. -/
theorem hin (c : Dev nD) : Pipeline.ΦD osem0 spec0 H0 (V m) c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦD` back: the carried scratch's named contents are forgotten. -/
theorem Phi_out (c : Dev nD) (t : Fin (cfg0.N + 1)) (ht : t.val ≠ 0) : (dats m 0 c).Φ t ⊢ Pipeline.ΦD osem0 spec0 H0 (V m) c := by
  rw [show (dats m 0 c).Φ t = PhiS m c t.val (Nat.le_of_lt_succ t.isLt) from rfl, PhiS_pos m c _ _ ht, keep, PhiD0_eq]
  iintro ⟨⟨HS0, HS1, HS2⟩, Hg, ⟨Hq0, Hq1, Hq2, Hq3, Hq4, Hq5, Hq6, Hq7, Hq8⟩, ⟨Hh0, Hh1⟩⟩
  isplitl [HS0 HS1 HS2]
  · isplitl [HS0]
    · iexists _; iexact HS0
    isplitl [HS1]
    · iexists _; iexact HS1
    iexists _; iexact HS2
  isplitl [Hg]; · iexact Hg
  isplitl [Hq0 Hq1 Hq2 Hq3 Hq4 Hq5 Hq6 Hq7 Hq8]
  · isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    iexact Hq8
  isplitl [Hh0]; · iexact Hh0
  iexact Hh1

/-- The same after the last point. -/
theorem hout (c : Dev nD) : (dats m 0 c).Φ (Fin.last cfg0.N) ⊢ Pipeline.ΦD osem0 spec0 H0 (V m) c :=
  Phi_out m c _ (by rw [Fin.val_last]; have : cfg0.N = 33 := N_0; omega)

/-! ## The run and the frame -/

-- `θ_run_frame_dma_shared`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_dma_shared (Q' := _) cfgs (dats m) (0 : Fin 1) launch₀0 osem0 defs₀ Variants.none ownSemFacts0 H0 H0_sub m ρ main
    (hbody := fun c => (body_obligation m c).loose) (hq := fun _ _ _ => rfl)
    (howed := fun _ _ => rfl) (V := V m) (hmain := hmain m Variants.none) (hA := A_eq m)
    (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

/-- The frame: the arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged m ρ) ((θ_run defs _ _).mono (fun _ h => h.2) (run_main_quiescent m ρ))

end Cert.GKernelIdeal.Gen

end
-- ==== Proof.FgAt.lean ====
/-
  The gated ConvFFN's backward pass at the second layer, block after block from the last one to the first: what each grid point finds.
-/
module

public import proofs.«01_k».proof.Proof.FfLeft
public import proofs.«01_k».proof.Proof.FgRun

@[expose] public section

set_option maxRecDepth 16384

noncomputable section

namespace Cert.GKernelIdeal.Val

open Cert.GKernelIdeal Cert.GKernelIdeal.Gen Cert.Ff
open Cert.FKernelIdeal.Val (At row slab inSlab ix2_of)
open Idealize.ShloMosaic Idealize.ShloMosaic.TcCoe Idealize.SL.Sem

variable (m : (ℓ : Loc nD τ sig) → Buf (Elt Ideal) ℓ) (c : Dev nD)

/-- The arguments as functions of row and lane. -/
abbrev kD : R → W → EReal := fun r k => (m ((c : Thread nD τ).loc main_arg0) : FVec Ideal S8448x1024 .f32) (ix2 r k)
abbrev kUP : R → U → EReal := fun r k => (m ((c : Thread nD τ).loc main_arg1) : FVec Ideal S8448x5632 .f32) (ix2 r k)
abbrev kWD : H → W → EReal := fun f k =>
  (m ((c : Thread nD τ).loc main_arg2) : FVec Ideal S8x2x352x1024 .bf16) (ix4 (slab f) (1 : Fin 2) (inSlab f) k)
abbrev kCW : Fin 3 → H → EReal := fun r k => (m ((c : Thread nD τ).loc main_arg3) : FVec Ideal S3x2816 .f32) (ix2 r k)
abbrev kWU : W → U → EReal := fun r k =>
  (m ((c : Thread nD τ).loc main_arg4) : FVec Ideal S2x1024x5632 .bf16) (ix3 (1 : Fin 2) r k)
abbrev kX : R → W → EReal := fun r k => (m ((c : Thread nD τ).loc main_arg5) : FVec Ideal S8448x1024 .f32) (ix2 r k)
abbrev kG : W → EReal := fun k => (m ((c : Thread nD τ).loc main_arg6) : FVec Ideal S1x1024 .f32) (ix2 (0 : Fin 1) k)

theorem idx : ∀ t : Fin cfg0.N, win0_0.index t = ![32 - t.val, 0] ∧ win0_1.index t = ![32 - t.val, 0]
    ∧ win0_2.index t = ![32 * (32 - t.val) - 1, 0] ∧ win0_3.index t = ![0, 0] ∧ win0_4.index t = ![32 - t.val, 0]
    ∧ win0_5.index t = ![0, 0] ∧ win0_6.index t = ![32 - t.val, 0] ∧ win0_7.index t = ![0, 0]
    ∧ win0_8.index t = ![32 - t.val, 0] ∧ win0_9.index t = ![0, 0] ∧ win0_10.index t = ![0, 0] :=
  (by decide +kernel : ∀ t : Fin grid0.N, _)

theorem coord : ∀ t : Fin cfg0.N, (grid0.coords t 0).val = t.val := (by decide +kernel : ∀ t : Fin grid0.N, _)

/-- The block a grid point works on. -/
def bk (t : Fin cfg0.N) : Fin 33 := ⟨32 - t.val, by omega⟩

theorem lt33 (t : Fin cfg0.N) : t.val < 33 := lt_of_lt_of_eq t.isLt N_0

theorem in0 (t : Fin cfg0.N) (r : Fin 256) (w : W) :
    (iblk m c 0 t : FVec Ideal S256x1024 .f32) (ix2 r w) = kD m c (row (bk t) r) w := by
  blk_ext [iblk, V, idx t, bk]
theorem in1 (t : Fin cfg0.N) (r : Fin 256) (w : U) :
    (iblk m c 1 t : FVec Ideal S256x5632 .f32) (ix2 r w) = kUP m c (row (bk t) r) w := by
  blk_ext [iblk, V, idx t, bk]
theorem in2 (t : Fin cfg0.N) (a : Fin 8) (f : H) (h : 0 < (bk t).val) :
    (iblk m c 2 t : FVec Ideal S8x2816 .f32) (ix2 a f) = kUP m c ⟨256 * (bk t).val - 8 + a.val, by omega⟩ (u0 f) := by
  blk_ext [iblk, V, idx t, bk]
theorem in3 (t : Fin cfg0.N) (r : Fin 3) (f : H) :
    (iblk m c 3 t : FVec Ideal S3x2816 .f32) (ix2 r f) = kCW m c r f := by
  blk_ext [iblk, V, idx t, bk]
theorem in4 (t : Fin cfg0.N) (r : Fin 256) (w : W) :
    (iblk m c 4 t : FVec Ideal S256x1024 .f32) (ix2 r w) = kX m c (row (bk t) r) w := by
  blk_ext [iblk, V, idx t, bk]
theorem in5 (t : Fin cfg0.N) (w : W) :
    (iblk m c 5 t : FVec Ideal S1x1024 .f32) (ix2 (0 : Fin 1) w) = kG m c w := by
  blk_ext [iblk, V, idx t, bk]

/-- What point `t` finds, given the weights and the rows the point before it left. -/
theorem at_of (t : Fin cfg0.N) (v11 : FVec Ideal S2816x1024 .bf16) (v55 : FVec Ideal S8x2816 .f32)
    (v100 v103 : FVec Ideal S1024x2816 .bf16) (h11 : ∀ f w, v11 (ix2 f w) = kWD m c f w)
    (h55 : ∀ (a : Fin 8) (f : H), v55 (ix2 a f) = if h : 256 * (bk t).val + 256 + a.val < 8448 then
      dc (kD m c) (kUP m c) (kWD m c) (kCW m c) ⟨256 * (bk t).val + 256 + a.val, h⟩ f else 0)
    (h100 : ∀ k f, v100 (ix2 k f) = kWU m c k (u0 f)) (h103 : ∀ k f, v103 (ix2 k f) = kWU m c k (u1 f)) :
    At (kD m c) (kUP m c) (kWD m c) (kCW m c) (kWU m c) (kX m c) (kG m c) (bk t) (grid0.coords t)
      (iblk m c 0 t) (iblk m c 1 t) (iblk m c 2 t) (iblk m c 3 t) (iblk m c 4 t) (iblk m c 5 t) v11 v55 v100 v103 where
  hi := by rw [coord]; have := lt33 t; show t.val = 32 - (32 - t.val); omega
  h0 := in0 m c t
  h1 := in1 m c t
  h2 := in2 m c t
  h3 := in3 m c t
  h4 := in4 m c t
  h5 := in5 m c t
  h11 := h11
  h55 := h55
  h100 := h100
  h103 := h103

end Cert.GKernelIdeal.Val

end
-- ==== Proof.FgCopy.lean ====
/-
  The gated ConvFFN's backward pass at the second layer: the weights copied in at the first point. The down projection's come as eight slabs
  of rows, the up projection's in one piece; both from the layer the call is given.
-/
module

public import proofs.«01_k».proof.Proof.FgAt
public import Idealize.ShloMosaic.Lib.Pipeline.ValueKit
public import Idealize.ShloMosaic.Lib.Pipeline.ReadBack
public import Idealize.ShloMosaic.Lib.ValueLayout

@[expose] public section

set_option maxRecDepth 16384

noncomputable section

namespace Cert.GKernelIdeal.Val

open Cert.GKernelIdeal Cert.GKernelIdeal.Gen Cert.Ff
open Cert.FKernelIdeal.Val (slab inSlab ix2_of canon_up)
open Idealize.ShloMosaic Idealize.ShloMosaic.TcCoe Idealize.SL.Sem

variable (m : (ℓ : Loc nD τ sig) → Buf (Elt Ideal) ℓ) (c : Dev nD)

/-- One slab of the down projection's weights, as it lies in the argument. -/
abbrev slabOf (p : ℕ) (h : ∀ k, (![p, 1, 0, 0] : Fin 4 → ℕ) k + ![1, 1, 352, 1024] k ≤ S8x2x352x1024.size k) :
    FVec Ideal S352x1024 .bf16 :=
  ReadAs.same.apply (View.read (Elt Ideal)
    (((View.whole main_arg2).slice (Rect.unit ![p, 1, 0, 0] ![1, 1, 352, 1024] h)).reshape S352x1024
      squeezes_S1x1x352x1024_S352x1024.numel_eq) (V m c main_arg2))

/-- The slab stored at its rows. -/
abbrev slabPiece (p o : ℕ) (h : ∀ k, (![p, 1, 0, 0] : Fin 4 → ℕ) k + ![1, 1, 352, 1024] k ≤ S8x2x352x1024.size k)
    (h' : ∀ k, (![o, 0] : Fin 2 → ℕ) k + ![352, 1024] k ≤ S2816x1024.size k) : View.Piece (Elt Ideal) S2816x1024 .bf16 :=
  ⟨Rect.unit (s := S2816x1024) ![o, 0] ![352, 1024] h', slabOf m c p h⟩

abbrev slabs : List (View.Piece (Elt Ideal) S2816x1024 .bf16) :=
  [slabPiece m c 7 2464 inb_S8x2x352x1024_S1x1x352x1024_7_1_0_0 inb_S2816x1024_S352x1024_2464_0,
    slabPiece m c 6 2112 inb_S8x2x352x1024_S1x1x352x1024_6_1_0_0 inb_S2816x1024_S352x1024_2112_0,
    slabPiece m c 5 1760 inb_S8x2x352x1024_S1x1x352x1024_5_1_0_0 inb_S2816x1024_S352x1024_1760_0,
    slabPiece m c 4 1408 inb_S8x2x352x1024_S1x1x352x1024_4_1_0_0 inb_S2816x1024_S352x1024_1408_0,
    slabPiece m c 3 1056 inb_S8x2x352x1024_S1x1x352x1024_3_1_0_0 inb_S2816x1024_S352x1024_1056_0,
    slabPiece m c 2 704 inb_S8x2x352x1024_S1x1x352x1024_2_1_0_0 inb_S2816x1024_S352x1024_704_0,
    slabPiece m c 1 352 inb_S8x2x352x1024_S1x1x352x1024_1_1_0_0 inb_S2816x1024_S352x1024_352_0,
    slabPiece m c 0 0 inb_S8x2x352x1024_S1x1x352x1024_0_1_0_0 inb_S2816x1024_S352x1024_0_0]

theorem slabOf_apply (p : ℕ) (hp : p < 8) (h) (r : Fin 352) (k : W) (f : H) (hf : f.val = 352 * p + r.val) :
    slabOf m c p h (ix2 r k) = kWD m c f k := by
  show (m ((c : Thread nD τ).loc main_arg2) : FVec Ideal S8x2x352x1024 .bf16)
    ((Rect.unit (s := S8x2x352x1024) ![p, 1, 0, 0] ![1, 1, 352, 1024] h).emb
      (Shape.reshapeEquiv squeezes_S1x1x352x1024_S352x1024.numel_eq (ix2 r k))) = _
  have e : Shape.reshapeEquiv squeezes_S1x1x352x1024_S352x1024.numel_eq (ix2 r k) = ix4 (0 : Fin 1) (0 : Fin 1) r k :=
    ValueIdx.reshapeEquiv_ix2_11ab (a := 352) (b := 1024) _ r k
  rw [e]
  refine congrArg _ (funext fun j => Fin.ext ?_)
  fin_cases j
  · show p + 1 * 0 = f.val / 352; omega
  · rfl
  · show 0 + 1 * r.val = f.val % 352; omega
  · show 0 + 1 * k.val = k.val; omega

theorem slabs_apply (f : H) (k : W) : View.canon (slabs m c) (ix2 f k) = kWD m c f k := by
  canon_tiles x h
  all_goals
    obtain ⟨a, b, rfl⟩ := ix2_of x
    obtain rfl : k = b := Fin.ext (by simpa using h1)
    first
    | exact slabOf_apply m c _ (by omega) _ a k f h0
    | exact slabOf_apply m c 0 (by omega) _ a k f (by have e : f.val = a.val := h0; omega)

/-- The weights copied in at the first point, as the body reads them. -/
abbrev wd : FVec Ideal S2816x1024 .bf16 := (View.whole cc0_scratch0).readCov (slabs m c)
  (Rect.unit (s := S2816x1024) ![0, 0] ![2816, 1024] inb_S2816x1024_S2816x1024_0_0).toLoadRect
theorem wd_eq (f : H) (k : W) : wd m c (ix2 f k) = kWD m c f k := by
  rw [← slabs_apply]
  show (View.whole cc0_scratch0).readCov (slabs m c) _ _ = _
  rw [View.readCov_eq_canon']
  refine congrArg (View.canon (slabs m c)) (funext fun j => Fin.ext ?_)
  fin_cases j
  · show 0 + 1 * f.val = f.val; omega
  · show 0 + 1 * k.val = k.val; omega

/-- The up projection's weights. -/
abbrev upOf : FVec Ideal S1024x5632 .bf16 :=
  ReadAs.same.apply (View.read (Elt Ideal)
    (((View.whole main_arg4).slice (Rect.unit ![1, 0, 0] ![1, 1024, 5632] inb_S2x1024x5632_S1x1024x5632_1_0_0)).reshape S1024x5632
      squeezes_S1x1024x5632_S1024x5632.numel_eq) (V m c main_arg4))
abbrev ups : List (View.Piece (Elt Ideal) S1024x5632 .bf16) := [⟨Rect.whole S1024x5632, upOf m c⟩]

theorem upOf_apply (k : W) (q : U) : upOf m c (ix2 k q) = kWU m c k q := by
  show (m ((c : Thread nD τ).loc main_arg4) : FVec Ideal S2x1024x5632 .bf16)
    ((Rect.unit (s := S2x1024x5632) ![1, 0, 0] ![1, 1024, 5632] inb_S2x1024x5632_S1x1024x5632_1_0_0).emb
      (Shape.reshapeEquiv squeezes_S1x1024x5632_S1024x5632.numel_eq (ix2 k q))) = _
  have e : Shape.reshapeEquiv squeezes_S1x1024x5632_S1024x5632.numel_eq (ix2 k q) = ix3 (0 : Fin 1) k q :=
    ValueIdx.reshapeEquiv_ix2_1ab (a := 1024) (b := 5632) _ k q
  rw [e]
  refine congrArg _ (funext fun j => Fin.ext ?_)
  fin_cases j
  · rfl
  · show 0 + 1 * k.val = k.val; omega
  · show 0 + 1 * q.val = q.val; omega

theorem ups_apply (k : W) (q : U) : View.canon (ups m c) (ix2 k q) = kWU m c k q := by
  rw [ups, canon_up]
  exact upOf_apply m c k q

abbrev wul : FVec Ideal S1024x2816 .bf16 := (View.whole cc0_scratch1).readCov (ups m c)
  (Rect.unit (s := S1024x5632) ![0, 0] ![1024, 2816] inb_S1024x5632_S1024x2816_0_0).toLoadRect
abbrev wur : FVec Ideal S1024x2816 .bf16 := (View.whole cc0_scratch1).readCov (ups m c)
  (Rect.unit (s := S1024x5632) ![0, 2816] ![1024, 2816] inb_S1024x5632_S1024x2816_0_2816).toLoadRect
theorem wul_eq (k : W) (f : H) : wul m c (ix2 k f) = kWU m c k (u0 f) := by
  rw [← ups_apply]
  show (View.whole cc0_scratch1).readCov (ups m c) _ _ = _
  rw [View.readCov_eq_canon']
  refine congrArg (View.canon (ups m c)) (funext fun j => Fin.ext ?_)
  fin_cases j
  · show 0 + 1 * k.val = k.val; omega
  · show 0 + 1 * f.val = f.val; omega
theorem wur_eq (k : W) (f : H) : wur m c (ix2 k f) = kWU m c k (u1 f) := by
  rw [← ups_apply]
  show (View.whole cc0_scratch1).readCov (ups m c) _ _ = _
  rw [View.readCov_eq_canon']
  refine congrArg (View.canon (ups m c)) (funext fun j => Fin.ext ?_)
  fin_cases j
  · show 0 + 1 * k.val = k.val; omega
  · show 2816 + 1 * f.val = 2816 + f.val; omega

end Cert.GKernelIdeal.Val

end
-- ==== Proof.FgLeft.lean ====
/-
  The gated ConvFFN's backward pass at the second layer: what is left after each grid point. The weights stay where the first point put
  them, eight rows are handed to the block before, and the gradients of the taps, the scale and the shift grow by one
  block's sum at every point.
-/
module
public import proofs.«01_k».proof.Proof.FgCopy
public import Idealize.ShloMosaic.Lib.Pipeline.ValueKit
public import Idealize.ShloMosaic.Lib.Pipeline.ReadBack
@[expose] public section
set_option maxRecDepth 16384
noncomputable section
namespace Cert.GKernelIdeal.Val
open Cert.GKernelIdeal Cert.GKernelIdeal.Gen Cert.Ff
open Cert.FKernelIdeal.Val (At row ix2_of rows3 rows1 ld_tap0 ld_tap1 ld_tap2 ld_row0 wl wr wl_apply wr_apply nth)
open Idealize.ShloMosaic Idealize.ShloMosaic.TcCoe Idealize.SL.Sem
variable (m : (ℓ : Loc nD τ sig) → Buf (Elt Ideal) ℓ) (c : Dev nD)

theorem bk_eq (t : Fin cfg0.N) : bk t = nth t.val :=
  Fin.ext (by show 32 - t.val = (32 - t.val) % 33; omega)

abbrev tapSum (s : ℕ) (b : Fin 33) (w : H) : EReal :=
  ∑ r : Fin 256, ahead (kD m c) (kUP m c) (kWD m c) (kCW m c) s (row b r) w * kUP m c (row b r) (u0 w)
abbrev gSum (b : Fin 33) (k : W) : EReal :=
  ∑ r : Fin 256, dy (kD m c) (kUP m c) (kWD m c) (kCW m c) (kWU m c) (row b r) k * Ln.xhat (kX m c (row b r)) k
abbrev bSum (b : Fin 33) (k : W) : EReal :=
  ∑ r : Fin 256, dy (kD m c) (kUP m c) (kWD m c) (kCW m c) (kWU m c) (row b r) k

/-- What the points up to `n` leave behind. -/
structure Left (n : ℕ) (hn : n < cfg0.N) : Prop where
  s0 : ∀ f w, ((outsAt0 m c n hn).2.2.2.2.2.1 : FVec Ideal S2816x1024 .bf16) (ix2 f w) = kWD m c f w
  s1 : ∀ a w, ((outsAt0 m c n hn).2.2.2.2.2.2.1 : FVec Ideal S1024x5632 .bf16) (ix2 a w) = kWU m c a w
  s2 : ∀ (a : Fin 8) (w : H), ((outsAt0 m c n hn).2.2.2.2.2.2.2 : FVec Ideal S8x2816 .f32) (ix2 a w)
    = dc (kD m c) (kUP m c) (kWD m c) (kCW m c) ⟨256 * (nth n).val + a.val, by omega⟩ w
  tap : ∀ (a : Fin 8) (w : H), ((outsAt0 m c n hn).2.1 : FVec Ideal S8x2816 .f32) (ix2 a w)
    = if a.val < 3 then ∑ k ∈ Finset.range (n + 1), tapSum m c (2 - a.val) (nth k) w else 0
  sg : ∀ (a : Fin 8) (w : W), ((outsAt0 m c n hn).2.2.2.1 : FVec Ideal S8x1024 .f32) (ix2 a w)
    = if a.val < 1 then ∑ k ∈ Finset.range (n + 1), gSum m c (nth k) w else 0
  sb : ∀ (a : Fin 8) (w : W), ((outsAt0 m c n hn).2.2.2.2.1 : FVec Ideal S8x1024 .f32) (ix2 a w)
    = if a.val < 1 then ∑ k ∈ Finset.range (n + 1), bSum m c (nth k) w else 0

/-- The gradients of a point's rows. -/
structure Rows (t : Fin cfg0.N) : Prop where
  up : ∀ r q, ((outsAt0 m c t.val t.isLt).1 : FVec Ideal S256x5632 .bf16) (ix2 r q)
    = dup (kD m c) (kUP m c) (kWD m c) (kCW m c) (row (bk t) r) q
  pin : ∀ r q, ((outsAt0 m c t.val t.isLt).2.2.1 : FVec Ideal S256x1024 .f32) (ix2 r q)
    = dpin (kD m c) (kUP m c) (kWD m c) (kCW m c) (kWU m c) (kX m c) (kG m c) (row (bk t) r) q

variable (t : Fin cfg0.N)

theorem rest_lt (h : ¬ t.val % 33 = 0) : t.val - 1 < cfg0.N := by omega

theorem atB (h : ¬ t.val % 33 = 0) (L : Left m c (t.val - 1) (rest_lt t h)) :
    At (kD m c) (kUP m c) (kWD m c) (kCW m c) (kWU m c) (kX m c) (kG m c) (bk t) (grid0.coords t)
      (iblk m c 0 t) (iblk m c 1 t) (iblk m c 2 t) (iblk m c 3 t) (iblk m c 4 t) (iblk m c 5 t)
      (outsAt0 m c (t.val - 1) (rest_lt t h)).2.2.2.2.2.1 (outsAt0 m c (t.val - 1) (rest_lt t h)).2.2.2.2.2.2.2
      (wl (outsAt0 m c (t.val - 1) (rest_lt t h)).2.2.2.2.2.2.1) (wr (outsAt0 m c (t.val - 1) (rest_lt t h)).2.2.2.2.2.2.1) := by
  refine at_of m c t _ _ _ _ L.s0 (fun a w => ?_) (fun k f => (wl_apply _ k f).trans (L.s1 _ _))
    (fun k f => (wr_apply _ k f).trans (L.s1 _ _))
  have h1 := lt33 t
  have e : (nth (t.val - 1)).val = (bk t).val + 1 := by
    show (32 - (t.val - 1)) % 33 = 32 - t.val + 1; omega
  rw [L.s2, dif_pos (by rw [show (bk t).val = 32 - t.val from rfl]; omega)]
  refine congrArg (fun r => dc _ _ _ _ r w) (Fin.ext ?_)
  show 256 * (nth (t.val - 1)).val + a.val = _
  rw [e]; ring

theorem rowsB (h : ¬ t.val % 33 = 0) (L : Left m c (t.val - 1) (rest_lt t h)) : Rows m c t := by
  constructor
  · intro r q
    rw [outsAt0_B m c t h h]; unfold leavesB
    frame_open; delta runB; frame_out
    try simp only [read_unread_whole]
    exact (atB m c t h L).dup r q
  · intro r q
    rw [outsAt0_B m c t h h]; unfold leavesB
    frame_open; delta runB; frame_out
    try simp only [read_unread_whole]
    exact (atB m c t h L).dpin r q

theorem s0B (h : ¬ t.val % 33 = 0) (L : Left m c (t.val - 1) (rest_lt t h)) (a : H) (w : W) :
    ((outsAt0 m c t.val t.isLt).2.2.2.2.2.1 : FVec Ideal S2816x1024 .bf16) (ix2 a w) = kWD m c a w := by
  rw [outsAt0_B m c t h h]; unfold leavesB
  exact L.s0 a w
theorem s1B (h : ¬ t.val % 33 = 0) (L : Left m c (t.val - 1) (rest_lt t h)) (a : W) (w : U) :
    ((outsAt0 m c t.val t.isLt).2.2.2.2.2.2.1 : FVec Ideal S1024x5632 .bf16) (ix2 a w) = kWU m c a w := by
  rw [outsAt0_B m c t h h]; unfold leavesB
  exact L.s1 a w
theorem s2B (h : ¬ t.val % 33 = 0) (L : Left m c (t.val - 1) (rest_lt t h)) (a : Fin 8) (w : H) :
    ((outsAt0 m c t.val t.isLt).2.2.2.2.2.2.2 : FVec Ideal S8x2816 .f32) (ix2 a w)
    = dc (kD m c) (kUP m c) (kWD m c) (kCW m c) ⟨256 * (bk t).val + a.val, by omega⟩ w := by
  rw [outsAt0_B m c t h h]; unfold leavesB
  frame_open; delta runB; frame_out
  try simp only [read_unread_whole]
  exact (atB m c t h L).carry a w

theorem tapB (h : ¬ t.val % 33 = 0) (L : Left m c (t.val - 1) (rest_lt t h)) (a : Fin 8) (w : H) :
    ((outsAt0 m c t.val t.isLt).2.1 : FVec Ideal S8x2816 .f32) (ix2 a w)
    = ((outsAt0 m c (t.val - 1) (rest_lt t h)).2.1 : FVec Ideal S8x2816 .f32) (ix2 a w)
      + if a.val < 3 then tapSum m c (2 - a.val) (bk t) w else 0 := by
  rw [outsAt0_B m c t h h]; unfold leavesB
  frame_open; delta runB; frame_out
  try simp only [read_unread_whole]
  have H := atB m c t h L
  refine rows3 _ _ _ _ _ [] _ ((hs0_7 t).read_unread _) (fun s w => tapSum m c s (bk t) w) ?_ ?_ ?_ a w
  · exact fun w => (H.tap0 _ _ _).trans (congrArg (· + _) (ld_tap0 _ _ _))
  · exact fun w => (H.tap1 _ _ _).trans (congrArg (· + _) (ld_tap1 _ _ _))
  · exact fun w => (H.tap2 _ _ _).trans (congrArg (· + _) (ld_tap2 _ _ _))
theorem sgB (h : ¬ t.val % 33 = 0) (L : Left m c (t.val - 1) (rest_lt t h)) (a : Fin 8) (w : W) :
    ((outsAt0 m c t.val t.isLt).2.2.2.1 : FVec Ideal S8x1024 .f32) (ix2 a w)
    = ((outsAt0 m c (t.val - 1) (rest_lt t h)).2.2.2.1 : FVec Ideal S8x1024 .f32) (ix2 a w)
      + if a.val < 1 then gSum m c (bk t) w else 0 := by
  rw [outsAt0_B m c t h h]; unfold leavesB
  frame_open; delta runB; frame_out
  try simp only [read_unread_whole]
  have H := atB m c t h L
  refine rows1 _ _ _ [] _ ((hs0_9 t).read_unread _) (gSum m c (bk t)) ?_ a w
  exact fun w => (H.dg _ _ _).trans (congrArg (· + _) (ld_row0 _ _ _))
theorem sbB (h : ¬ t.val % 33 = 0) (L : Left m c (t.val - 1) (rest_lt t h)) (a : Fin 8) (w : W) :
    ((outsAt0 m c t.val t.isLt).2.2.2.2.1 : FVec Ideal S8x1024 .f32) (ix2 a w)
    = ((outsAt0 m c (t.val - 1) (rest_lt t h)).2.2.2.2.1 : FVec Ideal S8x1024 .f32) (ix2 a w)
      + if a.val < 1 then bSum m c (bk t) w else 0 := by
  rw [outsAt0_B m c t h h]; unfold leavesB
  frame_open; delta runB; frame_out
  try simp only [read_unread_whole]
  have H := atB m c t h L
  refine rows1 _ _ _ [] _ ((hs0_10 t).read_unread _) (bSum m c (bk t)) ?_ a w
  exact fun w => (H.db _ _ _).trans (congrArg (· + _) (ld_row0 _ _ _))

theorem leftB (h : ¬ t.val % 33 = 0) (L : Left m c (t.val - 1) (rest_lt t h)) : Left m c t.val t.isLt := by
  have e : t.val - 1 + 1 = t.val := by omega
  refine ⟨s0B m c t h L, s1B m c t h L, fun a w => ?_, fun a w => ?_, fun a w => ?_, fun a w => ?_⟩
  · rw [s2B m c t h L]
    exact congrArg (fun r => dc _ _ _ _ r w) (Fin.ext (by show 256 * (bk t).val + _ = _; rw [bk_eq]))
  · rw [tapB m c t h L, L.tap, e, Finset.sum_range_succ, bk_eq]
    by_cases ha : a.val < 3
    · simp only [if_pos ha]
    · simp only [if_neg ha, add_zero]
  · rw [sgB m c t h L, L.sg, e, Finset.sum_range_succ, bk_eq]
    by_cases ha : a.val < 1
    · simp only [if_pos ha]
    · simp only [if_neg ha, add_zero]
  · rw [sbB m c t h L, L.sb, e, Finset.sum_range_succ, bk_eq]
    by_cases ha : a.val < 1
    · simp only [if_pos ha]
    · simp only [if_neg ha, add_zero]

/-! ## The first point -/

/-! What the first point stores before anything else is what the other layer's does. -/
theorem pay4_eq (a : Fin 8) (w : H) : k0_pay4 (F := Ideal) (ix2 a w) = 0 := Cert.FKernelIdeal.Val.pay4_eq a w
theorem pay5_eq : k0_pay5 (F := Ideal) = fun _ => (0 : EReal) := Cert.FKernelIdeal.Val.pay5_eq
theorem pay6_eq : k0_pay6 (F := Ideal) = fun _ => (0 : EReal) := Cert.FKernelIdeal.Val.pay6_eq
theorem pay7_eq : k0_pay7 (F := Ideal) = fun _ => (0 : EReal) := Cert.FKernelIdeal.Val.pay7_eq

theorem atA (h : t.val % 33 = 0) :
    At (kD m c) (kUP m c) (kWD m c) (kCW m c) (kWU m c) (kX m c) (kG m c) (bk t) (grid0.coords t)
      (iblk m c 0 t) (iblk m c 1 t) (iblk m c 2 t) (iblk m c 3 t) (iblk m c 4 t) (iblk m c 5 t)
      (wd m c) (k0_pay4 (F := Ideal)) (wul m c) (wur m c) := by
  refine at_of m c t _ _ _ _ (wd_eq m c) (fun a w => ?_) (wul_eq m c) (wur_eq m c)
  have h1 := lt33 t
  rw [pay4_eq, dif_neg (by rw [show (bk t).val = 32 - t.val from rfl]; omega)]

theorem rowsA (h : t.val % 33 = 0) : Rows m c t := by
  constructor
  · intro r q
    rw [outsAt0_A m c t h h]; unfold leavesA
    frame_open; delta runA; frame_out
    try simp only [read_unread_whole]
    exact (atA m c t h).dup r q
  · intro r q
    rw [outsAt0_A m c t h h]; unfold leavesA
    frame_open; delta runA; frame_out
    try simp only [read_unread_whole]
    exact (atA m c t h).dpin r q

theorem s0A (h : t.val % 33 = 0) (f : H) (w : W) :
    ((outsAt0 m c t.val t.isLt).2.2.2.2.2.1 : FVec Ideal S2816x1024 .bf16) (ix2 f w) = kWD m c f w := by
  rw [outsAt0_A m c t h h]; unfold leavesA
  frame_open; delta runA; frame_out
  exact slabs_apply m c f w
theorem s1A (h : t.val % 33 = 0) (k : W) (q : U) :
    ((outsAt0 m c t.val t.isLt).2.2.2.2.2.2.1 : FVec Ideal S1024x5632 .bf16) (ix2 k q) = kWU m c k q := by
  rw [outsAt0_A m c t h h]; unfold leavesA
  frame_open; delta runA; frame_out
  exact ups_apply m c k q
theorem s2A (h : t.val % 33 = 0) (a : Fin 8) (w : H) :
    ((outsAt0 m c t.val t.isLt).2.2.2.2.2.2.2 : FVec Ideal S8x2816 .f32) (ix2 a w)
    = dc (kD m c) (kUP m c) (kWD m c) (kCW m c) ⟨256 * (bk t).val + a.val, by omega⟩ w := by
  rw [outsAt0_A m c t h h]; unfold leavesA
  frame_open; delta runA; frame_out
  exact (atA m c t h).carry a w

theorem tapA (h : t.val % 33 = 0) (a : Fin 8) (w : H) :
    ((outsAt0 m c t.val t.isLt).2.1 : FVec Ideal S8x2816 .f32) (ix2 a w)
    = if a.val < 3 then tapSum m c (2 - a.val) (bk t) w else 0 := by
  rw [outsAt0_A m c t h h]; unfold leavesA
  frame_open; delta runA; frame_out
  try simp only [read_unread_whole]
  simp (disch := decide) only [↓ View.readCov_skip, ↓ View.readCov_cons_toLoadRect, ↓ View.readCov_fill]
  rw [← View.read_writes_junk_eq_canon (ms0_7 t).view]
  have H := atA m c t h
  refine (rows3 _ _ _ _ _ _ (k0_pay5 (F := Ideal)) ?_ (fun s w => tapSum m c s (bk t) w) ?_ ?_ ?_ a w).trans ?_
  · rw [View.read_writes_junk_eq_canon]
    exact View.canon_cons_unit_lit' (S := S8x2816) (off := ![0, 0]) _ _ [] (by decide)
  · exact fun w => (H.tap0 _ _ _).trans (congrArg (· + _) (ld_tap0 _ _ _))
  · exact fun w => (H.tap1 _ _ _).trans (congrArg (· + _) (ld_tap1 _ _ _))
  · exact fun w => (H.tap2 _ _ _).trans (congrArg (· + _) (ld_tap2 _ _ _))
  · rw [pay5_eq]; exact zero_add _
theorem sgA (h : t.val % 33 = 0) (a : Fin 8) (w : W) :
    ((outsAt0 m c t.val t.isLt).2.2.2.1 : FVec Ideal S8x1024 .f32) (ix2 a w)
    = if a.val < 1 then gSum m c (bk t) w else 0 := by
  rw [outsAt0_A m c t h h]; unfold leavesA
  frame_open; delta runA; frame_out
  try simp only [read_unread_whole]
  simp (disch := decide) only [↓ View.readCov_skip, ↓ View.readCov_fill]
  rw [← View.read_writes_junk_eq_canon (ms0_9 t).view]
  have H := atA m c t h
  refine (rows1 _ _ _ _ (k0_pay6 (F := Ideal)) ?_ (gSum m c (bk t)) ?_ a w).trans ?_
  · rw [View.read_writes_junk_eq_canon]
    exact View.canon_cons_unit_lit' (S := S8x1024) (off := ![0, 0]) _ _ [] (by decide)
  · exact fun w => (H.dg _ _ _).trans (congrArg (· + _) (ld_row0 _ _ _))
  · rw [pay6_eq]; exact zero_add _
theorem sbA (h : t.val % 33 = 0) (a : Fin 8) (w : W) :
    ((outsAt0 m c t.val t.isLt).2.2.2.2.1 : FVec Ideal S8x1024 .f32) (ix2 a w)
    = if a.val < 1 then bSum m c (bk t) w else 0 := by
  rw [outsAt0_A m c t h h]; unfold leavesA
  frame_open; delta runA; frame_out
  try simp only [read_unread_whole]
  simp (disch := decide) only [↓ View.readCov_skip, ↓ View.readCov_fill]
  rw [← View.read_writes_junk_eq_canon (ms0_10 t).view]
  have H := atA m c t h
  refine (rows1 _ _ _ _ (k0_pay7 (F := Ideal)) ?_ (bSum m c (bk t)) ?_ a w).trans ?_
  · rw [View.read_writes_junk_eq_canon]
    exact View.canon_cons_unit_lit' (S := S8x1024) (off := ![0, 0]) _ _ [] (by decide)
  · exact fun w => (H.db _ _ _).trans (congrArg (· + _) (ld_row0 _ _ _))
  · rw [pay7_eq]; exact zero_add _

theorem leftA (h : t.val % 33 = 0) : Left m c t.val t.isLt := by
  have e : t.val = 0 := by have := lt33 t; omega
  refine ⟨s0A m c t h, s1A m c t h, fun a w => ?_, fun a w => ?_,
    fun a w => ?_, fun a w => ?_⟩
  · rw [s2A m c t h]
    exact congrArg (fun r => dc _ _ _ _ r w) (Fin.ext (by show 256 * (bk t).val + _ = _; rw [bk_eq]))
  · rw [tapA m c t h, bk_eq, e, Finset.sum_range_one]
  · rw [sgA m c t h, bk_eq, e, Finset.sum_range_one]
  · rw [sbA m c t h, bk_eq, e, Finset.sum_range_one]

/-! ## All points -/

theorem left : ∀ (n : ℕ) (hn : n < cfg0.N), Left m c n hn
  | 0, hn => leftA m c ⟨0, hn⟩ rfl
  | n + 1, hn => leftB m c ⟨n + 1, hn⟩ (by
      have : n + 1 < 33 := lt33 ⟨n + 1, hn⟩
      show ¬ (n + 1) % 33 = 0; omega) (left n (by omega))

theorem rows : Rows m c t := by
  by_cases h : t.val % 33 = 0
  · exact rowsA m c t h
  · exact rowsB m c t h (left m c _ _)

end Cert.GKernelIdeal.Val
end
-- ==== Proof.FgVal.lean ====
/-
  The gated ConvFFN's backward pass at the second layer: the five result arrays after the last grid point, and the run that leaves them.
-/
module

public import proofs.«01_k».proof.Proof.FfVal
public import proofs.«01_k».proof.Proof.FgLeft
public import Idealize.ShloMosaic.Lib.Pipeline.ValueKit

@[expose] public section

set_option maxRecDepth 16384

noncomputable section

namespace Cert.GKernelIdeal.Val

open Cert.GKernelIdeal Cert.GKernelIdeal.Gen Cert.Ff
open Cert.FKernelIdeal.Val (row ix2_of sum_blocks nth)
open Idealize.ShloMosaic Idealize.ShloMosaic.TcCoe Idealize.SL.Sem

variable (m : (ℓ : Loc nD τ sig) → Buf (Elt Ideal) ℓ) (c : Dev nD) (ρ : Dev nD → PrngReg)

/-- The results. -/
def rProj : FVec Ideal S8448x5632 .bf16 := fun y => dup (kD m c) (kUP m c) (kWD m c) (kCW m c) (y 0) (y 1)
def rTap : FVec Ideal S8x2816 .f32 := fun y => if (y 0).val < 3 then dcw (kD m c) (kUP m c) (kWD m c) (kCW m c) (2 - (y 0).val) (y 1) else 0
def rPin : FVec Ideal S8448x1024 .f32 := fun y =>
  dpin (kD m c) (kUP m c) (kWD m c) (kCW m c) (kWU m c) (kX m c) (kG m c) (y 0) (y 1)
def rScale : FVec Ideal S8x1024 .f32 := fun y =>
  if (y 0).val < 1 then dg (kD m c) (kUP m c) (kWD m c) (kCW m c) (kWU m c) (kX m c) (y 1) else 0
def rShift : FVec Ideal S8x1024 .f32 := fun y =>
  if (y 0).val < 1 then db (kD m c) (kUP m c) (kWD m c) (kCW m c) (kWU m c) (y 1) else 0

theorem arr6 : (dats m 0 c).arrAt 6 cfg0.N = rProj m c := by
  refine (dats m 0 c).arrAt_eq_of_covers 6 _ (by decide +kernel) fun t hf y => ?_
  obtain ⟨r, q, rfl⟩ := ix2_of y
  blk_simp
  rw [after0_6]
  refine ((rows m c t).up r q).trans ?_
  refine congrArg₂ (dup _ _ _ _) (Fin.ext ?_) (Fin.ext ?_)
  · show 256 * (32 - t.val) + r.val = _
    blk_simp [idx t]; omega
  · blk_simp [idx t]
theorem arr8 : (dats m 0 c).arrAt 8 cfg0.N = rPin m c := by
  refine (dats m 0 c).arrAt_eq_of_covers 8 _ (by decide +kernel) fun t hf y => ?_
  obtain ⟨r, q, rfl⟩ := ix2_of y
  blk_simp
  rw [after0_8]
  refine ((rows m c t).pin r q).trans ?_
  refine congrArg₂ (dpin _ _ _ _ _ _ _) (Fin.ext ?_) (Fin.ext ?_)
  · show 256 * (32 - t.val) + r.val = _
    blk_simp [idx t]; omega
  · blk_simp [idx t]

theorem last (t : Fin cfg0.N) (h : t.val % 33 = 32) : t.val = 32 := by have := lt33 t; omega

theorem arr7 : (dats m 0 c).arrAt 7 cfg0.N = rTap m c := by
  refine (dats m 0 c).arrAt_eq_of_covers 7 _ (by decide +kernel) fun t hf y => ?_
  obtain ⟨r, q, rfl⟩ := ix2_of y
  have e := last t ((flush0_7 t).mp hf)
  blk_simp
  rw [after0_7]
  refine ((left m c t.val t.isLt).tap r q).trans ?_
  have e0 : (win0_7.blk t).view.emb (ix2 r q) = ix2 r q := by blk_ext [idx t]
  rw [e0, e]
  exact if_congr Iff.rfl (sum_blocks fun p => ahead (kD m c) (kUP m c) (kWD m c) (kCW m c) (2 - r.val) p q * kUP m c p (u0 q)) rfl
theorem arr9 : (dats m 0 c).arrAt 9 cfg0.N = rScale m c := by
  refine (dats m 0 c).arrAt_eq_of_covers 9 _ (by decide +kernel) fun t hf y => ?_
  obtain ⟨r, q, rfl⟩ := ix2_of y
  have e := last t ((flush0_9 t).mp hf)
  blk_simp
  rw [after0_9]
  refine ((left m c t.val t.isLt).sg r q).trans ?_
  have e0 : (win0_9.blk t).view.emb (ix2 r q) = ix2 r q := by blk_ext [idx t]
  rw [e0, e]
  exact if_congr Iff.rfl (sum_blocks fun p =>
    dy (kD m c) (kUP m c) (kWD m c) (kCW m c) (kWU m c) p q * Ln.xhat (kX m c p) q) rfl
theorem arr10 : (dats m 0 c).arrAt 10 cfg0.N = rShift m c := by
  refine (dats m 0 c).arrAt_eq_of_covers 10 _ (by decide +kernel) fun t hf y => ?_
  obtain ⟨r, q, rfl⟩ := ix2_of y
  have e := last t ((flush0_10 t).mp hf)
  blk_simp
  rw [after0_10]
  refine ((left m c t.val t.isLt).sb r q).trans ?_
  have e0 : (win0_10.blk t).view.emb (ix2 r q) = ix2 r q := by blk_ext [idx t]
  rw [e0, e]
  exact if_congr Iff.rfl (sum_blocks fun p => dy (kD m c) (kUP m c) (kWD m c) (kCW m c) (kWU m c) p q) rfl

/-- The run with the results named. -/
theorem run : θ_run defs (onTc (τ := τ) (main (F := Ideal))) ⟨m, fun _ => 0, ρ⟩ fun r => ∀ c : Dev nD,
      r.2.mem ((c : Thread nD τ).loc main_v0_0) = rProj m c
      ∧ r.2.mem ((c : Thread nD τ).loc main_v0_1) = rTap m c
      ∧ r.2.mem ((c : Thread nD τ).loc main_v0_2) = rPin m c
      ∧ r.2.mem ((c : Thread nD τ).loc main_v0_3) = rScale m c
      ∧ r.2.mem ((c : Thread nD τ).loc main_v0_4) = rShift m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨((h.1 c).1 6).trans (arr6 m c), ((h.1 c).1 7).trans (arr7 m c),
      ((h.1 c).1 8).trans (arr8 m c), ((h.1 c).1 9).trans (arr9 m c), ((h.1 c).1 10).trans (arr10 m c), h.2 c⟩)
    (θ_run_and (run_main m ρ) (unchanged m ρ))

end Cert.GKernelIdeal.Val

end
-- ==== Proof.FgRef.lean ====
/-
  The second layer's reference, its five results read at an index: they are the functions of FfSpec.
-/
module

public import proofs.«01_k».proof.Proof.FfRef
public import proofs.«01_k».proof.Proof.Gen.GReferenceIdeal.Read
public import Idealize.ShloMosaic.Lib.Pointwise
public import Idealize.ShloMosaic.Lib.WordCmp

@[expose] public section

set_option maxRecDepth 16384

noncomputable section

namespace Cert.GReferenceIdeal.Spec

open Cert.FReferenceIdeal.Spec (aD aUP aCW aX aG sge_ofNat)
open Cert.GReferenceIdeal Cert.GReferenceIdeal.Gen Cert.GReferenceIdeal.Read Cert.Ff
open Idealize.ShloMosaic Idealize.ShloMosaic.TcCoe Idealize.SL.Sem

variable (x0 : FVec Ideal S8448x1024 .f32) (x1 : FVec Ideal S8448x5632 .f32) (x2 : FVec Ideal S8x2x352x1024 .bf16)
  (x3 : FVec Ideal S3x2816 .f32) (x4 : FVec Ideal S2x1024x5632 .bf16) (x5 : FVec Ideal S8448x1024 .f32)
  (x6 : FVec Ideal S1x1024 .f32)

/-- The weights as functions of row and lane. -/
abbrev aWD : H → W → EReal := fun f k =>
  x2 (ix4 (⟨f.val / 352, by omega⟩ : Fin 8) (1 : Fin 2) (⟨f.val % 352, by omega⟩ : Fin 352) k)
abbrev aWU : W → U → EReal := fun r k => x4 (ix3 (1 : Fin 2) r k)
theorem v0 (r : R) (f : H) : val_main_v0 (F := Ideal) x1 (ix2 r f) = aUP x1 r (u0 f) := by
  pointwise [val_main_v0]
theorem v1 (r : R) (f : H) : val_main_v1 (F := Ideal) x1 (ix2 r f) = aUP x1 r (u1 f) := by
  pointwise [val_main_v1]

/-- The convolution's input a number of rows earlier, cut out of the rows with two zero rows in front. -/
theorem v6 (r : R) (f : H) : val_main_v6 (F := Ideal) x1 (ix2 r f) = back (aUP x1) 2 r f := by
  pointwise [val_main_v6, val_main_v3, val_main_v2, val_main_cst]
  simp only [v0, back]
  by_cases h : r.val < 2
  · rw [dif_pos h, if_neg (by omega)]
  · rw [dif_neg h]
    exact (if_pos (show 2 ≤ r.val by omega)).symm

theorem v12 (r : R) (f : H) : val_main_v12 (F := Ideal) x1 (ix2 r f) = back (aUP x1) 1 r f := by
  pointwise [val_main_v12, val_main_v3, val_main_v2, val_main_cst]
  simp only [v0, back]
  by_cases h : 1 + r.val < 2
  · rw [dif_pos h, if_neg (by omega)]
  · rw [dif_neg h]
    refine Eq.trans ?_ (if_pos (show 1 ≤ r.val by omega)).symm
    exact congrArg (fun t => aUP x1 t (u0 f)) (Fin.ext (by show 1 + r.val - 2 = r.val - 1; omega))

theorem v17 (r : R) (f : H) : val_main_v17 (F := Ideal) x1 (ix2 r f) = aUP x1 r (u0 f) := by
  pointwise [val_main_v17, val_main_v3, val_main_v2, val_main_cst]
  simp only [v0]

theorem v20 (r : R) (f : H) : val_main_v20 (F := Ideal) x1 x3 (ix2 r f) = uu (aUP x1) (aCW x3) r f := by
  pointwise [val_main_v20, val_main_v19, val_main_v18, val_main_v16, val_main_v15, val_main_v14, val_main_v13, val_main_v11,
    val_main_v10, val_main_v9, val_main_cst_1, val_main_v8, val_main_v7, val_main_v5]
  simp only [v6, v12, v17, zero_add]
  rfl

theorem v21_2 (r : R) (f : H) : val_main_v21_2 (F := Ideal) x1 x3 (ix2 r f) = sg (uu (aUP x1) (aCW x3) r f) := by
  pointwise [val_main_v21_2, val_main_call0_v4, val_main_call0_cst_0, val_main_call0_v3, val_main_call0_v2, val_main_call0_cst,
    val_main_call0_v1, val_main_call0_v0]
  rw [v20, sg, zero_sub]

theorem v21_1 (r : R) (f : H) : val_main_v21_1 (F := Ideal) x1 x3 (ix2 r f)
    = sg (uu (aUP x1) (aCW x3) r f) * (one - sg (uu (aUP x1) (aCW x3) r f)) := by
  pointwise [val_main_v21_1, val_main_call0_v7, val_main_call0_v6, val_main_call0_cst_1]
  rw [v21_2]

theorem v26 (f : H) (k : W) : val_main_v26 (F := Ideal) x2 (ix2 f k) = aWD x2 f k := by
  pointwise [val_main_v26, val_main_v25, val_main_v24, val_main_v23]

theorem v28 (r : R) (f : H) : val_main_v28 (F := Ideal) x0 x2 (ix2 r f) = da (aD x0) (aWD x2) r f := by
  pointwise [val_main_v28]
  simp only [v26]
  rfl

theorem v29 (r : R) (f : H) :
    val_main_v29 (F := Ideal) x0 x1 x2 x3 (ix2 r f) = dgate (aD x0) (aUP x1) (aWD x2) (aCW x3) r f := by
  pointwise [val_main_v29, val_main_v21_0]
  rw [v28, v20, v21_2, dgate, mul_comm]

theorem v30 (r : R) (f : H) :
    val_main_v30 (F := Ideal) x0 x1 x2 (ix2 r f) = da (aD x0) (aWD x2) r f * aUP x1 r (u1 f) := by
  pointwise [val_main_v30]
  rw [v28, v1]

section Numbers
variable (h0 : ∀ i, Ln.Fin' (x0 i)) (h1 : ∀ i, Ln.Fin' (x1 i)) (h2 : ∀ i, Ln.Fin' (x2 i)) (h3 : ∀ i, Ln.Fin' (x3 i))
include h0 h1 h2 h3

theorem v31 (r : R) (f : H) :
    val_main_v31 (F := Ideal) x0 x1 x2 x3 (ix2 r f) = dc (aD x0) (aUP x1) (aWD x2) (aCW x3) r f := by
  pointwise [val_main_v31, val_main_call1_v2, val_main_call1_v1, val_main_call1_v0]
  rw [v20, v21_2, v21_1, v30]
  exact dc_eq (fun _ _ => h0 _) (fun _ _ => h1 _) (fun _ _ => h2 _) (fun _ _ => h3 _) r f

theorem v58 (r : R) (f : H) :
    val_main_v58 (F := Ideal) x0 x1 x2 x3 (ix2 r f) = dx (aD x0) (aUP x1) (aWD x2) (aCW x3) r f := by
  pointwise [val_main_v58, val_main_v54, val_main_v53, val_main_cst_9, val_main_v49, val_main_v48, val_main_v5, val_main_v45,
    val_main_v44, val_main_cst_6, val_main_v40, val_main_v39, val_main_v11, val_main_v37, val_main_cst_3, val_main_v33,
    val_main_v32, val_main_v16]
  simp only [v31 x0 x1 x2 x3 h0 h1 h2 h3, dx, ahead]
  rw [add_comm (_ + _), add_comm (x3 (ix2 2 f) * _), ← add_assoc]
  refine congrArg₂ (· + ·) (congrArg₂ (· + ·) ?_ ?_) rfl
  · split_ifs with h h' h'
    · exact congrArg (fun t => x3 (ix2 0 f) * dc (aD x0) (aUP x1) (aWD x2) (aCW x3) t f) (Fin.ext (Nat.add_comm 2 r.val))
    · omega
    · omega
    · exact (mul_zero _).symm
  · split_ifs with h h' h'
    · exact congrArg (fun t => x3 (ix2 1 f) * dc (aD x0) (aUP x1) (aWD x2) (aCW x3) t f)
        (Fin.ext (by show 2 + r.val - 1 = r.val + 1; omega))
    · omega
    · omega
    · exact (mul_zero _).symm

theorem v59 (r : R) (q : U) :
    val_main_v59 (F := Ideal) x0 x1 x2 x3 (ix2 r q) = dup (aD x0) (aUP x1) (aWD x2) (aCW x3) r q := by
  pointwise [val_main_v59]
  simp only [v58 x0 x1 x2 x3 h0 h1 h2 h3, v29, dup]

/-- The gradient of the up projection. -/
theorem v132 (r : R) (q : U) :
    val_main_v132 (F := Ideal) x0 x1 x2 x3 (ix2 r q) = dup (aD x0) (aUP x1) (aWD x2) (aCW x3) r q := by
  pointwise [val_main_v132]
  rw [v59 x0 x1 x2 x3 h0 h1 h2 h3]

theorem v67 (r : R) (k : W) :
    val_main_v67 (F := Ideal) x0 x1 x2 x3 x4 (ix2 r k) = dh (aD x0) (aUP x1) (aWD x2) (aCW x3) (aWU x4) r k := by
  pointwise [val_main_v67, val_main_v66, val_main_v65, val_main_v64, val_main_v63, val_main_v62, val_main_v61, val_main_v60,
    val_main_cst_11]
  simp only [v59 x0 x1 x2 x3 h0 h1 h2 h3]
  exact dh_eq (aD x0) (aUP x1) (aWD x2) (aCW x3) (aWU x4) r k

theorem v100 (r : R) (k : W) :
    val_main_v100 (F := Ideal) x0 x1 x2 x3 x4 (ix2 r k) = dy (aD x0) (aUP x1) (aWD x2) (aCW x3) (aWU x4) r k := by
  pointwise [val_main_v100, val_main_v98, val_main_v96, val_main_v97, val_main_c, val_main_call3_v0, val_main_call3_cst]
  rw [v67 x0 x1 x2 x3 x4 h0 h1 h2 h3, sge_ofNat (by omega) (by omega)]
  unfold dy
  split_ifs <;> first | rfl | omega

omit h0 h1 h2 h3 in
theorem sum_u (f : H) : (∑ r, dc (aD x0) (aUP x1) (aWD x2) (aCW x3) r f * x1 (ix2 r (u0 f)))
    = dcw (aD x0) (aUP x1) (aWD x2) (aCW x3) 0 f := by
  rw [← dcw_eq]
  rfl

/-- The gradient of the three taps, followed by five zero rows. -/
theorem v134 (r : Fin 8) (f : H) : val_main_v134 (F := Ideal) x0 x1 x2 x3 (ix2 r f)
    = if r.val < 3 then dcw (aD x0) (aUP x1) (aWD x2) (aCW x3) (2 - r.val) f else 0 := by
  pointwise [val_main_v134, val_main_v133, val_main_cst_30, val_main_v56, val_main_v55, val_main_cst_10, val_main_v52,
    val_main_v51, val_main_cst_8, val_main_v50, val_main_v47, val_main_v46, val_main_cst_7, val_main_v43, val_main_v42, val_main_cst_5,
    val_main_v41, val_main_v38, val_main_cst_4, val_main_v36, val_main_v35, val_main_cst_2, val_main_v34]
  simp only [v31 x0 x1 x2 x3 h0 h1 h2 h3, v6, v12, v17, dcw_eq, zero_add, sum_u]
  obtain ⟨n, hn⟩ := r
  rcases n with _ | _ | _ | n
  · simp
  · simp
  · simp
  · rw [dif_neg (by simp), if_neg (by simp)]

omit h0 h1 h2 h3
theorem v72 (r : R) (k : Fin 1) : val_main_v72 (F := Ideal) x5 (ix2 r k) = Ln.mean (aX x5 r) := by
  pointwise [val_main_v72, val_main_v71, val_main_cst_14, val_main_v70, val_main_v69, val_main_cst_13]
  rfl
theorem v74 (r : R) (k : W) : val_main_v74 (F := Ideal) x5 (ix2 r k) = Ln.cen (aX x5 r) k := by
  pointwise [val_main_v74, val_main_v73]
  rw [v72]
  rfl
theorem v83 (r : R) (k : W) : val_main_v83 (F := Ideal) x5 (ix2 r k) = Ln.cen (aX x5 r) k := by
  pointwise [val_main_v83, val_main_v82]
  rw [v72]
  rfl
theorem v85 (r : R) (k : Fin 1) : val_main_v85 (F := Ideal) x5 (ix2 r k) = Ln.den (aX x5 r) := by
  pointwise [val_main_v85, val_main_v84, val_main_cst_18, val_main_v81, val_main_v80, val_main_cst_17, val_main_v79, val_main_v78,
    val_main_cst_16, val_main_v75]
  simp only [v74, zero_add]
  rfl
theorem v86 (r : R) (k : Fin 1) : val_main_v86 (F := Ideal) x5 (ix2 r k) = Ln.rstd (aX x5 r) := by
  pointwise [val_main_v86]
  rw [v85]
  rfl
theorem v91 (r : R) (k : W) : val_main_v91 (F := Ideal) x5 (ix2 r k) = Ln.xhat (aX x5 r) k := by
  pointwise [val_main_v91, val_main_v90]
  rw [v83, v86]
  rfl
include h0 h1 h2 h3

/-- The gradient of the scale and of the shift, each in the first of eight rows. -/
theorem v136 (r : Fin 8) (k : W) : val_main_v136 (F := Ideal) x0 x1 x2 x3 x4 x5 (ix2 r k)
    = if r.val < 1 then dg (aD x0) (aUP x1) (aWD x2) (aCW x3) (aWU x4) (aX x5) k else 0 := by
  pointwise [val_main_v136, val_main_v135, val_main_cst_31, val_main_v105, val_main_v104, val_main_cst_22, val_main_v103]
  simp only [v91, v100 x0 x1 x2 x3 x4 h0 h1 h2 h3, dg, zero_add, mul_comm (Ln.xhat _ _)]
  split_ifs <;> rfl

theorem v138 (r : Fin 8) (k : W) : val_main_v138 (F := Ideal) x0 x1 x2 x3 x4 (ix2 r k)
    = if r.val < 1 then db (aD x0) (aUP x1) (aWD x2) (aCW x3) (aWU x4) k else 0 := by
  pointwise [val_main_v138, val_main_v137, val_main_cst_32, val_main_v102, val_main_v101, val_main_cst_21]
  simp only [v100 x0 x1 x2 x3 x4 h0 h1 h2 h3, db, zero_add]
  split_ifs <;> rfl

theorem v112 (r : R) (k : W) : val_main_v112 (F := Ideal) x0 x1 x2 x3 x4 x5 x6 (ix2 r k)
    = (dy (aD x0) (aUP x1) (aWD x2) (aCW x3) (aWU x4) r k * aG x6 k) * Ln.rstd (aX x5 r) := by
  pointwise [val_main_v112, val_main_v111, val_main_v107, val_main_v106]
  rw [v100 x0 x1 x2 x3 x4 h0 h1 h2 h3, v86]

theorem v120 (r : R) (k : W) : val_main_v120 (F := Ideal) x0 x1 x2 x3 x4 x5 x6 (ix2 r k)
    = Ln.dvar (aX x5 r) (fun k => dy (aD x0) (aUP x1) (aWD x2) (aCW x3) (aWU x4) r k * aG x6 k) := by
  pointwise [val_main_v120, val_main_v119, val_main_cst_26, val_main_v118, val_main_v117, val_main_cst_25, val_main_v113, val_main_v110,
    val_main_v109, val_main_cst_23, val_main_v108, val_main_v107, val_main_v106, val_main_v89, val_main_v88, val_main_cst_19, val_main_v87]
  simp only [v83, v100 x0 x1 x2 x3 x4 h0 h1 h2 h3, v86, v85, zero_add, Fin.sum_univ_one]
  rfl

theorem v121 (r : R) (k : W) : val_main_v121 (F := Ideal) x0 x1 x2 x3 x4 x5 x6 (ix2 r k)
    = Ln.dvar (aX x5 r) (fun k => dy (aD x0) (aUP x1) (aWD x2) (aCW x3) (aWU x4) r k * aG x6 k)
      * (Ln.two * Ln.cen (aX x5 r) k) := by
  pointwise [val_main_v121, val_main_v77, val_main_v76, val_main_cst_15]
  rw [v120 x0 x1 x2 x3 x4 x5 x6 h0 h1 h2 h3, v74]
  rfl

theorem v131_chain (r : R) (k : W) : val_main_v131 (F := Ideal) x0 x1 x2 x3 x4 x5 x6 (ix2 r k)
    = Ln.chain (aX x5 r) (fun k => dy (aD x0) (aUP x1) (aWD x2) (aCW x3) (aWU x4) r k * aG x6 k) k := by
  pointwise [val_main_v131, val_main_v130, val_main_v129, val_main_cst_29, val_main_v128, val_main_v127, val_main_cst_28, val_main_v126,
    val_main_v125, val_main_v124, val_main_v123, val_main_cst_27, val_main_v122, val_main_v116, val_main_v115, val_main_cst_24,
    val_main_v114]
  simp only [v112 x0 x1 x2 x3 x4 x5 x6 h0 h1 h2 h3, v121 x0 x1 x2 x3 x4 x5 x6 h0 h1 h2 h3, zero_add, Fin.sum_univ_one]
  rfl

/-- The gradient of the rows that were normalised. -/
theorem v131 (h4 : ∀ i, Ln.Fin' (x4 i)) (h5 : ∀ i, Ln.Fin' (x5 i)) (h6 : ∀ i, Ln.Fin' (x6 i)) (r : R) (k : W) :
    val_main_v131 (F := Ideal) x0 x1 x2 x3 x4 x5 x6 (ix2 r k)
      = dpin (aD x0) (aUP x1) (aWD x2) (aCW x3) (aWU x4) (aX x5) (aG x6) r k := by
  rw [v131_chain x0 x1 x2 x3 x4 x5 x6 h0 h1 h2 h3, dpin, Ln.bwd_eq_chain]
  · exact fun k => h5 _
  · exact fun k => (fin_dy (fun _ _ => h0 _) (fun _ _ => h1 _) (fun _ _ => h2 _) (fun _ _ => h3 _) (fun _ _ => h4 _) r k).mul (h6 _)
end Numbers

end Cert.GReferenceIdeal.Spec

end
-- ==== Proof.FgClaims.lean ====
/-
  The gated ConvFFN's backward pass at the second layer: the claims.
-/
module

public import proofs.«01_k».proof.Defs
public import proofs.«01_k».proof.Proof.Gen.GKernel
public import proofs.«01_k».proof.Proof.Gen.GKernelIdeal
public import proofs.«01_k».proof.Proof.Gen.GReferenceIdeal
public import proofs.«01_k».proof.Proof.FgRun
public import proofs.«01_k».proof.Proof.FgVal
public import proofs.«01_k».proof.Proof.FgRef
public import proofs.«01_k».proof.Proof.FfFin

@[expose] public section

set_option maxRecDepth 16384

noncomputable section

namespace Cert.Proof.Fg

open Idealize.ShloMosaic Idealize.ShloMosaic.TcCoe Idealize.SL.Sem

open Cert.GKernelIdeal in
/-- The frame of the ideal program's text at the machine's words. -/
def FrameBits : Prop :=
  ∀ (m : (ℓ : Loc nD τ sig) → Buf (Elt Bits) ℓ) (g : Dev nD → PrngReg), True →
    θ_run (defs (F := Bits)) (onTc (τ := τ) (main (F := Bits))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0)
theorem frame_bits : FrameBits := fun m ρ _ => Cert.GKernelIdeal.Gen.frame (F := Bits) m ρ

/-- Kernel and ideal kernel are one text, so that this is the kernel's frame. -/
theorem frame_eq : FrameBits = Cert.quiescent_GKernel := by sl_kernel_rfl
theorem frame : Cert.quiescent_GKernel := frame_eq.mp frame_bits
theorem frame_ideal : Cert.quiescent_GKernelIdeal := fun m ρ _ => Cert.GKernelIdeal.Gen.frame m ρ
theorem frame_ideal_pre : Cert.quiescent_GKernelIdeal_pre_finite_ffn := fun m ρ _ => Cert.GKernelIdeal.Gen.frame m ρ

theorem frame_ref : Cert.quiescent_GReferenceIdeal := fun m ρ _ =>
  (θ_run Cert.GReferenceIdeal.defs _ _).mono (fun r h => ⟨fun c => (h c).2.2.2.2.2,
      Idealize.ShloMosaic.sem_eq_zero_of_no_sems (by decide) r.2⟩)
    (Cert.GReferenceIdeal.Value.run (F := Ideal) m ρ)
theorem frame_ref_pre : Cert.quiescent_GReferenceIdeal_pre_finite_ffn := fun m ρ _ => frame_ref m ρ trivial

theorem preserves : Cert.preserves_GKernel_GKernelIdeal := trivial

open Cert.GReferenceIdeal Cert.GReferenceIdeal.Read in
theorem algebraic : Cert.algebraic_GKernelIdeal_GReferenceIdeal_pre_finite_ffn := by
  intro m ρ m' ρ' hpre hag
  refine ⟨fun c => Cert.GKernelIdeal.Val.rProj m c, fun c => Cert.GKernelIdeal.Val.rTap m c, fun c => Cert.GKernelIdeal.Val.rPin m c,
    fun c => Cert.GKernelIdeal.Val.rScale m c, fun c => Cert.GKernelIdeal.Val.rShift m c, Cert.GKernelIdeal.Val.run m ρ, ?_⟩
  refine (θ_run Cert.GReferenceIdeal.defs _ _).mono (fun r h c => ?_) (Cert.GReferenceIdeal.Value.run (F := Ideal) m' ρ')
  obtain ⟨e0, e1, e2, e3, e4, e5, e6⟩ := hag c
  replace e0 : StableHlo.launchContents m' c (Proc.tc.devRef main_arg0) = m (c.tc.loc Cert.GKernelIdeal.main_arg0) := e0
  replace e1 : StableHlo.launchContents m' c (Proc.tc.devRef main_arg1) = m (c.tc.loc Cert.GKernelIdeal.main_arg1) := e1
  replace e2 : StableHlo.launchContents m' c (Proc.tc.devRef main_arg2) = m (c.tc.loc Cert.GKernelIdeal.main_arg2) := e2
  replace e3 : StableHlo.launchContents m' c (Proc.tc.devRef main_arg3) = m (c.tc.loc Cert.GKernelIdeal.main_arg3) := e3
  replace e4 : StableHlo.launchContents m' c (Proc.tc.devRef main_arg4) = m (c.tc.loc Cert.GKernelIdeal.main_arg4) := e4
  replace e5 : StableHlo.launchContents m' c (Proc.tc.devRef main_arg5) = m (c.tc.loc Cert.GKernelIdeal.main_arg5) := e5
  replace e6 : StableHlo.launchContents m' c (Proc.tc.devRef main_arg6) = m (c.tc.loc Cert.GKernelIdeal.main_arg6) := e6
  replace h := h c
  rw [val_main_v132_eq, val_main_v134_eq, val_main_v131_eq, val_main_v136_eq, val_main_v138_eq] at h
  obtain ⟨f0, f1, f2, f3, f4, f5, f6⟩ := Cert.Pre_finite_ffn.Val.finite _ _ _ _ _ _ _ (hpre c)
  refine ⟨h.1.trans ?_, h.2.1.trans ?_, h.2.2.1.trans ?_, h.2.2.2.1.trans ?_, h.2.2.2.2.1.trans ?_, h.2.2.2.2.2⟩
  · rw [e0, e1, e2, e3]
    funext y
    obtain ⟨r, q, rfl⟩ := Cert.FKernelIdeal.Val.ix2_of y
    exact Cert.GReferenceIdeal.Spec.v132 _ _ _ _ f0 f1 f2 f3 r q
  · rw [e0, e1, e2, e3]
    funext y
    obtain ⟨r, q, rfl⟩ := Cert.FKernelIdeal.Val.ix2_of y
    exact Cert.GReferenceIdeal.Spec.v134 _ _ _ _ f0 f1 f2 f3 r q
  · rw [e0, e1, e2, e3, e4, e5, e6]
    funext y
    obtain ⟨r, q, rfl⟩ := Cert.FKernelIdeal.Val.ix2_of y
    exact Cert.GReferenceIdeal.Spec.v131 _ _ _ _ _ _ _ f0 f1 f2 f3 f4 f5 f6 r q
  · rw [e0, e1, e2, e3, e4, e5]
    funext y
    obtain ⟨r, q, rfl⟩ := Cert.FKernelIdeal.Val.ix2_of y
    exact Cert.GReferenceIdeal.Spec.v136 _ _ _ _ _ _ f0 f1 f2 f3 r q
  · rw [e0, e1, e2, e3, e4]
    funext y
    obtain ⟨r, q, rfl⟩ := Cert.FKernelIdeal.Val.ix2_of y
    exact Cert.GReferenceIdeal.Spec.v138 _ _ _ _ _ f0 f1 f2 f3 r q

end Cert.Proof.Fg

end
-- ==== Proof.FhRunA.lean ====
/-
  The run of the gated ConvFFN's forward kernel at the first grid point, where the weights are copied in: the generated
  module's text, with each copy into a slice of the scratch lent that slice alone.
-/
module

public import proofs.«01_k».proof.Proof.Gen.HKernelIdeal.Frame.Runs

@[expose] public section

set_option maxRecDepth 16384
set_option sl_exec.dmaWindow true
set_option sl_exec.dmaWindowSet true

noncomputable section

namespace Cert.HKernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option maxHeartbeats 1000000 in
/-- What the body stores in case A (the first point of the grid), output by output and then the scratch, as pieces with the last first; and that
    it runs from the inputs at their contents, the HBM operands at theirs and its cells at zero, and gives them back so. -/
noncomputable def kernelRun0_A (c : Dev nD) (i : grid0.Coords) (arg1 : Memref sig .tc .vmem S256x1024 .f32) (harg1 : arg1.IsWhole) (arg3 : Memref sig .tc .vmem S3x2816 .f32) (harg3 : arg3.IsWhole) (arg5 : Memref sig .tc .vmem S1x1024 .f32) (harg5 : arg5.IsWhole) (arg6 : Memref sig .tc .vmem S1x1024 .f32) (harg6 : arg6.IsWhole) (arg7 : Memref sig .tc .vmem S256x5632 .f32) (harg7 : arg7.IsWhole) (arg8 : Memref sig .tc .vmem S256x2816 .bf16) (harg8 : arg8.IsWhole) (arg9 : Memref sig .tc .vmem S256x1024 .f32) (harg9 : arg9.IsWhole) (arg10 : Memref sig .tc .vmem S256x1024 .f32) (harg10 : arg10.IsWhole) (arg11 : Memref sig .tc .vmem S1024x5632 .bf16) (harg11 : arg11.IsWhole) (arg12 : Memref sig .tc .vmem S2816x1024 .bf16) (harg12 : arg12.IsWhole) (arg13 : Memref sig .tc .vmem S8x2816 .f32) (harg13 : arg13.IsWhole) (hc0 : cond0_0 i) (hc1 : cond0_1 i)
    (x0 : Vec F S256x1024 .f32) (x1 : Vec F S3x2816 .f32) (x2 : Vec F S1x1024 .f32) (x3 : Vec F S1x1024 .f32) (fh0 : HbBuf0 (F := F) c hbM0_0) (fh1 : HbBuf0 (F := F) c hbM0_1) :
    Σ' (L4 : List (View.Piece (Elt F) S256x5632 .f32)), Σ' (L5 : List (View.Piece (Elt F) S256x2816 .bf16)), Σ' (L6 : List (View.Piece (Elt F) S256x1024 .f32)), Σ' (L7 : List (View.Piece (Elt F) S256x1024 .f32)), Σ' (LS0 : List (View.Piece (Elt F) S1024x5632 .bf16)), Σ' (LS1 : List (View.Piece (Elt F) S2816x1024 .bf16)), { LS2 : List (View.Piece (Elt F) S8x2816 .f32) //
      ∀ (W : Waits sig Unit) (K : PUnit → sProp 𝕄),
        iprop(owns (c : Thread nD τ) arg1 fullShare x0 ∗ owns (c : Thread nD τ) arg3 fullShare x1 ∗ owns (c : Thread nD τ) arg5 fullShare x2 ∗ owns (c : Thread nD τ) arg6 fullShare x3 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ hbPt0 c hbM0_0 fh0 ∗ hbPt0 c hbM0_1 fh1 ∗ owes (c : Thread nD τ) 0 W
            ∗ (iprop(owns (c : Thread nD τ) arg1 fullShare x0 ∗ owns (c : Thread nD τ) arg3 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f L4) ∗ (∃ f, arg8.view.loc (c : Thread nD τ) ↦[arg8.view.set]{fullShare} arg8.view.writes (Elt F) f L5) ∗ (∃ f, arg9.view.loc (c : Thread nD τ) ↦[arg9.view.set]{fullShare} arg9.view.writes (Elt F) f L6) ∗ (∃ f, arg10.view.loc (c : Thread nD τ) ↦[arg10.view.set]{fullShare} arg10.view.writes (Elt F) f L7) ∗ (∃ f, arg11.view.loc (c : Thread nD τ) ↦[arg11.view.set]{fullShare} arg11.view.writes (Elt F) f LS0) ∗ (∃ f, arg12.view.loc (c : Thread nD τ) ↦[arg12.view.set]{fullShare} arg12.view.writes (Elt F) f LS1) ∗ (∃ f, arg13.view.loc (c : Thread nD τ) ↦[arg13.view.set]{fullShare} arg13.view.writes (Elt F) f LS2) ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ hbPt0 c hbM0_0 fh0 ∗ hbPt0 c hbM0_1 fh1 ∗ (∃ W', owes (c : Thread nD τ) 0 W')) -∗ K ⟨⟩))
          ⊢ wp frame (wpE (defs₀ (F := F)) Variants.none c none) Set.univ (cc0_ffn_fwd0 i arg1 harg1 (Memref.whole main_arg1) (Memref.isWhole_whole _) arg3 harg3 (Memref.whole main_arg3) (Memref.isWhole_whole _) arg5 harg5 arg6 harg6 arg7 harg7 arg8 harg8 arg9 harg9 arg10 harg10 arg11 harg11 arg12 harg12 arg13 harg13 cc0_scratch3) K } := by
  refine ⟨?_, ?_, ?_, ?_, ?_, ?_, ?_, fun W K => ?run⟩
  case run =>
    simp only [cc0_ffn_fwd0_eq_skeleton]; unfold cc0_ffn_fwd0_skel
    simp only [k0_part4_eq_skeleton, k0_part1_eq_skeleton, k0_part2_eq_skeleton, k0_part3_eq_skeleton, k0_part5_eq_skeleton, k0_part6_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, ⟨%ds0, %fs0, -, HS0⟩, ⟨%ds1, %fs1, -, HS1⟩, ⟨%ds2, %fs2, -, HS2⟩, Hq0, Hq1, Hq2, Hq3, Hq4, Hq5, Hq6, Hq7, Hq8, Hh0, Hh1, HW, Hk⟩
    obtain rfl := harg1.eq_unread hf0; obtain rfl := harg3.eq_unread hf1; obtain rfl := harg5.eq_unread hf2; obtain rfl := harg6.eq_unread hf3
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg3.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    isplitl [H5]; · iexists _; iexact H5
    isplitl [H6]; · iexists _; iexact H6
    isplitl [H7]; · iexists _; iexact H7
    isplitl [HS0]; · iexists _; iexact HS0
    isplitl [HS1]; · iexists _; iexact HS1
    isplitl [HS2]; · iexists _; iexact HS2
    isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Hq8]; · iexact Hq8
    isplitl [Hh0]; · iexact Hh0
    isplitl [Hh1]; · iexact Hh1
    iexists _; iexact HW

end Cert.HKernelIdeal.Gen

end
-- ==== Proof.FhRunB.lean ====
/-
  The run of the gated ConvFFN's forward kernel at every later grid point: the generated module's text.
-/
module

public import proofs.«01_k».proof.Proof.FhRunA

@[expose] public section

set_option maxRecDepth 16384

noncomputable section

namespace Cert.HKernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option maxHeartbeats 1200000 in
/-- What the body stores in case B (every later point: the scratch as the point before left it), output by output and then the scratch, as pieces with the last first; and that
    it runs from the inputs at their contents, the HBM operands at theirs and its cells at zero, and gives them back so. -/
noncomputable def kernelRun0_B (c : Dev nD) (i : grid0.Coords) (arg1 : Memref sig .tc .vmem S256x1024 .f32) (harg1 : arg1.IsWhole) (arg3 : Memref sig .tc .vmem S3x2816 .f32) (harg3 : arg3.IsWhole) (arg5 : Memref sig .tc .vmem S1x1024 .f32) (harg5 : arg5.IsWhole) (arg6 : Memref sig .tc .vmem S1x1024 .f32) (harg6 : arg6.IsWhole) (arg7 : Memref sig .tc .vmem S256x5632 .f32) (harg7 : arg7.IsWhole) (arg8 : Memref sig .tc .vmem S256x2816 .bf16) (harg8 : arg8.IsWhole) (arg9 : Memref sig .tc .vmem S256x1024 .f32) (harg9 : arg9.IsWhole) (arg10 : Memref sig .tc .vmem S256x1024 .f32) (harg10 : arg10.IsWhole) (arg11 : Memref sig .tc .vmem S1024x5632 .bf16) (harg11 : arg11.IsWhole) (arg12 : Memref sig .tc .vmem S2816x1024 .bf16) (harg12 : arg12.IsWhole) (arg13 : Memref sig .tc .vmem S8x2816 .f32) (harg13 : arg13.IsWhole) (hc0 : ¬cond0_0 i) (hc1 : ¬cond0_1 i)
    (x0 : Vec F S256x1024 .f32) (x1 : Vec F S3x2816 .f32) (x2 : Vec F S1x1024 .f32) (x3 : Vec F S1x1024 .f32) (xs0 : Vec F S1024x5632 .bf16) (xs1 : Vec F S2816x1024 .bf16) (xs2 : Vec F S8x2816 .f32) (fh0 : HbBuf0 (F := F) c hbM0_0) (fh1 : HbBuf0 (F := F) c hbM0_1) :
    Σ' (L4 : List (View.Piece (Elt F) S256x5632 .f32)), Σ' (L5 : List (View.Piece (Elt F) S256x2816 .bf16)), Σ' (L6 : List (View.Piece (Elt F) S256x1024 .f32)), Σ' (L7 : List (View.Piece (Elt F) S256x1024 .f32)), Σ' (LS0 : List (View.Piece (Elt F) S1024x5632 .bf16)), Σ' (LS1 : List (View.Piece (Elt F) S2816x1024 .bf16)), { LS2 : List (View.Piece (Elt F) S8x2816 .f32) //
      ∀ (W : Waits sig Unit) (K : PUnit → sProp 𝕄),
        iprop(owns (c : Thread nD τ) arg1 fullShare x0 ∗ owns (c : Thread nD τ) arg3 fullShare x1 ∗ owns (c : Thread nD τ) arg5 fullShare x2 ∗ owns (c : Thread nD τ) arg6 fullShare x3 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ owns (c : Thread nD τ) arg11 fullShare xs0 ∗ owns (c : Thread nD τ) arg12 fullShare xs1 ∗ owns (c : Thread nD τ) arg13 fullShare xs2 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ hbPt0 c hbM0_0 fh0 ∗ hbPt0 c hbM0_1 fh1 ∗ owes (c : Thread nD τ) 0 W
            ∗ (iprop(owns (c : Thread nD τ) arg1 fullShare x0 ∗ owns (c : Thread nD τ) arg3 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f L4) ∗ (∃ f, arg8.view.loc (c : Thread nD τ) ↦[arg8.view.set]{fullShare} arg8.view.writes (Elt F) f L5) ∗ (∃ f, arg9.view.loc (c : Thread nD τ) ↦[arg9.view.set]{fullShare} arg9.view.writes (Elt F) f L6) ∗ (∃ f, arg10.view.loc (c : Thread nD τ) ↦[arg10.view.set]{fullShare} arg10.view.writes (Elt F) f L7) ∗ owns (c : Thread nD τ) arg11 fullShare xs0 ∗ owns (c : Thread nD τ) arg12 fullShare xs1 ∗ (∃ f, arg13.view.loc (c : Thread nD τ) ↦[arg13.view.set]{fullShare} arg13.view.writes (Elt F) f LS2) ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ hbPt0 c hbM0_0 fh0 ∗ hbPt0 c hbM0_1 fh1 ∗ (∃ W', owes (c : Thread nD τ) 0 W')) -∗ K ⟨⟩))
          ⊢ wp frame (wpE (defs₀ (F := F)) Variants.none c none) Set.univ (cc0_ffn_fwd0 i arg1 harg1 (Memref.whole main_arg1) (Memref.isWhole_whole _) arg3 harg3 (Memref.whole main_arg3) (Memref.isWhole_whole _) arg5 harg5 arg6 harg6 arg7 harg7 arg8 harg8 arg9 harg9 arg10 harg10 arg11 harg11 arg12 harg12 arg13 harg13 cc0_scratch3) K } := by
  refine ⟨?_, ?_, ?_, ?_, [], [], ?_, fun W K => ?run⟩
  case run =>
    simp only [cc0_ffn_fwd0_eq_skeleton]; unfold cc0_ffn_fwd0_skel
    simp only [k0_part4_eq_skeleton, k0_part5_eq_skeleton, k0_part6_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, ⟨%fs0, %hfs0, HS0⟩, ⟨%fs1, %hfs1, HS1⟩, ⟨%fs2, %hfs2, HS2⟩, Hq0, Hq1, Hq2, Hq3, Hq4, Hq5, Hq6, Hq7, Hq8, Hh0, Hh1, HW, Hk⟩
    obtain rfl := harg1.eq_unread hf0; obtain rfl := harg3.eq_unread hf1; obtain rfl := harg5.eq_unread hf2; obtain rfl := harg6.eq_unread hf3; obtain rfl := harg11.eq_unread hfs0; obtain rfl := harg12.eq_unread hfs1; obtain rfl := harg13.eq_unread hfs2
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg3.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    isplitl [H5]; · iexists _; iexact H5
    isplitl [H6]; · iexists _; iexact H6
    isplitl [H7]; · iexists _; iexact H7
    isplitl [HS0]
    · iexists _; isplitr; · ipureintro; exact harg11.read_unread _
      iexact HS0
    isplitl [HS1]
    · iexists _; isplitr; · ipureintro; exact harg12.read_unread _
      iexact HS1
    isplitl [HS2]; · iexists _; iexact HS2
    isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Hq8]; · iexact Hq8
    isplitl [Hh0]; · iexact Hh0
    isplitl [Hh1]; · iexact Hh1
    iexists _; iexact HW

end Cert.HKernelIdeal.Gen

end
-- ==== Proof.FhRun.lean ====
/-
  The run of the gated ConvFFN's forward kernel, point after point: the generated module's text, with the two equations
  that say what a grid point leaves given more time.
-/
module

public import proofs.«01_k».proof.Proof.FhRunB
public import Idealize.ShloMosaic.Lib.Claim

@[expose] public section

set_option maxRecDepth 16384
set_option maxHeartbeats 4000000

noncomputable section

namespace Cert.HKernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)
/-- What a point leaves: the outputs in window order, then the scratch. -/
abbrev Outs (F : FTy → Type) [FloatOps F] : Type := Vec F S256x5632 .f32 × Vec F S256x2816 .bf16 × Vec F S256x1024 .f32 × Vec F S256x1024 .f32 × Vec F S1024x5632 .bf16 × Vec F S2816x1024 .bf16 × Vec F S8x2816 .f32

section CaseA
variable (c : Dev nD) (t : Fin cfg0.N) (hc0 : cond0_0 (grid0.coords t)) (hc1 : cond0_1 (grid0.coords t))

/-- The run of case A at point `t`. -/
abbrev runA :=
  kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) hc0 hc1 (iblk m c 0 t) (iblk m c 1 t) (iblk m c 2 t) (iblk m c 3 t) (V m c main_arg1) (V m c main_arg3)

/-- Case A's pieces for output 4 tile its block, so they cover it. -/
theorem cover0_A_4 (y : S256x5632.Idx) :
    ∃ pc ∈ (runA m c t hc0 hc1).1, y ∈ pc.1.set :=
  View.cover_of_tiledL (runA m c t hc0 hc1).1 S256x1408.size (by sl_kernel_rfl) y

/-- What case A leaves in output 4's staging buffer: its pieces read back over junk. -/
def out0_A_4 : Vec F S256x5632 .f32 :=
  VO0_4.read (Elt F) (VO0_4.writes (Elt F) VO0_4.junk (runA m c t hc0 hc1).1)

/-- Case A's pieces for output 5 tile its block, so they cover it. -/
theorem cover0_A_5 (y : S256x2816.Idx) :
    ∃ pc ∈ (runA m c t hc0 hc1).2.1, y ∈ pc.1.set :=
  View.cover_of_tiledL (runA m c t hc0 hc1).2.1 S256x1408.size (by sl_kernel_rfl) y

/-- What case A leaves in output 5's staging buffer: its pieces read back over junk. -/
def out0_A_5 : Vec F S256x2816 .bf16 :=
  VO0_5.read (Elt F) (VO0_5.writes (Elt F) VO0_5.junk (runA m c t hc0 hc1).2.1)

/-- Case A's pieces for output 6 tile its block, so they cover it. -/
theorem cover0_A_6 (y : S256x1024.Idx) :
    ∃ pc ∈ (runA m c t hc0 hc1).2.2.1, y ∈ pc.1.set :=
  View.cover_of_tiledL (runA m c t hc0 hc1).2.2.1 S256x1024.size (by sl_kernel_rfl) y

/-- What case A leaves in output 6's staging buffer: its pieces read back over junk. -/
def out0_A_6 : Vec F S256x1024 .f32 :=
  VO0_6.read (Elt F) (VO0_6.writes (Elt F) VO0_6.junk (runA m c t hc0 hc1).2.2.1)

/-- Case A's pieces for output 7 tile its block, so they cover it. -/
theorem cover0_A_7 (y : S256x1024.Idx) :
    ∃ pc ∈ (runA m c t hc0 hc1).2.2.2.1, y ∈ pc.1.set :=
  View.cover_of_tiledL (runA m c t hc0 hc1).2.2.2.1 S256x1024.size (by sl_kernel_rfl) y

/-- What case A leaves in output 7's staging buffer: its pieces read back over junk. -/
def out0_A_7 : Vec F S256x1024 .f32 :=
  VO0_7.read (Elt F) (VO0_7.writes (Elt F) VO0_7.junk (runA m c t hc0 hc1).2.2.2.1)

/-- Case A's pieces for scratch `arg11`, which the kernel carries between points, cover it: 1 piece of `S1024x5632` tiling it. -/
theorem scover0_A_0 (y : S1024x5632.Idx) :
    ∃ pc ∈ (runA m c t hc0 hc1).2.2.2.2.1, y ∈ pc.1.set :=
  View.cover_of_tiledL (runA m c t hc0 hc1).2.2.2.2.1 S1024x5632.size (by sl_kernel_rfl) y

/-- What case A leaves in scratch `arg11`: its pieces read back over junk. -/
def sout0_A_0 : Vec F S1024x5632 .bf16 :=
  VS0_0.read (Elt F) (VS0_0.writes (Elt F) VS0_0.junk (runA m c t hc0 hc1).2.2.2.2.1)

/-- Case A's pieces for scratch `arg12`, which the kernel carries between points, cover it: 8 pieces of `S352x1024` tiling it. -/
theorem scover0_A_1 (y : S2816x1024.Idx) :
    ∃ pc ∈ (runA m c t hc0 hc1).2.2.2.2.2.1, y ∈ pc.1.set :=
  View.cover_of_tiledL (runA m c t hc0 hc1).2.2.2.2.2.1 S352x1024.size (by sl_kernel_rfl) y

/-- What case A leaves in scratch `arg12`: its pieces read back over junk. -/
def sout0_A_1 : Vec F S2816x1024 .bf16 :=
  VS0_1.read (Elt F) (VS0_1.writes (Elt F) VS0_1.junk (runA m c t hc0 hc1).2.2.2.2.2.1)

/-- Case A's pieces for scratch `arg13`, which the kernel carries between points, cover it: one of them a store of the WHOLE buffer. -/
theorem scover0_A_2 (y : S8x2816.Idx) :
    ∃ pc ∈ (runA m c t hc0 hc1).2.2.2.2.2.2.1, y ∈ pc.1.set :=
  View.cover_of_wholeMem (runA m c t hc0 hc1).2.2.2.2.2.2.1 (by sl_whole_mem) y

/-- What case A leaves in scratch `arg13`: its pieces read back over junk. -/
def sout0_A_2 : Vec F S8x2816 .f32 :=
  VS0_2.read (Elt F) (VS0_2.writes (Elt F) VS0_2.junk (runA m c t hc0 hc1).2.2.2.2.2.2.1)

/-- What point `t` leaves in case A: the outputs in window order, then the scratch. -/
def leavesA : Outs F :=
  (out0_A_4 m c t hc0 hc1,
    out0_A_5 m c t hc0 hc1,
    out0_A_6 m c t hc0 hc1,
    out0_A_7 m c t hc0 hc1,
    sout0_A_0 m c t hc0 hc1,
    sout0_A_1 m c t hc0 hc1,
    sout0_A_2 m c t hc0 hc1)
end CaseA

section CaseB
variable (c : Dev nD) (t : Fin cfg0.N) (hc0 : ¬cond0_0 (grid0.coords t)) (hc1 : ¬cond0_1 (grid0.coords t)) (p : Outs F)

/-- The run of case B at point `t`, over what the point before left. -/
abbrev runB :=
  kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) hc0 hc1 (iblk m c 0 t) (iblk m c 1 t) (iblk m c 2 t) (iblk m c 3 t) p.2.2.2.2.1 p.2.2.2.2.2.1 p.2.2.2.2.2.2 (V m c main_arg1) (V m c main_arg3)

/-- Case B's pieces for output 4 tile its block, so they cover it. -/
theorem cover0_B_4 (y : S256x5632.Idx) :
    ∃ pc ∈ (runB m c t hc0 hc1 p).1, y ∈ pc.1.set :=
  View.cover_of_tiledL (runB m c t hc0 hc1 p).1 S256x1408.size (by sl_kernel_rfl) y

/-- What case B leaves in output 4's staging buffer: its pieces read back over junk. -/
def out0_B_4 : Vec F S256x5632 .f32 :=
  VO0_4.read (Elt F) (VO0_4.writes (Elt F) VO0_4.junk (runB m c t hc0 hc1 p).1)

/-- Case B's pieces for output 5 tile its block, so they cover it. -/
theorem cover0_B_5 (y : S256x2816.Idx) :
    ∃ pc ∈ (runB m c t hc0 hc1 p).2.1, y ∈ pc.1.set :=
  View.cover_of_tiledL (runB m c t hc0 hc1 p).2.1 S256x1408.size (by sl_kernel_rfl) y

/-- What case B leaves in output 5's staging buffer: its pieces read back over junk. -/
def out0_B_5 : Vec F S256x2816 .bf16 :=
  VO0_5.read (Elt F) (VO0_5.writes (Elt F) VO0_5.junk (runB m c t hc0 hc1 p).2.1)

/-- Case B's pieces for output 6 tile its block, so they cover it. -/
theorem cover0_B_6 (y : S256x1024.Idx) :
    ∃ pc ∈ (runB m c t hc0 hc1 p).2.2.1, y ∈ pc.1.set :=
  View.cover_of_tiledL (runB m c t hc0 hc1 p).2.2.1 S256x1024.size (by sl_kernel_rfl) y

/-- What case B leaves in output 6's staging buffer: its pieces read back over junk. -/
def out0_B_6 : Vec F S256x1024 .f32 :=
  VO0_6.read (Elt F) (VO0_6.writes (Elt F) VO0_6.junk (runB m c t hc0 hc1 p).2.2.1)

/-- Case B's pieces for output 7 tile its block, so they cover it. -/
theorem cover0_B_7 (y : S256x1024.Idx) :
    ∃ pc ∈ (runB m c t hc0 hc1 p).2.2.2.1, y ∈ pc.1.set :=
  View.cover_of_tiledL (runB m c t hc0 hc1 p).2.2.2.1 S256x1024.size (by sl_kernel_rfl) y

/-- What case B leaves in output 7's staging buffer: its pieces read back over junk. -/
def out0_B_7 : Vec F S256x1024 .f32 :=
  VO0_7.read (Elt F) (VO0_7.writes (Elt F) VO0_7.junk (runB m c t hc0 hc1 p).2.2.2.1)

/-- Case B stores nothing into scratch `arg11`: it holds what the point before left. -/
def sout0_B_0 : Vec F S1024x5632 .bf16 := p.2.2.2.2.1

/-- Case B stores nothing into scratch `arg12`: it holds what the point before left. -/
def sout0_B_1 : Vec F S2816x1024 .bf16 := p.2.2.2.2.2.1

/-- Case B's pieces for scratch `arg13`, which the kernel carries between points, cover it: 2 pieces of `S8x1408` tiling it. -/
theorem scover0_B_2 (y : S8x2816.Idx) :
    ∃ pc ∈ (runB m c t hc0 hc1 p).2.2.2.2.2.2.1, y ∈ pc.1.set :=
  View.cover_of_tiledL (runB m c t hc0 hc1 p).2.2.2.2.2.2.1 S8x1408.size (by sl_kernel_rfl) y

/-- What case B leaves in scratch `arg13`: its pieces read back over junk. -/
def sout0_B_2 : Vec F S8x2816 .f32 :=
  VS0_2.read (Elt F) (VS0_2.writes (Elt F) VS0_2.junk (runB m c t hc0 hc1 p).2.2.2.2.2.2.1)

/-- What point `t` leaves in case B: the outputs in window order, then the scratch. -/
def leavesB : Outs F :=
  (out0_B_4 m c t hc0 hc1 p,
    out0_B_5 m c t hc0 hc1 p,
    out0_B_6 m c t hc0 hc1 p,
    out0_B_7 m c t hc0 hc1 p,
    sout0_B_0 p,
    sout0_B_1 p,
    sout0_B_2 m c t hc0 hc1 p)
end CaseB

/-! ## What the outputs hold after each point -/

/-- What the points up to `n` leave: at each point the case its conditions select, over what the point before left. -/
def outsAt0 (c : Dev nD) : (n : ℕ) → n < cfg0.N → Outs F
  | 0, hn => leavesA m c ⟨0, hn⟩ ((hcond0_0 ⟨0, hn⟩).mpr (Nat.zero_mod _)) ((hcond0_1 ⟨0, hn⟩).mpr (Nat.zero_mod _))
  | n + 1, hn =>
    if h0 : (n + 1) % 33 = 0 then
      leavesA m c ⟨n + 1, hn⟩ ((hcond0_0 ⟨n + 1, hn⟩).mpr h0) ((hcond0_1 ⟨n + 1, hn⟩).mpr h0)
    else
      leavesB m c ⟨n + 1, hn⟩ (fun h => h0 ((hcond0_0 ⟨n + 1, hn⟩).mp h)) (fun h => h0 ((hcond0_1 ⟨n + 1, hn⟩).mp h))
        (outsAt0 c n (Nat.lt_of_succ_lt hn))

theorem outsAt0_A (c : Dev nD) (t : Fin cfg0.N) (h0 : t.val % 33 = 0) (h1 : t.val % 33 = 0) :
    outsAt0 m c t.val t.isLt = leavesA m c t ((hcond0_0 t).mpr h0) ((hcond0_1 t).mpr h1) := by
  obtain ⟨n, hn⟩ := t
  cases n with
  | zero => exact rfl
  | succ n => exact dif_pos h0

theorem outsAt0_B (c : Dev nD) (t : Fin cfg0.N) (h0 : ¬t.val % 33 = 0) (h1 : ¬t.val % 33 = 0) :
    outsAt0 m c t.val t.isLt = leavesB m c t (fun h => h0 ((hcond0_0 t).mp h)) (fun h => h1 ((hcond0_1 t).mp h))
      (outsAt0 m c (t.val - 1) (by omega)) := by
  obtain ⟨n, hn⟩ := t
  cases n with
  | zero => exact (by exfalso; (try dsimp only at h0); exact absurd (Nat.zero_mod _) h0)
  | succ n => exact dif_neg h0

/-- What a point that leaves `o` hands on: the carried scratch at that, the register, the cells at zero, the operands. -/
def keep (c : Dev nD) (o : Outs F) : sProp 𝕄 :=
  iprop(iprop(owns (c : Thread nD τ) scM0_0 fullShare (o.2.2.2.2.1) ∗ owns (c : Thread nD τ) scM0_1 fullShare (o.2.2.2.2.2.1) ∗ owns (c : Thread nD τ) scM0_2 fullShare (o.2.2.2.2.2.2)) ∗ (∃ r, prngReg c r) ∗ iprop(semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0) ∗ iprop(hbPt0 c hbM0_0 (V m c main_arg1) ∗ hbPt0 c hbM0_1 (V m c main_arg3)))

/-- The invariant before position `n`: before the first point the launch's, afterwards what the point before hands on. -/
def PhiS (c : Dev nD) : (n : ℕ) → n ≤ cfg0.N → sProp 𝕄
  | 0, _ => Pipeline.ΦD osem0 spec0 H0 (V m) c
  | n + 1, hn => keep m c (outsAt0 m c n hn)

theorem PhiS_zero (c : Dev nD) (n : ℕ) (h : n ≤ cfg0.N) (hz : n = 0) : PhiS m c n h = Pipeline.ΦD osem0 spec0 H0 (V m) c := by
  subst hz; rfl

/-- After point `n` (before point `n + 1`): the carried scratch at that point's contents. -/
theorem PhiS_succ (c : Dev nD) (n : ℕ) (hn : n < cfg0.N) :
    PhiS m c (n + 1) hn = keep m c (outsAt0 m c n hn) := rfl

/-- Before a point that is not the first: the carried scratch at what the point before left. -/
theorem PhiS_pos (c : Dev nD) (n : ℕ) (h : n ≤ cfg0.N) (hz : n ≠ 0) :
    PhiS m c n h = keep m c (outsAt0 m c (n - 1) (by omega)) := by
  cases n with
  | zero => exact absurd rfl hz
  | succ n => rfl

/-! ## The pipeline's proof data -/

/-- The proof data: the arrays as the region finds them; after the body each input's buffer at its block and the outputs' at `outsAt0`. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt0 m c t.val t.isLt).1
    | ⟨5, _⟩ => (outsAt0 m c t.val t.isLt).2.1
    | ⟨6, _⟩ => (outsAt0 m c t.val t.isLt).2.2.1
    | ⟨7, _⟩ => (outsAt0 m c t.val t.isLt).2.2.2.1
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = (outsAt0 m c t.val t.isLt).1 := by dsimp only [dats]
theorem after0_5 (c : Dev nD) (t : Fin cfg0.N) : (dats m 0 c).after 5 t = (outsAt0 m c t.val t.isLt).2.1 := by dsimp only [dats]
theorem after0_6 (c : Dev nD) (t : Fin cfg0.N) : (dats m 0 c).after 6 t = (outsAt0 m c t.val t.isLt).2.2.1 := by dsimp only [dats]
theorem after0_7 (c : Dev nD) (t : Fin cfg0.N) : (dats m 0 c).after 7 t = (outsAt0 m c t.val t.isLt).2.2.2.1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t))

set_option maxHeartbeats 6400000 in
/-- The body at any point: the run of the case the point is in, from what the point before left to what this one leaves. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = PhiS m c (t.val + 1) t.isLt from rfl, PhiS_succ, keep,
    after0_0, after0_1, after0_2, after0_3, after0_4, after0_5, after0_6, after0_7]
  unfold Dat.owesAt Pipeline.owesWithin
  rw [show (dats m 0 c).owed t.castSucc = 0 from rfl, show (dats m 0 c).owed t.succ = 0 from rfl]
  have hN : t.val < 33 := lt_of_lt_of_eq t.isLt (show cfg0.N = 33 from N_0)
  by_cases h0 : t.val % 33 = 0
  · by_cases h1 : t.val % 33 = 0
    · by_cases hz : t.val = 0
      · rw [PhiS_castSucc m c t, PhiS_zero m c _ _ hz, PhiD0_eq]
        rw [outsAt0_A m c t h0 h1]; unfold leavesA
        unfold out0_A_4 out0_A_5 out0_A_6 out0_A_7 sout0_A_0 sout0_A_1 sout0_A_2; (try dsimp only)
        iintro ⟨⟨⟨HS0, HS1, HS2⟩, Hg, ⟨Hq0, Hq1, Hq2, Hq3, Hq4, Hq5, Hq6, Hq7, Hq8⟩, ⟨Hh0, Hh1⟩⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩⟩
        iapply ((runA m c t ((hcond0_0 t).mpr h0) ((hcond0_1 t).mpr h1)).2.2.2.2.2.2.2 W _)
        isplitl [H0]; · iexact H0
        isplitl [H1]; · iexact H1
        isplitl [H2]; · iexact H2
        isplitl [H3]; · iexact H3
        isplitl [H4]; · iexists _; iexact H4
        isplitl [H5]; · iexists _; iexact H5
        isplitl [H6]; · iexists _; iexact H6
        isplitl [H7]; · iexists _; iexact H7
        isplitl [HS0]; · iexact HS0
        isplitl [HS1]; · iexact HS1
        isplitl [HS2]; · iexact HS2
        isplitl [Hq0]; · iexact Hq0
        isplitl [Hq1]; · iexact Hq1
        isplitl [Hq2]; · iexact Hq2
        isplitl [Hq3]; · iexact Hq3
        isplitl [Hq4]; · iexact Hq4
        isplitl [Hq5]; · iexact Hq5
        isplitl [Hq6]; · iexact Hq6
        isplitl [Hq7]; · iexact Hq7
        isplitl [Hq8]; · iexact Hq8
        isplitl [Hh0]; · iexact Hh0
        isplitl [Hh1]; · iexact Hh1
        isplitl [HW]; · iexact HW
        iintro ⟨H0, H1, H2, H3, ⟨%e4, H4⟩, ⟨%e5, H5⟩, ⟨%e6, H6⟩, ⟨%e7, H7⟩, ⟨%es0, HS0⟩, ⟨%es1, HS1⟩, ⟨%es2, HS2⟩, Hq0, Hq1, Hq2, Hq3, Hq4, Hq5, Hq6, Hq7, Hq8, Hh0, Hh1, ⟨%W', HW'⟩⟩
        isplitl [HS0 HS1 HS2 Hg Hq0 Hq1 Hq2 Hq3 Hq4 Hq5 Hq6 Hq7 Hq8 Hh0 Hh1]
        · isplitl [HS0 HS1 HS2]
          · isplitl [HS0]
            · unfold owns; iexists _; isplitr
              swap; · iexact HS0
              ipureintro; exact View.read_writes_of_cover _ _ _ _ _ (scover0_A_0 m c t _ _)
            isplitl [HS1]
            · unfold owns; iexists _; isplitr
              swap; · iexact HS1
              ipureintro; exact View.read_writes_of_cover _ _ _ _ _ (scover0_A_1 m c t _ _)
            unfold owns; iexists _; isplitr
            swap; · iexact HS2
            ipureintro; exact View.read_writes_of_cover _ _ _ _ _ (scover0_A_2 m c t _ _)
          isplitl [Hg]
          · iexact Hg
          isplitl [Hq0 Hq1 Hq2 Hq3 Hq4 Hq5 Hq6 Hq7 Hq8]
          · isplitl [Hq0]; · iexact Hq0
            isplitl [Hq1]; · iexact Hq1
            isplitl [Hq2]; · iexact Hq2
            isplitl [Hq3]; · iexact Hq3
            isplitl [Hq4]; · iexact Hq4
            isplitl [Hq5]; · iexact Hq5
            isplitl [Hq6]; · iexact Hq6
            isplitl [Hq7]; · iexact Hq7
            iexact Hq8
          isplitl [Hh0]; · iexact Hh0
          iexact Hh1
        isplitl [HW']
        · iexists W'; isplitr; · ipureintro; exact fun _ _ => Or.inl trivial
          iexact HW'
        isplitl [H0]; · iexact H0
        isplitl [H1]; · iexact H1
        isplitl [H2]; · iexact H2
        isplitl [H3]; · iexact H3
        isplitl [H4]
        · unfold owns; iexists _; isplitr
          swap; · iexact H4
          ipureintro; exact View.read_writes_of_cover _ _ _ _ _ (cover0_A_4 m c t _ _)
        isplitl [H5]
        · unfold owns; iexists _; isplitr
          swap; · iexact H5
          ipureintro; exact View.read_writes_of_cover _ _ _ _ _ (cover0_A_5 m c t _ _)
        isplitl [H6]
        · unfold owns; iexists _; isplitr
          swap; · iexact H6
          ipureintro; exact View.read_writes_of_cover _ _ _ _ _ (cover0_A_6 m c t _ _)
        unfold owns; iexists _; isplitr
        swap; · iexact H7
        ipureintro; exact View.read_writes_of_cover _ _ _ _ _ (cover0_A_7 m c t _ _)
      · exfalso; have hN : t.val < 33 := lt_of_lt_of_eq t.isLt (show cfg0.N = 33 from N_0); omega
    · exfalso; omega
  · by_cases h1 : t.val % 33 = 0
    · exfalso; omega
    · by_cases hz : t.val = 0
      · exfalso; have hN : t.val < 33 := lt_of_lt_of_eq t.isLt (show cfg0.N = 33 from N_0); omega
      · rw [PhiS_castSucc m c t, PhiS_pos m c _ _ hz, keep]
        rw [outsAt0_B m c t h0 h1]; unfold leavesB
        unfold out0_B_4 out0_B_5 out0_B_6 out0_B_7 sout0_B_0 sout0_B_1 sout0_B_2; (try dsimp only)
        iintro ⟨⟨⟨HS0, HS1, HS2⟩, Hg, ⟨Hq0, Hq1, Hq2, Hq3, Hq4, Hq5, Hq6, Hq7, Hq8⟩, ⟨Hh0, Hh1⟩⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩⟩
        iapply ((runB m c t (fun h => h0 ((hcond0_0 t).mp h)) (fun h => h1 ((hcond0_1 t).mp h)) (outsAt0 m c (t.val - 1) (by omega))).2.2.2.2.2.2.2 W _)
        isplitl [H0]; · iexact H0
        isplitl [H1]; · iexact H1
        isplitl [H2]; · iexact H2
        isplitl [H3]; · iexact H3
        isplitl [H4]; · iexists _; iexact H4
        isplitl [H5]; · iexists _; iexact H5
        isplitl [H6]; · iexists _; iexact H6
        isplitl [H7]; · iexists _; iexact H7
        isplitl [HS0]; · iexact HS0
        isplitl [HS1]; · iexact HS1
        isplitl [HS2]; · iexact HS2
        isplitl [Hq0]; · iexact Hq0
        isplitl [Hq1]; · iexact Hq1
        isplitl [Hq2]; · iexact Hq2
        isplitl [Hq3]; · iexact Hq3
        isplitl [Hq4]; · iexact Hq4
        isplitl [Hq5]; · iexact Hq5
        isplitl [Hq6]; · iexact Hq6
        isplitl [Hq7]; · iexact Hq7
        isplitl [Hq8]; · iexact Hq8
        isplitl [Hh0]; · iexact Hh0
        isplitl [Hh1]; · iexact Hh1
        isplitl [HW]; · iexact HW
        iintro ⟨H0, H1, H2, H3, ⟨%e4, H4⟩, ⟨%e5, H5⟩, ⟨%e6, H6⟩, ⟨%e7, H7⟩, HS0, HS1, ⟨%es2, HS2⟩, Hq0, Hq1, Hq2, Hq3, Hq4, Hq5, Hq6, Hq7, Hq8, Hh0, Hh1, ⟨%W', HW'⟩⟩
        isplitl [HS0 HS1 HS2 Hg Hq0 Hq1 Hq2 Hq3 Hq4 Hq5 Hq6 Hq7 Hq8 Hh0 Hh1]
        · isplitl [HS0 HS1 HS2]
          · isplitl [HS0]; · iexact HS0
            isplitl [HS1]; · iexact HS1
            unfold owns; iexists _; isplitr
            swap; · iexact HS2
            ipureintro; exact View.read_writes_of_cover _ _ _ _ _ (scover0_B_2 m c t _ _ _)
          isplitl [Hg]
          · iexact Hg
          isplitl [Hq0 Hq1 Hq2 Hq3 Hq4 Hq5 Hq6 Hq7 Hq8]
          · isplitl [Hq0]; · iexact Hq0
            isplitl [Hq1]; · iexact Hq1
            isplitl [Hq2]; · iexact Hq2
            isplitl [Hq3]; · iexact Hq3
            isplitl [Hq4]; · iexact Hq4
            isplitl [Hq5]; · iexact Hq5
            isplitl [Hq6]; · iexact Hq6
            isplitl [Hq7]; · iexact Hq7
            iexact Hq8
          isplitl [Hh0]; · iexact Hh0
          iexact Hh1
        isplitl [HW']
        · iexists W'; isplitr; · ipureintro; exact fun _ _ => Or.inl trivial
          iexact HW'
        isplitl [H0]; · iexact H0
        isplitl [H1]; · iexact H1
        isplitl [H2]; · iexact H2
        isplitl [H3]; · iexact H3
        isplitl [H4]
        · unfold owns; iexists _; isplitr
          swap; · iexact H4
          ipureintro; exact View.read_writes_of_cover _ _ _ _ _ (cover0_B_4 m c t _ _ _)
        isplitl [H5]
        · unfold owns; iexists _; isplitr
          swap; · iexact H5
          ipureintro; exact View.read_writes_of_cover _ _ _ _ _ (cover0_B_5 m c t _ _ _)
        isplitl [H6]
        · unfold owns; iexists _; isplitr
          swap; · iexact H6
          ipureintro; exact View.read_writes_of_cover _ _ _ _ _ (cover0_B_6 m c t _ _ _)
        unfold owns; iexists _; isplitr
        swap; · iexact H7
        ipureintro; exact View.read_writes_of_cover _ _ _ _ _ (cover0_B_7 m c t _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦD`) is the invariant before the first point. -/
theorem hin (c : Dev nD) : Pipeline.ΦD osem0 spec0 H0 (V m) c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦD` back: the carried scratch's named contents are forgotten. -/
theorem Phi_out (c : Dev nD) (t : Fin (cfg0.N + 1)) (ht : t.val ≠ 0) : (dats m 0 c).Φ t ⊢ Pipeline.ΦD osem0 spec0 H0 (V m) c := by
  rw [show (dats m 0 c).Φ t = PhiS m c t.val (Nat.le_of_lt_succ t.isLt) from rfl, PhiS_pos m c _ _ ht, keep, PhiD0_eq]
  iintro ⟨⟨HS0, HS1, HS2⟩, Hg, ⟨Hq0, Hq1, Hq2, Hq3, Hq4, Hq5, Hq6, Hq7, Hq8⟩, ⟨Hh0, Hh1⟩⟩
  isplitl [HS0 HS1 HS2]
  · isplitl [HS0]
    · iexists _; iexact HS0
    isplitl [HS1]
    · iexists _; iexact HS1
    iexists _; iexact HS2
  isplitl [Hg]; · iexact Hg
  isplitl [Hq0 Hq1 Hq2 Hq3 Hq4 Hq5 Hq6 Hq7 Hq8]
  · isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    iexact Hq8
  isplitl [Hh0]; · iexact Hh0
  iexact Hh1

/-- The same after the last point. -/
theorem hout (c : Dev nD) : (dats m 0 c).Φ (Fin.last cfg0.N) ⊢ Pipeline.ΦD osem0 spec0 H0 (V m) c :=
  Phi_out m c _ (by rw [Fin.val_last]; have : cfg0.N = 33 := N_0; omega)

/-! ## The run and the frame -/

-- `θ_run_frame_dma`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V := V m) (hmain := hmain m Variants.none) (hA := A_eq m)
    (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

/-- The frame: the arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

end Cert.HKernelIdeal.Gen

end
-- ==== Proof.FhSpec.lean ====
/-
  What the forward pass of the gated ConvFFN computes, as plain functions of row and lane.

  The arguments are read as functions: `X` the incoming rows, `WU` the up projection's weights, `CW` the three taps, `WD`
  the down projection's weights, `G` the scale and `B` the shift. Rows are counted over the whole sequence. The logistic
  function and the convolution are those of the backward pass (FfSpec).
-/
module

public import proofs.«01_k».proof.Proof.FfSpec

@[expose] public section

noncomputable section

namespace Cert.Fh

open Idealize.ShloMosaic Cert.Ff

variable (X : R → W → EReal) (WU : W → U → EReal) (CW : Fin 3 → H → EReal) (WD : H → W → EReal) (G B : W → EReal)

/-- The up projection. -/
def up (r : R) (q : U) : EReal := ∑ k, X r k * WU k q
/-- The hidden layer's output. -/
def act (r : R) (f : H) : EReal := uu (up X WU) CW r f * sg (uu (up X WU) CW r f) * up X WU r (u1 f)
/-- The rows before they are normalised. -/
def pre (r : R) (k : W) : EReal := alpha * X r k + ∑ f, act X WU CW r f * WD f k
/-- The normalised rows, zero before the sequence begins. -/
def out (r : R) (k : W) : EReal := if 240 ≤ r.val then Ln.xhat (pre X WU CW WD r) k * G k + B k else 0

/-- Lanes of one half of the hidden layer, and the two halves' lanes. -/
abbrev Q := Fin 1408
abbrev lo (q : Q) : H := ⟨q.val, by omega⟩
abbrev hi (q : Q) : H := ⟨1408 + q.val, by omega⟩

/-- A sum over the hidden layer by halves. -/
theorem sum_halves (g : H → EReal) : (∑ f, g f) = ∑ q, g (lo q) + ∑ q, g (hi q) :=
  Fin.sum_univ_add (a := 1408) (b := 1408) g

/-- The rows before they are normalised, with the down projection by halves. -/
theorem pre_halves (r : R) (k : W) : alpha * X r k + ∑ q, act X WU CW r (lo q) * WD (lo q) k
    + ∑ q, act X WU CW r (hi q) * WD (hi q) k = pre X WU CW WD r k := by
  rw [pre, sum_halves, add_assoc]

end Cert.Fh

end
-- ==== Proof.FhPay.lean ====
/-
  One block of the gated ConvFFN's forward pass: each value the body computes, read at a row and lane.

  The body takes the hidden layer in two halves of 1408 lanes. The statements are made once, for a half `j`, and say what
  the body's values are when the blocks it loads hold the arguments' rows, in the words of FhSpec.
-/
module

public import proofs.«01_k».proof.Proof.FhSpec
public import proofs.«01_k».proof.Proof.FfPoint
public import proofs.«01_k».proof.Proof.Gen.HKernelIdeal.Skeleton
public import Idealize.ShloMosaic.Lib.Pointwise
public import Idealize.ShloMosaic.Lib.WordCmp

@[expose] public section

set_option maxRecDepth 16384

noncomputable section

namespace Cert.HKernelIdeal.Val

open Cert.HKernelIdeal Cert.HKernelIdeal.Gen Cert.Ff Cert.Fh
open Cert.FKernelIdeal.Val (row ix2_of)
open Idealize.ShloMosaic Idealize.ShloMosaic.TcCoe Idealize.SL.Sem

variable (X : R → W → EReal) (WU : W → U → EReal) (CW : Fin 3 → H → EReal) (WD : H → W → EReal) (G B : W → EReal)
  (b : Fin 33)

/-- The eight rows before block `b` of what the convolution takes: zero before the first block. -/
def prev (UP : R → U → EReal) (b : Fin 33) (a : Fin 8) (f : H) : EReal :=
  if h : 0 < b.val then UP ⟨256 * b.val - 8 + a.val, by omega⟩ (u0 f) else 0

variable {x0 : FVec Ideal S256x1024 .f32} {wu : FVec Ideal S1024x1408 .bf16} {v11 v13 : FVec Ideal S256x1408 .f32}
  {v16 : FVec Ideal S3x1408 .f32} {v17 : FVec Ideal S8x1408 .f32} {wd : FVec Ideal S1408x1024 .bf16}

section Products
variable {X WU b} (h0 : ∀ r k, x0 (ix2 r k) = X (row b r) k)
include h0

theorem pay5 (r : Fin 256) (k : W) : k0_pay5 (F := Ideal) x0 (ix2 r k) = alpha * X (row b r) k := by
  pointwise [k0_pay5]
  rw [h0]; rfl

/-- A part of the up projection, for the lanes `j` names. -/
theorem pay6 (j : Q → U) (hw : ∀ k q, wu (ix2 k q) = WU k (j q)) (r : Fin 256) (q : Q) :
    k0_pay6 (F := Ideal) x0 wu (ix2 r q) = up X WU (row b r) (j q) := by
  pointwise [k0_pay6, k0_pay4]
  unfold up
  exact Finset.sum_congr rfl fun k _ => by rw [h0, hw]
theorem pay7 (j : Q → U) (hw : ∀ k q, wu (ix2 k q) = WU k (j q)) (r : Fin 256) (q : Q) :
    k0_pay7 (F := Ideal) x0 wu (ix2 r q) = up X WU (row b r) (j q) := pay6 h0 j hw r q
theorem pay11 (j : Q → U) (hw : ∀ k q, wu (ix2 k q) = WU k (j q)) (r : Fin 256) (q : Q) :
    k0_pay11 (F := Ideal) (k0_pay4 (F := Ideal) x0) wu (ix2 r q) = up X WU (row b r) (j q) := pay6 h0 j hw r q
theorem pay12 (j : Q → U) (hw : ∀ k q, wu (ix2 k q) = WU k (j q)) (r : Fin 256) (q : Q) :
    k0_pay12 (F := Ideal) (k0_pay4 (F := Ideal) x0) wu (ix2 r q) = up X WU (row b r) (j q) := pay6 h0 j hw r q
end Products

theorem pay8 (v : FVec Ideal S256x1408 .f32) (a : Fin 8) (q : Q) :
    k0_pay8 (F := Ideal) v (ix2 a q) = v (ix2 (⟨248 + a.val, by omega⟩ : Fin 256) q) := by pointwise [k0_pay8]
theorem pay13 (v : FVec Ideal S256x1408 .f32) (a : Fin 8) (q : Q) :
    k0_pay13 (F := Ideal) v (ix2 a q) = v (ix2 (⟨248 + a.val, by omega⟩ : Fin 256) q) := pay8 v a q

/-- What the body finds for one half of the hidden layer. -/
structure Half (j : Q → H) (v11 v13 : FVec Ideal S256x1408 .f32) (v16 : FVec Ideal S3x1408 .f32)
    (v17 : FVec Ideal S8x1408 .f32) : Prop where
  h11 : ∀ r q, v11 (ix2 r q) = up X WU (row b r) (u0 (j q))
  h13 : ∀ r q, v13 (ix2 r q) = up X WU (row b r) (u1 (j q))
  h16 : ∀ a q, v16 (ix2 a q) = CW a (j q)
  h17 : ∀ a q, v17 (ix2 a q) = prev (up X WU) b a (j q)

section Half
variable {X WU CW b} {j : Q → H} (C : Half X WU CW b j v11 v13 v16 v17)
include C

/-- Half of the hidden layer's output. -/
theorem pay9 (r : Fin 256) (q : Q) : k0_pay9 (F := Ideal) v11 v13 v16 v17 (ix2 r q) = act X WU CW (row b r) (j q) := by
  have hb := fun k hk n hn h' => Cert.FKernelIdeal.Val.back_of (up X WU) b k hk (fun r w => up X WU (row b r) (u0 w))
    (prev (up X WU) b) (fun _ _ => rfl) (fun a w h => dif_pos h) (fun a w h => dif_neg h) r (j q) n hn h'
  have b2 := hb 2 (by omega) ((8 + r.val + 264 - 2) % 264) (by omega) (fun h => by omega)
  have b1 := hb 1 (by omega) ((8 + r.val + 264 - 1) % 264) (by omega) (fun h => by omega)
  pointwise [k0_pay9]
  simp only [C.h11, C.h13, C.h16, C.h17]
  unfold act uu
  rw [← b2, ← b1]
  rfl
theorem pay14 (r : Fin 256) (q : Q) : k0_pay14 (F := Ideal) v11 v13 v16 v17 (ix2 r q) = act X WU CW (row b r) (j q) :=
  pay9 C r q

/-- What half of the hidden layer adds to the down projection. -/
theorem pay15 {WD : H → W → EReal} (hd : ∀ q k, wd (ix2 q k) = WD (j q) k) (r : Fin 256) (k : W) :
    k0_pay15 (F := Ideal) v11 v13 v16 v17 wd (ix2 r k) = ∑ q, act X WU CW (row b r) (j q) * WD (j q) k := by
  pointwise [k0_pay15]
  exact Finset.sum_congr rfl fun q _ => by rw [pay14 C, hd]
theorem pay10 {WD : H → W → EReal} (hd : ∀ q k, wd (ix2 q k) = WD (j q) k) (v9 : FVec Ideal S256x1024 .f32)
    (r : Fin 256) (k : W) :
    k0_pay10 (F := Ideal) v9 v11 v13 v16 v17 wd (ix2 r k)
      = v9 (ix2 r k) + ∑ q, act X WU CW (row b r) (j q) * WD (j q) k := by
  pointwise [k0_pay10]
  exact congrArg (v9 (ix2 r k) + ·) (Finset.sum_congr rfl fun q _ => by rw [pay9 C, hd])
end Half

theorem pay3 (a : Fin 8) (f : H) : k0_pay3 (F := Ideal) (ix2 a f) = 0 := by pointwise [k0_pay3]

theorem pay1 (v w : FVec Ideal S256x1024 .f32) (r : Fin 256) (k : W) :
    k0_pay1 (F := Ideal) v w (ix2 r k) = v (ix2 r k) + w (ix2 r k) := by pointwise [k0_pay1]

/-- The layer norm, with zero before the sequence begins. -/
theorem pay2 {v w : FVec Ideal S256x1024 .f32} {g s : FVec Ideal S1x1024 .f32}
    (hp : ∀ r k, k0_pay1 (F := Ideal) v w (ix2 r k) = pre X WU CW WD (row b r) k)
    (hg : ∀ k, g (ix2 (0 : Fin 1) k) = G k) (hs : ∀ k, s (ix2 (0 : Fin 1) k) = B k) (r : Fin 256) (k : W) :
    k0_pay2 (F := Ideal) (BitVec.ofNat 32 b.val) v w g s (ix2 r k) = out X WU CW WD G B (row b r) k := by
  pointwise [k0_pay2]
  simp only [hp, hg, hs]
  rw [Cert.FKernelIdeal.Val.sge_word b r.val r.isLt, out]
  by_cases h : 240 ≤ 256 * b.val + r.val
  · rw [if_pos h]; exact Eq.trans rfl (if_pos h).symm
  · rw [if_neg h]; exact (if_neg h).symm

end Cert.HKernelIdeal.Val

end
-- ==== Proof.FhPoint.lean ====
/-
  One block of the gated ConvFFN's forward pass, as the body leaves it.
-/
module

public import proofs.«01_k».proof.Proof.FhPay
public import Idealize.ShloMosaic.Lib.Pipeline.ValueKit
public import Idealize.ShloMosaic.Lib.Pipeline.ReadBack
public import Idealize.ShloMosaic.Lib.WritesUnit

@[expose] public section

set_option maxRecDepth 16384

noncomputable section

namespace Cert.HKernelIdeal.Val

open Cert.HKernelIdeal Cert.HKernelIdeal.Gen Cert.Ff Cert.Fh
open Cert.FKernelIdeal.Val (row ix2_of)
open Idealize.ShloMosaic Idealize.ShloMosaic.TcCoe Idealize.SL.Sem

/-- The taps of the two halves. -/
abbrev t0 (x1 : FVec Ideal S3x2816 .f32) : FVec Ideal S3x1408 .f32 :=
  View.ld (Val := Elt Ideal) (S := S3x2816) (e' := .f32) x1 (Rect.unit ![0, 0] ![3, 1408] inb_S3x2816_S3x1408_0_0)
abbrev t1 (x1 : FVec Ideal S3x2816 .f32) : FVec Ideal S3x1408 .f32 :=
  View.ld (Val := Elt Ideal) (S := S3x2816) (e' := .f32) x1 (Rect.unit ![0, 1408] ![3, 1408] inb_S3x2816_S3x1408_0_1408)

section Values
variable (x0 : FVec Ideal S256x1024 .f32) (x1 : FVec Ideal S3x2816 .f32) (a0 a1 a2 a3 : FVec Ideal S1024x1408 .bf16)
  (c0 c1 : FVec Ideal S8x1408 .f32) (d0 d1 : FVec Ideal S1408x1024 .bf16)

/-- What the convolution takes and the gate, by halves. -/
abbrev pu0 : FVec Ideal S256x1408 .f32 := k0_pay6 (F := Ideal) x0 a0
abbrev pu1 : FVec Ideal S256x1408 .f32 := k0_pay11 (F := Ideal) (k0_pay4 (F := Ideal) x0) a1
abbrev pg0 : FVec Ideal S256x1408 .f32 := k0_pay7 (F := Ideal) x0 a2
abbrev pg1 : FVec Ideal S256x1408 .f32 := k0_pay12 (F := Ideal) (k0_pay4 (F := Ideal) x0) a3
/-- The four stores that fill the block of the up projection. -/
abbrev upPieces : List (View.Piece (Elt Ideal) S256x5632 .f32) :=
  [⟨Rect.unit ![0, 4224] ![256, 1408] inb_S256x5632_S256x1408_0_4224, pg1 x0 a3⟩,
    ⟨Rect.unit ![0, 1408] ![256, 1408] inb_S256x5632_S256x1408_0_1408, pu1 x0 a1⟩,
    ⟨Rect.unit ![0, 2816] ![256, 1408] inb_S256x5632_S256x1408_0_2816, pg0 x0 a2⟩,
    ⟨Rect.unit ![0, 0] ![256, 1408] inb_S256x5632_S256x1408_0_0, pu0 x0 a0⟩]
/-- The two that fill the block of the hidden layer's output. -/
abbrev actPieces : List (View.Piece (Elt Ideal) S256x2816 .bf16) :=
  [⟨Rect.unit ![0, 1408] ![256, 1408] inb_S256x2816_S256x1408_0_1408,
      k0_pay14 (F := Ideal) (pu1 x0 a1) (pg1 x0 a3) (t1 x1) c1⟩,
    ⟨Rect.unit ![0, 0] ![256, 1408] inb_S256x2816_S256x1408_0_0,
      k0_pay9 (F := Ideal) (pu0 x0 a0) (pg0 x0 a2) (t0 x1) c0⟩]
/-- The two halves of the rows before they are normalised. -/
abbrev pl : FVec Ideal S256x1024 .f32 :=
  k0_pay10 (F := Ideal) (k0_pay5 (F := Ideal) x0) (pu0 x0 a0) (pg0 x0 a2) (t0 x1) c0 d0
abbrev ph : FVec Ideal S256x1024 .f32 := k0_pay15 (F := Ideal) (pu1 x0 a1) (pg1 x0 a3) (t1 x1) c1 d1
/-- The two stores that fill the rows handed to the next block. -/
abbrev rowPieces (L : List (View.Piece (Elt Ideal) S8x2816 .f32)) : List (View.Piece (Elt Ideal) S8x2816 .f32) :=
  ⟨Rect.unit ![0, 1408] ![8, 1408] inb_S8x2816_S8x1408_0_1408, k0_pay13 (F := Ideal) (pu1 x0 a1)⟩
    :: ⟨Rect.unit ![0, 0] ![8, 1408] inb_S8x2816_S8x1408_0_0, k0_pay8 (F := Ideal) (pu0 x0 a0)⟩ :: L
end Values

/-- Where the last store did not write, the one before it is read. -/
theorem canon_second (r r' : Rect S8x2816) (w : r.shape.Idx → Elt Ideal .f32) (w' : r'.shape.Idx → Elt Ideal .f32)
    (L : List (View.Piece (Elt Ideal) S8x2816 .f32)) (x : r'.shape.Idx) (h : r'.emb x ∉ r.set) :
    View.canon (⟨r, w⟩ :: ⟨r', w'⟩ :: L) (r'.emb x) = w' x :=
  (View.canon_cons_of_not_mem ⟨r, w⟩ _ h).trans (View.canon_cons_emb r' w' L x)

/-- What the body finds: the rows of block `b`, the taps, the scale and the shift, the weights by halves, and the eight
    rows before the block. -/
structure At (X : R → W → EReal) (WU : W → U → EReal) (CW : Fin 3 → H → EReal) (WD : H → W → EReal) (G B : W → EReal)
    (b : Fin 33) (i : grid0.Coords) (x0 : FVec Ideal S256x1024 .f32) (x1 : FVec Ideal S3x2816 .f32)
    (x2 x3 : FVec Ideal S1x1024 .f32) (a0 a1 a2 a3 : FVec Ideal S1024x1408 .bf16) (c0 c1 : FVec Ideal S8x1408 .f32)
    (d0 d1 : FVec Ideal S1408x1024 .bf16) : Prop where
  hi : (i 0).val = b.val
  h0 : ∀ r k, x0 (ix2 r k) = X (row b r) k
  h1 : ∀ a f, x1 (ix2 a f) = CW a f
  h2 : ∀ k, x2 (ix2 (0 : Fin 1) k) = G k
  h3 : ∀ k, x3 (ix2 (0 : Fin 1) k) = B k
  ha0 : ∀ k q, a0 (ix2 k q) = WU k (u0 (lo q))
  ha1 : ∀ k q, a1 (ix2 k q) = WU k (u0 (Fh.hi q))
  ha2 : ∀ k q, a2 (ix2 k q) = WU k (u1 (lo q))
  ha3 : ∀ k q, a3 (ix2 k q) = WU k (u1 (Fh.hi q))
  hc0 : ∀ a q, c0 (ix2 a q) = prev (up X WU) b a (lo q)
  hc1 : ∀ a q, c1 (ix2 a q) = prev (up X WU) b a (Fh.hi q)
  hd0 : ∀ q k, d0 (ix2 q k) = WD (lo q) k
  hd1 : ∀ q k, d1 (ix2 q k) = WD (Fh.hi q) k

variable {X : R → W → EReal} {WU : W → U → EReal} {CW : Fin 3 → H → EReal} {WD : H → W → EReal} {G B : W → EReal}
  {b : Fin 33} {i : grid0.Coords} {x0 : FVec Ideal S256x1024 .f32} {x1 : FVec Ideal S3x2816 .f32}
  {x2 x3 : FVec Ideal S1x1024 .f32} {a0 a1 a2 a3 : FVec Ideal S1024x1408 .bf16} {c0 c1 : FVec Ideal S8x1408 .f32}
  {d0 d1 : FVec Ideal S1408x1024 .bf16}
  (A : At X WU CW WD G B b i x0 x1 x2 x3 a0 a1 a2 a3 c0 c1 d0 d1)
include A

theorem At.u0 (r : Fin 256) (q : Q) : pu0 x0 a0 (ix2 r q) = up X WU (row b r) (Ff.u0 (lo q)) := pay6 A.h0 _ A.ha0 r q
theorem At.u1 (r : Fin 256) (q : Q) : pu1 x0 a1 (ix2 r q) = up X WU (row b r) (Ff.u0 (Fh.hi q)) := pay11 A.h0 _ A.ha1 r q
theorem At.g0 (r : Fin 256) (q : Q) : pg0 x0 a2 (ix2 r q) = up X WU (row b r) (Ff.u1 (lo q)) := pay7 A.h0 _ A.ha2 r q
theorem At.g1 (r : Fin 256) (q : Q) : pg1 x0 a3 (ix2 r q) = up X WU (row b r) (Ff.u1 (Fh.hi q)) := pay12 A.h0 _ A.ha3 r q

theorem At.half0 : Half X WU CW b lo (pu0 x0 a0) (pg0 x0 a2) (t0 x1) c0 where
  h11 := A.u0
  h13 := A.g0
  h16 a q := by pointwise [t0]; exact A.h1 _ _
  h17 := A.hc0
theorem At.half1 : Half X WU CW b Fh.hi (pu1 x0 a1) (pg1 x0 a3) (t1 x1) c1 where
  h11 := A.u1
  h13 := A.g1
  h16 a q := by pointwise [t1]; exact A.h1 _ _
  h17 := A.hc1

/-- The block of the up projection. -/
theorem At.up (r : Fin 256) (q : U) : View.canon (upPieces x0 a0 a1 a2 a3) (ix2 r q) = Fh.up X WU (row b r) q := by
  canon_tiles x h
  all_goals
    obtain ⟨a, s, rfl⟩ := ix2_of x
    obtain rfl : r = a := Fin.ext h0
  · rw [A.g1]; exact congrArg (Fh.up X WU (row b r)) (Fin.ext (by have : q.val = 4224 + s.val := h1; show 2816 + (1408 + s.val) = q.val; omega))
  · rw [A.u1]; exact congrArg (Fh.up X WU (row b r)) (Fin.ext (Eq.symm h1))
  · rw [A.g0]; exact congrArg (Fh.up X WU (row b r)) (Fin.ext (Eq.symm h1))
  · rw [A.u0]; exact congrArg (Fh.up X WU (row b r)) (Fin.ext (by have : q.val = s.val := h1; show s.val = q.val; omega))

/-- The block of the hidden layer's output. -/
theorem At.act (r : Fin 256) (f : H) :
    View.canon (actPieces x0 x1 a0 a1 a2 a3 c0 c1) (ix2 r f) = Fh.act X WU CW (row b r) f := by
  canon_tiles x h
  all_goals
    obtain ⟨a, s, rfl⟩ := ix2_of x
    obtain rfl : r = a := Fin.ext h0
  · rw [pay14 A.half1]; exact congrArg (Fh.act X WU CW (row b r)) (Fin.ext (Eq.symm h1))
  · rw [pay9 A.half0]; exact congrArg (Fh.act X WU CW (row b r)) (Fin.ext (by have : f.val = s.val := h1; show s.val = f.val; omega))

/-- The block of the rows before they are normalised. -/
theorem At.pre (r : Fin 256) (k : W) :
    k0_pay1 (F := Ideal) (pl x0 x1 a0 a2 c0 d0) (ph x0 x1 a1 a3 c1 d1) (ix2 r k) = Fh.pre X WU CW WD (row b r) k := by
  exact (pay1 _ _ r k).trans ((congrArg₂ (· + ·)
    ((pay10 A.half0 A.hd0 _ r k).trans (congrArg (· + _) (pay5 A.h0 r k))) (pay15 A.half1 A.hd1 r k)).trans
      (pre_halves X WU CW WD (row b r) k))

/-- The block of the normalised rows. -/
theorem At.out (r : Fin 256) (k : W) :
    k0_pay2 (F := Ideal) (BitVec.ofNat 32 (i 0).val) (pl x0 x1 a0 a2 c0 d0) (ph x0 x1 a1 a3 c1 d1) x2 x3 (ix2 r k)
      = Fh.out X WU CW WD G B (row b r) k := by
  rw [A.hi]
  exact pay2 X WU CW WD G B b A.pre A.h2 A.h3 r k

/-- The block's last eight rows, handed to the next block, whatever lay there before. -/
theorem At.rows (L : List (View.Piece (Elt Ideal) S8x2816 .f32)) (a : Fin 8) (f : H) :
    View.canon (rowPieces x0 a0 a1 L) (ix2 a f) = Fh.up X WU ⟨256 * b.val + 248 + a.val, by omega⟩ (Ff.u0 f) := by
  have e : ∀ (s : Fin 8) (g : H), s = a → g = f → Fh.up X WU (row b ⟨248 + s.val, by omega⟩) (Ff.u0 g)
      = Fh.up X WU ⟨256 * b.val + 248 + a.val, by omega⟩ (Ff.u0 f) := by
    intro s g hs hg
    subst hs hg
    exact congrArg (Fh.up X WU · _) (Fin.ext (Nat.add_assoc _ _ _).symm)
  by_cases h : 1408 ≤ f.val
  · have hy : ix2 a f = (Rect.unit (s := S8x2816) ![0, 1408] ![8, 1408] inb_S8x2816_S8x1408_0_1408).emb
        (ix2 a (⟨f.val - 1408, by omega⟩ : Q)) := by
      funext k
      refine Fin.ext ?_
      fin_cases k
      · show a.val = 0 + 1 * a.val; omega
      · show f.val = 1408 + 1 * (f.val - 1408); omega
    rw [hy]
    refine (View.canon_cons_emb _ _ _ _).trans ?_
    rw [pay13, A.u1]
    exact e a _ rfl (Fin.ext (by show 1408 + (f.val - 1408) = f.val; omega))
  · have hf : f.val < 1408 := by omega
    have hn : ix2 a f ∉ (Rect.unit (s := S8x2816) ![0, 1408] ![8, 1408] inb_S8x2816_S8x1408_0_1408).set := by
      intro hm
      obtain ⟨x, hx⟩ := (Rect.unit (s := S8x2816) ![0, 1408] ![8, 1408] inb_S8x2816_S8x1408_0_1408).exists_idx_of_mem hm
      have := congrArg (fun y : S8x2816.Idx => (y 1).val) hx
      have : 1408 + 1 * (x 1).val = f.val := this
      omega
    have hy : ix2 a f = (Rect.unit (s := S8x2816) ![0, 0] ![8, 1408] inb_S8x2816_S8x1408_0_0).emb
        (ix2 a (⟨f.val, hf⟩ : Q)) := by
      funext k
      refine Fin.ext ?_
      fin_cases k
      · show a.val = 0 + 1 * a.val; omega
      · show f.val = 0 + 1 * f.val; omega
    rw [hy] at hn ⊢
    refine (canon_second _ _ _ _ L _ hn).trans ?_
    rw [pay8, A.u0]
    exact e a _ rfl rfl

end Cert.HKernelIdeal.Val

end
-- ==== Proof.FhAt.lean ====
/-
  The gated ConvFFN's forward pass, block after block from the first one to the last: what each grid point finds.
-/
module

public import proofs.«01_k».proof.Proof.FhPoint
public import proofs.«01_k».proof.Proof.FhRun

@[expose] public section

set_option maxRecDepth 16384

noncomputable section

namespace Cert.HKernelIdeal.Val

open Cert.HKernelIdeal Cert.HKernelIdeal.Gen Cert.Ff Cert.Fh
open Cert.FKernelIdeal.Val (row ix2_of)
open Idealize.ShloMosaic Idealize.ShloMosaic.TcCoe Idealize.SL.Sem

/-- The down projection's weights lie in eight slabs of 352 rows: the slab of a hidden lane, and its row there. -/
abbrev slab (f : H) : Fin 8 := ⟨f.val / 352, by omega⟩
abbrev inSlab (f : H) : Fin 352 := ⟨f.val % 352, by omega⟩

variable (m : (ℓ : Loc nD τ sig) → Buf (Elt Ideal) ℓ) (c : Dev nD)

/-- The arguments as functions of row and lane. -/
abbrev kX : R → W → EReal := fun r k => (m ((c : Thread nD τ).loc main_arg0) : FVec Ideal S8448x1024 .f32) (ix2 r k)
abbrev kWU : W → U → EReal := fun r k =>
  (m ((c : Thread nD τ).loc main_arg1) : FVec Ideal S2x1024x5632 .bf16) (ix3 (0 : Fin 2) r k)
abbrev kCW : Fin 3 → H → EReal := fun r k => (m ((c : Thread nD τ).loc main_arg2) : FVec Ideal S3x2816 .f32) (ix2 r k)
abbrev kWD : H → W → EReal := fun f k =>
  (m ((c : Thread nD τ).loc main_arg3) : FVec Ideal S8x2x352x1024 .bf16) (ix4 (slab f) (0 : Fin 2) (inSlab f) k)
abbrev kG : W → EReal := fun k => (m ((c : Thread nD τ).loc main_arg4) : FVec Ideal S1x1024 .f32) (ix2 (0 : Fin 1) k)
abbrev kB : W → EReal := fun k => (m ((c : Thread nD τ).loc main_arg5) : FVec Ideal S1x1024 .f32) (ix2 (0 : Fin 1) k)

theorem idx : ∀ t : Fin cfg0.N, win0_0.index t = ![t.val, 0] ∧ win0_1.index t = ![0, 0] ∧ win0_2.index t = ![0, 0]
    ∧ win0_3.index t = ![0, 0] ∧ win0_4.index t = ![t.val, 0] ∧ win0_5.index t = ![t.val, 0]
    ∧ win0_6.index t = ![t.val, 0] ∧ win0_7.index t = ![t.val, 0] :=
  (by decide +kernel : ∀ t : Fin grid0.N, _)

theorem coord : ∀ t : Fin cfg0.N, (grid0.coords t 0).val = t.val := (by decide +kernel : ∀ t : Fin grid0.N, _)

theorem lt33 (t : Fin cfg0.N) : t.val < 33 := lt_of_lt_of_eq t.isLt N_0

/-- The block a grid point works on. -/
def bk (t : Fin cfg0.N) : Fin 33 := ⟨t.val, lt33 t⟩

theorem in0 (t : Fin cfg0.N) (r : Fin 256) (w : W) :
    (iblk m c 0 t : FVec Ideal S256x1024 .f32) (ix2 r w) = kX m c (row (bk t) r) w := by
  blk_ext [iblk, V, idx t, bk]
theorem in1 (t : Fin cfg0.N) (r : Fin 3) (f : H) :
    (iblk m c 1 t : FVec Ideal S3x2816 .f32) (ix2 r f) = kCW m c r f := by
  blk_ext [iblk, V, idx t, bk]
theorem in2 (t : Fin cfg0.N) (w : W) :
    (iblk m c 2 t : FVec Ideal S1x1024 .f32) (ix2 (0 : Fin 1) w) = kG m c w := by
  blk_ext [iblk, V, idx t, bk]
theorem in3 (t : Fin cfg0.N) (w : W) :
    (iblk m c 3 t : FVec Ideal S1x1024 .f32) (ix2 (0 : Fin 1) w) = kB m c w := by
  blk_ext [iblk, V, idx t, bk]

/-- Point `t` finds these weights and these rows before its own. -/
abbrev Finds (t : Fin cfg0.N) (a0 a1 a2 a3 : FVec Ideal S1024x1408 .bf16) (c0 c1 : FVec Ideal S8x1408 .f32)
    (d0 d1 : FVec Ideal S1408x1024 .bf16) : Prop :=
  At (kX m c) (kWU m c) (kCW m c) (kWD m c) (kG m c) (kB m c) (bk t) (grid0.coords t)
    (iblk m c 0 t) (iblk m c 1 t) (iblk m c 2 t) (iblk m c 3 t) a0 a1 a2 a3 c0 c1 d0 d1

theorem at_of (t : Fin cfg0.N) {a0 a1 a2 a3 : FVec Ideal S1024x1408 .bf16} {c0 c1 : FVec Ideal S8x1408 .f32}
    {d0 d1 : FVec Ideal S1408x1024 .bf16}
    (ha0 : ∀ k q, a0 (ix2 k q) = kWU m c k (u0 (lo q))) (ha1 : ∀ k q, a1 (ix2 k q) = kWU m c k (u0 (hi q)))
    (ha2 : ∀ k q, a2 (ix2 k q) = kWU m c k (u1 (lo q))) (ha3 : ∀ k q, a3 (ix2 k q) = kWU m c k (u1 (hi q)))
    (hc0 : ∀ a q, c0 (ix2 a q) = prev (up (kX m c) (kWU m c)) (bk t) a (lo q))
    (hc1 : ∀ a q, c1 (ix2 a q) = prev (up (kX m c) (kWU m c)) (bk t) a (hi q))
    (hd0 : ∀ q k, d0 (ix2 q k) = kWD m c (lo q) k) (hd1 : ∀ q k, d1 (ix2 q k) = kWD m c (hi q) k) :
    Finds m c t a0 a1 a2 a3 c0 c1 d0 d1 where
  hi := coord t
  h0 := in0 m c t
  h1 := in1 m c t
  h2 := in2 m c t
  h3 := in3 m c t
  ha0 := ha0
  ha1 := ha1
  ha2 := ha2
  ha3 := ha3
  hc0 := hc0
  hc1 := hc1
  hd0 := hd0
  hd1 := hd1

end Cert.HKernelIdeal.Val

end
-- ==== Proof.FhCopy.lean ====
/-
  The gated ConvFFN's forward pass: the weights copied in at the first point. The down projection's come as eight slabs
  of rows, the up projection's in one piece; both from the layer the call is given.
-/
module

public import proofs.«01_k».proof.Proof.FhAt
public import Idealize.ShloMosaic.Lib.Pipeline.ValueKit
public import Idealize.ShloMosaic.Lib.Pipeline.ReadBack
public import Idealize.ShloMosaic.Lib.ValueLayout

@[expose] public section

set_option maxRecDepth 16384

noncomputable section

namespace Cert.HKernelIdeal.Val

open Cert.HKernelIdeal Cert.HKernelIdeal.Gen Cert.Ff Cert.Fh
open Cert.FKernelIdeal.Val (ix2_of)
open Idealize.ShloMosaic Idealize.ShloMosaic.TcCoe Idealize.SL.Sem

variable (m : (ℓ : Loc nD τ sig) → Buf (Elt Ideal) ℓ) (c : Dev nD)

/-- One slab of the down projection's weights, as it lies in the argument. -/
abbrev slabOf (p : ℕ) (h : ∀ k, (![p, 0, 0, 0] : Fin 4 → ℕ) k + ![1, 1, 352, 1024] k ≤ S8x2x352x1024.size k) :
    FVec Ideal S352x1024 .bf16 :=
  ReadAs.same.apply (View.read (Elt Ideal)
    (((View.whole main_arg3).slice (Rect.unit ![p, 0, 0, 0] ![1, 1, 352, 1024] h)).reshape S352x1024
      squeezes_S1x1x352x1024_S352x1024.numel_eq) (V m c main_arg3))

/-- The slab stored at its rows. -/
abbrev slabPiece (p o : ℕ) (h : ∀ k, (![p, 0, 0, 0] : Fin 4 → ℕ) k + ![1, 1, 352, 1024] k ≤ S8x2x352x1024.size k)
    (h' : ∀ k, (![o, 0] : Fin 2 → ℕ) k + ![352, 1024] k ≤ S2816x1024.size k) : View.Piece (Elt Ideal) S2816x1024 .bf16 :=
  ⟨Rect.unit (s := S2816x1024) ![o, 0] ![352, 1024] h', slabOf m c p h⟩

abbrev slabs : List (View.Piece (Elt Ideal) S2816x1024 .bf16) :=
  [slabPiece m c 7 2464 inb_S8x2x352x1024_S1x1x352x1024_7_0_0_0 inb_S2816x1024_S352x1024_2464_0,
    slabPiece m c 6 2112 inb_S8x2x352x1024_S1x1x352x1024_6_0_0_0 inb_S2816x1024_S352x1024_2112_0,
    slabPiece m c 5 1760 inb_S8x2x352x1024_S1x1x352x1024_5_0_0_0 inb_S2816x1024_S352x1024_1760_0,
    slabPiece m c 4 1408 inb_S8x2x352x1024_S1x1x352x1024_4_0_0_0 inb_S2816x1024_S352x1024_1408_0,
    slabPiece m c 3 1056 inb_S8x2x352x1024_S1x1x352x1024_3_0_0_0 inb_S2816x1024_S352x1024_1056_0,
    slabPiece m c 2 704 inb_S8x2x352x1024_S1x1x352x1024_2_0_0_0 inb_S2816x1024_S352x1024_704_0,
    slabPiece m c 1 352 inb_S8x2x352x1024_S1x1x352x1024_1_0_0_0 inb_S2816x1024_S352x1024_352_0,
    slabPiece m c 0 0 inb_S8x2x352x1024_S1x1x352x1024_0_0_0_0 inb_S2816x1024_S352x1024_0_0]

theorem slabOf_apply (p : ℕ) (hp : p < 8) (h) (r : Fin 352) (k : W) (f : H) (hf : f.val = 352 * p + r.val) :
    slabOf m c p h (ix2 r k) = kWD m c f k := by
  show (m ((c : Thread nD τ).loc main_arg3) : FVec Ideal S8x2x352x1024 .bf16)
    ((Rect.unit (s := S8x2x352x1024) ![p, 0, 0, 0] ![1, 1, 352, 1024] h).emb
      (Shape.reshapeEquiv squeezes_S1x1x352x1024_S352x1024.numel_eq (ix2 r k))) = _
  have e : Shape.reshapeEquiv squeezes_S1x1x352x1024_S352x1024.numel_eq (ix2 r k) = ix4 (0 : Fin 1) (0 : Fin 1) r k :=
    ValueIdx.reshapeEquiv_ix2_11ab (a := 352) (b := 1024) _ r k
  rw [e]
  refine congrArg _ (funext fun j => Fin.ext ?_)
  fin_cases j
  · show p + 1 * 0 = f.val / 352; omega
  · rfl
  · show 0 + 1 * r.val = f.val % 352; omega
  · show 0 + 1 * k.val = k.val; omega

theorem slabs_apply (f : H) (k : W) : View.canon (slabs m c) (ix2 f k) = kWD m c f k := by
  canon_tiles x h
  all_goals
    obtain ⟨a, b, rfl⟩ := ix2_of x
    obtain rfl : k = b := Fin.ext (by simpa using h1)
    first
    | exact slabOf_apply m c _ (by omega) _ a k f h0
    | exact slabOf_apply m c 0 (by omega) _ a k f (by have e : f.val = a.val := h0; omega)

/-- Half of the weights copied in at the first point, as the body reads it: the rows from `o` on. -/
abbrev wd (o : ℕ) (h : ∀ k, (![o, 0] : Fin 2 → ℕ) k + ![1408, 1024] k ≤ S2816x1024.size k) : FVec Ideal S1408x1024 .bf16 :=
  (View.whole cc0_scratch1).readCov (slabs m c) (Rect.unit (s := S2816x1024) ![o, 0] ![1408, 1024] h).toLoadRect
theorem wd_eq (o : ℕ) (h) (q : Q) (f : H) (hf : f.val = o + q.val) (k : W) : wd m c o h (ix2 q k) = kWD m c f k := by
  rw [← slabs_apply]
  show (View.whole cc0_scratch1).readCov (slabs m c) _ _ = _
  rw [View.readCov_eq_canon']
  refine congrArg (View.canon (slabs m c)) (funext fun j => Fin.ext ?_)
  fin_cases j
  · show o + 1 * q.val = f.val; omega
  · show 0 + 1 * k.val = k.val; omega

/-- The up projection's weights. -/
abbrev upOf : FVec Ideal S1024x5632 .bf16 :=
  ReadAs.same.apply (View.read (Elt Ideal)
    (((View.whole main_arg1).slice (Rect.unit ![0, 0, 0] ![1, 1024, 5632] inb_S2x1024x5632_S1x1024x5632_0_0_0)).reshape S1024x5632
      squeezes_S1x1024x5632_S1024x5632.numel_eq) (V m c main_arg1))
abbrev ups : List (View.Piece (Elt Ideal) S1024x5632 .bf16) := [⟨Rect.whole S1024x5632, upOf m c⟩]

theorem upOf_apply (k : W) (q : U) : upOf m c (ix2 k q) = kWU m c k q := by
  show (m ((c : Thread nD τ).loc main_arg1) : FVec Ideal S2x1024x5632 .bf16)
    ((Rect.unit (s := S2x1024x5632) ![0, 0, 0] ![1, 1024, 5632] inb_S2x1024x5632_S1x1024x5632_0_0_0).emb
      (Shape.reshapeEquiv squeezes_S1x1024x5632_S1024x5632.numel_eq (ix2 k q))) = _
  have e : Shape.reshapeEquiv squeezes_S1x1024x5632_S1024x5632.numel_eq (ix2 k q) = ix3 (0 : Fin 1) k q :=
    ValueIdx.reshapeEquiv_ix2_1ab (a := 1024) (b := 5632) _ k q
  rw [e]
  refine congrArg _ (funext fun j => Fin.ext ?_)
  fin_cases j
  · rfl
  · show 0 + 1 * k.val = k.val; omega
  · show 0 + 1 * q.val = q.val; omega

theorem canon_up (x : FVec Ideal S1024x5632 .bf16) :
    View.canon [(⟨Rect.whole S1024x5632, x⟩ : View.Piece (Elt Ideal) S1024x5632 .bf16)] = x :=
  View.canon_cons_unit_lit' (S := S1024x5632) (off := fun _ => 0) _ _ [] (fun _ => rfl)
theorem ups_apply (k : W) (q : U) : View.canon (ups m c) (ix2 k q) = kWU m c k q := by
  rw [ups, canon_up]
  exact upOf_apply m c k q

/-- A quarter of the weights, as the body reads it: the columns from `o` on. -/
abbrev wu (o : ℕ) (h : ∀ k, (![0, o] : Fin 2 → ℕ) k + ![1024, 1408] k ≤ S1024x5632.size k) : FVec Ideal S1024x1408 .bf16 :=
  (View.whole cc0_scratch0).readCov (ups m c) (Rect.unit (s := S1024x5632) ![0, o] ![1024, 1408] h).toLoadRect
theorem wu_eq (o : ℕ) (h) (q : Q) (f : U) (hf : f.val = o + q.val) (k : W) : wu m c o h (ix2 k q) = kWU m c k f := by
  rw [← ups_apply]
  show (View.whole cc0_scratch0).readCov (ups m c) _ _ = _
  rw [View.readCov_eq_canon']
  refine congrArg (View.canon (ups m c)) (funext fun j => Fin.ext ?_)
  fin_cases j
  · show 0 + 1 * k.val = k.val; omega
  · show o + 1 * q.val = f.val; omega

end Cert.HKernelIdeal.Val

end
-- ==== Proof.FhLeft.lean ====
/-
  The gated ConvFFN's forward pass: what each grid point leaves behind, by induction on the point.
-/
module

public import proofs.«01_k».proof.Proof.FhCopy

@[expose] public section

set_option maxRecDepth 16384

noncomputable section

namespace Cert.HKernelIdeal.Val

open Cert.HKernelIdeal Cert.HKernelIdeal.Gen Cert.Ff Cert.Fh
open Cert.FKernelIdeal.Val (row ix2_of)
open Idealize.ShloMosaic Idealize.ShloMosaic.TcCoe Idealize.SL.Sem

/-- Parts of the buffers the points hand on: columns of the up projection's weights, rows of the down projection's,
    columns of the eight rows. -/
abbrev lu (o : ℕ) (h : ∀ k, (![0, o] : Fin 2 → ℕ) k + ![1024, 1408] k ≤ S1024x5632.size k) (x : FVec Ideal S1024x5632 .bf16) :
    FVec Ideal S1024x1408 .bf16 :=
  View.ld (Val := Elt Ideal) (S := S1024x5632) (e' := .bf16) x (Rect.unit ![0, o] ![1024, 1408] h)
abbrev ldn (o : ℕ) (h : ∀ k, (![o, 0] : Fin 2 → ℕ) k + ![1408, 1024] k ≤ S2816x1024.size k) (x : FVec Ideal S2816x1024 .bf16) :
    FVec Ideal S1408x1024 .bf16 :=
  View.ld (Val := Elt Ideal) (S := S2816x1024) (e' := .bf16) x (Rect.unit ![o, 0] ![1408, 1024] h)
abbrev lc (o : ℕ) (h : ∀ k, (![0, o] : Fin 2 → ℕ) k + ![8, 1408] k ≤ S8x2816.size k) (x : FVec Ideal S8x2816 .f32) :
    FVec Ideal S8x1408 .f32 :=
  View.ld (Val := Elt Ideal) (S := S8x2816) (e' := .f32) x (Rect.unit ![0, o] ![8, 1408] h)

theorem lu_apply (o : ℕ) (h) (x : FVec Ideal S1024x5632 .bf16) (k : W) (q : Q) (f : U) (hf : f.val = o + q.val) :
    lu o h x (ix2 k q) = x (ix2 k f) := by
  refine congrArg x (funext fun j => Fin.ext ?_)
  fin_cases j
  · show 0 + 1 * k.val = k.val; omega
  · show o + 1 * q.val = f.val; omega
theorem ldn_apply (o : ℕ) (h) (x : FVec Ideal S2816x1024 .bf16) (q : Q) (k : W) (f : H) (hf : f.val = o + q.val) :
    ldn o h x (ix2 q k) = x (ix2 f k) := by
  refine congrArg x (funext fun j => Fin.ext ?_)
  fin_cases j
  · show o + 1 * q.val = f.val; omega
  · show 0 + 1 * k.val = k.val; omega
theorem lc_apply (o : ℕ) (h) (x : FVec Ideal S8x2816 .f32) (a : Fin 8) (q : Q) (f : H) (hf : f.val = o + q.val) :
    lc o h x (ix2 a q) = x (ix2 a f) := by
  refine congrArg x (funext fun j => Fin.ext ?_)
  fin_cases j
  · show 0 + 1 * a.val = a.val; omega
  · show o + 1 * q.val = f.val; omega

variable (m : (ℓ : Loc nD τ sig) → Buf (Elt Ideal) ℓ) (c : Dev nD)

/-- What a point hands to the next one: the weights, and the last eight rows of what the convolution takes. -/
structure Left (n : ℕ) (hn : n < cfg0.N) : Prop where
  s0 : ∀ k q, ((outsAt0 m c n hn).2.2.2.2.1 : FVec Ideal S1024x5632 .bf16) (ix2 k q) = kWU m c k q
  s1 : ∀ f k, ((outsAt0 m c n hn).2.2.2.2.2.1 : FVec Ideal S2816x1024 .bf16) (ix2 f k) = kWD m c f k
  s2 : ∀ (a : Fin 8) (f : H), ((outsAt0 m c n hn).2.2.2.2.2.2 : FVec Ideal S8x2816 .f32) (ix2 a f)
    = up (kX m c) (kWU m c) ⟨256 * n + 248 + a.val, by have := lt33 ⟨n, hn⟩; simp only at this; omega⟩ (u0 f)

/-- A point's rows of the four results. -/
structure Rows (t : Fin cfg0.N) : Prop where
  up : ∀ r q, ((outsAt0 m c t.val t.isLt).1 : FVec Ideal S256x5632 .f32) (ix2 r q)
    = Fh.up (kX m c) (kWU m c) (row (bk t) r) q
  act : ∀ r f, ((outsAt0 m c t.val t.isLt).2.1 : FVec Ideal S256x2816 .bf16) (ix2 r f)
    = Fh.act (kX m c) (kWU m c) (kCW m c) (row (bk t) r) f
  pre : ∀ r k, ((outsAt0 m c t.val t.isLt).2.2.1 : FVec Ideal S256x1024 .f32) (ix2 r k)
    = Fh.pre (kX m c) (kWU m c) (kCW m c) (kWD m c) (row (bk t) r) k
  out : ∀ r k, ((outsAt0 m c t.val t.isLt).2.2.2.1 : FVec Ideal S256x1024 .f32) (ix2 r k)
    = Fh.out (kX m c) (kWU m c) (kCW m c) (kWD m c) (kG m c) (kB m c) (row (bk t) r) k

variable (t : Fin cfg0.N)

theorem rest_lt (h : ¬ t.val % 33 = 0) : t.val - 1 < cfg0.N := by omega

/-! ## Later points -/

theorem prevB (h : ¬ t.val % 33 = 0) (L : Left m c (t.val - 1) (rest_lt t h)) (a : Fin 8) (f : H) :
    ((outsAt0 m c (t.val - 1) (rest_lt t h)).2.2.2.2.2.2 : FVec Ideal S8x2816 .f32) (ix2 a f)
      = prev (up (kX m c) (kWU m c)) (bk t) a f := by
  have h1 := lt33 t
  rw [L.s2, prev, dif_pos (show 0 < (bk t).val from (by omega : 0 < t.val))]
  exact congrArg (up _ _ · _) (Fin.ext (by show 256 * (t.val - 1) + 248 + a.val = 256 * t.val - 8 + a.val; omega))

theorem atB (h : ¬ t.val % 33 = 0) (L : Left m c (t.val - 1) (rest_lt t h)) :
    Finds m c t (lu 0 inb_S1024x5632_S1024x1408_0_0 (outsAt0 m c (t.val - 1) (rest_lt t h)).2.2.2.2.1)
      (lu 1408 inb_S1024x5632_S1024x1408_0_1408 (outsAt0 m c (t.val - 1) (rest_lt t h)).2.2.2.2.1)
      (lu 2816 inb_S1024x5632_S1024x1408_0_2816 (outsAt0 m c (t.val - 1) (rest_lt t h)).2.2.2.2.1)
      (lu 4224 inb_S1024x5632_S1024x1408_0_4224 (outsAt0 m c (t.val - 1) (rest_lt t h)).2.2.2.2.1)
      (lc 0 inb_S8x2816_S8x1408_0_0 (outsAt0 m c (t.val - 1) (rest_lt t h)).2.2.2.2.2.2)
      (lc 1408 inb_S8x2816_S8x1408_0_1408 (outsAt0 m c (t.val - 1) (rest_lt t h)).2.2.2.2.2.2)
      (ldn 0 inb_S2816x1024_S1408x1024_0_0 (outsAt0 m c (t.val - 1) (rest_lt t h)).2.2.2.2.2.1)
      (ldn 1408 inb_S2816x1024_S1408x1024_1408_0 (outsAt0 m c (t.val - 1) (rest_lt t h)).2.2.2.2.2.1) :=
  at_of m c t (fun k q => (lu_apply 0 _ _ k q (u0 (lo q)) (by show q.val = 0 + q.val; omega)).trans (L.s0 _ _))
    (fun k q => (lu_apply 1408 _ _ k q (u0 (hi q)) rfl).trans (L.s0 _ _))
    (fun k q => (lu_apply 2816 _ _ k q (u1 (lo q)) rfl).trans (L.s0 _ _))
    (fun k q => (lu_apply 4224 _ _ k q (u1 (hi q)) (by show 2816 + (1408 + q.val) = _; omega)).trans (L.s0 _ _))
    (fun a q => (lc_apply 0 _ _ a q (lo q) (by show q.val = 0 + q.val; omega)).trans (prevB m c t h L a _))
    (fun a q => (lc_apply 1408 _ _ a q (hi q) rfl).trans (prevB m c t h L a _))
    (fun q k => (ldn_apply 0 _ _ q k (lo q) (by show q.val = 0 + q.val; omega)).trans (L.s1 _ _))
    (fun q k => (ldn_apply 1408 _ _ q k (hi q) rfl).trans (L.s1 _ _))

theorem rowsB (h : ¬ t.val % 33 = 0) (L : Left m c (t.val - 1) (rest_lt t h)) : Rows m c t := by
  constructor <;> intro r q <;> rw [outsAt0_B m c t h h] <;> unfold leavesB <;> frame_open <;> delta runB <;> frame_out
    <;> try simp only [read_unread_whole]
  · exact (atB m c t h L).up r q
  · exact (atB m c t h L).act r q
  · exact (atB m c t h L).pre r q
  · exact (atB m c t h L).out r q

theorem leftB (h : ¬ t.val % 33 = 0) (L : Left m c (t.val - 1) (rest_lt t h)) : Left m c t.val t.isLt := by
  constructor <;> intro a w <;> rw [outsAt0_B m c t h h] <;> unfold leavesB
  · exact L.s0 a w
  · exact L.s1 a w
  · frame_open; delta runB; frame_out
    try simp only [read_unread_whole]
    exact (atB m c t h L).rows [] a w

/-! ## The first point -/

theorem atA (h : t.val % 33 = 0) :
    Finds m c t (wu m c 0 inb_S1024x5632_S1024x1408_0_0) (wu m c 1408 inb_S1024x5632_S1024x1408_0_1408)
      (wu m c 2816 inb_S1024x5632_S1024x1408_0_2816) (wu m c 4224 inb_S1024x5632_S1024x1408_0_4224)
      (lc 0 inb_S8x2816_S8x1408_0_0 (k0_pay3 (F := Ideal))) (lc 1408 inb_S8x2816_S8x1408_0_1408 (k0_pay3 (F := Ideal)))
      (wd m c 0 inb_S2816x1024_S1408x1024_0_0) (wd m c 1408 inb_S2816x1024_S1408x1024_1408_0) := by
  have h1 := lt33 t
  have z : ∀ (a : Fin 8) (f : H), k0_pay3 (F := Ideal) (ix2 a f) = prev (up (kX m c) (kWU m c)) (bk t) a f := fun a f =>
    by
    rw [prev, dif_neg (show ¬ 0 < (bk t).val from (by omega : ¬ 0 < t.val))]
    exact pay3 a f
  exact at_of m c t (fun k q => wu_eq m c 0 _ q _ (by show q.val = 0 + q.val; omega) k)
    (fun k q => wu_eq m c 1408 _ q _ rfl k) (fun k q => wu_eq m c 2816 _ q _ rfl k)
    (fun k q => wu_eq m c 4224 _ q _ (by show 2816 + (1408 + q.val) = _; omega) k)
    (fun a q => (lc_apply 0 _ _ a q (lo q) (by show q.val = 0 + q.val; omega)).trans (z a _))
    (fun a q => (lc_apply 1408 _ _ a q (hi q) rfl).trans (z a _))
    (fun q k => wd_eq m c 0 _ q _ (by show q.val = 0 + q.val; omega) k) (fun q k => wd_eq m c 1408 _ q _ rfl k)

theorem rowsA (h : t.val % 33 = 0) : Rows m c t := by
  constructor <;> intro r q <;> rw [outsAt0_A m c t h h] <;> unfold leavesA <;> frame_open <;> delta runA <;> frame_out
    <;> try simp only [read_unread_whole]
  all_goals try simp (disch := decide) only [↓ View.readCov_skip (s := S8x2816), ↓ View.readCov_fill]
  · exact (atA m c t h).up r q
  · exact (atA m c t h).act r q
  · exact (atA m c t h).pre r q
  · exact (atA m c t h).out r q

theorem leftA (h : t.val % 33 = 0) : Left m c t.val t.isLt := by
  constructor <;> intro a w <;> rw [outsAt0_A m c t h h] <;> unfold leavesA <;> frame_open <;> delta runA <;> frame_out
  · exact ups_apply m c a w
  · exact slabs_apply m c a w
  · exact (atA m c t h).rows _ a w

/-! ## All points -/

theorem left : ∀ (n : ℕ) (hn : n < cfg0.N), Left m c n hn
  | 0, hn => leftA m c ⟨0, hn⟩ rfl
  | n + 1, hn => leftB m c ⟨n + 1, hn⟩ (by
      have : n + 1 < 33 := lt33 ⟨n + 1, hn⟩
      show ¬ (n + 1) % 33 = 0; omega) (left n (by omega))

theorem rows : Rows m c t := by
  by_cases h : t.val % 33 = 0
  · exact rowsA m c t h
  · exact rowsB m c t h (left m c _ _)

end Cert.HKernelIdeal.Val

end
-- ==== Proof.FhVal.lean ====
/-
  The gated ConvFFN's forward pass: the four result arrays after the last grid point, and the run that leaves them.
-/
module

public import proofs.«01_k».proof.Proof.FhLeft
public import Idealize.ShloMosaic.Lib.Pipeline.ValueKit

@[expose] public section

set_option maxRecDepth 16384

noncomputable section

namespace Cert.HKernelIdeal.Val

open Cert.HKernelIdeal Cert.HKernelIdeal.Gen Cert.Ff Cert.Fh
open Cert.FKernelIdeal.Val (row ix2_of)
open Idealize.ShloMosaic Idealize.ShloMosaic.TcCoe Idealize.SL.Sem

variable (m : (ℓ : Loc nD τ sig) → Buf (Elt Ideal) ℓ) (c : Dev nD) (ρ : Dev nD → PrngReg)

/-- The results. -/
def rUp : FVec Ideal S8448x5632 .f32 := fun y => up (kX m c) (kWU m c) (y 0) (y 1)
def rAct : FVec Ideal S8448x2816 .bf16 := fun y => act (kX m c) (kWU m c) (kCW m c) (y 0) (y 1)
def rPre : FVec Ideal S8448x1024 .f32 := fun y => pre (kX m c) (kWU m c) (kCW m c) (kWD m c) (y 0) (y 1)
def rOut : FVec Ideal S8448x1024 .f32 := fun y =>
  out (kX m c) (kWU m c) (kCW m c) (kWD m c) (kG m c) (kB m c) (y 0) (y 1)

theorem arr4 : (dats m 0 c).arrAt 4 cfg0.N = rUp m c := by
  refine (dats m 0 c).arrAt_eq_of_covers 4 _ (by decide +kernel) fun t hf y => ?_
  obtain ⟨r, q, rfl⟩ := ix2_of y
  blk_simp
  rw [after0_4]
  refine ((rows m c t).up r q).trans ?_
  refine congrArg₂ (up _ _) (Fin.ext ?_) (Fin.ext ?_)
  · show 256 * t.val + r.val = _
    blk_simp [idx t]; omega
  · blk_simp [idx t]
theorem arr5 : (dats m 0 c).arrAt 5 cfg0.N = rAct m c := by
  refine (dats m 0 c).arrAt_eq_of_covers 5 _ (by decide +kernel) fun t hf y => ?_
  obtain ⟨r, q, rfl⟩ := ix2_of y
  blk_simp
  rw [after0_5]
  refine ((rows m c t).act r q).trans ?_
  refine congrArg₂ (act _ _ _) (Fin.ext ?_) (Fin.ext ?_)
  · show 256 * t.val + r.val = _
    blk_simp [idx t]; omega
  · blk_simp [idx t]
theorem arr6 : (dats m 0 c).arrAt 6 cfg0.N = rPre m c := by
  refine (dats m 0 c).arrAt_eq_of_covers 6 _ (by decide +kernel) fun t hf y => ?_
  obtain ⟨r, q, rfl⟩ := ix2_of y
  blk_simp
  rw [after0_6]
  refine ((rows m c t).pre r q).trans ?_
  refine congrArg₂ (pre _ _ _ _) (Fin.ext ?_) (Fin.ext ?_)
  · show 256 * t.val + r.val = _
    blk_simp [idx t]; omega
  · blk_simp [idx t]
theorem arr7 : (dats m 0 c).arrAt 7 cfg0.N = rOut m c := by
  refine (dats m 0 c).arrAt_eq_of_covers 7 _ (by decide +kernel) fun t hf y => ?_
  obtain ⟨r, q, rfl⟩ := ix2_of y
  blk_simp
  rw [after0_7]
  refine ((rows m c t).out r q).trans ?_
  refine congrArg₂ (out _ _ _ _ _ _) (Fin.ext ?_) (Fin.ext ?_)
  · show 256 * t.val + r.val = _
    blk_simp [idx t]; omega
  · blk_simp [idx t]

/-- The run with the results named. -/
theorem run : θ_run defs (onTc (τ := τ) (main (F := Ideal))) ⟨m, fun _ => 0, ρ⟩ fun r => ∀ c : Dev nD,
      r.2.mem ((c : Thread nD τ).loc main_v0_0) = rUp m c
      ∧ r.2.mem ((c : Thread nD τ).loc main_v0_1) = rAct m c
      ∧ r.2.mem ((c : Thread nD τ).loc main_v0_2) = rPre m c
      ∧ r.2.mem ((c : Thread nD τ).loc main_v0_3) = rOut m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨((h.1 c).1 4).trans (arr4 m c), ((h.1 c).1 5).trans (arr5 m c),
      ((h.1 c).1 6).trans (arr6 m c), ((h.1 c).1 7).trans (arr7 m c), h.2 c⟩)
    (θ_run_and (run_main m ρ) (unchanged m ρ))

end Cert.HKernelIdeal.Val

end
-- ==== Proof.FhClaims.lean ====
/-
  The gated ConvFFN's forward pass: the claims.
-/
module

public import proofs.«01_k».proof.Defs
public import proofs.«01_k».proof.Proof.Gen.HKernel
public import proofs.«01_k».proof.Proof.Gen.HKernelIdeal
public import proofs.«01_k».proof.Proof.Gen.HReferenceIdeal
public import proofs.«01_k».proof.Proof.FhRun
public import proofs.«01_k».proof.Proof.FhVal
public import proofs.«01_k».proof.Proof.FhRef

@[expose] public section

set_option maxRecDepth 16384

noncomputable section

namespace Cert.Proof.Fh

open Idealize.ShloMosaic Idealize.ShloMosaic.TcCoe Idealize.SL.Sem

open Cert.HKernelIdeal in
/-- The frame of the ideal program's text at the machine's words. -/
def FrameBits : Prop :=
  ∀ (m : (ℓ : Loc nD τ sig) → Buf (Elt Bits) ℓ) (g : Dev nD → PrngReg), True →
    θ_run (defs (F := Bits)) (onTc (τ := τ) (main (F := Bits))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0)
theorem frame_bits : FrameBits := fun m ρ _ => Cert.HKernelIdeal.Gen.frame (F := Bits) m ρ

/-- Kernel and ideal kernel are one text, so that this is the kernel's frame. -/
theorem frame_eq : FrameBits = Cert.quiescent_HKernel := by sl_kernel_rfl
theorem frame : Cert.quiescent_HKernel := frame_eq.mp frame_bits
theorem frame_ideal : Cert.quiescent_HKernelIdeal := fun m ρ _ => Cert.HKernelIdeal.Gen.frame m ρ

theorem frame_ref : Cert.quiescent_HReferenceIdeal := fun m ρ _ =>
  (θ_run Cert.HReferenceIdeal.defs _ _).mono (fun r h => ⟨fun c => (h c).2.2.2.2,
      Idealize.ShloMosaic.sem_eq_zero_of_no_sems (by decide) r.2⟩)
    (Cert.HReferenceIdeal.Value.run (F := Ideal) m ρ)

theorem preserves : Cert.preserves_HKernel_HKernelIdeal := trivial

open Cert.HReferenceIdeal Cert.HReferenceIdeal.Read in
theorem algebraic : Cert.algebraic_HKernelIdeal_HReferenceIdeal := by
  intro m ρ m' ρ' _ hag
  refine ⟨fun c => Cert.HKernelIdeal.Val.rUp m c, fun c => Cert.HKernelIdeal.Val.rAct m c, fun c => Cert.HKernelIdeal.Val.rPre m c,
    fun c => Cert.HKernelIdeal.Val.rOut m c, Cert.HKernelIdeal.Val.run m ρ, ?_⟩
  refine (θ_run Cert.HReferenceIdeal.defs _ _).mono (fun r h c => ?_) (Cert.HReferenceIdeal.Value.run (F := Ideal) m' ρ')
  obtain ⟨e0, e1, e2, e3, e4, e5⟩ := hag c
  replace h := h c
  rw [val_main_v3_eq, val_main_v34_eq, val_main_v33_eq, val_main_v60_eq] at h
  refine ⟨h.1.trans ?_, h.2.1.trans ?_, h.2.2.1.trans ?_, h.2.2.2.1.trans ?_, h.2.2.2.2⟩
  · rw [e0, e1]
    funext y
    obtain ⟨r, q, rfl⟩ := Cert.FKernelIdeal.Val.ix2_of y
    exact Cert.HReferenceIdeal.Spec.v3 _ _ r q
  · rw [e0, e1, e2]
    funext y
    obtain ⟨r, q, rfl⟩ := Cert.FKernelIdeal.Val.ix2_of y
    exact Cert.HReferenceIdeal.Spec.v34 _ _ _ r q
  · rw [e0, e1, e2, e3]
    funext y
    obtain ⟨r, q, rfl⟩ := Cert.FKernelIdeal.Val.ix2_of y
    exact Cert.HReferenceIdeal.Spec.v33 _ _ _ _ r q
  · rw [e0, e1, e2, e3, e4, e5]
    funext y
    obtain ⟨r, q, rfl⟩ := Cert.FKernelIdeal.Val.ix2_of y
    exact Cert.HReferenceIdeal.Spec.v60 _ _ _ _ _ _ r q

end Cert.Proof.Fh

end
-- ==== Proof.FiRunA.lean ====
/-
  The run of the gated ConvFFN's forward kernel of the second layer at the first grid point, where the weights are copied in: the generated
  module's text, with each copy into a slice of the scratch lent that slice alone.
-/
module

public import proofs.«01_k».proof.Proof.Gen.JKernelIdeal.Frame.Runs

@[expose] public section

set_option maxRecDepth 16384
set_option sl_exec.dmaWindow true
set_option sl_exec.dmaWindowSet true

noncomputable section

namespace Cert.JKernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option maxHeartbeats 1000000 in
/-- What the body stores in case A (the first point of the grid), output by output and then the scratch, as pieces with the last first; and that
    it runs from the inputs at their contents, the HBM operands at theirs and its cells at zero, and gives them back so. -/
noncomputable def kernelRun0_A (c : Dev nD) (i : grid0.Coords) (arg1 : Memref sig .tc .vmem S256x1024 .f32) (harg1 : arg1.IsWhole) (arg3 : Memref sig .tc .vmem S3x2816 .f32) (harg3 : arg3.IsWhole) (arg5 : Memref sig .tc .vmem S1x1024 .f32) (harg5 : arg5.IsWhole) (arg6 : Memref sig .tc .vmem S1x1024 .f32) (harg6 : arg6.IsWhole) (arg7 : Memref sig .tc .vmem S256x5632 .f32) (harg7 : arg7.IsWhole) (arg8 : Memref sig .tc .vmem S256x2816 .bf16) (harg8 : arg8.IsWhole) (arg9 : Memref sig .tc .vmem S256x1024 .f32) (harg9 : arg9.IsWhole) (arg10 : Memref sig .tc .vmem S256x1024 .f32) (harg10 : arg10.IsWhole) (arg11 : Memref sig .tc .vmem S1024x5632 .bf16) (harg11 : arg11.IsWhole) (arg12 : Memref sig .tc .vmem S2816x1024 .bf16) (harg12 : arg12.IsWhole) (arg13 : Memref sig .tc .vmem S8x2816 .f32) (harg13 : arg13.IsWhole) (hc0 : cond0_0 i) (hc1 : cond0_1 i)
    (x0 : Vec F S256x1024 .f32) (x1 : Vec F S3x2816 .f32) (x2 : Vec F S1x1024 .f32) (x3 : Vec F S1x1024 .f32) (fh0 : HbBuf0 (F := F) c hbM0_0) (fh1 : HbBuf0 (F := F) c hbM0_1) :
    Σ' (L4 : List (View.Piece (Elt F) S256x5632 .f32)), Σ' (L5 : List (View.Piece (Elt F) S256x2816 .bf16)), Σ' (L6 : List (View.Piece (Elt F) S256x1024 .f32)), Σ' (L7 : List (View.Piece (Elt F) S256x1024 .f32)), Σ' (LS0 : List (View.Piece (Elt F) S1024x5632 .bf16)), Σ' (LS1 : List (View.Piece (Elt F) S2816x1024 .bf16)), { LS2 : List (View.Piece (Elt F) S8x2816 .f32) //
      ∀ (W : Waits sig Unit) (K : PUnit → sProp 𝕄),
        iprop(owns (c : Thread nD τ) arg1 fullShare x0 ∗ owns (c : Thread nD τ) arg3 fullShare x1 ∗ owns (c : Thread nD τ) arg5 fullShare x2 ∗ owns (c : Thread nD τ) arg6 fullShare x3 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ hbPt0 c hbM0_0 fh0 ∗ hbPt0 c hbM0_1 fh1 ∗ owes (c : Thread nD τ) 0 W
            ∗ (iprop(owns (c : Thread nD τ) arg1 fullShare x0 ∗ owns (c : Thread nD τ) arg3 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f L4) ∗ (∃ f, arg8.view.loc (c : Thread nD τ) ↦[arg8.view.set]{fullShare} arg8.view.writes (Elt F) f L5) ∗ (∃ f, arg9.view.loc (c : Thread nD τ) ↦[arg9.view.set]{fullShare} arg9.view.writes (Elt F) f L6) ∗ (∃ f, arg10.view.loc (c : Thread nD τ) ↦[arg10.view.set]{fullShare} arg10.view.writes (Elt F) f L7) ∗ (∃ f, arg11.view.loc (c : Thread nD τ) ↦[arg11.view.set]{fullShare} arg11.view.writes (Elt F) f LS0) ∗ (∃ f, arg12.view.loc (c : Thread nD τ) ↦[arg12.view.set]{fullShare} arg12.view.writes (Elt F) f LS1) ∗ (∃ f, arg13.view.loc (c : Thread nD τ) ↦[arg13.view.set]{fullShare} arg13.view.writes (Elt F) f LS2) ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ hbPt0 c hbM0_0 fh0 ∗ hbPt0 c hbM0_1 fh1 ∗ (∃ W', owes (c : Thread nD τ) 0 W')) -∗ K ⟨⟩))
          ⊢ wp frame (wpE (defs₀ (F := F)) Variants.none c none) Set.univ (cc0_ffn_fwd1 i arg1 harg1 (Memref.whole main_arg1) (Memref.isWhole_whole _) arg3 harg3 (Memref.whole main_arg3) (Memref.isWhole_whole _) arg5 harg5 arg6 harg6 arg7 harg7 arg8 harg8 arg9 harg9 arg10 harg10 arg11 harg11 arg12 harg12 arg13 harg13 cc0_scratch3) K } := by
  refine ⟨?_, ?_, ?_, ?_, ?_, ?_, ?_, fun W K => ?run⟩
  case run =>
    simp only [cc0_ffn_fwd1_eq_skeleton]; unfold cc0_ffn_fwd1_skel
    simp only [k0_part4_eq_skeleton, k0_part1_eq_skeleton, k0_part2_eq_skeleton, k0_part3_eq_skeleton, k0_part5_eq_skeleton, k0_part6_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, ⟨%ds0, %fs0, -, HS0⟩, ⟨%ds1, %fs1, -, HS1⟩, ⟨%ds2, %fs2, -, HS2⟩, Hq0, Hq1, Hq2, Hq3, Hq4, Hq5, Hq6, Hq7, Hq8, Hh0, Hh1, HW, Hk⟩
    obtain rfl := harg1.eq_unread hf0; obtain rfl := harg3.eq_unread hf1; obtain rfl := harg5.eq_unread hf2; obtain rfl := harg6.eq_unread hf3
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg3.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    isplitl [H5]; · iexists _; iexact H5
    isplitl [H6]; · iexists _; iexact H6
    isplitl [H7]; · iexists _; iexact H7
    isplitl [HS0]; · iexists _; iexact HS0
    isplitl [HS1]; · iexists _; iexact HS1
    isplitl [HS2]; · iexists _; iexact HS2
    isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Hq8]; · iexact Hq8
    isplitl [Hh0]; · iexact Hh0
    isplitl [Hh1]; · iexact Hh1
    iexists _; iexact HW

end Cert.JKernelIdeal.Gen

end
-- ==== Proof.FiRunB.lean ====
/-
  The run of the gated ConvFFN's forward kernel of the second layer at every later grid point: the generated module's text.
-/
module

public import proofs.«01_k».proof.Proof.FiRunA

@[expose] public section

set_option maxRecDepth 16384

noncomputable section

namespace Cert.JKernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option maxHeartbeats 1200000 in
/-- What the body stores in case B (every later point: the scratch as the point before left it), output by output and then the scratch, as pieces with the last first; and that
    it runs from the inputs at their contents, the HBM operands at theirs and its cells at zero, and gives them back so. -/
noncomputable def kernelRun0_B (c : Dev nD) (i : grid0.Coords) (arg1 : Memref sig .tc .vmem S256x1024 .f32) (harg1 : arg1.IsWhole) (arg3 : Memref sig .tc .vmem S3x2816 .f32) (harg3 : arg3.IsWhole) (arg5 : Memref sig .tc .vmem S1x1024 .f32) (harg5 : arg5.IsWhole) (arg6 : Memref sig .tc .vmem S1x1024 .f32) (harg6 : arg6.IsWhole) (arg7 : Memref sig .tc .vmem S256x5632 .f32) (harg7 : arg7.IsWhole) (arg8 : Memref sig .tc .vmem S256x2816 .bf16) (harg8 : arg8.IsWhole) (arg9 : Memref sig .tc .vmem S256x1024 .f32) (harg9 : arg9.IsWhole) (arg10 : Memref sig .tc .vmem S256x1024 .f32) (harg10 : arg10.IsWhole) (arg11 : Memref sig .tc .vmem S1024x5632 .bf16) (harg11 : arg11.IsWhole) (arg12 : Memref sig .tc .vmem S2816x1024 .bf16) (harg12 : arg12.IsWhole) (arg13 : Memref sig .tc .vmem S8x2816 .f32) (harg13 : arg13.IsWhole) (hc0 : ¬cond0_0 i) (hc1 : ¬cond0_1 i)
    (x0 : Vec F S256x1024 .f32) (x1 : Vec F S3x2816 .f32) (x2 : Vec F S1x1024 .f32) (x3 : Vec F S1x1024 .f32) (xs0 : Vec F S1024x5632 .bf16) (xs1 : Vec F S2816x1024 .bf16) (xs2 : Vec F S8x2816 .f32) (fh0 : HbBuf0 (F := F) c hbM0_0) (fh1 : HbBuf0 (F := F) c hbM0_1) :
    Σ' (L4 : List (View.Piece (Elt F) S256x5632 .f32)), Σ' (L5 : List (View.Piece (Elt F) S256x2816 .bf16)), Σ' (L6 : List (View.Piece (Elt F) S256x1024 .f32)), Σ' (L7 : List (View.Piece (Elt F) S256x1024 .f32)), Σ' (LS0 : List (View.Piece (Elt F) S1024x5632 .bf16)), Σ' (LS1 : List (View.Piece (Elt F) S2816x1024 .bf16)), { LS2 : List (View.Piece (Elt F) S8x2816 .f32) //
      ∀ (W : Waits sig Unit) (K : PUnit → sProp 𝕄),
        iprop(owns (c : Thread nD τ) arg1 fullShare x0 ∗ owns (c : Thread nD τ) arg3 fullShare x1 ∗ owns (c : Thread nD τ) arg5 fullShare x2 ∗ owns (c : Thread nD τ) arg6 fullShare x3 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ owns (c : Thread nD τ) arg11 fullShare xs0 ∗ owns (c : Thread nD τ) arg12 fullShare xs1 ∗ owns (c : Thread nD τ) arg13 fullShare xs2 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ hbPt0 c hbM0_0 fh0 ∗ hbPt0 c hbM0_1 fh1 ∗ owes (c : Thread nD τ) 0 W
            ∗ (iprop(owns (c : Thread nD τ) arg1 fullShare x0 ∗ owns (c : Thread nD τ) arg3 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f L4) ∗ (∃ f, arg8.view.loc (c : Thread nD τ) ↦[arg8.view.set]{fullShare} arg8.view.writes (Elt F) f L5) ∗ (∃ f, arg9.view.loc (c : Thread nD τ) ↦[arg9.view.set]{fullShare} arg9.view.writes (Elt F) f L6) ∗ (∃ f, arg10.view.loc (c : Thread nD τ) ↦[arg10.view.set]{fullShare} arg10.view.writes (Elt F) f L7) ∗ owns (c : Thread nD τ) arg11 fullShare xs0 ∗ owns (c : Thread nD τ) arg12 fullShare xs1 ∗ (∃ f, arg13.view.loc (c : Thread nD τ) ↦[arg13.view.set]{fullShare} arg13.view.writes (Elt F) f LS2) ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ hbPt0 c hbM0_0 fh0 ∗ hbPt0 c hbM0_1 fh1 ∗ (∃ W', owes (c : Thread nD τ) 0 W')) -∗ K ⟨⟩))
          ⊢ wp frame (wpE (defs₀ (F := F)) Variants.none c none) Set.univ (cc0_ffn_fwd1 i arg1 harg1 (Memref.whole main_arg1) (Memref.isWhole_whole _) arg3 harg3 (Memref.whole main_arg3) (Memref.isWhole_whole _) arg5 harg5 arg6 harg6 arg7 harg7 arg8 harg8 arg9 harg9 arg10 harg10 arg11 harg11 arg12 harg12 arg13 harg13 cc0_scratch3) K } := by
  refine ⟨?_, ?_, ?_, ?_, [], [], ?_, fun W K => ?run⟩
  case run =>
    simp only [cc0_ffn_fwd1_eq_skeleton]; unfold cc0_ffn_fwd1_skel
    simp only [k0_part4_eq_skeleton, k0_part5_eq_skeleton, k0_part6_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, ⟨%fs0, %hfs0, HS0⟩, ⟨%fs1, %hfs1, HS1⟩, ⟨%fs2, %hfs2, HS2⟩, Hq0, Hq1, Hq2, Hq3, Hq4, Hq5, Hq6, Hq7, Hq8, Hh0, Hh1, HW, Hk⟩
    obtain rfl := harg1.eq_unread hf0; obtain rfl := harg3.eq_unread hf1; obtain rfl := harg5.eq_unread hf2; obtain rfl := harg6.eq_unread hf3; obtain rfl := harg11.eq_unread hfs0; obtain rfl := harg12.eq_unread hfs1; obtain rfl := harg13.eq_unread hfs2
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg3.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    isplitl [H5]; · iexists _; iexact H5
    isplitl [H6]; · iexists _; iexact H6
    isplitl [H7]; · iexists _; iexact H7
    isplitl [HS0]
    · iexists _; isplitr; · ipureintro; exact harg11.read_unread _
      iexact HS0
    isplitl [HS1]
    · iexists _; isplitr; · ipureintro; exact harg12.read_unread _
      iexact HS1
    isplitl [HS2]; · iexists _; iexact HS2
    isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Hq8]; · iexact Hq8
    isplitl [Hh0]; · iexact Hh0
    isplitl [Hh1]; · iexact Hh1
    iexists _; iexact HW

end Cert.JKernelIdeal.Gen

end
-- ==== Proof.FiRun.lean ====
/-
  The run of the gated ConvFFN's forward kernel at the second layer, point after point: the generated module's text, with the two equations
  that say what a grid point leaves given more time.
-/
module

public import proofs.«01_k».proof.Proof.FiRunB
public import Idealize.ShloMosaic.Lib.Claim

@[expose] public section

set_option maxRecDepth 16384
set_option maxHeartbeats 4000000

noncomputable section

namespace Cert.JKernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)
/-- What a point leaves: the outputs in window order, then the scratch. -/
abbrev Outs (F : FTy → Type) [FloatOps F] : Type := Vec F S256x5632 .f32 × Vec F S256x2816 .bf16 × Vec F S256x1024 .f32 × Vec F S256x1024 .f32 × Vec F S1024x5632 .bf16 × Vec F S2816x1024 .bf16 × Vec F S8x2816 .f32

section CaseA
variable (c : Dev nD) (t : Fin cfg0.N) (hc0 : cond0_0 (grid0.coords t)) (hc1 : cond0_1 (grid0.coords t))

/-- The run of case A at point `t`. -/
abbrev runA :=
  kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) hc0 hc1 (iblk m c 0 t) (iblk m c 1 t) (iblk m c 2 t) (iblk m c 3 t) (V m c main_arg1) (V m c main_arg3)

/-- Case A's pieces for output 4 tile its block, so they cover it. -/
theorem cover0_A_4 (y : S256x5632.Idx) :
    ∃ pc ∈ (runA m c t hc0 hc1).1, y ∈ pc.1.set :=
  View.cover_of_tiledL (runA m c t hc0 hc1).1 S256x1408.size (by sl_kernel_rfl) y

/-- What case A leaves in output 4's staging buffer: its pieces read back over junk. -/
def out0_A_4 : Vec F S256x5632 .f32 :=
  VO0_4.read (Elt F) (VO0_4.writes (Elt F) VO0_4.junk (runA m c t hc0 hc1).1)

/-- Case A's pieces for output 5 tile its block, so they cover it. -/
theorem cover0_A_5 (y : S256x2816.Idx) :
    ∃ pc ∈ (runA m c t hc0 hc1).2.1, y ∈ pc.1.set :=
  View.cover_of_tiledL (runA m c t hc0 hc1).2.1 S256x1408.size (by sl_kernel_rfl) y

/-- What case A leaves in output 5's staging buffer: its pieces read back over junk. -/
def out0_A_5 : Vec F S256x2816 .bf16 :=
  VO0_5.read (Elt F) (VO0_5.writes (Elt F) VO0_5.junk (runA m c t hc0 hc1).2.1)

/-- Case A's pieces for output 6 tile its block, so they cover it. -/
theorem cover0_A_6 (y : S256x1024.Idx) :
    ∃ pc ∈ (runA m c t hc0 hc1).2.2.1, y ∈ pc.1.set :=
  View.cover_of_tiledL (runA m c t hc0 hc1).2.2.1 S256x1024.size (by sl_kernel_rfl) y

/-- What case A leaves in output 6's staging buffer: its pieces read back over junk. -/
def out0_A_6 : Vec F S256x1024 .f32 :=
  VO0_6.read (Elt F) (VO0_6.writes (Elt F) VO0_6.junk (runA m c t hc0 hc1).2.2.1)

/-- Case A's pieces for output 7 tile its block, so they cover it. -/
theorem cover0_A_7 (y : S256x1024.Idx) :
    ∃ pc ∈ (runA m c t hc0 hc1).2.2.2.1, y ∈ pc.1.set :=
  View.cover_of_tiledL (runA m c t hc0 hc1).2.2.2.1 S256x1024.size (by sl_kernel_rfl) y

/-- What case A leaves in output 7's staging buffer: its pieces read back over junk. -/
def out0_A_7 : Vec F S256x1024 .f32 :=
  VO0_7.read (Elt F) (VO0_7.writes (Elt F) VO0_7.junk (runA m c t hc0 hc1).2.2.2.1)

/-- Case A's pieces for scratch `arg11`, which the kernel carries between points, cover it: 1 piece of `S1024x5632` tiling it. -/
theorem scover0_A_0 (y : S1024x5632.Idx) :
    ∃ pc ∈ (runA m c t hc0 hc1).2.2.2.2.1, y ∈ pc.1.set :=
  View.cover_of_tiledL (runA m c t hc0 hc1).2.2.2.2.1 S1024x5632.size (by sl_kernel_rfl) y

/-- What case A leaves in scratch `arg11`: its pieces read back over junk. -/
def sout0_A_0 : Vec F S1024x5632 .bf16 :=
  VS0_0.read (Elt F) (VS0_0.writes (Elt F) VS0_0.junk (runA m c t hc0 hc1).2.2.2.2.1)

/-- Case A's pieces for scratch `arg12`, which the kernel carries between points, cover it: 8 pieces of `S352x1024` tiling it. -/
theorem scover0_A_1 (y : S2816x1024.Idx) :
    ∃ pc ∈ (runA m c t hc0 hc1).2.2.2.2.2.1, y ∈ pc.1.set :=
  View.cover_of_tiledL (runA m c t hc0 hc1).2.2.2.2.2.1 S352x1024.size (by sl_kernel_rfl) y

/-- What case A leaves in scratch `arg12`: its pieces read back over junk. -/
def sout0_A_1 : Vec F S2816x1024 .bf16 :=
  VS0_1.read (Elt F) (VS0_1.writes (Elt F) VS0_1.junk (runA m c t hc0 hc1).2.2.2.2.2.1)

/-- Case A's pieces for scratch `arg13`, which the kernel carries between points, cover it: one of them a store of the WHOLE buffer. -/
theorem scover0_A_2 (y : S8x2816.Idx) :
    ∃ pc ∈ (runA m c t hc0 hc1).2.2.2.2.2.2.1, y ∈ pc.1.set :=
  View.cover_of_wholeMem (runA m c t hc0 hc1).2.2.2.2.2.2.1 (by sl_whole_mem) y

/-- What case A leaves in scratch `arg13`: its pieces read back over junk. -/
def sout0_A_2 : Vec F S8x2816 .f32 :=
  VS0_2.read (Elt F) (VS0_2.writes (Elt F) VS0_2.junk (runA m c t hc0 hc1).2.2.2.2.2.2.1)

/-- What point `t` leaves in case A: the outputs in window order, then the scratch. -/
def leavesA : Outs F :=
  (out0_A_4 m c t hc0 hc1,
    out0_A_5 m c t hc0 hc1,
    out0_A_6 m c t hc0 hc1,
    out0_A_7 m c t hc0 hc1,
    sout0_A_0 m c t hc0 hc1,
    sout0_A_1 m c t hc0 hc1,
    sout0_A_2 m c t hc0 hc1)
end CaseA

section CaseB
variable (c : Dev nD) (t : Fin cfg0.N) (hc0 : ¬cond0_0 (grid0.coords t)) (hc1 : ¬cond0_1 (grid0.coords t)) (p : Outs F)

/-- The run of case B at point `t`, over what the point before left. -/
abbrev runB :=
  kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) hc0 hc1 (iblk m c 0 t) (iblk m c 1 t) (iblk m c 2 t) (iblk m c 3 t) p.2.2.2.2.1 p.2.2.2.2.2.1 p.2.2.2.2.2.2 (V m c main_arg1) (V m c main_arg3)

/-- Case B's pieces for output 4 tile its block, so they cover it. -/
theorem cover0_B_4 (y : S256x5632.Idx) :
    ∃ pc ∈ (runB m c t hc0 hc1 p).1, y ∈ pc.1.set :=
  View.cover_of_tiledL (runB m c t hc0 hc1 p).1 S256x1408.size (by sl_kernel_rfl) y

/-- What case B leaves in output 4's staging buffer: its pieces read back over junk. -/
def out0_B_4 : Vec F S256x5632 .f32 :=
  VO0_4.read (Elt F) (VO0_4.writes (Elt F) VO0_4.junk (runB m c t hc0 hc1 p).1)

/-- Case B's pieces for output 5 tile its block, so they cover it. -/
theorem cover0_B_5 (y : S256x2816.Idx) :
    ∃ pc ∈ (runB m c t hc0 hc1 p).2.1, y ∈ pc.1.set :=
  View.cover_of_tiledL (runB m c t hc0 hc1 p).2.1 S256x1408.size (by sl_kernel_rfl) y

/-- What case B leaves in output 5's staging buffer: its pieces read back over junk. -/
def out0_B_5 : Vec F S256x2816 .bf16 :=
  VO0_5.read (Elt F) (VO0_5.writes (Elt F) VO0_5.junk (runB m c t hc0 hc1 p).2.1)

/-- Case B's pieces for output 6 tile its block, so they cover it. -/
theorem cover0_B_6 (y : S256x1024.Idx) :
    ∃ pc ∈ (runB m c t hc0 hc1 p).2.2.1, y ∈ pc.1.set :=
  View.cover_of_tiledL (runB m c t hc0 hc1 p).2.2.1 S256x1024.size (by sl_kernel_rfl) y

/-- What case B leaves in output 6's staging buffer: its pieces read back over junk. -/
def out0_B_6 : Vec F S256x1024 .f32 :=
  VO0_6.read (Elt F) (VO0_6.writes (Elt F) VO0_6.junk (runB m c t hc0 hc1 p).2.2.1)

/-- Case B's pieces for output 7 tile its block, so they cover it. -/
theorem cover0_B_7 (y : S256x1024.Idx) :
    ∃ pc ∈ (runB m c t hc0 hc1 p).2.2.2.1, y ∈ pc.1.set :=
  View.cover_of_tiledL (runB m c t hc0 hc1 p).2.2.2.1 S256x1024.size (by sl_kernel_rfl) y

/-- What case B leaves in output 7's staging buffer: its pieces read back over junk. -/
def out0_B_7 : Vec F S256x1024 .f32 :=
  VO0_7.read (Elt F) (VO0_7.writes (Elt F) VO0_7.junk (runB m c t hc0 hc1 p).2.2.2.1)

/-- Case B stores nothing into scratch `arg11`: it holds what the point before left. -/
def sout0_B_0 : Vec F S1024x5632 .bf16 := p.2.2.2.2.1

/-- Case B stores nothing into scratch `arg12`: it holds what the point before left. -/
def sout0_B_1 : Vec F S2816x1024 .bf16 := p.2.2.2.2.2.1

/-- Case B's pieces for scratch `arg13`, which the kernel carries between points, cover it: 2 pieces of `S8x1408` tiling it. -/
theorem scover0_B_2 (y : S8x2816.Idx) :
    ∃ pc ∈ (runB m c t hc0 hc1 p).2.2.2.2.2.2.1, y ∈ pc.1.set :=
  View.cover_of_tiledL (runB m c t hc0 hc1 p).2.2.2.2.2.2.1 S8x1408.size (by sl_kernel_rfl) y

/-- What case B leaves in scratch `arg13`: its pieces read back over junk. -/
def sout0_B_2 : Vec F S8x2816 .f32 :=
  VS0_2.read (Elt F) (VS0_2.writes (Elt F) VS0_2.junk (runB m c t hc0 hc1 p).2.2.2.2.2.2.1)

/-- What point `t` leaves in case B: the outputs in window order, then the scratch. -/
def leavesB : Outs F :=
  (out0_B_4 m c t hc0 hc1 p,
    out0_B_5 m c t hc0 hc1 p,
    out0_B_6 m c t hc0 hc1 p,
    out0_B_7 m c t hc0 hc1 p,
    sout0_B_0 p,
    sout0_B_1 p,
    sout0_B_2 m c t hc0 hc1 p)
end CaseB

/-! ## What the outputs hold after each point -/

/-- What the points up to `n` leave: at each point the case its conditions select, over what the point before left. -/
def outsAt0 (c : Dev nD) : (n : ℕ) → n < cfg0.N → Outs F
  | 0, hn => leavesA m c ⟨0, hn⟩ ((hcond0_0 ⟨0, hn⟩).mpr (Nat.zero_mod _)) ((hcond0_1 ⟨0, hn⟩).mpr (Nat.zero_mod _))
  | n + 1, hn =>
    if h0 : (n + 1) % 33 = 0 then
      leavesA m c ⟨n + 1, hn⟩ ((hcond0_0 ⟨n + 1, hn⟩).mpr h0) ((hcond0_1 ⟨n + 1, hn⟩).mpr h0)
    else
      leavesB m c ⟨n + 1, hn⟩ (fun h => h0 ((hcond0_0 ⟨n + 1, hn⟩).mp h)) (fun h => h0 ((hcond0_1 ⟨n + 1, hn⟩).mp h))
        (outsAt0 c n (Nat.lt_of_succ_lt hn))

theorem outsAt0_A (c : Dev nD) (t : Fin cfg0.N) (h0 : t.val % 33 = 0) (h1 : t.val % 33 = 0) :
    outsAt0 m c t.val t.isLt = leavesA m c t ((hcond0_0 t).mpr h0) ((hcond0_1 t).mpr h1) := by
  obtain ⟨n, hn⟩ := t
  cases n with
  | zero => exact rfl
  | succ n => exact dif_pos h0

theorem outsAt0_B (c : Dev nD) (t : Fin cfg0.N) (h0 : ¬t.val % 33 = 0) (h1 : ¬t.val % 33 = 0) :
    outsAt0 m c t.val t.isLt = leavesB m c t (fun h => h0 ((hcond0_0 t).mp h)) (fun h => h1 ((hcond0_1 t).mp h))
      (outsAt0 m c (t.val - 1) (by omega)) := by
  obtain ⟨n, hn⟩ := t
  cases n with
  | zero => exact (by exfalso; (try dsimp only at h0); exact absurd (Nat.zero_mod _) h0)
  | succ n => exact dif_neg h0

/-- What a point that leaves `o` hands on: the carried scratch at that, the register, the cells at zero, the operands. -/
def keep (c : Dev nD) (o : Outs F) : sProp 𝕄 :=
  iprop(iprop(owns (c : Thread nD τ) scM0_0 fullShare (o.2.2.2.2.1) ∗ owns (c : Thread nD τ) scM0_1 fullShare (o.2.2.2.2.2.1) ∗ owns (c : Thread nD τ) scM0_2 fullShare (o.2.2.2.2.2.2)) ∗ (∃ r, prngReg c r) ∗ iprop(semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0) ∗ iprop(hbPt0 c hbM0_0 (V m c main_arg1) ∗ hbPt0 c hbM0_1 (V m c main_arg3)))

/-- The invariant before position `n`: before the first point the launch's, afterwards what the point before hands on. -/
def PhiS (c : Dev nD) : (n : ℕ) → n ≤ cfg0.N → sProp 𝕄
  | 0, _ => Pipeline.ΦD osem0 spec0 H0 (V m) c
  | n + 1, hn => keep m c (outsAt0 m c n hn)

theorem PhiS_zero (c : Dev nD) (n : ℕ) (h : n ≤ cfg0.N) (hz : n = 0) : PhiS m c n h = Pipeline.ΦD osem0 spec0 H0 (V m) c := by
  subst hz; rfl

/-- After point `n` (before point `n + 1`): the carried scratch at that point's contents. -/
theorem PhiS_succ (c : Dev nD) (n : ℕ) (hn : n < cfg0.N) :
    PhiS m c (n + 1) hn = keep m c (outsAt0 m c n hn) := rfl

/-- Before a point that is not the first: the carried scratch at what the point before left. -/
theorem PhiS_pos (c : Dev nD) (n : ℕ) (h : n ≤ cfg0.N) (hz : n ≠ 0) :
    PhiS m c n h = keep m c (outsAt0 m c (n - 1) (by omega)) := by
  cases n with
  | zero => exact absurd rfl hz
  | succ n => rfl

/-! ## The pipeline's proof data -/

/-- The proof data: the arrays as the region finds them; after the body each input's buffer at its block and the outputs' at `outsAt0`. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt0 m c t.val t.isLt).1
    | ⟨5, _⟩ => (outsAt0 m c t.val t.isLt).2.1
    | ⟨6, _⟩ => (outsAt0 m c t.val t.isLt).2.2.1
    | ⟨7, _⟩ => (outsAt0 m c t.val t.isLt).2.2.2.1
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = (outsAt0 m c t.val t.isLt).1 := by dsimp only [dats]
theorem after0_5 (c : Dev nD) (t : Fin cfg0.N) : (dats m 0 c).after 5 t = (outsAt0 m c t.val t.isLt).2.1 := by dsimp only [dats]
theorem after0_6 (c : Dev nD) (t : Fin cfg0.N) : (dats m 0 c).after 6 t = (outsAt0 m c t.val t.isLt).2.2.1 := by dsimp only [dats]
theorem after0_7 (c : Dev nD) (t : Fin cfg0.N) : (dats m 0 c).after 7 t = (outsAt0 m c t.val t.isLt).2.2.2.1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t))

set_option maxHeartbeats 6400000 in
/-- The body at any point: the run of the case the point is in, from what the point before left to what this one leaves. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = PhiS m c (t.val + 1) t.isLt from rfl, PhiS_succ, keep,
    after0_0, after0_1, after0_2, after0_3, after0_4, after0_5, after0_6, after0_7]
  unfold Dat.owesAt Pipeline.owesWithin
  rw [show (dats m 0 c).owed t.castSucc = 0 from rfl, show (dats m 0 c).owed t.succ = 0 from rfl]
  have hN : t.val < 33 := lt_of_lt_of_eq t.isLt (show cfg0.N = 33 from N_0)
  by_cases h0 : t.val % 33 = 0
  · by_cases h1 : t.val % 33 = 0
    · by_cases hz : t.val = 0
      · rw [PhiS_castSucc m c t, PhiS_zero m c _ _ hz, PhiD0_eq]
        rw [outsAt0_A m c t h0 h1]; unfold leavesA
        unfold out0_A_4 out0_A_5 out0_A_6 out0_A_7 sout0_A_0 sout0_A_1 sout0_A_2; (try dsimp only)
        iintro ⟨⟨⟨HS0, HS1, HS2⟩, Hg, ⟨Hq0, Hq1, Hq2, Hq3, Hq4, Hq5, Hq6, Hq7, Hq8⟩, ⟨Hh0, Hh1⟩⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩⟩
        iapply ((runA m c t ((hcond0_0 t).mpr h0) ((hcond0_1 t).mpr h1)).2.2.2.2.2.2.2 W _)
        isplitl [H0]; · iexact H0
        isplitl [H1]; · iexact H1
        isplitl [H2]; · iexact H2
        isplitl [H3]; · iexact H3
        isplitl [H4]; · iexists _; iexact H4
        isplitl [H5]; · iexists _; iexact H5
        isplitl [H6]; · iexists _; iexact H6
        isplitl [H7]; · iexists _; iexact H7
        isplitl [HS0]; · iexact HS0
        isplitl [HS1]; · iexact HS1
        isplitl [HS2]; · iexact HS2
        isplitl [Hq0]; · iexact Hq0
        isplitl [Hq1]; · iexact Hq1
        isplitl [Hq2]; · iexact Hq2
        isplitl [Hq3]; · iexact Hq3
        isplitl [Hq4]; · iexact Hq4
        isplitl [Hq5]; · iexact Hq5
        isplitl [Hq6]; · iexact Hq6
        isplitl [Hq7]; · iexact Hq7
        isplitl [Hq8]; · iexact Hq8
        isplitl [Hh0]; · iexact Hh0
        isplitl [Hh1]; · iexact Hh1
        isplitl [HW]; · iexact HW
        iintro ⟨H0, H1, H2, H3, ⟨%e4, H4⟩, ⟨%e5, H5⟩, ⟨%e6, H6⟩, ⟨%e7, H7⟩, ⟨%es0, HS0⟩, ⟨%es1, HS1⟩, ⟨%es2, HS2⟩, Hq0, Hq1, Hq2, Hq3, Hq4, Hq5, Hq6, Hq7, Hq8, Hh0, Hh1, ⟨%W', HW'⟩⟩
        isplitl [HS0 HS1 HS2 Hg Hq0 Hq1 Hq2 Hq3 Hq4 Hq5 Hq6 Hq7 Hq8 Hh0 Hh1]
        · isplitl [HS0 HS1 HS2]
          · isplitl [HS0]
            · unfold owns; iexists _; isplitr
              swap; · iexact HS0
              ipureintro; exact View.read_writes_of_cover _ _ _ _ _ (scover0_A_0 m c t _ _)
            isplitl [HS1]
            · unfold owns; iexists _; isplitr
              swap; · iexact HS1
              ipureintro; exact View.read_writes_of_cover _ _ _ _ _ (scover0_A_1 m c t _ _)
            unfold owns; iexists _; isplitr
            swap; · iexact HS2
            ipureintro; exact View.read_writes_of_cover _ _ _ _ _ (scover0_A_2 m c t _ _)
          isplitl [Hg]
          · iexact Hg
          isplitl [Hq0 Hq1 Hq2 Hq3 Hq4 Hq5 Hq6 Hq7 Hq8]
          · isplitl [Hq0]; · iexact Hq0
            isplitl [Hq1]; · iexact Hq1
            isplitl [Hq2]; · iexact Hq2
            isplitl [Hq3]; · iexact Hq3
            isplitl [Hq4]; · iexact Hq4
            isplitl [Hq5]; · iexact Hq5
            isplitl [Hq6]; · iexact Hq6
            isplitl [Hq7]; · iexact Hq7
            iexact Hq8
          isplitl [Hh0]; · iexact Hh0
          iexact Hh1
        isplitl [HW']
        · iexists W'; isplitr; · ipureintro; exact fun _ _ => Or.inl trivial
          iexact HW'
        isplitl [H0]; · iexact H0
        isplitl [H1]; · iexact H1
        isplitl [H2]; · iexact H2
        isplitl [H3]; · iexact H3
        isplitl [H4]
        · unfold owns; iexists _; isplitr
          swap; · iexact H4
          ipureintro; exact View.read_writes_of_cover _ _ _ _ _ (cover0_A_4 m c t _ _)
        isplitl [H5]
        · unfold owns; iexists _; isplitr
          swap; · iexact H5
          ipureintro; exact View.read_writes_of_cover _ _ _ _ _ (cover0_A_5 m c t _ _)
        isplitl [H6]
        · unfold owns; iexists _; isplitr
          swap; · iexact H6
          ipureintro; exact View.read_writes_of_cover _ _ _ _ _ (cover0_A_6 m c t _ _)
        unfold owns; iexists _; isplitr
        swap; · iexact H7
        ipureintro; exact View.read_writes_of_cover _ _ _ _ _ (cover0_A_7 m c t _ _)
      · exfalso; have hN : t.val < 33 := lt_of_lt_of_eq t.isLt (show cfg0.N = 33 from N_0); omega
    · exfalso; omega
  · by_cases h1 : t.val % 33 = 0
    · exfalso; omega
    · by_cases hz : t.val = 0
      · exfalso; have hN : t.val < 33 := lt_of_lt_of_eq t.isLt (show cfg0.N = 33 from N_0); omega
      · rw [PhiS_castSucc m c t, PhiS_pos m c _ _ hz, keep]
        rw [outsAt0_B m c t h0 h1]; unfold leavesB
        unfold out0_B_4 out0_B_5 out0_B_6 out0_B_7 sout0_B_0 sout0_B_1 sout0_B_2; (try dsimp only)
        iintro ⟨⟨⟨HS0, HS1, HS2⟩, Hg, ⟨Hq0, Hq1, Hq2, Hq3, Hq4, Hq5, Hq6, Hq7, Hq8⟩, ⟨Hh0, Hh1⟩⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩⟩
        iapply ((runB m c t (fun h => h0 ((hcond0_0 t).mp h)) (fun h => h1 ((hcond0_1 t).mp h)) (outsAt0 m c (t.val - 1) (by omega))).2.2.2.2.2.2.2 W _)
        isplitl [H0]; · iexact H0
        isplitl [H1]; · iexact H1
        isplitl [H2]; · iexact H2
        isplitl [H3]; · iexact H3
        isplitl [H4]; · iexists _; iexact H4
        isplitl [H5]; · iexists _; iexact H5
        isplitl [H6]; · iexists _; iexact H6
        isplitl [H7]; · iexists _; iexact H7
        isplitl [HS0]; · iexact HS0
        isplitl [HS1]; · iexact HS1
        isplitl [HS2]; · iexact HS2
        isplitl [Hq0]; · iexact Hq0
        isplitl [Hq1]; · iexact Hq1
        isplitl [Hq2]; · iexact Hq2
        isplitl [Hq3]; · iexact Hq3
        isplitl [Hq4]; · iexact Hq4
        isplitl [Hq5]; · iexact Hq5
        isplitl [Hq6]; · iexact Hq6
        isplitl [Hq7]; · iexact Hq7
        isplitl [Hq8]; · iexact Hq8
        isplitl [Hh0]; · iexact Hh0
        isplitl [Hh1]; · iexact Hh1
        isplitl [HW]; · iexact HW
        iintro ⟨H0, H1, H2, H3, ⟨%e4, H4⟩, ⟨%e5, H5⟩, ⟨%e6, H6⟩, ⟨%e7, H7⟩, HS0, HS1, ⟨%es2, HS2⟩, Hq0, Hq1, Hq2, Hq3, Hq4, Hq5, Hq6, Hq7, Hq8, Hh0, Hh1, ⟨%W', HW'⟩⟩
        isplitl [HS0 HS1 HS2 Hg Hq0 Hq1 Hq2 Hq3 Hq4 Hq5 Hq6 Hq7 Hq8 Hh0 Hh1]
        · isplitl [HS0 HS1 HS2]
          · isplitl [HS0]; · iexact HS0
            isplitl [HS1]; · iexact HS1
            unfold owns; iexists _; isplitr
            swap; · iexact HS2
            ipureintro; exact View.read_writes_of_cover _ _ _ _ _ (scover0_B_2 m c t _ _ _)
          isplitl [Hg]
          · iexact Hg
          isplitl [Hq0 Hq1 Hq2 Hq3 Hq4 Hq5 Hq6 Hq7 Hq8]
          · isplitl [Hq0]; · iexact Hq0
            isplitl [Hq1]; · iexact Hq1
            isplitl [Hq2]; · iexact Hq2
            isplitl [Hq3]; · iexact Hq3
            isplitl [Hq4]; · iexact Hq4
            isplitl [Hq5]; · iexact Hq5
            isplitl [Hq6]; · iexact Hq6
            isplitl [Hq7]; · iexact Hq7
            iexact Hq8
          isplitl [Hh0]; · iexact Hh0
          iexact Hh1
        isplitl [HW']
        · iexists W'; isplitr; · ipureintro; exact fun _ _ => Or.inl trivial
          iexact HW'
        isplitl [H0]; · iexact H0
        isplitl [H1]; · iexact H1
        isplitl [H2]; · iexact H2
        isplitl [H3]; · iexact H3
        isplitl [H4]
        · unfold owns; iexists _; isplitr
          swap; · iexact H4
          ipureintro; exact View.read_writes_of_cover _ _ _ _ _ (cover0_B_4 m c t _ _ _)
        isplitl [H5]
        · unfold owns; iexists _; isplitr
          swap; · iexact H5
          ipureintro; exact View.read_writes_of_cover _ _ _ _ _ (cover0_B_5 m c t _ _ _)
        isplitl [H6]
        · unfold owns; iexists _; isplitr
          swap; · iexact H6
          ipureintro; exact View.read_writes_of_cover _ _ _ _ _ (cover0_B_6 m c t _ _ _)
        unfold owns; iexists _; isplitr
        swap; · iexact H7
        ipureintro; exact View.read_writes_of_cover _ _ _ _ _ (cover0_B_7 m c t _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦD`) is the invariant before the first point. -/
theorem hin (c : Dev nD) : Pipeline.ΦD osem0 spec0 H0 (V m) c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦD` back: the carried scratch's named contents are forgotten. -/
theorem Phi_out (c : Dev nD) (t : Fin (cfg0.N + 1)) (ht : t.val ≠ 0) : (dats m 0 c).Φ t ⊢ Pipeline.ΦD osem0 spec0 H0 (V m) c := by
  rw [show (dats m 0 c).Φ t = PhiS m c t.val (Nat.le_of_lt_succ t.isLt) from rfl, PhiS_pos m c _ _ ht, keep, PhiD0_eq]
  iintro ⟨⟨HS0, HS1, HS2⟩, Hg, ⟨Hq0, Hq1, Hq2, Hq3, Hq4, Hq5, Hq6, Hq7, Hq8⟩, ⟨Hh0, Hh1⟩⟩
  isplitl [HS0 HS1 HS2]
  · isplitl [HS0]
    · iexists _; iexact HS0
    isplitl [HS1]
    · iexists _; iexact HS1
    iexists _; iexact HS2
  isplitl [Hg]; · iexact Hg
  isplitl [Hq0 Hq1 Hq2 Hq3 Hq4 Hq5 Hq6 Hq7 Hq8]
  · isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    iexact Hq8
  isplitl [Hh0]; · iexact Hh0
  iexact Hh1

/-- The same after the last point. -/
theorem hout (c : Dev nD) : (dats m 0 c).Φ (Fin.last cfg0.N) ⊢ Pipeline.ΦD osem0 spec0 H0 (V m) c :=
  Phi_out m c _ (by rw [Fin.val_last]; have : cfg0.N = 33 := N_0; omega)

/-! ## The run and the frame -/

-- `θ_run_frame_dma`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V := V m) (hmain := hmain m Variants.none) (hA := A_eq m)
    (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

/-- The frame: the arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

end Cert.JKernelIdeal.Gen

end
-- ==== Proof.FiAt.lean ====
/-
  The gated ConvFFN's forward pass at the second layer, block after block from the first one to the last: what each grid point finds.
-/
module

public import proofs.«01_k».proof.Proof.FhLeft
public import proofs.«01_k».proof.Proof.FiRun

@[expose] public section

set_option maxRecDepth 16384

noncomputable section

namespace Cert.JKernelIdeal.Val

open Cert.JKernelIdeal Cert.JKernelIdeal.Gen Cert.Ff Cert.Fh
open Cert.FKernelIdeal.Val (row ix2_of)
open Cert.HKernelIdeal.Val (At slab inSlab prev)
open Idealize.ShloMosaic Idealize.ShloMosaic.TcCoe Idealize.SL.Sem

variable (m : (ℓ : Loc nD τ sig) → Buf (Elt Ideal) ℓ) (c : Dev nD)

/-- The arguments as functions of row and lane. -/
abbrev kX : R → W → EReal := fun r k => (m ((c : Thread nD τ).loc main_arg0) : FVec Ideal S8448x1024 .f32) (ix2 r k)
abbrev kWU : W → U → EReal := fun r k =>
  (m ((c : Thread nD τ).loc main_arg1) : FVec Ideal S2x1024x5632 .bf16) (ix3 (1 : Fin 2) r k)
abbrev kCW : Fin 3 → H → EReal := fun r k => (m ((c : Thread nD τ).loc main_arg2) : FVec Ideal S3x2816 .f32) (ix2 r k)
abbrev kWD : H → W → EReal := fun f k =>
  (m ((c : Thread nD τ).loc main_arg3) : FVec Ideal S8x2x352x1024 .bf16) (ix4 (slab f) (1 : Fin 2) (inSlab f) k)
abbrev kG : W → EReal := fun k => (m ((c : Thread nD τ).loc main_arg4) : FVec Ideal S1x1024 .f32) (ix2 (0 : Fin 1) k)
abbrev kB : W → EReal := fun k => (m ((c : Thread nD τ).loc main_arg5) : FVec Ideal S1x1024 .f32) (ix2 (0 : Fin 1) k)

theorem idx : ∀ t : Fin cfg0.N, win0_0.index t = ![t.val, 0] ∧ win0_1.index t = ![0, 0] ∧ win0_2.index t = ![0, 0]
    ∧ win0_3.index t = ![0, 0] ∧ win0_4.index t = ![t.val, 0] ∧ win0_5.index t = ![t.val, 0]
    ∧ win0_6.index t = ![t.val, 0] ∧ win0_7.index t = ![t.val, 0] :=
  (by decide +kernel : ∀ t : Fin grid0.N, _)

theorem coord : ∀ t : Fin cfg0.N, (grid0.coords t 0).val = t.val := (by decide +kernel : ∀ t : Fin grid0.N, _)

theorem lt33 (t : Fin cfg0.N) : t.val < 33 := lt_of_lt_of_eq t.isLt N_0

/-- The block a grid point works on. -/
def bk (t : Fin cfg0.N) : Fin 33 := ⟨t.val, lt33 t⟩

theorem in0 (t : Fin cfg0.N) (r : Fin 256) (w : W) :
    (iblk m c 0 t : FVec Ideal S256x1024 .f32) (ix2 r w) = kX m c (row (bk t) r) w := by
  blk_ext [iblk, V, idx t, bk]
theorem in1 (t : Fin cfg0.N) (r : Fin 3) (f : H) :
    (iblk m c 1 t : FVec Ideal S3x2816 .f32) (ix2 r f) = kCW m c r f := by
  blk_ext [iblk, V, idx t, bk]
theorem in2 (t : Fin cfg0.N) (w : W) :
    (iblk m c 2 t : FVec Ideal S1x1024 .f32) (ix2 (0 : Fin 1) w) = kG m c w := by
  blk_ext [iblk, V, idx t, bk]
theorem in3 (t : Fin cfg0.N) (w : W) :
    (iblk m c 3 t : FVec Ideal S1x1024 .f32) (ix2 (0 : Fin 1) w) = kB m c w := by
  blk_ext [iblk, V, idx t, bk]

/-- Point `t` finds these weights and these rows before its own. -/
abbrev Finds (t : Fin cfg0.N) (a0 a1 a2 a3 : FVec Ideal S1024x1408 .bf16) (c0 c1 : FVec Ideal S8x1408 .f32)
    (d0 d1 : FVec Ideal S1408x1024 .bf16) : Prop :=
  At (kX m c) (kWU m c) (kCW m c) (kWD m c) (kG m c) (kB m c) (bk t) (grid0.coords t)
    (iblk m c 0 t) (iblk m c 1 t) (iblk m c 2 t) (iblk m c 3 t) a0 a1 a2 a3 c0 c1 d0 d1

theorem at_of (t : Fin cfg0.N) {a0 a1 a2 a3 : FVec Ideal S1024x1408 .bf16} {c0 c1 : FVec Ideal S8x1408 .f32}
    {d0 d1 : FVec Ideal S1408x1024 .bf16}
    (ha0 : ∀ k q, a0 (ix2 k q) = kWU m c k (u0 (lo q))) (ha1 : ∀ k q, a1 (ix2 k q) = kWU m c k (u0 (hi q)))
    (ha2 : ∀ k q, a2 (ix2 k q) = kWU m c k (u1 (lo q))) (ha3 : ∀ k q, a3 (ix2 k q) = kWU m c k (u1 (hi q)))
    (hc0 : ∀ a q, c0 (ix2 a q) = prev (up (kX m c) (kWU m c)) (bk t) a (lo q))
    (hc1 : ∀ a q, c1 (ix2 a q) = prev (up (kX m c) (kWU m c)) (bk t) a (hi q))
    (hd0 : ∀ q k, d0 (ix2 q k) = kWD m c (lo q) k) (hd1 : ∀ q k, d1 (ix2 q k) = kWD m c (hi q) k) :
    Finds m c t a0 a1 a2 a3 c0 c1 d0 d1 where
  hi := coord t
  h0 := in0 m c t
  h1 := in1 m c t
  h2 := in2 m c t
  h3 := in3 m c t
  ha0 := ha0
  ha1 := ha1
  ha2 := ha2
  ha3 := ha3
  hc0 := hc0
  hc1 := hc1
  hd0 := hd0
  hd1 := hd1

end Cert.JKernelIdeal.Val

end
-- ==== Proof.FiCopy.lean ====
/-
  The gated ConvFFN's forward pass at the second layer: the weights copied in at the first point. The down projection's come as eight slabs
  of rows, the up projection's in one piece; both from the layer the call is given.
-/
module

public import proofs.«01_k».proof.Proof.FiAt
public import Idealize.ShloMosaic.Lib.Pipeline.ValueKit
public import Idealize.ShloMosaic.Lib.Pipeline.ReadBack
public import Idealize.ShloMosaic.Lib.ValueLayout

@[expose] public section

set_option maxRecDepth 16384

noncomputable section

namespace Cert.JKernelIdeal.Val

open Cert.JKernelIdeal Cert.JKernelIdeal.Gen Cert.Ff Cert.Fh
open Cert.FKernelIdeal.Val (ix2_of)
open Cert.HKernelIdeal.Val (canon_up)
open Idealize.ShloMosaic Idealize.ShloMosaic.TcCoe Idealize.SL.Sem

variable (m : (ℓ : Loc nD τ sig) → Buf (Elt Ideal) ℓ) (c : Dev nD)

/-- One slab of the down projection's weights, as it lies in the argument. -/
abbrev slabOf (p : ℕ) (h : ∀ k, (![p, 1, 0, 0] : Fin 4 → ℕ) k + ![1, 1, 352, 1024] k ≤ S8x2x352x1024.size k) :
    FVec Ideal S352x1024 .bf16 :=
  ReadAs.same.apply (View.read (Elt Ideal)
    (((View.whole main_arg3).slice (Rect.unit ![p, 1, 0, 0] ![1, 1, 352, 1024] h)).reshape S352x1024
      squeezes_S1x1x352x1024_S352x1024.numel_eq) (V m c main_arg3))

/-- The slab stored at its rows. -/
abbrev slabPiece (p o : ℕ) (h : ∀ k, (![p, 1, 0, 0] : Fin 4 → ℕ) k + ![1, 1, 352, 1024] k ≤ S8x2x352x1024.size k)
    (h' : ∀ k, (![o, 0] : Fin 2 → ℕ) k + ![352, 1024] k ≤ S2816x1024.size k) : View.Piece (Elt Ideal) S2816x1024 .bf16 :=
  ⟨Rect.unit (s := S2816x1024) ![o, 0] ![352, 1024] h', slabOf m c p h⟩

abbrev slabs : List (View.Piece (Elt Ideal) S2816x1024 .bf16) :=
  [slabPiece m c 7 2464 inb_S8x2x352x1024_S1x1x352x1024_7_1_0_0 inb_S2816x1024_S352x1024_2464_0,
    slabPiece m c 6 2112 inb_S8x2x352x1024_S1x1x352x1024_6_1_0_0 inb_S2816x1024_S352x1024_2112_0,
    slabPiece m c 5 1760 inb_S8x2x352x1024_S1x1x352x1024_5_1_0_0 inb_S2816x1024_S352x1024_1760_0,
    slabPiece m c 4 1408 inb_S8x2x352x1024_S1x1x352x1024_4_1_0_0 inb_S2816x1024_S352x1024_1408_0,
    slabPiece m c 3 1056 inb_S8x2x352x1024_S1x1x352x1024_3_1_0_0 inb_S2816x1024_S352x1024_1056_0,
    slabPiece m c 2 704 inb_S8x2x352x1024_S1x1x352x1024_2_1_0_0 inb_S2816x1024_S352x1024_704_0,
    slabPiece m c 1 352 inb_S8x2x352x1024_S1x1x352x1024_1_1_0_0 inb_S2816x1024_S352x1024_352_0,
    slabPiece m c 0 0 inb_S8x2x352x1024_S1x1x352x1024_0_1_0_0 inb_S2816x1024_S352x1024_0_0]

theorem slabOf_apply (p : ℕ) (hp : p < 8) (h) (r : Fin 352) (k : W) (f : H) (hf : f.val = 352 * p + r.val) :
    slabOf m c p h (ix2 r k) = kWD m c f k := by
  show (m ((c : Thread nD τ).loc main_arg3) : FVec Ideal S8x2x352x1024 .bf16)
    ((Rect.unit (s := S8x2x352x1024) ![p, 1, 0, 0] ![1, 1, 352, 1024] h).emb
      (Shape.reshapeEquiv squeezes_S1x1x352x1024_S352x1024.numel_eq (ix2 r k))) = _
  have e : Shape.reshapeEquiv squeezes_S1x1x352x1024_S352x1024.numel_eq (ix2 r k) = ix4 (0 : Fin 1) (0 : Fin 1) r k :=
    ValueIdx.reshapeEquiv_ix2_11ab (a := 352) (b := 1024) _ r k
  rw [e]
  refine congrArg _ (funext fun j => Fin.ext ?_)
  fin_cases j
  · show p + 1 * 0 = f.val / 352; omega
  · rfl
  · show 0 + 1 * r.val = f.val % 352; omega
  · show 0 + 1 * k.val = k.val; omega

theorem slabs_apply (f : H) (k : W) : View.canon (slabs m c) (ix2 f k) = kWD m c f k := by
  canon_tiles x h
  all_goals
    obtain ⟨a, b, rfl⟩ := ix2_of x
    obtain rfl : k = b := Fin.ext (by simpa using h1)
    first
    | exact slabOf_apply m c _ (by omega) _ a k f h0
    | exact slabOf_apply m c 0 (by omega) _ a k f (by have e : f.val = a.val := h0; omega)

/-- Half of the weights copied in at the first point, as the body reads it: the rows from `o` on. -/
abbrev wd (o : ℕ) (h : ∀ k, (![o, 0] : Fin 2 → ℕ) k + ![1408, 1024] k ≤ S2816x1024.size k) : FVec Ideal S1408x1024 .bf16 :=
  (View.whole cc0_scratch1).readCov (slabs m c) (Rect.unit (s := S2816x1024) ![o, 0] ![1408, 1024] h).toLoadRect
theorem wd_eq (o : ℕ) (h) (q : Q) (f : H) (hf : f.val = o + q.val) (k : W) : wd m c o h (ix2 q k) = kWD m c f k := by
  rw [← slabs_apply]
  show (View.whole cc0_scratch1).readCov (slabs m c) _ _ = _
  rw [View.readCov_eq_canon']
  refine congrArg (View.canon (slabs m c)) (funext fun j => Fin.ext ?_)
  fin_cases j
  · show o + 1 * q.val = f.val; omega
  · show 0 + 1 * k.val = k.val; omega

/-- The up projection's weights. -/
abbrev upOf : FVec Ideal S1024x5632 .bf16 :=
  ReadAs.same.apply (View.read (Elt Ideal)
    (((View.whole main_arg1).slice (Rect.unit ![1, 0, 0] ![1, 1024, 5632] inb_S2x1024x5632_S1x1024x5632_1_0_0)).reshape S1024x5632
      squeezes_S1x1024x5632_S1024x5632.numel_eq) (V m c main_arg1))
abbrev ups : List (View.Piece (Elt Ideal) S1024x5632 .bf16) := [⟨Rect.whole S1024x5632, upOf m c⟩]

theorem upOf_apply (k : W) (q : U) : upOf m c (ix2 k q) = kWU m c k q := by
  show (m ((c : Thread nD τ).loc main_arg1) : FVec Ideal S2x1024x5632 .bf16)
    ((Rect.unit (s := S2x1024x5632) ![1, 0, 0] ![1, 1024, 5632] inb_S2x1024x5632_S1x1024x5632_1_0_0).emb
      (Shape.reshapeEquiv squeezes_S1x1024x5632_S1024x5632.numel_eq (ix2 k q))) = _
  have e : Shape.reshapeEquiv squeezes_S1x1024x5632_S1024x5632.numel_eq (ix2 k q) = ix3 (0 : Fin 1) k q :=
    ValueIdx.reshapeEquiv_ix2_1ab (a := 1024) (b := 5632) _ k q
  rw [e]
  refine congrArg _ (funext fun j => Fin.ext ?_)
  fin_cases j
  · rfl
  · show 0 + 1 * k.val = k.val; omega
  · show 0 + 1 * q.val = q.val; omega

theorem ups_apply (k : W) (q : U) : View.canon (ups m c) (ix2 k q) = kWU m c k q := by
  rw [ups, canon_up]
  exact upOf_apply m c k q

/-- A quarter of the weights, as the body reads it: the columns from `o` on. -/
abbrev wu (o : ℕ) (h : ∀ k, (![0, o] : Fin 2 → ℕ) k + ![1024, 1408] k ≤ S1024x5632.size k) : FVec Ideal S1024x1408 .bf16 :=
  (View.whole cc0_scratch0).readCov (ups m c) (Rect.unit (s := S1024x5632) ![0, o] ![1024, 1408] h).toLoadRect
theorem wu_eq (o : ℕ) (h) (q : Q) (f : U) (hf : f.val = o + q.val) (k : W) : wu m c o h (ix2 k q) = kWU m c k f := by
  rw [← ups_apply]
  show (View.whole cc0_scratch0).readCov (ups m c) _ _ = _
  rw [View.readCov_eq_canon']
  refine congrArg (View.canon (ups m c)) (funext fun j => Fin.ext ?_)
  fin_cases j
  · show 0 + 1 * k.val = k.val; omega
  · show o + 1 * q.val = f.val; omega

end Cert.JKernelIdeal.Val

end
-- ==== Proof.FiLeft.lean ====
/-
  The gated ConvFFN's forward pass at the second layer: what each grid point leaves behind, by induction on the point.
-/
module

public import proofs.«01_k».proof.Proof.FiCopy

@[expose] public section

set_option maxRecDepth 16384

noncomputable section

namespace Cert.JKernelIdeal.Val

open Cert.JKernelIdeal Cert.JKernelIdeal.Gen Cert.Ff Cert.Fh
open Cert.FKernelIdeal.Val (row ix2_of)
open Cert.HKernelIdeal.Val (lu ldn lc lu_apply ldn_apply lc_apply pay3 prev)
open Idealize.ShloMosaic Idealize.ShloMosaic.TcCoe Idealize.SL.Sem

variable (m : (ℓ : Loc nD τ sig) → Buf (Elt Ideal) ℓ) (c : Dev nD)

/-- What a point hands to the next one: the weights, and the last eight rows of what the convolution takes. -/
structure Left (n : ℕ) (hn : n < cfg0.N) : Prop where
  s0 : ∀ k q, ((outsAt0 m c n hn).2.2.2.2.1 : FVec Ideal S1024x5632 .bf16) (ix2 k q) = kWU m c k q
  s1 : ∀ f k, ((outsAt0 m c n hn).2.2.2.2.2.1 : FVec Ideal S2816x1024 .bf16) (ix2 f k) = kWD m c f k
  s2 : ∀ (a : Fin 8) (f : H), ((outsAt0 m c n hn).2.2.2.2.2.2 : FVec Ideal S8x2816 .f32) (ix2 a f)
    = up (kX m c) (kWU m c) ⟨256 * n + 248 + a.val, by have := lt33 ⟨n, hn⟩; simp only at this; omega⟩ (u0 f)

/-- A point's rows of the four results. -/
structure Rows (t : Fin cfg0.N) : Prop where
  up : ∀ r q, ((outsAt0 m c t.val t.isLt).1 : FVec Ideal S256x5632 .f32) (ix2 r q)
    = Fh.up (kX m c) (kWU m c) (row (bk t) r) q
  act : ∀ r f, ((outsAt0 m c t.val t.isLt).2.1 : FVec Ideal S256x2816 .bf16) (ix2 r f)
    = Fh.act (kX m c) (kWU m c) (kCW m c) (row (bk t) r) f
  pre : ∀ r k, ((outsAt0 m c t.val t.isLt).2.2.1 : FVec Ideal S256x1024 .f32) (ix2 r k)
    = Fh.pre (kX m c) (kWU m c) (kCW m c) (kWD m c) (row (bk t) r) k
  out : ∀ r k, ((outsAt0 m c t.val t.isLt).2.2.2.1 : FVec Ideal S256x1024 .f32) (ix2 r k)
    = Fh.out (kX m c) (kWU m c) (kCW m c) (kWD m c) (kG m c) (kB m c) (row (bk t) r) k

variable (t : Fin cfg0.N)

theorem rest_lt (h : ¬ t.val % 33 = 0) : t.val - 1 < cfg0.N := by omega

/-! ## Later points -/

theorem prevB (h : ¬ t.val % 33 = 0) (L : Left m c (t.val - 1) (rest_lt t h)) (a : Fin 8) (f : H) :
    ((outsAt0 m c (t.val - 1) (rest_lt t h)).2.2.2.2.2.2 : FVec Ideal S8x2816 .f32) (ix2 a f)
      = prev (up (kX m c) (kWU m c)) (bk t) a f := by
  have h1 := lt33 t
  rw [L.s2, prev, dif_pos (show 0 < (bk t).val from (by omega : 0 < t.val))]
  exact congrArg (up _ _ · _) (Fin.ext (by show 256 * (t.val - 1) + 248 + a.val = 256 * t.val - 8 + a.val; omega))

theorem atB (h : ¬ t.val % 33 = 0) (L : Left m c (t.val - 1) (rest_lt t h)) :
    Finds m c t (lu 0 inb_S1024x5632_S1024x1408_0_0 (outsAt0 m c (t.val - 1) (rest_lt t h)).2.2.2.2.1)
      (lu 1408 inb_S1024x5632_S1024x1408_0_1408 (outsAt0 m c (t.val - 1) (rest_lt t h)).2.2.2.2.1)
      (lu 2816 inb_S1024x5632_S1024x1408_0_2816 (outsAt0 m c (t.val - 1) (rest_lt t h)).2.2.2.2.1)
      (lu 4224 inb_S1024x5632_S1024x1408_0_4224 (outsAt0 m c (t.val - 1) (rest_lt t h)).2.2.2.2.1)
      (lc 0 inb_S8x2816_S8x1408_0_0 (outsAt0 m c (t.val - 1) (rest_lt t h)).2.2.2.2.2.2)
      (lc 1408 inb_S8x2816_S8x1408_0_1408 (outsAt0 m c (t.val - 1) (rest_lt t h)).2.2.2.2.2.2)
      (ldn 0 inb_S2816x1024_S1408x1024_0_0 (outsAt0 m c (t.val - 1) (rest_lt t h)).2.2.2.2.2.1)
      (ldn 1408 inb_S2816x1024_S1408x1024_1408_0 (outsAt0 m c (t.val - 1) (rest_lt t h)).2.2.2.2.2.1) :=
  at_of m c t (fun k q => (lu_apply 0 _ _ k q (u0 (lo q)) (by show q.val = 0 + q.val; omega)).trans (L.s0 _ _))
    (fun k q => (lu_apply 1408 _ _ k q (u0 (hi q)) rfl).trans (L.s0 _ _))
    (fun k q => (lu_apply 2816 _ _ k q (u1 (lo q)) rfl).trans (L.s0 _ _))
    (fun k q => (lu_apply 4224 _ _ k q (u1 (hi q)) (by show 2816 + (1408 + q.val) = _; omega)).trans (L.s0 _ _))
    (fun a q => (lc_apply 0 _ _ a q (lo q) (by show q.val = 0 + q.val; omega)).trans (prevB m c t h L a _))
    (fun a q => (lc_apply 1408 _ _ a q (hi q) rfl).trans (prevB m c t h L a _))
    (fun q k => (ldn_apply 0 _ _ q k (lo q) (by show q.val = 0 + q.val; omega)).trans (L.s1 _ _))
    (fun q k => (ldn_apply 1408 _ _ q k (hi q) rfl).trans (L.s1 _ _))

theorem rowsB (h : ¬ t.val % 33 = 0) (L : Left m c (t.val - 1) (rest_lt t h)) : Rows m c t := by
  constructor <;> intro r q <;> rw [outsAt0_B m c t h h] <;> unfold leavesB <;> frame_open <;> delta runB <;> frame_out
    <;> try simp only [read_unread_whole]
  · exact (atB m c t h L).up r q
  · exact (atB m c t h L).act r q
  · exact (atB m c t h L).pre r q
  · exact (atB m c t h L).out r q

theorem leftB (h : ¬ t.val % 33 = 0) (L : Left m c (t.val - 1) (rest_lt t h)) : Left m c t.val t.isLt := by
  constructor <;> intro a w <;> rw [outsAt0_B m c t h h] <;> unfold leavesB
  · exact L.s0 a w
  · exact L.s1 a w
  · frame_open; delta runB; frame_out
    try simp only [read_unread_whole]
    exact (atB m c t h L).rows [] a w

/-! ## The first point -/

theorem atA (h : t.val % 33 = 0) :
    Finds m c t (wu m c 0 inb_S1024x5632_S1024x1408_0_0) (wu m c 1408 inb_S1024x5632_S1024x1408_0_1408)
      (wu m c 2816 inb_S1024x5632_S1024x1408_0_2816) (wu m c 4224 inb_S1024x5632_S1024x1408_0_4224)
      (lc 0 inb_S8x2816_S8x1408_0_0 (k0_pay3 (F := Ideal))) (lc 1408 inb_S8x2816_S8x1408_0_1408 (k0_pay3 (F := Ideal)))
      (wd m c 0 inb_S2816x1024_S1408x1024_0_0) (wd m c 1408 inb_S2816x1024_S1408x1024_1408_0) := by
  have h1 := lt33 t
  have z : ∀ (a : Fin 8) (f : H), k0_pay3 (F := Ideal) (ix2 a f) = prev (up (kX m c) (kWU m c)) (bk t) a f := fun a f =>
    by
    rw [prev, dif_neg (show ¬ 0 < (bk t).val from (by omega : ¬ 0 < t.val))]
    exact pay3 a f
  exact at_of m c t (fun k q => wu_eq m c 0 _ q _ (by show q.val = 0 + q.val; omega) k)
    (fun k q => wu_eq m c 1408 _ q _ rfl k) (fun k q => wu_eq m c 2816 _ q _ rfl k)
    (fun k q => wu_eq m c 4224 _ q _ (by show 2816 + (1408 + q.val) = _; omega) k)
    (fun a q => (lc_apply 0 _ _ a q (lo q) (by show q.val = 0 + q.val; omega)).trans (z a _))
    (fun a q => (lc_apply 1408 _ _ a q (hi q) rfl).trans (z a _))
    (fun q k => wd_eq m c 0 _ q _ (by show q.val = 0 + q.val; omega) k) (fun q k => wd_eq m c 1408 _ q _ rfl k)

theorem rowsA (h : t.val % 33 = 0) : Rows m c t := by
  constructor <;> intro r q <;> rw [outsAt0_A m c t h h] <;> unfold leavesA <;> frame_open <;> delta runA <;> frame_out
    <;> try simp only [read_unread_whole]
  all_goals try simp (disch := decide) only [↓ View.readCov_skip (s := S8x2816), ↓ View.readCov_fill]
  · exact (atA m c t h).up r q
  · exact (atA m c t h).act r q
  · exact (atA m c t h).pre r q
  · exact (atA m c t h).out r q

theorem leftA (h : t.val % 33 = 0) : Left m c t.val t.isLt := by
  constructor <;> intro a w <;> rw [outsAt0_A m c t h h] <;> unfold leavesA <;> frame_open <;> delta runA <;> frame_out
  · exact ups_apply m c a w
  · exact slabs_apply m c a w
  · exact (atA m c t h).rows _ a w

/-! ## All points -/

theorem left : ∀ (n : ℕ) (hn : n < cfg0.N), Left m c n hn
  | 0, hn => leftA m c ⟨0, hn⟩ rfl
  | n + 1, hn => leftB m c ⟨n + 1, hn⟩ (by
      have : n + 1 < 33 := lt33 ⟨n + 1, hn⟩
      show ¬ (n + 1) % 33 = 0; omega) (left n (by omega))

theorem rows : Rows m c t := by
  by_cases h : t.val % 33 = 0
  · exact rowsA m c t h
  · exact rowsB m c t h (left m c _ _)

end Cert.JKernelIdeal.Val

end
-- ==== Proof.FiVal.lean ====
/-
  The gated ConvFFN's forward pass at the second layer: the four result arrays after the last grid point, and the run that leaves them.
-/
module

public import proofs.«01_k».proof.Proof.FiLeft
public import Idealize.ShloMosaic.Lib.Pipeline.ValueKit

@[expose] public section

set_option maxRecDepth 16384

noncomputable section

namespace Cert.JKernelIdeal.Val

open Cert.JKernelIdeal Cert.JKernelIdeal.Gen Cert.Ff Cert.Fh
open Cert.FKernelIdeal.Val (row ix2_of)
open Idealize.ShloMosaic Idealize.ShloMosaic.TcCoe Idealize.SL.Sem

variable (m : (ℓ : Loc nD τ sig) → Buf (Elt Ideal) ℓ) (c : Dev nD) (ρ : Dev nD → PrngReg)

/-- The results. -/
def rUp : FVec Ideal S8448x5632 .f32 := fun y => up (kX m c) (kWU m c) (y 0) (y 1)
def rAct : FVec Ideal S8448x2816 .bf16 := fun y => act (kX m c) (kWU m c) (kCW m c) (y 0) (y 1)
def rPre : FVec Ideal S8448x1024 .f32 := fun y => pre (kX m c) (kWU m c) (kCW m c) (kWD m c) (y 0) (y 1)
def rOut : FVec Ideal S8448x1024 .f32 := fun y =>
  out (kX m c) (kWU m c) (kCW m c) (kWD m c) (kG m c) (kB m c) (y 0) (y 1)

theorem arr4 : (dats m 0 c).arrAt 4 cfg0.N = rUp m c := by
  refine (dats m 0 c).arrAt_eq_of_covers 4 _ (by decide +kernel) fun t hf y => ?_
  obtain ⟨r, q, rfl⟩ := ix2_of y
  blk_simp
  rw [after0_4]
  refine ((rows m c t).up r q).trans ?_
  refine congrArg₂ (up _ _) (Fin.ext ?_) (Fin.ext ?_)
  · show 256 * t.val + r.val = _
    blk_simp [idx t]; omega
  · blk_simp [idx t]
theorem arr5 : (dats m 0 c).arrAt 5 cfg0.N = rAct m c := by
  refine (dats m 0 c).arrAt_eq_of_covers 5 _ (by decide +kernel) fun t hf y => ?_
  obtain ⟨r, q, rfl⟩ := ix2_of y
  blk_simp
  rw [after0_5]
  refine ((rows m c t).act r q).trans ?_
  refine congrArg₂ (act _ _ _) (Fin.ext ?_) (Fin.ext ?_)
  · show 256 * t.val + r.val = _
    blk_simp [idx t]; omega
  · blk_simp [idx t]
theorem arr6 : (dats m 0 c).arrAt 6 cfg0.N = rPre m c := by
  refine (dats m 0 c).arrAt_eq_of_covers 6 _ (by decide +kernel) fun t hf y => ?_
  obtain ⟨r, q, rfl⟩ := ix2_of y
  blk_simp
  rw [after0_6]
  refine ((rows m c t).pre r q).trans ?_
  refine congrArg₂ (pre _ _ _ _) (Fin.ext ?_) (Fin.ext ?_)
  · show 256 * t.val + r.val = _
    blk_simp [idx t]; omega
  · blk_simp [idx t]
theorem arr7 : (dats m 0 c).arrAt 7 cfg0.N = rOut m c := by
  refine (dats m 0 c).arrAt_eq_of_covers 7 _ (by decide +kernel) fun t hf y => ?_
  obtain ⟨r, q, rfl⟩ := ix2_of y
  blk_simp
  rw [after0_7]
  refine ((rows m c t).out r q).trans ?_
  refine congrArg₂ (out _ _ _ _ _ _) (Fin.ext ?_) (Fin.ext ?_)
  · show 256 * t.val + r.val = _
    blk_simp [idx t]; omega
  · blk_simp [idx t]

/-- The run with the results named. -/
theorem run : θ_run defs (onTc (τ := τ) (main (F := Ideal))) ⟨m, fun _ => 0, ρ⟩ fun r => ∀ c : Dev nD,
      r.2.mem ((c : Thread nD τ).loc main_v0_0) = rUp m c
      ∧ r.2.mem ((c : Thread nD τ).loc main_v0_1) = rAct m c
      ∧ r.2.mem ((c : Thread nD τ).loc main_v0_2) = rPre m c
      ∧ r.2.mem ((c : Thread nD τ).loc main_v0_3) = rOut m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨((h.1 c).1 4).trans (arr4 m c), ((h.1 c).1 5).trans (arr5 m c),
      ((h.1 c).1 6).trans (arr6 m c), ((h.1 c).1 7).trans (arr7 m c), h.2 c⟩)
    (θ_run_and (run_main m ρ) (unchanged m ρ))

end Cert.JKernelIdeal.Val

end
-- ==== Proof.FiRef.lean ====
/-
  The forward reference's four results at the second layer, read at an index: they are the functions of FhSpec.
-/
module

public import proofs.«01_k».proof.Proof.FhRef
public import proofs.«01_k».proof.Proof.Gen.JReferenceIdeal.Read
public import Idealize.ShloMosaic.Lib.Pointwise
public import Idealize.ShloMosaic.Lib.WordCmp

@[expose] public section

set_option maxRecDepth 16384

noncomputable section

namespace Cert.JReferenceIdeal.Spec

open Cert.JReferenceIdeal Cert.JReferenceIdeal.Gen Cert.JReferenceIdeal.Read Cert.Ff Cert.Fh
open Cert.HReferenceIdeal.Spec (sge_ofNat)
open Idealize.ShloMosaic Idealize.ShloMosaic.TcCoe Idealize.SL.Sem

variable (x0 : FVec Ideal S8448x1024 .f32) (x1 : FVec Ideal S2x1024x5632 .bf16) (x2 : FVec Ideal S3x2816 .f32)
  (x3 : FVec Ideal S8x2x352x1024 .bf16) (x4 x5 : FVec Ideal S1x1024 .f32)

/-- The arguments as functions of row and lane. -/
abbrev aX : R → W → EReal := fun r k => x0 (ix2 r k)
abbrev aWU : W → U → EReal := fun r k => x1 (ix3 (1 : Fin 2) r k)
abbrev aCW : Fin 3 → H → EReal := fun r k => x2 (ix2 r k)
abbrev aWD : H → W → EReal := fun f k =>
  x3 (ix4 (⟨f.val / 352, by omega⟩ : Fin 8) (1 : Fin 2) (⟨f.val % 352, by omega⟩ : Fin 352) k)
abbrev aG : W → EReal := fun k => x4 (ix2 (0 : Fin 1) k)
abbrev aB : W → EReal := fun k => x5 (ix2 (0 : Fin 1) k)
/-- The up projection of the arguments. -/
abbrev aUP : R → U → EReal := up (aX x0) (aWU x1)

/-- The up projection. -/
theorem v3 (r : R) (q : U) : val_main_v3 (F := Ideal) x0 x1 (ix2 r q) = aUP x0 x1 r q := by
  pointwise [val_main_v3, val_main_v2, val_main_v1, val_main_v0]
  rfl
theorem v4 (r : R) (f : H) : val_main_v4 (F := Ideal) x0 x1 (ix2 r f) = aUP x0 x1 r (u0 f) := by
  pointwise [val_main_v4]
  rw [v3]
theorem v5 (r : R) (f : H) : val_main_v5 (F := Ideal) x0 x1 (ix2 r f) = aUP x0 x1 r (u1 f) := by
  pointwise [val_main_v5]
  rw [v3]

/-- The convolution's input a number of rows earlier, cut out of the rows with two zero rows in front. -/
theorem v9 (r : R) (f : H) : val_main_v9 (F := Ideal) x0 x1 (ix2 r f) = back (aUP x0 x1) 2 r f := by
  pointwise [val_main_v9, val_main_v7, val_main_v6, val_main_cst]
  simp only [v4, back]
  by_cases h : r.val < 2
  · rw [dif_pos h, if_neg (by omega)]
  · rw [dif_neg h]
    exact (if_pos (show 2 ≤ r.val by omega)).symm

theorem v15 (r : R) (f : H) : val_main_v15 (F := Ideal) x0 x1 (ix2 r f) = back (aUP x0 x1) 1 r f := by
  pointwise [val_main_v15, val_main_v7, val_main_v6, val_main_cst]
  simp only [v4, back]
  by_cases h : 1 + r.val < 2
  · rw [dif_pos h, if_neg (by omega)]
  · rw [dif_neg h]
    refine Eq.trans ?_ (if_pos (show 1 ≤ r.val by omega)).symm
    exact congrArg (fun t => aUP x0 x1 t (u0 f)) (Fin.ext (by show 1 + r.val - 2 = r.val - 1; omega))

theorem v20 (r : R) (f : H) : val_main_v20 (F := Ideal) x0 x1 (ix2 r f) = aUP x0 x1 r (u0 f) := by
  pointwise [val_main_v20, val_main_v7, val_main_v6, val_main_cst]
  simp only [v4]

theorem v23 (r : R) (f : H) : val_main_v23 (F := Ideal) x0 x1 x2 (ix2 r f) = uu (aUP x0 x1) (aCW x2) r f := by
  pointwise [val_main_v23, val_main_v22, val_main_v21, val_main_v19, val_main_v18, val_main_v17, val_main_v16, val_main_v14,
    val_main_v13, val_main_v12, val_main_cst_0, val_main_v11, val_main_v10, val_main_v8]
  simp only [v9, v15, v20, zero_add]
  rfl

theorem sig (r : R) (f : H) : val_main_call0_v5 (F := Ideal) x0 x1 x2 (ix2 r f) = sg (uu (aUP x0 x1) (aCW x2) r f) := by
  pointwise [val_main_call0_v5, val_main_call0_v4, val_main_call0_cst_0, val_main_call0_v3, val_main_call0_v2,
    val_main_call0_cst, val_main_call0_v1, val_main_call0_v0]
  rw [v23, sg, zero_sub]

theorem v25 (r : R) (f : H) : val_main_v25 (F := Ideal) x0 x1 x2 (ix2 r f) = act (aX x0) (aWU x1) (aCW x2) r f := by
  pointwise [val_main_v25, val_main_v24]
  rw [sig, v23, v5]
  rfl
/-- The hidden layer's output. -/
theorem v34 (r : R) (f : H) : val_main_v34 (F := Ideal) x0 x1 x2 (ix2 r f) = act (aX x0) (aWU x1) (aCW x2) r f := by
  pointwise [val_main_v34]
  rw [v25]

theorem v31 (f : H) (k : W) : val_main_v31 (F := Ideal) x3 (ix2 f k) = aWD x3 f k := by
  pointwise [val_main_v31, val_main_v30, val_main_v29, val_main_v28]

/-- The rows before they are normalised. -/
theorem v33 (r : R) (k : W) :
    val_main_v33 (F := Ideal) x0 x1 x2 x3 (ix2 r k) = pre (aX x0) (aWU x1) (aCW x2) (aWD x3) r k := by
  pointwise [val_main_v33, val_main_v32, val_main_v27, val_main_v26, val_main_cst_1]
  simp only [v25, v31]
  rfl

theorem v38 (r : R) (z : Fin 1) : val_main_v38 (F := Ideal) x0 x1 x2 x3 (ix2 r z)
    = Ln.mean (pre (aX x0) (aWU x1) (aCW x2) (aWD x3) r) := by
  pointwise [val_main_v38, val_main_v37, val_main_cst_3, val_main_v36, val_main_v35, val_main_cst_2]
  simp only [v33]
  rfl
theorem v40 (r : R) (k : W) : val_main_v40 (F := Ideal) x0 x1 x2 x3 (ix2 r k)
    = Ln.cen (pre (aX x0) (aWU x1) (aCW x2) (aWD x3) r) k := by
  pointwise [val_main_v40, val_main_v39]
  rw [v38, v33]
  rfl
theorem v47 (r : R) (k : W) : val_main_v47 (F := Ideal) x0 x1 x2 x3 (ix2 r k)
    = Ln.cen (pre (aX x0) (aWU x1) (aCW x2) (aWD x3) r) k := by
  pointwise [val_main_v47, val_main_v46]
  rw [v38, v33]
  rfl
theorem v50 (r : R) (z : Fin 1) : val_main_v50 (F := Ideal) x0 x1 x2 x3 (ix2 r z)
    = Ln.rstd (pre (aX x0) (aWU x1) (aCW x2) (aWD x3) r) := by
  pointwise [val_main_v50, val_main_v49, val_main_v48, val_main_cst_6, val_main_v45, val_main_v44, val_main_cst_5,
    val_main_v43, val_main_v42, val_main_cst_4, val_main_v41]
  simp only [v40, zero_add]
  rfl
theorem v52 (r : R) (k : W) : val_main_v52 (F := Ideal) x0 x1 x2 x3 (ix2 r k)
    = Ln.xhat (pre (aX x0) (aWU x1) (aCW x2) (aWD x3) r) k := by
  pointwise [val_main_v52, val_main_v51]
  rw [v47, v50]
  rfl

/-- The normalised rows. -/
theorem v60 (r : R) (k : W) : val_main_v60 (F := Ideal) x0 x1 x2 x3 x4 x5 (ix2 r k)
    = out (aX x0) (aWU x1) (aCW x2) (aWD x3) (aG x4) (aB x5) r k := by
  pointwise [val_main_v60, val_main_v59, val_main_v58, val_main_v57, val_main_c, val_main_call1_v1, val_main_call1_v0,
    val_main_cst_7, val_main_v56, val_main_v55, val_main_v54, val_main_v53]
  rw [v52, sge_ofNat (by omega) (by omega)]
  unfold out
  split_ifs
  · rfl
  · rw [id_eq]; pointwise []

end Cert.JReferenceIdeal.Spec

end
-- ==== Proof.FiClaims.lean ====
/-
  The gated ConvFFN's forward pass at the second layer: the claims.
-/
module

public import proofs.«01_k».proof.Defs
public import proofs.«01_k».proof.Proof.Gen.JKernel
public import proofs.«01_k».proof.Proof.Gen.JKernelIdeal
public import proofs.«01_k».proof.Proof.Gen.JReferenceIdeal
public import proofs.«01_k».proof.Proof.FiRun
public import proofs.«01_k».proof.Proof.FiVal
public import proofs.«01_k».proof.Proof.FiRef

@[expose] public section

set_option maxRecDepth 16384

noncomputable section

namespace Cert.Proof.Fi

open Idealize.ShloMosaic Idealize.ShloMosaic.TcCoe Idealize.SL.Sem

open Cert.JKernelIdeal in
/-- The frame of the ideal program's text at the machine's words. -/
def FrameBits : Prop :=
  ∀ (m : (ℓ : Loc nD τ sig) → Buf (Elt Bits) ℓ) (g : Dev nD → PrngReg), True →
    θ_run (defs (F := Bits)) (onTc (τ := τ) (main (F := Bits))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0)
theorem frame_bits : FrameBits := fun m ρ _ => Cert.JKernelIdeal.Gen.frame (F := Bits) m ρ

/-- Kernel and ideal kernel are one text, so that this is the kernel's frame. -/
theorem frame_eq : FrameBits = Cert.quiescent_JKernel := by sl_kernel_rfl
theorem frame : Cert.quiescent_JKernel := frame_eq.mp frame_bits
theorem frame_ideal : Cert.quiescent_JKernelIdeal := fun m ρ _ => Cert.JKernelIdeal.Gen.frame m ρ

theorem frame_ref : Cert.quiescent_JReferenceIdeal := fun m ρ _ =>
  (θ_run Cert.JReferenceIdeal.defs _ _).mono (fun r h => ⟨fun c => (h c).2.2.2.2,
      Idealize.ShloMosaic.sem_eq_zero_of_no_sems (by decide) r.2⟩)
    (Cert.JReferenceIdeal.Value.run (F := Ideal) m ρ)

theorem preserves : Cert.preserves_JKernel_JKernelIdeal := trivial

open Cert.JReferenceIdeal Cert.JReferenceIdeal.Read in
theorem algebraic : Cert.algebraic_JKernelIdeal_JReferenceIdeal := by
  intro m ρ m' ρ' _ hag
  refine ⟨fun c => Cert.JKernelIdeal.Val.rUp m c, fun c => Cert.JKernelIdeal.Val.rAct m c, fun c => Cert.JKernelIdeal.Val.rPre m c,
    fun c => Cert.JKernelIdeal.Val.rOut m c, Cert.JKernelIdeal.Val.run m ρ, ?_⟩
  refine (θ_run Cert.JReferenceIdeal.defs _ _).mono (fun r h c => ?_) (Cert.JReferenceIdeal.Value.run (F := Ideal) m' ρ')
  obtain ⟨e0, e1, e2, e3, e4, e5⟩ := hag c
  replace h := h c
  rw [val_main_v3_eq, val_main_v34_eq, val_main_v33_eq, val_main_v60_eq] at h
  refine ⟨h.1.trans ?_, h.2.1.trans ?_, h.2.2.1.trans ?_, h.2.2.2.1.trans ?_, h.2.2.2.2⟩
  · rw [e0, e1]
    funext y
    obtain ⟨r, q, rfl⟩ := Cert.FKernelIdeal.Val.ix2_of y
    exact Cert.JReferenceIdeal.Spec.v3 _ _ r q
  · rw [e0, e1, e2]
    funext y
    obtain ⟨r, q, rfl⟩ := Cert.FKernelIdeal.Val.ix2_of y
    exact Cert.JReferenceIdeal.Spec.v34 _ _ _ r q
  · rw [e0, e1, e2, e3]
    funext y
    obtain ⟨r, q, rfl⟩ := Cert.FKernelIdeal.Val.ix2_of y
    exact Cert.JReferenceIdeal.Spec.v33 _ _ _ _ r q
  · rw [e0, e1, e2, e3, e4, e5]
    funext y
    obtain ⟨r, q, rfl⟩ := Cert.FKernelIdeal.Val.ix2_of y
    exact Cert.JReferenceIdeal.Spec.v60 _ _ _ _ _ _ r q

end Cert.Proof.Fi

end
-- ==== Proof.Dw.lean ====
/-
  A weight's gradient is a sum over the 8448 rows of the sequence. The calls add it up in eleven runs of 768 rows.
-/
module

public import Idealize.ShloMosaic.Lib.Pointwise
public import Mathlib.Algebra.BigOperators.Fin

@[expose] public section

namespace Cert.Dw

/-- Row `r` of run `s`. -/
abbrev row (s : ℕ) (r : Fin 768) : Fin 8448 := ⟨(768 * s + r.val) % 8448, Nat.mod_lt _ (by omega)⟩

/-- Eleven runs of 768 rows are all the rows. -/
theorem runs {β : Type} [AddCommMonoid β] (f : Fin 8448 → β) :
    (∑ s ∈ Finset.range 11, ∑ r : Fin 768, f (row s r)) = ∑ k, f k := by
  rw [← Fin.sum_univ_eq_sum_range (fun s => ∑ r : Fin 768, f (row s r)) 11, ← Finset.sum_product']
  refine Finset.sum_bij' (i := fun p _ => row p.1.val p.2)
    (j := fun r _ => ((⟨r.val / 768, by omega⟩ : Fin 11), (⟨r.val % 768, by omega⟩ : Fin 768))) ?_ ?_ ?_ ?_ ?_
  · intro p _; exact Finset.mem_univ _
  · intro r _; exact Finset.mem_univ _
  · intro p _
    refine Prod.ext (Fin.ext ?_) (Fin.ext ?_)
    · show (768 * p.1.val + p.2.val) % 8448 / 768 = p.1.val; omega
    · show (768 * p.1.val + p.2.val) % 8448 % 768 = p.2.val; omega
  · intro r _
    refine Fin.ext ?_
    show (768 * (r.val / 768) + r.val % 768) % 8448 = r.val; omega
  · intro p _; rfl

end Cert.Dw
-- ==== Proof.DwD.lean ====
/-
  The gradient of the feed-forward network's second weight: the block of it that a run of grid points leaves is the
  product of the activations and the gradient over all rows of the sequence.
-/
module

public import proofs.«01_k».proof.Proof.Dw
public import proofs.«01_k».proof.Proof.Gen.DKernelIdeal.Value
public import Idealize.ShloMosaic.Lib.Pointwise
public import Idealize.ShloMosaic.Lib.Pipeline.ReadBack
public import Idealize.ShloMosaic.Lib.Pipeline.ValueKit

@[expose] public section

set_option maxRecDepth 16384

noncomputable section

namespace Cert.DKernelIdeal.Val

open Cert.DKernelIdeal Cert.DKernelIdeal.Gen Cert.DKernelIdeal.Value Cert.Dw
open Idealize.ShloMosaic Idealize.ShloMosaic.TcCoe Idealize.SL.Sem

variable (m : (ℓ : Loc nD τ sig) → Buf (Elt Ideal) ℓ) (c : Dev nD)

/-- The two factors as functions of row and lane. -/
abbrev kX : Fin 8448 → Fin 2816 → EReal := fun r k => (m ((c : Thread nD τ).loc main_arg0) : FVec Ideal S8448x2816 .bf16) (ix2 r k)
abbrev kY : Fin 8448 → Fin 1024 → EReal := fun r k => (m ((c : Thread nD τ).loc main_arg1) : FVec Ideal S8448x1024 .f32) (ix2 r k)

theorem zero (a : Fin 2816) (w : Fin 512) : k0_pay1 (F := Ideal) (ix2 a w) = 0 := by pointwise [k0_pay1]
theorem add (acc : FVec Ideal S2816x512 .f32) (x : FVec Ideal S768x2816 .bf16) (y : FVec Ideal S768x512 .f32)
    (a : Fin 2816) (w : Fin 512) :
    k0_pay2 (F := Ideal) acc x y (ix2 a w) = acc (ix2 a w) + ∑ r : Fin 768, x (ix2 r a) * y (ix2 r w) := by
  pointwise [k0_pay2]

theorem idx : ∀ t : Fin cfg0.N, win0_0.index t = ![t.val % 11, 0] ∧ win0_1.index t = ![t.val % 11, t.val / 11] :=
  (by decide +kernel : ∀ t : Fin grid0.N, _)

theorem lt (t : Fin cfg0.N) : t.val < 22 := lt_of_lt_of_eq t.isLt N_0

/-- Lane `w` of the block that run `q` makes. -/
abbrev lane (q : ℕ) (w : Fin 512) : Fin 1024 := ⟨(512 * q + w.val) % 1024, Nat.mod_lt _ (by omega)⟩

theorem in0 (t : Fin cfg0.N) (r : Fin 768) (a : Fin 2816) :
    (iblk m c 0 t : FVec Ideal S768x2816 .bf16) (ix2 r a) = kX m c (row (t.val % 11) r) a := by
  have := lt t
  blk_ext [iblk, V, idx t]
theorem in1 (t : Fin cfg0.N) (r : Fin 768) (w : Fin 512) :
    (iblk m c 1 t : FVec Ideal S768x512 .f32) (ix2 r w) = kY m c (row (t.val % 11) r) (lane (t.val / 11) w) := by
  have := lt t
  blk_ext [iblk, V, idx t]

/-- What grid point `n` adds. -/
def part (n : ℕ) : S2816x512.Idx → EReal := fun y =>
  ∑ r : Fin 768, kX m c (row (n % 11) r) (y 0) * kY m c (row (n % 11) r) (lane (n / 11) (y 1))

theorem ix2_of (y : S2816x512.Idx) : ∃ (a : Fin 2816) (w : Fin 512), y = ix2 a w :=
  ⟨y 0, y 1, funext fun a => by fin_cases a <;> rfl⟩

theorem first (n : ℕ) (h : n < cfg0.N) (y : S2816x512.Idx) : reset2 m c n h y = 0 + part m c n y := by
  obtain ⟨a, w, rfl⟩ := ix2_of y
  unfold reset2 part
  rw [add, zero]
  exact congrArg (0 + ·) (Finset.sum_congr rfl fun r _ => by rw [in0, in1]; rfl)

theorem later (n : ℕ) (h : n < cfg0.N) (acc : S2816x512.Idx → EReal) (y : S2816x512.Idx) :
    step2 m c n h acc y = acc y + part m c n y := by
  obtain ⟨a, w, rfl⟩ := ix2_of y
  unfold step2 part
  rw [add]
  exact congrArg (acc (ix2 a w) + ·) (Finset.sum_congr rfl fun r _ => by rw [in0, in1]; rfl)

/-- The array after the run, at a row and a lane. -/
theorem G2_at (a : Fin 2816) (w : Fin 1024) :
    (G2 m c : FVec Ideal S2816x1024 .f32) (ix2 a w) = ∑ k, kX m c k a * kY m c k w := by
  have hr : run2Of (ix2 a w : S2816x1024.Idx) = w.val / 512 := by
    show 2 * (a.val / 2816 - 0) + 1 * (w.val / 512 - 0) = w.val / 512; omega
  have hn : 11 * run2Of (ix2 a w : S2816x1024.Idx) + 10 < cfg0.N := by
    rw [hr, show cfg0.N = 22 from N_0]; omega
  have key := Pipeline.accAt_add_apply (ι := S2816x512.Idx) (β := EReal) (reset2 m c) (step2 m c) (fun _ => 0) (part m c) _ 10
    (fun h y => first m c _ h y) (fun n h acc y _ _ => later m c n h acc y) 10 le_rfl hn (loc2Of (ix2 a w))
  refine (dif_pos hn).trans (key.trans ?_)
  rw [zero_add, ← runs (fun k => kX m c k a * kY m c k w)]
  refine Finset.sum_congr rfl fun s hs => ?_
  have hs : s < 11 := Finset.mem_range.mp hs
  unfold part
  rw [hr]
  refine Finset.sum_congr rfl fun r _ => ?_
  have e1 : (11 * (w.val / 512) + s) % 11 = s := by omega
  have e2 : (11 * (w.val / 512) + s) / 11 = w.val / 512 := by omega
  rw [e1, e2]
  refine congrArg₂ (· * ·) (congrArg (kX m c (row s r)) (Fin.ext ?_)) (congrArg (kY m c (row s r)) (Fin.ext ?_))
  · show a.val % 2816 = a.val; omega
  · show (512 * (w.val / 512) + w.val % 512) % 1024 = w.val; omega

end Cert.DKernelIdeal.Val

end
-- ==== Proof.DwDClaims.lean ====
/-
  The gradient of the feed-forward network's second weight: the claims.
-/
module

public import proofs.«01_k».proof.Defs
public import proofs.«01_k».proof.Proof.Gen.DKernel
public import proofs.«01_k».proof.Proof.Gen.DReferenceIdeal.Read
public import proofs.«01_k».proof.Proof.Gen.DReferenceIdeal.Run
public import proofs.«01_k».proof.Proof.DwD

@[expose] public section

set_option maxRecDepth 16384

noncomputable section

namespace Cert.Proof.DwD

open Idealize.ShloMosaic Idealize.ShloMosaic.TcCoe Idealize.SL.Sem

theorem frame_ideal : Cert.quiescent_DKernelIdeal := fun m ρ _ => Cert.DKernelIdeal.Gen.frame m ρ

/-- The frame of the ideal program's text at the machine's words. -/
def FrameBits : Prop :=
  ∀ (m : (ℓ : Loc Cert.DKernelIdeal.nD Cert.DKernelIdeal.τ Cert.DKernelIdeal.sig) → Buf (Elt Bits) ℓ) (g : Dev Cert.DKernelIdeal.nD → PrngReg), True →
    θ_run (Cert.DKernelIdeal.defs (F := Bits)) (onTc (τ := Cert.DKernelIdeal.τ) (Cert.DKernelIdeal.main (F := Bits))) ⟨m, fun _ => 0, g⟩ (fun r => (∀ c : Dev Cert.DKernelIdeal.nD,
      r.2.mem ((c.tc : Thread Cert.DKernelIdeal.nD Cert.DKernelIdeal.τ).loc Cert.DKernelIdeal.main_arg0) = m ((c.tc : Thread Cert.DKernelIdeal.nD Cert.DKernelIdeal.τ).loc Cert.DKernelIdeal.main_arg0)
      ∧ r.2.mem ((c.tc : Thread Cert.DKernelIdeal.nD Cert.DKernelIdeal.τ).loc Cert.DKernelIdeal.main_arg1) = m ((c.tc : Thread Cert.DKernelIdeal.nD Cert.DKernelIdeal.τ).loc Cert.DKernelIdeal.main_arg1))
      ∧ r.2.sem = fun _ => 0)
theorem frame_bits : FrameBits := fun m ρ _ => Cert.DKernelIdeal.Gen.frame (F := Bits) m ρ

/-- Kernel and ideal kernel are one text, so that this is the kernel's frame. -/
theorem frame_eq : FrameBits = Cert.quiescent_DKernel := by sl_kernel_rfl
theorem frame : Cert.quiescent_DKernel := frame_eq.mp frame_bits

theorem frame_ref : Cert.quiescent_DReferenceIdeal := fun m ρ _ =>
  (θ_run Cert.DReferenceIdeal.defs _ _).mono (fun r h => ⟨fun c => (h c).2,
      Idealize.ShloMosaic.sem_eq_zero_of_no_sems (by decide) r.2⟩)
    (Cert.DReferenceIdeal.Value.run (F := Ideal) m ρ)

theorem preserves : Cert.preserves_DKernel_DKernelIdeal := trivial

open Cert.DReferenceIdeal Cert.DReferenceIdeal.Read in
/-- The reference's gradient at a row and a lane. -/
theorem ref_at (x : FVec Ideal S8448x2816 .bf16) (y : FVec Ideal S8448x1024 .f32) (a : Fin 2816) (w : Fin 1024) :
    val_main_v4 (F := Ideal) x y (ix2 a w) = ∑ k : Fin 8448, (x (ix2 k a) : EReal) * y (ix2 k w) := by
  rw [val_main_v4_apply, val_main_v3_apply]
  refine Finset.sum_congr rfl fun k _ => (mul_comm _ _).trans ?_
  have e1 : (fun d => match d with | ⟨0, _⟩ => ⟨k.val, k.isLt⟩ | ⟨1, _⟩ => ⟨a.val, a.isLt⟩ : S8448x2816.Idx) = ix2 k a :=
    funext fun d => by fin_cases d <;> rfl
  have e2 : (fun d => match d with | ⟨0, _⟩ => ⟨k.val, k.isLt⟩ | ⟨1, _⟩ => ⟨w.val, w.isLt⟩ : S8448x1024.Idx) = ix2 k w :=
    funext fun d => by fin_cases d <;> rfl
  rw [← e1, ← e2]
  rfl

open Cert.DReferenceIdeal Cert.DReferenceIdeal.Read in
theorem algebraic : Cert.algebraic_DKernelIdeal_DReferenceIdeal := by
  intro m ρ m' ρ' _ hag
  refine ⟨fun c => Cert.DKernelIdeal.Value.G2 m c, Cert.DKernelIdeal.Value.run m ρ, ?_⟩
  refine (θ_run Cert.DReferenceIdeal.defs _ _).mono (fun r h c => ?_) (Cert.DReferenceIdeal.Value.run (F := Ideal) m' ρ')
  obtain ⟨e0, e1⟩ := hag c
  have h := h c
  rw [val_main_v4_eq] at h
  refine ⟨h.1.trans ?_, h.2⟩
  rw [e0, e1]
  funext y
  obtain ⟨a, w, rfl⟩ : ∃ (a : Fin 2816) (w : Fin 1024), y = ix2 a w := ⟨y 0, y 1, funext fun a => by fin_cases a <;> rfl⟩
  exact (ref_at _ _ a w).trans (Cert.DKernelIdeal.Val.G2_at m c a w).symm

end Cert.Proof.DwD

end
-- ==== Proof.DwU.lean ====
/-
  The gradient of the feed-forward network's first weight: the block of it that a run of grid points leaves is the
  product of the normalised inputs and the gradient over all rows of the sequence.
-/
module

public import proofs.«01_k».proof.Proof.Dw
public import proofs.«01_k».proof.Proof.Gen.UKernelIdeal.Value
public import Idealize.ShloMosaic.Lib.Pointwise
public import Idealize.ShloMosaic.Lib.Pipeline.ReadBack
public import Idealize.ShloMosaic.Lib.Pipeline.ValueKit

@[expose] public section

set_option maxRecDepth 16384

noncomputable section

namespace Cert.UKernelIdeal.Val

open Cert.UKernelIdeal Cert.UKernelIdeal.Gen Cert.UKernelIdeal.Value Cert.Dw
open Idealize.ShloMosaic Idealize.ShloMosaic.TcCoe Idealize.SL.Sem

variable (m : (ℓ : Loc nD τ sig) → Buf (Elt Ideal) ℓ) (c : Dev nD)

/-- The two factors as functions of row and lane. -/
abbrev kX : Fin 8448 → Fin 1024 → EReal := fun r k => (m ((c : Thread nD τ).loc main_arg0) : FVec Ideal S8448x1024 .f32) (ix2 r k)
abbrev kY : Fin 8448 → Fin 5632 → EReal := fun r k => (m ((c : Thread nD τ).loc main_arg1) : FVec Ideal S8448x5632 .bf16) (ix2 r k)

theorem zero (a : Fin 1024) (w : Fin 1408) : k0_pay1 (F := Ideal) (ix2 a w) = 0 := by pointwise [k0_pay1]
theorem add (acc : FVec Ideal S1024x1408 .f32) (x : FVec Ideal S768x1024 .f32) (y : FVec Ideal S768x1408 .bf16)
    (a : Fin 1024) (w : Fin 1408) :
    k0_pay2 (F := Ideal) acc x y (ix2 a w) = acc (ix2 a w) + ∑ r : Fin 768, x (ix2 r a) * y (ix2 r w) := by
  pointwise [k0_pay2]

theorem idx : ∀ t : Fin cfg0.N, win0_0.index t = ![t.val % 11, 0] ∧ win0_1.index t = ![t.val % 11, t.val / 11] :=
  (by decide +kernel : ∀ t : Fin grid0.N, _)

theorem lt (t : Fin cfg0.N) : t.val < 44 := lt_of_lt_of_eq t.isLt N_0

/-- Lane `w` of the block that run `q` makes. -/
abbrev lane (q : ℕ) (w : Fin 1408) : Fin 5632 := ⟨(1408 * q + w.val) % 5632, Nat.mod_lt _ (by omega)⟩

theorem in0 (t : Fin cfg0.N) (r : Fin 768) (a : Fin 1024) :
    (iblk m c 0 t : FVec Ideal S768x1024 .f32) (ix2 r a) = kX m c (row (t.val % 11) r) a := by
  have := lt t
  blk_ext [iblk, V, idx t]
theorem in1 (t : Fin cfg0.N) (r : Fin 768) (w : Fin 1408) :
    (iblk m c 1 t : FVec Ideal S768x1408 .bf16) (ix2 r w) = kY m c (row (t.val % 11) r) (lane (t.val / 11) w) := by
  have := lt t
  blk_ext [iblk, V, idx t]

/-- What grid point `n` adds. -/
def part (n : ℕ) : S1024x1408.Idx → EReal := fun y =>
  ∑ r : Fin 768, kX m c (row (n % 11) r) (y 0) * kY m c (row (n % 11) r) (lane (n / 11) (y 1))

theorem ix2_of (y : S1024x1408.Idx) : ∃ (a : Fin 1024) (w : Fin 1408), y = ix2 a w :=
  ⟨y 0, y 1, funext fun a => by fin_cases a <;> rfl⟩

theorem first (n : ℕ) (h : n < cfg0.N) (y : S1024x1408.Idx) : reset2 m c n h y = 0 + part m c n y := by
  obtain ⟨a, w, rfl⟩ := ix2_of y
  unfold reset2 part
  rw [add, zero]
  exact congrArg (0 + ·) (Finset.sum_congr rfl fun r _ => by rw [in0, in1]; rfl)

theorem later (n : ℕ) (h : n < cfg0.N) (acc : S1024x1408.Idx → EReal) (y : S1024x1408.Idx) :
    step2 m c n h acc y = acc y + part m c n y := by
  obtain ⟨a, w, rfl⟩ := ix2_of y
  unfold step2 part
  rw [add]
  exact congrArg (acc (ix2 a w) + ·) (Finset.sum_congr rfl fun r _ => by rw [in0, in1]; rfl)

/-- The array after the run, at a row and a lane. -/
theorem G2_at (a : Fin 1024) (w : Fin 5632) :
    (G2 m c : FVec Ideal S1024x5632 .f32) (ix2 a w) = ∑ k, kX m c k a * kY m c k w := by
  have hr : run2Of (ix2 a w : S1024x5632.Idx) = w.val / 1408 := by
    show 4 * (a.val / 1024 - 0) + 1 * (w.val / 1408 - 0) = w.val / 1408; omega
  have hn : 11 * run2Of (ix2 a w : S1024x5632.Idx) + 10 < cfg0.N := by
    rw [hr, show cfg0.N = 44 from N_0]; omega
  have key := Pipeline.accAt_add_apply (ι := S1024x1408.Idx) (β := EReal) (reset2 m c) (step2 m c) (fun _ => 0) (part m c) _ 10
    (fun h y => first m c _ h y) (fun n h acc y _ _ => later m c n h acc y) 10 le_rfl hn (loc2Of (ix2 a w))
  refine (dif_pos hn).trans (key.trans ?_)
  rw [zero_add, ← runs (fun k => kX m c k a * kY m c k w)]
  refine Finset.sum_congr rfl fun s hs => ?_
  have hs : s < 11 := Finset.mem_range.mp hs
  unfold part
  rw [hr]
  refine Finset.sum_congr rfl fun r _ => ?_
  have e1 : (11 * (w.val / 1408) + s) % 11 = s := by omega
  have e2 : (11 * (w.val / 1408) + s) / 11 = w.val / 1408 := by omega
  rw [e1, e2]
  refine congrArg₂ (· * ·) (congrArg (kX m c (row s r)) (Fin.ext ?_)) (congrArg (kY m c (row s r)) (Fin.ext ?_))
  · show a.val % 1024 = a.val; omega
  · show (1408 * (w.val / 1408) + w.val % 1408) % 5632 = w.val; omega

end Cert.UKernelIdeal.Val

end
-- ==== Proof.DwUClaims.lean ====
/-
  The gradient of the feed-forward network's first weight: the claims.
-/
module

public import proofs.«01_k».proof.Defs
public import proofs.«01_k».proof.Proof.Gen.UKernel
public import proofs.«01_k».proof.Proof.Gen.UReferenceIdeal.Read
public import proofs.«01_k».proof.Proof.Gen.UReferenceIdeal.Run
public import proofs.«01_k».proof.Proof.DwU

@[expose] public section

set_option maxRecDepth 16384

noncomputable section

namespace Cert.Proof.DwU

open Idealize.ShloMosaic Idealize.ShloMosaic.TcCoe Idealize.SL.Sem

theorem frame_ideal : Cert.quiescent_UKernelIdeal := fun m ρ _ => Cert.UKernelIdeal.Gen.frame m ρ

/-- The frame of the ideal program's text at the machine's words. -/
def FrameBits : Prop :=
  ∀ (m : (ℓ : Loc Cert.UKernelIdeal.nD Cert.UKernelIdeal.τ Cert.UKernelIdeal.sig) → Buf (Elt Bits) ℓ) (g : Dev Cert.UKernelIdeal.nD → PrngReg), True →
    θ_run (Cert.UKernelIdeal.defs (F := Bits)) (onTc (τ := Cert.UKernelIdeal.τ) (Cert.UKernelIdeal.main (F := Bits))) ⟨m, fun _ => 0, g⟩ (fun r => (∀ c : Dev Cert.UKernelIdeal.nD,
      r.2.mem ((c.tc : Thread Cert.UKernelIdeal.nD Cert.UKernelIdeal.τ).loc Cert.UKernelIdeal.main_arg0) = m ((c.tc : Thread Cert.UKernelIdeal.nD Cert.UKernelIdeal.τ).loc Cert.UKernelIdeal.main_arg0)
      ∧ r.2.mem ((c.tc : Thread Cert.UKernelIdeal.nD Cert.UKernelIdeal.τ).loc Cert.UKernelIdeal.main_arg1) = m ((c.tc : Thread Cert.UKernelIdeal.nD Cert.UKernelIdeal.τ).loc Cert.UKernelIdeal.main_arg1))
      ∧ r.2.sem = fun _ => 0)
theorem frame_bits : FrameBits := fun m ρ _ => Cert.UKernelIdeal.Gen.frame (F := Bits) m ρ

/-- Kernel and ideal kernel are one text, so that this is the kernel's frame. -/
theorem frame_eq : FrameBits = Cert.quiescent_UKernel := by sl_kernel_rfl
theorem frame : Cert.quiescent_UKernel := frame_eq.mp frame_bits

theorem frame_ref : Cert.quiescent_UReferenceIdeal := fun m ρ _ =>
  (θ_run Cert.UReferenceIdeal.defs _ _).mono (fun r h => ⟨fun c => (h c).2,
      Idealize.ShloMosaic.sem_eq_zero_of_no_sems (by decide) r.2⟩)
    (Cert.UReferenceIdeal.Value.run (F := Ideal) m ρ)

theorem preserves : Cert.preserves_UKernel_UKernelIdeal := trivial

open Cert.UReferenceIdeal Cert.UReferenceIdeal.Read in
/-- The reference's gradient at a row and a lane. -/
theorem ref_at (x : FVec Ideal S8448x1024 .f32) (y : FVec Ideal S8448x5632 .bf16) (a : Fin 1024) (w : Fin 5632) :
    val_main_v4 (F := Ideal) x y (ix2 a w) = ∑ k : Fin 8448, (x (ix2 k a) : EReal) * y (ix2 k w) := by
  rw [val_main_v4_apply, val_main_v3_apply]
  refine Finset.sum_congr rfl fun k _ => (mul_comm _ _).trans ?_
  have e1 : (fun d => match d with | ⟨0, _⟩ => ⟨k.val, k.isLt⟩ | ⟨1, _⟩ => ⟨a.val, a.isLt⟩ : S8448x1024.Idx) = ix2 k a :=
    funext fun d => by fin_cases d <;> rfl
  have e2 : (fun d => match d with | ⟨0, _⟩ => ⟨k.val, k.isLt⟩ | ⟨1, _⟩ => ⟨w.val, w.isLt⟩ : S8448x5632.Idx) = ix2 k w :=
    funext fun d => by fin_cases d <;> rfl
  rw [← e1, ← e2]
  rfl

open Cert.UReferenceIdeal Cert.UReferenceIdeal.Read in
theorem algebraic : Cert.algebraic_UKernelIdeal_UReferenceIdeal := by
  intro m ρ m' ρ' _ hag
  refine ⟨fun c => Cert.UKernelIdeal.Value.G2 m c, Cert.UKernelIdeal.Value.run m ρ, ?_⟩
  refine (θ_run Cert.UReferenceIdeal.defs _ _).mono (fun r h c => ?_) (Cert.UReferenceIdeal.Value.run (F := Ideal) m' ρ')
  obtain ⟨e0, e1⟩ := hag c
  have h := h c
  rw [val_main_v4_eq] at h
  refine ⟨h.1.trans ?_, h.2⟩
  rw [e0, e1]
  funext y
  obtain ⟨a, w, rfl⟩ : ∃ (a : Fin 1024) (w : Fin 5632), y = ix2 a w := ⟨y 0, y 1, funext fun a => by fin_cases a <;> rfl⟩
  exact (ref_at _ _ a w).trans (Cert.UKernelIdeal.Val.G2_at m c a w).symm

end Cert.Proof.DwU

end
-- ==== Proof.DwB.lean ====
/-
  The gradient of the short convolution layer's input weight: the block of it that a run of grid points leaves is the
  product of the normalised inputs and the gradient over all rows of the sequence.
-/
module

public import proofs.«01_k».proof.Proof.Dw
public import proofs.«01_k».proof.Proof.Gen.BKernelIdeal.Value
public import Idealize.ShloMosaic.Lib.Pointwise
public import Idealize.ShloMosaic.Lib.Pipeline.ReadBack
public import Idealize.ShloMosaic.Lib.Pipeline.ValueKit

@[expose] public section

set_option maxRecDepth 16384

noncomputable section

namespace Cert.BKernelIdeal.Val

open Cert.BKernelIdeal Cert.BKernelIdeal.Gen Cert.BKernelIdeal.Value Cert.Dw
open Idealize.ShloMosaic Idealize.ShloMosaic.TcCoe Idealize.SL.Sem

variable (m : (ℓ : Loc nD τ sig) → Buf (Elt Ideal) ℓ) (c : Dev nD)

/-- The two factors as functions of row and lane. -/
abbrev kX : Fin 8448 → Fin 1024 → EReal := fun r k => (m ((c : Thread nD τ).loc main_arg0) : FVec Ideal S8448x1024 .f32) (ix2 r k)
abbrev kY : Fin 8448 → Fin 3072 → EReal := fun r k => (m ((c : Thread nD τ).loc main_arg1) : FVec Ideal S8448x3072 .bf16) (ix2 r k)

theorem zero (a : Fin 1024) (w : Fin 1536) : k0_pay1 (F := Ideal) (ix2 a w) = 0 := by pointwise [k0_pay1]
theorem add (acc : FVec Ideal S1024x1536 .f32) (x : FVec Ideal S768x1024 .f32) (y : FVec Ideal S768x1536 .bf16)
    (a : Fin 1024) (w : Fin 1536) :
    k0_pay2 (F := Ideal) acc x y (ix2 a w) = acc (ix2 a w) + ∑ r : Fin 768, x (ix2 r a) * y (ix2 r w) := by
  pointwise [k0_pay2]

theorem idx : ∀ t : Fin cfg0.N, win0_0.index t = ![t.val % 11, 0] ∧ win0_1.index t = ![t.val % 11, t.val / 11] :=
  (by decide +kernel : ∀ t : Fin grid0.N, _)

theorem lt (t : Fin cfg0.N) : t.val < 22 := lt_of_lt_of_eq t.isLt N_0

/-- Lane `w` of the block that run `q` makes. -/
abbrev lane (q : ℕ) (w : Fin 1536) : Fin 3072 := ⟨(1536 * q + w.val) % 3072, Nat.mod_lt _ (by omega)⟩

theorem in0 (t : Fin cfg0.N) (r : Fin 768) (a : Fin 1024) :
    (iblk m c 0 t : FVec Ideal S768x1024 .f32) (ix2 r a) = kX m c (row (t.val % 11) r) a := by
  have := lt t
  blk_ext [iblk, V, idx t]
theorem in1 (t : Fin cfg0.N) (r : Fin 768) (w : Fin 1536) :
    (iblk m c 1 t : FVec Ideal S768x1536 .bf16) (ix2 r w) = kY m c (row (t.val % 11) r) (lane (t.val / 11) w) := by
  have := lt t
  blk_ext [iblk, V, idx t]

/-- What grid point `n` adds. -/
def part (n : ℕ) : S1024x1536.Idx → EReal := fun y =>
  ∑ r : Fin 768, kX m c (row (n % 11) r) (y 0) * kY m c (row (n % 11) r) (lane (n / 11) (y 1))

theorem ix2_of (y : S1024x1536.Idx) : ∃ (a : Fin 1024) (w : Fin 1536), y = ix2 a w :=
  ⟨y 0, y 1, funext fun a => by fin_cases a <;> rfl⟩

theorem first (n : ℕ) (h : n < cfg0.N) (y : S1024x1536.Idx) : reset2 m c n h y = 0 + part m c n y := by
  obtain ⟨a, w, rfl⟩ := ix2_of y
  unfold reset2 part
  rw [add, zero]
  exact congrArg (0 + ·) (Finset.sum_congr rfl fun r _ => by rw [in0, in1]; rfl)

theorem later (n : ℕ) (h : n < cfg0.N) (acc : S1024x1536.Idx → EReal) (y : S1024x1536.Idx) :
    step2 m c n h acc y = acc y + part m c n y := by
  obtain ⟨a, w, rfl⟩ := ix2_of y
  unfold step2 part
  rw [add]
  exact congrArg (acc (ix2 a w) + ·) (Finset.sum_congr rfl fun r _ => by rw [in0, in1]; rfl)

/-- The array after the run, at a row and a lane. -/
theorem G2_at (a : Fin 1024) (w : Fin 3072) :
    (G2 m c : FVec Ideal S1024x3072 .f32) (ix2 a w) = ∑ k, kX m c k a * kY m c k w := by
  have hr : run2Of (ix2 a w : S1024x3072.Idx) = w.val / 1536 := by
    show 2 * (a.val / 1024 - 0) + 1 * (w.val / 1536 - 0) = w.val / 1536; omega
  have hn : 11 * run2Of (ix2 a w : S1024x3072.Idx) + 10 < cfg0.N := by
    rw [hr, show cfg0.N = 22 from N_0]; omega
  have key := Pipeline.accAt_add_apply (ι := S1024x1536.Idx) (β := EReal) (reset2 m c) (step2 m c) (fun _ => 0) (part m c) _ 10
    (fun h y => first m c _ h y) (fun n h acc y _ _ => later m c n h acc y) 10 le_rfl hn (loc2Of (ix2 a w))
  refine (dif_pos hn).trans (key.trans ?_)
  rw [zero_add, ← runs (fun k => kX m c k a * kY m c k w)]
  refine Finset.sum_congr rfl fun s hs => ?_
  have hs : s < 11 := Finset.mem_range.mp hs
  unfold part
  rw [hr]
  refine Finset.sum_congr rfl fun r _ => ?_
  have e1 : (11 * (w.val / 1536) + s) % 11 = s := by omega
  have e2 : (11 * (w.val / 1536) + s) / 11 = w.val / 1536 := by omega
  rw [e1, e2]
  refine congrArg₂ (· * ·) (congrArg (kX m c (row s r)) (Fin.ext ?_)) (congrArg (kY m c (row s r)) (Fin.ext ?_))
  · show a.val % 1024 = a.val; omega
  · show (1536 * (w.val / 1536) + w.val % 1536) % 3072 = w.val; omega

end Cert.BKernelIdeal.Val

end
-- ==== Proof.DwBClaims.lean ====
/-
  The gradient of the short convolution layer's input weight: the claims.
-/
module

public import proofs.«01_k».proof.Defs
public import proofs.«01_k».proof.Proof.Gen.BKernel
public import proofs.«01_k».proof.Proof.Gen.BReferenceIdeal.Read
public import proofs.«01_k».proof.Proof.Gen.BReferenceIdeal.Run
public import proofs.«01_k».proof.Proof.DwB

@[expose] public section

set_option maxRecDepth 16384

noncomputable section

namespace Cert.Proof.DwB

open Idealize.ShloMosaic Idealize.ShloMosaic.TcCoe Idealize.SL.Sem

theorem frame_ideal : Cert.quiescent_BKernelIdeal := fun m ρ _ => Cert.BKernelIdeal.Gen.frame m ρ

/-- The frame of the ideal program's text at the machine's words. -/
def FrameBits : Prop :=
  ∀ (m : (ℓ : Loc Cert.BKernelIdeal.nD Cert.BKernelIdeal.τ Cert.BKernelIdeal.sig) → Buf (Elt Bits) ℓ) (g : Dev Cert.BKernelIdeal.nD → PrngReg), True →
    θ_run (Cert.BKernelIdeal.defs (F := Bits)) (onTc (τ := Cert.BKernelIdeal.τ) (Cert.BKernelIdeal.main (F := Bits))) ⟨m, fun _ => 0, g⟩ (fun r => (∀ c : Dev Cert.BKernelIdeal.nD,
      r.2.mem ((c.tc : Thread Cert.BKernelIdeal.nD Cert.BKernelIdeal.τ).loc Cert.BKernelIdeal.main_arg0) = m ((c.tc : Thread Cert.BKernelIdeal.nD Cert.BKernelIdeal.τ).loc Cert.BKernelIdeal.main_arg0)
      ∧ r.2.mem ((c.tc : Thread Cert.BKernelIdeal.nD Cert.BKernelIdeal.τ).loc Cert.BKernelIdeal.main_arg1) = m ((c.tc : Thread Cert.BKernelIdeal.nD Cert.BKernelIdeal.τ).loc Cert.BKernelIdeal.main_arg1))
      ∧ r.2.sem = fun _ => 0)
theorem frame_bits : FrameBits := fun m ρ _ => Cert.BKernelIdeal.Gen.frame (F := Bits) m ρ

/-- Kernel and ideal kernel are one text, so that this is the kernel's frame. -/
theorem frame_eq : FrameBits = Cert.quiescent_BKernel := by sl_kernel_rfl
theorem frame : Cert.quiescent_BKernel := frame_eq.mp frame_bits

theorem frame_ref : Cert.quiescent_BReferenceIdeal := fun m ρ _ =>
  (θ_run Cert.BReferenceIdeal.defs _ _).mono (fun r h => ⟨fun c => (h c).2,
      Idealize.ShloMosaic.sem_eq_zero_of_no_sems (by decide) r.2⟩)
    (Cert.BReferenceIdeal.Value.run (F := Ideal) m ρ)

theorem preserves : Cert.preserves_BKernel_BKernelIdeal := trivial

open Cert.BReferenceIdeal Cert.BReferenceIdeal.Read in
/-- The reference's gradient at a row and a lane. -/
theorem ref_at (x : FVec Ideal S8448x1024 .f32) (y : FVec Ideal S8448x3072 .bf16) (a : Fin 1024) (w : Fin 3072) :
    val_main_v4 (F := Ideal) x y (ix2 a w) = ∑ k : Fin 8448, (x (ix2 k a) : EReal) * y (ix2 k w) := by
  rw [val_main_v4_apply, val_main_v3_apply]
  refine Finset.sum_congr rfl fun k _ => (mul_comm _ _).trans ?_
  have e1 : (fun d => match d with | ⟨0, _⟩ => ⟨k.val, k.isLt⟩ | ⟨1, _⟩ => ⟨a.val, a.isLt⟩ : S8448x1024.Idx) = ix2 k a :=
    funext fun d => by fin_cases d <;> rfl
  have e2 : (fun d => match d with | ⟨0, _⟩ => ⟨k.val, k.isLt⟩ | ⟨1, _⟩ => ⟨w.val, w.isLt⟩ : S8448x3072.Idx) = ix2 k w :=
    funext fun d => by fin_cases d <;> rfl
  rw [← e1, ← e2]
  rfl

open Cert.BReferenceIdeal Cert.BReferenceIdeal.Read in
theorem algebraic : Cert.algebraic_BKernelIdeal_BReferenceIdeal := by
  intro m ρ m' ρ' _ hag
  refine ⟨fun c => Cert.BKernelIdeal.Value.G2 m c, Cert.BKernelIdeal.Value.run m ρ, ?_⟩
  refine (θ_run Cert.BReferenceIdeal.defs _ _).mono (fun r h c => ?_) (Cert.BReferenceIdeal.Value.run (F := Ideal) m' ρ')
  obtain ⟨e0, e1⟩ := hag c
  have h := h c
  rw [val_main_v4_eq] at h
  refine ⟨h.1.trans ?_, h.2⟩
  rw [e0, e1]
  funext y
  obtain ⟨a, w, rfl⟩ : ∃ (a : Fin 1024) (w : Fin 3072), y = ix2 a w := ⟨y 0, y 1, funext fun a => by fin_cases a <;> rfl⟩
  exact (ref_at _ _ a w).trans (Cert.BKernelIdeal.Val.G2_at m c a w).symm

end Cert.Proof.DwB

end
-- ==== Proof.DwA.lean ====
/-
  The gradient of the delta rule layer's input weight: the block of it that a run of grid points leaves is the
  product of the normalised inputs and the gradient over all rows of the sequence.
-/
module

public import proofs.«01_k».proof.Proof.Dw
public import proofs.«01_k».proof.Proof.Gen.AKernelIdeal.Value
public import Idealize.ShloMosaic.Lib.Pointwise
public import Idealize.ShloMosaic.Lib.Pipeline.ReadBack
public import Idealize.ShloMosaic.Lib.Pipeline.ValueKit

@[expose] public section

set_option maxRecDepth 16384

noncomputable section

namespace Cert.AKernelIdeal.Val

open Cert.AKernelIdeal Cert.AKernelIdeal.Gen Cert.AKernelIdeal.Value Cert.Dw
open Idealize.ShloMosaic Idealize.ShloMosaic.TcCoe Idealize.SL.Sem

variable (m : (ℓ : Loc nD τ sig) → Buf (Elt Ideal) ℓ) (c : Dev nD)

/-- The two factors as functions of row and lane. -/
abbrev kX : Fin 8448 → Fin 1024 → EReal := fun r k => (m ((c : Thread nD τ).loc main_arg0) : FVec Ideal S8448x1024 .f32) (ix2 r k)
abbrev kY : Fin 8448 → Fin 4352 → EReal := fun r k => (m ((c : Thread nD τ).loc main_arg1) : FVec Ideal S8448x4352 .bf16) (ix2 r k)

theorem zero (a : Fin 1024) (w : Fin 2176) : k0_pay1 (F := Ideal) (ix2 a w) = 0 := by pointwise [k0_pay1]
theorem add (acc : FVec Ideal S1024x2176 .f32) (x : FVec Ideal S768x1024 .f32) (y : FVec Ideal S768x2176 .bf16)
    (a : Fin 1024) (w : Fin 2176) :
    k0_pay2 (F := Ideal) acc x y (ix2 a w) = acc (ix2 a w) + ∑ r : Fin 768, x (ix2 r a) * y (ix2 r w) := by
  pointwise [k0_pay2]

theorem idx : ∀ t : Fin cfg0.N, win0_0.index t = ![t.val % 11, 0] ∧ win0_1.index t = ![t.val % 11, t.val / 11] :=
  (by decide +kernel : ∀ t : Fin grid0.N, _)

theorem lt (t : Fin cfg0.N) : t.val < 22 := lt_of_lt_of_eq t.isLt N_0

/-- Lane `w` of the block that run `q` makes. -/
abbrev lane (q : ℕ) (w : Fin 2176) : Fin 4352 := ⟨(2176 * q + w.val) % 4352, Nat.mod_lt _ (by omega)⟩

theorem in0 (t : Fin cfg0.N) (r : Fin 768) (a : Fin 1024) :
    (iblk m c 0 t : FVec Ideal S768x1024 .f32) (ix2 r a) = kX m c (row (t.val % 11) r) a := by
  have := lt t
  blk_ext [iblk, V, idx t]
theorem in1 (t : Fin cfg0.N) (r : Fin 768) (w : Fin 2176) :
    (iblk m c 1 t : FVec Ideal S768x2176 .bf16) (ix2 r w) = kY m c (row (t.val % 11) r) (lane (t.val / 11) w) := by
  have := lt t
  blk_ext [iblk, V, idx t]

/-- What grid point `n` adds. -/
def part (n : ℕ) : S1024x2176.Idx → EReal := fun y =>
  ∑ r : Fin 768, kX m c (row (n % 11) r) (y 0) * kY m c (row (n % 11) r) (lane (n / 11) (y 1))

theorem ix2_of (y : S1024x2176.Idx) : ∃ (a : Fin 1024) (w : Fin 2176), y = ix2 a w :=
  ⟨y 0, y 1, funext fun a => by fin_cases a <;> rfl⟩

theorem first (n : ℕ) (h : n < cfg0.N) (y : S1024x2176.Idx) : reset2 m c n h y = 0 + part m c n y := by
  obtain ⟨a, w, rfl⟩ := ix2_of y
  unfold reset2 part
  rw [add, zero]
  exact congrArg (0 + ·) (Finset.sum_congr rfl fun r _ => by rw [in0, in1]; rfl)

theorem later (n : ℕ) (h : n < cfg0.N) (acc : S1024x2176.Idx → EReal) (y : S1024x2176.Idx) :
    step2 m c n h acc y = acc y + part m c n y := by
  obtain ⟨a, w, rfl⟩ := ix2_of y
  unfold step2 part
  rw [add]
  exact congrArg (acc (ix2 a w) + ·) (Finset.sum_congr rfl fun r _ => by rw [in0, in1]; rfl)

/-- The array after the run, at a row and a lane. -/
theorem G2_at (a : Fin 1024) (w : Fin 4352) :
    (G2 m c : FVec Ideal S1024x4352 .f32) (ix2 a w) = ∑ k, kX m c k a * kY m c k w := by
  have hr : run2Of (ix2 a w : S1024x4352.Idx) = w.val / 2176 := by
    show 2 * (a.val / 1024 - 0) + 1 * (w.val / 2176 - 0) = w.val / 2176; omega
  have hn : 11 * run2Of (ix2 a w : S1024x4352.Idx) + 10 < cfg0.N := by
    rw [hr, show cfg0.N = 22 from N_0]; omega
  have key := Pipeline.accAt_add_apply (ι := S1024x2176.Idx) (β := EReal) (reset2 m c) (step2 m c) (fun _ => 0) (part m c) _ 10
    (fun h y => first m c _ h y) (fun n h acc y _ _ => later m c n h acc y) 10 le_rfl hn (loc2Of (ix2 a w))
  refine (dif_pos hn).trans (key.trans ?_)
  rw [zero_add, ← runs (fun k => kX m c k a * kY m c k w)]
  refine Finset.sum_congr rfl fun s hs => ?_
  have hs : s < 11 := Finset.mem_range.mp hs
  unfold part
  rw [hr]
  refine Finset.sum_congr rfl fun r _ => ?_
  have e1 : (11 * (w.val / 2176) + s) % 11 = s := by omega
  have e2 : (11 * (w.val / 2176) + s) / 11 = w.val / 2176 := by omega
  rw [e1, e2]
  refine congrArg₂ (· * ·) (congrArg (kX m c (row s r)) (Fin.ext ?_)) (congrArg (kY m c (row s r)) (Fin.ext ?_))
  · show a.val % 1024 = a.val; omega
  · show (2176 * (w.val / 2176) + w.val % 2176) % 4352 = w.val; omega

end Cert.AKernelIdeal.Val

end
-- ==== Proof.DwAClaims.lean ====
/-
  The gradient of the delta rule layer's input weight: the claims.
-/
module

public import proofs.«01_k».proof.Defs
public import proofs.«01_k».proof.Proof.Gen.AKernel
public import proofs.«01_k».proof.Proof.Gen.AReferenceIdeal.Read
public import proofs.«01_k».proof.Proof.Gen.AReferenceIdeal.Run
public import proofs.«01_k».proof.Proof.DwA

@[expose] public section

set_option maxRecDepth 16384

noncomputable section

namespace Cert.Proof.DwA

open Idealize.ShloMosaic Idealize.ShloMosaic.TcCoe Idealize.SL.Sem

theorem frame_ideal : Cert.quiescent_AKernelIdeal := fun m ρ _ => Cert.AKernelIdeal.Gen.frame m ρ

/-- The frame of the ideal program's text at the machine's words. -/
def FrameBits : Prop :=
  ∀ (m : (ℓ : Loc Cert.AKernelIdeal.nD Cert.AKernelIdeal.τ Cert.AKernelIdeal.sig) → Buf (Elt Bits) ℓ) (g : Dev Cert.AKernelIdeal.nD → PrngReg), True →
    θ_run (Cert.AKernelIdeal.defs (F := Bits)) (onTc (τ := Cert.AKernelIdeal.τ) (Cert.AKernelIdeal.main (F := Bits))) ⟨m, fun _ => 0, g⟩ (fun r => (∀ c : Dev Cert.AKernelIdeal.nD,
      r.2.mem ((c.tc : Thread Cert.AKernelIdeal.nD Cert.AKernelIdeal.τ).loc Cert.AKernelIdeal.main_arg0) = m ((c.tc : Thread Cert.AKernelIdeal.nD Cert.AKernelIdeal.τ).loc Cert.AKernelIdeal.main_arg0)
      ∧ r.2.mem ((c.tc : Thread Cert.AKernelIdeal.nD Cert.AKernelIdeal.τ).loc Cert.AKernelIdeal.main_arg1) = m ((c.tc : Thread Cert.AKernelIdeal.nD Cert.AKernelIdeal.τ).loc Cert.AKernelIdeal.main_arg1))
      ∧ r.2.sem = fun _ => 0)
theorem frame_bits : FrameBits := fun m ρ _ => Cert.AKernelIdeal.Gen.frame (F := Bits) m ρ

/-- Kernel and ideal kernel are one text, so that this is the kernel's frame. -/
theorem frame_eq : FrameBits = Cert.quiescent_AKernel := by sl_kernel_rfl
theorem frame : Cert.quiescent_AKernel := frame_eq.mp frame_bits

theorem frame_ref : Cert.quiescent_AReferenceIdeal := fun m ρ _ =>
  (θ_run Cert.AReferenceIdeal.defs _ _).mono (fun r h => ⟨fun c => (h c).2,
      Idealize.ShloMosaic.sem_eq_zero_of_no_sems (by decide) r.2⟩)
    (Cert.AReferenceIdeal.Value.run (F := Ideal) m ρ)

theorem preserves : Cert.preserves_AKernel_AKernelIdeal := trivial

open Cert.AReferenceIdeal Cert.AReferenceIdeal.Read in
/-- The reference's gradient at a row and a lane. -/
theorem ref_at (x : FVec Ideal S8448x1024 .f32) (y : FVec Ideal S8448x4352 .bf16) (a : Fin 1024) (w : Fin 4352) :
    val_main_v4 (F := Ideal) x y (ix2 a w) = ∑ k : Fin 8448, (x (ix2 k a) : EReal) * y (ix2 k w) := by
  rw [val_main_v4_apply, val_main_v3_apply]
  refine Finset.sum_congr rfl fun k _ => (mul_comm _ _).trans ?_
  have e1 : (fun d => match d with | ⟨0, _⟩ => ⟨k.val, k.isLt⟩ | ⟨1, _⟩ => ⟨a.val, a.isLt⟩ : S8448x1024.Idx) = ix2 k a :=
    funext fun d => by fin_cases d <;> rfl
  have e2 : (fun d => match d with | ⟨0, _⟩ => ⟨k.val, k.isLt⟩ | ⟨1, _⟩ => ⟨w.val, w.isLt⟩ : S8448x4352.Idx) = ix2 k w :=
    funext fun d => by fin_cases d <;> rfl
  rw [← e1, ← e2]
  rfl

open Cert.AReferenceIdeal Cert.AReferenceIdeal.Read in
theorem algebraic : Cert.algebraic_AKernelIdeal_AReferenceIdeal := by
  intro m ρ m' ρ' _ hag
  refine ⟨fun c => Cert.AKernelIdeal.Value.G2 m c, Cert.AKernelIdeal.Value.run m ρ, ?_⟩
  refine (θ_run Cert.AReferenceIdeal.defs _ _).mono (fun r h c => ?_) (Cert.AReferenceIdeal.Value.run (F := Ideal) m' ρ')
  obtain ⟨e0, e1⟩ := hag c
  have h := h c
  rw [val_main_v4_eq] at h
  refine ⟨h.1.trans ?_, h.2⟩
  rw [e0, e1]
  funext y
  obtain ⟨a, w, rfl⟩ : ∃ (a : Fin 1024) (w : Fin 4352), y = ix2 a w := ⟨y 0, y 1, funext fun a => by fin_cases a <;> rfl⟩
  exact (ref_at _ _ a w).trans (Cert.AKernelIdeal.Val.G2_at m c a w).symm

end Cert.Proof.DwA

end
-- ==== Proof.DwO.lean ====
/-
  The gradient of an output weight: the block of it that a run of grid points leaves is the
  product of the layer outputs and the gradient over all rows of the sequence.
-/
module

public import proofs.«01_k».proof.Proof.Dw
public import proofs.«01_k».proof.Proof.Gen.OKernelIdeal.Value
public import Idealize.ShloMosaic.Lib.Pointwise
public import Idealize.ShloMosaic.Lib.Pipeline.ReadBack
public import Idealize.ShloMosaic.Lib.Pipeline.ValueKit

@[expose] public section

set_option maxRecDepth 16384

noncomputable section

namespace Cert.OKernelIdeal.Val

open Cert.OKernelIdeal Cert.OKernelIdeal.Gen Cert.OKernelIdeal.Value Cert.Dw
open Idealize.ShloMosaic Idealize.ShloMosaic.TcCoe Idealize.SL.Sem

variable (m : (ℓ : Loc nD τ sig) → Buf (Elt Ideal) ℓ) (c : Dev nD)

/-- The two factors as functions of row and lane. -/
abbrev kX : Fin 8448 → Fin 1024 → EReal := fun r k => (m ((c : Thread nD τ).loc main_arg0) : FVec Ideal S8448x1024 .bf16) (ix2 r k)
abbrev kY : Fin 8448 → Fin 1024 → EReal := fun r k => (m ((c : Thread nD τ).loc main_arg1) : FVec Ideal S8448x1024 .f32) (ix2 r k)

theorem zero (a : Fin 1024) (w : Fin 1024) : k0_pay1 (F := Ideal) (ix2 a w) = 0 := by pointwise [k0_pay1]
theorem add (acc : FVec Ideal S1024x1024 .f32) (x : FVec Ideal S768x1024 .bf16) (y : FVec Ideal S768x1024 .f32)
    (a : Fin 1024) (w : Fin 1024) :
    k0_pay2 (F := Ideal) acc x y (ix2 a w) = acc (ix2 a w) + ∑ r : Fin 768, x (ix2 r a) * y (ix2 r w) := by
  pointwise [k0_pay2]

theorem idx : ∀ t : Fin cfg0.N, win0_0.index t = ![t.val % 11, 0] ∧ win0_1.index t = ![t.val % 11, t.val / 11] :=
  (by decide +kernel : ∀ t : Fin grid0.N, _)

theorem lt (t : Fin cfg0.N) : t.val < 11 := lt_of_lt_of_eq t.isLt N_0

/-- Lane `w` of the block that run `q` makes. -/
abbrev lane (q : ℕ) (w : Fin 1024) : Fin 1024 := ⟨(1024 * q + w.val) % 1024, Nat.mod_lt _ (by omega)⟩

theorem in0 (t : Fin cfg0.N) (r : Fin 768) (a : Fin 1024) :
    (iblk m c 0 t : FVec Ideal S768x1024 .bf16) (ix2 r a) = kX m c (row (t.val % 11) r) a := by
  have := lt t
  blk_ext [iblk, V, idx t]
theorem in1 (t : Fin cfg0.N) (r : Fin 768) (w : Fin 1024) :
    (iblk m c 1 t : FVec Ideal S768x1024 .f32) (ix2 r w) = kY m c (row (t.val % 11) r) (lane (t.val / 11) w) := by
  have := lt t
  blk_ext [iblk, V, idx t]

/-- What grid point `n` adds. -/
def part (n : ℕ) : S1024x1024.Idx → EReal := fun y =>
  ∑ r : Fin 768, kX m c (row (n % 11) r) (y 0) * kY m c (row (n % 11) r) (lane (n / 11) (y 1))

theorem ix2_of (y : S1024x1024.Idx) : ∃ (a : Fin 1024) (w : Fin 1024), y = ix2 a w :=
  ⟨y 0, y 1, funext fun a => by fin_cases a <;> rfl⟩

theorem first (n : ℕ) (h : n < cfg0.N) (y : S1024x1024.Idx) : reset3 m c n h y = 0 + part m c n y := by
  obtain ⟨a, w, rfl⟩ := ix2_of y
  unfold reset3 part
  rw [add, zero]
  exact congrArg (0 + ·) (Finset.sum_congr rfl fun r _ => by rw [in0, in1]; rfl)

theorem later (n : ℕ) (h : n < cfg0.N) (acc : S1024x1024.Idx → EReal) (y : S1024x1024.Idx) :
    step3 m c n h acc y = acc y + part m c n y := by
  obtain ⟨a, w, rfl⟩ := ix2_of y
  unfold step3 part
  rw [add]
  exact congrArg (acc (ix2 a w) + ·) (Finset.sum_congr rfl fun r _ => by rw [in0, in1]; rfl)

/-- The array after the run, at a row and a lane. -/
theorem G3_at (a : Fin 1024) (w : Fin 1024) :
    (G3 m c : FVec Ideal S1024x1024 .f32) (ix2 a w) = ∑ k, kX m c k a * kY m c k w := by
  have hr : run3Of (ix2 a w : S1024x1024.Idx) = w.val / 1024 := by
    show 1 * (a.val / 1024 - 0) + 1 * (w.val / 1024 - 0) = w.val / 1024; omega
  have hn : 11 * run3Of (ix2 a w : S1024x1024.Idx) + 10 < cfg0.N := by
    rw [hr, show cfg0.N = 11 from N_0]; omega
  have key := Pipeline.accAt_add_apply (ι := S1024x1024.Idx) (β := EReal) (reset3 m c) (step3 m c) (fun _ => 0) (part m c) _ 10
    (fun h y => first m c _ h y) (fun n h acc y _ _ => later m c n h acc y) 10 le_rfl hn (loc3Of (ix2 a w))
  refine (dif_pos hn).trans (key.trans ?_)
  rw [zero_add, ← runs (fun k => kX m c k a * kY m c k w)]
  refine Finset.sum_congr rfl fun s hs => ?_
  have hs : s < 11 := Finset.mem_range.mp hs
  unfold part
  rw [hr]
  refine Finset.sum_congr rfl fun r _ => ?_
  have e1 : (11 * (w.val / 1024) + s) % 11 = s := by omega
  have e2 : (11 * (w.val / 1024) + s) / 11 = w.val / 1024 := by omega
  rw [e1, e2]
  refine congrArg₂ (· * ·) (congrArg (kX m c (row s r)) (Fin.ext ?_)) (congrArg (kY m c (row s r)) (Fin.ext ?_))
  · show a.val % 1024 = a.val; omega
  · show (1024 * (w.val / 1024) + w.val % 1024) % 1024 = w.val; omega

end Cert.OKernelIdeal.Val

end
-- ==== Proof.DwOClaims.lean ====
/-
  The gradient of an output weight: the claims.
-/
module

public import proofs.«01_k».proof.Defs
public import proofs.«01_k».proof.Proof.Gen.OKernel
public import proofs.«01_k».proof.Proof.Gen.OReferenceIdeal.Read
public import proofs.«01_k».proof.Proof.Gen.OReferenceIdeal.Run
public import proofs.«01_k».proof.Proof.DwO

@[expose] public section

set_option maxRecDepth 16384

noncomputable section

namespace Cert.Proof.DwO

open Idealize.ShloMosaic Idealize.ShloMosaic.TcCoe Idealize.SL.Sem

theorem frame_ideal : Cert.quiescent_OKernelIdeal := fun m ρ _ => Cert.OKernelIdeal.Gen.frame m ρ

/-- The frame of the ideal program's text at the machine's words. -/
def FrameBits : Prop :=
  ∀ (m : (ℓ : Loc Cert.OKernelIdeal.nD Cert.OKernelIdeal.τ Cert.OKernelIdeal.sig) → Buf (Elt Bits) ℓ) (g : Dev Cert.OKernelIdeal.nD → PrngReg), True →
    θ_run (Cert.OKernelIdeal.defs (F := Bits)) (onTc (τ := Cert.OKernelIdeal.τ) (Cert.OKernelIdeal.main (F := Bits))) ⟨m, fun _ => 0, g⟩ (fun r => (∀ c : Dev Cert.OKernelIdeal.nD,
      r.2.mem ((c.tc : Thread Cert.OKernelIdeal.nD Cert.OKernelIdeal.τ).loc Cert.OKernelIdeal.main_arg0) = m ((c.tc : Thread Cert.OKernelIdeal.nD Cert.OKernelIdeal.τ).loc Cert.OKernelIdeal.main_arg0)
      ∧ r.2.mem ((c.tc : Thread Cert.OKernelIdeal.nD Cert.OKernelIdeal.τ).loc Cert.OKernelIdeal.main_arg1) = m ((c.tc : Thread Cert.OKernelIdeal.nD Cert.OKernelIdeal.τ).loc Cert.OKernelIdeal.main_arg1)
      ∧ r.2.mem ((c.tc : Thread Cert.OKernelIdeal.nD Cert.OKernelIdeal.τ).loc Cert.OKernelIdeal.main_arg2) = m ((c.tc : Thread Cert.OKernelIdeal.nD Cert.OKernelIdeal.τ).loc Cert.OKernelIdeal.main_arg2))
      ∧ r.2.sem = fun _ => 0)
theorem frame_bits : FrameBits := fun m ρ _ => Cert.OKernelIdeal.Gen.frame (F := Bits) m ρ

/-- Kernel and ideal kernel are one text, so that this is the kernel's frame. -/
theorem frame_eq : FrameBits = Cert.quiescent_OKernel := by sl_kernel_rfl
theorem frame : Cert.quiescent_OKernel := frame_eq.mp frame_bits

theorem frame_ref : Cert.quiescent_OReferenceIdeal := fun m ρ _ =>
  (θ_run Cert.OReferenceIdeal.defs _ _).mono (fun r h => ⟨fun c => (h c).2,
      Idealize.ShloMosaic.sem_eq_zero_of_no_sems (by decide) r.2⟩)
    (Cert.OReferenceIdeal.Value.run (F := Ideal) m ρ)

theorem preserves : Cert.preserves_OKernel_OKernelIdeal := trivial

open Cert.OReferenceIdeal Cert.OReferenceIdeal.Read in
/-- The reference's gradient at a row and a lane. -/
theorem ref_at (x : FVec Ideal S8448x1024 .bf16) (y : FVec Ideal S8448x1024 .f32) (a : Fin 1024) (w : Fin 1024) :
    val_main_v4 (F := Ideal) x y (ix2 a w) = ∑ k : Fin 8448, (x (ix2 k a) : EReal) * y (ix2 k w) := by
  rw [val_main_v4_apply, val_main_v3_apply]
  refine Finset.sum_congr rfl fun k _ => (mul_comm _ _).trans ?_
  have e1 : (fun d => match d with | ⟨0, _⟩ => ⟨k.val, k.isLt⟩ | ⟨1, _⟩ => ⟨a.val, a.isLt⟩ : S8448x1024.Idx) = ix2 k a :=
    funext fun d => by fin_cases d <;> rfl
  have e2 : (fun d => match d with | ⟨0, _⟩ => ⟨k.val, k.isLt⟩ | ⟨1, _⟩ => ⟨w.val, w.isLt⟩ : S8448x1024.Idx) = ix2 k w :=
    funext fun d => by fin_cases d <;> rfl
  rw [← e1, ← e2]
  rfl

open Cert.OReferenceIdeal Cert.OReferenceIdeal.Read in
theorem algebraic : Cert.algebraic_OKernelIdeal_OReferenceIdeal := by
  intro m ρ m' ρ' _ hag
  refine ⟨fun c => Cert.OKernelIdeal.Value.G3 m c, Cert.OKernelIdeal.Value.run m ρ, ?_⟩
  refine (θ_run Cert.OReferenceIdeal.defs _ _).mono (fun r h c => ?_) (Cert.OReferenceIdeal.Value.run (F := Ideal) m' ρ')
  obtain ⟨e0, e1, e2⟩ := hag c
  have h := h c
  rw [val_main_v4_eq] at h
  refine ⟨h.1.trans ?_, h.2⟩
  rw [e0, e1]
  funext y
  obtain ⟨a, w, rfl⟩ : ∃ (a : Fin 1024) (w : Fin 1024), y = ix2 a w := ⟨y 0, y 1, funext fun a => by fin_cases a <;> rfl⟩
  exact (ref_at _ _ a w).trans (Cert.OKernelIdeal.Val.G3_at m c a w).symm

end Cert.Proof.DwO

end
-- ==== Proof.lean ====
/-
  The certificate: the backward pass of the short convolution layer and of the feed-forward network, the latter's
  forward pass, and the weights' gradients, their runs and their values.
-/
module

public import proofs.«01_k».proof.Defs
public import proofs.«01_k».proof.Proof.ScClaims
public import proofs.«01_k».proof.Proof.FfClaims
public import proofs.«01_k».proof.Proof.FgClaims
public import proofs.«01_k».proof.Proof.FhClaims
public import proofs.«01_k».proof.Proof.FiClaims
public import proofs.«01_k».proof.Proof.DwDClaims
public import proofs.«01_k».proof.Proof.DwUClaims
public import proofs.«01_k».proof.Proof.DwBClaims
public import proofs.«01_k».proof.Proof.DwAClaims
public import proofs.«01_k».proof.Proof.DwOClaims

@[expose] public section

noncomputable section

namespace Cert.Proof

open Idealize.ShloMosaic Idealize.SL.Sem Cert.Kernel

theorem claim : Cert.Claim := ⟨
  Cert.Kernel.Gen.facts, Cert.KernelIdeal.Gen.facts, Cert.ReferenceIdeal.Gen.facts, Cert.FKernel.Gen.facts,
  Cert.FKernelIdeal.Gen.facts, Cert.FReferenceIdeal.Gen.facts, Cert.GKernel.Gen.facts, Cert.GKernelIdeal.Gen.facts,
  Cert.GReferenceIdeal.Gen.facts, Cert.HKernel.Gen.facts, Cert.HKernelIdeal.Gen.facts,
  Cert.HReferenceIdeal.Gen.facts, Cert.JKernel.Gen.facts, Cert.JKernelIdeal.Gen.facts,
  Cert.JReferenceIdeal.Gen.facts, Cert.DKernel.Gen.facts, Cert.DKernelIdeal.Gen.facts,
  Cert.DReferenceIdeal.Gen.facts, Cert.UKernel.Gen.facts, Cert.UKernelIdeal.Gen.facts,
  Cert.UReferenceIdeal.Gen.facts, Cert.BKernel.Gen.facts, Cert.BKernelIdeal.Gen.facts,
  Cert.BReferenceIdeal.Gen.facts, Cert.AKernel.Gen.facts, Cert.AKernelIdeal.Gen.facts,
  Cert.AReferenceIdeal.Gen.facts, Cert.OKernel.Gen.facts, Cert.OKernelIdeal.Gen.facts,
  Cert.OReferenceIdeal.Gen.facts, Cert.Pre_finite_sc.Gen.facts, Cert.Pre_finite_ffn.Gen.facts, Sc.frame,
  Sc.frame_ideal, Sc.frame_ideal_pre, Sc.frame_ref, Sc.frame_ref_pre, Ff.frame, Ff.frame_ideal, Ff.frame_ideal_pre,
  Ff.frame_ref, Ff.frame_ref_pre, Fg.frame, Fg.frame_ideal, Fg.frame_ideal_pre, Fg.frame_ref, Fg.frame_ref_pre,
  Fh.frame, Fh.frame_ideal, Fh.frame_ref, Fi.frame, Fi.frame_ideal, Fi.frame_ref, DwD.frame, DwD.frame_ideal,
  DwD.frame_ref, DwU.frame, DwU.frame_ideal, DwU.frame_ref, DwB.frame, DwB.frame_ideal, DwB.frame_ref, DwA.frame,
  DwA.frame_ideal, DwA.frame_ref, DwO.frame, DwO.frame_ideal, DwO.frame_ref, Sc.preserves, Sc.algebraic,
  Ff.preserves, Ff.algebraic, Fg.preserves, Fg.algebraic, Fh.preserves, Fh.algebraic, Fi.preserves, Fi.algebraic,
  DwD.preserves, DwD.algebraic, DwU.preserves, DwU.algebraic, DwB.preserves, DwB.algebraic, DwA.preserves,
  DwA.algebraic, DwO.preserves, DwO.algebraic⟩

end Cert.Proof

end
